-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_pre [hPre_attn_pre : Cert.Pre_attn_pre.Facts] (m : (ℓ : Loc Cert.AttnIdeal.nD Cert.AttnIdeal.τ Cert.AttnIdeal.sig) → Buf (Elt Ideal) ℓ) : Prop :=
  ∀ c : Dev Cert.AttnIdeal.nD,
    (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_pre [hPre_attn_pre : Cert.Pre_attn_pre.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7)) (m ((c.tc : Thread Cert.FfnInIdeal.nD Cert.FfnInIdeal.τ).loc Cert.FfnInIdeal.main_arg8))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7)) (m ((c.tc : Thread Cert.FfnInRefIdeal.nD Cert.FfnInRefIdeal.τ).loc Cert.FfnInRefIdeal.main_arg8))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_in_finite [hPre_in_finite : Cert.Pre_in_finite.Facts] (m : (ℓ : Loc Cert.InIdeal.nD Cert.InIdeal.τ Cert.InIdeal.sig) → Buf (Elt Ideal) ℓ) : Prop :=
  ∀ c : Dev Cert.InIdeal.nD,
    (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7)) (m ((c.tc : Thread Cert.InIdeal.nD Cert.InIdeal.τ).loc Cert.InIdeal.main_arg8)) (m ((c.tc : Thread Cert.InIdeal.nD Cert.InIdeal.τ).loc Cert.InIdeal.main_arg9)) (m ((c.tc : Thread Cert.InIdeal.nD Cert.InIdeal.τ).loc Cert.InIdeal.main_arg10))) = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7)) (m ((c.tc : Thread Cert.InRefIdeal.nD Cert.InRefIdeal.τ).loc Cert.InRefIdeal.main_arg8)) (m ((c.tc : Thread Cert.InRefIdeal.nD Cert.InRefIdeal.τ).loc Cert.InRefIdeal.main_arg9)) (m ((c.tc : Thread Cert.InRefIdeal.nD Cert.InRefIdeal.τ).loc Cert.InRefIdeal.main_arg10))) = (fun _ => 1#1)

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_ffn_act_finite [hPre_ffn_act_finite : Cert.Pre_ffn_act_finite.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_ffn_act_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4)) (m ((c.tc : Thread Cert.FfnActIdeal.nD Cert.FfnActIdeal.τ).loc Cert.FfnActIdeal.main_arg5)) (m ((c.tc : Thread Cert.FfnActIdeal.nD Cert.FfnActIdeal.τ).loc Cert.FfnActIdeal.main_arg6)) (m ((c.tc : Thread Cert.FfnActIdeal.nD Cert.FfnActIdeal.τ).loc Cert.FfnActIdeal.main_arg7)) (m ((c.tc : Thread Cert.FfnActIdeal.nD Cert.FfnActIdeal.τ).loc Cert.FfnActIdeal.main_arg8))) = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_ffn_act_finite [hPre_ffn_act_finite : Cert.Pre_ffn_act_finite.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_ffn_act_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4)) (m ((c.tc : Thread Cert.FfnActRefIdeal.nD Cert.FfnActRefIdeal.τ).loc Cert.FfnActRefIdeal.main_arg5)) (m ((c.tc : Thread Cert.FfnActRefIdeal.nD Cert.FfnActRefIdeal.τ).loc Cert.FfnActRefIdeal.main_arg6)) (m ((c.tc : Thread Cert.FfnActRefIdeal.nD Cert.FfnActRefIdeal.τ).loc Cert.FfnActRefIdeal.main_arg7)) (m ((c.tc : Thread Cert.FfnActRefIdeal.nD Cert.FfnActRefIdeal.τ).loc Cert.FfnActRefIdeal.main_arg8))) = (fun _ => 1#1)

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9)) (m ((c.tc : Thread Cert.PrepIdeal.nD Cert.PrepIdeal.τ).loc Cert.PrepIdeal.main_arg10))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9)) (m ((c.tc : Thread Cert.PrepRefIdeal.nD Cert.PrepRefIdeal.τ).loc Cert.PrepRefIdeal.main_arg10))) = (fun _ => 1#1)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_pre [hAttnIdeal : Cert.AttnIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_pre m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_pre [hAttnRefIdeal : Cert.AttnRefIdeal.Facts] [hPre_attn_pre : Cert.Pre_attn_pre.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_pre m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6)
      ∧ r.2.mem ((c.tc : Thread Cert.FfnIn.nD Cert.FfnIn.τ).loc Cert.FfnIn.main_arg7) = m ((c.tc : Thread Cert.FfnIn.nD Cert.FfnIn.τ).loc Cert.FfnIn.main_arg7)
      ∧ r.2.mem ((c.tc : Thread Cert.FfnIn.nD Cert.FfnIn.τ).loc Cert.FfnIn.main_arg8) = m ((c.tc : Thread Cert.FfnIn.nD Cert.FfnIn.τ).loc Cert.FfnIn.main_arg8))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7)
      ∧ r.2.mem ((c.tc : Thread Cert.FfnInIdeal.nD Cert.FfnInIdeal.τ).loc Cert.FfnInIdeal.main_arg8) = m ((c.tc : Thread Cert.FfnInIdeal.nD Cert.FfnInIdeal.τ).loc Cert.FfnInIdeal.main_arg8))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7)
      ∧ r.2.mem ((c.tc : Thread Cert.FfnInIdeal.nD Cert.FfnInIdeal.τ).loc Cert.FfnInIdeal.main_arg8) = m ((c.tc : Thread Cert.FfnInIdeal.nD Cert.FfnInIdeal.τ).loc Cert.FfnInIdeal.main_arg8))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7)
      ∧ r.2.mem ((c.tc : Thread Cert.FfnInRefIdeal.nD Cert.FfnInRefIdeal.τ).loc Cert.FfnInRefIdeal.main_arg8) = m ((c.tc : Thread Cert.FfnInRefIdeal.nD Cert.FfnInRefIdeal.τ).loc Cert.FfnInRefIdeal.main_arg8))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7)
      ∧ r.2.mem ((c.tc : Thread Cert.FfnInRefIdeal.nD Cert.FfnInRefIdeal.τ).loc Cert.FfnInRefIdeal.main_arg8) = m ((c.tc : Thread Cert.FfnInRefIdeal.nD Cert.FfnInRefIdeal.τ).loc Cert.FfnInRefIdeal.main_arg8))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9)
      ∧ r.2.mem ((c.tc : Thread Cert.In.nD Cert.In.τ).loc Cert.In.main_arg10) = m ((c.tc : Thread Cert.In.nD Cert.In.τ).loc Cert.In.main_arg10))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10))
      ∧ r.2.sem = fun _ => 0)

def quiescent_InIdeal_pre_in_finite [hInIdeal : Cert.InIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg), Pre_InIdeal_in_finite m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3)
      ∧ r.2.mem ((c.tc : Thread Cert.FfnAct.nD Cert.FfnAct.τ).loc Cert.FfnAct.main_arg4) = m ((c.tc : Thread Cert.FfnAct.nD Cert.FfnAct.τ).loc Cert.FfnAct.main_arg4)
      ∧ r.2.mem ((c.tc : Thread Cert.FfnAct.nD Cert.FfnAct.τ).loc Cert.FfnAct.main_arg5) = m ((c.tc : Thread Cert.FfnAct.nD Cert.FfnAct.τ).loc Cert.FfnAct.main_arg5)
      ∧ r.2.mem ((c.tc : Thread Cert.FfnAct.nD Cert.FfnAct.τ).loc Cert.FfnAct.main_arg6) = m ((c.tc : Thread Cert.FfnAct.nD Cert.FfnAct.τ).loc Cert.FfnAct.main_arg6)
      ∧ r.2.mem ((c.tc : Thread Cert.FfnAct.nD Cert.FfnAct.τ).loc Cert.FfnAct.main_arg7) = m ((c.tc : Thread Cert.FfnAct.nD Cert.FfnAct.τ).loc Cert.FfnAct.main_arg7)
      ∧ r.2.mem ((c.tc : Thread Cert.FfnAct.nD Cert.FfnAct.τ).loc Cert.FfnAct.main_arg8) = m ((c.tc : Thread Cert.FfnAct.nD Cert.FfnAct.τ).loc Cert.FfnAct.main_arg8))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4)
      ∧ r.2.mem ((c.tc : Thread Cert.FfnActIdeal.nD Cert.FfnActIdeal.τ).loc Cert.FfnActIdeal.main_arg5) = m ((c.tc : Thread Cert.FfnActIdeal.nD Cert.FfnActIdeal.τ).loc Cert.FfnActIdeal.main_arg5)
      ∧ r.2.mem ((c.tc : Thread Cert.FfnActIdeal.nD Cert.FfnActIdeal.τ).loc Cert.FfnActIdeal.main_arg6) = m ((c.tc : Thread Cert.FfnActIdeal.nD Cert.FfnActIdeal.τ).loc Cert.FfnActIdeal.main_arg6)
      ∧ r.2.mem ((c.tc : Thread Cert.FfnActIdeal.nD Cert.FfnActIdeal.τ).loc Cert.FfnActIdeal.main_arg7) = m ((c.tc : Thread Cert.FfnActIdeal.nD Cert.FfnActIdeal.τ).loc Cert.FfnActIdeal.main_arg7)
      ∧ r.2.mem ((c.tc : Thread Cert.FfnActIdeal.nD Cert.FfnActIdeal.τ).loc Cert.FfnActIdeal.main_arg8) = m ((c.tc : Thread Cert.FfnActIdeal.nD Cert.FfnActIdeal.τ).loc Cert.FfnActIdeal.main_arg8))
      ∧ r.2.sem = fun _ => 0)

def quiescent_FfnActIdeal_pre_ffn_act_finite [hFfnActIdeal : Cert.FfnActIdeal.Facts] [hPre_ffn_act_finite : Cert.Pre_ffn_act_finite.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_ffn_act_finite m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4)
      ∧ r.2.mem ((c.tc : Thread Cert.FfnActIdeal.nD Cert.FfnActIdeal.τ).loc Cert.FfnActIdeal.main_arg5) = m ((c.tc : Thread Cert.FfnActIdeal.nD Cert.FfnActIdeal.τ).loc Cert.FfnActIdeal.main_arg5)
      ∧ r.2.mem ((c.tc : Thread Cert.FfnActIdeal.nD Cert.FfnActIdeal.τ).loc Cert.FfnActIdeal.main_arg6) = m ((c.tc : Thread Cert.FfnActIdeal.nD Cert.FfnActIdeal.τ).loc Cert.FfnActIdeal.main_arg6)
      ∧ r.2.mem ((c.tc : Thread Cert.FfnActIdeal.nD Cert.FfnActIdeal.τ).loc Cert.FfnActIdeal.main_arg7) = m ((c.tc : Thread Cert.FfnActIdeal.nD Cert.FfnActIdeal.τ).loc Cert.FfnActIdeal.main_arg7)
      ∧ r.2.mem ((c.tc : Thread Cert.FfnActIdeal.nD Cert.FfnActIdeal.τ).loc Cert.FfnActIdeal.main_arg8) = m ((c.tc : Thread Cert.FfnActIdeal.nD Cert.FfnActIdeal.τ).loc Cert.FfnActIdeal.main_arg8))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4)
      ∧ r.2.mem ((c.tc : Thread Cert.FfnActRefIdeal.nD Cert.FfnActRefIdeal.τ).loc Cert.FfnActRefIdeal.main_arg5) = m ((c.tc : Thread Cert.FfnActRefIdeal.nD Cert.FfnActRefIdeal.τ).loc Cert.FfnActRefIdeal.main_arg5)
      ∧ r.2.mem ((c.tc : Thread Cert.FfnActRefIdeal.nD Cert.FfnActRefIdeal.τ).loc Cert.FfnActRefIdeal.main_arg6) = m ((c.tc : Thread Cert.FfnActRefIdeal.nD Cert.FfnActRefIdeal.τ).loc Cert.FfnActRefIdeal.main_arg6)
      ∧ r.2.mem ((c.tc : Thread Cert.FfnActRefIdeal.nD Cert.FfnActRefIdeal.τ).loc Cert.FfnActRefIdeal.main_arg7) = m ((c.tc : Thread Cert.FfnActRefIdeal.nD Cert.FfnActRefIdeal.τ).loc Cert.FfnActRefIdeal.main_arg7)
      ∧ r.2.mem ((c.tc : Thread Cert.FfnActRefIdeal.nD Cert.FfnActRefIdeal.τ).loc Cert.FfnActRefIdeal.main_arg8) = m ((c.tc : Thread Cert.FfnActRefIdeal.nD Cert.FfnActRefIdeal.τ).loc Cert.FfnActRefIdeal.main_arg8))
      ∧ r.2.sem = fun _ => 0)

def quiescent_FfnActRefIdeal_pre_ffn_act_finite [hFfnActRefIdeal : Cert.FfnActRefIdeal.Facts] [hPre_ffn_act_finite : Cert.Pre_ffn_act_finite.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_ffn_act_finite m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4)
      ∧ r.2.mem ((c.tc : Thread Cert.FfnActRefIdeal.nD Cert.FfnActRefIdeal.τ).loc Cert.FfnActRefIdeal.main_arg5) = m ((c.tc : Thread Cert.FfnActRefIdeal.nD Cert.FfnActRefIdeal.τ).loc Cert.FfnActRefIdeal.main_arg5)
      ∧ r.2.mem ((c.tc : Thread Cert.FfnActRefIdeal.nD Cert.FfnActRefIdeal.τ).loc Cert.FfnActRefIdeal.main_arg6) = m ((c.tc : Thread Cert.FfnActRefIdeal.nD Cert.FfnActRefIdeal.τ).loc Cert.FfnActRefIdeal.main_arg6)
      ∧ r.2.mem ((c.tc : Thread Cert.FfnActRefIdeal.nD Cert.FfnActRefIdeal.τ).loc Cert.FfnActRefIdeal.main_arg7) = m ((c.tc : Thread Cert.FfnActRefIdeal.nD Cert.FfnActRefIdeal.τ).loc Cert.FfnActRefIdeal.main_arg7)
      ∧ r.2.mem ((c.tc : Thread Cert.FfnActRefIdeal.nD Cert.FfnActRefIdeal.τ).loc Cert.FfnActRefIdeal.main_arg8) = m ((c.tc : Thread Cert.FfnActRefIdeal.nD Cert.FfnActRefIdeal.τ).loc Cert.FfnActRefIdeal.main_arg8))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3)
      ∧ r.2.mem ((c.tc : Thread Cert.Disc.nD Cert.Disc.τ).loc Cert.Disc.main_arg4) = m ((c.tc : Thread Cert.Disc.nD Cert.Disc.τ).loc Cert.Disc.main_arg4)
      ∧ r.2.mem ((c.tc : Thread Cert.Disc.nD Cert.Disc.τ).loc Cert.Disc.main_arg5) = m ((c.tc : Thread Cert.Disc.nD Cert.Disc.τ).loc Cert.Disc.main_arg5)
      ∧ r.2.mem ((c.tc : Thread Cert.Disc.nD Cert.Disc.τ).loc Cert.Disc.main_arg6) = m ((c.tc : Thread Cert.Disc.nD Cert.Disc.τ).loc Cert.Disc.main_arg6)
      ∧ r.2.mem ((c.tc : Thread Cert.Disc.nD Cert.Disc.τ).loc Cert.Disc.main_arg7) = m ((c.tc : Thread Cert.Disc.nD Cert.Disc.τ).loc Cert.Disc.main_arg7)
      ∧ r.2.mem ((c.tc : Thread Cert.Disc.nD Cert.Disc.τ).loc Cert.Disc.main_arg8) = m ((c.tc : Thread Cert.Disc.nD Cert.Disc.τ).loc Cert.Disc.main_arg8))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4)
      ∧ r.2.mem ((c.tc : Thread Cert.DiscIdeal.nD Cert.DiscIdeal.τ).loc Cert.DiscIdeal.main_arg5) = m ((c.tc : Thread Cert.DiscIdeal.nD Cert.DiscIdeal.τ).loc Cert.DiscIdeal.main_arg5)
      ∧ r.2.mem ((c.tc : Thread Cert.DiscIdeal.nD Cert.DiscIdeal.τ).loc Cert.DiscIdeal.main_arg6) = m ((c.tc : Thread Cert.DiscIdeal.nD Cert.DiscIdeal.τ).loc Cert.DiscIdeal.main_arg6)
      ∧ r.2.mem ((c.tc : Thread Cert.DiscIdeal.nD Cert.DiscIdeal.τ).loc Cert.DiscIdeal.main_arg7) = m ((c.tc : Thread Cert.DiscIdeal.nD Cert.DiscIdeal.τ).loc Cert.DiscIdeal.main_arg7)
      ∧ r.2.mem ((c.tc : Thread Cert.DiscIdeal.nD Cert.DiscIdeal.τ).loc Cert.DiscIdeal.main_arg8) = m ((c.tc : Thread Cert.DiscIdeal.nD Cert.DiscIdeal.τ).loc Cert.DiscIdeal.main_arg8))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3)
      ∧ r.2.mem ((c.tc : Thread Cert.DiscRefIdeal.nD Cert.DiscRefIdeal.τ).loc Cert.DiscRefIdeal.main_arg4) = m ((c.tc : Thread Cert.DiscRefIdeal.nD Cert.DiscRefIdeal.τ).loc Cert.DiscRefIdeal.main_arg4)
      ∧ r.2.mem ((c.tc : Thread Cert.DiscRefIdeal.nD Cert.DiscRefIdeal.τ).loc Cert.DiscRefIdeal.main_arg5) = m ((c.tc : Thread Cert.DiscRefIdeal.nD Cert.DiscRefIdeal.τ).loc Cert.DiscRefIdeal.main_arg5)
      ∧ r.2.mem ((c.tc : Thread Cert.DiscRefIdeal.nD Cert.DiscRefIdeal.τ).loc Cert.DiscRefIdeal.main_arg6) = m ((c.tc : Thread Cert.DiscRefIdeal.nD Cert.DiscRefIdeal.τ).loc Cert.DiscRefIdeal.main_arg6)
      ∧ r.2.mem ((c.tc : Thread Cert.DiscRefIdeal.nD Cert.DiscRefIdeal.τ).loc Cert.DiscRefIdeal.main_arg7) = m ((c.tc : Thread Cert.DiscRefIdeal.nD Cert.DiscRefIdeal.τ).loc Cert.DiscRefIdeal.main_arg7)
      ∧ r.2.mem ((c.tc : Thread Cert.DiscRefIdeal.nD Cert.DiscRefIdeal.τ).loc Cert.DiscRefIdeal.main_arg8) = m ((c.tc : Thread Cert.DiscRefIdeal.nD Cert.DiscRefIdeal.τ).loc Cert.DiscRefIdeal.main_arg8))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10))
      ∧ r.2.sem = fun _ => 0)

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)) →
    ∃ (v0 : (c : Dev Cert.HeadIdeal.nD) → Buf (Elt Ideal) ((c.tc : Thread Cert.HeadIdeal.nD Cert.HeadIdeal.τ).loc Cert.HeadIdeal.main_v3_0)) (v1 : (c : Dev Cert.HeadIdeal.nD) → Buf (Elt Ideal) ((c.tc : Thread Cert.HeadIdeal.nD Cert.HeadIdeal.τ).loc Cert.HeadIdeal.main_v3_1)) (v2 : (c : Dev Cert.HeadIdeal.nD) → Buf (Elt Ideal) ((c.tc : Thread Cert.HeadIdeal.nD Cert.HeadIdeal.τ).loc Cert.HeadIdeal.main_v3_2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v3_0) = v0 c
          ∧ r.2.mem ((c.tc : Thread Cert.HeadIdeal.nD Cert.HeadIdeal.τ).loc Cert.HeadIdeal.main_v3_1) = v1 c
          ∧ r.2.mem ((c.tc : Thread Cert.HeadIdeal.nD Cert.HeadIdeal.τ).loc Cert.HeadIdeal.main_v3_2) = v2 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v52) = v0 c
          ∧ r.2.mem ((c.tc : Thread Cert.HeadRefIdeal.nD Cert.HeadRefIdeal.τ).loc Cert.HeadRefIdeal.main_v53) = v1 c
          ∧ r.2.mem ((c.tc : Thread Cert.HeadRefIdeal.nD Cert.HeadRefIdeal.τ).loc Cert.HeadRefIdeal.main_v54) = v2 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2))

def preserves_Attn_AttnIdeal : Prop :=
  IdealRules.named_const.Statement Cert.AttnIdeal.κ "scale_log2e" .f32 0x3E16C740#32 (((3424635 / 33554432) * (Real.log 2)⁻¹ : ℝ) : EReal)
  ∧ IdealRules.named_const.Statement Cert.AttnIdeal.κ "mask" .f32 0xF149F2CA#32 ⊥

def algebraic_AttnIdeal_AttnRefIdeal_pre_attn_pre [hAttnIdeal : Cert.AttnIdeal.Facts] [hAttnRefIdeal : Cert.AttnRefIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_pre m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v62_0)) (v1 : (c : Dev Cert.AttnIdeal.nD) → Buf (Elt Ideal) ((c.tc : Thread Cert.AttnIdeal.nD Cert.AttnIdeal.τ).loc Cert.AttnIdeal.main_v62_1)) (v2 : (c : Dev Cert.AttnIdeal.nD) → Buf (Elt Ideal) ((c.tc : Thread Cert.AttnIdeal.nD Cert.AttnIdeal.τ).loc Cert.AttnIdeal.main_v62_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v62_0) = v0 c
          ∧ r.2.mem ((c.tc : Thread Cert.AttnIdeal.nD Cert.AttnIdeal.τ).loc Cert.AttnIdeal.main_v62_1) = v1 c
          ∧ r.2.mem ((c.tc : Thread Cert.AttnIdeal.nD Cert.AttnIdeal.τ).loc Cert.AttnIdeal.main_v62_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v72) = v0 c
          ∧ r.2.mem ((c.tc : Thread Cert.AttnRefIdeal.nD Cert.AttnRefIdeal.τ).loc Cert.AttnRefIdeal.main_v75) = v1 c
          ∧ r.2.mem ((c.tc : Thread Cert.AttnRefIdeal.nD Cert.AttnRefIdeal.τ).loc Cert.AttnRefIdeal.main_v78) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)
      ∧ m' ((c.tc : Thread Cert.FfnInRefIdeal.nD Cert.FfnInRefIdeal.τ).loc Cert.FfnInRefIdeal.main_arg7) = m ((c.tc : Thread Cert.FfnInIdeal.nD Cert.FfnInIdeal.τ).loc Cert.FfnInIdeal.main_arg7)
      ∧ m' ((c.tc : Thread Cert.FfnInRefIdeal.nD Cert.FfnInRefIdeal.τ).loc Cert.FfnInRefIdeal.main_arg8) = m ((c.tc : Thread Cert.FfnInIdeal.nD Cert.FfnInIdeal.τ).loc Cert.FfnInIdeal.main_arg8)) →
    ∃ (v0 : (c : Dev Cert.FfnInIdeal.nD) → Buf (Elt Ideal) ((c.tc : Thread Cert.FfnInIdeal.nD Cert.FfnInIdeal.τ).loc Cert.FfnInIdeal.main_v6_0)) (v1 : (c : Dev Cert.FfnInIdeal.nD) → Buf (Elt Ideal) ((c.tc : Thread Cert.FfnInIdeal.nD Cert.FfnInIdeal.τ).loc Cert.FfnInIdeal.main_v6_1)) (v2 : (c : Dev Cert.FfnInIdeal.nD) → Buf (Elt Ideal) ((c.tc : Thread Cert.FfnInIdeal.nD Cert.FfnInIdeal.τ).loc Cert.FfnInIdeal.main_v6_2)) (v3 : (c : Dev Cert.FfnInIdeal.nD) → Buf (Elt Ideal) ((c.tc : Thread Cert.FfnInIdeal.nD Cert.FfnInIdeal.τ).loc Cert.FfnInIdeal.main_v6_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v6_0) = v0 c
          ∧ r.2.mem ((c.tc : Thread Cert.FfnInIdeal.nD Cert.FfnInIdeal.τ).loc Cert.FfnInIdeal.main_v6_1) = v1 c
          ∧ r.2.mem ((c.tc : Thread Cert.FfnInIdeal.nD Cert.FfnInIdeal.τ).loc Cert.FfnInIdeal.main_v6_2) = v2 c
          ∧ r.2.mem ((c.tc : Thread Cert.FfnInIdeal.nD Cert.FfnInIdeal.τ).loc Cert.FfnInIdeal.main_v6_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
          ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7)
          ∧ r.2.mem ((c.tc : Thread Cert.FfnInIdeal.nD Cert.FfnInIdeal.τ).loc Cert.FfnInIdeal.main_arg8) = m ((c.tc : Thread Cert.FfnInIdeal.nD Cert.FfnInIdeal.τ).loc Cert.FfnInIdeal.main_arg8))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v60) = v0 c
          ∧ r.2.mem ((c.tc : Thread Cert.FfnInRefIdeal.nD Cert.FfnInRefIdeal.τ).loc Cert.FfnInRefIdeal.main_v61) = v1 c
          ∧ r.2.mem ((c.tc : Thread Cert.FfnInRefIdeal.nD Cert.FfnInRefIdeal.τ).loc Cert.FfnInRefIdeal.main_v62) = v2 c
          ∧ r.2.mem ((c.tc : Thread Cert.FfnInRefIdeal.nD Cert.FfnInRefIdeal.τ).loc Cert.FfnInRefIdeal.main_v63) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6)
          ∧ r.2.mem ((c.tc : Thread Cert.FfnInRefIdeal.nD Cert.FfnInRefIdeal.τ).loc Cert.FfnInRefIdeal.main_arg7) = m' ((c.tc : Thread Cert.FfnInRefIdeal.nD Cert.FfnInRefIdeal.τ).loc Cert.FfnInRefIdeal.main_arg7)
          ∧ r.2.mem ((c.tc : Thread Cert.FfnInRefIdeal.nD Cert.FfnInRefIdeal.τ).loc Cert.FfnInRefIdeal.main_arg8) = m' ((c.tc : Thread Cert.FfnInRefIdeal.nD Cert.FfnInRefIdeal.τ).loc Cert.FfnInRefIdeal.main_arg8))

def preserves_In_InIdeal : Prop :=
  True

def algebraic_InIdeal_InRefIdeal_pre_in_finite [hInIdeal : Cert.InIdeal.Facts] [hInRefIdeal : Cert.InRefIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_in_finite m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)
      ∧ m' ((c.tc : Thread Cert.InRefIdeal.nD Cert.InRefIdeal.τ).loc Cert.InRefIdeal.main_arg10) = m ((c.tc : Thread Cert.InIdeal.nD Cert.InIdeal.τ).loc Cert.InIdeal.main_arg10)) →
    ∃ (v0 : (c : Dev Cert.InIdeal.nD) → Buf (Elt Ideal) ((c.tc : Thread Cert.InIdeal.nD Cert.InIdeal.τ).loc Cert.InIdeal.main_v13_0)) (v1 : (c : Dev Cert.InIdeal.nD) → Buf (Elt Ideal) ((c.tc : Thread Cert.InIdeal.nD Cert.InIdeal.τ).loc Cert.InIdeal.main_v13_1)) (v2 : (c : Dev Cert.InIdeal.nD) → Buf (Elt Ideal) ((c.tc : Thread Cert.InIdeal.nD Cert.InIdeal.τ).loc Cert.InIdeal.main_v13_2)) (v3 : (c : Dev Cert.InIdeal.nD) → Buf (Elt Ideal) ((c.tc : Thread Cert.InIdeal.nD Cert.InIdeal.τ).loc Cert.InIdeal.main_v13_3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v13_0) = v0 c
          ∧ r.2.mem ((c.tc : Thread Cert.InIdeal.nD Cert.InIdeal.τ).loc Cert.InIdeal.main_v13_1) = v1 c
          ∧ r.2.mem ((c.tc : Thread Cert.InIdeal.nD Cert.InIdeal.τ).loc Cert.InIdeal.main_v13_2) = v2 c
          ∧ r.2.mem ((c.tc : Thread Cert.InIdeal.nD Cert.InIdeal.τ).loc Cert.InIdeal.main_v13_3) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9)
          ∧ r.2.mem ((c.tc : Thread Cert.InIdeal.nD Cert.InIdeal.τ).loc Cert.InIdeal.main_arg10) = m ((c.tc : Thread Cert.InIdeal.nD Cert.InIdeal.τ).loc Cert.InIdeal.main_arg10))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v73) = v0 c
          ∧ r.2.mem ((c.tc : Thread Cert.InRefIdeal.nD Cert.InRefIdeal.τ).loc Cert.InRefIdeal.main_v74) = v1 c
          ∧ r.2.mem ((c.tc : Thread Cert.InRefIdeal.nD Cert.InRefIdeal.τ).loc Cert.InRefIdeal.main_v75) = v2 c
          ∧ r.2.mem ((c.tc : Thread Cert.InRefIdeal.nD Cert.InRefIdeal.τ).loc Cert.InRefIdeal.main_v76) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10))

def preserves_FfnAct_FfnActIdeal : Prop :=
  True

def algebraic_FfnActIdeal_FfnActRefIdeal_pre_ffn_act_finite [hFfnActIdeal : Cert.FfnActIdeal.Facts] [hFfnActRefIdeal : Cert.FfnActRefIdeal.Facts] [hPre_ffn_act_finite : Cert.Pre_ffn_act_finite.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_ffn_act_finite m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)
      ∧ m' ((c.tc : Thread Cert.FfnActRefIdeal.nD Cert.FfnActRefIdeal.τ).loc Cert.FfnActRefIdeal.main_arg4) = m ((c.tc : Thread Cert.FfnActIdeal.nD Cert.FfnActIdeal.τ).loc Cert.FfnActIdeal.main_arg4)
      ∧ m' ((c.tc : Thread Cert.FfnActRefIdeal.nD Cert.FfnActRefIdeal.τ).loc Cert.FfnActRefIdeal.main_arg5) = m ((c.tc : Thread Cert.FfnActIdeal.nD Cert.FfnActIdeal.τ).loc Cert.FfnActIdeal.main_arg5)
      ∧ m' ((c.tc : Thread Cert.FfnActRefIdeal.nD Cert.FfnActRefIdeal.τ).loc Cert.FfnActRefIdeal.main_arg6) = m ((c.tc : Thread Cert.FfnActIdeal.nD Cert.FfnActIdeal.τ).loc Cert.FfnActIdeal.main_arg6)
      ∧ m' ((c.tc : Thread Cert.FfnActRefIdeal.nD Cert.FfnActRefIdeal.τ).loc Cert.FfnActRefIdeal.main_arg7) = m ((c.tc : Thread Cert.FfnActIdeal.nD Cert.FfnActIdeal.τ).loc Cert.FfnActIdeal.main_arg7)
      ∧ m' ((c.tc : Thread Cert.FfnActRefIdeal.nD Cert.FfnActRefIdeal.τ).loc Cert.FfnActRefIdeal.main_arg8) = m ((c.tc : Thread Cert.FfnActIdeal.nD Cert.FfnActIdeal.τ).loc Cert.FfnActIdeal.main_arg8)) →
    ∃ (v0 : (c : Dev Cert.FfnActIdeal.nD) → Buf (Elt Ideal) ((c.tc : Thread Cert.FfnActIdeal.nD Cert.FfnActIdeal.τ).loc Cert.FfnActIdeal.main_v40_0)) (v1 : (c : Dev Cert.FfnActIdeal.nD) → Buf (Elt Ideal) ((c.tc : Thread Cert.FfnActIdeal.nD Cert.FfnActIdeal.τ).loc Cert.FfnActIdeal.main_v40_1)) (v2 : (c : Dev Cert.FfnActIdeal.nD) → Buf (Elt Ideal) ((c.tc : Thread Cert.FfnActIdeal.nD Cert.FfnActIdeal.τ).loc Cert.FfnActIdeal.main_v40_2)) (v3 : (c : Dev Cert.FfnActIdeal.nD) → Buf (Elt Ideal) ((c.tc : Thread Cert.FfnActIdeal.nD Cert.FfnActIdeal.τ).loc Cert.FfnActIdeal.main_v40_3)) (v4 : (c : Dev Cert.FfnActIdeal.nD) → Buf (Elt Ideal) ((c.tc : Thread Cert.FfnActIdeal.nD Cert.FfnActIdeal.τ).loc Cert.FfnActIdeal.main_v40_4)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v40_0) = v0 c
          ∧ r.2.mem ((c.tc : Thread Cert.FfnActIdeal.nD Cert.FfnActIdeal.τ).loc Cert.FfnActIdeal.main_v40_1) = v1 c
          ∧ r.2.mem ((c.tc : Thread Cert.FfnActIdeal.nD Cert.FfnActIdeal.τ).loc Cert.FfnActIdeal.main_v40_2) = v2 c
          ∧ r.2.mem ((c.tc : Thread Cert.FfnActIdeal.nD Cert.FfnActIdeal.τ).loc Cert.FfnActIdeal.main_v40_3) = v3 c
          ∧ r.2.mem ((c.tc : Thread Cert.FfnActIdeal.nD Cert.FfnActIdeal.τ).loc Cert.FfnActIdeal.main_v40_4) = v4 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
          ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4)
          ∧ r.2.mem ((c.tc : Thread Cert.FfnActIdeal.nD Cert.FfnActIdeal.τ).loc Cert.FfnActIdeal.main_arg5) = m ((c.tc : Thread Cert.FfnActIdeal.nD Cert.FfnActIdeal.τ).loc Cert.FfnActIdeal.main_arg5)
          ∧ r.2.mem ((c.tc : Thread Cert.FfnActIdeal.nD Cert.FfnActIdeal.τ).loc Cert.FfnActIdeal.main_arg6) = m ((c.tc : Thread Cert.FfnActIdeal.nD Cert.FfnActIdeal.τ).loc Cert.FfnActIdeal.main_arg6)
          ∧ r.2.mem ((c.tc : Thread Cert.FfnActIdeal.nD Cert.FfnActIdeal.τ).loc Cert.FfnActIdeal.main_arg7) = m ((c.tc : Thread Cert.FfnActIdeal.nD Cert.FfnActIdeal.τ).loc Cert.FfnActIdeal.main_arg7)
          ∧ r.2.mem ((c.tc : Thread Cert.FfnActIdeal.nD Cert.FfnActIdeal.τ).loc Cert.FfnActIdeal.main_arg8) = m ((c.tc : Thread Cert.FfnActIdeal.nD Cert.FfnActIdeal.τ).loc Cert.FfnActIdeal.main_arg8))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v37) = v0 c
          ∧ r.2.mem ((c.tc : Thread Cert.FfnActRefIdeal.nD Cert.FfnActRefIdeal.τ).loc Cert.FfnActRefIdeal.main_v39) = v1 c
          ∧ r.2.mem ((c.tc : Thread Cert.FfnActRefIdeal.nD Cert.FfnActRefIdeal.τ).loc Cert.FfnActRefIdeal.main_v41) = v2 c
          ∧ r.2.mem ((c.tc : Thread Cert.FfnActRefIdeal.nD Cert.FfnActRefIdeal.τ).loc Cert.FfnActRefIdeal.main_v43) = v3 c
          ∧ r.2.mem ((c.tc : Thread Cert.FfnActRefIdeal.nD Cert.FfnActRefIdeal.τ).loc Cert.FfnActRefIdeal.main_v44) = v4 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3)
          ∧ r.2.mem ((c.tc : Thread Cert.FfnActRefIdeal.nD Cert.FfnActRefIdeal.τ).loc Cert.FfnActRefIdeal.main_arg4) = m' ((c.tc : Thread Cert.FfnActRefIdeal.nD Cert.FfnActRefIdeal.τ).loc Cert.FfnActRefIdeal.main_arg4)
          ∧ r.2.mem ((c.tc : Thread Cert.FfnActRefIdeal.nD Cert.FfnActRefIdeal.τ).loc Cert.FfnActRefIdeal.main_arg5) = m' ((c.tc : Thread Cert.FfnActRefIdeal.nD Cert.FfnActRefIdeal.τ).loc Cert.FfnActRefIdeal.main_arg5)
          ∧ r.2.mem ((c.tc : Thread Cert.FfnActRefIdeal.nD Cert.FfnActRefIdeal.τ).loc Cert.FfnActRefIdeal.main_arg6) = m' ((c.tc : Thread Cert.FfnActRefIdeal.nD Cert.FfnActRefIdeal.τ).loc Cert.FfnActRefIdeal.main_arg6)
          ∧ r.2.mem ((c.tc : Thread Cert.FfnActRefIdeal.nD Cert.FfnActRefIdeal.τ).loc Cert.FfnActRefIdeal.main_arg7) = m' ((c.tc : Thread Cert.FfnActRefIdeal.nD Cert.FfnActRefIdeal.τ).loc Cert.FfnActRefIdeal.main_arg7)
          ∧ r.2.mem ((c.tc : Thread Cert.FfnActRefIdeal.nD Cert.FfnActRefIdeal.τ).loc Cert.FfnActRefIdeal.main_arg8) = m' ((c.tc : Thread Cert.FfnActRefIdeal.nD Cert.FfnActRefIdeal.τ).loc Cert.FfnActRefIdeal.main_arg8))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)
      ∧ m' ((c.tc : Thread Cert.DiscRefIdeal.nD Cert.DiscRefIdeal.τ).loc Cert.DiscRefIdeal.main_arg3) = m ((c.tc : Thread Cert.DiscIdeal.nD Cert.DiscIdeal.τ).loc Cert.DiscIdeal.main_arg3)
      ∧ m' ((c.tc : Thread Cert.DiscRefIdeal.nD Cert.DiscRefIdeal.τ).loc Cert.DiscRefIdeal.main_arg4) = m ((c.tc : Thread Cert.DiscIdeal.nD Cert.DiscIdeal.τ).loc Cert.DiscIdeal.main_arg4)
      ∧ m' ((c.tc : Thread Cert.DiscRefIdeal.nD Cert.DiscRefIdeal.τ).loc Cert.DiscRefIdeal.main_arg5) = m ((c.tc : Thread Cert.DiscIdeal.nD Cert.DiscIdeal.τ).loc Cert.DiscIdeal.main_arg5)
      ∧ m' ((c.tc : Thread Cert.DiscRefIdeal.nD Cert.DiscRefIdeal.τ).loc Cert.DiscRefIdeal.main_arg6) = m ((c.tc : Thread Cert.DiscIdeal.nD Cert.DiscIdeal.τ).loc Cert.DiscIdeal.main_arg6)
      ∧ m' ((c.tc : Thread Cert.DiscRefIdeal.nD Cert.DiscRefIdeal.τ).loc Cert.DiscRefIdeal.main_arg7) = m ((c.tc : Thread Cert.DiscIdeal.nD Cert.DiscIdeal.τ).loc Cert.DiscIdeal.main_arg7)
      ∧ m' ((c.tc : Thread Cert.DiscRefIdeal.nD Cert.DiscRefIdeal.τ).loc Cert.DiscRefIdeal.main_arg8) = m ((c.tc : Thread Cert.DiscIdeal.nD Cert.DiscIdeal.τ).loc Cert.DiscIdeal.main_arg8)) →
    ∃ (v0 : (c : Dev Cert.DiscIdeal.nD) → Buf (Elt Ideal) ((c.tc : Thread Cert.DiscIdeal.nD Cert.DiscIdeal.τ).loc Cert.DiscIdeal.main_v11_0)) (v1 : (c : Dev Cert.DiscIdeal.nD) → Buf (Elt Ideal) ((c.tc : Thread Cert.DiscIdeal.nD Cert.DiscIdeal.τ).loc Cert.DiscIdeal.main_v11_1)) (v2 : (c : Dev Cert.DiscIdeal.nD) → Buf (Elt Ideal) ((c.tc : Thread Cert.DiscIdeal.nD Cert.DiscIdeal.τ).loc Cert.DiscIdeal.main_v11_2)) (v3 : (c : Dev Cert.DiscIdeal.nD) → Buf (Elt Ideal) ((c.tc : Thread Cert.DiscIdeal.nD Cert.DiscIdeal.τ).loc Cert.DiscIdeal.main_v11_3)) (v4 : (c : Dev Cert.DiscIdeal.nD) → Buf (Elt Ideal) ((c.tc : Thread Cert.DiscIdeal.nD Cert.DiscIdeal.τ).loc Cert.DiscIdeal.main_v11_4)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v11_0) = v0 c
          ∧ r.2.mem ((c.tc : Thread Cert.DiscIdeal.nD Cert.DiscIdeal.τ).loc Cert.DiscIdeal.main_v11_1) = v1 c
          ∧ r.2.mem ((c.tc : Thread Cert.DiscIdeal.nD Cert.DiscIdeal.τ).loc Cert.DiscIdeal.main_v11_2) = v2 c
          ∧ r.2.mem ((c.tc : Thread Cert.DiscIdeal.nD Cert.DiscIdeal.τ).loc Cert.DiscIdeal.main_v11_3) = v3 c
          ∧ r.2.mem ((c.tc : Thread Cert.DiscIdeal.nD Cert.DiscIdeal.τ).loc Cert.DiscIdeal.main_v11_4) = v4 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
          ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4)
          ∧ r.2.mem ((c.tc : Thread Cert.DiscIdeal.nD Cert.DiscIdeal.τ).loc Cert.DiscIdeal.main_arg5) = m ((c.tc : Thread Cert.DiscIdeal.nD Cert.DiscIdeal.τ).loc Cert.DiscIdeal.main_arg5)
          ∧ r.2.mem ((c.tc : Thread Cert.DiscIdeal.nD Cert.DiscIdeal.τ).loc Cert.DiscIdeal.main_arg6) = m ((c.tc : Thread Cert.DiscIdeal.nD Cert.DiscIdeal.τ).loc Cert.DiscIdeal.main_arg6)
          ∧ r.2.mem ((c.tc : Thread Cert.DiscIdeal.nD Cert.DiscIdeal.τ).loc Cert.DiscIdeal.main_arg7) = m ((c.tc : Thread Cert.DiscIdeal.nD Cert.DiscIdeal.τ).loc Cert.DiscIdeal.main_arg7)
          ∧ r.2.mem ((c.tc : Thread Cert.DiscIdeal.nD Cert.DiscIdeal.τ).loc Cert.DiscIdeal.main_arg8) = m ((c.tc : Thread Cert.DiscIdeal.nD Cert.DiscIdeal.τ).loc Cert.DiscIdeal.main_arg8))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v127) = v0 c
          ∧ r.2.mem ((c.tc : Thread Cert.DiscRefIdeal.nD Cert.DiscRefIdeal.τ).loc Cert.DiscRefIdeal.main_v128) = v1 c
          ∧ r.2.mem ((c.tc : Thread Cert.DiscRefIdeal.nD Cert.DiscRefIdeal.τ).loc Cert.DiscRefIdeal.main_v129) = v2 c
          ∧ r.2.mem ((c.tc : Thread Cert.DiscRefIdeal.nD Cert.DiscRefIdeal.τ).loc Cert.DiscRefIdeal.main_v130) = v3 c
          ∧ r.2.mem ((c.tc : Thread Cert.DiscRefIdeal.nD Cert.DiscRefIdeal.τ).loc Cert.DiscRefIdeal.main_v131) = v4 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2)
          ∧ r.2.mem ((c.tc : Thread Cert.DiscRefIdeal.nD Cert.DiscRefIdeal.τ).loc Cert.DiscRefIdeal.main_arg3) = m' ((c.tc : Thread Cert.DiscRefIdeal.nD Cert.DiscRefIdeal.τ).loc Cert.DiscRefIdeal.main_arg3)
          ∧ r.2.mem ((c.tc : Thread Cert.DiscRefIdeal.nD Cert.DiscRefIdeal.τ).loc Cert.DiscRefIdeal.main_arg4) = m' ((c.tc : Thread Cert.DiscRefIdeal.nD Cert.DiscRefIdeal.τ).loc Cert.DiscRefIdeal.main_arg4)
          ∧ r.2.mem ((c.tc : Thread Cert.DiscRefIdeal.nD Cert.DiscRefIdeal.τ).loc Cert.DiscRefIdeal.main_arg5) = m' ((c.tc : Thread Cert.DiscRefIdeal.nD Cert.DiscRefIdeal.τ).loc Cert.DiscRefIdeal.main_arg5)
          ∧ r.2.mem ((c.tc : Thread Cert.DiscRefIdeal.nD Cert.DiscRefIdeal.τ).loc Cert.DiscRefIdeal.main_arg6) = m' ((c.tc : Thread Cert.DiscRefIdeal.nD Cert.DiscRefIdeal.τ).loc Cert.DiscRefIdeal.main_arg6)
          ∧ r.2.mem ((c.tc : Thread Cert.DiscRefIdeal.nD Cert.DiscRefIdeal.τ).loc Cert.DiscRefIdeal.main_arg7) = m' ((c.tc : Thread Cert.DiscRefIdeal.nD Cert.DiscRefIdeal.τ).loc Cert.DiscRefIdeal.main_arg7)
          ∧ r.2.mem ((c.tc : Thread Cert.DiscRefIdeal.nD Cert.DiscRefIdeal.τ).loc Cert.DiscRefIdeal.main_arg8) = m' ((c.tc : Thread Cert.DiscRefIdeal.nD Cert.DiscRefIdeal.τ).loc Cert.DiscRefIdeal.main_arg8))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)) →
    ∃ (v0 : (c : Dev Cert.PrepIdeal.nD) → Buf (Elt Ideal) ((c.tc : Thread Cert.PrepIdeal.nD Cert.PrepIdeal.τ).loc Cert.PrepIdeal.main_v64_0)) (v1 : (c : Dev Cert.PrepIdeal.nD) → Buf (Elt Ideal) ((c.tc : Thread Cert.PrepIdeal.nD Cert.PrepIdeal.τ).loc Cert.PrepIdeal.main_v64_1)) (v2 : (c : Dev Cert.PrepIdeal.nD) → Buf (Elt Ideal) ((c.tc : Thread Cert.PrepIdeal.nD Cert.PrepIdeal.τ).loc Cert.PrepIdeal.main_v64_2)) (v3 : (c : Dev Cert.PrepIdeal.nD) → Buf (Elt Ideal) ((c.tc : Thread Cert.PrepIdeal.nD Cert.PrepIdeal.τ).loc Cert.PrepIdeal.main_v64_3)) (v4 : (c : Dev Cert.PrepIdeal.nD) → Buf (Elt Ideal) ((c.tc : Thread Cert.PrepIdeal.nD Cert.PrepIdeal.τ).loc Cert.PrepIdeal.main_v64_4)) (v5 : (c : Dev Cert.PrepIdeal.nD) → Buf (Elt Ideal) ((c.tc : Thread Cert.PrepIdeal.nD Cert.PrepIdeal.τ).loc Cert.PrepIdeal.main_v64_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v64_0) = v0 c
          ∧ r.2.mem ((c.tc : Thread Cert.PrepIdeal.nD Cert.PrepIdeal.τ).loc Cert.PrepIdeal.main_v64_1) = v1 c
          ∧ r.2.mem ((c.tc : Thread Cert.PrepIdeal.nD Cert.PrepIdeal.τ).loc Cert.PrepIdeal.main_v64_2) = v2 c
          ∧ r.2.mem ((c.tc : Thread Cert.PrepIdeal.nD Cert.PrepIdeal.τ).loc Cert.PrepIdeal.main_v64_3) = v3 c
          ∧ r.2.mem ((c.tc : Thread Cert.PrepIdeal.nD Cert.PrepIdeal.τ).loc Cert.PrepIdeal.main_v64_4) = v4 c
          ∧ r.2.mem ((c.tc : Thread Cert.PrepIdeal.nD Cert.PrepIdeal.τ).loc Cert.PrepIdeal.main_v64_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v181) = v0 c
          ∧ r.2.mem ((c.tc : Thread Cert.PrepRefIdeal.nD Cert.PrepRefIdeal.τ).loc Cert.PrepRefIdeal.main_v182) = v1 c
          ∧ r.2.mem ((c.tc : Thread Cert.PrepRefIdeal.nD Cert.PrepRefIdeal.τ).loc Cert.PrepRefIdeal.main_v183) = v2 c
          ∧ r.2.mem ((c.tc : Thread Cert.PrepRefIdeal.nD Cert.PrepRefIdeal.τ).loc Cert.PrepRefIdeal.main_v184) = v3 c
          ∧ r.2.mem ((c.tc : Thread Cert.PrepRefIdeal.nD Cert.PrepRefIdeal.τ).loc Cert.PrepRefIdeal.main_v185) = v4 c
          ∧ r.2.mem ((c.tc : Thread Cert.PrepRefIdeal.nD Cert.PrepRefIdeal.τ).loc Cert.PrepRefIdeal.main_v186) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10))

def Claim : Prop :=
  ∃ (hHead : Cert.Head.Facts) (hHeadIdeal : Cert.HeadIdeal.Facts) (hHeadRefIdeal : Cert.HeadRefIdeal.Facts) (hAttn : Cert.Attn.Facts) (hAttnIdeal : Cert.AttnIdeal.Facts) (hAttnRefIdeal : Cert.AttnRefIdeal.Facts) (hFfnIn : Cert.FfnIn.Facts) (hFfnInIdeal : Cert.FfnInIdeal.Facts) (hFfnInRefIdeal : Cert.FfnInRefIdeal.Facts) (hIn : Cert.In.Facts) (hInIdeal : Cert.InIdeal.Facts) (hInRefIdeal : Cert.InRefIdeal.Facts) (hFfnAct : Cert.FfnAct.Facts) (hFfnActIdeal : Cert.FfnActIdeal.Facts) (hFfnActRefIdeal : Cert.FfnActRefIdeal.Facts) (hDisc : Cert.Disc.Facts) (hDiscIdeal : Cert.DiscIdeal.Facts) (hDiscRefIdeal : Cert.DiscRefIdeal.Facts) (hPrep : Cert.Prep.Facts) (hPrepIdeal : Cert.PrepIdeal.Facts) (hPrepRefIdeal : Cert.PrepRefIdeal.Facts) (hPre_head_finite : Cert.Pre_head_finite.Facts) (hPre_attn_pre : Cert.Pre_attn_pre.Facts) (hPre_ffn_in_finite : Cert.Pre_ffn_in_finite.Facts) (hPre_in_finite : Cert.Pre_in_finite.Facts) (hPre_ffn_act_finite : Cert.Pre_ffn_act_finite.Facts) (hPre_prep_finite : Cert.Pre_prep_finite.Facts),
    quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_Attn (hAttn := hAttn)
    ∧ quiescent_AttnIdeal (hAttnIdeal := hAttnIdeal)
    ∧ quiescent_AttnIdeal_pre_attn_pre (hAttnIdeal := hAttnIdeal) (hPre_attn_pre := hPre_attn_pre)
    ∧ quiescent_AttnRefIdeal (hAttnRefIdeal := hAttnRefIdeal)
    ∧ quiescent_AttnRefIdeal_pre_attn_pre (hAttnRefIdeal := hAttnRefIdeal) (hPre_attn_pre := hPre_attn_pre)
    ∧ quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_In (hIn := hIn)
    ∧ quiescent_InIdeal (hInIdeal := hInIdeal)
    ∧ quiescent_InIdeal_pre_in_finite (hInIdeal := hInIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_FfnAct (hFfnAct := hFfnAct)
    ∧ quiescent_FfnActIdeal (hFfnActIdeal := hFfnActIdeal)
    ∧ quiescent_FfnActIdeal_pre_ffn_act_finite (hFfnActIdeal := hFfnActIdeal) (hPre_ffn_act_finite := hPre_ffn_act_finite)
    ∧ quiescent_FfnActRefIdeal (hFfnActRefIdeal := hFfnActRefIdeal)
    ∧ quiescent_FfnActRefIdeal_pre_ffn_act_finite (hFfnActRefIdeal := hFfnActRefIdeal) (hPre_ffn_act_finite := hPre_ffn_act_finite)
    ∧ quiescent_Disc (hDisc := hDisc)
    ∧ quiescent_DiscIdeal (hDiscIdeal := hDiscIdeal)
    ∧ quiescent_DiscRefIdeal (hDiscRefIdeal := hDiscRefIdeal)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_Attn_AttnIdeal
    ∧ algebraic_AttnIdeal_AttnRefIdeal_pre_attn_pre (hAttnIdeal := hAttnIdeal) (hAttnRefIdeal := hAttnRefIdeal) (hPre_attn_pre := hPre_attn_pre)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_In_InIdeal
    ∧ algebraic_InIdeal_InRefIdeal_pre_in_finite (hInIdeal := hInIdeal) (hInRefIdeal := hInRefIdeal) (hPre_in_finite := hPre_in_finite)
    ∧ preserves_FfnAct_FfnActIdeal
    ∧ algebraic_FfnActIdeal_FfnActRefIdeal_pre_ffn_act_finite (hFfnActIdeal := hFfnActIdeal) (hFfnActRefIdeal := hFfnActRefIdeal) (hPre_ffn_act_finite := hPre_ffn_act_finite)
    ∧ preserves_Disc_DiscIdeal
    ∧ algebraic_DiscIdeal_DiscRefIdeal (hDiscIdeal := hDiscIdeal) (hDiscRefIdeal := hDiscRefIdeal)
    ∧ preserves_Prep_PrepIdeal
    ∧ algebraic_PrepIdeal_PrepRefIdeal_pre_prep_finite (hPrepIdeal := hPrepIdeal) (hPrepRefIdeal := hPrepRefIdeal) (hPre_prep_finite := hPre_prep_finite)
-- ==== Pre_attn_pre.lean ====
abbrev S1x16384x768 : Shape := ⟨3, ![1, 16384, 768]⟩
abbrev S1x16384x512 : Shape := ⟨3, ![1, 16384, 512]⟩
abbrev S1x16384 : Shape := ⟨2, ![1, 16384]⟩
abbrev S_ : Shape := ⟨0, ![]⟩
abbrev S1x16383 : Shape := ⟨2, ![1, 16383]⟩

class Facts : Prop where
  bcast_S_S1x16384x768 : S_.BroadcastsInDim S1x16384x768 (![] : Fin 0 → Fin S1x16384x768.rank)
  reducesTo_S1x16384x768_S_d0_1_2 : S1x16384x768.ReducesTo [0, 1, 2] S_
  h_S_ : 0 < S_.numel
  bcast_S_S1x16384x512 : S_.BroadcastsInDim S1x16384x512 (![] : Fin 0 → Fin S1x16384x512.rank)
  reducesTo_S1x16384x512_S_d0_1_2 : S1x16384x512.ReducesTo [0, 1, 2] S_
  slices_S1x16384_S1x16383_0_1 : S1x16384.Slices ![0, 1] S1x16383
  slices_S1x16384_S1x16383_0_0 : S1x16384.Slices ![0, 0] S1x16383
  reducesTo_S1x16383_S_d0_1 : S1x16383.ReducesTo [0, 1] S_

variable [Facts]

def fn_part1 {F : FTy → Type} [FloatOps F] (main_arg3 : IVec S1x16384 32) (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  let main_v19 : IVec S1x16383 32 := (extractStridedSlice S1x16383 ![0, 1] · slices_S1x16384_S1x16383_0_1) main_arg3
  let main_v20 : IVec S1x16383 32 := (extractStridedSlice S1x16383 ![0, 0] · slices_S1x16384_S1x16383_0_0) main_arg3
  let main_v21 : IVec S1x16383 1 := cmpi .sgt main_v19 main_v20
  let main_c_6 : IVec S_ 1 := constantI S_ 1 1#1
  let main_v22 : IVec S_ 1 := (fun x v => Host.reduce IntOp.andi x v reducesTo_S1x16383_S_d0_1 h_S_) main_v21 main_c_6
  let main_v23 : IVec S_ 1 := andi main_v18 main_v22
  main_v23

def fn {F : FTy → Type} [FloatOps F] (main_arg0 : FVec F S1x16384x768 .f32) (main_arg1 : FVec F S1x16384x768 .f32) (main_arg2 : FVec F S1x16384x512 .f32) (main_arg3 : IVec S1x16384 32) (main_arg4 : FVec F S1x16384x512 .f32) : IVec S_ 1 :=
  let main_v0 : FVec F S1x16384x768 .f32 := Host.absf main_arg0
  let main_cst : FVec F S_ .f32 := constant S_ .f32 0x7F800000#32
  let main_v1 : FVec F S1x16384x768 .f32 := broadcastInDim S1x16384x768 ![] bcast_S_S1x16384x768 main_cst
  let main_v2 : IVec S1x16384x768 1 := cmpf .olt main_v0 main_v1
  let main_c : IVec S_ 1 := constantI S_ 1 1#1
  let main_v3 : IVec S_ 1 := (fun x v => Host.reduce IntOp.andi x v reducesTo_S1x16384x768_S_d0_1_2 h_S_) main_v2 main_c
  let main_v4 : FVec F S1x16384x768 .f32 := Host.absf main_arg1
  let main_cst_0 : FVec F S_ .f32 := constant S_ .f32 0x7F800000#32
  let main_v5 : FVec F S1x16384x768 .f32 := broadcastInDim S1x16384x768 ![] bcast_S_S1x16384x768 main_cst_0
  let main_v6 : IVec S1x16384x768 1 := cmpf .olt main_v4 main_v5
  let main_c_1 : IVec S_ 1 := constantI S_ 1 1#1
  let main_v7 : IVec S_ 1 := (fun x v => Host.reduce IntOp.andi x v reducesTo_S1x16384x768_S_d0_1_2 h_S_) main_v6 main_c_1
  let main_v8 : FVec F S1x16384x512 .f32 := Host.absf main_arg2
  let main_cst_2 : FVec F S_ .f32 := constant S_ .f32 0x7F800000#32
  let main_v9 : FVec F S1x16384x512 .f32 := broadcastInDim S1x16384x512 ![] bcast_S_S1x16384x512 main_cst_2
  let main_v10 : IVec S1x16384x512 1 := cmpf .olt main_v8 main_v9
  let main_c_3 : IVec S_ 1 := constantI S_ 1 1#1
  let main_v11 : IVec S_ 1 := (fun x v => Host.reduce IntOp.andi x v reducesTo_S1x16384x512_S_d0_1_2 h_S_) main_v10 main_c_3
  let main_v12 : FVec F S1x16384x512 .f32 := Host.absf main_arg4
  let main_cst_4 : FVec F S_ .f32 := constant S_ .f32 0x7F800000#32
  let main_v13 : FVec F S1x16384x512 .f32 := broadcastInDim S1x16384x512 ![] bcast_S_S1x16384x512 main_cst_4
  let main_v14 : IVec S1x16384x512 1 := cmpf .olt main_v12 main_v13
  let main_c_5 : IVec S_ 1 := constantI S_ 1 1#1
  let main_v15 : IVec S_ 1 := (fun x v => Host.reduce IntOp.andi x v reducesTo_S1x16384x512_S_d0_1_2 h_S_) main_v14 main_c_5
  fn_part1 (F := F) main_arg3 main_v3 main_v7 main_v11 main_v15
-- ==== Pre_ffn_act_finite.lean ====
abbrev S1x16384x1024 : Shape := ⟨3, ![1, 16384, 1024]⟩
abbrev S1024 : Shape := ⟨1, ![1024]⟩
abbrev S1x1x1024 : Shape := ⟨3, ![1, 1, 1024]⟩
abbrev S1024x2816 : Shape := ⟨2, ![1024, 2816]⟩
abbrev S2816x1024 : Shape := ⟨2, ![2816, 1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1x1024 : S_.BroadcastsInDim S1x1x1024 (![] : Fin 0 → Fin S1x1x1024.rank)
  reducesTo_S1x1x1024_S_d0_1_2 : S1x1x1024.ReducesTo [0, 1, 2] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg8 : FVec F S1x16384x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x16384x1024 .f32 := Host.absf main_arg8
  let main_cst_14 : FVec F S_ .f32 := constant S_ .f32 0x7F800000#32
  let main_v33 : FVec F S1x16384x1024 .f32 := broadcastInDim S1x16384x1024 ![] bcast_S_S1x16384x1024 main_cst_14
  let main_v34 : IVec S1x16384x1024 1 := cmpf .olt main_v32 main_v33
  let main_c_15 : IVec S_ 1 := constantI S_ 1 1#1
  let main_v35 : IVec S_ 1 := (fun x v => Host.reduce IntOp.andi x v reducesTo_S1x16384x1024_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1x1024 .f32) (main_arg5 : FVec F S1024x2816 .f32) (main_arg6 : FVec F S1024x2816 .f32) (main_arg7 : FVec F S2816x1024 .f32) (main_arg8 : FVec F S1x16384x1024 .f32) (main_v3 : IVec S_ 1) (main_v7 : IVec S_ 1) (main_v11 : IVec S_ 1) (main_v15 : IVec S_ 1) : IVec S_ 1 :=
  let main_v16 : FVec F S1x1x1024 .f32 := Host.absf main_arg4
  let main_cst_6 : FVec F S_ .f32 := constant S_ .f32 0x7F800000#32
  let main_v17 : FVec F S1x1x1024 .f32 := broadcastInDim S1x1x1024 ![] bcast_S_S1x1x1024 main_cst_6
  let main_v18 : IVec S1x1x1024 1 := cmpf .olt main_v16 main_v17
  let main_c_7 : IVec S_ 1 := constantI S_ 1 1#1
  let main_v19 : IVec S_ 1 := (fun x v => Host.reduce IntOp.andi x v reducesTo_S1x1x1024_S_d0_1_2 h_S_) main_v18 main_c_7
  let main_v20 : FVec F S1024x2816 .f32 := Host.absf main_arg5
  let main_cst_8 : FVec F S_ .f32 := constant S_ .f32 0x7F800000#32
  let main_v21 : FVec F S1024x2816 .f32 := broadcastInDim S1024x2816 ![] bcast_S_S1024x2816 main_cst_8
  let main_v22 : IVec S1024x2816 1 := cmpf .olt main_v20 main_v21
  let main_c_9 : IVec S_ 1 := constantI S_ 1 1#1
  let main_v23 : IVec S_ 1 := (fun x v => Host.reduce IntOp.andi x v reducesTo_S1024x2816_S_d0_1 h_S_) main_v22 main_c_9
  let main_v24 : FVec F S1024x2816 .f32 := Host.absf main_arg6
  let main_cst_10 : FVec F S_ .f32 := constant S_ .f32 0x7F800000#32
  let main_v25 : FVec F S1024x2816 .f32 := broadcastInDim S1024x2816 ![] bcast_S_S1024x2816 main_cst_10
  let main_v26 : IVec S1024x2816 1 := cmpf .olt main_v24 main_v25
  let main_c_11 : IVec S_ 1 := constantI S_ 1 1#1
  let main_v27 : IVec S_ 1 := (fun x v => Host.reduce IntOp.andi x v reducesTo_S1024x2816_S_d0_1 h_S_) main_v26 main_c_11
  let main_v28 : FVec F S2816x1024 .f32 := Host.absf main_arg7
  let main_cst_12 : FVec F S_ .f32 := constant S_ .f32 0x7F800000#32
  let main_v29 : FVec F S2816x1024 .f32 := broadcastInDim S2816x1024 ![] bcast_S_S2816x1024 main_cst_12
  let main_v30 : IVec S2816x1024 1 := cmpf .olt main_v28 main_v29
  let main_c_13 : IVec S_ 1 := constantI S_ 1 1#1
  let main_v31 : IVec S_ 1 := (fun x v => Host.reduce IntOp.andi x v reducesTo_S2816x1024_S_d0_1 h_S_) main_v30 main_c_13
  fn_part2 (F := F) main_arg8 main_v3 main_v7 main_v11 main_v15 main_v19 main_v23 main_v27 main_v31

def fn {F : FTy → Type} [FloatOps F] (main_arg0 : FVec F S1x16384x1024 .f32) (main_arg1 : FVec F S1024 .f32) (main_arg2 : FVec F S1x1x1024 .f32) (main_arg3 : FVec F S1x1x1024 .f32) (main_arg4 : FVec F S1x1x1024 .f32) (main_arg5 : FVec F S1024x2816 .f32) (main_arg6 : FVec F S1024x2816 .f32) (main_arg7 : FVec F S2816x1024 .f32) (main_arg8 : FVec F S1x16384x1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1x1x1024 .f32 := Host.absf main_arg2
  let main_cst_2 : FVec F S_ .f32 := constant S_ .f32 0x7F800000#32
  let main_v9 : FVec F S1x1x1024 .f32 := broadcastInDim S1x1x1024 ![] bcast_S_S1x1x1024 main_cst_2
  let main_v10 : IVec S1x1x1024 1 := cmpf .olt main_v8 main_v9
  let main_c_3 : IVec S_ 1 := constantI S_ 1 1#1
  let main_v11 : IVec S_ 1 := (fun x v => Host.reduce IntOp.andi x v reducesTo_S1x1x1024_S_d0_1_2 h_S_) main_v10 main_c_3
  let main_v12 : FVec F S1x1x1024 .f32 := Host.absf main_arg3
  let main_cst_4 : FVec F S_ .f32 := constant S_ .f32 0x7F800000#32
  let main_v13 : FVec F S1x1x1024 .f32 := broadcastInDim S1x1x1024 ![] bcast_S_S1x1x1024 main_cst_4
  let main_v14 : IVec S1x1x1024 1 := cmpf .olt main_v12 main_v13
  let main_c_5 : IVec S_ 1 := constantI S_ 1 1#1
  let main_v15 : IVec S_ 1 := (fun x v => Host.reduce IntOp.andi x v reducesTo_S1x1x1024_S_d0_1_2 h_S_) main_v14 main_c_5
  fn_part1 (F := F) main_arg4 main_arg5 main_arg6 main_arg7 main_arg8 main_v3 main_v7 main_v11 main_v15
-- ==== Pre_ffn_in_finite.lean ====
abbrev S1x16384x1024 : Shape := ⟨3, ![1, 16384, 1024]⟩
abbrev S1024 : Shape := ⟨1, ![1024]⟩
abbrev S1x1x1024 : Shape := ⟨3, ![1, 1, 1024]⟩
abbrev S1024x2816 : Shape := ⟨2, ![1024, 2816]⟩
abbrev S16384x2816 : Shape := ⟨2, ![16384, 2816]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1x1024 : S_.BroadcastsInDim S1x1x1024 (![] : Fin 0 → Fin S1x1x1024.rank)
  reducesTo_S1x1x1024_S_d0_1_2 : S1x1x1024.ReducesTo [0, 1, 2] S_
  bcast_S_S1024x2816 : S_.BroadcastsInDim S1024x2816 (![] : Fin 0 → Fin S1024x2816.rank)
  reducesTo_S1024x2816_S_d0_1 : S1024x2816.ReducesTo [0, 1] S_
  bcast_S_S16384x2816 : S_.BroadcastsInDim S16384x2816 (![] : Fin 0 → Fin S16384x2816.rank)
  reducesTo_S16384x2816_S_d0_1 : S16384x2816.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg5 : FVec F S1024x2816 .f32) (main_arg6 : FVec F S1x16384x1024 .f32) (main_arg7 : FVec F S16384x2816 .bf16) (main_arg8 : FVec F S16384x2816 .bf16) (main_v3 : IVec S_ 1) (main_v7 : IVec S_ 1) (main_v11 : IVec S_ 1) (main_v15 : IVec S_ 1) : IVec S_ 1 :=
  let main_v16 : FVec F S1024x2816 .f32 := Host.absf main_arg5
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S1x16384x1024 .f32 := Host.absf main_arg6
  let main_cst_8 : FVec F S_ .f32 := constant S_ .f32 0x7F800000#32
  let main_v21 : FVec F S1x16384x1024 .f32 := broadcastInDim S1x16384x1024 ![] bcast_S_S1x16384x1024 main_cst_8
  let main_v22 : IVec S1x16384x1024 1 := cmpf .olt main_v20 main_v21
  let main_c_9 : IVec S_ 1 := constantI S_ 1 1#1
  let main_v23 : IVec S_ 1 := (fun x v => Host.reduce IntOp.andi x v reducesTo_S1x16384x1024_S_d0_1_2 h_S_) main_v22 main_c_9
  let main_v24 : FVec F S16384x2816 .bf16 := Host.absf main_arg7
  let main_cst_10 : FVec F S_ .bf16 := constant S_ .bf16 0x7F80#16
  let main_v25 : FVec F S16384x2816 .bf16 := broadcastInDim S16384x2816 ![] bcast_S_S16384x2816 main_cst_10
  let main_v26 : IVec S16384x2816 1 := cmpf .olt main_v24 main_v25
  let main_c_11 : IVec S_ 1 := constantI S_ 1 1#1
  let main_v27 : IVec S_ 1 := (fun x v => Host.reduce IntOp.andi x v reducesTo_S16384x2816_S_d0_1 h_S_) main_v26 main_c_11
  let main_v28 : FVec F S16384x2816 .bf16 := Host.absf main_arg8
  let main_cst_12 : FVec F S_ .bf16 := constant S_ .bf16 0x7F80#16
  let main_v29 : FVec F S16384x2816 .bf16 := broadcastInDim S16384x2816 ![] bcast_S_S16384x2816 main_cst_12
  let main_v30 : IVec S16384x2816 1 := cmpf .olt main_v28 main_v29
  let main_c_13 : IVec S_ 1 := constantI S_ 1 1#1
  let main_v31 : IVec S_ 1 := (fun x v => Host.reduce IntOp.andi x v reducesTo_S16384x2816_S_d0_1 h_S_) main_v30 main_c_13
  fn_part2 (F := F) main_v3 main_v7 main_v11 main_v15 main_v19 main_v23 main_v27 main_v31

def fn {F : FTy → Type} [FloatOps F] (main_arg0 : FVec F S1x16384x1024 .f32) (main_arg1 : FVec F S1024 .f32) (main_arg2 : FVec F S1x1x1024 .f32) (main_arg3 : FVec F S1x1x1024 .f32) (main_arg4 : FVec F S1024x2816 .f32) (main_arg5 : FVec F S1024x2816 .f32) (main_arg6 : FVec F S1x16384x1024 .f32) (main_arg7 : FVec F S16384x2816 .bf16) (main_arg8 : FVec F S16384x2816 .bf16) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1x1x1024 .f32 := Host.absf main_arg2
  let main_cst_2 : FVec F S_ .f32 := constant S_ .f32 0x7F800000#32
  let main_v9 : FVec F S1x1x1024 .f32 := broadcastInDim S1x1x1024 ![] bcast_S_S1x1x1024 main_cst_2
  let main_v10 : IVec S1x1x1024 1 := cmpf .olt main_v8 main_v9
  let main_c_3 : IVec S_ 1 := constantI S_ 1 1#1
  let main_v11 : IVec S_ 1 := (fun x v => Host.reduce IntOp.andi x v reducesTo_S1x1x1024_S_d0_1_2 h_S_) main_v10 main_c_3
  let main_v12 : FVec F S1024x2816 .f32 := Host.absf main_arg4
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg5 main_arg6 main_arg7 main_arg8 main_v3 main_v7 main_v11 main_v15
-- ==== Pre_head_finite.lean ====
abbrev S1x16384x1024 : Shape := ⟨3, ![1, 16384, 1024]⟩
abbrev S1024 : Shape := ⟨1, ![1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1x16384x1024 .f32) (main_arg1 : FVec F S1024 .f32) (main_arg2 : FVec F S1x16384x1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1x16384x1024 .f32 := Host.absf main_arg2
  let main_cst_2 : FVec F S_ .f32 := constant S_ .f32 0x7F800000#32
  let main_v9 : FVec F S1x16384x1024 .f32 := broadcastInDim S1x16384x1024 ![] bcast_S_S1x16384x1024 main_cst_2
  let main_v10 : IVec S1x16384x1024 1 := cmpf .olt main_v8 main_v9
  let main_c_3 : IVec S_ 1 := constantI S_ 1 1#1
  let main_v11 : IVec S_ 1 := (fun x v => Host.reduce IntOp.andi x v reducesTo_S1x16384x1024_S_d0_1_2 h_S_) main_v10 main_c_3
  let main_v12 : IVec S_ 1 := andi main_v3 main_v7
  let main_v13 : IVec S_ 1 := andi main_v12 main_v11
  main_v13
-- ==== Pre_in_finite.lean ====
abbrev S1x16384x1024 : Shape := ⟨3, ![1, 16384, 1024]⟩
abbrev S1024 : Shape := ⟨1, ![1024]⟩
abbrev S1x1x1024 : Shape := ⟨3, ![1, 1, 1024]⟩
abbrev S1024x2976 : Shape := ⟨2, ![1024, 2976]⟩
abbrev S16384x512 : Shape := ⟨2, ![16384, 512]⟩
abbrev S16384x256 : Shape := ⟨2, ![16384, 256]⟩
abbrev S16384x128 : Shape := ⟨2, ![16384, 128]⟩
abbrev S16384x32 : Shape := ⟨2, ![16384, 32]⟩
abbrev S16384x1024 : Shape := ⟨2, ![16384, 1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1x1024 : S_.BroadcastsInDim S1x1x1024 (![] : Fin 0 → Fin S1x1x1024.rank)
  reducesTo_S1x1x1024_S_d0_1_2 : S1x1x1024.ReducesTo [0, 1, 2] S_
  bcast_S_S1024x2976 : S_.BroadcastsInDim S1024x2976 (![] : Fin 0 → Fin S1024x2976.rank)
  reducesTo_S1024x2976_S_d0_1 : S1024x2976.ReducesTo [0, 1] S_
  bcast_S_S16384x512 : S_.BroadcastsInDim S16384x512 (![] : Fin 0 → Fin S16384x512.rank)
  reducesTo_S16384x512_S_d0_1 : S16384x512.ReducesTo [0, 1] S_
  bcast_S_S16384x256 : S_.BroadcastsInDim S16384x256 (![] : Fin 0 → Fin S16384x256.rank)
  reducesTo_S16384x256_S_d0_1 : S16384x256.ReducesTo [0, 1] S_
  bcast_S_S16384x128 : S_.BroadcastsInDim S16384x128 (![] : Fin 0 → Fin S16384x128.rank)
  reducesTo_S16384x128_S_d0_1 : S16384x128.ReducesTo [0, 1] S_
  bcast_S_S16384x32 : S_.BroadcastsInDim S16384x32 (![] : Fin 0 → Fin S16384x32.rank)
  reducesTo_S16384x32_S_d0_1 : S16384x32.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S16384x32 .bf16) (main_arg9 : FVec F S16384x1024 .bf16) (main_arg10 : FVec F S16384x1024 .bf16) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S16384x32 .bf16 := Host.absf main_arg8
  let main_cst_14 : FVec F S_ .bf16 := constant S_ .bf16 0x7F80#16
  let main_v33 : FVec F S16384x32 .bf16 := broadcastInDim S16384x32 ![] bcast_S_S16384x32 main_cst_14
  let main_v34 : IVec S16384x32 1 := cmpf .olt main_v32 main_v33
  let main_c_15 : IVec S_ 1 := constantI S_ 1 1#1
  let main_v35 : IVec S_ 1 := (fun x v => Host.reduce IntOp.andi x v reducesTo_S16384x32_S_d0_1 h_S_) main_v34 main_c_15
  let main_v36 : FVec F S16384x1024 .bf16 := Host.absf main_arg9
  let main_cst_16 : FVec F S_ .bf16 := constant S_ .bf16 0x7F80#16
  let main_v37 : FVec F S16384x1024 .bf16 := broadcastInDim S16384x1024 ![] bcast_S_S16384x1024 main_cst_16
  let main_v38 : IVec S16384x1024 1 := cmpf .olt main_v36 main_v37
  let main_c_17 : IVec S_ 1 := constantI S_ 1 1#1
  let main_v39 : IVec S_ 1 := (fun x v => Host.reduce IntOp.andi x v reducesTo_S16384x1024_S_d0_1 h_S_) main_v38 main_c_17
  let main_v40 : FVec F S16384x1024 .bf16 := Host.absf main_arg10
  let main_cst_18 : FVec F S_ .bf16 := constant S_ .bf16 0x7F80#16
  let main_v41 : FVec F S16384x1024 .bf16 := broadcastInDim S16384x1024 ![] bcast_S_S16384x1024 main_cst_18
  let main_v42 : IVec S16384x1024 1 := cmpf .olt main_v40 main_v41
  let main_c_19 : IVec S_ 1 := constantI S_ 1 1#1
  let main_v43 : IVec S_ 1 := (fun x v => Host.reduce IntOp.andi x v reducesTo_S16384x1024_S_d0_1 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S1x16384x1024 .f32) (main_arg5 : FVec F S16384x512 .bf16) (main_arg6 : FVec F S16384x256 .bf16) (main_arg7 : FVec F S16384x128 .bf16) (main_arg8 : FVec F S16384x32 .bf16) (main_arg9 : FVec F S16384x1024 .bf16) (main_arg10 : FVec F S16384x1024 .bf16) (main_v3 : IVec S_ 1) (main_v7 : IVec S_ 1) (main_v11 : IVec S_ 1) (main_v15 : IVec S_ 1) : IVec S_ 1 :=
  let main_v16 : FVec F S1x16384x1024 .f32 := Host.absf main_arg4
  let main_cst_6 : FVec F S_ .f32 := constant S_ .f32 0x7F800000#32
  let main_v17 : FVec F S1x16384x1024 .f32 := broadcastInDim S1x16384x1024 ![] bcast_S_S1x16384x1024 main_cst_6
  let main_v18 : IVec S1x16384x1024 1 := cmpf .olt main_v16 main_v17
  let main_c_7 : IVec S_ 1 := constantI S_ 1 1#1
  let main_v19 : IVec S_ 1 := (fun x v => Host.reduce IntOp.andi x v reducesTo_S1x16384x1024_S_d0_1_2 h_S_) main_v18 main_c_7
  let main_v20 : FVec F S16384x512 .bf16 := Host.absf main_arg5
  let main_cst_8 : FVec F S_ .bf16 := constant S_ .bf16 0x7F80#16
  let main_v21 : FVec F S16384x512 .bf16 := broadcastInDim S16384x512 ![] bcast_S_S16384x512 main_cst_8
  let main_v22 : IVec S16384x512 1 := cmpf .olt main_v20 main_v21
  let main_c_9 : IVec S_ 1 := constantI S_ 1 1#1
  let main_v23 : IVec S_ 1 := (fun x v => Host.reduce IntOp.andi x v reducesTo_S16384x512_S_d0_1 h_S_) main_v22 main_c_9
  let main_v24 : FVec F S16384x256 .bf16 := Host.absf main_arg6
  let main_cst_10 : FVec F S_ .bf16 := constant S_ .bf16 0x7F80#16
  let main_v25 : FVec F S16384x256 .bf16 := broadcastInDim S16384x256 ![] bcast_S_S16384x256 main_cst_10
  let main_v26 : IVec S16384x256 1 := cmpf .olt main_v24 main_v25
  let main_c_11 : IVec S_ 1 := constantI S_ 1 1#1
  let main_v27 : IVec S_ 1 := (fun x v => Host.reduce IntOp.andi x v reducesTo_S16384x256_S_d0_1 h_S_) main_v26 main_c_11
  let main_v28 : FVec F S16384x128 .bf16 := Host.absf main_arg7
  let main_cst_12 : FVec F S_ .bf16 := constant S_ .bf16 0x7F80#16
  let main_v29 : FVec F S16384x128 .bf16 := broadcastInDim S16384x128 ![] bcast_S_S16384x128 main_cst_12
  let main_v30 : IVec S16384x128 1 := cmpf .olt main_v28 main_v29
  let main_c_13 : IVec S_ 1 := constantI S_ 1 1#1
  let main_v31 : IVec S_ 1 := (fun x v => Host.reduce IntOp.andi x v reducesTo_S16384x128_S_d0_1 h_S_) main_v30 main_c_13
  fn_part2 (F := F) main_arg8 main_arg9 main_arg10 main_v3 main_v7 main_v11 main_v15 main_v19 main_v23 main_v27 main_v31

def fn {F : FTy → Type} [FloatOps F] (main_arg0 : FVec F S1x16384x1024 .f32) (main_arg1 : FVec F S1024 .f32) (main_arg2 : FVec F S1x1x1024 .f32) (main_arg3 : FVec F S1024x2976 .f32) (main_arg4 : FVec F S1x16384x1024 .f32) (main_arg5 : FVec F S16384x512 .bf16) (main_arg6 : FVec F S16384x256 .bf16) (main_arg7 : FVec F S16384x128 .bf16) (main_arg8 : FVec F S16384x32 .bf16) (main_arg9 : FVec F S16384x1024 .bf16) (main_arg10 : FVec F S16384x1024 .bf16) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1x1x1024 .f32 := Host.absf main_arg2
  let main_cst_2 : FVec F S_ .f32 := constant S_ .f32 0x7F800000#32
  let main_v9 : FVec F S1x1x1024 .f32 := broadcastInDim S1x1x1024 ![] bcast_S_S1x1x1024 main_cst_2
  let main_v10 : IVec S1x1x1024 1 := cmpf .olt main_v8 main_v9
  let main_c_3 : IVec S_ 1 := constantI S_ 1 1#1
  let main_v11 : IVec S_ 1 := (fun x v => Host.reduce IntOp.andi x v reducesTo_S1x1x1024_S_d0_1_2 h_S_) main_v10 main_c_3
  let main_v12 : FVec F S1024x2976 .f32 := Host.absf main_arg3
  let main_cst_4 : FVec F S_ .f32 := constant S_ .f32 0x7F800000#32
  let main_v13 : FVec F S1024x2976 .f32 := broadcastInDim S1024x2976 ![] bcast_S_S1024x2976 main_cst_4
  let main_v14 : IVec S1024x2976 1 := cmpf .olt main_v12 main_v13
  let main_c_5 : IVec S_ 1 := constantI S_ 1 1#1
  let main_v15 : IVec S_ 1 := (fun x v => Host.reduce IntOp.andi x v reducesTo_S1024x2976_S_d0_1 h_S_) main_v14 main_c_5
  fn_part1 (F := F) main_arg4 main_arg5 main_arg6 main_arg7 main_arg8 main_arg9 main_arg10 main_v3 main_v7 main_v11 main_v15
-- ==== Pre_prep_finite.lean ====
abbrev S1x16384x256 : Shape := ⟨3, ![1, 16384, 256]⟩
abbrev S1x16384x128 : Shape := ⟨3, ![1, 16384, 128]⟩
abbrev S1x16384 : Shape := ⟨2, ![1, 16384]⟩
abbrev S256 : Shape := ⟨1, ![256]⟩
abbrev S256x768 : Shape := ⟨2, ![256, 768]⟩
abbrev S128 : Shape := ⟨1, ![128]⟩
abbrev S128x512 : Shape := ⟨2, ![128, 512]⟩
abbrev S1x16384x768 : Shape := ⟨3, ![1, 16384, 768]⟩
abbrev S1x16384x512 : Shape := ⟨3, ![1, 16384, 512]⟩
abbrev S_ : Shape := ⟨0, ![]⟩

class Facts : Prop where
  bcast_S_S1x16384x256 : S_.BroadcastsInDim S1x16384x256 (![] : Fin 0 → Fin S1x16384x256.rank)
  reducesTo_S1x16384x256_S_d0_1_2 : S1x16384x256.ReducesTo [0, 1, 2] S_
  h_S_ : 0 < S_.numel
  bcast_S_S1x16384x128 : S_.BroadcastsInDim S1x16384x128 (![] : Fin 0 → Fin S1x16384x128.rank)
  reducesTo_S1x16384x128_S_d0_1_2 : S1x16384x128.ReducesTo [0, 1, 2] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S1x16384x768 : S_.BroadcastsInDim S1x16384x768 (![] : Fin 0 → Fin S1x16384x768.rank)
  reducesTo_S1x16384x768_S_d0_1_2 : S1x16384x768.ReducesTo [0, 1, 2] S_
  bcast_S_S1x16384x512 : S_.BroadcastsInDim S1x16384x512 (![] : Fin 0 → Fin S1x16384x512.rank)
  reducesTo_S1x16384x512_S_d0_1_2 : S1x16384x512.ReducesTo [0, 1, 2] S_

variable [Facts]

def fn_part2 {F : FTy → Type} [FloatOps F] (main_arg9 : FVec F S1x16384x768 .f32) (main_arg10 : FVec F S1x16384x512 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x16384x768 .f32 := Host.absf main_arg9
  let main_cst_14 : FVec F S_ .f32 := constant S_ .f32 0x7F800000#32
  let main_v33 : FVec F S1x16384x768 .f32 := broadcastInDim S1x16384x768 ![] bcast_S_S1x16384x768 main_cst_14
  let main_v34 : IVec S1x16384x768 1 := cmpf .olt main_v32 main_v33
  let main_c_15 : IVec S_ 1 := constantI S_ 1 1#1
  let main_v35 : IVec S_ 1 := (fun x v => Host.reduce IntOp.andi x v reducesTo_S1x16384x768_S_d0_1_2 h_S_) main_v34 main_c_15
  let main_v36 : FVec F S1x16384x512 .f32 := Host.absf main_arg10
  let main_cst_16 : FVec F S_ .f32 := constant S_ .f32 0x7F800000#32
  let main_v37 : FVec F S1x16384x512 .f32 := broadcastInDim S1x16384x512 ![] bcast_S_S1x16384x512 main_cst_16
  let main_v38 : IVec S1x16384x512 1 := cmpf .olt main_v36 main_v37
  let main_c_17 : IVec S_ 1 := constantI S_ 1 1#1
  let main_v39 : IVec S_ 1 := (fun x v => Host.reduce IntOp.andi x v reducesTo_S1x16384x512_S_d0_1_2 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg5 : FVec F S128 .f32) (main_arg6 : FVec F S128x512 .f32) (main_arg7 : FVec F S128x512 .f32) (main_arg8 : FVec F S1x16384x768 .f32) (main_arg9 : FVec F S1x16384x768 .f32) (main_arg10 : FVec F S1x16384x512 .f32) (main_v3 : IVec S_ 1) (main_v7 : IVec S_ 1) (main_v11 : IVec S_ 1) (main_v15 : IVec S_ 1) : IVec S_ 1 :=
  let main_v16 : FVec F S128 .f32 := Host.absf main_arg5
  let main_cst_6 : FVec F S_ .f32 := constant S_ .f32 0x7F800000#32
  let main_v17 : FVec F S128 .f32 := broadcastInDim S128 ![] bcast_S_S128 main_cst_6
  let main_v18 : IVec S128 1 := cmpf .olt main_v16 main_v17
  let main_c_7 : IVec S_ 1 := constantI S_ 1 1#1
  let main_v19 : IVec S_ 1 := (fun x v => Host.reduce IntOp.andi x v reducesTo_S128_S_d0 h_S_) main_v18 main_c_7
  let main_v20 : FVec F S128x512 .f32 := Host.absf main_arg6
  let main_cst_8 : FVec F S_ .f32 := constant S_ .f32 0x7F800000#32
  let main_v21 : FVec F S128x512 .f32 := broadcastInDim S128x512 ![] bcast_S_S128x512 main_cst_8
  let main_v22 : IVec S128x512 1 := cmpf .olt main_v20 main_v21
  let main_c_9 : IVec S_ 1 := constantI S_ 1 1#1
  let main_v23 : IVec S_ 1 := (fun x v => Host.reduce IntOp.andi x v reducesTo_S128x512_S_d0_1 h_S_) main_v22 main_c_9
  let main_v24 : FVec F S128x512 .f32 := Host.absf main_arg7
  let main_cst_10 : FVec F S_ .f32 := constant S_ .f32 0x7F800000#32
  let main_v25 : FVec F S128x512 .f32 := broadcastInDim S128x512 ![] bcast_S_S128x512 main_cst_10
  let main_v26 : IVec S128x512 1 := cmpf .olt main_v24 main_v25
  let main_c_11 : IVec S_ 1 := constantI S_ 1 1#1
  let main_v27 : IVec S_ 1 := (fun x v => Host.reduce IntOp.andi x v reducesTo_S128x512_S_d0_1 h_S_) main_v26 main_c_11
  let main_v28 : FVec F S1x16384x768 .f32 := Host.absf main_arg8
  let main_cst_12 : FVec F S_ .f32 := constant S_ .f32 0x7F800000#32
  let main_v29 : FVec F S1x16384x768 .f32 := broadcastInDim S1x16384x768 ![] bcast_S_S1x16384x768 main_cst_12
  let main_v30 : IVec S1x16384x768 1 := cmpf .olt main_v28 main_v29
  let main_c_13 : IVec S_ 1 := constantI S_ 1 1#1
  let main_v31 : IVec S_ 1 := (fun x v => Host.reduce IntOp.andi x v reducesTo_S1x16384x768_S_d0_1_2 h_S_) main_v30 main_c_13
  fn_part2 (F := F) main_arg9 main_arg10 main_v3 main_v7 main_v11 main_v15 main_v19 main_v23 main_v27 main_v31

def fn {F : FTy → Type} [FloatOps F] (main_arg0 : FVec F S1x16384x256 .f32) (main_arg1 : FVec F S1x16384x128 .f32) (main_arg2 : IVec S1x16384 32) (main_arg3 : FVec F S256 .f32) (main_arg4 : FVec F S256x768 .f32) (main_arg5 : FVec F S128 .f32) (main_arg6 : FVec F S128x512 .f32) (main_arg7 : FVec F S128x512 .f32) (main_arg8 : FVec F S1x16384x768 .f32) (main_arg9 : FVec F S1x16384x768 .f32) (main_arg10 : FVec F S1x16384x512 .f32) : IVec S_ 1 :=
  let main_v0 : FVec F S1x16384x256 .f32 := Host.absf main_arg0
  let main_cst : FVec F S_ .f32 := constant S_ .f32 0x7F800000#32
  let main_v1 : FVec F S1x16384x256 .f32 := broadcastInDim S1x16384x256 ![] bcast_S_S1x16384x256 main_cst
  let main_v2 : IVec S1x16384x256 1 := cmpf .olt main_v0 main_v1
  let main_c : IVec S_ 1 := constantI S_ 1 1#1
  let main_v3 : IVec S_ 1 := (fun x v => Host.reduce IntOp.andi x v reducesTo_S1x16384x256_S_d0_1_2 h_S_) main_v2 main_c
  let main_v4 : FVec F S1x16384x128 .f32 := Host.absf main_arg1
  let main_cst_0 : FVec F S_ .f32 := constant S_ .f32 0x7F800000#32
  let main_v5 : FVec F S1x16384x128 .f32 := broadcastInDim S1x16384x128 ![] bcast_S_S1x16384x128 main_cst_0
  let main_v6 : IVec S1x16384x128 1 := cmpf .olt main_v4 main_v5
  let main_c_1 : IVec S_ 1 := constantI S_ 1 1#1
  let main_v7 : IVec S_ 1 := (fun x v => Host.reduce IntOp.andi x v reducesTo_S1x16384x128_S_d0_1_2 h_S_) main_v6 main_c_1
  let main_v8 : FVec F S256 .f32 := Host.absf main_arg3
  let main_cst_2 : FVec F S_ .f32 := constant S_ .f32 0x7F800000#32
  let main_v9 : FVec F S256 .f32 := broadcastInDim S256 ![] bcast_S_S256 main_cst_2
  let main_v10 : IVec S256 1 := cmpf .olt main_v8 main_v9
  let main_c_3 : IVec S_ 1 := constantI S_ 1 1#1
  let main_v11 : IVec S_ 1 := (fun x v => Host.reduce IntOp.andi x v reducesTo_S256_S_d0 h_S_) main_v10 main_c_3
  let main_v12 : FVec F S256x768 .f32 := Host.absf main_arg4
  let main_cst_4 : FVec F S_ .f32 := constant S_ .f32 0x7F800000#32
  let main_v13 : FVec F S256x768 .f32 := broadcastInDim S256x768 ![] bcast_S_S256x768 main_cst_4
  let main_v14 : IVec S256x768 1 := cmpf .olt main_v12 main_v13
  let main_c_5 : IVec S_ 1 := constantI S_ 1 1#1
  let main_v15 : IVec S_ 1 := (fun x v => Host.reduce IntOp.andi x v reducesTo_S256x768_S_d0_1 h_S_) main_v14 main_c_5
  fn_part1 (F := F) main_arg5 main_arg6 main_arg7 main_arg8 main_arg9 main_arg10 main_v3 main_v7 main_v11 main_v15
-- ==== Head.lean ====
abbrev S1x16384x1024 : Shape := ⟨3, ![1, 16384, 1024]⟩
abbrev S1024 : Shape := ⟨1, ![1024]⟩
abbrev S16384x1024 : Shape := ⟨2, ![16384, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S1x128, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x128, .f32⟩
  | .local _ .vmem, ⟨8, _⟩ => ⟨S1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_11 : BitVec 32 := 0#32
  let v32 : BitVec 1 := Scalar.cmpi .ne v31 c0_i32_11
  v32

def k0_cond2 (i : grid0.Coords) : BitVec 1 :=
  let arg0 : BitVec 32 := BitVec.ofNat 32 (i 0).val
  let c0_i32_12 : BitVec 32 := 0#32
  let v33 : BitVec 1 := Scalar.cmpi .eq arg0 c0_i32_12
  let v_true : BitVec 1 := 1#1
  let v34 : BitVec 1 := Scalar.xori v33 v_true
  let v35 : BitVec 32 := Scalar.extui v34
  let c0_i32_13 : BitVec 32 := 0#32
  let v36 : BitVec 1 := Scalar.cmpi .ne v35 c0_i32_13
  v36

def k0_cond3 (i : grid0.Coords) : BitVec 1 :=
  let arg0 : BitVec 32 := BitVec.ofNat 32 (i 0).val
  let c0_i32_16 : BitVec 32 := 0#32
  let v42 : BitVec 1 := Scalar.cmpi .eq arg0 c0_i32_16
  let v43 : BitVec 32 := Scalar.extui v42
  let c0_i32_17 : BitVec 32 := 0#32
  let v44 : BitVec 1 := Scalar.cmpi .ne v43 c0_i32_17
  v44

def k0_cond4 (i : grid0.Coords) : BitVec 1 :=
  let arg0 : BitVec 32 := BitVec.ofNat 32 (i 0).val
  let c0_i32_18 : BitVec 32 := 0#32
  let v45 : BitVec 1 := Scalar.cmpi .eq arg0 c0_i32_18
  let true_19 : BitVec 1 := 1#1
  let v46 : BitVec 1 := Scalar.xori v45 true_19
  let v47 : BitVec 32 := Scalar.extui v46
  let c0_i32_20 : BitVec 32 := 0#32
  let v48 : BitVec 1 := Scalar.cmpi .ne v47 c0_i32_20
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== HeadRefIdeal.lean ====
abbrev S1x16384x1024 : Shape := ⟨3, ![1, 16384, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x1024 : Shape := ⟨2, ![1, 1024]⟩
abbrev S16384 : Shape := ⟨1, ![16384]⟩
abbrev S16384x1024 : Shape := ⟨2, ![16384, 1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x16384x1024, .f32⟩
  | .hbm, ⟨3, _⟩ => ⟨S1x16384x1024, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S1x16384x1024, .f32⟩
  | .hbm, ⟨19, _⟩ => ⟨S1x16384x1024, .f32⟩
  | .hbm, ⟨20, _⟩ => ⟨S1x1x1024, .f32⟩
  | .hbm, ⟨21, _⟩ => ⟨S1x16384x1024, .f32⟩
  | .hbm, ⟨22, _⟩ => ⟨S1x16384x1024, .f32⟩
  | .hbm, ⟨23, _⟩ => ⟨S1x16384x1024, .f32⟩
  | .hbm, ⟨24, _⟩ => ⟨S1x16384x1024, .f32⟩
  | .hbm, ⟨25, _⟩ => ⟨S_, .f32⟩
  | .hbm, ⟨26, _⟩ => ⟨S1x16384x1024, .f32⟩
  | .hbm, ⟨27, _⟩ => ⟨S1x16384x1024, .f32⟩
  | .hbm, ⟨28, _⟩ => ⟨S_, .f32⟩
  | .hbm, ⟨29, _⟩ => ⟨S1x16384, .f32⟩
  | .hbm, ⟨30, _⟩ => ⟨S_, .f32⟩
  | .hbm, ⟨31, _⟩ => ⟨S1x16384, .f32⟩
  | .hbm, ⟨32, _⟩ => ⟨S1x16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x16384, .f32⟩
  | .hbm, ⟨41, _⟩ => ⟨S_, .f32⟩
  | .hbm, ⟨42, _⟩ => ⟨S1x16384, .f32⟩
  | .hbm, ⟨43, _⟩ => ⟨S1x16384, .f32⟩
  | .hbm, ⟨44, _⟩ => ⟨S1x16384x1024, .f32⟩
  | .hbm, ⟨45, _⟩ => ⟨S1x16384x1024, .f32⟩
  | .hbm, ⟨46, _⟩ => ⟨S1x16384x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x16384x1024, .f32⟩
  | .hbm, ⟨51, _⟩ => ⟨S1x16384x1024, .f32⟩
  | .hbm, ⟨52, _⟩ => ⟨S_, .f32⟩
  | .hbm, ⟨53, _⟩ => ⟨S1024, .f32⟩
  | .hbm, ⟨54, _⟩ => ⟨S1x16384x1024, .f32⟩
  | .hbm, ⟨55, _⟩ => ⟨S_, .f32⟩
  | .hbm, ⟨56, _⟩ => ⟨S1x16384, .f32⟩
  | .hbm, ⟨57, _⟩ => ⟨S1x16384x1, .f32⟩
  | .hbm, ⟨58, _⟩ => ⟨S1x16384x1024, .f32⟩
  | .hbm, ⟨59, _⟩ => ⟨S1x16384x1024, .f32⟩
  | .hbm, ⟨60, _⟩ => ⟨S1x16384x1, .f32⟩
  | .hbm, ⟨61, _⟩ => ⟨S_, .f32⟩
  | .hbm, ⟨62, _⟩ => ⟨S1x16384x1, .f32⟩
  | .hbm, ⟨63, _⟩ => ⟨S1x16384x1, .f32⟩
  | .hbm, ⟨64, _⟩ => ⟨S_, .f32⟩
  | .hbm, ⟨65, _⟩ => ⟨S16384, .f32⟩
  | .hbm, ⟨66, _⟩ => ⟨S1x16384, .f32⟩
  | .hbm, ⟨67, _⟩ => ⟨S1x16384x1024, .f32⟩
  | .hbm, ⟨68, _⟩ => ⟨S1x16384x1024, .f32⟩
  | .hbm, ⟨69, _⟩ => ⟨S1x16384x1024, .f32⟩
  | .hbm, ⟨70, _⟩ => ⟨S1x16384x1024, .f32⟩
  | .hbm, ⟨71, _⟩ => ⟨S1x16384x1024, .f32⟩
  | .hbm, ⟨72, _⟩ => ⟨S16384x1024, .f32⟩
  | .hbm, ⟨73, _⟩ => ⟨S1x128, .f32⟩
  | .hbm, ⟨74, _⟩ => ⟨S1x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Attn.lean ====
abbrev S1x16384x768 : Shape := ⟨3, ![1, 16384, 768]⟩
abbrev S1x16384x512 : Shape := ⟨3, ![1, 16384, 512]⟩
abbrev S1x16384 : Shape := ⟨2, ![1, 16384]⟩
abbrev S528 : Shape := ⟨1, ![528]⟩
abbrev S16384x8x96 : Shape := ⟨3, ![16384, 8, 96]⟩
abbrev S8x16384x96 : Shape := ⟨3, ![8, 16384, 96]⟩
abbrev S16384x8x64 : Shape := ⟨3, ![16384, 8, 64]⟩
abbrev S8x16384x64 : Shape := ⟨3, ![8, 16384, 64]⟩
abbrev S_ : Shape := ⟨0, ![]⟩
abbrev S16384x1 : Shape := ⟨2, ![16384, 1]⟩
abbrev S16384x16384 : Shape := ⟨2, ![16384, 16384]⟩
abbrev S8x16384x16384 : Shape := ⟨3, ![8, 16384, 16384]⟩
abbrev S8x16384 : Shape := ⟨2, ![8, 16384]⟩
abbrev S8x16384x1 : Shape := ⟨3, ![8, 16384, 1]⟩
abbrev S16384x8x1 : Shape := ⟨3, ![16384, 8, 1]⟩
abbrev S16384x8x63 : Shape := ⟨3, ![16384, 8, 63]⟩
abbrev S16384x8x128 : Shape := ⟨3, ![16384, 8, 128]⟩
abbrev S16384x1024 : Shape := ⟨2, ![16384, 1024]⟩
abbrev S16384x768 : Shape := ⟨2, ![16384, 768]⟩
abbrev S16384x512 : Shape := ⟨2, ![16384, 512]⟩
abbrev S8x16384x128 : Shape := ⟨3, ![8, 16384, 128]⟩
abbrev S512x256 : Shape := ⟨2, ![512, 256]⟩
abbrev S1 : Shape := ⟨1, ![1]⟩
abbrev S512x1 : Shape := ⟨2, ![512, 1]⟩
abbrev S1x512 : Shape := ⟨2, ![1, 512]⟩
abbrev S16384x256 : Shape := ⟨2, ![16384, 256]⟩
abbrev S512x128 : Shape := ⟨2, ![512, 128]⟩
abbrev S512x512 : Shape := ⟨2, ![512, 512]⟩

abbrev nBuf : Space → Nat
  | .hbm => 88
  | .vmem => 24
  | .smem => 2
  | _ => 0

abbrev bufTy : (tb : Table) → Fin (tcTables nBuf tb) → BufTy
  | .hbm, ⟨0, _⟩ => ⟨S1x16384x768, .f32⟩
  | .hbm, ⟨1, _⟩ => ⟨S1x16384x768, .f32⟩
  | .hbm, ⟨2, _⟩ => ⟨S1x16384x512, .f32⟩
  | .hbm, ⟨3, _⟩ => ⟨S1x16384, .i32⟩
  | .hbm, ⟨4, _⟩ => ⟨S1x16384x512, .f32⟩
  | .hbm, ⟨5, _⟩ => ⟨S16384x8x96, .f32⟩
  | .hbm, ⟨6, _⟩ => ⟨S8x16384x96, .f32⟩
  | .hbm, ⟨7, _⟩ => ⟨S16384x8x96, .f32⟩
  | .hbm, ⟨8, _⟩ => ⟨S8x16384x96, .f32⟩
  | .hbm, ⟨9, _⟩ => ⟨S16384x8x64, .f32⟩
  | .hbm, ⟨10, _⟩ => ⟨S8x16384x64, .f32⟩
  | .hbm, ⟨11, _⟩ => ⟨S16384x8x64, .f32⟩
  | .hbm, ⟨12, _⟩ => ⟨S8x16384x64, .f32⟩
  | .hbm, ⟨13, _⟩ => ⟨S_, .f32⟩
  | .hbm, ⟨14, _⟩ => ⟨S_, .f32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S8x16384x16384, .f32⟩
  | .hbm, ⟨20, _⟩ => ⟨S_, .f32⟩
  | .hbm, ⟨21, _⟩ => ⟨S_, .f32⟩
  | .hbm, ⟨22, _⟩ => ⟨S8x16384x16384, .i1⟩
  | .hbm, ⟨23, _⟩ => ⟨S8x16384x16384, .f32⟩
  | .hbm, ⟨24, _⟩ => ⟨S8x16384x16384, .f32⟩
  | .hbm, ⟨25, _⟩ => ⟨S_, .f32⟩
  | .hbm, ⟨26, _⟩ => ⟨S8x16384, .f32⟩
  | .hbm, ⟨27, _⟩ => ⟨S8x16384x1, .f32⟩
  | .hbm, ⟨28, _⟩ => ⟨S8x16384x16384, .f32⟩
  | .hbm, ⟨29, _⟩ => ⟨S8x16384x16384, .f32⟩
  | .hbm, ⟨30, _⟩ => ⟨S_, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S_, .f32⟩
  | .hbm, ⟨35, _⟩ => ⟨S8x16384, .f32⟩
  | .hbm, ⟨36, _⟩ => ⟨S8x16384x1, .f32⟩
  | .hbm, ⟨37, _⟩ => ⟨S8x16384x64, .f32⟩
  | .hbm, ⟨38, _⟩ => ⟨S8x16384x64, .f32⟩
  | .hbm, ⟨39, _⟩ => ⟨S8x16384x64, .f32⟩
  | .hbm, ⟨40, _⟩ => ⟨S_, .f32⟩
  | .hbm, ⟨41, _⟩ => ⟨S8x16384x1, .f32⟩
  | .hbm, ⟨42, _⟩ => ⟨S8x16384x1, .f32⟩
  | .hbm, ⟨43, _⟩ => ⟨S8x16384x1, .f32⟩
  | .hbm, ⟨44, _⟩ => ⟨S8x16384x1, .f32⟩
  | .hbm, ⟨45, _⟩ => ⟨S8x16384x1, .f32⟩
  | .hbm, ⟨46, _⟩ => ⟨S8x16384x1, .f32⟩
  | .hbm, ⟨47, _⟩ => ⟨S8x16384x64, .f32⟩
  | .hbm, ⟨48, _⟩ => ⟨S_, .f32⟩
  | .hbm, ⟨49, _⟩ => ⟨S8x16384, .f32⟩
  | .hbm, ⟨50, _⟩ => ⟨S8x16384x1, .f32⟩
  | .hbm, ⟨51, _⟩ => ⟨S16384x8x64, .f32⟩
  | .hbm, ⟨52, _⟩ => ⟨S_, .f32⟩
  | .hbm, ⟨53, _⟩ => ⟨S16384x8x1, .f32⟩
  | .hbm, ⟨54, _⟩ => ⟨S_, .f32⟩
  | .hbm, ⟨55, _⟩ => ⟨S16384x8x63, .f32⟩
  | .hbm, ⟨56, _⟩ => ⟨S16384x8x128, .f32⟩
  | .hbm, ⟨57, _⟩ => ⟨S16384x1024, .f32⟩
  | .hbm, ⟨58, _⟩ => ⟨S16384x768, .f32⟩
  | .hbm, ⟨59, _⟩ => ⟨S16384x8x96, .f32⟩
  | .hbm, ⟨60, _⟩ => ⟨S_, .i32⟩
  | .hbm, ⟨61, _⟩ => ⟨S_, .f32⟩
  | .hbm, ⟨62, _⟩ => ⟨S16384x8x128, .f32⟩
  | .hbm, ⟨63, _⟩ => ⟨S16384x1024, .f32⟩
  | .hbm, ⟨64, _⟩ => ⟨S16384x1024, .bf16⟩
  | .hbm, ⟨65, _⟩ => ⟨S16384x768, .f32⟩
  | .hbm, ⟨66, _⟩ => ⟨S16384x8x96, .f32⟩
  | .hbm, ⟨67, _⟩ => ⟨S_, .i32⟩
  | .hbm, ⟨68, _⟩ => ⟨S_, .f32⟩
  | .hbm, ⟨69, _⟩ => ⟨S16384x8x128, .f32⟩
  | .hbm, ⟨70, _⟩ => ⟨S16384x1024, .f32⟩
  | .hbm, ⟨71, _⟩ => ⟨S16384x1024, .bf16⟩
  | .hbm, ⟨72, _⟩ => ⟨S16384x1024, .bf16⟩
  | .hbm, ⟨73, _⟩ => ⟨S16384x512, .f32⟩
  | .hbm, ⟨74, _⟩ => ⟨S16384x8x64, .f32⟩
  | .hbm, ⟨75, _⟩ => ⟨S_, .i32⟩
  | .hbm, ⟨76, _⟩ => ⟨S_, .f32⟩
  | .hbm, ⟨77, _⟩ => ⟨S16384x8x128, .f32⟩
  | .hbm, ⟨78, _⟩ => ⟨S16384x1024, .f32⟩
  | .hbm, ⟨79, _⟩ => ⟨S8x16384x128, .f32⟩
  | .hbm, ⟨80, _⟩ => ⟨S16384x8x128, .f32⟩
  | .hbm, ⟨81, _⟩ => ⟨S16384x1024, .f32⟩
  | .hbm, ⟨82, _⟩ => ⟨S8x16384x128, .f32⟩
  | .hbm, ⟨83, _⟩ => ⟨S16384x8x128, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x1, .i32⟩
  | .local _ .vmem, ⟨13, _⟩ => ⟨S512x1, .i32⟩
  | .local _ .vmem, ⟨14, _⟩ => ⟨S1x512, .i32⟩
  | .local _ .vmem, ⟨15, _⟩ => ⟨S1x512, .i32⟩
  | .local _ .vmem, ⟨16, _⟩ => ⟨S16384x256, .f32⟩
  | .local _ .vmem, ⟨17, _⟩ => ⟨S16384x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .smem, ⟨0, _⟩ => ⟨S528, .i32⟩
  | .local _ .smem, ⟨1, _⟩ => ⟨S528, .i32⟩
  | _, _ => ⟨S1x16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_call1_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_call2_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_call3_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62_0 : Ref sig .tc := ⟨.hbm, 85, rfl⟩
abbrev main_v62_1 : Ref sig .tc := ⟨.hbm, 86, rfl⟩
abbrev main_v62_2 : Ref sig .tc := ⟨.hbm, 87, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 528], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v10 : BitVec 32 := Scalar.muli v1 c512_i32
  v10

def k0_chk1 (v1 : BitVec 32) : Prop :=
  (512 ∣ (k0_mult1 v1).toNat)
theorem k0_mult1_dvd : ∀ (v1 : BitVec 32) (k0_hw1 : k0_chk1 v1), 512 ∣ (k0_mult1 v1).toNat := fun v1 k0_hw1 => k0_hw1

def k0_off2 (v1 : BitVec 32) : Fin 2 → Nat :=
  let c512_i32 : BitVec 32 := 512#32
  let v10 : BitVec 32 := Scalar.muli v1 c512_i32
  let v11 : BitVec 32 := v10
  let v61 : Index := Scalar.indexCast v11
  let c0_28 : Index := 0#32
  ![v61.toNat, 0]
def k0_cond3 (v1 : BitVec 32) (v3 : BitVec 32) : BitVec 1 :=
  let v12 : BitVec 1 := Scalar.cmpi .ne v3 v1
  let v13 : BitVec 32 := Scalar.extui v12
  let c0_i32_2 : BitVec 32 := 0#32
  let v14 : BitVec 1 := Scalar.cmpi .ne v13 c0_i32_2
  v14

def k0_off3 (v1 : BitVec 32) : Fin 2 → Nat :=
  let c512_i32 : BitVec 32 := 512#32
  let v10 : BitVec 32 := Scalar.muli v1 c512_i32
  let v11 : BitVec 32 := v10
  let v111 : Index := Scalar.indexCast v11
  let c128_56 : Index := 128#32
  ![v111.toNat, 128]
def k0_off4 (v1 : BitVec 32) : Fin 2 → Nat :=
  let c512_i32 : BitVec 32 := 512#32
  let v10 : BitVec 32 := Scalar.muli v1 c512_i32
  let v11 : BitVec 32 := v10
  let v69 : Index := Scalar.indexCast v11
  let c0_33 : Index := 0#32
  ![v69.toNat, 0]
def k0_cond4 (v1 : BitVec 32) (v3 : BitVec 32) : BitVec 1 :=
  let v15 : BitVec 1 := Scalar.cmpi .eq v3 v1
  let v16 : BitVec 32 := Scalar.extui v15
  let c0_i32_3 : BitVec 32 := 0#32
  let v17 : BitVec 1 := Scalar.cmpi .ne v16 c0_i32_3
  v17

def k0_off5 (v1 : BitVec 32) : Fin 2 → Nat :=
  let c512_i32 : BitVec 32 := 512#32
  let v10 : BitVec 32 := Scalar.muli v1 c512_i32
  let v11 : BitVec 32 := v10
  let v121 : Index := Scalar.indexCast v11
  let c128_62 : Index := 128#32
  ![v121.toNat, 128]

def k0_chk2 (v1 : BitVec 32) (v3 : BitVec 32) : Prop :=
  (∀ (k0_h3 : k0_cond3 v1 v3 = 1#1), ∀ a, (k0_off2 v1) a + S512x128.size a ≤ S16384x256.size a) ∧
  (∀ (k0_h3 : k0_cond3 v1 v3 = 1#1), ∀ a, (k0_off3 v1) a + S512x128.size a ≤ S16384x256.size a) ∧
  (∀ (k0_h4 : k0_cond4 v1 v3 = 1#1), ∀ a, (k0_off4 v1) a + S512x128.size a ≤ S16384x256.size a) ∧
  (∀ (k0_h4 : k0_cond4 v1 v3 = 1#1), ∀ a, (k0_off5 v1) a + S512x128.size a ≤ S16384x256.size a)
theorem k0_off2_inb : ∀ (v1 : BitVec 32) (v3 : BitVec 32) (k0_hw2 : k0_chk2 v1 v3), ∀ (k0_h3 : k0_cond3 v1 v3 = 1#1), ∀ a, (k0_off2 v1) a + S512x128.size a ≤ S16384x256.size a := fun v1 v3 k0_hw2 k0_h3 => k0_hw2.1 k0_h3
theorem k0_off3_inb : ∀ (v1 : BitVec 32) (v3 : BitVec 32) (k0_hw2 : k0_chk2 v1 v3), ∀ (k0_h3 : k0_cond3 v1 v3 = 1#1), ∀ a, (k0_off3 v1) a + S512x128.size a ≤ S16384x256.size a := fun v1 v3 k0_hw2 k0_h3 => k0_hw2.2.1 k0_h3
theorem k0_off4_inb : ∀ (v1 : BitVec 32) (v3 : BitVec 32) (k0_hw2 : k0_chk2 v1 v3), ∀ (k0_h4 : k0_cond4 v1 v3 = 1#1), ∀ a, (k0_off4 v1) a + S512x128.size a ≤ S16384x256.size a := fun v1 v3 k0_hw2 k0_h4 => k0_hw2.2.2.1 k0_h4
theorem k0_off5_inb : ∀ (v1 : BitVec 32) (v3 : BitVec 32) (k0_hw2 : k0_chk2 v1 v3), ∀ (k0_h4 : k0_cond4 v1 v3 = 1#1), ∀ a, (k0_off5 v1) a + S512x128.size a ≤ S16384x256.size a := fun v1 v3 k0_hw2 k0_h4 => k0_hw2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v1 : BitVec 32) : BitVec 1 :=
  let c31_i32 : BitVec 32 := 31#32
  let v18 : BitVec 1 := Scalar.cmpi .eq v1 c31_i32
  let v19 : BitVec 32 := Scalar.extui v18
  let c0_i32_4 : BitVec 32 := 0#32
  let v20 : BitVec 1 := Scalar.cmpi .ne v19 c0_i32_4
  v20

def cc0_transform_0 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S528) ![v0.toNat] S1.size (k0_off1_inb i)) numel1_S1
  let c0_i32 : BitVec 32 := 0#32
  let c0_i32_0 : BitVec 32 := 0#32
  ![v1.toNat, c0_i32.toNat]

def cc0_transform_7 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S528) ![v0.toNat] S1.size (k0_off1_inb i)) numel1_S1
  let c0_i32 : BitVec 32 := 0#32
  ![v1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S16384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "mask" => some ⊥
  | "scale_log2e" => some (((3424635 / 33554432) * (Real.log 2)⁻¹ : ℝ) : EReal)
  | _ => none
-- ==== AttnRefIdeal.lean ====
abbrev S1x16384x768 : Shape := ⟨3, ![1, 16384, 768]⟩
abbrev S1x16384x512 : Shape := ⟨3, ![1, 16384, 512]⟩
abbrev S1x16384 : Shape := ⟨2, ![1, 16384]⟩
abbrev S1x16384x8x96 : Shape := ⟨4, ![1, 16384, 8, 96]⟩
abbrev S1x8x16384x16384 : Shape := ⟨4, ![1, 8, 16384, 16384]⟩
abbrev S_ : Shape := ⟨0, ![]⟩
abbrev S1x1x1x16384 : Shape := ⟨4, ![1, 1, 1, 16384]⟩
abbrev S1x1x16384x1 : Shape := ⟨4, ![1, 1, 16384, 1]⟩
abbrev S1x1x16384x16384 : Shape := ⟨4, ![1, 1, 16384, 16384]⟩
abbrev S1x8x16384 : Shape := ⟨3, ![1, 8, 16384]⟩
abbrev S1x8x16384x1 : Shape := ⟨4, ![1, 8, 16384, 1]⟩
abbrev S1x16384x8x64 : Shape := ⟨4, ![1, 16384, 8, 64]⟩
abbrev S1x8x64x16384 : Shape := ⟨4, ![1, 8, 64, 16384]⟩
abbrev S8x16384 : Shape := ⟨2, ![8, 16384]⟩
abbrev S1x8x16384x96 : Shape := ⟨4, ![1, 8, 16384, 96]⟩
abbrev S16384x8x96 : Shape := ⟨3, ![16384, 8, 96]⟩
abbrev S16384x8x128 : Shape := ⟨3, ![16384, 8, 128]⟩
abbrev S16384x1024 : Shape := ⟨2, ![16384, 1024]⟩
abbrev S16384x8x64 : Shape := ⟨3, ![16384, 8, 64]⟩

abbrev nBuf : Space → Nat
  | .hbm => 112
  | .vmem => 0
  | .smem => 0
  | _ => 0

abbrev bufTy : (tb : Table) → Fin (tcTables nBuf tb) → BufTy
  | .hbm, ⟨0, _⟩ => ⟨S1x16384x768, .f32⟩
  | .hbm, ⟨1, _⟩ => ⟨S1x16384x768, .f32⟩
  | .hbm, ⟨2, _⟩ => ⟨S1x16384x512, .f32⟩
  | .hbm, ⟨3, _⟩ => ⟨S1x16384, .i32⟩
  | .hbm, ⟨4, _⟩ => ⟨S1x16384x512, .f32⟩
  | .hbm, ⟨5, _⟩ => ⟨S1x16384x8x96, .f32⟩
  | .hbm, ⟨6, _⟩ => ⟨S1x16384x8x96, .f32⟩
  | .hbm, ⟨7, _⟩ => ⟨S1x8x16384x16384, .f32⟩
  | .hbm, ⟨8, _⟩ => ⟨S_, .f32⟩
  | .hbm, ⟨9, _⟩ => ⟨S1x8x16384x16384, .f32⟩
  | .hbm, ⟨10, _⟩ => ⟨S1x8x16384x16384, .f32⟩
  | .hbm, ⟨11, _⟩ => ⟨S1x1x1x16384, .i32⟩
  | .hbm, ⟨12, _⟩ => ⟨S1x1x16384x1, .i32⟩
  | .hbm, ⟨13, _⟩ => ⟨S1x1x16384x16384, .i32⟩
  | .hbm, ⟨14, _⟩ => ⟨S1x1x16384x16384, .i32⟩
  | .hbm, ⟨15, _⟩ => ⟨S1x1x16384x16384, .i1⟩
  | .hbm, ⟨16, _⟩ => ⟨S_, .f32⟩
  | .hbm, ⟨17, _⟩ => ⟨S_, .f32⟩
  | .hbm, ⟨18, _⟩ => ⟨S1x8x16384x16384, .i1⟩
  | .hbm, ⟨19, _⟩ => ⟨S1x8x16384x16384, .f32⟩
  | .hbm, ⟨20, _⟩ => ⟨S1x8x16384x16384, .f32⟩
  | .hbm, ⟨21, _⟩ => ⟨S_, .f32⟩
  | .hbm, ⟨22, _⟩ => ⟨S1x8x16384x16384, .f32⟩
  | .hbm, ⟨23, _⟩ => ⟨S_, .f32⟩
  | .hbm, ⟨24, _⟩ => ⟨S1x8x16384, .f32⟩
  | .hbm, ⟨25, _⟩ => ⟨S1x8x16384x1, .f32⟩
  | .hbm, ⟨26, _⟩ => ⟨S1x8x16384x16384, .f32⟩
  | .hbm, ⟨27, _⟩ => ⟨S1x8x16384x16384, .i1⟩
  | .hbm, ⟨28, _⟩ => ⟨S1x8x16384x16384, .f32⟩
  | .hbm, ⟨29, _⟩ => ⟨S_, .f32⟩
  | .hbm, ⟨30, _⟩ => ⟨S1x8x16384, .f32⟩
  | .hbm, ⟨31, _⟩ => ⟨S_, .f32⟩
  | .hbm, ⟨32, _⟩ => ⟨S1x8x16384, .f32⟩
  | .hbm, ⟨33, _⟩ => ⟨S1x8x16384, .f32⟩
  | .hbm, ⟨34, _⟩ => ⟨S_, .f32⟩
  | .hbm, ⟨35, _⟩ => ⟨S1x8x16384, .f32⟩
  | .hbm, ⟨36, _⟩ => ⟨S1x8x16384, .i1⟩
  | .hbm, ⟨37, _⟩ => ⟨S_, .f32⟩
  | .hbm, ⟨38, _⟩ => ⟨S1x8x16384, .f32⟩
  | .hbm, ⟨39, _⟩ => ⟨S1x8x16384, .i1⟩
  | .hbm, ⟨40, _⟩ => ⟨S_, .f32⟩
  | .hbm, ⟨41, _⟩ => ⟨S1x8x16384, .f32⟩
  | .hbm, ⟨42, _⟩ => ⟨S_, .f32⟩
  | .hbm, ⟨43, _⟩ => ⟨S1x8x16384, .f32⟩
  | .hbm, ⟨44, _⟩ => ⟨S_, .f32⟩
  | .hbm, ⟨45, _⟩ => ⟨S1x8x16384, .f32⟩
  | .hbm, ⟨46, _⟩ => ⟨S1x8x16384, .f32⟩
  | .hbm, ⟨47, _⟩ => ⟨S1x8x16384, .f32⟩
  | .hbm, ⟨48, _⟩ => ⟨S1x8x16384x1, .f32⟩
  | .hbm, ⟨49, _⟩ => ⟨S1x8x16384x16384, .f32⟩
  | .hbm, ⟨50, _⟩ => ⟨S1x8x16384x16384, .f32⟩
  | .hbm, ⟨51, _⟩ => ⟨S1x8x16384x16384, .f32⟩
  | .hbm, ⟨52, _⟩ => ⟨S_, .f32⟩
  | .hbm, ⟨53, _⟩ => ⟨S1x8x16384, .f32⟩
  | .hbm, ⟨54, _⟩ => ⟨S1x8x16384x1, .f32⟩
  | .hbm, ⟨55, _⟩ => ⟨S1x8x16384x16384, .f32⟩
  | .hbm, ⟨56, _⟩ => ⟨S1x8x16384x16384, .f32⟩
  | .hbm, ⟨57, _⟩ => ⟨S1x8x16384x1, .f32⟩
  | .hbm, ⟨58, _⟩ => ⟨S_, .f32⟩
  | .hbm, ⟨59, _⟩ => ⟨S1x8x16384x1, .f32⟩
  | .hbm, ⟨60, _⟩ => ⟨S1x8x16384x1, .f32⟩
  | .hbm, ⟨61, _⟩ => ⟨S1x16384x8x64, .f32⟩
  | .hbm, ⟨62, _⟩ => ⟨S1x8x64x16384, .f32⟩
  | .hbm, ⟨63, _⟩ => ⟨S1x16384x8x64, .f32⟩
  | .hbm, ⟨64, _⟩ => ⟨S1x16384x8x64, .f32⟩
  | .hbm, ⟨65, _⟩ => ⟨S1x8x64x16384, .f32⟩
  | .hbm, ⟨66, _⟩ => ⟨S1x8x16384x16384, .f32⟩
  | .hbm, ⟨67, _⟩ => ⟨S1x8x64x16384, .f32⟩
  | .hbm, ⟨68, _⟩ => ⟨S1x16384x8x64, .f32⟩
  | .hbm, ⟨69, _⟩ => ⟨S1x16384x512, .f32⟩
  | .hbm, ⟨70, _⟩ => ⟨S1x8x16384x16384, .f32⟩
  | .hbm, ⟨71, _⟩ => ⟨S1x8x16384x16384, .f32⟩
  | .hbm, ⟨72, _⟩ => ⟨S1x8x16384x16384, .f32⟩
  | .hbm, ⟨73, _⟩ => ⟨S_, .f32⟩
  | .hbm, ⟨74, _⟩ => ⟨S1x8x16384, .f32⟩
  | .hbm, ⟨75, _⟩ => ⟨S1x8x16384x1, .f32⟩
  | .hbm, ⟨76, _⟩ => ⟨S1x8x16384x1, .f32⟩
  | .hbm, ⟨77, _⟩ => ⟨S1x8x16384x16384, .f32⟩
  | .hbm, ⟨78, _⟩ => ⟨S1x8x16384x16384, .f32⟩
  | .hbm, ⟨79, _⟩ => ⟨S_, .f32⟩
  | .hbm, ⟨80, _⟩ => ⟨S8x16384, .f32⟩
  | .hbm, ⟨81, _⟩ => ⟨S1x8x16384, .f32⟩
  | .hbm, ⟨82, _⟩ => ⟨S1x8x16384x16384, .f32⟩
  | .hbm, ⟨83, _⟩ => ⟨S1x8x16384x16384, .f32⟩
  | .hbm, ⟨84, _⟩ => ⟨S1x8x16384x16384, .f32⟩
  | .hbm, ⟨85, _⟩ => ⟨S_, .f32⟩
  | .hbm, ⟨86, _⟩ => ⟨S1x8x16384x16384, .f32⟩
  | .hbm, ⟨87, _⟩ => ⟨S1x8x16384x16384, .f32⟩
  | .hbm, ⟨88, _⟩ => ⟨S_, .f32⟩
  | .hbm, ⟨89, _⟩ => ⟨S1x8x16384x16384, .f32⟩
  | .hbm, ⟨90, _⟩ => ⟨S1x8x16384x16384, .f32⟩
  | .hbm, ⟨91, _⟩ => ⟨S1x8x16384x96, .f32⟩
  | .hbm, ⟨92, _⟩ => ⟨S1x16384x8x96, .f32⟩
  | .hbm, ⟨93, _⟩ => ⟨S1x8x16384x96, .f32⟩
  | .hbm, ⟨94, _⟩ => ⟨S1x16384x8x96, .f32⟩
  | .hbm, ⟨95, _⟩ => ⟨S1x16384x768, .f32⟩
  | .hbm, ⟨96, _⟩ => ⟨S1x16384x768, .f32⟩
  | .hbm, ⟨97, _⟩ => ⟨S16384x8x96, .f32⟩
  | .hbm, ⟨98, _⟩ => ⟨S_, .i32⟩
  | .hbm, ⟨99, _⟩ => ⟨S_, .f32⟩
  | .hbm, ⟨100, _⟩ => ⟨S16384x8x128, .f32⟩
  | .hbm, ⟨101, _⟩ => ⟨S16384x1024, .f32⟩
  | .hbm, ⟨102, _⟩ => ⟨S16384x8x96, .f32⟩
  | .hbm, ⟨103, _⟩ => ⟨S_, .i32⟩
  | .hbm, ⟨104, _⟩ => ⟨S_, .f32⟩
  | .hbm, ⟨105, _⟩ => ⟨S16384x8x128, .f32⟩
  | .hbm, ⟨106, _⟩ => ⟨S16384x1024, .f32⟩
  | .hbm, ⟨107, _⟩ => ⟨S16384x8x64, .f32⟩
  | .hbm, ⟨108, _⟩ => ⟨S_, .i32⟩
  | .hbm, ⟨109, _⟩ => ⟨S_, .f32⟩
  | .hbm, ⟨110, _⟩ => ⟨S16384x8x128, .f32⟩
  | .hbm, ⟨111, _⟩ => ⟨S16384x1024, .f32⟩
  | _, _ => ⟨S1x16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_call0_v0 : Ref sig .tc := ⟨.hbm, 17, rfl⟩
abbrev main_v10_1 : Ref sig .tc := ⟨.hbm, 18, rfl⟩
abbrev main_call0_v2 : Ref sig .tc := ⟨.hbm, 19, rfl⟩
abbrev main_v10_0 : Ref sig .tc := ⟨.hbm, 20, rfl⟩
abbrev main_call0_cst : Ref sig .tc := ⟨.hbm, 21, rfl⟩
abbrev main_v10_2 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c : Ref sig .tc := ⟨.hbm, 98, rfl⟩
abbrev main_call2_v0 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_14 : Ref sig .tc := ⟨.hbm, 103, rfl⟩
abbrev main_call3_v0 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_15 : Ref sig .tc := ⟨.hbm, 108, rfl⟩
abbrev main_call4_v0 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]
-- ==== FfnIn.lean ====
abbrev S1x16384x1024 : Shape := ⟨3, ![1, 16384, 1024]⟩
abbrev S1024 : Shape := ⟨1, ![1024]⟩
abbrev S1x1x1024 : Shape := ⟨3, ![1, 1, 1024]⟩
abbrev S1024x2816 : Shape := ⟨2, ![1024, 2816]⟩
abbrev S16384x2816 : Shape := ⟨2, ![16384, 2816]⟩
abbrev S1x1024 : Shape := ⟨2, ![1, 1024]⟩
abbrev S16384x1024 : Shape := ⟨2, ![16384, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 19
  | .vmem => 17
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x2816, .f32⟩
  | .hbm, ⟨5, _⟩ => ⟨S1024x2816, .f32⟩
  | .hbm, ⟨6, _⟩ => ⟨S1x16384x1024, .f32⟩
  | .hbm, ⟨7, _⟩ => ⟨S16384x2816, .bf16⟩
  | .hbm, ⟨8, _⟩ => ⟨S16384x2816, .bf16⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S1024x2816, .bf16⟩
  | .hbm, ⟨14, _⟩ => ⟨S1024x2816, .bf16⟩
  | .hbm, ⟨15, _⟩ => ⟨S16384x1024, .f32⟩
  | .hbm, ⟨16, _⟩ => ⟨S1x1024, .f32⟩
  | .hbm, ⟨17, _⟩ => ⟨S1x1024, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_16 : BitVec 32 := 0#32
  let v29 : BitVec 1 := Scalar.cmpi .ne v28 c0_i32_16
  v29

def k0_cond2 (i : grid0.Coords) : BitVec 1 :=
  let arg0 : BitVec 32 := BitVec.ofNat 32 (i 0).val
  let c0_i32_17 : BitVec 32 := 0#32
  let v30 : BitVec 1 := Scalar.cmpi .eq arg0 c0_i32_17
  let v_true : BitVec 1 := 1#1
  let v31 : BitVec 1 := Scalar.xori v30 v_true
  let v32 : BitVec 32 := Scalar.extui v31
  let c0_i32_18 : BitVec 32 := 0#32
  let v33 : BitVec 1 := Scalar.cmpi .ne v32 c0_i32_18
  v33

def k0_cond3 (i : grid0.Coords) : BitVec 1 :=
  let arg0 : BitVec 32 := BitVec.ofNat 32 (i 0).val
  let c0_i32_20 : BitVec 32 := 0#32
  let v37 : BitVec 1 := Scalar.cmpi .eq arg0 c0_i32_20
  let v38 : BitVec 32 := Scalar.extui v37
  let c0_i32_21 : BitVec 32 := 0#32
  let v39 : BitVec 1 := Scalar.cmpi .ne v38 c0_i32_21
  v39

def k0_cond4 (i : grid0.Coords) : BitVec 1 :=
  let arg0 : BitVec 32 := BitVec.ofNat 32 (i 0).val
  let c0_i32_22 : BitVec 32 := 0#32
  let v40 : BitVec 1 := Scalar.cmpi .eq arg0 c0_i32_22
  let true_23 : BitVec 1 := 1#1
  let v41 : BitVec 1 := Scalar.xori v40 true_23
  let v42 : BitVec 32 := Scalar.extui v41
  let c0_i32_24 : BitVec 32 := 0#32
  let v43 : BitVec 1 := Scalar.cmpi .ne v42 c0_i32_24
  v43

def k0_cond5 (i : grid0.Coords) : BitVec 1 :=
  let arg0 : BitVec 32 := BitVec.ofNat 32 (i 0).val
  let c0_i32_29 : BitVec 32 := 0#32
  let v53 : BitVec 1 := Scalar.cmpi .eq arg0 c0_i32_29
  let v54 : BitVec 32 := Scalar.extui v53
  let c0_i32_30 : BitVec 32 := 0#32
  let v55 : BitVec 1 := Scalar.cmpi .ne v54 c0_i32_30
  v55

def k0_cond6 (i : grid0.Coords) : BitVec 1 :=
  let arg0 : BitVec 32 := BitVec.ofNat 32 (i 0).val
  let c0_i32_31 : BitVec 32 := 0#32
  let v56 : BitVec 1 := Scalar.cmpi .eq arg0 c0_i32_31
  let true_32 : BitVec 1 := 1#1
  let v57 : BitVec 1 := Scalar.xori v56 true_32
  let v58 : BitVec 32 := Scalar.extui v57
  let c0_i32_33 : BitVec 32 := 0#32
  let v59 : BitVec 1 := Scalar.cmpi .ne v58 c0_i32_33
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnInRefIdeal.lean ====
abbrev S1x16384x1024 : Shape := ⟨3, ![1, 16384, 1024]⟩
abbrev S1024 : Shape := ⟨1, ![1024]⟩
abbrev S1x1x1024 : Shape := ⟨3, ![1, 1, 1024]⟩
abbrev S1024x2816 : Shape := ⟨2, ![1024, 2816]⟩
abbrev S16384x2816 : Shape := ⟨2, ![16384, 2816]⟩
abbrev S_ : Shape := ⟨0, ![]⟩
abbrev S1x16384 : Shape := ⟨2, ![1, 16384]⟩
abbrev S1x16384x1 : Shape := ⟨3, ![1, 16384, 1]⟩
abbrev S1x16384x2816 : Shape := ⟨3, ![1, 16384, 2816]⟩
abbrev S1x1024 : Shape := ⟨2, ![1, 1024]⟩
abbrev S16384 : Shape := ⟨1, ![16384]⟩
abbrev S16384x1024 : Shape := ⟨2, ![16384, 1024]⟩

abbrev nBuf : Space → Nat
  | .hbm => 85
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x2816, .f32⟩
  | .hbm, ⟨5, _⟩ => ⟨S1024x2816, .f32⟩
  | .hbm, ⟨6, _⟩ => ⟨S1x16384x1024, .f32⟩
  | .hbm, ⟨7, _⟩ => ⟨S16384x2816, .bf16⟩
  | .hbm, ⟨8, _⟩ => ⟨S16384x2816, .bf16⟩
  | .hbm, ⟨9, _⟩ => ⟨S1x16384x1024, .f32⟩
  | .hbm, ⟨10, _⟩ => ⟨S_, .f32⟩
  | .hbm, ⟨11, _⟩ => ⟨S1x16384, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S1x16384x1, .f32⟩
  | .hbm, ⟨20, _⟩ => ⟨S1x16384x1, .f32⟩
  | .hbm, ⟨21, _⟩ => ⟨S_, .f32⟩
  | .hbm, ⟨22, _⟩ => ⟨S1x16384x1, .f32⟩
  | .hbm, ⟨23, _⟩ => ⟨S1x16384x1, .f32⟩
  | .hbm, ⟨24, _⟩ => ⟨S1x16384x1024, .f32⟩
  | .hbm, ⟨25, _⟩ => ⟨S1x16384x1024, .f32⟩
  | .hbm, ⟨26, _⟩ => ⟨S1x1x1024, .f32⟩
  | .hbm, ⟨27, _⟩ => ⟨S1x16384x1024, .f32⟩
  | .hbm, ⟨28, _⟩ => ⟨S1x16384x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S1x16384x1024, .f32⟩
  | .hbm, ⟨33, _⟩ => ⟨S1x16384x1024, .f32⟩
  | .hbm, ⟨34, _⟩ => ⟨S1x16384x1024, .f32⟩
  | .hbm, ⟨35, _⟩ => ⟨S1x16384x1024, .f32⟩
  | .hbm, ⟨36, _⟩ => ⟨S1x16384x2816, .f32⟩
  | .hbm, ⟨37, _⟩ => ⟨S1x16384x2816, .f32⟩
  | .hbm, ⟨38, _⟩ => ⟨S16384x2816, .f32⟩
  | .hbm, ⟨39, _⟩ => ⟨S1x16384x2816, .f32⟩
  | .hbm, ⟨40, _⟩ => ⟨S16384x2816, .f32⟩
  | .hbm, ⟨41, _⟩ => ⟨S1x16384x2816, .f32⟩
  | .hbm, ⟨42, _⟩ => ⟨S1x16384x1024, .f32⟩
  | .hbm, ⟨43, _⟩ => ⟨S1x16384x1024, .f32⟩
  | .hbm, ⟨44, _⟩ => ⟨S1x16384x1024, .f32⟩
  | .hbm, ⟨45, _⟩ => ⟨S_, .f32⟩
  | .hbm, ⟨46, _⟩ => ⟨S1x1024, .f32⟩
  | .hbm, ⟨47, _⟩ => ⟨S1x1x1024, .f32⟩
  | .hbm, ⟨48, _⟩ => ⟨S1x16384x1024, .f32⟩
  | .hbm, ⟨49, _⟩ => ⟨S_, .f32⟩
  | .hbm, ⟨50, _⟩ => ⟨S1x1024, .f32⟩
  | .hbm, ⟨51, _⟩ => ⟨S1x1x1024, .f32⟩
  | .hbm, ⟨52, _⟩ => ⟨S1x16384x1024, .f32⟩
  | .hbm, ⟨53, _⟩ => ⟨S1x16384x1024, .f32⟩
  | .hbm, ⟨54, _⟩ => ⟨S1x16384x1024, .f32⟩
  | .hbm, ⟨55, _⟩ => ⟨S_, .f32⟩
  | .hbm, ⟨56, _⟩ => ⟨S1x1024, .f32⟩
  | .hbm, ⟨57, _⟩ => ⟨S1x1x1024, .f32⟩
  | .hbm, ⟨58, _⟩ => ⟨S1x16384x1024, .f32⟩
  | .hbm, ⟨59, _⟩ => ⟨S1x16384x1024, .f32⟩
  | .hbm, ⟨60, _⟩ => ⟨S_, .f32⟩
  | .hbm, ⟨61, _⟩ => ⟨S1024, .f32⟩
  | .hbm, ⟨62, _⟩ => ⟨S1x16384x1024, .f32⟩
  | .hbm, ⟨63, _⟩ => ⟨S_, .f32⟩
  | .hbm, ⟨64, _⟩ => ⟨S1x16384, .f32⟩
  | .hbm, ⟨65, _⟩ => ⟨S1x16384x1, .f32⟩
  | .hbm, ⟨66, _⟩ => ⟨S1x16384x1024, .f32⟩
  | .hbm, ⟨67, _⟩ => ⟨S1x16384x1024, .f32⟩
  | .hbm, ⟨68, _⟩ => ⟨S1x16384x1024, .f32⟩
  | .hbm, ⟨69, _⟩ => ⟨S1x16384x1, .f32⟩
  | .hbm, ⟨70, _⟩ => ⟨S_, .f32⟩
  | .hbm, ⟨71, _⟩ => ⟨S1x16384x1, .f32⟩
  | .hbm, ⟨72, _⟩ => ⟨S1x16384x1, .f32⟩
  | .hbm, ⟨73, _⟩ => ⟨S_, .f32⟩
  | .hbm, ⟨74, _⟩ => ⟨S16384, .f32⟩
  | .hbm, ⟨75, _⟩ => ⟨S1x16384, .f32⟩
  | .hbm, ⟨76, _⟩ => ⟨S1x16384x1024, .f32⟩
  | .hbm, ⟨77, _⟩ => ⟨S1x16384x1024, .f32⟩
  | .hbm, ⟨78, _⟩ => ⟨S1x16384x1024, .f32⟩
  | .hbm, ⟨79, _⟩ => ⟨S1x16384x1024, .f32⟩
  | .hbm, ⟨80, _⟩ => ⟨S1x16384x1024, .f32⟩
  | .hbm, ⟨81, _⟩ => ⟨S16384x1024, .f32⟩
  | .hbm, ⟨82, _⟩ => ⟨S1x1024, .f32⟩
  | .hbm, ⟨83, _⟩ => ⟨S1x1024, .f32⟩
  | .hbm, ⟨84, _⟩ => ⟨S1x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== In.lean ====
abbrev S1x16384x1024 : Shape := ⟨3, ![1, 16384, 1024]⟩
abbrev S1024 : Shape := ⟨1, ![1024]⟩
abbrev S1x1x1024 : Shape := ⟨3, ![1, 1, 1024]⟩
abbrev S1024x2976 : Shape := ⟨2, ![1024, 2976]⟩
abbrev S16384x512 : Shape := ⟨2, ![16384, 512]⟩
abbrev S16384x256 : Shape := ⟨2, ![16384, 256]⟩
abbrev S16384x128 : Shape := ⟨2, ![16384, 128]⟩
abbrev S16384x32 : Shape := ⟨2, ![16384, 32]⟩
abbrev S16384x1024 : Shape := ⟨2, ![16384, 1024]⟩
abbrev S1024x512 : Shape := ⟨2, ![1024, 512]⟩
abbrev S1024x256 : Shape := ⟨2, ![1024, 256]⟩
abbrev S1024x128 : Shape := ⟨2, ![1024, 128]⟩
abbrev S1024x32 : Shape := ⟨2, ![1024, 32]⟩
abbrev S_ : Shape := ⟨0, ![]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 32
  | .vmem => 29
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1x1024, .f32⟩
  | .hbm, ⟨3, _⟩ => ⟨S1024x2976, .f32⟩
  | .hbm, ⟨4, _⟩ => ⟨S1x16384x1024, .f32⟩
  | .hbm, ⟨5, _⟩ => ⟨S16384x512, .bf16⟩
  | .hbm, ⟨6, _⟩ => ⟨S16384x256, .bf16⟩
  | .hbm, ⟨7, _⟩ => ⟨S16384x128, .bf16⟩
  | .hbm, ⟨8, _⟩ => ⟨S16384x32, .bf16⟩
  | .hbm, ⟨9, _⟩ => ⟨S16384x1024, .bf16⟩
  | .hbm, ⟨10, _⟩ => ⟨S16384x1024, .bf16⟩
  | .hbm, ⟨11, _⟩ => ⟨S1024x2976, .bf16⟩
  | .hbm, ⟨12, _⟩ => ⟨S1024x512, .bf16⟩
  | .hbm, ⟨13, _⟩ => ⟨S1024x256, .bf16⟩
  | .hbm, ⟨14, _⟩ => ⟨S1024x128, .bf16⟩
  | .hbm, ⟨15, _⟩ => ⟨S1024x32, .bf16⟩
  | .hbm, ⟨16, _⟩ => ⟨S_, .i32⟩
  | .hbm, ⟨17, _⟩ => ⟨S_, .bf16⟩
  | .hbm, ⟨18, _⟩ => ⟨S1024x128, .bf16⟩
  | .hbm, ⟨19, _⟩ => ⟨S1024x1024, .bf16⟩
  | .hbm, ⟨20, _⟩ => ⟨S1024x1024, .bf16⟩
  | .hbm, ⟨21, _⟩ => ⟨S_, .i32⟩
  | .hbm, ⟨22, _⟩ => ⟨S_, .bf16⟩
  | .hbm, ⟨23, _⟩ => ⟨S16384x128, .bf16⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S1x1024, .f32⟩
  | .hbm, ⟨28, _⟩ => ⟨S16384x1024, .f32⟩
  | .hbm, ⟨29, _⟩ => ⟨S1x1024, .f32⟩
  | .hbm, ⟨30, _⟩ => ⟨S1x1024, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1024x512, .bf16⟩
  | .local _ .vmem, ⟨19, _⟩ => ⟨S1024x256, .bf16⟩
  | .local _ .vmem, ⟨20, _⟩ => ⟨S1024x128, .bf16⟩
  | .local _ .vmem, ⟨21, _⟩ => ⟨S1024x128, .bf16⟩
  | .local _ .vmem, ⟨22, _⟩ => ⟨S1024x1024, .bf16⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v13_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem19_0 : DmaSem sig := 28

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_36 : BitVec 32 := 0#32
  let v50 : BitVec 1 := Scalar.cmpi .ne v49 c0_i32_36
  v50

def k0_cond2 (i : grid0.Coords) : BitVec 1 :=
  let arg0 : BitVec 32 := BitVec.ofNat 32 (i 0).val
  let c0_i32_37 : BitVec 32 := 0#32
  let v51 : BitVec 1 := Scalar.cmpi .eq arg0 c0_i32_37
  let v_true : BitVec 1 := 1#1
  let v52 : BitVec 1 := Scalar.xori v51 v_true
  let v53 : BitVec 32 := Scalar.extui v52
  let c0_i32_38 : BitVec 32 := 0#32
  let v54 : BitVec 1 := Scalar.cmpi .ne v53 c0_i32_38
  v54

def k0_cond3 (i : grid0.Coords) : BitVec 1 :=
  let arg0 : BitVec 32 := BitVec.ofNat 32 (i 0).val
  let c0_i32_40 : BitVec 32 := 0#32
  let v58 : BitVec 1 := Scalar.cmpi .eq arg0 c0_i32_40
  let v59 : BitVec 32 := Scalar.extui v58
  let c0_i32_41 : BitVec 32 := 0#32
  let v60 : BitVec 1 := Scalar.cmpi .ne v59 c0_i32_41
  v60

def k0_cond4 (i : grid0.Coords) : BitVec 1 :=
  let arg0 : BitVec 32 := BitVec.ofNat 32 (i 0).val
  let c0_i32_42 : BitVec 32 := 0#32
  let v61 : BitVec 1 := Scalar.cmpi .eq arg0 c0_i32_42
  let true_43 : BitVec 1 := 1#1
  let v62 : BitVec 1 := Scalar.xori v61 true_43
  let v63 : BitVec 32 := Scalar.extui v62
  let c0_i32_44 : BitVec 32 := 0#32
  let v64 : BitVec 1 := Scalar.cmpi .ne v63 c0_i32_44
  v64

def k0_cond5 (i : grid0.Coords) : BitVec 1 :=
  let arg0 : BitVec 32 := BitVec.ofNat 32 (i 0).val
  let c0_i32_49 : BitVec 32 := 0#32
  let v74 : BitVec 1 := Scalar.cmpi .eq arg0 c0_i32_49
  let v75 : BitVec 32 := Scalar.extui v74
  let c0_i32_50 : BitVec 32 := 0#32
  let v76 : BitVec 1 := Scalar.cmpi .ne v75 c0_i32_50
  v76

def k0_cond6 (i : grid0.Coords) : BitVec 1 :=
  let arg0 : BitVec 32 := BitVec.ofNat 32 (i 0).val
  let c0_i32_51 : BitVec 32 := 0#32
  let v77 : BitVec 1 := Scalar.cmpi .eq arg0 c0_i32_51
  let true_52 : BitVec 1 := 1#1
  let v78 : BitVec 1 := Scalar.xori v77 true_52
  let v79 : BitVec 32 := Scalar.extui v78
  let c0_i32_53 : BitVec 32 := 0#32
  let v80 : BitVec 1 := Scalar.cmpi .ne v79 c0_i32_53
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== InRefIdeal.lean ====
abbrev S1x16384x1024 : Shape := ⟨3, ![1, 16384, 1024]⟩
abbrev S1024 : Shape := ⟨1, ![1024]⟩
abbrev S1x1x1024 : Shape := ⟨3, ![1, 1, 1024]⟩
abbrev S1024x2976 : Shape := ⟨2, ![1024, 2976]⟩
abbrev S16384x512 : Shape := ⟨2, ![16384, 512]⟩
abbrev S16384x256 : Shape := ⟨2, ![16384, 256]⟩
abbrev S16384x128 : Shape := ⟨2, ![16384, 128]⟩
abbrev S16384x32 : Shape := ⟨2, ![16384, 32]⟩
abbrev S16384x1024 : Shape := ⟨2, ![16384, 1024]⟩
abbrev S_ : Shape := ⟨0, ![]⟩
abbrev S1x16384 : Shape := ⟨2, ![1, 16384]⟩
abbrev S1x16384x1 : Shape := ⟨3, ![1, 16384, 1]⟩
abbrev S1x16384x2976 : Shape := ⟨3, ![1, 16384, 2976]⟩
abbrev S1x16384x512 : Shape := ⟨3, ![1, 16384, 512]⟩
abbrev S1x16384x256 : Shape := ⟨3, ![1, 16384, 256]⟩
abbrev S1x16384x128 : Shape := ⟨3, ![1, 16384, 128]⟩
abbrev S1x16384x32 : Shape := ⟨3, ![1, 16384, 32]⟩
abbrev S1x1024 : Shape := ⟨2, ![1, 1024]⟩
abbrev S16384 : Shape := ⟨1, ![16384]⟩

abbrev nBuf : Space → Nat
  | .hbm => 101
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1x1024, .f32⟩
  | .hbm, ⟨3, _⟩ => ⟨S1024x2976, .f32⟩
  | .hbm, ⟨4, _⟩ => ⟨S1x16384x1024, .f32⟩
  | .hbm, ⟨5, _⟩ => ⟨S16384x512, .bf16⟩
  | .hbm, ⟨6, _⟩ => ⟨S16384x256, .bf16⟩
  | .hbm, ⟨7, _⟩ => ⟨S16384x128, .bf16⟩
  | .hbm, ⟨8, _⟩ => ⟨S16384x32, .bf16⟩
  | .hbm, ⟨9, _⟩ => ⟨S16384x1024, .bf16⟩
  | .hbm, ⟨10, _⟩ => ⟨S16384x1024, .bf16⟩
  | .hbm, ⟨11, _⟩ => ⟨S_, .f32⟩
  | .hbm, ⟨12, _⟩ => ⟨S1x1x1024, .f32⟩
  | .hbm, ⟨13, _⟩ => ⟨S1x16384x1024, .f32⟩
  | .hbm, ⟨14, _⟩ => ⟨S_, .f32⟩
  | .hbm, ⟨15, _⟩ => ⟨S1x16384, .f32⟩
  | .hbm, ⟨16, _⟩ => ⟨S1x16384x1, .f32⟩
  | .hbm, ⟨17, _⟩ => ⟨S_, .f32⟩
  | .hbm, ⟨18, _⟩ => ⟨S1x16384x1, .f32⟩
  | .hbm, ⟨19, _⟩ => ⟨S1x16384x1, .f32⟩
  | .hbm, ⟨20, _⟩ => ⟨S_, .f32⟩
  | .hbm, ⟨21, _⟩ => ⟨S1x16384x1, .f32⟩
  | .hbm, ⟨22, _⟩ => ⟨S1x16384x1, .f32⟩
  | .hbm, ⟨23, _⟩ => ⟨S1x16384x1, .f32⟩
  | .hbm, ⟨24, _⟩ => ⟨S1x16384x1, .f32⟩
  | .hbm, ⟨25, _⟩ => ⟨S_, .f32⟩
  | .hbm, ⟨26, _⟩ => ⟨S1x16384x1, .f32⟩
  | .hbm, ⟨27, _⟩ => ⟨S1x16384x1, .f32⟩
  | .hbm, ⟨28, _⟩ => ⟨S1x16384x1024, .f32⟩
  | .hbm, ⟨29, _⟩ => ⟨S1x16384x1024, .f32⟩
  | .hbm, ⟨30, _⟩ => ⟨S1x1x1024, .f32⟩
  | .hbm, ⟨31, _⟩ => ⟨S1x16384x1024, .f32⟩
  | .hbm, ⟨32, _⟩ => ⟨S1x16384x1024, .f32⟩
  | .hbm, ⟨33, _⟩ => ⟨S_, .f32⟩
  | .hbm, ⟨34, _⟩ => ⟨S1x1x1024, .f32⟩
  | .hbm, ⟨35, _⟩ => ⟨S1x1x1024, .f32⟩
  | .hbm, ⟨36, _⟩ => ⟨S1x16384x1024, .f32⟩
  | .hbm, ⟨37, _⟩ => ⟨S1x16384x1024, .f32⟩
  | .hbm, ⟨38, _⟩ => ⟨S1x16384x1024, .f32⟩
  | .hbm, ⟨39, _⟩ => ⟨S1x16384x1024, .f32⟩
  | .hbm, ⟨40, _⟩ => ⟨S1x16384x2976, .f32⟩
  | .hbm, ⟨41, _⟩ => ⟨S1x16384x512, .f32⟩
  | .hbm, ⟨42, _⟩ => ⟨S1x16384x256, .f32⟩
  | .hbm, ⟨43, _⟩ => ⟨S1x16384x128, .f32⟩
  | .hbm, ⟨44, _⟩ => ⟨S1x16384x32, .f32⟩
  | .hbm, ⟨45, _⟩ => ⟨S1x16384x1024, .f32⟩
  | .hbm, ⟨46, _⟩ => ⟨S1x16384x1024, .f32⟩
  | .hbm, ⟨47, _⟩ => ⟨S16384x512, .f32⟩
  | .hbm, ⟨48, _⟩ => ⟨S1x16384x512, .f32⟩
  | .hbm, ⟨49, _⟩ => ⟨S16384x256, .f32⟩
  | .hbm, ⟨50, _⟩ => ⟨S1x16384x256, .f32⟩
  | .hbm, ⟨51, _⟩ => ⟨S16384x128, .f32⟩
  | .hbm, ⟨52, _⟩ => ⟨S1x16384x128, .f32⟩
  | .hbm, ⟨53, _⟩ => ⟨S16384x32, .f32⟩
  | .hbm, ⟨54, _⟩ => ⟨S1x16384x32, .f32⟩
  | .hbm, ⟨55, _⟩ => ⟨S16384x1024, .f32⟩
  | .hbm, ⟨56, _⟩ => ⟨S1x16384x1024, .f32⟩
  | .hbm, ⟨57, _⟩ => ⟨S16384x1024, .f32⟩
  | .hbm, ⟨58, _⟩ => ⟨S1x16384x1024, .f32⟩
  | .hbm, ⟨59, _⟩ => ⟨S1x16384x2976, .f32⟩
  | .hbm, ⟨60, _⟩ => ⟨S1x16384x1024, .f32⟩
  | .hbm, ⟨61, _⟩ => ⟨S_, .f32⟩
  | .hbm, ⟨62, _⟩ => ⟨S1x1024, .f32⟩
  | .hbm, ⟨63, _⟩ => ⟨S1x1x1024, .f32⟩
  | .hbm, ⟨64, _⟩ => ⟨S1x16384x1024, .f32⟩
  | .hbm, ⟨65, _⟩ => ⟨S_, .f32⟩
  | .hbm, ⟨66, _⟩ => ⟨S1x1024, .f32⟩
  | .hbm, ⟨67, _⟩ => ⟨S1x1x1024, .f32⟩
  | .hbm, ⟨68, _⟩ => ⟨S1x16384x1024, .f32⟩
  | .hbm, ⟨69, _⟩ => ⟨S1x16384x1024, .f32⟩
  | .hbm, ⟨70, _⟩ => ⟨S1x16384x1024, .f32⟩
  | .hbm, ⟨71, _⟩ => ⟨S_, .f32⟩
  | .hbm, ⟨72, _⟩ => ⟨S1x1024, .f32⟩
  | .hbm, ⟨73, _⟩ => ⟨S1x1x1024, .f32⟩
  | .hbm, ⟨74, _⟩ => ⟨S1x16384x1024, .f32⟩
  | .hbm, ⟨75, _⟩ => ⟨S1x16384x1024, .f32⟩
  | .hbm, ⟨76, _⟩ => ⟨S_, .f32⟩
  | .hbm, ⟨77, _⟩ => ⟨S1024, .f32⟩
  | .hbm, ⟨78, _⟩ => ⟨S1x16384x1024, .f32⟩
  | .hbm, ⟨79, _⟩ => ⟨S_, .f32⟩
  | .hbm, ⟨80, _⟩ => ⟨S1x16384, .f32⟩
  | .hbm, ⟨81, _⟩ => ⟨S1x16384x1, .f32⟩
  | .hbm, ⟨82, _⟩ => ⟨S1x16384x1024, .f32⟩
  | .hbm, ⟨83, _⟩ => ⟨S1x16384x1024, .f32⟩
  | .hbm, ⟨84, _⟩ => ⟨S1x16384x1024, .f32⟩
  | .hbm, ⟨85, _⟩ => ⟨S1x16384x1, .f32⟩
  | .hbm, ⟨86, _⟩ => ⟨S_, .f32⟩
  | .hbm, ⟨87, _⟩ => ⟨S1x16384x1, .f32⟩
  | .hbm, ⟨88, _⟩ => ⟨S1x16384x1, .f32⟩
  | .hbm, ⟨89, _⟩ => ⟨S_, .f32⟩
  | .hbm, ⟨90, _⟩ => ⟨S16384, .f32⟩
  | .hbm, ⟨91, _⟩ => ⟨S1x16384, .f32⟩
  | .hbm, ⟨92, _⟩ => ⟨S1x16384x1024, .f32⟩
  | .hbm, ⟨93, _⟩ => ⟨S1x16384x1024, .f32⟩
  | .hbm, ⟨94, _⟩ => ⟨S1x16384x1024, .f32⟩
  | .hbm, ⟨95, _⟩ => ⟨S1x16384x1024, .f32⟩
  | .hbm, ⟨96, _⟩ => ⟨S1x16384x1024, .f32⟩
  | .hbm, ⟨97, _⟩ => ⟨S16384x1024, .f32⟩
  | .hbm, ⟨98, _⟩ => ⟨S1x1024, .f32⟩
  | .hbm, ⟨99, _⟩ => ⟨S1x1024, .f32⟩
  | .hbm, ⟨100, _⟩ => ⟨S1x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== FfnAct.lean ====
abbrev S1x16384x1024 : Shape := ⟨3, ![1, 16384, 1024]⟩
abbrev S1024 : Shape := ⟨1, ![1024]⟩
abbrev S1x1x1024 : Shape := ⟨3, ![1, 1, 1024]⟩
abbrev S1024x2816 : Shape := ⟨2, ![1024, 2816]⟩
abbrev S2816x1024 : Shape := ⟨2, ![2816, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S256x1024 : Shape := ⟨2, ![256, 1024]⟩
abbrev S256x2816 : Shape := ⟨2, ![256, 2816]⟩

abbrev nBuf : Space → Nat
  | .hbm => 60
  | .vmem => 19
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x16384x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .bf16⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S_, .f32⟩
  | .hbm, ⟨44, _⟩ => ⟨S16384x2816, .f32⟩
  | .hbm, ⟨45, _⟩ => ⟨S16384x2816, .f32⟩
  | .hbm, ⟨46, _⟩ => ⟨S_, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .bf16⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x2816, .bf16⟩
  | .hbm, ⟨56, _⟩ => ⟨S16384x2816, .bf16⟩
  | .hbm, ⟨57, _⟩ => ⟨S16384x2816, .bf16⟩
  | .hbm, ⟨58, _⟩ => ⟨S16384x1024, .bf16⟩
  | .hbm, ⟨59, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2816x1024, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40_0 : Ref sig .tc := ⟨.hbm, 55, rfl⟩
abbrev main_v40_1 : Ref sig .tc := ⟨.hbm, 56, rfl⟩
abbrev main_v40_2 : Ref sig .tc := ⟨.hbm, 57, rfl⟩
abbrev main_v40_3 : Ref sig .tc := ⟨.hbm, 58, rfl⟩
abbrev main_v40_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_7 : BitVec 32 := 0#32
  let v15 : BitVec 1 := Scalar.cmpi .ne v14 c0_i32_7
  v15

def k0_cond2 (i : grid0.Coords) : BitVec 1 :=
  let arg0 : BitVec 32 := BitVec.ofNat 32 (i 0).val
  let c0_i32_8 : BitVec 32 := 0#32
  let v16 : BitVec 1 := Scalar.cmpi .eq arg0 c0_i32_8
  let v_true : BitVec 1 := 1#1
  let v17 : BitVec 1 := Scalar.xori v16 v_true
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnActRefIdeal.lean ====
abbrev S1x16384x1024 : Shape := ⟨3, ![1, 16384, 1024]⟩
abbrev S1024 : Shape := ⟨1, ![1024]⟩
abbrev S1x1x1024 : Shape := ⟨3, ![1, 1, 1024]⟩
abbrev S1024x2816 : Shape := ⟨2, ![1024, 2816]⟩
abbrev S2816x1024 : Shape := ⟨2, ![2816, 1024]⟩
abbrev S_ : Shape := ⟨0, ![]⟩
abbrev S1x16384 : Shape := ⟨2, ![1, 16384]⟩
abbrev S1x16384x1 : Shape := ⟨3, ![1, 16384, 1]⟩
abbrev S1x16384x2816 : Shape := ⟨3, ![1, 16384, 2816]⟩
abbrev S1x1024 : Shape := ⟨2, ![1, 1024]⟩
abbrev S16384x2816 : Shape := ⟨2, ![16384, 2816]⟩
abbrev S16384x1024 : Shape := ⟨2, ![16384, 1024]⟩

abbrev nBuf : Space → Nat
  | .hbm => 74
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1x16384x1024, .f32⟩
  | .hbm, ⟨9, _⟩ => ⟨S1x16384x1024, .f32⟩
  | .hbm, ⟨10, _⟩ => ⟨S_, .f32⟩
  | .hbm, ⟨11, _⟩ => ⟨S1x16384, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S1x16384x1, .f32⟩
  | .hbm, ⟨20, _⟩ => ⟨S1x16384x1024, .f32⟩
  | .hbm, ⟨21, _⟩ => ⟨S1x16384x1024, .f32⟩
  | .hbm, ⟨22, _⟩ => ⟨S1x1x1024, .f32⟩
  | .hbm, ⟨23, _⟩ => ⟨S1x16384x1024, .f32⟩
  | .hbm, ⟨24, _⟩ => ⟨S1x16384x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x16384x1024, .f32⟩
  | .hbm, ⟨29, _⟩ => ⟨S1x16384x1024, .f32⟩
  | .hbm, ⟨30, _⟩ => ⟨S1x16384x1024, .f32⟩
  | .hbm, ⟨31, _⟩ => ⟨S1x16384x1024, .f32⟩
  | .hbm, ⟨32, _⟩ => ⟨S1x16384x2816, .f32⟩
  | .hbm, ⟨33, _⟩ => ⟨S1x16384x2816, .f32⟩
  | .hbm, ⟨34, _⟩ => ⟨S1x16384x2816, .f32⟩
  | .hbm, ⟨35, _⟩ => ⟨S1x16384x2816, .f32⟩
  | .hbm, ⟨36, _⟩ => ⟨S_, .f32⟩
  | .hbm, ⟨37, _⟩ => ⟨S1x16384x2816, .f32⟩
  | .hbm, ⟨38, _⟩ => ⟨S1x16384x2816, .f32⟩
  | .hbm, ⟨39, _⟩ => ⟨S_, .f32⟩
  | .hbm, ⟨40, _⟩ => ⟨S1x16384x2816, .f32⟩
  | .hbm, ⟨41, _⟩ => ⟨S1x16384x2816, .f32⟩
  | .hbm, ⟨42, _⟩ => ⟨S_, .f32⟩
  | .hbm, ⟨43, _⟩ => ⟨S1x16384x2816, .f32⟩
  | .hbm, ⟨44, _⟩ => ⟨S1x16384x2816, .f32⟩
  | .hbm, ⟨45, _⟩ => ⟨S1x16384x2816, .f32⟩
  | .hbm, ⟨46, _⟩ => ⟨S1x16384x2816, .f32⟩
  | .hbm, ⟨47, _⟩ => ⟨S1x16384x2816, .f32⟩
  | .hbm, ⟨48, _⟩ => ⟨S1x16384x1024, .f32⟩
  | .hbm, ⟨49, _⟩ => ⟨S1x16384x1024, .f32⟩
  | .hbm, ⟨50, _⟩ => ⟨S1x16384x1024, .f32⟩
  | .hbm, ⟨51, _⟩ => ⟨S1x16384x1024, .f32⟩
  | .hbm, ⟨52, _⟩ => ⟨S1x16384x1024, .f32⟩
  | .hbm, ⟨53, _⟩ => ⟨S1x16384x1024, .f32⟩
  | .hbm, ⟨54, _⟩ => ⟨S1x16384x1024, .f32⟩
  | .hbm, ⟨55, _⟩ => ⟨S_, .f32⟩
  | .hbm, ⟨56, _⟩ => ⟨S1x1024, .f32⟩
  | .hbm, ⟨57, _⟩ => ⟨S1x1x1024, .f32⟩
  | .hbm, ⟨58, _⟩ => ⟨S1x16384x2816, .f32⟩
  | .hbm, ⟨59, _⟩ => ⟨S1x16384x2816, .f32⟩
  | .hbm, ⟨60, _⟩ => ⟨S1x16384x2816, .f32⟩
  | .hbm, ⟨61, _⟩ => ⟨S1x16384x2816, .f32⟩
  | .hbm, ⟨62, _⟩ => ⟨S1x16384x2816, .f32⟩
  | .hbm, ⟨63, _⟩ => ⟨S1x16384x2816, .f32⟩
  | .hbm, ⟨64, _⟩ => ⟨S1x16384x2816, .f32⟩
  | .hbm, ⟨65, _⟩ => ⟨S16384x2816, .f32⟩
  | .hbm, ⟨66, _⟩ => ⟨S16384x2816, .bf16⟩
  | .hbm, ⟨67, _⟩ => ⟨S16384x2816, .f32⟩
  | .hbm, ⟨68, _⟩ => ⟨S16384x2816, .bf16⟩
  | .hbm, ⟨69, _⟩ => ⟨S16384x2816, .f32⟩
  | .hbm, ⟨70, _⟩ => ⟨S16384x2816, .bf16⟩
  | .hbm, ⟨71, _⟩ => ⟨S16384x1024, .f32⟩
  | .hbm, ⟨72, _⟩ => ⟨S16384x1024, .bf16⟩
  | .hbm, ⟨73, _⟩ => ⟨S1x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v21_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v21_1 : Ref sig .tc := ⟨.hbm, 45, rfl⟩
abbrev main_v21_0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩

abbrev nD : Nat := 1
abbrev τ : Topo := Topo.v7x

variable {F : FTy → Type} [FloatOps F]
-- ==== Disc.lean ====
abbrev S4x32x64 : Shape := ⟨3, ![4, 32, 64]⟩
abbrev S4x32 : Shape := ⟨2, ![4, 32]⟩
abbrev S4x32x64x16 : Shape := ⟨4, ![4, 32, 64, 16]⟩
abbrev S4x32x1 : Shape := ⟨3, ![4, 32, 1]⟩
abbrev S8192x1 : Shape := ⟨2, ![8192, 1]⟩
abbrev S8192x16 : Shape := ⟨2, ![8192, 16]⟩
abbrev S1024x1 : Shape := ⟨2, ![1024, 1]⟩
abbrev S1024x16 : Shape := ⟨2, ![1024, 16]⟩
abbrev S1024 : Shape := ⟨1, ![1024]⟩

abbrev nBuf : Space → Nat
  | .hbm => 25
  | .vmem => 28
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32, .f32⟩
  | .hbm, ⟨3, _⟩ => ⟨S4x32x64x16, .f32⟩
  | .hbm, ⟨4, _⟩ => ⟨S4x32x64x16, .f32⟩
  | .hbm, ⟨5, _⟩ => ⟨S4x32x64, .f32⟩
  | .hbm, ⟨6, _⟩ => ⟨S4x32x64, .f32⟩
  | .hbm, ⟨7, _⟩ => ⟨S4x32x64x16, .f32⟩
  | .hbm, ⟨8, _⟩ => ⟨S4x32x64x16, .f32⟩
  | .hbm, ⟨9, _⟩ => ⟨S4x32x1, .f32⟩
  | .hbm, ⟨10, _⟩ => ⟨S4x32x64, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x16, .f32⟩
  | .hbm, ⟨15, _⟩ => ⟨S8192x16, .f32⟩
  | .hbm, ⟨16, _⟩ => ⟨S8192x1, .f32⟩
  | .hbm, ⟨17, _⟩ => ⟨S8192x1, .f32⟩
  | .hbm, ⟨18, _⟩ => ⟨S8192x16, .f32⟩
  | .hbm, ⟨19, _⟩ => ⟨S8192x16, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x16, .f32⟩
  | .hbm, ⟨24, _⟩ => ⟨S8192x16, .f32⟩
  | .local _ .vmem, ⟨0, _⟩ => ⟨S1024x1, .f32⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x16, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x16, .f32⟩
  | .local _ .vmem, ⟨15, _⟩ => ⟨S1024x16, .f32⟩
  | .local _ .vmem, ⟨16, _⟩ => ⟨S1024x16, .f32⟩
  | .local _ .vmem, ⟨17, _⟩ => ⟨S1024x16, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x16, .f32⟩
  | .local _ .vmem, ⟨25, _⟩ => ⟨S1024x16, .f32⟩
  | .local _ .vmem, ⟨26, _⟩ => ⟨S1024x16, .f32⟩
  | .local _ .vmem, ⟨27, _⟩ => ⟨S1024x16, .f32⟩
  | _, _ => ⟨S4x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== DiscRefIdeal.lean ====
abbrev S4x32x64 : Shape := ⟨3, ![4, 32, 64]⟩
abbrev S4x32 : Shape := ⟨2, ![4, 32]⟩
abbrev S4x32x64x16 : Shape := ⟨4, ![4, 32, 64, 16]⟩
abbrev S4x32x1 : Shape := ⟨3, ![4, 32, 1]⟩
abbrev S_ : Shape := ⟨0, ![]⟩
abbrev S4x32x64x1 : Shape := ⟨4, ![4, 32, 64, 1]⟩
abbrev S8192x1 : Shape := ⟨2, ![8192, 1]⟩
abbrev S8192x16 : Shape := ⟨2, ![8192, 16]⟩

abbrev nBuf : Space → Nat
  | .hbm => 150
  | .vmem => 0
  | .smem => 0
  | _ => 0

abbrev hbmTy0_0 (i : Nat) : BufTy := match i % 128 with
  | 0 => ⟨S4x32x64, .f32⟩
  | 1 => ⟨S4x32x64, .f32⟩
  | 2 => ⟨S4x32, .f32⟩
  | 3 => ⟨S4x32x64x16, .f32⟩
  | 4 => ⟨S4x32x64x16, .f32⟩
  | 5 => ⟨S4x32x64, .f32⟩
  | 6 => ⟨S4x32x64, .f32⟩
  | 7 => ⟨S4x32x64x16, .f32⟩
  | 8 => ⟨S4x32x64x16, .f32⟩
  | 9 => ⟨S4x32x1, .f32⟩
  | 10 => ⟨S4x32x64, .f32⟩
  | 11 => ⟨S4x32x64, .f32⟩
  | 12 => ⟨S4x32x64, .f32⟩
  | 13 => ⟨S4x32x64, .f32⟩
  | 14 => ⟨S4x32x64, .f32⟩
  | 15 => ⟨S4x32x64, .f32⟩
  | 16 => ⟨S4x32x64, .f32⟩
  | 17 => ⟨S4x32x64, .f32⟩
  | 18 => ⟨S4x32x64, .f32⟩
  | 19 => ⟨S4x32x64, .f32⟩
  | 20 => ⟨S4x32x64, .f32⟩
  | 21 => ⟨S4x32x64, .f32⟩
  | 22 => ⟨S4x32x64, .f32⟩
  | 23 => ⟨S4x32x64, .f32⟩
  | 24 => ⟨S4x32x64, .f32⟩
  | 25 => ⟨S_, .f32⟩
  | 26 => ⟨S4x32x64, .f32⟩
  | 27 => ⟨S4x32x64, .f32⟩
  | 28 => ⟨S4x32x64, .f32⟩
  | 29 => ⟨S4x32x64, .f32⟩
  | 30 => ⟨S4x32x64, .f32⟩
  | 31 => ⟨S4x32x64, .f32⟩
  | 32 => ⟨S4x32x64, .f32⟩
  | 33 => ⟨S_, .f32⟩
  | 34 => ⟨S4x32x64, .f32⟩
  | 35 => ⟨S4x32x64, .f32⟩
  | 36 => ⟨S4x32x64x1, .f32⟩
  | 37 => ⟨S4x32x64, .f32⟩
  | 38 => ⟨S4x32x64, .f32⟩
  | 39 => ⟨S4x32x64, .f32⟩
  | 40 => ⟨S4x32x64, .f32⟩
  | 41 => ⟨S4x32x64, .f32⟩
  | 42 => ⟨S_, .f32⟩
  | 43 => ⟨S4x32x64, .f32⟩
  | 44 => ⟨S4x32x64, .f32⟩
  | 45 => ⟨S4x32x64x1, .f32⟩
  | 46 => ⟨S4x32x64x16, .f32⟩
  | 47 => ⟨S4x32x64x16, .f32⟩
  | 48 => ⟨S4x32x64x16, .f32⟩
  | 49 => ⟨S4x32x64x16, .f32⟩
  | 50 => ⟨S4x32x64x16, .f32⟩
  | 51 => ⟨S4x32x64x16, .f32⟩
  | 52 => ⟨S4x32x64x16, .f32⟩
  | 53 => ⟨S4x32x64x16, .f32⟩
  | 54 => ⟨S4x32x64x16, .f32⟩
  | 55 => ⟨S4x32x64x16, .f32⟩
  | 56 => ⟨S4x32x64x16, .f32⟩
  | 57 => ⟨S4x32x64x16, .f32⟩
  | 58 => ⟨S4x32x64x16, .f32⟩
  | 59 => ⟨S4x32x64x16, .f32⟩
  | 60 => ⟨S4x32x64x16, .f32⟩
  | 61 => ⟨S_, .f32⟩
  | 62 => ⟨S4x32x64, .f32⟩
  | 63 => ⟨S4x32x64x1, .f32⟩
  | 64 => ⟨S4x32x64x16, .f32⟩
  | 65 => ⟨S4x32x64x16, .f32⟩
  | 66 => ⟨S4x32x64x16, .f32⟩
  | 67 => ⟨S_, .f32⟩
  | 68 => ⟨S4x32x64, .f32⟩
  | 69 => ⟨S4x32x64x1, .f32⟩
  | 70 => ⟨S4x32x64x16, .f32⟩
  | 71 => ⟨S4x32x64x16, .f32⟩
  | 72 => ⟨S4x32x64x16, .f32⟩
  | 73 => ⟨S4x32x64x16, .f32⟩
  | 74 => ⟨S4x32x64x16, .f32⟩
  | 75 => ⟨S4x32x64x16, .f32⟩
  | 76 => ⟨S_, .f32⟩
  | 77 => ⟨S4x32x64, .f32⟩
  | 78 => ⟨S4x32x64x1, .f32⟩
  | 79 => ⟨S4x32x64x1, .f32⟩
  | 80 => ⟨S4x32x64x16, .f32⟩
  | 81 => ⟨S4x32x64x16, .f32⟩
  | 82 => ⟨S4x32x64x16, .f32⟩
  | 83 => ⟨S4x32x64x16, .f32⟩
  | 84 => ⟨S_, .f32⟩
  | 85 => ⟨S4x32x64, .f32⟩
  | 86 => ⟨S4x32x64x1, .f32⟩
  | 87 => ⟨S4x32x64x1, .f32⟩
  | 88 => ⟨S_, .f32⟩
  | 89 => ⟨S4x32x64, .f32⟩
  | 90 => ⟨S4x32x64, .f32⟩
  | 91 => ⟨S4x32x64, .f32⟩
  | 92 => ⟨S4x32x64, .f32⟩
  | 93 => ⟨S4x32x64, .f32⟩
  | 94 => ⟨S4x32x64, .f32⟩
  | 95 => ⟨S4x32x64, .f32⟩
  | 96 => ⟨S4x32x64, .f32⟩
  | 97 => ⟨S4x32x64, .f32⟩
  | 98 => ⟨S4x32x64, .f32⟩
  | 99 => ⟨S4x32x64, .f32⟩
  | 100 => ⟨S4x32x64, .f32⟩
  | 101 => ⟨S_, .f32⟩
  | 102 => ⟨S4x32x64, .f32⟩
  | 103 => ⟨S4x32x64, .f32⟩
  | 104 => ⟨S4x32x64, .f32⟩
  | 105 => ⟨S4x32x64, .f32⟩
  | 106 => ⟨S4x32x64, .f32⟩
  | 107 => ⟨S4x32x64, .f32⟩
  | 108 => ⟨S4x32x64, .f32⟩
  | 109 => ⟨S4x32x64, .f32⟩
  | 110 => ⟨S4x32x64, .f32⟩
  | 111 => ⟨S4x32x64, .f32⟩
  | 112 => ⟨S4x32x64, .f32⟩
  | 113 => ⟨S4x32x64, .f32⟩
  | 114 => ⟨S4x32x64, .f32⟩
  | 115 => ⟨S4x32x64, .f32⟩
  | 116 => ⟨S4x32x64, .f32⟩
  | 117 => ⟨S4x32x64, .f32⟩
  | 118 => ⟨S4x32x64, .f32⟩
  | 119 => ⟨S4x32x64, .f32⟩
  | 120 => ⟨S4x32x64, .f32⟩
  | 121 => ⟨S4x32x64, .f32⟩
  | 122 => ⟨S4x32x64, .f32⟩
  | 123 => ⟨S4x32x64, .f32⟩
  | 124 => ⟨S4x32x64, .f32⟩
  | 125 => ⟨S4x32x64, .f32⟩
  | 126 => ⟨S4x32x64, .f32⟩
  | 127 => ⟨S4x32x64, .f32⟩
  | _ => ⟨S4x32x64, .f32⟩

abbrev hbmTy0_1 (i : Nat) : BufTy := match i % 128 with
  | 0 => ⟨S4x32x64, .f32⟩
  | 1 => ⟨S4x32x64, .f32⟩
  | 2 => ⟨S4x32x64, .f32⟩
  | 3 => ⟨S4x32x64, .f32⟩
  | 4 => ⟨S4x32x64, .f32⟩
  | 5 => ⟨S4x32x64, .f32⟩
  | 6 => ⟨S4x32x64, .f32⟩
  | 7 => ⟨S4x32x64, .f32⟩
  | 8 => ⟨S4x32x64, .f32⟩
  | 9 => ⟨S4x32x64, .f32⟩
  | 10 => ⟨S4x32x64, .f32⟩
  | 11 => ⟨S4x32x64, .f32⟩
  | 12 => ⟨S4x32x64, .f32⟩
  | 13 => ⟨S4x32x64, .f32⟩
  | 14 => ⟨S4x32x64, .f32⟩
  | 15 => ⟨S4x32x64, .f32⟩
  | 16 => ⟨S4x32x64, .f32⟩
  | 17 => ⟨S8192x1, .f32⟩
  | 18 => ⟨S8192x1, .f32⟩
  | 19 => ⟨S8192x1, .f32⟩
  | 20 => ⟨S8192x16, .f32⟩
  | 21 => ⟨S8192x16, .f32⟩
  | _ => ⟨S4x32x64, .f32⟩

abbrev hbmTy (i : Nat) : BufTy := match i / 128 with
  | 0 => hbmTy0_0 i
  | 1 => hbmTy0_1 i
  | _ => ⟨S4x32x64, .f32⟩

abbrev bufTy : (tb : Table) → Fin (tcTables nBuf tb) → BufTy
  | .hbm, ⟨i, _⟩ => hbmTy i
  | _, _ => ⟨S4x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_2 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_4 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_5 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_6 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_7 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩

abbrev nD : Nat := 1
abbrev τ : Topo := Topo.v7x

variable {F : FTy → Type} [FloatOps F]
-- ==== Prep.lean ====
abbrev S1x16384x256 : Shape := ⟨3, ![1, 16384, 256]⟩
abbrev S1x16384x128 : Shape := ⟨3, ![1, 16384, 128]⟩
abbrev S1x16384 : Shape := ⟨2, ![1, 16384]⟩
abbrev S256 : Shape := ⟨1, ![256]⟩
abbrev S256x768 : Shape := ⟨2, ![256, 768]⟩
abbrev S128 : Shape := ⟨1, ![128]⟩
abbrev S128x512 : Shape := ⟨2, ![128, 512]⟩
abbrev S1x16384x768 : Shape := ⟨3, ![1, 16384, 768]⟩
abbrev S1x16384x512 : Shape := ⟨3, ![1, 16384, 512]⟩
abbrev S16 : Shape := ⟨1, ![16]⟩
abbrev S_ : Shape := ⟨0, ![]⟩
abbrev S32 : Shape := ⟨1, ![32]⟩
abbrev S1x128 : Shape := ⟨2, ![1, 128]⟩
abbrev S16384x1 : Shape := ⟨2, ![16384, 1]⟩
abbrev S16384x128 : Shape := ⟨2, ![16384, 128]⟩
abbrev S256x8x96 : Shape := ⟨3, ![256, 8, 96]⟩
abbrev S256x8x128 : Shape := ⟨3, ![256, 8, 128]⟩
abbrev S256x1024 : Shape := ⟨2, ![256, 1024]⟩
abbrev S128x8x64 : Shape := ⟨3, ![128, 8, 64]⟩
abbrev S128x8x128 : Shape := ⟨3, ![128, 8, 128]⟩
abbrev S128x1024 : Shape := ⟨2, ![128, 1024]⟩
abbrev S16384x768 : Shape := ⟨2, ![16384, 768]⟩
abbrev S16384x8x96 : Shape := ⟨3, ![16384, 8, 96]⟩
abbrev S16384x8x128 : Shape := ⟨3, ![16384, 8, 128]⟩
abbrev S16384x1024 : Shape := ⟨2, ![16384, 1024]⟩
abbrev S16384x512 : Shape := ⟨2, ![16384, 512]⟩
abbrev S16384x8x64 : Shape := ⟨3, ![16384, 8, 64]⟩
abbrev S16384x256 : Shape := ⟨2, ![16384, 256]⟩
abbrev S1x256 : Shape := ⟨2, ![1, 256]⟩
abbrev S256x256 : Shape := ⟨2, ![256, 256]⟩
abbrev S256x128 : Shape := ⟨2, ![256, 128]⟩
abbrev S256x1 : Shape := ⟨2, ![256, 1]⟩

abbrev nBuf : Space → Nat
  | .hbm => 112
  | .vmem => 31
  | .smem => 0
  | _ => 0

abbrev bufTy : (tb : Table) → Fin (tcTables nBuf tb) → BufTy
  | .hbm, ⟨0, _⟩ => ⟨S1x16384x256, .f32⟩
  | .hbm, ⟨1, _⟩ => ⟨S1x16384x128, .f32⟩
  | .hbm, ⟨2, _⟩ => ⟨S1x16384, .i32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x512, .f32⟩
  | .hbm, ⟨7, _⟩ => ⟨S128x512, .f32⟩
  | .hbm, ⟨8, _⟩ => ⟨S1x16384x768, .f32⟩
  | .hbm, ⟨9, _⟩ => ⟨S1x16384x768, .f32⟩
  | .hbm, ⟨10, _⟩ => ⟨S1x16384x512, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S32, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S16384x1, .i32⟩
  | .hbm, ⟨31, _⟩ => ⟨S16384x1, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S16384x128, .i32⟩
  | .hbm, ⟨36, _⟩ => ⟨S_, .i32⟩
  | .hbm, ⟨37, _⟩ => ⟨S16384x128, .i32⟩
  | .hbm, ⟨38, _⟩ => ⟨S16384x128, .i1⟩
  | .hbm, ⟨39, _⟩ => ⟨S_, .i32⟩
  | .hbm, ⟨40, _⟩ => ⟨S16384x128, .i32⟩
  | .hbm, ⟨41, _⟩ => ⟨S16384x128, .i1⟩
  | .hbm, ⟨42, _⟩ => ⟨S16384x128, .i1⟩
  | .hbm, ⟨43, _⟩ => ⟨S_, .i32⟩
  | .hbm, ⟨44, _⟩ => ⟨S16384x128, .i32⟩
  | .hbm, ⟨45, _⟩ => ⟨S16384x128, .i1⟩
  | .hbm, ⟨46, _⟩ => ⟨S_, .i32⟩
  | .hbm, ⟨47, _⟩ => ⟨S16384x128, .i32⟩
  | .hbm, ⟨48, _⟩ => ⟨S16384x128, .i1⟩
  | .hbm, ⟨49, _⟩ => ⟨S16384x128, .i1⟩
  | .hbm, ⟨50, _⟩ => ⟨S16384x128, .f32⟩
  | .hbm, ⟨51, _⟩ => ⟨S16384x128, .f32⟩
  | .hbm, ⟨52, _⟩ => ⟨S16384x128, .i1⟩
  | .hbm, ⟨53, _⟩ => ⟨S_, .f32⟩
  | .hbm, ⟨54, _⟩ => ⟨S_, .f32⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S_, .f32⟩
  | .hbm, ⟨59, _⟩ => ⟨S_, .f32⟩
  | .hbm, ⟨60, _⟩ => ⟨S16384x128, .f32⟩
  | .hbm, ⟨61, _⟩ => ⟨S16384x128, .f32⟩
  | .hbm, ⟨62, _⟩ => ⟨S_, .f32⟩
  | .hbm, ⟨63, _⟩ => ⟨S_, .f32⟩
  | .hbm, ⟨64, _⟩ => ⟨S16384x128, .f32⟩
  | .hbm, ⟨65, _⟩ => ⟨S16384x128, .f32⟩
  | .hbm, ⟨66, _⟩ => ⟨S256x768, .bf16⟩
  | .hbm, ⟨67, _⟩ => ⟨S256x8x96, .bf16⟩
  | .hbm, ⟨68, _⟩ => ⟨S_, .i32⟩
  | .hbm, ⟨69, _⟩ => ⟨S_, .bf16⟩
  | .hbm, ⟨70, _⟩ => ⟨S256x8x128, .bf16⟩
  | .hbm, ⟨71, _⟩ => ⟨S256x1024, .bf16⟩
  | .hbm, ⟨72, _⟩ => ⟨S128x512, .bf16⟩
  | .hbm, ⟨73, _⟩ => ⟨S128x8x64, .bf16⟩
  | .hbm, ⟨74, _⟩ => ⟨S_, .i32⟩
  | .hbm, ⟨75, _⟩ => ⟨S_, .bf16⟩
  | .hbm, ⟨76, _⟩ => ⟨S128x8x128, .bf16⟩
  | .hbm, ⟨77, _⟩ => ⟨S128x1024, .bf16⟩
  | .hbm, ⟨78, _⟩ => ⟨S128x512, .bf16⟩
  | .hbm, ⟨79, _⟩ => ⟨S128x8x64, .bf16⟩
  | .hbm, ⟨80, _⟩ => ⟨S_, .i32⟩
  | .hbm, ⟨81, _⟩ => ⟨S_, .bf16⟩
  | .hbm, ⟨82, _⟩ => ⟨S128x8x128, .bf16⟩
  | .hbm, ⟨83, _⟩ => ⟨S128x1024, .bf16⟩
  | .hbm, ⟨84, _⟩ => ⟨S16384x768, .f32⟩
  | .hbm, ⟨85, _⟩ => ⟨S16384x8x96, .f32⟩
  | .hbm, ⟨86, _⟩ => ⟨S_, .i32⟩
  | .hbm, ⟨87, _⟩ => ⟨S_, .f32⟩
  | .hbm, ⟨88, _⟩ => ⟨S16384x8x128, .f32⟩
  | .hbm, ⟨89, _⟩ => ⟨S16384x1024, .f32⟩
  | .hbm, ⟨90, _⟩ => ⟨S16384x768, .f32⟩
  | .hbm, ⟨91, _⟩ => ⟨S16384x8x96, .f32⟩
  | .hbm, ⟨92, _⟩ => ⟨S_, .i32⟩
  | .hbm, ⟨93, _⟩ => ⟨S_, .f32⟩
  | .hbm, ⟨94, _⟩ => ⟨S16384x8x128, .f32⟩
  | .hbm, ⟨95, _⟩ => ⟨S16384x1024, .f32⟩
  | .hbm, ⟨96, _⟩ => ⟨S16384x512, .f32⟩
  | .hbm, ⟨97, _⟩ => ⟨S16384x8x64, .f32⟩
  | .hbm, ⟨98, _⟩ => ⟨S_, .i32⟩
  | .hbm, ⟨99, _⟩ => ⟨S_, .f32⟩
  | .hbm, ⟨100, _⟩ => ⟨S16384x8x128, .f32⟩
  | .hbm, ⟨101, _⟩ => ⟨S16384x1024, .f32⟩
  | .hbm, ⟨102, _⟩ => ⟨S16384x256, .f32⟩
  | .hbm, ⟨103, _⟩ => ⟨S16384x128, .f32⟩
  | .hbm, ⟨104, _⟩ => ⟨S1x256, .f32⟩
  | .hbm, ⟨105, _⟩ => ⟨S1x128, .f32⟩
  | .hbm, ⟨106, _⟩ => ⟨S16384x1024, .bf16⟩
  | .hbm, ⟨107, _⟩ => ⟨S16384x256, .bf16⟩
  | .hbm, ⟨108, _⟩ => ⟨S16384x128, .bf16⟩
  | .hbm, ⟨109, _⟩ => ⟨S16384x128, .bf16⟩
  | .hbm, ⟨110, _⟩ => ⟨S1x256, .f32⟩
  | .hbm, ⟨111, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x256, .f32⟩
  | .local _ .vmem, ⟨7, _⟩ => ⟨S256x256, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x256, .f32⟩
  | .local _ .vmem, ⟨17, _⟩ => ⟨S1x128, .f32⟩
  | .local _ .vmem, ⟨18, _⟩ => ⟨S256x1024, .bf16⟩
  | .local _ .vmem, ⟨19, _⟩ => ⟨S128x1024, .bf16⟩
  | .local _ .vmem, ⟨20, _⟩ => ⟨S128x1024, .bf16⟩
  | .local _ .vmem, ⟨21, _⟩ => ⟨S256x1024, .bf16⟩
  | .local _ .vmem, ⟨22, _⟩ => ⟨S256x1024, .bf16⟩
  | .local _ .vmem, ⟨23, _⟩ => ⟨S256x256, .bf16⟩
  | .local _ .vmem, ⟨24, _⟩ => ⟨S256x256, .bf16⟩
  | .local _ .vmem, ⟨25, _⟩ => ⟨S256x128, .bf16⟩
  | .local _ .vmem, ⟨26, _⟩ => ⟨S256x128, .bf16⟩
  | .local _ .vmem, ⟨27, _⟩ => ⟨S256x128, .bf16⟩
  | .local _ .vmem, ⟨28, _⟩ => ⟨S256x128, .bf16⟩
  | .local _ .vmem, ⟨29, _⟩ => ⟨S1x256, .f32⟩
  | .local _ .vmem, ⟨30, _⟩ => ⟨S1x128, .f32⟩
  | _, _ => ⟨S1x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_call0_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_call1_v0 : Ref sig .tc := ⟨.hbm, 54, rfl⟩
abbrev main_call1_v1 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_call2_v0 : Ref sig .tc := ⟨.hbm, 59, rfl⟩
abbrev main_call2_v1 : Ref sig .tc := ⟨.hbm, 60, rfl⟩
abbrev main_v34 : Ref sig .tc := ⟨.hbm, 61, rfl⟩
abbrev main_cst_9 : Ref sig .tc := ⟨.hbm, 62, rfl⟩
abbrev main_call3_v0 : Ref sig .tc := ⟨.hbm, 63, rfl⟩
abbrev main_call3_v1 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_10 : Ref sig .tc := ⟨.hbm, 68, rfl⟩
abbrev main_call4_v0 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_11 : Ref sig .tc := ⟨.hbm, 74, rfl⟩
abbrev main_call5_v0 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_12 : Ref sig .tc := ⟨.hbm, 80, rfl⟩
abbrev main_call6_v0 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_13 : Ref sig .tc := ⟨.hbm, 86, rfl⟩
abbrev main_call7_v0 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_c_14 : Ref sig .tc := ⟨.hbm, 92, rfl⟩
abbrev main_call8_v0 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_15 : Ref sig .tc := ⟨.hbm, 98, rfl⟩
abbrev main_call9_v0 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64_0 : Ref sig .tc := ⟨.hbm, 106, rfl⟩
abbrev main_v64_1 : Ref sig .tc := ⟨.hbm, 107, rfl⟩
abbrev main_v64_2 : Ref sig .tc := ⟨.hbm, 108, rfl⟩
abbrev main_v64_3 : Ref sig .tc := ⟨.hbm, 109, rfl⟩
abbrev main_v64_4 : Ref sig .tc := ⟨.hbm, 110, rfl⟩
abbrev main_v64_5 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_17 : BitVec 32 := 0#32
  let v41 : BitVec 1 := Scalar.cmpi .ne v40 c0_i32_17
  v41

def k0_cond2 (i : grid0.Coords) : BitVec 1 :=
  let arg0 : BitVec 32 := BitVec.ofNat 32 (i 0).val
  let c0_i32_18 : BitVec 32 := 0#32
  let v42 : BitVec 1 := Scalar.cmpi .eq arg0 c0_i32_18
  let v_true : BitVec 1 := 1#1
  let v43 : BitVec 1 := Scalar.xori v42 v_true
  let v44 : BitVec 32 := Scalar.extui v43
  let c0_i32_19 : BitVec 32 := 0#32
  let v45 : BitVec 1 := Scalar.cmpi .ne v44 c0_i32_19
  v45

def k0_cond3 (i : grid0.Coords) : BitVec 1 :=
  let arg0 : BitVec 32 := BitVec.ofNat 32 (i 0).val
  let c0_i32_46 : BitVec 32 := 0#32
  let v122 : BitVec 1 := Scalar.cmpi .eq arg0 c0_i32_46
  let v123 : BitVec 32 := Scalar.extui v122
  let c0_i32_47 : BitVec 32 := 0#32
  let v124 : BitVec 1 := Scalar.cmpi .ne v123 c0_i32_47
  v124

def k0_cond4 (i : grid0.Coords) : BitVec 1 :=
  let arg0 : BitVec 32 := BitVec.ofNat 32 (i 0).val
  let c0_i32_48 : BitVec 32 := 0#32
  let v125 : BitVec 1 := Scalar.cmpi .eq arg0 c0_i32_48
  let true_49 : BitVec 1 := 1#1
  let v126 : BitVec 1 := Scalar.xori v125 true_49
  let v127 : BitVec 32 := Scalar.extui v126
  let c0_i32_50 : BitVec 32 := 0#32
  let v128 : BitVec 1 := Scalar.cmpi .ne v127 c0_i32_50
  v128

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== PrepRefIdeal.lean ====
abbrev S1x16384x256 : Shape := ⟨3, ![1, 16384, 256]⟩
abbrev S1x16384x128 : Shape := ⟨3, ![1, 16384, 128]⟩
abbrev S1x16384 : Shape := ⟨2, ![1, 16384]⟩
abbrev S256 : Shape := ⟨1, ![256]⟩
abbrev S256x768 : Shape := ⟨2, ![256, 768]⟩
abbrev S128 : Shape := ⟨1, ![128]⟩
abbrev S128x512 : Shape := ⟨2, ![128, 512]⟩
abbrev S1x16384x768 : Shape := ⟨3, ![1, 16384, 768]⟩
abbrev S1x16384x512 : Shape := ⟨3, ![1, 16384, 512]⟩
abbrev S16 : Shape := ⟨1, ![16]⟩
abbrev S_ : Shape := ⟨0, ![]⟩
abbrev S1x16384x1 : Shape := ⟨3, ![1, 16384, 1]⟩
abbrev S1x1x16 : Shape := ⟨3, ![1, 1, 16]⟩
abbrev S1x16384x16 : Shape := ⟨3, ![1, 16384, 16]⟩
abbrev S1x16384x1x16 : Shape := ⟨4, ![1, 16384, 1, 16]⟩
abbrev S1x1x256 : Shape := ⟨3, ![1, 1, 256]⟩
abbrev S1x16384x8x96 : Shape := ⟨4, ![1, 16384, 8, 96]⟩
abbrev S1x16384x8x64 : Shape := ⟨4, ![1, 16384, 8, 64]⟩
abbrev S1x16384x8x32 : Shape := ⟨4, ![1, 16384, 8, 32]⟩
abbrev S1x16384x8x16 : Shape := ⟨4, ![1, 16384, 8, 16]⟩
abbrev S1x16384x32 : Shape := ⟨3, ![1, 16384, 32]⟩
abbrev S1x1x128 : Shape := ⟨3, ![1, 1, 128]⟩
abbrev S1x16384x1x32 : Shape := ⟨4, ![1, 16384, 1, 32]⟩
abbrev S1x256 : Shape := ⟨2, ![1, 256]⟩
abbrev S16384 : Shape := ⟨1, ![16384]⟩
abbrev S16384x32 : Shape := ⟨2, ![16384, 32]⟩
abbrev S1x128 : Shape := ⟨2, ![1, 128]⟩
abbrev S16384x8x96 : Shape := ⟨3, ![16384, 8, 96]⟩
abbrev S16384x8x128 : Shape := ⟨3, ![16384, 8, 128]⟩
abbrev S16384x1024 : Shape := ⟨2, ![16384, 1024]⟩
abbrev S16384x128 : Shape := ⟨2, ![16384, 128]⟩
abbrev S16384x256 : Shape := ⟨2, ![16384, 256]⟩

abbrev nBuf : Space → Nat
  | .hbm => 229
  | .vmem => 0
  | .smem => 0
  | _ => 0

abbrev hbmTy0_0 (i : Nat) : BufTy := match i % 128 with
  | 0 => ⟨S1x16384x256, .f32⟩
  | 1 => ⟨S1x16384x128, .f32⟩
  | 2 => ⟨S1x16384, .i32⟩
  | 3 => ⟨S256, .f32⟩
  | 4 => ⟨S256x768, .f32⟩
  | 5 => ⟨S128, .f32⟩
  | 6 => ⟨S128x512, .f32⟩
  | 7 => ⟨S128x512, .f32⟩
  | 8 => ⟨S1x16384x768, .f32⟩
  | 9 => ⟨S1x16384x768, .f32⟩
  | 10 => ⟨S1x16384x512, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S1x16384, .f32⟩
  | 26 => ⟨S1x16384x1, .f32⟩
  | 27 => ⟨S1x1x16, .f32⟩
  | 28 => ⟨S1x16384x16, .f32⟩
  | 29 => ⟨S1x16384x16, .f32⟩
  | 30 => ⟨S1x16384x16, .f32⟩
  | 31 => ⟨S1x16384x16, .f32⟩
  | 32 => ⟨S1x16384x16, .f32⟩
  | 33 => ⟨S1x16384x1x16, .f32⟩
  | 34 => ⟨S1x16384x1x16, .f32⟩
  | 35 => ⟨S1x16384x256, .f32⟩
  | 36 => ⟨S_, .f32⟩
  | 37 => ⟨S1x16384, .f32⟩
  | 38 => ⟨S1x16384x1, .f32⟩
  | 39 => ⟨S_, .f32⟩
  | 40 => ⟨S1x16384x1, .f32⟩
  | 41 => ⟨S1x16384x1, .f32⟩
  | 42 => ⟨S_, .f32⟩
  | 43 => ⟨S1x16384x1, .f32⟩
  | 44 => ⟨S1x16384x1, .f32⟩
  | 45 => ⟨S1x16384x1, .f32⟩
  | 46 => ⟨S1x16384x1, .f32⟩
  | 47 => ⟨S_, .f32⟩
  | 48 => ⟨S1x16384x1, .f32⟩
  | 49 => ⟨S1x16384x1, .f32⟩
  | 50 => ⟨S1x16384x256, .f32⟩
  | 51 => ⟨S1x16384x256, .f32⟩
  | 52 => ⟨S1x1x256, .f32⟩
  | 53 => ⟨S1x16384x256, .f32⟩
  | 54 => ⟨S1x16384x256, .f32⟩
  | 55 => ⟨S1x16384x768, .f32⟩
  | 56 => ⟨S1x16384x8x96, .f32⟩
  | 57 => ⟨S1x16384x8x64, .f32⟩
  | 58 => ⟨S1x16384x8x32, .f32⟩
  | 59 => ⟨S1x16384x8x16, .f32⟩
  | 60 => ⟨S1x16384x8x16, .f32⟩
  | 61 => ⟨S1x16384x8x16, .f32⟩
  | 62 => ⟨S1x16384x8x16, .f32⟩
  | 63 => ⟨S1x16384x8x16, .f32⟩
  | 64 => ⟨S1x16384x8x16, .f32⟩
  | 65 => ⟨S1x16384x8x16, .f32⟩
  | 66 => ⟨S1x16384x8x16, .f32⟩
  | 67 => ⟨S1x16384x8x16, .f32⟩
  | 68 => ⟨S1x16384x8x16, .f32⟩
  | 69 => ⟨S1x16384x8x16, .f32⟩
  | 70 => ⟨S1x16384x8x16, .f32⟩
  | 71 => ⟨S1x16384x8x32, .f32⟩
  | 72 => ⟨S1x16384x8x96, .f32⟩
  | 73 => ⟨S_, .f32⟩
  | 74 => ⟨S1x16384x32, .f32⟩
  | 75 => ⟨S1x16384x128, .f32⟩
  | 76 => ⟨S_, .f32⟩
  | 77 => ⟨S1x16384, .f32⟩
  | 78 => ⟨S1x16384x1, .f32⟩
  | 79 => ⟨S_, .f32⟩
  | 80 => ⟨S1x16384x1, .f32⟩
  | 81 => ⟨S1x16384x1, .f32⟩
  | 82 => ⟨S_, .f32⟩
  | 83 => ⟨S1x16384x1, .f32⟩
  | 84 => ⟨S1x16384x1, .f32⟩
  | 85 => ⟨S1x16384x1, .f32⟩
  | 86 => ⟨S1x16384x1, .f32⟩
  | 87 => ⟨S_, .f32⟩
  | 88 => ⟨S1x16384x1, .f32⟩
  | 89 => ⟨S1x16384x1, .f32⟩
  | 90 => ⟨S1x16384x128, .f32⟩
  | 91 => ⟨S1x16384x128, .f32⟩
  | 92 => ⟨S1x1x128, .f32⟩
  | 93 => ⟨S1x16384x128, .f32⟩
  | 94 => ⟨S1x16384x128, .f32⟩
  | 95 => ⟨S1x16384x1x32, .f32⟩
  | 96 => ⟨S1x16384x1x16, .f32⟩
  | 97 => ⟨S1x16384x1x16, .f32⟩
  | 98 => ⟨S1x16384x1x16, .f32⟩
  | 99 => ⟨S1x16384x1x16, .f32⟩
  | 100 => ⟨S1x16384x1x16, .f32⟩
  | 101 => ⟨S1x16384x1x16, .f32⟩
  | 102 => ⟨S1x16384x1x16, .f32⟩
  | 103 => ⟨S1x16384x1x16, .f32⟩
  | 104 => ⟨S1x16384x1x32, .f32⟩
  | 105 => ⟨S1x16384x512, .f32⟩
  | 106 => ⟨S1x16384x8x64, .f32⟩
  | 107 => ⟨S1x16384x8x32, .f32⟩
  | 108 => ⟨S1x16384x8x96, .f32⟩
  | 109 => ⟨S1x16384x512, .f32⟩
  | 110 => ⟨S1x16384x8x64, .f32⟩
  | 111 => ⟨S1x16384x8x96, .f32⟩
  | 112 => ⟨S1x16384x8x64, .f32⟩
  | 113 => ⟨S1x16384x8x32, .f32⟩
  | 114 => ⟨S1x16384x8x16, .f32⟩
  | 115 => ⟨S1x16384x8x16, .f32⟩
  | 116 => ⟨S1x16384x8x16, .f32⟩
  | 117 => ⟨S1x16384x8x16, .f32⟩
  | 118 => ⟨S1x16384x8x16, .f32⟩
  | 119 => ⟨S1x16384x8x16, .f32⟩
  | 120 => ⟨S1x16384x8x16, .f32⟩
  | 121 => ⟨S1x16384x8x16, .f32⟩
  | 122 => ⟨S1x16384x8x16, .f32⟩
  | 123 => ⟨S1x16384x8x16, .f32⟩
  | 124 => ⟨S1x16384x8x16, .f32⟩
  | 125 => ⟨S1x16384x8x16, .f32⟩
  | 126 => ⟨S1x16384x8x16, .f32⟩
  | 127 => ⟨S1x16384x8x32, .f32⟩
  | _ => ⟨S1x16384x256, .f32⟩

abbrev hbmTy0_1 (i : Nat) : BufTy := match i % 128 with
  | 0 => ⟨S_, .f32⟩
  | 1 => ⟨S1x16384x8x96, .f32⟩
  | 2 => ⟨S_, .f32⟩
  | 3 => ⟨S1x16384x8x96, .f32⟩
  | 4 => ⟨S1x16384x8x96, .f32⟩
  | 5 => ⟨S1x16384x768, .f32⟩
  | 6 => ⟨S1x16384x256, .f32⟩
  | 7 => ⟨S1x16384x256, .f32⟩
  | 8 => ⟨S_, .f32⟩
  | 9 => ⟨S1x256, .f32⟩
  | 10 => ⟨S1x1x256, .f32⟩
  | 11 => ⟨S1x16384x256, .f32⟩
  | 12 => ⟨S1x16384x256, .f32⟩
  | 13 => ⟨S_, .f32⟩
  | 14 => ⟨S256, .f32⟩
  | 15 => ⟨S1x16384x256, .f32⟩
  | 16 => ⟨S_, .f32⟩
  | 17 => ⟨S1x16384, .f32⟩
  | 18 => ⟨S1x16384x1, .f32⟩
  | 19 => ⟨S1x16384x256, .f32⟩
  | 20 => ⟨S1x16384x256, .f32⟩
  | 21 => ⟨S1x16384x1, .f32⟩
  | 22 => ⟨S_, .f32⟩
  | 23 => ⟨S1x16384x1, .f32⟩
  | 24 => ⟨S1x16384x1, .f32⟩
  | 25 => ⟨S_, .f32⟩
  | 26 => ⟨S16384, .f32⟩
  | 27 => ⟨S1x16384, .f32⟩
  | 28 => ⟨S1x16384x256, .f32⟩
  | 29 => ⟨S1x16384x256, .f32⟩
  | 30 => ⟨S1x16384x256, .f32⟩
  | 31 => ⟨S1x16384x256, .f32⟩
  | 32 => ⟨S1x16384x256, .f32⟩
  | 33 => ⟨S1x16384x8x96, .f32⟩
  | 34 => ⟨S1x16384x8x64, .f32⟩
  | 35 => ⟨S1x16384x512, .f32⟩
  | 36 => ⟨S1x16384x128, .f32⟩
  | 37 => ⟨S1x16384x8x64, .f32⟩
  | 38 => ⟨S1x16384x8x32, .f32⟩
  | 39 => ⟨S_, .f32⟩
  | 40 => ⟨S16384x32, .f32⟩
  | 41 => ⟨S1x16384x1x32, .f32⟩
  | 42 => ⟨S1x16384x512, .f32⟩
  | 43 => ⟨S1x16384x128, .f32⟩
  | 44 => ⟨S1x16384x128, .f32⟩
  | 45 => ⟨S1x16384x1x16, .f32⟩
  | 46 => ⟨S1x16384x1x16, .f32⟩
  | 47 => ⟨S1x16384x1x16, .f32⟩
  | 48 => ⟨S1x16384x1x16, .f32⟩
  | 49 => ⟨S1x16384x1x16, .f32⟩
  | 50 => ⟨S1x16384x1x16, .f32⟩
  | 51 => ⟨S1x16384x1x16, .f32⟩
  | 52 => ⟨S1x16384x1x16, .f32⟩
  | 53 => ⟨S1x16384x1x16, .f32⟩
  | 54 => ⟨S1x16384x1x32, .f32⟩
  | 55 => ⟨S_, .f32⟩
  | 56 => ⟨S16384x32, .f32⟩
  | 57 => ⟨S1x16384x32, .f32⟩
  | 58 => ⟨S1x16384x128, .f32⟩
  | 59 => ⟨S_, .f32⟩
  | 60 => ⟨S1x128, .f32⟩
  | 61 => ⟨S1x1x128, .f32⟩
  | 62 => ⟨S1x16384x128, .f32⟩
  | 63 => ⟨S1x16384x128, .f32⟩
  | 64 => ⟨S_, .f32⟩
  | 65 => ⟨S128, .f32⟩
  | 66 => ⟨S1x16384x128, .f32⟩
  | 67 => ⟨S_, .f32⟩
  | 68 => ⟨S1x16384, .f32⟩
  | 69 => ⟨S1x16384x1, .f32⟩
  | 70 => ⟨S1x16384x128, .f32⟩
  | 71 => ⟨S1x16384x128, .f32⟩
  | 72 => ⟨S1x16384x1, .f32⟩
  | 73 => ⟨S_, .f32⟩
  | 74 => ⟨S1x16384x1, .f32⟩
  | 75 => ⟨S1x16384x1, .f32⟩
  | 76 => ⟨S_, .f32⟩
  | 77 => ⟨S16384, .f32⟩
  | 78 => ⟨S1x16384, .f32⟩
  | 79 => ⟨S1x16384x128, .f32⟩
  | 80 => ⟨S1x16384x128, .f32⟩
  | 81 => ⟨S1x16384x128, .f32⟩
  | 82 => ⟨S1x16384x128, .f32⟩
  | 83 => ⟨S1x16384x128, .f32⟩
  | 84 => ⟨S16384x8x96, .f32⟩
  | 85 => ⟨S_, .i32⟩
  | 86 => ⟨S_, .f32⟩
  | 87 => ⟨S16384x8x128, .f32⟩
  | 88 => ⟨S16384x1024, .f32⟩
  | 89 => ⟨S16384x32, .f32⟩
  | 90 => ⟨S_, .i32⟩
  | 91 => ⟨S_, .f32⟩
  | 92 => ⟨S16384x128, .f32⟩
  | 93 => ⟨S16384x256, .f32⟩
  | 94 => ⟨S16384x128, .f32⟩
  | 95 => ⟨S16384x1024, .bf16⟩
  | 96 => ⟨S16384x256, .bf16⟩
  | 97 => ⟨S16384x128, .bf16⟩
  | 98 => ⟨S16384x128, .bf16⟩
  | 99 => ⟨S1x256, .f32⟩
  | 100 => ⟨S1x128, .f32⟩
  | _ => ⟨S1x16384x256, .f32⟩

abbrev hbmTy (i : Nat) : BufTy := match i / 128 with
  | 0 => hbmTy0_0 i
  | 1 => hbmTy0_1 i
  | _ => ⟨S1x16384x256, .f32⟩

abbrev bufTy : (tb : Table) → Fin (tcTables nBuf tb) → BufTy
  | .hbm, ⟨i, _⟩ => hbmTy i
  | _, _ => ⟨S1x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_12 : Ref sig .tc := ⟨.hbm, 128, rfl⟩
abbrev main_v104 : Ref sig .tc := ⟨.hbm, 129, rfl⟩
abbrev main_cst_13 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_14 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_15 : Ref sig .tc := ⟨.hbm, 141, rfl⟩
abbrev main_v114 : Ref sig .tc := ⟨.hbm, 142, rfl⟩
abbrev main_v115 : Ref sig .tc := ⟨.hbm, 143, rfl⟩
abbrev main_cst_16 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_17 : Ref sig .tc := ⟨.hbm, 150, rfl⟩
abbrev main_v121 : Ref sig .tc := ⟨.hbm, 151, rfl⟩
abbrev main_v122 : Ref sig .tc := ⟨.hbm, 152, rfl⟩
abbrev main_cst_18 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_19 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_20 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_cst_21 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_22 : Ref sig .tc := ⟨.hbm, 192, rfl⟩
abbrev main_v158 : Ref sig .tc := ⟨.hbm, 193, rfl⟩
abbrev main_v159 : Ref sig .tc := ⟨.hbm, 194, rfl⟩
abbrev main_cst_23 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_24 : Ref sig .tc := ⟨.hbm, 201, rfl⟩
abbrev main_v165 : Ref sig .tc := ⟨.hbm, 202, rfl⟩
abbrev main_v166 : Ref sig .tc := ⟨.hbm, 203, rfl⟩
abbrev main_cst_25 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_c : Ref sig .tc := ⟨.hbm, 213, rfl⟩
abbrev main_call0_v0 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_c_26 : Ref sig .tc := ⟨.hbm, 218, rfl⟩
abbrev main_call1_v0 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩

abbrev nD : Nat := 1
abbrev τ : Topo := Topo.v7x

variable {F : FTy → Type} [FloatOps F]
-- ==== Proof.Lift.lean ====
/- Finite extended reals as real numbers: what each ideal operation gives on coerced reals, the float constants the
   programs print, and a printed precondition of finiteness read back as "the array is a coerced real array". -/
module

public import Idealize.ShloMosaic.Lib.Pipeline.ValueKit
public import Idealize.ShloMosaic.Lib.ReduceAll
public import Idealize.ShloMosaic.Lib.StableHlo
public import Idealize.ShloMosaic.Lib.Affine

@[expose] public section

noncomputable section

namespace Cert.Lift

open Idealize.ShloMosaic

/-! ### The constants -/

theorem k1024 : Ideal.ofBits .f32 0x44800000#32 = ((1024 : ℝ) : EReal) := by simp [Ideal.ofBits, Ideal.ieee]; rw [← EReal.coe_mul]; norm_num
theorem half : Ideal.ofBits .f32 0x3F000000#32 = ((1 / 2 : ℝ) : EReal) := by simp [Ideal.ofBits, Ideal.ieee]; rw [← EReal.coe_mul]; norm_num
theorem negHalf : Ideal.ofBits .f32 0xBF000000#32 = ((-(1 / 2) : ℝ) : EReal) := by simp [Ideal.ofBits, Ideal.ieee]; rw [← EReal.coe_mul]; norm_num
theorem two : Ideal.ofBits .f32 0x40000000#32 = ((2 : ℝ) : EReal) := by simp [Ideal.ofBits, Ideal.ieee]; rw [← EReal.coe_mul]; norm_num
theorem inv1024 : Ideal.ofBits .f32 0x3A800000#32 = ((1 / 1024 : ℝ) : EReal) := by simp [Ideal.ofBits, Ideal.ieee]; rw [← EReal.coe_mul]; norm_num

/-- The epsilon of the norms, as the real number its f32 pattern denotes. -/
def eps : ℝ := 8796093 / 2 ^ 43

theorem eps_pos : 0 < eps := by unfold eps; positivity

theorem eps_bits : Ideal.ofBits .f32 0x358637BD#32 = ((eps : ℝ) : EReal) := by
  simp [Ideal.ofBits, Ideal.ieee, eps]; rw [← EReal.coe_mul]; norm_num

/-- The constants together. -/
theorem consts : Ideal.ofBits .f32 0x44800000#32 = ((1024 : ℝ) : EReal) ∧ Ideal.ofBits .f32 0x3F000000#32 = ((1 / 2 : ℝ) : EReal)
    ∧ Ideal.ofBits .f32 0xBF000000#32 = ((-(1 / 2) : ℝ) : EReal) ∧ Ideal.ofBits .f32 0x40000000#32 = ((2 : ℝ) : EReal)
    ∧ Ideal.ofBits .f32 0x3A800000#32 = ((1 / 1024 : ℝ) : EReal) ∧ Ideal.ofBits .f32 0x358637BD#32 = ((eps : ℝ) : EReal) :=
  ⟨k1024, half, negHalf, two, inv1024, eps_bits⟩

theorem infinity : Ideal.ofBits .f32 0x7F800000#32 = ⊤ := by simp [Ideal.ofBits, Ideal.ieee]

/-! ### The operations on coerced reals -/

theorem sum_lift {ι : Type*} [Fintype ι] (f : ι → ℝ) : ∑ k, ((f k : ℝ) : EReal) = ((∑ k, f k : ℝ) : EReal) :=
  (map_sum (⟨⟨fun r : ℝ => (r : EReal), rfl⟩, EReal.coe_add⟩ : ℝ →+ EReal) f Finset.univ).symm

theorem div_lift {b : ℝ} (hb : b ≠ 0) (a : ℝ) : Ideal.div (a : EReal) (b : EReal) = ((a / b : ℝ) : EReal) := by
  rw [Ideal.div_coe hb, ← EReal.coe_mul, mul_one_div]

theorem rsqrt_lift {a : ℝ} (ha : 0 < a) : Ideal.rsqrt (a : EReal) = (((Real.sqrt a)⁻¹ : ℝ) : EReal) := by
  rw [Ideal.rsqrt_coe, if_neg (not_lt.2 ha.le), if_neg ha.ne']

/-- The host's sum over the two unit axes of a column is the column's entry. -/
theorem sum_unit_axes {n : ℕ} (h : (⟨3, ![1, n, 1]⟩ : Shape).ReducesTo [0, 2] ⟨1, ![n]⟩)
    (v : (⟨3, ![1, n, 1]⟩ : Shape).Idx → EReal) (init : EReal) (i : Fin n) :
    Ideal.hostReduceAdd h v init (ix1 i) = init + v (ix3 0 i 0) := by
  refine congrArg (init + ·) ((Finset.sum_congr (Finset.ext fun k => ?_) fun _ _ => rfl).trans
    (Finset.sum_singleton v (ix3 0 i 0)))
  rw [Finset.mem_filter_univ, Finset.mem_singleton]
  have hk : (h.drop k ⟨0, Nat.one_pos⟩ : ℕ) = k 1 := rfl
  constructor
  · intro e
    rw [e] at hk
    have h0 := (k 0).isLt
    have h2 := (k 2).isLt
    funext a; apply Fin.ext
    match a with
    | ⟨0, _⟩ => exact Nat.lt_one_iff.1 h0
    | ⟨1, _⟩ => exact hk.symm
    | ⟨2, _⟩ => exact Nat.lt_one_iff.1 h2
  · rintro rfl
    funext a; apply Fin.ext
    match a with
    | ⟨0, _⟩ => exact hk

/-- The host's sum over the two unit axes before a row is the row's entry. -/
theorem sum_unit_rows {n : ℕ} (h : (⟨3, ![1, 1, n]⟩ : Shape).ReducesTo [0, 1] ⟨1, ![n]⟩)
    (v : (⟨3, ![1, 1, n]⟩ : Shape).Idx → EReal) (init : EReal) (i : Fin n) :
    Ideal.hostReduceAdd h v init (ix1 i) = init + v (ix3 0 0 i) := by
  refine congrArg (init + ·) ((Finset.sum_congr (Finset.ext fun k => ?_) fun _ _ => rfl).trans
    (Finset.sum_singleton v (ix3 0 0 i)))
  rw [Finset.mem_filter_univ, Finset.mem_singleton]
  have hk : (h.drop k ⟨0, Nat.one_pos⟩ : ℕ) = k 2 := rfl
  constructor
  · intro e
    rw [e] at hk
    have h0 := (k 0).isLt
    have h1 := (k 1).isLt
    funext a; apply Fin.ext
    match a with
    | ⟨0, _⟩ => exact Nat.lt_one_iff.1 h0
    | ⟨1, _⟩ => exact Nat.lt_one_iff.1 h1
    | ⟨2, _⟩ => exact hk.symm
  · rintro rfl
    funext a; apply Fin.ext
    match a with
    | ⟨0, _⟩ => exact hk

/-! ### The reciprocal root of a row -/

/-- The mean square of a row plus the epsilon. -/
def ms {n : ℕ} (d : ℝ) (f : Fin n → ℝ) : ℝ := (∑ k, f k * f k) / d + eps

/-- Its reciprocal square root. -/
def rinv {n : ℕ} (d : ℝ) (f : Fin n → ℝ) : ℝ := (Real.sqrt (ms d f))⁻¹

theorem ms_pos {n : ℕ} {d : ℝ} (hd : 0 ≤ d) (f : Fin n → ℝ) : 0 < ms d f :=
  add_pos_of_nonneg_of_pos (div_nonneg (Finset.sum_nonneg fun k _ => mul_self_nonneg (f k)) hd) eps_pos

theorem rinv_sq {n : ℕ} {d : ℝ} (hd : 0 ≤ d) (f : Fin n → ℝ) : rinv d f * rinv d f = (ms d f)⁻¹ := by
  rw [rinv, ← mul_inv, Real.mul_self_sqrt (ms_pos hd f).le]

theorem rsqrt_ms {n : ℕ} {d : ℝ} (hd : 0 ≤ d) (f : Fin n → ℝ) :
    Ideal.rsqrt (((∑ k, f k * f k) / d + eps : ℝ) : EReal) = ((rinv d f : ℝ) : EReal) := rsqrt_lift (ms_pos hd f)

/-- Division by the mean square plus epsilon is two products with the reciprocal root. -/
theorem div_ms {n : ℕ} {d : ℝ} (hd : 0 ≤ d) (f : Fin n → ℝ) (a : ℝ) :
    Ideal.div (a : EReal) (((∑ k, f k * f k) / d + eps : ℝ) : EReal) = ((a * (rinv d f * rinv d f) : ℝ) : EReal) := by
  rw [rinv_sq hd]; exact div_lift (ms_pos hd f).ne' a

/-- Addition, subtraction, multiplication, negation, 0, 1 and finite sums of coerced reals are coerced reals. -/
theorem ring_lift : (∀ a b : ℝ, (a : EReal) + b = ((a + b : ℝ) : EReal)) ∧ (∀ a b : ℝ, (a : EReal) - b = ((a - b : ℝ) : EReal))
    ∧ (∀ a b : ℝ, (a : EReal) * b = ((a * b : ℝ) : EReal)) ∧ (∀ a : ℝ, -(a : EReal) = ((-a : ℝ) : EReal))
    ∧ (0 : EReal) = ((0 : ℝ) : EReal) ∧ (1 : EReal) = ((1 : ℝ) : EReal) :=
  ⟨fun _ _ => rfl, fun _ _ => rfl, fun a b => (EReal.coe_mul a b).symm, fun _ => rfl, rfl, rfl⟩

/-- The norm's operations over a row of 1024. -/
theorem norm_lift : (∀ a : ℝ, Ideal.div (a : EReal) ((1024 : ℝ) : EReal) = ((a / 1024 : ℝ) : EReal))
    ∧ (∀ f : Fin 1024 → ℝ, Ideal.rsqrt (((∑ k, f k * f k) / 1024 + eps : ℝ) : EReal) = ((rinv 1024 f : ℝ) : EReal))
    ∧ (∀ (f : Fin 1024 → ℝ) (a : ℝ), Ideal.div (a : EReal) (((∑ k, f k * f k) / 1024 + eps : ℝ) : EReal)
      = ((a * (rinv 1024 f * rinv 1024 f) : ℝ) : EReal)) :=
  ⟨div_lift (by norm_num), rsqrt_ms (by norm_num), div_ms (by norm_num)⟩

/-! ### An accumulator over the grid -/

/-- A buffer set to its term at the first point and increased by its term at every later one ends at the sum of the
    terms. -/
theorem acc_lift {N : ℕ} {ι : Type*} (f : (n : ℕ) → n < N → ι → EReal) (term : Fin N → ι → ℝ)
    (h0 : ∀ t : Fin N, t.val % N = 0 → ∀ i, f t.val t.isLt i = ((term t i : ℝ) : EReal))
    (hs : ∀ t : Fin N, ¬t.val % N = 0 → ∀ i,
      f t.val t.isLt i = f (t.val - 1) (Nat.lt_of_le_of_lt (Nat.sub_le _ _) t.isLt) i + ((term t i : ℝ) : EReal))
    (t : Fin N) (ht : t.val + 1 = N) (i : ι) : f t.val t.isLt i = ((∑ p, term p i : ℝ) : EReal) := by
  rw [Pipeline.eq_sum_fin_of_reset_step_apply_last f N (fun _ => 0) (fun t i => ((term t i : ℝ) : EReal))
    (fun t h i => by rw [h0 t h, zero_add]) hs le_rfl t ht i, zero_add, sum_lift]

/-! ### Finiteness read back -/

/-- An extended real whose absolute value is below the infinity is a real number. -/
theorem real_of_abs_lt {x : EReal} (h : max x (-x) < ⊤) : x = ((x.toReal : ℝ) : EReal) := by
  induction x with
  | bot => simp at h
  | top => simp at h
  | coe r => rfl

/-- A conjunction of two truth values holds where both hold. -/
theorem both {p q : IVec ⟨0, ![]⟩ 1} (e : andi p q = fun _ => 1#1) : p = (fun _ => 1#1) ∧ q = (fun _ => 1#1) :=
  ⟨funext fun j => (IntOp.andi_eq_one.1 (congrFun e j)).1, funext fun j => (IntOp.andi_eq_one.1 (congrFun e j)).2⟩

/-- `jnp.all(jnp.abs(a) < jnp.inf)` as it prints, in any format: then the array is the array of its real parts. -/
theorem real_of_below {s : Shape} {axes : List (Fin s.rank)} {φ : FTy} {b : BitVec φ.bits} (top : Ideal.ofBits φ b = ⊤)
    {X : FVec Ideal s φ} {init : (⟨0, ![]⟩ : Shape).Idx → BitVec 1}
    {h : s.ReducesTo axes ⟨0, ![]⟩} {hu : 0 < (⟨0, ![]⟩ : Shape).numel} {hb : (⟨0, ![]⟩ : Shape).BroadcastsInDim s ![]}
    (e : Host.reduce IntOp.andi (cmpf .olt (Host.absf X) (broadcastInDim s ![] hb (constant (F := Ideal) ⟨0, ![]⟩ φ b)))
      init h hu = fun _ => 1#1) : X = fun i => (((show EReal from X i).toReal : ℝ) : EReal) := by
  haveI : Subsingleton (⟨0, ![]⟩ : Shape).Idx := ⟨fun a b => funext fun k => k.elim0⟩
  refine funext fun i => real_of_abs_lt ?_
  have := Host.reduce_andi_all _ _ _ _ _ (congrFun e fun k => k.elim0) i
  pointwise at this
  rw [top] at this
  by_contra hn
  rw [show FloatOps.absf (X i) = max (show EReal from X i) (-(show EReal from X i)) from rfl, decide_eq_false hn] at this
  exact absurd this (by decide)

/-- The same for the 32-bit format. -/
theorem real_of_all {s : Shape} {axes : List (Fin s.rank)} {X : FVec Ideal s .f32} {init : (⟨0, ![]⟩ : Shape).Idx → BitVec 1}
    {h : s.ReducesTo axes ⟨0, ![]⟩} {hu : 0 < (⟨0, ![]⟩ : Shape).numel} {hb : (⟨0, ![]⟩ : Shape).BroadcastsInDim s ![]}
    (e : Host.reduce IntOp.andi (cmpf .olt (Host.absf X) (broadcastInDim s ![] hb (constant (F := Ideal) ⟨0, ![]⟩ .f32 0x7F800000#32)))
      init h hu = fun _ => 1#1) : X = fun i => (((X i).toReal : ℝ) : EReal) := real_of_below infinity e

theorem infinity16 : Ideal.ofBits .bf16 0x7F80#16 = ⊤ := by simp [Ideal.ofBits, Ideal.ieee]

/-- The same for the 16-bit format. -/
theorem real_of_all16 {s : Shape} {axes : List (Fin s.rank)} {X : FVec Ideal s .bf16} {init : (⟨0, ![]⟩ : Shape).Idx → BitVec 1}
    {h : s.ReducesTo axes ⟨0, ![]⟩} {hu : 0 < (⟨0, ![]⟩ : Shape).numel} {hb : (⟨0, ![]⟩ : Shape).BroadcastsInDim s ![]}
    (e : Host.reduce IntOp.andi (cmpf .olt (Host.absf X) (broadcastInDim s ![] hb (constant (F := Ideal) ⟨0, ![]⟩ .bf16 0x7F80#16)))
      init h hu = fun _ => 1#1) : X = fun i => (((X i).toReal : ℝ) : EReal) := real_of_below infinity16 e

/-- The real parts of a vector, a matrix, and a batch of one matrix. -/
def re1 {n : ℕ} (X : FVec Ideal ⟨1, ![n]⟩ .f32) (a : Fin n) : ℝ := (X (ix1 a)).toReal
def re2 {n k : ℕ} {φ : FTy} (X : FVec Ideal ⟨2, ![n, k]⟩ φ) (a : Fin n) (b : Fin k) : ℝ := (show EReal from X (ix2 a b)).toReal
def re3 {n k : ℕ} (X : FVec Ideal ⟨3, ![1, n, k]⟩ .f32) (a : Fin n) (b : Fin k) : ℝ := (X (ix3 0 a b)).toReal

theorem real1 {n : ℕ} {X : FVec Ideal ⟨1, ![n]⟩ .f32} (h : X = fun i => (((X i).toReal : ℝ) : EReal)) :
    X = fun i => ((re1 X (i 0) : ℝ) : EReal) := by
  funext i; rw [eq_ix1 i]; exact congrFun h _

theorem real2 {n k : ℕ} {φ : FTy} {X : FVec Ideal ⟨2, ![n, k]⟩ φ} (h : X = fun i => (((show EReal from X i).toReal : ℝ) : EReal)) :
    X = fun i => ((re2 X (i 0) (i 1) : ℝ) : EReal) := by
  funext i; rw [eq_ix2 i]; exact congrFun h _

theorem real3 {n k : ℕ} {X : FVec Ideal ⟨3, ![1, n, k]⟩ .f32} (h : X = fun i => (((X i).toReal : ℝ) : EReal)) :
    X = fun i => ((re3 X (i 1) (i 2) : ℝ) : EReal) := by
  funext i
  refine (congrFun h i).trans (congrArg (fun j => (((X j).toReal : ℝ) : EReal)) (funext fun a => Fin.ext ?_))
  match a with
  | ⟨0, _⟩ => exact Nat.lt_one_iff.1 (i 0).isLt
  | ⟨1, _⟩ => rfl
  | ⟨2, _⟩ => rfl

/-- A row given as a batch of one row. -/
theorem realRow {n : ℕ} {X : FVec Ideal ⟨3, ![1, 1, n]⟩ .f32} (h : X = fun i => (((X i).toReal : ℝ) : EReal)) :
    X = fun i => ((re3 X 0 (i 2) : ℝ) : EReal) := by
  refine (real3 h).trans (funext fun i => congrArg (fun k => ((re3 X k (i 2) : ℝ) : EReal)) (Fin.ext ?_))
  exact Nat.lt_one_iff.1 (i 1).isLt

end Cert.Lift

end
-- ==== Proof.HeadMath.lean ====
/- The last norm and the loss over the reals: the loss and its gradients, as the kernel and as the reference write them. -/
module

public import proofs.«01_k».proof.Proof.Lift

@[expose] public section

noncomputable section

namespace Cert.HeadMath

open Cert.Lift

variable (x t : Fin 16384 → Fin 1024 → ℝ) (g : Fin 1024 → ℝ)

/-- The error of an entry: the normed entry with its gain, minus the target. -/
def err (i : Fin 16384) (j : Fin 1024) : ℝ := x i j * rinv 1024 (x i) * g j - t i j

/-- The loss of one row. -/
def rowLoss (i : Fin 16384) : ℝ := (∑ j, err x t g i j * err x t g i j) / 1024

/-- The loss. -/
def loss : ℝ := 1 / 2 * ∑ i, rowLoss x t g i

/-- The gradient of the gain. -/
def dg (j : Fin 1024) : ℝ := ∑ i, err x t g i j * (1 / 1024) * (x i j * rinv 1024 (x i))

/-- The gradient of the row, by the closed form of the norm's derivative. -/
def dx (i : Fin 16384) (j : Fin 1024) : ℝ :=
  rinv 1024 (x i) * (err x t g i j * (1 / 1024) * g j
    - x i j * rinv 1024 (x i) * ((∑ k, err x t g i k * (1 / 1024) * g k * (x i k * rinv 1024 (x i))) / 1024))

/-- The gain's gradient with its factors in the order of the chain rule. -/
theorem dg_eq (j : Fin 1024) :
    ∑ i, x i j * rinv 1024 (x i) * (1 / 2 / 1024 * (2 * err x t g i j)) = dg x t g j :=
  Finset.sum_congr rfl fun i _ => by ring

/-- The gradient of the row by the chain rule through the mean square is the closed form. -/
theorem chain_eq (i : Fin 16384) (j : Fin 1024) :
    1 / 2 / 1024 * (2 * err x t g i j) * g j * rinv 1024 (x i)
      + x i j * ((∑ k, x i k * (1 / 2 / 1024 * (2 * err x t g i k) * g k))
        * (-(1 / 2) * (rinv 1024 (x i) * (rinv 1024 (x i) * rinv 1024 (x i)))) / 1024)
      + (∑ k, x i k * (1 / 2 / 1024 * (2 * err x t g i k) * g k))
        * (-(1 / 2) * (rinv 1024 (x i) * (rinv 1024 (x i) * rinv 1024 (x i)))) / 1024 * x i j
    = dx x t g i j := by
  have hs : ∑ k, err x t g i k * (1 / 1024) * g k * (x i k * rinv 1024 (x i))
      = (∑ k, x i k * (1 / 2 / 1024 * (2 * err x t g i k) * g k)) * rinv 1024 (x i) := by
    rw [Finset.sum_mul]; exact Finset.sum_congr rfl fun k _ => by ring
  rw [dx, hs]
  ring

end Cert.HeadMath

end
-- ==== Proof.HeadRef.lean ====
/- The reference of the head: on real arguments its three results are the real loss and gradients. -/
module

public import proofs.«01_k».proof.Proof.Gen.HeadRefIdeal.Run
public import proofs.«01_k».proof.Proof.HeadMath

@[expose] public section

set_option maxRecDepth 16384

noncomputable section

namespace Cert.HeadRefIdeal.Value

open Cert.HeadRefIdeal Cert.HeadRefIdeal.Gen Idealize.ShloMosaic Idealize.ShloMosaic.TcCoe Idealize.SL.Sem Cert.Lift

variable (m : (ℓ : Loc nD τ sig) → Buf (Elt Ideal) ℓ) (x t : Dev nD → Fin 16384 → Fin 1024 → ℝ) (g : Dev nD → Fin 1024 → ℝ)
  (hX : ∀ c : Dev nD, m ((c.tc : Thread nD τ).loc main_arg0) = fun i => ((x c (i 1) (i 2) : ℝ) : EReal))
  (hG : ∀ c : Dev nD, m ((c.tc : Thread nD τ).loc main_arg1) = fun i => ((g c (i 0) : ℝ) : EReal))
  (hT : ∀ c : Dev nD, m ((c.tc : Thread nD τ).loc main_arg2) = fun i => ((t c (i 1) (i 2) : ℝ) : EReal))

include hX hG hT

/-- The row's gradient. -/
theorem dx_eq (c : Dev nD) : res_main_v52 m c = fun i => ((HeadMath.dx (x c) (t c) (g c) (i 0) (i 1) : ℝ) : EReal) := by
  funext y
  unfold res_main_v52
  rw [hX, hG, hT]
  idx_vars y
  pointwise [sum_unit_axes, consts]
  simp only [ring_lift, sum_lift, norm_lift]
  exact congrArg _ (HeadMath.chain_eq (x c) (t c) (g c) _ _)

/-- What the reference's run leaves in its three results: the row's gradient, the loss and the gain's gradient. -/
theorem results (ρ : Dev nD → PrngReg) :
    θ_run defs (onTc (τ := τ) (main (F := Ideal))) ⟨m, fun _ => 0, ρ⟩ fun r => ∀ c : Dev nD,
      r.2.mem ((c.tc : Thread nD τ).loc main_v52) = (fun i => ((HeadMath.dx (x c) (t c) (g c) (i 0) (i 1) : ℝ) : EReal))
      ∧ r.2.mem ((c.tc : Thread nD τ).loc main_v53) = (fun _ => ((HeadMath.loss (x c) (t c) (g c) : ℝ) : EReal))
      ∧ r.2.mem ((c.tc : Thread nD τ).loc main_v54) = (fun i => ((HeadMath.dg (x c) (t c) (g c) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r hr c => ⟨(hr c).1.trans (dx_eq m x t g hX hG hT c), (hr c).2.1.trans ?_,
    (hr c).2.2.1.trans ?_, (hr c).2.2.2⟩) (run m ρ)
  all_goals
    clear hr
    rw [hX, hG, hT]
    funext y
    idx_vars y
    pointwise [sum_unit_axes, sum_unit_rows, consts]
    simp only [ring_lift, sum_lift, norm_lift]
  · exact congrArg (fun s : ℝ => ((1 / 2 * s : ℝ) : EReal)) (Fin.sum_univ_one _)
  · exact congrArg _ (HeadMath.dg_eq (x c) (t c) (g c) _)

end Cert.HeadRefIdeal.Value

end
-- ==== Proof.HeadKernel.lean ====
/- The kernel of the head: on real arguments its three result arrays are the real loss and gradients. -/
module

public import proofs.«01_k».proof.Proof.Gen.HeadIdeal.Value
public import Idealize.ShloMosaic.Lib.Claim
public import proofs.«01_k».proof.Proof.HeadMath

@[expose] public section

set_option maxRecDepth 16384

noncomputable section

namespace Cert.HeadIdeal.Value

open Cert.HeadIdeal Cert.HeadIdeal.Gen Idealize.ShloMosaic Idealize.ShloMosaic.TcCoe Idealize.SL.Sem
open Idealize.ShloMosaic.Pipeline (Dat)
open Cert.Lift

/-! ### What one block computes -/

section Block

variable {x t : Fin 256 → Fin 1024 → ℝ} {g : Fin 1024 → ℝ} {X T : FVec Ideal S256x1024 .f32} {G : FVec Ideal S1x1024 .f32}
  (hX : X = fun y => ((x (y 0) (y 1) : ℝ) : EReal)) (hT : T = fun y => ((t (y 0) (y 1) : ℝ) : EReal))
  (hG : G = fun y => ((g (y 1) : ℝ) : EReal))

include hX hT hG

/-- The block of the row's gradient. -/
theorem dx_block (a : Fin 256) (b : Fin 1024) :
    k0_pay4 (F := Ideal) (k0_pay6 X) (k0_pay7 X) (k0_pay8 X G T) k0_pay11 G (ix2 a b)
      = ((rinv 1024 (x a) * ((x a b * rinv 1024 (x a) * g b - t a b) * (1 / 1024) * g b - x a b * rinv 1024 (x a)
        * ((∑ k, (x a k * rinv 1024 (x a) * g k - t a k) * (1 / 1024) * g k * (x a k * rinv 1024 (x a))) / 1024)) : ℝ) : EReal) := by
  pointwise [k0_pay1, k0_pay4, k0_pay5, k0_pay6, k0_pay7, k0_pay8, k0_pay11, hX, hG, hT, consts]
  simp only [ring_lift, sum_lift, norm_lift]

/-- The block's part of the loss, in every lane. -/
theorem loss_block (y : S1x128.Idx) :
    k0_pay9 (F := Ideal) X G T y = ((1 / 2 * ∑ a, (∑ k, (x a k * rinv 1024 (x a) * g k - t a k)
      * (x a k * rinv 1024 (x a) * g k - t a k)) / 1024 : ℝ) : EReal) := by
  idx_vars y
  pointwise [k0_pay5, k0_pay6, k0_pay7, k0_pay8, k0_pay9, hX, hG, hT, consts]
  simp only [ring_lift, sum_lift, norm_lift]
  rw [mul_comm]

/-- The block's part of the gain's gradient. -/
theorem dg_block (y : S1x1024.Idx) :
    k0_pay2 (F := Ideal) (k0_pay7 X) (k0_pay8 X G T) k0_pay11 y
      = ((∑ a, (x a (y 1) * rinv 1024 (x a) * g (y 1) - t a (y 1)) * (1 / 1024) * (x a (y 1) * rinv 1024 (x a)) : ℝ) : EReal) := by
  idx_vars y
  pointwise [k0_pay1, k0_pay2, k0_pay5, k0_pay6, k0_pay7, k0_pay8, k0_pay11, hX, hG, hT, consts]
  simp only [ring_lift, sum_lift, norm_lift]

end Block

/-! ### What the arrays hold -/

/-- The windows' block indices. -/
theorem idx : ∀ p : Fin cfg0.N, win0_0.index p = ![p.val, 0] ∧ win0_1.index p = ![p.val, 0] ∧ win0_2.index p = ![0, 0]
    ∧ win0_3.index p = ![p.val, 0] ∧ win0_4.index p = ![0, 0] ∧ win0_5.index p = ![0, 0] ∧ p.val < 64 :=
  (by decide +kernel : ∀ p : Fin grid0.N, _)

theorem lt64 (p : Fin cfg0.N) : p.val < 64 := (idx p).2.2.2.2.2.2

theorem points : cfg0.N = 64 := N_0

/-- Row `a` of the block at point `p`. -/
def row (p : Fin cfg0.N) (a : Fin 256) : Fin 16384 := ⟨p.val * 256 + a.val, by have := lt64 p; omega⟩

/-- A sum over the points and a block's rows is the sum over all rows. -/
theorem sum_rows (f : Fin 16384 → ℝ) : ∑ p, ∑ a, f (row p a) = ∑ i, f i :=
  (Fin.sum_univ_tiles cfg0.N 256 (by rw [points]) f).symm

variable (m : (ℓ : Loc nD τ sig) → Buf (Elt Ideal) ℓ) (c : Dev nD) (x t : Fin 16384 → Fin 1024 → ℝ) (g : Fin 1024 → ℝ)
  (hX : m ((c.tc : Thread nD τ).loc main_arg0) = fun i => ((x (i 1) (i 2) : ℝ) : EReal))
  (hG : m ((c.tc : Thread nD τ).loc main_arg1) = fun i => ((g (i 0) : ℝ) : EReal))
  (hT : m ((c.tc : Thread nD τ).loc main_arg2) = fun i => ((t (i 1) (i 2) : ℝ) : EReal))

include hX in
theorem x_read (p : Fin cfg0.N) :
    iblk m c 0 p = fun y : S256x1024.Idx => ((x (row p (y 0)) (y 1) : ℝ) : EReal) := by
  funext y
  blk_simp [iblk, idx p]
  entry_read
  pointwise [hX]
  refine congrArg Real.toEReal (congrArg₂ x (Fin.ext ?_) (Fin.ext ?_)) <;> blk_simp [idx p, row]

include hT in
theorem t_read (p : Fin cfg0.N) :
    iblk m c 1 p = fun y : S256x1024.Idx => ((t (row p (y 0)) (y 1) : ℝ) : EReal) := by
  funext y
  blk_simp [iblk, idx p]
  entry_read
  pointwise [hT]
  refine congrArg Real.toEReal (congrArg₂ t (Fin.ext ?_) (Fin.ext ?_)) <;> blk_simp [idx p, row]

include hG in
theorem g_read (p : Fin cfg0.N) : iblk m c 2 p = fun y : S1x1024.Idx => ((g (y 1) : ℝ) : EReal) := by
  funext y
  blk_simp [iblk, idx p]
  entry_read
  pointwise [hG]
  refine congrArg Real.toEReal (congrArg g (Fin.ext ?_))
  blk_simp [idx p]

include hX hG hT

/-- The row's gradient, block by block. -/
theorem final_dx : (dats m 0 c).arrAt 3 cfg0.N = fun i : S16384x1024.Idx => ((HeadMath.dx x t g (i 0) (i 1) : ℝ) : EReal) := by
  refine (dats m 0 c).arrAt_eq_of_covers 3 _ (by decide +kernel) fun p hf y => ?_
  have hp := lt64 p
  have point : k0_pay4 (k0_pay6 (iblk m c 0 p)) (k0_pay7 (iblk m c 0 p)) (k0_pay8 (iblk m c 0 p) (iblk m c 2 p) (iblk m c 1 p))
      k0_pay11 (iblk m c 2 p) y = ((HeadMath.dx x t g (row p (y 0)) (y 1) : ℝ) : EReal) := by
    rw [eq_ix2 y]
    exact dx_block (x := fun a => x (row p a)) (t := fun a => t (row p a)) (x_read m c x hX p) (t_read m c t hT p) (g_read m c g hG p) _ _
  blk_simp
  rw [after0_3]
  have place : ((HeadMath.dx x t g (row p (y 0)) (y 1) : ℝ) : EReal)
      = ((HeadMath.dx x t g (((View.whole main_v3_0).slice (win0_3.rect p)).emb y 0)
        (((View.whole main_v3_0).slice (win0_3.rect p)).emb y 1) : ℝ) : EReal) := by
    refine congrArg Real.toEReal (congrArg₂ (HeadMath.dx x t g) (Fin.ext ?_) (Fin.ext ?_)) <;> blk_simp [idx p, row]
  refine Eq.trans ?_ place
  by_cases h : p.val % 64 = 0
  · rw [outsAt0_A m c p h (by omega) h (by omega)]
    frame_out
    exact point
  · rw [outsAt0_B m c p h (by omega) h (by omega)]
    frame_out
    exact point

/-- The loss, summed over the points. -/
theorem final_loss : (dats m 0 c).arrAt 4 cfg0.N = fun _ : S1x128.Idx => ((HeadMath.loss x t g : ℝ) : EReal) := by
  refine (dats m 0 c).arrAt_eq_of_covers 4 _ (by decide +kernel) fun p hf y => ?_
  have hp := (flush0_4 p).mp hf
  blk_simp
  rw [after0_4]
  refine (acc_lift (N := cfg0.N) (fun n h => (outsAt0 m c n h).2.1) (fun p _ => 1 / 2 * ∑ a, HeadMath.rowLoss x t g (row p a))
    (fun p h y => ?_) (fun p h y => ?_) p (by simp only [points]; have := lt64 p; omega) y).trans ?_
  · simp only [points] at h
    rw [outsAt0_A m c p h (by have := lt64 p; omega) h (by have := lt64 p; omega)]
    frame_out
    exact loss_block (x := fun a => x (row p a)) (t := fun a => t (row p a)) (x_read m c x hX p) (t_read m c t hT p) (g_read m c g hG p) y
  · simp only [points] at h
    rw [outsAt0_B m c p h (by omega) h (by omega)]
    frame_out
    pointwise [k0_pay10]
    exact congrArg _ (loss_block (x := fun a => x (row p a)) (t := fun a => t (row p a)) (x_read m c x hX p) (t_read m c t hT p) (g_read m c g hG p) _)
  · rw [← Finset.mul_sum, sum_rows]; rfl

/-- The gain's gradient, summed over the points. -/
theorem final_dg : (dats m 0 c).arrAt 5 cfg0.N = fun i : S1x1024.Idx => ((HeadMath.dg x t g (i 1) : ℝ) : EReal) := by
  refine (dats m 0 c).arrAt_eq_of_covers 5 _ (by decide +kernel) fun p hf y => ?_
  have hp := (flush0_5 p).mp hf
  blk_simp
  rw [after0_5]
  refine (acc_lift (N := cfg0.N) (fun n h => (outsAt0 m c n h).2.2) (fun p y => ∑ a, HeadMath.err x t g (row p a) (y 1) * (1 / 1024)
      * (x (row p a) (y 1) * rinv 1024 (x (row p a))))
    (fun p h y => ?_) (fun p h y => ?_) p (by simp only [points]; have := lt64 p; omega) y).trans ?_
  · simp only [points] at h
    rw [outsAt0_A m c p h (by have := lt64 p; omega) h (by have := lt64 p; omega)]
    frame_out
    exact dg_block (x := fun a => x (row p a)) (t := fun a => t (row p a)) (x_read m c x hX p) (t_read m c t hT p) (g_read m c g hG p) y
  · simp only [points] at h
    rw [outsAt0_B m c p h (by omega) h (by omega)]
    frame_out
    pointwise [k0_pay3]
    exact congrArg _ (dg_block (x := fun a => x (row p a)) (t := fun a => t (row p a)) (x_read m c x hX p) (t_read m c t hT p) (g_read m c g hG p) _)
  · refine congrArg Real.toEReal ((sum_rows _).trans (congrArg (HeadMath.dg x t g) (Fin.ext ?_)))
    blk_simp [idx p]

omit hX hG hT in
/-- What the kernel's run leaves in its three results: the row's gradient, the loss and the gain's gradient. -/
theorem results (x t : Dev nD → Fin 16384 → Fin 1024 → ℝ) (g : Dev nD → Fin 1024 → ℝ)
    (hX : ∀ c : Dev nD, m ((c.tc : Thread nD τ).loc main_arg0) = fun i => ((x c (i 1) (i 2) : ℝ) : EReal))
    (hG : ∀ c : Dev nD, m ((c.tc : Thread nD τ).loc main_arg1) = fun i => ((g c (i 0) : ℝ) : EReal))
    (hT : ∀ c : Dev nD, m ((c.tc : Thread nD τ).loc main_arg2) = fun i => ((t c (i 1) (i 2) : ℝ) : EReal))
    (ρ : Dev nD → PrngReg) :
    θ_run defs (onTc (τ := τ) (main (F := Ideal))) ⟨m, fun _ => 0, ρ⟩ fun r => ∀ c : Dev nD,
      r.2.mem ((c.tc : Thread nD τ).loc main_v3_0) = (fun i => ((HeadMath.dx (x c) (t c) (g c) (i 0) (i 1) : ℝ) : EReal))
      ∧ r.2.mem ((c.tc : Thread nD τ).loc main_v3_1) = (fun _ => ((HeadMath.loss (x c) (t c) (g c) : ℝ) : EReal))
      ∧ r.2.mem ((c.tc : Thread nD τ).loc main_v3_2) = (fun i => ((HeadMath.dg (x c) (t c) (g c) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r hr c => ⟨(hr c).1.trans (final_dx m c (x c) (t c) (g c) (hX c) (hG c) (hT c)),
    (hr c).2.1.trans (final_loss m c (x c) (t c) (g c) (hX c) (hG c) (hT c)),
    (hr c).2.2.1.trans (final_dg m c (x c) (t c) (g c) (hX c) (hG c) (hT c)), (hr c).2.2.2⟩) (run_blocks m ρ)

end Cert.HeadIdeal.Value

end
-- ==== Proof.HeadValue.lean ====
/- The value claim of the head: on finite arguments the kernel and the reference end with the same real arrays. -/
module

public import proofs.«01_k».proof.Defs
public import proofs.«01_k».proof.Proof.Gen.Pre_head_finite
public import proofs.«01_k».proof.Proof.HeadRef
public import proofs.«01_k».proof.Proof.HeadKernel

@[expose] public section

set_option maxRecDepth 16384

noncomputable section

namespace Cert.HeadValue

open Idealize.ShloMosaic Idealize.ShloMosaic.TcCoe Idealize.SL.Sem Cert.Lift

/-- The printed precondition says that every argument is a real array. -/
theorem real_of_pre (a0 : FVec Ideal ⟨3, ![1, 16384, 1024]⟩ .f32) (a1 : FVec Ideal ⟨1, ![1024]⟩ .f32)
    (a2 : FVec Ideal ⟨3, ![1, 16384, 1024]⟩ .f32)
    (h : Cert.Pre_head_finite.fn a0 a1 a2 = fun _ => 1#1) :
    a0 = (fun i => ((re3 a0 (i 1) (i 2) : ℝ) : EReal)) ∧ a1 = (fun i => ((re1 a1 (i 0) : ℝ) : EReal))
      ∧ a2 = (fun i => ((re3 a2 (i 1) (i 2) : ℝ) : EReal)) :=
  ⟨real3 (real_of_all (both (both h).1).1), real1 (real_of_all (both (both h).1).2), real3 (real_of_all (both h).2)⟩

/-- The head's value claim. -/
theorem algebraic : Cert.algebraic_HeadIdeal_HeadRefIdeal_pre_head_finite := by
  intro m ρ m' ρ' hpre hagree
  have hr := fun c => real_of_pre _ _ _ (hpre c)
  exact ⟨_, _, _, Cert.HeadIdeal.Value.results m _ _ _ (fun c => (hr c).1) (fun c => (hr c).2.1) (fun c => (hr c).2.2) ρ,
    Cert.HeadRefIdeal.Value.results m' _ _ _ (fun c => (hagree c).1.trans (hr c).1) (fun c => (hagree c).2.1.trans (hr c).2.1)
      (fun c => (hagree c).2.2.trans (hr c).2.2) ρ'⟩

end Cert.HeadValue

end
-- ==== Proof.AttnTables.lean ====
/- The attention backward's schedule: the two tables the index maps read, the grid's points in the tables' terms,
   and the buffers as the region finds them. -/
module

public import proofs.«01_k».proof.Proof.Gen.AttnIdeal.Launch
public import proofs.«01_k».proof.Proof.Gen.AttnIdeal.Skeleton
public import Idealize.ShloMosaic.Lib.Pipeline.FrameBody
public import Idealize.ShloMosaic.Lib.Pipeline.TableIdle
public import Idealize.ShloMosaic.Lib.Affine
public import Idealize.ShloMosaic.Lib.Tactic
public import Idealize.ShloMosaic.Lib.WordCmp
public import Idealize.ShloMosaic.Lib.VecWindow

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

local notation "𝕄" => MT nD τ sig Unit (Elt F) ℕ (UR sig nD τ) ℕ

/-! ## The schedule -/

/-- The query block and the key block of step `s`. -/
def qn (s : ℕ) : ℕ := if h : s < 528 then (lit0 ⟨s, h⟩).toNat else 0
def kn (s : ℕ) : ℕ := if h : s < 528 then (lit1 ⟨s, h⟩).toNat else 0

theorem kn_le_qn : ∀ s : Fin 528, kn s.val ≤ qn s.val := by decide +kernel
theorem qn_lt : ∀ s : Fin 528, qn s.val < 32 := by decide +kernel
theorem kn_lt (s : Fin 528) : kn s.val < 32 := Nat.lt_of_le_of_lt (kn_le_qn s) (qn_lt s)
theorem first_step : qn 0 = 0 ∧ kn 0 = 0 := by decide +kernel
theorem last_step : qn 527 = 31 ∧ kn 527 = 31 := by decide +kernel
/-- The next step takes the next query block of the same key block, or, after the last query block, starts the next
    key block at its diagonal. -/
theorem next_step : ∀ s : Fin 527, (qn s.val < 31 ∧ qn (s.val + 1) = qn s.val + 1 ∧ kn (s.val + 1) = kn s.val) ∨
    (qn s.val = 31 ∧ qn (s.val + 1) = kn s.val + 1 ∧ kn (s.val + 1) = kn s.val + 1) := by decide +kernel

/-! ## The tables -/

/-- The tables' contents: the two literal lists. -/
def tab : pre0.Contents (Elt F) := fun | 0 => fun i => lit0 (S528.rowMajor i) | 1 => fun i => lit1 (S528.rowMajor i) | ⟨_ + 2, h⟩ => absurd h (by simp)

/-- A point's two words. -/
def qw (i : grid0.Coords) : BitVec 32 := lit0 (i 1)
def kw (i : grid0.Coords) : BitVec 32 := lit1 (i 1)

theorem qw_toNat (i : grid0.Coords) : (qw i).toNat = qn (i 1).val := by
  have h : (i 1).val < 528 := (i 1).isLt
  show (lit0 _).toNat = if h : (i 1).val < 528 then (lit0 ⟨(i 1).val, h⟩).toNat else 0
  simp only [dif_pos h]
theorem kw_toNat (i : grid0.Coords) : (kw i).toNat = kn (i 1).val := by
  have h : (i 1).val < 528 := (i 1).isLt
  show (lit1 _).toNat = if h : (i 1).val < 528 then (lit1 ⟨(i 1).val, h⟩).toNat else 0
  simp only [dif_pos h]

theorem off_eq (i : grid0.Coords) : k0_off1 i 0 = (i 1).val := by rw [k0_off1_eq]; rfl

theorem row_of (x : S528.Idx) (n : Fin 528) (h : (x 0).val = n.val) : S528.rowMajor x = n :=
  Fin.ext ((Shape.rowMajor_val_one (d := S528.size) x).trans h)

theorem tab_q (i : grid0.Coords) (inb : ∀ a, k0_off1 i a + S1.size a ≤ S528.size a) :
    (tab (F := F)).at 0 (Rect.unit (s := S528) (k0_off1 i) S1.size inb) numel1_S1 = qw i :=
  congrArg lit0 (row_of _ _ ((Nat.add_zero _).trans (off_eq i)))
theorem tab_k (i : grid0.Coords) (inb : ∀ a, k0_off1 i a + S1.size a ≤ S528.size a) :
    (tab (F := F)).at 1 (Rect.unit (s := S528) (k0_off1 i) S1.size inb) numel1_S1 = kw i :=
  congrArg lit1 (row_of _ _ ((Nat.add_zero _).trans (off_eq i)))

theorem tabD_q (i : grid0.Coords) : (tab (F := F)).atD 0 (k0_off1 i) = qw i := by
  unfold Pipeline.Prefetch.Contents.atD
  split
  · exact congrArg lit0 (row_of _ _ (off_eq i))
  · rename_i h
    exact h.elim fun a => by
      obtain rfl : a = (0 : Fin 1) := Subsingleton.elim (α := Fin 1) _ _
      exact k0_off1_inb i 0
theorem tabD_k (i : grid0.Coords) : (tab (F := F)).atD 1 (k0_off1 i) = kw i := by
  unfold Pipeline.Prefetch.Contents.atD
  split
  · exact congrArg lit1 (row_of _ _ (off_eq i))
  · rename_i h
    exact h.elim fun a => by
      obtain rfl : a = (0 : Fin 1) := Subsingleton.elim (α := Fin 1) _ _
      exact k0_off1_inb i 0

/-! ## The index maps -/

theorem word_of (n : ℕ) (h : n < 4) : (BitVec.ofNat 32 n).toNat = n := by
  rw [BitVec.toNat_ofNat]; exact Nat.mod_eq_of_lt (by omega)

theorem head_word (i : grid0.Coords) : (BitVec.ofNat 32 (i 0).val).toNat = (i 0).val := word_of _ (i 0).isLt

/-- A query-side block and a key-side block. -/
theorem tr_q (i : grid0.Coords) : cc0_transform_0 k0_off1_inb numel1_S1 (tab (F := F)) i = ![qn (i 1).val, (i 0).val] := by
  rw [← qw_toNat, ← tab_q (F := F) i (k0_off1_inb i)]; exact congrArg (fun n => ![_, n]) (head_word i)
theorem tr_k (i : grid0.Coords) : cc0_transform_1 k0_off1_inb numel1_S1 (tab (F := F)) i = ![kn (i 1).val, (i 0).val] := by
  rw [← kw_toNat, ← tab_k (F := F) i (k0_off1_inb i)]; exact congrArg (fun n => ![_, n]) (head_word i)
theorem tr_col (i : grid0.Coords) : cc0_transform_6 k0_off1_inb numel1_S1 (tab (F := F)) i = ![qn (i 1).val, 0] := by
  rw [← qw_toNat, ← tab_q (F := F) i (k0_off1_inb i)]; rfl
theorem tr_row (i : grid0.Coords) : cc0_transform_7 k0_off1_inb numel1_S1 (tab (F := F)) i = ![0, kn (i 1).val] := by
  rw [← kw_toNat, ← tab_k (F := F) i (k0_off1_inb i)]; rfl
theorem tr_dq (i : grid0.Coords) : cc0_transform_8 i = ![0, (i 0).val] := by
  exact congrArg (fun n => ![0, n]) (head_word i)

theorem blk_inside {n h : ℕ} (hn : n < 32) (hh : h < 4) : ∀ a : Fin 2, ((![n, h] : Fin 2 → ℕ) a + 1) * S512x256.size a ≤ S16384x1024.size a := by
  intro a; fin_cases a
  · show (n + 1) * 512 ≤ 16384; omega
  · show (h + 1) * 256 ≤ 1024; omega
theorem col_inside {n : ℕ} (hn : n < 32) : ∀ a : Fin 2, ((![n, 0] : Fin 2 → ℕ) a + 1) * S512x1.size a ≤ S16384x1.size a := by
  intro a; fin_cases a
  · show (n + 1) * 512 ≤ 16384; omega
  · show (0 + 1) * 1 ≤ 1; omega
theorem row_inside {n : ℕ} (hn : n < 32) : ∀ a : Fin 2, ((![0, n] : Fin 2 → ℕ) a + 1) * S1x512.size a ≤ S1x16384.size a := by
  intro a; fin_cases a
  · show (0 + 1) * 1 ≤ 1; omega
  · show (n + 1) * 512 ≤ 16384; omega

theorem q_inside (i : grid0.Coords) : ∀ a, (cc0_transform_0 k0_off1_inb numel1_S1 (tab (F := F)) i a + 1) * S512x256.size a ≤ S16384x1024.size a := by
  rw [tr_q]; exact blk_inside (qn_lt _) (i 0).isLt
theorem k_inside (i : grid0.Coords) : ∀ a, (cc0_transform_1 k0_off1_inb numel1_S1 (tab (F := F)) i a + 1) * S512x256.size a ≤ S16384x1024.size a := by
  rw [tr_k]; exact blk_inside (kn_lt _) (i 0).isLt

/-- Every block the tables name lies inside its array. -/
theorem ok_tab : ok0 (F := F) tab := by
  refine ⟨fun i => ⟨q_inside i, .inr (Affine.block_words_dvd (by decide) (by decide))⟩,
    fun i => ⟨k_inside i, .inr (Affine.block_words_dvd (by decide) (by decide))⟩,
    fun i => ⟨k_inside i, .inr (Affine.block_words_dvd (by decide) (by decide))⟩,
    fun i => ⟨q_inside i, .inl rfl⟩, fun i => ⟨q_inside i, .inl rfl⟩, fun i => ⟨q_inside i, .inl rfl⟩,
    fun i => ⟨by rw [tr_col]; exact col_inside (qn_lt _), .inl rfl⟩,
    fun i => ⟨by rw [tr_row]; exact row_inside (kn_lt _), .inl rfl⟩,
    fun i => ⟨k_inside i, .inl rfl⟩, fun i => ⟨k_inside i, .inl rfl⟩⟩

/-- The tables' contents as the pipeline takes them. -/
def adm : (pcfg0 (F := F)).Adm := ⟨tab, ok_tab⟩

abbrev cfg : Pipeline.Cfg sig Λ₀ := cfg0 (F := F) adm

/-! ## The points -/

theorem coord_step : ∀ t : Fin grid0.N, ((grid0.coords t) 1).val = t.val % 528 := by decide +kernel
theorem coord_head : ∀ t : Fin grid0.N, ((grid0.coords t) 0).val = t.val / 528 := by decide +kernel

end Cert.AttnBwd
-- ==== Proof.AttnBody.lean ====
/- What one step of the attention backward does to its blocks. -/
module

public import proofs.«01_k».proof.Proof.AttnTables
public import Idealize.ShloMosaic.Lib.Writes
public import Idealize.ShloMosaic.Lib.Exec

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

local notation "𝕄" => MT nD τ sig Unit (Elt F) ℕ (UR sig nD τ) ℕ

/-- The eight blocks one step reads. -/
structure Ins (F : FTy → Type) where
  q : S512x256.Idx → Elt F .bf16
  k : S512x256.Idx → Elt F .bf16
  v : S512x256.Idx → Elt F .bf16
  d : S512x256.Idx → Elt F .f32
  e : S512x256.Idx → Elt F .f32
  l : S512x256.Idx → Elt F .f32
  col : S512x1.Idx → Elt F .i32
  row : S1x512.Idx → Elt F .i32

/-- The blocks carried from step to step: the query gradient and the two running key-side sums. -/
structure St (F : FTy → Type) where
  dq : S16384x256.Idx → Elt F .f32
  ak : S512x256.Idx → Elt F .f32
  av : S512x256.Idx → Elt F .f32

/-- The two heads' lanes of a block. -/
abbrev lo {α : Type} (x : S512x256.Idx → α) : S512x128.Idx → α := VecWindow.window x ![0, 0] S512x128.size inb_S512x256_S512x128_0_0
abbrev hi {α : Type} (x : S512x256.Idx → α) : S512x128.Idx → α := VecWindow.window x ![0, 128] S512x128.size inb_S512x256_S512x128_0_128

/-- A block with the window at `o` replaced by `g` of it, and then the window at `o'` by `g'` of it. -/
def twice {α : Type} {s : Shape} (X : s.Idx → α) (o o' : Fin s.rank → ℕ) (size : Fin s.rank → ℕ)
    (inb : ∀ a, o a + size a ≤ s.size a) (inb' : ∀ a, o' a + size a ≤ s.size a)
    (g g' : (((a : Fin s.rank) → Fin (size a)) → α) → (((a : Fin s.rank) → Fin (size a)) → α)) : s.Idx → α :=
  VecWindow.put (VecWindow.put X o size (g (VecWindow.window X o size inb))) o' size
    (g' (VecWindow.window (VecWindow.put X o size (g (VecWindow.window X o size inb))) o' size inb'))

/-- What the memory holds after the body has replaced one window and then another of a block. -/
theorem read_twice {sp : Space} {s : Shape} {e : EltTy} (v : View sig .tc sp s e) (f : v.ty.Contents (Elt F)) (L : List (View.Piece (Elt F) s e))
    (X : s.Idx → Elt F e) {o o' size : Fin s.rank → ℕ} {inb : ∀ a, o a + size a ≤ s.size a} {inb' : ∀ a, o' a + size a ≤ s.size a}
    {g g' : (((a : Fin s.rank) → Fin (size a)) → Elt F e) → (((a : Fin s.rank) → Fin (size a)) → Elt F e)}
    (w w' z' z : ((a : Fin s.rank) → Fin (size a)) → Elt F e) (hX : v.read (Elt F) (v.writes (Elt F) f L) = X)
    (hw : w = g z') (hz' : z' = VecWindow.window X o size inb) (hz : z = VecWindow.window (VecWindow.put X o size w) o' size inb') (hw' : w' = g' z) :
    v.read (Elt F) (v.writes (Elt F) f (⟨Rect.unit o' size inb', w'⟩ :: ⟨Rect.unit o size inb, w⟩ :: L)) = twice X o o' size inb inb' g g' := by
  refine (View.read_writes_cons_put v f inb' _ _ rfl).trans ?_
  rw [View.read_writes_cons_put v f inb _ L rfl, hX, hw', hz, hw, hz']
  rfl

/-- A window read back through the memory after another was replaced, and where the two share nothing. -/
theorem readAt_put {sp : Space} {s : Shape} {e : EltTy} (v : View sig .tc sp s e) (f : v.ty.Contents (Elt F)) (L : List (View.Piece (Elt F) s e))
    (X : s.Idx → Elt F e) {o o' size : Fin s.rank → ℕ} {inb : ∀ a, o a + size a ≤ s.size a} {inb' : ∀ a, o' a + size a ≤ s.size a}
    (w : ((a : Fin s.rank) → Fin (size a)) → Elt F e) (hX : v.read (Elt F) (v.writes (Elt F) f L) = X) :
    v.readAt (Elt F) (Rect.unit o' size inb').toLoadRect (v.writes (Elt F) f (⟨Rect.unit o size inb, w⟩ :: L))
      = VecWindow.window (VecWindow.put X o size w) o' size inb' := by
  rw [View.readAt_unit v _ inb' rfl inb', View.read_writes_cons_put v f inb w L rfl, hX]

theorem apart {s : Shape} {α : Type} {X : s.Idx → α} {o o' size : Fin s.rank → ℕ} {inb' : ∀ a, o' a + size a ≤ s.size a}
    {w z : ((a : Fin s.rank) → Fin (size a)) → α} (a : Fin s.rank) (ha : o a + size a ≤ o' a) (hz : z = VecWindow.window X o' size inb') :
    z = VecWindow.window (VecWindow.put X o size w) o' size inb' :=
  hz.trans (VecWindow.window_put_of_disjoint _ o size o' size inb' _ a (Or.inr ha)).symm

/-- A load whose elements were all written reads them whatever the memory held before. -/
theorem readCov_of {s : Shape} {e : EltTy} {sp : Space} (v : View sig .tc sp s e) {L : List (View.Piece (Elt F) s e)} {X : s.Idx → Elt F e}
    (hX : ∀ f, v.read (Elt F) (v.writes (Elt F) f L) = X) {o size : Fin s.rank → ℕ} {inb : ∀ a, o a + size a ≤ s.size a} :
    v.readCov L (Rect.unit o size inb).toLoadRect = VecWindow.window X o size inb := by
  unfold View.readCov
  rw [View.readAt_unit v _ inb rfl inb, hX]

theorem readCov_full_put {s : Shape} {e : EltTy} {sp : Space} (v : View sig .tc sp s e) {X : s.Idx → Elt F e} {o size o' size' o1 : Fin s.rank → ℕ}
    {inb : ∀ a, o a + size a ≤ s.size a} {inb' : ∀ a, o' a + size' a ≤ s.size a} {inb1 : ∀ a, o1 a + s.size a ≤ s.size a}
    {w : ((a : Fin s.rank) → Fin (size a)) → Elt F e} :
    v.readCov [⟨Rect.unit o size inb, w⟩, ⟨Rect.unit o1 s.size inb1, X⟩] (Rect.unit o' size' inb').toLoadRect
      = VecWindow.window (VecWindow.put X o size w) o' size' inb' :=
  readCov_of v fun f => (View.read_writes_cons_put v f inb w _ rfl).trans (by rw [View.read_writes_full])

/-- Every element of a block lies in one of its two heads' lanes. -/
theorem halves (y : S512x256.Idx) (w w' : S512x128.Idx → Elt F .f32) (L : List (View.Piece (Elt F) S512x256 .f32)) :
    ∃ p ∈ (⟨Rect.unit ![0, 128] S512x128.size inb_S512x256_S512x128_0_128, w'⟩ :: ⟨Rect.unit ![0, 0] S512x128.size inb_S512x256_S512x128_0_0, w⟩ :: L :
      List (View.Piece (Elt F) S512x256 .f32)), y ∈ p.1.set := by
  by_cases h : (y 1).val < 128
  · refine ⟨_, List.mem_cons_of_mem _ List.mem_cons_self, ?_⟩
    refine (Rect.mem_set_unit (inb := inb_S512x256_S512x128_0_0)).mpr (Fin.forall_fin_two.mpr ⟨⟨Nat.zero_le _, ?_⟩, Nat.zero_le _, ?_⟩)
    · exact lt_of_lt_of_eq (y 0).isLt rfl
    · exact lt_of_lt_of_eq h rfl
  · refine ⟨_, List.mem_cons_self, ?_⟩
    refine (Rect.mem_set_unit (inb := inb_S512x256_S512x128_0_128)).mpr (Fin.forall_fin_two.mpr ⟨⟨Nat.zero_le _, ?_⟩, ?_, ?_⟩)
    · exact lt_of_lt_of_eq (y 0).isLt rfl
    · exact Nat.le_of_not_lt h
    · exact lt_of_lt_of_eq (y 1).isLt rfl

theorem readCov_halves {sp : Space} (v : View sig .tc sp S512x256 .f32) (f : v.ty.Contents (Elt F)) {w w' : S512x128.Idx → Elt F .f32}
    {L : List (View.Piece (Elt F) S512x256 .f32)} {Y : S512x256.Idx → Elt F .f32} {inb : ∀ a, (![0, 0] : Fin 2 → ℕ) a + S512x256.size a ≤ S512x256.size a}
    (h : v.read (Elt F) (v.writes (Elt F) f (⟨Rect.unit ![0, 128] S512x128.size inb_S512x256_S512x128_0_128, w'⟩
      :: ⟨Rect.unit ![0, 0] S512x128.size inb_S512x256_S512x128_0_0, w⟩ :: L)) = Y) :
    v.readCov (⟨Rect.unit ![0, 128] S512x128.size inb_S512x256_S512x128_0_128, w'⟩
      :: ⟨Rect.unit ![0, 0] S512x128.size inb_S512x256_S512x128_0_0, w⟩ :: L) (Rect.unit ![0, 0] S512x256.size inb).toLoadRect = Y :=
  (View.readAt_writes_of_cover v f _ _ fun j => halves _ w w' L).symm.trans ((View.readAt_full v _ inb).trans h)

/-- One step off the diagonal. -/
def off (qw kw : BitVec 32) (hc : k0_chk2 qw kw) (h : k0_cond3 qw kw = 1#1) (x : Ins F) (s : St F) : St F where
  av := twice s.av ![0, 0] ![0, 128] S512x128.size inb_S512x256_S512x128_0_0 inb_S512x256_S512x128_0_128
    (fun z => k0_pay14 (lo x.q) (lo x.k) (lo x.d) (lo x.l) z)
    (fun z => k0_pay5 (k0_pay20 (hi x.d)) (k0_pay21 (hi x.q) (hi x.k) (hi x.l)) z)
  ak := twice s.ak ![0, 0] ![0, 128] S512x128.size inb_S512x256_S512x128_0_0 inb_S512x256_S512x128_0_128
    (fun z => k0_pay16 z (k0_pay15 (lo x.q) (lo x.k) (lo x.d) (lo x.l) (lo x.v) (lo x.e)))
    (fun z => k0_pay6 (k0_pay18 (hi x.q)) (k0_pay21 (hi x.q) (hi x.k) (hi x.l)) (k0_pay22 (hi x.d) (hi x.v)) (k0_pay23 (hi x.e)) z)
  dq := twice s.dq (k0_off2 qw) (k0_off3 qw) S512x128.size (k0_off2_inb qw kw hc h) (k0_off3_inb qw kw hc h)
    (fun z => k0_pay17 (k0_pay10 (lo x.k)) (k0_pay13 (lo x.q) (lo x.k) (lo x.d) (lo x.l) (lo x.v) (lo x.e)) z)
    (fun z => k0_pay7 (k0_pay19 (hi x.k)) (k0_pay21 (hi x.q) (hi x.k) (hi x.l)) (k0_pay22 (hi x.d) (hi x.v)) (k0_pay23 (hi x.e)) z)

/-- The positions, as the body loads them. -/
abbrev rows (x : S1x512.Idx → BitVec 32) : S1x512.Idx → BitVec 32 := VecWindow.window x ![0, 0] S1x512.size inb_S1x512_S1x512_0_0
abbrev cols (x : S512x1.Idx → BitVec 32) : S512x1.Idx → BitVec 32 := VecWindow.window x ![0, 0] S512x1.size inb_S512x1_S512x1_0_0

/-- One step on the diagonal, where the scores are masked. -/
def diag (qw kw : BitVec 32) (hc : k0_chk2 qw kw) (h : k0_cond4 qw kw = 1#1) (x : Ins F) (s : St F) : St F where
  av := twice s.av ![0, 0] ![0, 128] S512x128.size inb_S512x256_S512x128_0_0 inb_S512x256_S512x128_0_128
    (fun z => k0_pay31 z (k0_pay30 (rows x.row) (cols x.col) (lo x.q) (lo x.k) (lo x.d) (lo x.l)))
    (fun z => k0_pay40 (k0_pay24 (F := F) (rows x.row) (cols x.col)) (k0_pay36 (hi x.d)) (k0_pay37 (hi x.q) (hi x.k) (hi x.l)) (Named.named κ "mask" 0xF149F2CA#32) z)
  ak := twice s.ak ![0, 0] ![0, 128] S512x128.size inb_S512x256_S512x128_0_0 inb_S512x256_S512x128_0_128
    (fun z => k0_pay32 (k0_pay25 (lo x.q)) (k0_pay29 (rows x.row) (cols x.col) (lo x.q) (lo x.k) (lo x.d) (lo x.l) (lo x.v) (lo x.e)) z)
    (fun z => k0_pay41 (k0_pay24 (F := F) (rows x.row) (cols x.col)) (k0_pay34 (hi x.q)) (k0_pay36 (hi x.d)) (k0_pay37 (hi x.q) (hi x.k) (hi x.l)) (Named.named κ "mask" 0xF149F2CA#32) (hi x.v) (hi x.e) z)
  dq := twice s.dq (k0_off4 qw) (k0_off5 qw) S512x128.size (k0_off4_inb qw kw hc h) (k0_off5_inb qw kw hc h)
    (fun z => k0_pay33 (k0_pay26 (lo x.k)) (k0_pay29 (rows x.row) (cols x.col) (lo x.q) (lo x.k) (lo x.d) (lo x.l) (lo x.v) (lo x.e)) z)
    (fun z => k0_pay42 (k0_pay24 (F := F) (rows x.row) (cols x.col)) (k0_pay35 (hi x.k)) (k0_pay36 (hi x.d)) (k0_pay37 (hi x.q) (hi x.k) (hi x.l)) (Named.named κ "mask" 0xF149F2CA#32) (hi x.v) (hi x.e) z)

/-! ## The step's memory -/

/-- The memrefs one step is handed. -/
structure Refs where
  a2 : Memref sig .tc .smem S528 .i32
  h2 : a2.IsWhole
  a3 : Memref sig .tc .smem S528 .i32
  h3 : a3.IsWhole
  a4 : Memref sig .tc .vmem S512x256 .bf16
  h4 : a4.IsWhole
  a5 : Memref sig .tc .vmem S512x256 .bf16
  h5 : a5.IsWhole
  a6 : Memref sig .tc .vmem S512x256 .bf16
  h6 : a6.IsWhole
  a7 : Memref sig .tc .vmem S512x256 .f32
  h7 : a7.IsWhole
  a8 : Memref sig .tc .vmem S512x256 .f32
  h8 : a8.IsWhole
  a9 : Memref sig .tc .vmem S512x256 .f32
  h9 : a9.IsWhole
  a10 : Memref sig .tc .vmem S512x1 .i32
  h10 : a10.IsWhole
  a11 : Memref sig .tc .vmem S1x512 .i32
  h11 : a11.IsWhole
  a12 : Memref sig .tc .vmem S16384x256 .f32
  h12 : a12.IsWhole
  a13 : Memref sig .tc .vmem S512x256 .f32
  h13 : a13.IsWhole
  a14 : Memref sig .tc .vmem S512x256 .f32
  h14 : a14.IsWhole
  a15 : Memref sig .tc .vmem S512x256 .f32
  h15 : a15.IsWhole
  a16 : Memref sig .tc .vmem S512x256 .f32
  h16 : a16.IsWhole

/-- The kernel's body at those memrefs. -/
def body (i : grid0.Coords) (A : Refs) : Prog (TpuEff nD τ sig (Elt F) Λ₀ .tc) PUnit :=
  cc0_attn_bwd (F := F) i A.a2 A.h2 A.a3 A.h3 A.a4 A.h4 A.a5 A.h5 A.a6 A.h6 A.a7 A.h7 A.a8 A.h8 A.a9 A.h9 A.a10 A.h10 A.a11 A.h11
    A.a12 A.h12 A.a13 A.h13 A.a14 A.h14 A.a15 A.h15 A.a16 A.h16

/-- A table's word at a point. -/
def word (i : grid0.Coords) (a : Memref sig .tc .smem S528 .i32) (T : a.view.ty.Contents (Elt F)) : BitVec 32 :=
  a.view.readAt (Elt F) (Rect.unit (s := S528) (k0_off1 i) S1.size (k0_off1_inb i)).toLoadRect T (Shape.Idx.first (numel1_S1.symm ▸ Nat.one_pos))

/-- The step's memory with the inputs `x` and the carried blocks `s`. -/
def held (A : Refs) (c : Dev nD) (T2 : Buf (Elt F) (A.a2.view.loc (c : Thread nD τ))) (T3 : Buf (Elt F) (A.a3.view.loc (c : Thread nD τ)))
    (x : Ins F) (s : St F) : sProp 𝕄 :=
  iprop((A.a2.view.loc (c : Thread nD τ) ↦{fullShare.right} T2) ∗ (A.a3.view.loc (c : Thread nD τ) ↦{fullShare.right} T3)
    ∗ owns (c : Thread nD τ) A.a4 fullShare x.q ∗ owns (c : Thread nD τ) A.a5 fullShare x.k ∗ owns (c : Thread nD τ) A.a6 fullShare x.v
    ∗ owns (c : Thread nD τ) A.a7 fullShare x.d ∗ owns (c : Thread nD τ) A.a8 fullShare x.e ∗ owns (c : Thread nD τ) A.a9 fullShare x.l
    ∗ owns (c : Thread nD τ) A.a10 fullShare x.col ∗ owns (c : Thread nD τ) A.a11 fullShare x.row
    ∗ owns (c : Thread nD τ) A.a12 fullShare s.dq ∗ owns (c : Thread nD τ) A.a15 fullShare s.ak ∗ owns (c : Thread nD τ) A.a16 fullShare s.av)

/-- The key-side gradient blocks. -/
def outs (A : Refs) (c : Dev nD) (dk dv : S512x256.Idx → Elt F .f32) : sProp 𝕄 :=
  iprop(owns (c : Thread nD τ) A.a13 fullShare dk ∗ owns (c : Thread nD τ) A.a14 fullShare dv)

/-- The carried blocks with the running sums at zero, and all of them at zero. -/
def fresh (s : St F) : St F := ⟨s.dq, k0_pay2, k0_pay3⟩
def blank : St F := ⟨k0_pay1, k0_pay2, k0_pay3⟩

/-- The condition under which the body clears its running sums. -/
abbrev starts (qw kw : BitVec 32) : Prop := Scalar.cmpi .ne (Scalar.extui (Scalar.cmpi .eq qw kw) : BitVec 32) 0#32 = 1#1

end Cert.AttnBwd
-- ==== Proof.AttnRunC.lean ====
/- What the body leaves after a step off the diagonal. -/
module

public import proofs.«01_k».proof.Proof.AttnBody

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

local notation "𝕄" => MT nD τ sig Unit (Elt F) ℕ (UR sig nD τ) ℕ

variable (c : Dev nD) (i : grid0.Coords) (A : Refs)
  (T2 : Buf (Elt F) (A.a2.view.loc (c : Thread nD τ))) (T3 : Buf (Elt F) (A.a3.view.loc (c : Thread nD τ)))
  (x : Ins F) (s : St F) (qw kw : BitVec 32) (hq : word i A.a2 T2 = qw) (hk : word i A.a3 T3 = kw)
  (hc1 : k0_chk1 qw) (hc2 : k0_chk2 qw kw)

set_option maxHeartbeats 1000000 in
include hq hk hc1 in
/-- A step off the diagonal that is not the last of its key block adds its terms to the three carried blocks. -/
theorem run_off (h1 : ¬k0_cond1 i = 1#1) (h2 : ¬starts qw kw) (h3 : k0_cond3 qw kw = 1#1) (h4 : ¬k0_cond4 qw kw = 1#1) (h5 : ¬k0_cond5 qw = 1#1)
    (E : Set ℕ) (K : PUnit → sProp 𝕄) :
    iprop((held A c T2 T3 x s) ∗ ((held A c T2 T3 x (off qw kw hc2 h3 x s)) -∗ K ⟨⟩)) ⊢
      wp frame (wpE defs₀ Variants.none c none) E (body (F := F) i A) K := by
  obtain ⟨a2, g2, a3, g3, a4, g4, a5, g5, a6, g6, a7, g7, a8, g8, a9, g9, a10, g10, a11, g11, a12, g12, a13, g13, a14, g14, a15, g15, a16, g16⟩ := A
  obtain ⟨xq, xk, xv, xd, xe, xl, xc, xr⟩ := x
  obtain ⟨sq, sk, sv⟩ := s
  subst hq hk
  unfold body held
  dsimp only
  rw [cc0_attn_bwd_eq_skeleton]; unfold cc0_attn_bwd_skel
  simp only [k0_part1_eq_skeleton, k0_part2_eq_skeleton]
  unfold owns
  iintro ⟨⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%f16, %hf16, H16⟩⟩, Hk⟩
  subst hf4 hf5 hf6 hf7 hf8 hf9 hf10 hf11 hf12 hf15 hf16
  sl_exec (disch := first | exact hc1 | exact hc2 | exact h1 | exact h2 | exact h3 | exact h4 | exact h5)
  sl_step
  iapply Hk
  isplitl [H2]; · iexact H2
  isplitl [H3]; · iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; swap; · iexact H12
    ipureintro; dsimp only [off]; refine read_twice a12.view f12 [] _ _ _ ?y12 ?z12 (rfl) ?v12 ?u12 ?h12 ?w12
    case v12 => exact rfl
    case u12 => exact rfl
    case w12 => exact rfl
    case h12 => exact readAt_put a12.view f12 _ _ _ (rfl)
  isplitl [H15]
  · iexists _; isplitr; swap; · iexact H15
    ipureintro; dsimp only [off]; refine read_twice a15.view f15 [] _ _ _ ?y15 ?z15 (rfl) ?v15 ?u15 ?h15 ?w15
    case v15 => exact rfl
    case u15 => exact rfl
    case w15 => exact rfl
    case h15 => exact apart 1 (by exact le_refl 128) rfl
  iexists _; isplitr; swap; · iexact H16
  ipureintro; dsimp only [off]; refine read_twice a16.view f16 [] _ _ _ ?y16 ?z16 (rfl) ?v16 ?u16 ?h16 ?w16
  case v16 => exact rfl
  case u16 => exact rfl
  case w16 => exact rfl
  case h16 => exact apart 1 (by exact le_refl 128) rfl

end Cert.AttnBwd
-- ==== Proof.AttnRunA.lean ====
/- What the body leaves after a step on the diagonal. -/
module

public import proofs.«01_k».proof.Proof.AttnBody

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

local notation "𝕄" => MT nD τ sig Unit (Elt F) ℕ (UR sig nD τ) ℕ

variable (c : Dev nD) (i : grid0.Coords) (A : Refs)
  (T2 : Buf (Elt F) (A.a2.view.loc (c : Thread nD τ))) (T3 : Buf (Elt F) (A.a3.view.loc (c : Thread nD τ)))
  (x : Ins F) (s : St F) (qw kw : BitVec 32) (hq : word i A.a2 T2 = qw) (hk : word i A.a3 T3 = kw)
  (hc1 : k0_chk1 qw) (hc2 : k0_chk2 qw kw)

set_option maxHeartbeats 1000000 in
include hq hk hc1 in
/-- The first step of a head pair clears the three carried blocks and adds the diagonal's terms. -/
theorem run_first (h1 : k0_cond1 i = 1#1) (h2 : starts qw kw) (h3 : ¬k0_cond3 qw kw = 1#1) (h4 : k0_cond4 qw kw = 1#1) (h5 : ¬k0_cond5 qw = 1#1)
    (E : Set ℕ) (K : PUnit → sProp 𝕄) :
    iprop((held A c T2 T3 x s) ∗ ((held A c T2 T3 x (diag qw kw hc2 h4 x (blank))) -∗ K ⟨⟩)) ⊢
      wp frame (wpE defs₀ Variants.none c none) E (body (F := F) i A) K := by
  obtain ⟨a2, g2, a3, g3, a4, g4, a5, g5, a6, g6, a7, g7, a8, g8, a9, g9, a10, g10, a11, g11, a12, g12, a13, g13, a14, g14, a15, g15, a16, g16⟩ := A
  obtain ⟨xq, xk, xv, xd, xe, xl, xc, xr⟩ := x
  obtain ⟨sq, sk, sv⟩ := s
  subst hq hk
  unfold body held
  dsimp only
  rw [cc0_attn_bwd_eq_skeleton]; unfold cc0_attn_bwd_skel
  simp only [k0_part3_eq_skeleton, k0_part4_eq_skeleton, k0_part5_eq_skeleton]
  unfold owns
  iintro ⟨⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%f16, %hf16, H16⟩⟩, Hk⟩
  subst hf4 hf5 hf6 hf7 hf8 hf9 hf10 hf11 hf12 hf15 hf16
  sl_exec (disch := first | exact hc1 | exact hc2 | exact h1 | exact h2 | exact h3 | exact h4 | exact h5)
  sl_step
  iapply Hk
  isplitl [H2]; · iexact H2
  isplitl [H3]; · iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; swap; · iexact H12
    ipureintro; dsimp only [diag, blank]; refine read_twice a12.view _ _ _ _ _ ?y12 ?z12 (View.read_writes_full a12.view _ _ _ []) ?v12 ?u12 ?h12 ?w12
    case v12 => exact rfl
    case u12 => exact readCov_of a12.view fun f => View.read_writes_full a12.view f _ _ []
    case w12 => exact rfl
    case h12 => exact readCov_full_put a12.view
  isplitl [H15]
  · iexists _; isplitr; swap; · iexact H15
    ipureintro; dsimp only [diag, blank]; refine read_twice a15.view f15 _ _ _ _ ?y15 ?z15 (View.read_writes_full a15.view f15 _ _ []) ?v15 ?u15 ?h15 ?w15
    case v15 => exact rfl
    case u15 => exact readCov_of a15.view fun f => View.read_writes_full a15.view f _ _ []
    case w15 => exact rfl
    case h15 => exact readCov_full_put a15.view
  iexists _; isplitr; swap; · iexact H16
  ipureintro; dsimp only [diag, blank]; refine read_twice a16.view f16 _ _ _ _ ?y16 ?z16 (View.read_writes_full a16.view f16 _ _ []) ?v16 ?u16 ?h16 ?w16
  case v16 => exact rfl
  case u16 => exact readCov_of a16.view fun f => View.read_writes_full a16.view f _ _ []
  case w16 => exact rfl
  case h16 => exact readCov_full_put a16.view

set_option maxHeartbeats 1000000 in
include hq hk hc1 in
/-- A step on the diagonal clears the running key-side sums and adds its terms. -/
theorem run_diag (h1 : ¬k0_cond1 i = 1#1) (h2 : starts qw kw) (h3 : ¬k0_cond3 qw kw = 1#1) (h4 : k0_cond4 qw kw = 1#1) (h5 : ¬k0_cond5 qw = 1#1)
    (E : Set ℕ) (K : PUnit → sProp 𝕄) :
    iprop((held A c T2 T3 x s) ∗ ((held A c T2 T3 x (diag qw kw hc2 h4 x (fresh s))) -∗ K ⟨⟩)) ⊢
      wp frame (wpE defs₀ Variants.none c none) E (body (F := F) i A) K := by
  obtain ⟨a2, g2, a3, g3, a4, g4, a5, g5, a6, g6, a7, g7, a8, g8, a9, g9, a10, g10, a11, g11, a12, g12, a13, g13, a14, g14, a15, g15, a16, g16⟩ := A
  obtain ⟨xq, xk, xv, xd, xe, xl, xc, xr⟩ := x
  obtain ⟨sq, sk, sv⟩ := s
  subst hq hk
  unfold body held
  dsimp only
  rw [cc0_attn_bwd_eq_skeleton]; unfold cc0_attn_bwd_skel
  simp only [k0_part3_eq_skeleton, k0_part4_eq_skeleton, k0_part5_eq_skeleton]
  unfold owns
  iintro ⟨⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%f16, %hf16, H16⟩⟩, Hk⟩
  subst hf4 hf5 hf6 hf7 hf8 hf9 hf10 hf11 hf12 hf15 hf16
  sl_exec (disch := first | exact hc1 | exact hc2 | exact h1 | exact h2 | exact h3 | exact h4 | exact h5)
  sl_step
  iapply Hk
  isplitl [H2]; · iexact H2
  isplitl [H3]; · iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; swap; · iexact H12
    ipureintro; dsimp only [diag, fresh]; refine read_twice a12.view f12 [] _ _ _ ?y12 ?z12 (rfl) ?v12 ?u12 ?h12 ?w12
    case v12 => exact rfl
    case u12 => exact rfl
    case w12 => exact rfl
    case h12 => exact readAt_put a12.view f12 _ _ _ (rfl)
  isplitl [H15]
  · iexists _; isplitr; swap; · iexact H15
    ipureintro; dsimp only [diag, fresh]; refine read_twice a15.view f15 _ _ _ _ ?y15 ?z15 (View.read_writes_full a15.view f15 _ _ []) ?v15 ?u15 ?h15 ?w15
    case v15 => exact rfl
    case u15 => exact readCov_of a15.view fun f => View.read_writes_full a15.view f _ _ []
    case w15 => exact rfl
    case h15 => exact readCov_full_put a15.view
  iexists _; isplitr; swap; · iexact H16
  ipureintro; dsimp only [diag, fresh]; refine read_twice a16.view f16 _ _ _ _ ?y16 ?z16 (View.read_writes_full a16.view f16 _ _ []) ?v16 ?u16 ?h16 ?w16
  case v16 => exact rfl
  case u16 => exact readCov_of a16.view fun f => View.read_writes_full a16.view f _ _ []
  case w16 => exact rfl
  case h16 => exact readCov_full_put a16.view

end Cert.AttnBwd
-- ==== Proof.AttnRunD.lean ====
/- What the body leaves after the last step of a key block. -/
module

public import proofs.«01_k».proof.Proof.AttnBody

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

local notation "𝕄" => MT nD τ sig Unit (Elt F) ℕ (UR sig nD τ) ℕ

variable (c : Dev nD) (i : grid0.Coords) (A : Refs)
  (T2 : Buf (Elt F) (A.a2.view.loc (c : Thread nD τ))) (T3 : Buf (Elt F) (A.a3.view.loc (c : Thread nD τ)))
  (x : Ins F) (s : St F) (qw kw : BitVec 32) (hq : word i A.a2 T2 = qw) (hk : word i A.a3 T3 = kw)
  (hc1 : k0_chk1 qw) (hc2 : k0_chk2 qw kw)

set_option maxHeartbeats 1000000 in
include hq hk hc1 in
/-- The last step of a key block, off the diagonal, adds its terms and writes the key-side gradients. -/
theorem run_off_last (dk dv : S512x256.Idx → Elt F .f32) (h1 : ¬k0_cond1 i = 1#1) (h2 : ¬starts qw kw) (h3 : k0_cond3 qw kw = 1#1) (h4 : ¬k0_cond4 qw kw = 1#1) (h5 : k0_cond5 qw = 1#1)
    (E : Set ℕ) (K : PUnit → sProp 𝕄) :
    iprop((held A c T2 T3 x s ∗ outs A c dk dv) ∗ ((held A c T2 T3 x (off qw kw hc2 h3 x s) ∗ outs A c (k0_pay8 (off qw kw hc2 h3 x s).ak) (off qw kw hc2 h3 x s).av) -∗ K ⟨⟩)) ⊢
      wp frame (wpE defs₀ Variants.none c none) E (body (F := F) i A) K := by
  obtain ⟨a2, g2, a3, g3, a4, g4, a5, g5, a6, g6, a7, g7, a8, g8, a9, g9, a10, g10, a11, g11, a12, g12, a13, g13, a14, g14, a15, g15, a16, g16⟩ := A
  obtain ⟨xq, xk, xv, xd, xe, xl, xc, xr⟩ := x
  obtain ⟨sq, sk, sv⟩ := s
  subst hq hk
  unfold body held outs
  dsimp only
  rw [cc0_attn_bwd_eq_skeleton]; unfold cc0_attn_bwd_skel
  simp only [k0_part1_eq_skeleton, k0_part2_eq_skeleton]
  unfold owns
  iintro ⟨⟨⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%f16, %hf16, H16⟩⟩, ⟨%f13, %hf13, H13⟩, ⟨%f14, %hf14, H14⟩⟩, Hk⟩
  subst hf4 hf5 hf6 hf7 hf8 hf9 hf10 hf11 hf12 hf15 hf16
  sl_exec (disch := first | exact hc1 | exact hc2 | exact h1 | exact h2 | exact h3 | exact h4 | exact h5)
  sl_step
  iapply Hk
  isplitr [H13 H14]
  · isplitl [H2]; · iexact H2
    isplitl [H3]; · iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; swap; · iexact H12
      ipureintro; dsimp only [off]; refine read_twice a12.view f12 [] _ _ _ ?y12 ?z12 (rfl) ?v12 ?u12 ?h12 ?w12
      case v12 => exact rfl
      case u12 => exact rfl
      case w12 => exact rfl
      case h12 => exact readAt_put a12.view f12 _ _ _ (rfl)
    isplitl [H15]
    · iexists _; isplitr; swap; · iexact H15
      ipureintro; dsimp only [off]; refine read_twice a15.view f15 [] _ _ _ ?y15 ?z15 (rfl) ?v15 ?u15 ?h15 ?w15
      case v15 => exact rfl
      case u15 => exact rfl
      case w15 => exact rfl
      case h15 => exact apart 1 (by exact le_refl 128) rfl
    iexists _; isplitr; swap; · iexact H16
    ipureintro; dsimp only [off]; refine read_twice a16.view f16 [] _ _ _ ?y16 ?z16 (rfl) ?v16 ?u16 ?h16 ?w16
    case v16 => exact rfl
    case u16 => exact rfl
    case w16 => exact rfl
    case h16 => exact apart 1 (by exact le_refl 128) rfl
  · isplitl [H13]
    · iexists _; isplitr; swap; · iexact H13
      ipureintro; refine (View.read_writes_full a13.view f13 _ _ []).trans ?_
      refine congrArg k0_pay8 (readCov_halves a15.view f15 ?_)
      dsimp only [off]; refine read_twice a15.view f15 [] _ _ _ ?y15b ?z15b (rfl) ?v15b ?u15b ?h15b ?w15b
      case v15b => exact rfl
      case u15b => exact rfl
      case w15b => exact rfl
      case h15b => exact apart 1 (by exact le_refl 128) rfl
    iexists _; isplitr; swap; · iexact H14
    ipureintro; refine (View.read_writes_full a14.view f14 _ _ []).trans ?_
    refine readCov_halves a16.view f16 ?_
    dsimp only [off]; refine read_twice a16.view f16 [] _ _ _ ?y16b ?z16b (rfl) ?v16b ?u16b ?h16b ?w16b
    case v16b => exact rfl
    case u16b => exact rfl
    case w16b => exact rfl
    case h16b => exact apart 1 (by exact le_refl 128) rfl

end Cert.AttnBwd
-- ==== Proof.AttnRunE.lean ====
/- What the body leaves after the last diagonal step. -/
module

public import proofs.«01_k».proof.Proof.AttnBody

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

local notation "𝕄" => MT nD τ sig Unit (Elt F) ℕ (UR sig nD τ) ℕ

variable (c : Dev nD) (i : grid0.Coords) (A : Refs)
  (T2 : Buf (Elt F) (A.a2.view.loc (c : Thread nD τ))) (T3 : Buf (Elt F) (A.a3.view.loc (c : Thread nD τ)))
  (x : Ins F) (s : St F) (qw kw : BitVec 32) (hq : word i A.a2 T2 = qw) (hk : word i A.a3 T3 = kw)
  (hc1 : k0_chk1 qw) (hc2 : k0_chk2 qw kw)

set_option maxHeartbeats 1000000 in
include hq hk hc1 in
/-- The last diagonal step is also the last of its key block: it adds its terms and writes the key-side gradients. -/
theorem run_diag_last (dk dv : S512x256.Idx → Elt F .f32) (h1 : ¬k0_cond1 i = 1#1) (h2 : starts qw kw) (h3 : ¬k0_cond3 qw kw = 1#1) (h4 : k0_cond4 qw kw = 1#1) (h5 : k0_cond5 qw = 1#1)
    (E : Set ℕ) (K : PUnit → sProp 𝕄) :
    iprop((held A c T2 T3 x s ∗ outs A c dk dv) ∗ ((held A c T2 T3 x (diag qw kw hc2 h4 x (fresh s)) ∗ outs A c (k0_pay8 (diag qw kw hc2 h4 x (fresh s)).ak) (diag qw kw hc2 h4 x (fresh s)).av) -∗ K ⟨⟩)) ⊢
      wp frame (wpE defs₀ Variants.none c none) E (body (F := F) i A) K := by
  obtain ⟨a2, g2, a3, g3, a4, g4, a5, g5, a6, g6, a7, g7, a8, g8, a9, g9, a10, g10, a11, g11, a12, g12, a13, g13, a14, g14, a15, g15, a16, g16⟩ := A
  obtain ⟨xq, xk, xv, xd, xe, xl, xc, xr⟩ := x
  obtain ⟨sq, sk, sv⟩ := s
  subst hq hk
  unfold body held outs
  dsimp only
  rw [cc0_attn_bwd_eq_skeleton]; unfold cc0_attn_bwd_skel
  simp only [k0_part3_eq_skeleton, k0_part4_eq_skeleton, k0_part5_eq_skeleton]
  unfold owns
  iintro ⟨⟨⟨H2, H3, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%f16, %hf16, H16⟩⟩, ⟨%f13, %hf13, H13⟩, ⟨%f14, %hf14, H14⟩⟩, Hk⟩
  subst hf4 hf5 hf6 hf7 hf8 hf9 hf10 hf11 hf12 hf15 hf16
  sl_exec (disch := first | exact hc1 | exact hc2 | exact h1 | exact h2 | exact h3 | exact h4 | exact h5)
  sl_step
  iapply Hk
  isplitr [H13 H14]
  · isplitl [H2]; · iexact H2
    isplitl [H3]; · iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; swap; · iexact H12
      ipureintro; dsimp only [diag, fresh]; refine read_twice a12.view f12 [] _ _ _ ?y12 ?z12 (rfl) ?v12 ?u12 ?h12 ?w12
      case v12 => exact rfl
      case u12 => exact rfl
      case w12 => exact rfl
      case h12 => exact readAt_put a12.view f12 _ _ _ (rfl)
    isplitl [H15]
    · iexists _; isplitr; swap; · iexact H15
      ipureintro; dsimp only [diag, fresh]; refine read_twice a15.view f15 _ _ _ _ ?y15 ?z15 (View.read_writes_full a15.view f15 _ _ []) ?v15 ?u15 ?h15 ?w15
      case v15 => exact rfl
      case u15 => exact readCov_of a15.view fun f => View.read_writes_full a15.view f _ _ []
      case w15 => exact rfl
      case h15 => exact readCov_full_put a15.view
    iexists _; isplitr; swap; · iexact H16
    ipureintro; dsimp only [diag, fresh]; refine read_twice a16.view f16 _ _ _ _ ?y16 ?z16 (View.read_writes_full a16.view f16 _ _ []) ?v16 ?u16 ?h16 ?w16
    case v16 => exact rfl
    case u16 => exact readCov_of a16.view fun f => View.read_writes_full a16.view f _ _ []
    case w16 => exact rfl
    case h16 => exact readCov_full_put a16.view
  · isplitl [H13]
    · iexists _; isplitr; swap; · iexact H13
      ipureintro; refine (View.read_writes_full a13.view f13 _ _ []).trans ?_
      refine congrArg k0_pay8 (readCov_halves a15.view f15 ?_)
      dsimp only [diag, fresh]; refine read_twice a15.view f15 _ _ _ _ ?y15b ?z15b (View.read_writes_full a15.view f15 _ _ []) ?v15b ?u15b ?h15b ?w15b
      case v15b => exact rfl
      case u15b => exact readCov_of a15.view fun f => View.read_writes_full a15.view f _ _ []
      case w15b => exact rfl
      case h15b => exact readCov_full_put a15.view
    iexists _; isplitr; swap; · iexact H14
    ipureintro; refine (View.read_writes_full a14.view f14 _ _ []).trans ?_
    refine readCov_halves a16.view f16 ?_
    dsimp only [diag, fresh]; refine read_twice a16.view f16 _ _ _ _ ?y16b ?z16b (View.read_writes_full a16.view f16 _ _ []) ?v16b ?u16b ?h16b ?w16b
    case v16b => exact rfl
    case u16b => exact readCov_of a16.view fun f => View.read_writes_full a16.view f _ _ []
    case w16b => exact rfl
    case h16b => exact readCov_full_put a16.view

end Cert.AttnBwd
-- ==== Proof.AttnState.lean ====
/- The attention backward's state from step to step, and the pipeline's proof data. -/
module

public import proofs.«01_k».proof.Proof.AttnRunC
public import proofs.«01_k».proof.Proof.AttnRunA
public import proofs.«01_k».proof.Proof.AttnRunD
public import proofs.«01_k».proof.Proof.AttnRunE
public import Idealize.ShloMosaic.Lib.Pipeline.Frame

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ)

/-! ## The conditions, step by step -/

theorem chk1 : ∀ s : Fin 528, k0_chk1 (lit0 s) := by decide +kernel
theorem chk2 : ∀ s : Fin 528, k0_chk2 (lit0 s) (lit1 s) := by decide +kernel
theorem starts_iff : ∀ s : Fin 528, starts (lit0 s) (lit1 s) ↔ qn s.val = kn s.val := by decide +kernel
theorem cond3_iff : ∀ s : Fin 528, k0_cond3 (lit0 s) (lit1 s) = 1#1 ↔ ¬qn s.val = kn s.val := by decide +kernel
theorem cond4_iff : ∀ s : Fin 528, k0_cond4 (lit0 s) (lit1 s) = 1#1 ↔ qn s.val = kn s.val := by decide +kernel
theorem cond5_iff : ∀ s : Fin 528, k0_cond5 (lit0 s) = 1#1 ↔ qn s.val = 31 := by decide +kernel
theorem cond1_iff : ∀ t : Fin grid0.N, k0_cond1 (grid0.coords t) = 1#1 ↔ t.val % 528 = 0 := by decide +kernel

/-! ## What the region finds -/

/-- The host operations before the kernel. -/
abbrev prep : List (List (HloOp τ sig (Elt F))) := [hostOps0, hostOps0_1, hostOps0_2, hostOps0_3, hostOps0_4, hostOps0_5, hostOps0_6, hostOps0_7, hostOps0_8]

/-- A buffer as the kernel finds it. -/
abbrev V (c : Dev nD) (b : Ref sig .tc) : Buf (Elt F) ((c : Thread nD τ).loc b) := StableHlo.after (prep (F := F)).flatten (fun b => m (c, b)) b

/-- A window's block at a point. -/
def iblk (c : Dev nD) (w : Fin (cfg (F := F)).W) (t : Fin (cfg (F := F)).N) :
    (((cfg (F := F)).win w).xblock ((cfg (F := F)).grid.coords t)).Idx → Elt F ((cfg (F := F)).win w).elt :=
  (((cfg (F := F)).win w).blk t).view.read (Elt F) (V m c (Pipeline.arrRef spec0 w))

/-- The blocks point `t` reads. -/
def ins (c : Dev nD) (t : Fin (cfg (F := F)).N) : Ins F :=
  ⟨iblk m c 0 t, iblk m c 1 t, iblk m c 2 t, iblk m c 3 t, iblk m c 4 t, iblk m c 5 t, iblk m c 6 t, iblk m c 7 t⟩

/-- The carried blocks after point `t`, from those before it. -/
def next (c : Dev nD) (t : Fin (cfg (F := F)).N) (s : St F) : St F :=
  if h3 : k0_cond3 (qw (grid0.coords t)) (kw (grid0.coords t)) = 1#1 then off _ _ (chk2 (grid0.coords t 1)) h3 (ins m c t) s
  else if h4 : k0_cond4 (qw (grid0.coords t)) (kw (grid0.coords t)) = 1#1 then
    diag _ _ (chk2 (grid0.coords t 1)) h4 (ins m c t) (if t.val % 528 = 0 then blank else fresh s)
  else s

/-- The carried blocks before point `n`. -/
def state (c : Dev nD) : ℕ → St F
  | 0 => blank
  | n + 1 => if h : n < (cfg (F := F)).N then next m c ⟨n, h⟩ (state c n) else state c n

theorem state_succ (c : Dev nD) (t : Fin (cfg (F := F)).N) : state m c (t.val + 1) = next m c t (state m c t.val) := by
  rw [state, dif_pos t.isLt]

/-- At the first step of a head pair nothing of the previous blocks remains. -/
theorem next_first (c : Dev nD) (t : Fin (cfg (F := F)).N) (h : t.val % 528 = 0) (s s' : St F) : next m c t s = next m c t s' := by
  have e : qn ((grid0.coords t) 1).val = kn ((grid0.coords t) 1).val := by
    rw [show ((grid0.coords t) 1).val = 0 from (coord_step t).trans h]
    exact first_step.1.trans first_step.2.symm
  have h3 : ¬k0_cond3 (qw (grid0.coords t)) (kw (grid0.coords t)) = 1#1 := fun h3 => (cond3_iff (grid0.coords t 1)).mp h3 e
  have h4 : k0_cond4 (qw (grid0.coords t)) (kw (grid0.coords t)) = 1#1 := (cond4_iff (grid0.coords t 1)).mpr e
  unfold next
  rw [dif_neg h3, dif_neg h3, dif_pos h4, dif_pos h4, if_pos h, if_pos h]

/-! ## The proof data -/

/-- The invariant between points: the tables, the two running sums, the generator register. -/
def inv (c : Dev nD) (n : ℕ) : sProp 𝕄 :=
  iprop(((Memref.whole main_c : Memref sig .tc .smem S528 .i32).view.loc (c : Thread nD τ) ↦{fullShare.right} (tab (F := F) 0 : Buf (Elt F) ((c : Thread nD τ).loc main_c)))
    ∗ ((Memref.whole main_c_0 : Memref sig .tc .smem S528 .i32).view.loc (c : Thread nD τ) ↦{fullShare.right} (tab (F := F) 1 : Buf (Elt F) ((c : Thread nD τ).loc main_c_0)))
    ∗ (∃ ak av, ⌜n % 528 ≠ 0 → ak = (state m c n).ak ∧ av = (state m c n).av⌝
      ∗ owns (c : Thread nD τ) (Memref.whole cc0_scratch0 : Memref sig .tc .vmem S512x256 .f32) fullShare ak
      ∗ owns (c : Thread nD τ) (Memref.whole cc0_scratch1 : Memref sig .tc .vmem S512x256 .f32) fullShare av)
    ∗ ∃ r, prngReg c r)

def dats (_ : Fin 1) (c : Dev nD) : Dat τ (Elt F) Unit ℕ (UR sig nD τ) ℕ (cfg (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (state m c (t.val + 1)).dq
    | ⟨9, _⟩ => k0_pay8 (state m c (t.val + 1)).ak
    | ⟨10, _⟩ => (state m c (t.val + 1)).av
  Φ n := inv m c n.val
  q _ := fullShare
  owed _ := 0

theorem A_eq (c : Dev nD) (w : Fin (cfg (F := F)).W) : (dats m 0 c).A w = V m c (Pipeline.arrRef spec0 w) := by
  dsimp only [dats]

theorem after_0 (c : Dev nD) (t : Fin (cfg (F := F)).N) : (dats m 0 c).after 0 t = iblk m c 0 t := rfl
theorem after_1 (c : Dev nD) (t : Fin (cfg (F := F)).N) : (dats m 0 c).after 1 t = iblk m c 1 t := rfl
theorem after_2 (c : Dev nD) (t : Fin (cfg (F := F)).N) : (dats m 0 c).after 2 t = iblk m c 2 t := rfl
theorem after_3 (c : Dev nD) (t : Fin (cfg (F := F)).N) : (dats m 0 c).after 3 t = iblk m c 3 t := rfl
theorem after_4 (c : Dev nD) (t : Fin (cfg (F := F)).N) : (dats m 0 c).after 4 t = iblk m c 4 t := rfl
theorem after_5 (c : Dev nD) (t : Fin (cfg (F := F)).N) : (dats m 0 c).after 5 t = iblk m c 5 t := rfl
theorem after_6 (c : Dev nD) (t : Fin (cfg (F := F)).N) : (dats m 0 c).after 6 t = iblk m c 6 t := rfl
theorem after_7 (c : Dev nD) (t : Fin (cfg (F := F)).N) : (dats m 0 c).after 7 t = iblk m c 7 t := rfl
theorem after_8 (c : Dev nD) (t : Fin (cfg (F := F)).N) : (dats m 0 c).after 8 t = (state m c (t.val + 1)).dq := rfl
theorem after_9 (c : Dev nD) (t : Fin (cfg (F := F)).N) : (dats m 0 c).after 9 t = k0_pay8 (state m c (t.val + 1)).ak := rfl
theorem after_10 (c : Dev nD) (t : Fin (cfg (F := F)).N) : (dats m 0 c).after 10 t = (state m c (t.val + 1)).av := rfl

/-- An input's staging buffer holds its block at every point. -/
theorem before_input {c : Dev nD} (dat : Dat τ (Elt F) Unit ℕ (UR sig nD τ) ℕ (cfg (F := F)) c) (w : Fin (cfg (F := F)).W)
    (hw : ((cfg (F := F)).win w).isOut = false) (hl : ∀ i, (cfg (F := F)).idle w i = false) (hA : dat.A w = V m c (Pipeline.arrRef spec0 w))
    (ha : ∀ t, ((cfg (F := F)).win w).cut ((cfg (F := F)).grid.coords t) (dat.after w t) = iblk m c w t) (t : Fin (cfg (F := F)).N) (d) :
    dat.before w t d = dat.fetched w t d := by
  refine dat.before_in_eq_fetched w hw hl (fun _ _ _ => rfl) (fun t => ?_) t d
  rw [ha]; unfold Dat.blockOf iblk; rw [hA]

theorem before_0 (c : Dev nD) (t : Fin (cfg (F := F)).N) (d) : (dats m 0 c).before 0 t d = iblk m c 0 t :=
  (before_input m (dats m 0 c) 0 rfl (fun _ => rfl) (A_eq m c 0) (fun t => by rw [after_0]) t d).trans
    (by unfold Dat.fetched Dat.blockOf iblk; rw [A_eq]; rfl)
theorem before_1 (c : Dev nD) (t : Fin (cfg (F := F)).N) (d) : (dats m 0 c).before 1 t d = iblk m c 1 t :=
  (before_input m (dats m 0 c) 1 rfl (fun _ => rfl) (A_eq m c 1) (fun t => by rw [after_1]) t d).trans
    (by unfold Dat.fetched Dat.blockOf iblk; rw [A_eq]; rfl)
theorem before_2 (c : Dev nD) (t : Fin (cfg (F := F)).N) (d) : (dats m 0 c).before 2 t d = iblk m c 2 t :=
  (before_input m (dats m 0 c) 2 rfl (fun _ => rfl) (A_eq m c 2) (fun t => by rw [after_2]) t d).trans
    (by unfold Dat.fetched Dat.blockOf iblk; rw [A_eq]; rfl)
theorem before_3 (c : Dev nD) (t : Fin (cfg (F := F)).N) (d) : (dats m 0 c).before 3 t d = iblk m c 3 t :=
  (before_input m (dats m 0 c) 3 rfl (fun _ => rfl) (A_eq m c 3) (fun t => by rw [after_3]) t d).trans
    (by unfold Dat.fetched Dat.blockOf iblk; rw [A_eq]; rfl)
theorem before_4 (c : Dev nD) (t : Fin (cfg (F := F)).N) (d) : (dats m 0 c).before 4 t d = iblk m c 4 t :=
  (before_input m (dats m 0 c) 4 rfl (fun _ => rfl) (A_eq m c 4) (fun t => by rw [after_4]) t d).trans
    (by unfold Dat.fetched Dat.blockOf iblk; rw [A_eq]; rfl)
theorem before_5 (c : Dev nD) (t : Fin (cfg (F := F)).N) (d) : (dats m 0 c).before 5 t d = iblk m c 5 t :=
  (before_input m (dats m 0 c) 5 rfl (fun _ => rfl) (A_eq m c 5) (fun t => by rw [after_5]) t d).trans
    (by unfold Dat.fetched Dat.blockOf iblk; rw [A_eq]; rfl)
theorem before_6 (c : Dev nD) (t : Fin (cfg (F := F)).N) (d) : (dats m 0 c).before 6 t d = iblk m c 6 t :=
  (before_input m (dats m 0 c) 6 rfl (fun _ => rfl) (A_eq m c 6) (fun t => by rw [after_6]) t d).trans
    (by unfold Dat.fetched Dat.blockOf iblk; rw [A_eq]; rfl)
theorem before_7 (c : Dev nD) (t : Fin (cfg (F := F)).N) (d) : (dats m 0 c).before 7 t d = iblk m c 7 t :=
  (before_input m (dats m 0 c) 7 rfl (fun _ => rfl) (A_eq m c 7) (fun t => by rw [after_7]) t d).trans
    (by unfold Dat.fetched Dat.blockOf iblk; rw [A_eq]; rfl)

/-! ## The outputs' schedule -/

theorem live_8 (i : grid0.Coords) : (cfg (F := F)).idle 8 i = false := by
  show (!(k0_cond1 i == 1#1) && !(k0_cond3 ((tab (F := F)).atD 0 (k0_off1 i)) ((tab (F := F)).atD 1 (k0_off1 i)) == 1#1)
    && !(k0_cond4 ((tab (F := F)).atD 0 (k0_off1 i)) ((tab (F := F)).atD 1 (k0_off1 i)) == 1#1)) = false
  rw [tabD_q, tabD_k]
  by_cases h : qn (i 1).val = kn (i 1).val
  · rw [show k0_cond4 (qw i) (kw i) = 1#1 from (cond4_iff (i 1)).mpr h]; simp
  · rw [show k0_cond3 (qw i) (kw i) = 1#1 from (cond3_iff (i 1)).mpr h]; simp

theorem idle_9 (i : grid0.Coords) : (cfg (F := F)).idle 9 i = !(k0_cond5 (qw i) == 1#1) := by
  show (!(k0_cond5 ((tab (F := F)).atD 0 (k0_off1 i)) == 1#1)) = _
  rw [tabD_q]
theorem idle_10 (i : grid0.Coords) : (cfg (F := F)).idle 10 i = !(k0_cond5 (qw i) == 1#1) := idle_9 i

theorem points : (cfg (F := F)).N = 2112 := N_0

/-- Point `t` is step `t mod 528` of head pair `t / 528`. -/
theorem index_9 (t : Fin (cfg (F := F)).N) : ((cfg (F := F)).win 9).index t = ![kn (t.val % 528), t.val / 528] := by
  refine (tr_k (F := F) (grid0.coords t)).trans ?_
  rw [coord_step t, coord_head t]
theorem index_8 (t : Fin (cfg (F := F)).N) : ((cfg (F := F)).win 8).index t = ![0, t.val / 528] := by
  refine (tr_dq (grid0.coords t)).trans ?_
  rw [coord_head t]

/-- The key-side blocks leave only after the last query block. -/
theorem stays_9 (t : Fin (cfg (F := F)).N) (h : ¬qn (t.val % 528) = 31) : ((cfg (F := F)).win 9).flush t = false := by
  have hN : t.val < 2112 := t.isLt
  have hlast : t.val % 528 < 527 := by
    refine lt_of_le_of_ne (by omega) fun e => h ?_
    rw [e]; exact last_step.1
  have hstep := next_step ⟨t.val % 528, hlast⟩
  rw [Window.flush_eq_flushF]
  unfold Window.flushF
  rw [Bool.and_eq_false_iff]; right
  rw [Bool.or_eq_false_iff]
  refine ⟨decide_eq_false ?_, decide_eq_false ?_⟩
  · show ¬t.val + 1 = 2112; omega
  · rintro ⟨h', a, ha⟩
    refine ha (congrFun ?_ a)
    rw [index_9, index_9]
    have e1 : (t.val + 1) % 528 = t.val % 528 + 1 := by omega
    have e2 : (t.val + 1) / 528 = t.val / 528 := by omega
    have e3 : kn (t.val % 528 + 1) = kn (t.val % 528) := by
      rcases hstep with h | h
      · exact h.2.2
      · exact absurd h.1 ‹_›
    show ![kn ((t.val + 1) % 528), (t.val + 1) / 528] = _
    rw [e1, e2, e3]
theorem stays_10 (t : Fin (cfg (F := F)).N) (h : ¬qn (t.val % 528) = 31) : ((cfg (F := F)).win 10).flush t = false := stays_9 t h

theorem stays_8 (t : Fin (cfg (F := F)).N) (h : ¬(t.val + 1) % 528 = 0) : ((cfg (F := F)).win 8).flush t = false := by
  have hN : t.val < 2112 := t.isLt
  rw [Window.flush_eq_flushF]
  unfold Window.flushF
  rw [Bool.and_eq_false_iff]; right
  rw [Bool.or_eq_false_iff]
  refine ⟨decide_eq_false ?_, decide_eq_false ?_⟩
  · show ¬t.val + 1 = 2112; omega
  · rintro ⟨h', a, ha⟩
    refine ha (congrFun ?_ a)
    rw [index_8, index_8]
    show ![0, (t.val + 1) / 528] = _
    rw [show (t.val + 1) / 528 = t.val / 528 by omega]

/-- The query gradient is carried through a head pair's steps. -/
theorem before_8 (c : Dev nD) (t : Fin (cfg (F := F)).N) (h : t.val % 528 ≠ 0) (d) : (dats m 0 c).before 8 t d = (state m c t.val).dq := by
  obtain ⟨n, hn⟩ := t
  obtain _ | n := n
  · exact absurd rfl h
  have hf : (cfg (F := F)).fresh 8 (n + 1) = false := by
    rw [Cfg.fresh_succ _ 8 n (Nat.lt_of_succ_lt hn), stays_8 ⟨n, _⟩ h, live_8]; rfl
  rw [Dat.before_out_traj _ 8 rfl (fun _ _ => rfl) (fun t _ hi _ => absurd hi (by rw [live_8]; exact Bool.false_ne_true)) (n + 1) ⟨n + 1, hn⟩ rfl d,
    if_neg (by rw [hf]; exact Bool.false_ne_true), after_8]
  rfl

end Cert.AttnBwd
-- ==== Proof.AttnFrame.lean ====
/- The attention backward runs: every point meets its obligation, and the whole program leaves its arguments alone. -/
module

public import proofs.«01_k».proof.Proof.AttnState
public import Idealize.ShloMosaic.Lib.Pipeline.Frame
public import Idealize.ShloMosaic.Lib.Quiescent

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One point -/

/-- The memrefs point `t` is handed. -/
def refs (t : Fin (cfg (F := F)).N) : Refs :=
  ⟨Memref.whole main_c, Memref.isWhole_whole _, Memref.whole main_c_0, Memref.isWhole_whole _,
   spec0_0.stage ((cfg (F := F)).slots t 0), hstage0_0 (((cfg (F := F)).slots t 0).cast nbuf0_0),
   spec0_1.stage ((cfg (F := F)).slots t 1), hstage0_1 (((cfg (F := F)).slots t 1).cast nbuf0_1),
   spec0_2.stage ((cfg (F := F)).slots t 2), hstage0_2 (((cfg (F := F)).slots t 2).cast nbuf0_2),
   spec0_3.stage ((cfg (F := F)).slots t 3), hstage0_3 (((cfg (F := F)).slots t 3).cast nbuf0_3),
   spec0_4.stage ((cfg (F := F)).slots t 4), hstage0_4 (((cfg (F := F)).slots t 4).cast nbuf0_4),
   spec0_5.stage ((cfg (F := F)).slots t 5), hstage0_5 (((cfg (F := F)).slots t 5).cast nbuf0_5),
   spec0_6.stage ((cfg (F := F)).slots t 6), hstage0_6 (((cfg (F := F)).slots t 6).cast nbuf0_6),
   spec0_7.stage ((cfg (F := F)).slots t 7), hstage0_7 (((cfg (F := F)).slots t 7).cast nbuf0_7),
   spec0_8.stage ((cfg (F := F)).slots t 8), hstage0_8 (((cfg (F := F)).slots t 8).cast nbuf0_8),
   spec0_9.stage ((cfg (F := F)).slots t 9), hstage0_9 (((cfg (F := F)).slots t 9).cast nbuf0_9),
   spec0_10.stage ((cfg (F := F)).slots t 10), hstage0_10 (((cfg (F := F)).slots t 10).cast nbuf0_10),
   Memref.whole cc0_scratch0, Memref.isWhole_whole _, Memref.whole cc0_scratch1, Memref.isWhole_whole _⟩

theorem word_q (t : Fin (cfg (F := F)).N) : word (F := F) (grid0.coords t) (refs (F := F) t).a2 (tab (F := F) 0) = qw (grid0.coords t) :=
  tab_q (F := F) (grid0.coords t) (k0_off1_inb _)
theorem word_k (t : Fin (cfg (F := F)).N) : word (F := F) (grid0.coords t) (refs (F := F) t).a3 (tab (F := F) 1) = kw (grid0.coords t) :=
  tab_k (F := F) (grid0.coords t) (k0_off1_inb _)

/-- The tables at a point's memrefs. -/
abbrev T2 (c : Dev nD) (t : Fin (cfg (F := F)).N) : Buf (Elt F) ((refs (F := F) t).a2.view.loc (c : Thread nD τ)) := tab (F := F) 0
abbrev T3 (c : Dev nD) (t : Fin (cfg (F := F)).N) : Buf (Elt F) ((refs (F := F) t).a3.view.loc (c : Thread nD τ)) := tab (F := F) 1

/-- A point that is not the last of its key block takes the carried blocks one step on. -/
theorem run_point (c : Dev nD) (t : Fin (cfg (F := F)).N) (s : St F) (h31 : ¬qn (t.val % 528) = 31) (E : Set ℕ) (K : PUnit → sProp 𝕄) :
    iprop(held (refs (F := F) t) c (T2 c t) (T3 c t) (ins m c t) s
      ∗ (held (refs (F := F) t) c (T2 c t) (T3 c t) (ins m c t) (next m c t s) -∗ K ⟨⟩)) ⊢
      wp frame (wpE defs₀ Variants.none c none) E (body (F := F) (grid0.coords t) (refs (F := F) t)) K := by
  have hs : ((grid0.coords t) 1).val = t.val % 528 := coord_step t
  have h5 : ¬k0_cond5 (qw (grid0.coords t)) = 1#1 := fun h => h31 (hs ▸ (cond5_iff (grid0.coords t 1)).mp h)
  have hc1 : k0_chk1 (qw (grid0.coords t)) := chk1 (grid0.coords t 1)
  by_cases he : qn ((grid0.coords t) 1).val = kn ((grid0.coords t) 1).val
  · have h2 : starts (qw (grid0.coords t)) (kw (grid0.coords t)) := (starts_iff (grid0.coords t 1)).mpr he
    have h3 : ¬k0_cond3 (qw (grid0.coords t)) (kw (grid0.coords t)) = 1#1 := fun h => (cond3_iff (grid0.coords t 1)).mp h he
    have h4 : k0_cond4 (qw (grid0.coords t)) (kw (grid0.coords t)) = 1#1 := (cond4_iff (grid0.coords t 1)).mpr he
    unfold next
    rw [dif_neg h3, dif_pos h4]
    by_cases h0 : t.val % 528 = 0
    · rw [if_pos h0]
      exact run_first c (grid0.coords t) (refs (F := F) t) (T2 c t) (T3 c t) (ins m c t) s _ _ (word_q t) (word_k t) hc1
        (chk2 (grid0.coords t 1)) ((cond1_iff t).mpr h0) h2 h3 h4 h5 E K
    · rw [if_neg h0]
      exact run_diag c (grid0.coords t) (refs (F := F) t) (T2 c t) (T3 c t) (ins m c t) s _ _ (word_q t) (word_k t) hc1
        (chk2 (grid0.coords t 1)) (fun h => h0 ((cond1_iff t).mp h)) h2 h3 h4 h5 E K
  · have h2 : ¬starts (qw (grid0.coords t)) (kw (grid0.coords t)) := fun h => he ((starts_iff (grid0.coords t 1)).mp h)
    have h3 : k0_cond3 (qw (grid0.coords t)) (kw (grid0.coords t)) = 1#1 := (cond3_iff (grid0.coords t 1)).mpr he
    have h4 : ¬k0_cond4 (qw (grid0.coords t)) (kw (grid0.coords t)) = 1#1 := fun h => he ((cond4_iff (grid0.coords t 1)).mp h)
    have h0 : ¬t.val % 528 = 0 := fun h0 => he (by rw [hs, h0]; exact first_step.1.trans first_step.2.symm)
    unfold next
    rw [dif_pos h3]
    exact run_off c (grid0.coords t) (refs (F := F) t) (T2 c t) (T3 c t) (ins m c t) s _ _ (word_q t) (word_k t) hc1
      (chk2 (grid0.coords t 1)) (fun h => h0 ((cond1_iff t).mp h)) h2 h3 h4 h5 E K

/-- The last point of a key block also leaves the two running sums in the key-side blocks. -/
theorem run_point_last (c : Dev nD) (t : Fin (cfg (F := F)).N) (s : St F) (dk dv : S512x256.Idx → Elt F .f32) (h31 : qn (t.val % 528) = 31)
    (E : Set ℕ) (K : PUnit → sProp 𝕄) :
    iprop((held (refs (F := F) t) c (T2 c t) (T3 c t) (ins m c t) s ∗ outs (refs (F := F) t) c dk dv)
      ∗ ((held (refs (F := F) t) c (T2 c t) (T3 c t) (ins m c t) (next m c t s)
        ∗ outs (refs (F := F) t) c (k0_pay8 (next m c t s).ak) (next m c t s).av) -∗ K ⟨⟩)) ⊢
      wp frame (wpE defs₀ Variants.none c none) E (body (F := F) (grid0.coords t) (refs (F := F) t)) K := by
  have hs : ((grid0.coords t) 1).val = t.val % 528 := coord_step t
  have h5 : k0_cond5 (qw (grid0.coords t)) = 1#1 := (cond5_iff (grid0.coords t 1)).mpr (hs ▸ h31)
  have hc1 : k0_chk1 (qw (grid0.coords t)) := chk1 (grid0.coords t 1)
  have h0 : ¬t.val % 528 = 0 := fun h0 => by rw [h0, first_step.1] at h31; exact absurd h31 (by decide)
  by_cases he : qn ((grid0.coords t) 1).val = kn ((grid0.coords t) 1).val
  · have h2 : starts (qw (grid0.coords t)) (kw (grid0.coords t)) := (starts_iff (grid0.coords t 1)).mpr he
    have h3 : ¬k0_cond3 (qw (grid0.coords t)) (kw (grid0.coords t)) = 1#1 := fun h => (cond3_iff (grid0.coords t 1)).mp h he
    have h4 : k0_cond4 (qw (grid0.coords t)) (kw (grid0.coords t)) = 1#1 := (cond4_iff (grid0.coords t 1)).mpr he
    unfold next
    rw [dif_neg h3, dif_pos h4, if_neg h0]
    exact run_diag_last c (grid0.coords t) (refs (F := F) t) (T2 c t) (T3 c t) (ins m c t) s _ _ (word_q t) (word_k t) hc1
      (chk2 (grid0.coords t 1)) dk dv (fun h => h0 ((cond1_iff t).mp h)) h2 h3 h4 h5 E K
  · have h2 : ¬starts (qw (grid0.coords t)) (kw (grid0.coords t)) := fun h => he ((starts_iff (grid0.coords t 1)).mp h)
    have h3 : k0_cond3 (qw (grid0.coords t)) (kw (grid0.coords t)) = 1#1 := (cond3_iff (grid0.coords t 1)).mpr he
    have h4 : ¬k0_cond4 (qw (grid0.coords t)) (kw (grid0.coords t)) = 1#1 := fun h => he ((cond4_iff (grid0.coords t 1)).mp h)
    unfold next
    rw [dif_pos h3]
    exact run_off_last c (grid0.coords t) (refs (F := F) t) (T2 c t) (T3 c t) (ins m c t) s _ _ (word_q t) (word_k t) hc1
      (chk2 (grid0.coords t 1)) dk dv (fun h => h0 ((cond1_iff t).mp h)) h2 h3 h4 h5 E K

/-- The carried blocks after a point do not depend on what a head pair's first point found. -/
theorem next_of (c : Dev nD) (t : Fin (cfg (F := F)).N) (s : St F) (h : t.val % 528 ≠ 0 → s = state m c t.val) :
    next m c t s = state m c (t.val + 1) := by
  rw [state_succ]
  by_cases h0 : t.val % 528 = 0
  · exact next_first m c t h0 _ _
  · rw [h h0]

/-! ## The obligation -/

def bodyPre (c : Dev nD) (t : Fin (cfg (F := F)).N) : sProp 𝕄 :=
  iprop((dats m 0 c).Φ t.castSucc ∗ (dats m 0 c).owesAt () t.castSucc
    ∗ (∃ d, owns (c : Thread nD τ) (refs (F := F) t).a4 fullShare ((dats m 0 c).before 0 t d))
    ∗ (∃ d, owns (c : Thread nD τ) (refs (F := F) t).a5 fullShare ((dats m 0 c).before 1 t d))
    ∗ (∃ d, owns (c : Thread nD τ) (refs (F := F) t).a6 fullShare ((dats m 0 c).before 2 t d))
    ∗ (∃ d, owns (c : Thread nD τ) (refs (F := F) t).a7 fullShare ((dats m 0 c).before 3 t d))
    ∗ (∃ d, owns (c : Thread nD τ) (refs (F := F) t).a8 fullShare ((dats m 0 c).before 4 t d))
    ∗ (∃ d, owns (c : Thread nD τ) (refs (F := F) t).a9 fullShare ((dats m 0 c).before 5 t d))
    ∗ (∃ d, owns (c : Thread nD τ) (refs (F := F) t).a10 fullShare ((dats m 0 c).before 6 t d))
    ∗ (∃ d, owns (c : Thread nD τ) (refs (F := F) t).a11 fullShare ((dats m 0 c).before 7 t d))
    ∗ (∃ d, owns (c : Thread nD τ) (refs (F := F) t).a12 fullShare ((dats m 0 c).before 8 t d))
    ∗ (∃ d, owns (c : Thread nD τ) (refs (F := F) t).a13 fullShare ((dats m 0 c).before 9 t d))
    ∗ (∃ d, owns (c : Thread nD τ) (refs (F := F) t).a14 fullShare ((dats m 0 c).before 10 t d)))

def bodyPost (c : Dev nD) (t : Fin (cfg (F := F)).N) : sProp 𝕄 :=
  iprop((dats m 0 c).Φ t.succ ∗ (dats m 0 c).owesAt () t.succ
    ∗ owns (c : Thread nD τ) (refs (F := F) t).a4 fullShare ((ins m c t).q)
    ∗ owns (c : Thread nD τ) (refs (F := F) t).a5 fullShare ((ins m c t).k)
    ∗ owns (c : Thread nD τ) (refs (F := F) t).a6 fullShare ((ins m c t).v)
    ∗ owns (c : Thread nD τ) (refs (F := F) t).a7 fullShare ((ins m c t).d)
    ∗ owns (c : Thread nD τ) (refs (F := F) t).a8 fullShare ((ins m c t).e)
    ∗ owns (c : Thread nD τ) (refs (F := F) t).a9 fullShare ((ins m c t).l)
    ∗ owns (c : Thread nD τ) (refs (F := F) t).a10 fullShare ((ins m c t).col)
    ∗ owns (c : Thread nD τ) (refs (F := F) t).a11 fullShare ((ins m c t).row)
    ∗ owns (c : Thread nD τ) (refs (F := F) t).a12 fullShare (state m c (t.val + 1)).dq
    ∗ (dats m 0 c).leavesExact 9 t
    ∗ (dats m 0 c).leavesExact 10 t)

theorem inv_at (c : Dev nD) (n : Fin ((cfg (F := F)).N + 1)) : (dats m 0 c).Φ n = inv m c n.val := rfl
theorem owes_at (c : Dev nD) (n n' : Fin ((cfg (F := F)).N + 1)) : (dats m 0 c).owesAt () n = (dats m 0 c).owesAt () n' := rfl

set_option maxHeartbeats 1000000 in
theorem sound_body (c : Dev nD) (t : Fin (cfg (F := F)).N) :
    bodyPre m c t ⊢ wp frame (wpE (defs₀ (F := F)) Variants.none c none) Set.univ (body (F := F) (grid0.coords t) (refs (F := F) t)) (fun _ => bodyPost m c t) := by
  unfold bodyPre bodyPost
  simp only [before_0, before_1, before_2, before_3, before_4, before_5, before_6, before_7]
  rw [inv_at, inv_at, Fin.val_castSucc, Fin.val_succ, owes_at m c t.succ t.castSucc]
  unfold inv
  have hs : ((grid0.coords t) 1).val = t.val % 528 := coord_step t
  by_cases h31 : qn (t.val % 528) = 31
  · have hl : (k0_cond5 (qw (grid0.coords t)) == 1#1) = true := by
      rw [show k0_cond5 (qw (grid0.coords t)) = 1#1 from (cond5_iff (grid0.coords t 1)).mpr (hs ▸ h31)]; rfl
    rw [show (dats m 0 c).leavesExact 9 t = owns (c : Thread nD τ) (refs (F := F) t).a13 fullShare (k0_pay8 (state m c (t.val + 1)).ak) from by
      unfold Dat.leavesExact; rw [idle_9, hl, after_9]; rfl,
     show (dats m 0 c).leavesExact 10 t = owns (c : Thread nD τ) (refs (F := F) t).a14 fullShare (state m c (t.val + 1)).av from by
      unfold Dat.leavesExact; rw [idle_10, hl, after_10]; rfl]
    iintro ⟨⟨HT2, HT3, ⟨%ak, %av, %hak, Hk, Hv⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hst : next m c t ⟨(dats m 0 c).before 8 t d8, ak, av⟩ = state m c (t.val + 1) := next_of m c t _ fun h => by
      rw [before_8 m c t h, (hak h).1, (hak h).2]
    iapply (run_point_last m c t ⟨(dats m 0 c).before 8 t d8, ak, av⟩ _ _ h31 Set.univ _)
    rw [hst]
    unfold held outs
    isplitl [HT2 HT3 Hk Hv H0 H1 H2 H3 H4 H5 H6 H7 H8 H9 H10]
    · isplitl [HT2 HT3 Hk Hv H0 H1 H2 H3 H4 H5 H6 H7 H8]
      · isplitl [HT2]; · iexact HT2
        isplitl [HT3]; · iexact HT3
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [Hk]; · iexact Hk
        iexact Hv
      · isplitl [H9]; · iexact H9
        iexact H10
    iintro ⟨⟨HT2, HT3, H0, H1, H2, H3, H4, H5, H6, H7, H8, Hk, Hv⟩, H9, H10⟩
    isplitl [HT2 HT3 Hk Hv Hg]
    · isplitl [HT2]; · iexact HT2
      isplitl [HT3]; · iexact HT3
      isplitl [Hk Hv]
      · iexists _; iexists _; isplitr
        swap
        · isplitl [Hk]; · iexact Hk
          iexact Hv
        ipureintro; exact fun _ => ⟨rfl, rfl⟩
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hl : (k0_cond5 (qw (grid0.coords t)) == 1#1) = false :=
      beq_eq_false_iff_ne.mpr fun h => h31 (hs ▸ (cond5_iff (grid0.coords t 1)).mp h)
    rw [show (dats m 0 c).leavesExact 9 t = iprop(∃ d, owns (c : Thread nD τ) (refs (F := F) t).a13 fullShare ((dats m 0 c).before 9 t d)) from by
      unfold Dat.leavesExact; rw [idle_9, hl, stays_9 t h31]; rfl,
     show (dats m 0 c).leavesExact 10 t = iprop(∃ d, owns (c : Thread nD τ) (refs (F := F) t).a14 fullShare ((dats m 0 c).before 10 t d)) from by
      unfold Dat.leavesExact; rw [idle_10, hl, stays_10 t h31]; rfl]
    iintro ⟨⟨HT2, HT3, ⟨%ak, %av, %hak, Hk, Hv⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    have hst : next m c t ⟨(dats m 0 c).before 8 t d8, ak, av⟩ = state m c (t.val + 1) := next_of m c t _ fun h => by
      rw [before_8 m c t h, (hak h).1, (hak h).2]
    iapply (run_point m c t ⟨(dats m 0 c).before 8 t d8, ak, av⟩ h31 Set.univ _)
    rw [hst]
    unfold held
    isplitl [HT2 HT3 Hk Hv H0 H1 H2 H3 H4 H5 H6 H7 H8]
    · isplitl [HT2]; · iexact HT2
      isplitl [HT3]; · iexact HT3
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [Hk]; · iexact Hk
      iexact Hv
    iintro ⟨HT2, HT3, H0, H1, H2, H3, H4, H5, H6, H7, H8, Hk, Hv⟩
    isplitl [HT2 HT3 Hk Hv Hg]
    · isplitl [HT2]; · iexact HT2
      isplitl [HT3]; · iexact HT3
      isplitl [Hk Hv]
      · iexists _; iexists _; isplitr
        swap
        · isplitl [Hk]; · iexact Hk
          iexact Hv
        ipureintro; exact fun _ => ⟨rfl, rfl⟩
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin (cfg (F := F)).N) :
    defs₀ (F := F) .tc (cfg (F := F)).body ((cfg (F := F)).bodyArgs t ((cfg (F := F)).slots t)) = body (F := F) (grid0.coords t) (refs (F := F) t) := by
  unfold defs₀; rw [Defs.onTc_tc]; rfl

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  rw [show state m c (t.val + 1) = state m c (t.val + 1) from rfl]
  have h8 : (owns (c : Thread nD τ) (refs (F := F) t).a12 fullShare (state m c (t.val + 1)).dq : sProp 𝕄) = (dats m 0 c).leavesExact 8 t := by
    unfold Dat.leavesExact; rw [live_8, after_8]; rfl
  rw [h8]
  exact .rfl

/-! ## The run -/

theorem fresh_prep : (prep (F := F)).Forall fun ops => ops.Forall fun op => op.fresh = ∅ := by
  simp only [List.Forall]; repeat' constructor

theorem sub_prep : (prep (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

set_option maxHeartbeats 1000000 in
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main prep sub_prep fresh_prep main_chain

end Cert.AttnBwd
-- ==== Proof.AttnRun.lean ====
/- The attention backward as a whole: from any memory it ends with its arguments unchanged. -/
module

public import proofs.«01_k».proof.Proof.AttnFrame
public import Idealize.ShloMosaic.Lib.Pipeline.Frame
public import Idealize.ShloMosaic.Lib.Quiescent

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the host operations leave alone -/

theorem V_main_arg0 (c : Dev nD) : V m c main_arg0 = m ((c : Thread nD τ).loc main_arg0) :=
  StableHlo.after_of_forall_not_mem (b := Proc.devRef .tc main_arg0) _ _ (List.forall_iff_forall_mem.mp (by
    simp only [prep, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [prep, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [prep, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [prep, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [prep, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- The tables the kernel is handed are the two literal lists. -/
theorem V_main_c (c : Dev nD) : V m c main_c = tab (F := F) 0 := by
  refine (StableHlo.after_of_forall_not_mem (b := Proc.devRef .tc main_c) ((prep (F := F)).flatten.tail) _ (List.forall_iff_forall_mem.mp ?_)).trans ?_
  · simp only [prep, hostOps0, hostOps0_1, hostOps0_2, hostOps0_3, hostOps0_4, hostOps0_5, hostOps0_6, hostOps0_7, hostOps0_8, List.flatten_cons, List.flatten_nil, List.append_nil, List.cons_append, List.tail_cons,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
  · rfl
theorem V_main_c_0 (c : Dev nD) : V m c main_c_0 = tab (F := F) 1 := by
  rw [V, show (prep (F := F)).flatten = StableHlo.nullary main_c (fun i => lit0 (S528.rowMajor i))
      :: StableHlo.nullary main_c_0 (fun i => lit1 (S528.rowMajor i)) :: (prep (F := F)).flatten.tail.tail from rfl,
    StableHlo.after_cons, StableHlo.after_cons]
  refine (StableHlo.after_of_forall_not_mem (b := Proc.devRef .tc main_c_0) _ _ (List.forall_iff_forall_mem.mp ?_)).trans ?_
  · simp only [prep, hostOps0, hostOps0_1, hostOps0_2, hostOps0_3, hostOps0_4, hostOps0_5, hostOps0_6, hostOps0_7, hostOps0_8, List.flatten_cons, List.flatten_nil, List.append_nil, List.cons_append, List.tail_cons,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)
  · rfl

/-! ## The run -/

theorem two_tables {M : Type} [URA M] (Φ : Fin 2 → sProp M) : bigSep Finset.univ Φ = iprop(Φ 0 ∗ Φ 1) :=
  bigSep_univ_eq_bigSepL [(0 : Fin 2), (1 : Fin 2)] (by decide) (by decide) Φ

theorem scratch0 (c : Dev nD) (f : S512x256.Idx → Elt F .f32) :
    (owns (c : Thread nD τ) (Memref.whole cc0_scratch0 : Memref sig .tc .vmem S512x256 .f32) fullShare f : sProp 𝕄)
      = (((c : Thread nD τ).loc cc0_scratch0) ↦{fullShare} f) := owns_whole (c : Thread nD τ) cc0_scratch0 fullShare f
theorem scratch1 (c : Dev nD) (f : S512x256.Idx → Elt F .f32) :
    (owns (c : Thread nD τ) (Memref.whole cc0_scratch1 : Memref sig .tc .vmem S512x256 .f32) fullShare f : sProp 𝕄)
      = (((c : Thread nD τ).loc cc0_scratch1) ↦{fullShare} f) := owns_whole (c : Thread nD τ) cc0_scratch1 fullShare f

theorem enter (c : Dev nD) : iprop(Pipeline.ΦA spec0 c ∗ Pipeline.ΦT pre0 (tab (F := F)) c) ⊢ (inv m c 0 : sProp 𝕄) := by
  unfold Pipeline.ΦA Pipeline.ΦT Pipeline.prefHeld inv
  rw [scopedRest0_eq, two_tables]
  simp only [scratch0, scratch1]
  iintro ⟨⟨⟨⟨%f, Hk⟩, ⟨%g, Hv⟩⟩, Hg⟩, HT2, HT3⟩
  isplitl [HT2]; · iexact HT2
  isplitl [HT3]; · iexact HT3
  isplitl [Hk Hv]
  · iexists f; iexists g; isplitr
    swap
    · isplitl [Hk]; · iexact Hk
      iexact Hv
    ipureintro; exact fun h => absurd rfl h
  iexact Hg

theorem leave (c : Dev nD) (n : ℕ) : (inv m c n : sProp 𝕄) ⊢ Pipeline.ΦA spec0 c := by
  unfold Pipeline.ΦA inv
  rw [scopedRest0_eq]
  simp only [scratch0, scratch1]
  iintro ⟨-, -, ⟨%ak, %av, -, Hk, Hv⟩, Hg⟩
  isplitl [Hk Hv]
  · isplitl [Hk]
    · iexists ak; iexact Hk
    · iexists av; iexact Hv
  iexact Hg

set_option backward.isDefEq.respectTransparency.types false in
/-- Every execution ends with the arrays at what the proof data says and nothing left in flight. -/
theorem run_main_quiescent : θ_run defs (onTc (τ := τ) (main (F := F))) (s₀ m ρ)
    (fun r => (Pipeline.FramePost (Pipeline.pin (pcfgs (F := F)) fun _ => adm) (dats m) 0 (V m)) r ∧ r.2.sem = fun _ => 0) :=
  Pipeline.θ_run_frameP_track (Q' := _) pcfgs (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m)
    (hpf := fun c k => match k with | 0 => V_main_c m c | 1 => V_main_c_0 m c)
    (hin := fun c => by rw [inv_at]; exact enter m c) (hout := fun c => by rw [inv_at]; exact leave m c _)

/-- The frame: the arguments end unchanged and the machine quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
      ((h.1 c).2 main_arg0 (Pipeline.mem_restRefs_of (win := spec0) main_arg0 (by decide) (by decide))).trans (V_main_arg0 m c),
      ((h.1 c).2 main_arg1 (Pipeline.mem_restRefs_of (win := spec0) main_arg1 (by decide) (by decide))).trans (V_main_arg1 m c),
      ((h.1 c).2 main_arg2 (Pipeline.mem_restRefs_of (win := spec0) main_arg2 (by decide) (by decide))).trans (V_main_arg2 m c),
      ((h.1 c).1 7).trans (((dats m 0 c).arrAt_in 7 rfl _).trans ((A_eq m c 7).trans (V_main_arg3 m c))),
      ((h.1 c).2 main_arg4 (Pipeline.mem_restRefs_of (win := spec0) main_arg4 (by decide) (by decide))).trans (V_main_arg4 m c)⟩, h.2⟩) (run_main_quiescent m ρ)

end Cert.AttnBwd
-- ==== Proof.AttnBits.lean ====
/- The attention backward as compiled runs as its idealised text does. -/
module

public import proofs.«01_k».proof.Proof.AttnRun
public import proofs.«01_k».proof.Proof.Gen.Attn.Launch
public import proofs.«01_k».proof.Defs

@[expose] public section

set_option maxRecDepth 16384

noncomputable section

namespace Cert.AttnBwd

open Idealize.ShloMosaic Idealize.ShloMosaic.TcCoe Idealize.SL.Sem

/-- Where floats are bits, a named constant is the word that the compiled kernel has there. -/
local instance bitsNamed : Named Bits where
  named _ _ {φ} bits := FloatOps.ofBits φ bits

/-- From any memory, with nothing outstanding, the compiled kernel and its host code run to the end,
leave their arguments as they were, and leave no signal outstanding. -/
theorem frame_bits (m : (ℓ : Loc Cert.Attn.nD Cert.Attn.τ Cert.Attn.sig) → Buf (Elt Bits) ℓ) (ρ : Dev Cert.Attn.nD → PrngReg) :
    θ_run (Cert.Attn.defs (F := Bits)) (onTc (τ := Cert.Attn.τ) (Cert.Attn.main (F := Bits))) ⟨m, fun _ => 0, ρ⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0) :=
  Eq.mp (by sl_kernel_rfl) (frame (F := Bits) m ρ)

end Cert.AttnBwd
-- ==== Proof.AttnMath.lean ====
/- The gradient of the causal attention over the reals. -/
module

public import proofs.«01_k».proof.Proof.Lift

@[expose] public section

noncomputable section

namespace Cert.AttnMath

/-- The scale of the scores: the word that both programs hold for one over the square root of 96. -/
def sc : ℝ := 3424635 / 33554432

/-- Column `d` of head `h`, where a head has 96 columns, and where it has 64. -/
def at96 (h : Fin 8) (d : Fin 96) : Fin 768 := ⟨h.val * 96 + d.val, by omega⟩
def at64 (h : Fin 8) (d : Fin 64) : Fin 512 := ⟨h.val * 64 + d.val, by omega⟩

variable (q k : Fin 16384 → Fin 768 → ℝ) (v g : Fin 16384 → Fin 512 → ℝ)

/-- The product of a query with a key. -/
def score (h : Fin 8) (r j : Fin 16384) : ℝ := ∑ d, q r (at96 h d) * k j (at96 h d)

/-- A key's weight for a query, before it is divided by their sum. -/
def weight (h : Fin 8) (r j : Fin 16384) : ℝ := if j ≤ r then Real.exp (score q k h r j * sc) else 0

def total (h : Fin 8) (r : Fin 16384) : ℝ := ∑ j, weight q k h r j

def prob (h : Fin 8) (r j : Fin 16384) : ℝ := weight q k h r j / total q k h r

/-- The cotangent's product with a value. -/
def gv (h : Fin 8) (r j : Fin 16384) : ℝ := ∑ d, g r (at64 h d) * v j (at64 h d)

/-- The mean of those products under the weights. -/
def mean (h : Fin 8) (r : Fin 16384) : ℝ := ∑ j, prob q k h r j * gv v g h r j

/-- The gradient of the scaled scores. -/
def ds (h : Fin 8) (r j : Fin 16384) : ℝ := prob q k h r j * (gv v g h r j - mean q k v g h r)

/-- The three gradients. -/
def dq (r : Fin 16384) (h : Fin 8) (d : Fin 96) : ℝ := ∑ j, ds q k v g h r j * sc * k j (at96 h d)
def dk (j : Fin 16384) (h : Fin 8) (d : Fin 96) : ℝ := ∑ r, ds q k v g h r j * sc * q r (at96 h d)
def dv (j : Fin 16384) (h : Fin 8) (d : Fin 64) : ℝ := ∑ r, prob q k h r j * g r (at64 h d)

/-- Eight heads' columns, 96 or 64 of each, laid out 128 columns a head with zeros behind. -/
def spread96 (f : Fin 8 → Fin 96 → ℝ) (i : Fin 1024) : ℝ := if h : i.val % 128 < 96 then f ⟨i.val / 128, by omega⟩ ⟨i.val % 128, h⟩ else 0
def spread64 (f : Fin 8 → Fin 64 → ℝ) (i : Fin 1024) : ℝ := if h : i.val % 128 < 64 then f ⟨i.val / 128, by omega⟩ ⟨i.val % 128, h⟩ else 0

theorem total_pos (h : Fin 8) (r : Fin 16384) : 0 < total q k h r := by
  refine Finset.sum_pos' (fun j _ => ?_) ⟨r, Finset.mem_univ _, ?_⟩
  · unfold weight; split_ifs
    · exact (Real.exp_pos _).le
    · exact le_refl _
  · unfold weight; rw [if_pos (le_refl r)]; exact Real.exp_pos _

/-- The weights as a program has them, each divided by the exponential of one number for the row. -/
def shifted (M : ℝ) (h : Fin 8) (r j : Fin 16384) : ℝ := if j ≤ r then Real.exp (score q k h r j * sc - M) else 0

theorem shifted_eq (M : ℝ) (h : Fin 8) (r j : Fin 16384) : shifted q k M h r j = weight q k h r j * Real.exp (-M) := by
  unfold shifted weight
  split_ifs
  · rw [← Real.exp_add, sub_eq_add_neg]
  · rw [zero_mul]

theorem sum_shifted (M : ℝ) (h : Fin 8) (r : Fin 16384) : ∑ j, shifted q k M h r j = total q k h r * Real.exp (-M) := by
  simp only [shifted_eq]; rw [← Finset.sum_mul]; rfl

theorem sum_shifted_pos (M : ℝ) (h : Fin 8) (r : Fin 16384) : 0 < ∑ j, shifted q k M h r j := by
  rw [sum_shifted]; exact mul_pos (total_pos q k h r) (Real.exp_pos _)

theorem prob_shifted (M : ℝ) (h : Fin 8) (r j : Fin 16384) :
    shifted q k M h r j / ∑ i, shifted q k M h r i = prob q k h r j := by
  rw [sum_shifted, shifted_eq]
  exact mul_div_mul_right _ _ (Real.exp_pos _).ne'

/-- The derivative of the quotient, as a program writes it. -/
theorem ds_shifted (M : ℝ) (h : Fin 8) (r j : Fin 16384) :
    (gv v g h r j / (∑ i, shifted q k M h r i)
      + -(∑ i, gv v g h r i * (1 / ((∑ i, shifted q k M h r i) * (∑ i, shifted q k M h r i))) * shifted q k M h r i)) * shifted q k M h r j
      = ds q k v g h r j := by
  have hp := (sum_shifted_pos q k M h r).ne'
  have e : ∑ i, gv v g h r i * (1 / ((∑ i, shifted q k M h r i) * (∑ i, shifted q k M h r i))) * shifted q k M h r i
      = mean q k v g h r / ∑ i, shifted q k M h r i := by
    unfold mean
    rw [Finset.sum_div]
    refine Finset.sum_congr rfl fun i _ => ?_
    rw [← prob_shifted q k M h r i]
    field_simp
  rw [e, ds, ← prob_shifted q k M h r j]
  field_simp
  ring

end Cert.AttnMath

end
-- ==== Proof.AttnLift.lean ====
/- The words, comparisons, pads and row maxima of the two attention programs, over the reals. -/
module

public import proofs.«01_k».proof.Proof.AttnMath
public import Idealize.ShloMosaic.Lib.StableHlo.RunRead

@[expose] public section

noncomputable section

namespace Cert.AttnMath

open Idealize.ShloMosaic Idealize.SL.Sem Idealize.ShloMosaic.StableHlo Cert.Lift

theorem scale_bits : Ideal.ofBits FTy.f32 1037108716#32 = ((sc : ℝ) : EReal) := by
  unfold sc
  simp [Ideal.ofBits, Ideal.ieee]; rw [← EReal.coe_mul]; norm_num

theorem bot_bits : Ideal.ofBits FTy.f32 4286578688#32 = ⊥ := by simp [Ideal.ofBits, Ideal.ieee]

/-- A comparison of positions chooses as the order of the rows does. -/
theorem select_pos {α : Type} (P : Fin 16384 → BitVec 32) (hp : ∀ j r : Fin 16384, (P j).sle (P r) = decide (j ≤ r)) (j r : Fin 16384) (a b : α) :
    Scalar.select (IntOp.cmpi CmpIPredicate.sle (P j) (P r)) a b = if j ≤ r then a else b := by
  by_cases h : j ≤ r <;> simp [Scalar.select, IntOp.cmpi, hp, h]

/-- The largest of several numbers of which not all are -∞ and none is ∞ is a number. -/
theorem max_real {n : ℕ} (P : Fin n → Prop) [DecidablePred P] (f : Fin n → ℝ) (j : Fin n) (hj : P j) :
    Finset.fold max (⊥ : EReal) (fun x => if P x then ((f x : ℝ) : EReal) else ⊥) Finset.univ
      = (((Finset.fold max (⊥ : EReal) (fun x => if P x then ((f x : ℝ) : EReal) else ⊥) Finset.univ).toReal : ℝ) : EReal) := by
  refine (EReal.coe_toReal ?_ ?_).symm
  · refine ne_of_lt ?_
    rw [Finset.fold_max_lt]
    refine ⟨bot_lt_top, fun x _ => ?_⟩
    split_ifs
    · exact EReal.coe_lt_top _
    · exact bot_lt_top
  · refine ne_of_gt ?_
    rw [Finset.lt_fold_max]
    exact Or.inr ⟨j, Finset.mem_univ _, by rw [if_pos hj]; exact EReal.bot_lt_coe _⟩

/-- The host's sum over the two unit axes around a matrix is the matrix's entry. -/
theorem sum_unit_ends {n k : ℕ} (h : (⟨4, ![1, n, k, 1]⟩ : Shape).ReducesTo [0, 3] ⟨2, ![n, k]⟩)
    (v : (⟨4, ![1, n, k, 1]⟩ : Shape).Idx → EReal) (init : EReal) (i : Fin n) (j : Fin k) :
    Ideal.hostReduceAdd h v init (ix2 i j) = init + v (ix4 0 i j 0) := by
  refine congrArg (init + ·) ((Finset.sum_congr (Finset.ext fun x => ?_) fun _ _ => rfl).trans
    (Finset.sum_singleton v (ix4 0 i j 0)))
  rw [Finset.mem_filter_univ, Finset.mem_singleton]
  have h1 : (h.drop x ⟨0, Nat.two_pos⟩ : ℕ) = x 1 := rfl
  have h2 : (h.drop x ⟨1, Nat.one_lt_two⟩ : ℕ) = x 2 := rfl
  constructor
  · intro e
    rw [e] at h1 h2
    have h0 := (x 0).isLt
    have h3 := (x 3).isLt
    funext a; apply Fin.ext
    fin_cases a
    · show (x 0).val = 0; have h0 : (x 0).val < 1 := h0; omega
    · exact h1.symm
    · exact h2.symm
    · show (x 3).val = 0; have h3 : (x 3).val < 1 := h3; omega
  · rintro rfl
    funext a; apply Fin.ext
    fin_cases a
    · exact h1
    · exact h2

theorem zero_word : (FloatOps.sitofp (F := Ideal) FTy.f32 (0#32) : EReal) = ((0 : ℝ) : EReal) := by
  show (((0#32 : BitVec 32).toInt : ℝ) : EReal) = _
  norm_num

/-- A place that a pad at the end of an axis leaves as it was. -/
theorem inside {x n : ℕ} (h : x < n) : 0 ≤ x ∧ (x - 0) % (0 + 1) = 0 ∧ (x - 0) / (0 + 1) < n :=
  ⟨Nat.zero_le _, Nat.mod_one _, lt_of_eq_of_lt (Nat.div_one _) h⟩

/-- A masked number times the scale. -/
theorem hidden (P : Prop) [Decidable P] (a : ℝ) (h : ¬P → a = 0) : (if P then (a : EReal) else ((0 : ℝ) : EReal)) * ((sc : ℝ) : EReal) = ((a * sc : ℝ) : EReal) := by
  split_ifs with hP
  · rw [EReal.coe_mul]
  · rw [h hP, EReal.coe_mul]

/-- Which operations ran first does not matter to what all leave. -/
theorem after_drop {τ : Topo} {sig : RefSig} {Val : EltTy → Type} (l : List (HloOp τ sig Val)) (n : ℕ) (M : Valuation τ sig Val) :
    after (l.drop n) (after (l.take n) M) = after l M := by
  induction n generalizing l M with
  | zero => rfl
  | succ n ih =>
    cases l with
    | nil => rfl
    | cons a l => exact ih l _

/-- A row's lanes split into heads. -/
theorem split_heads {α : Type} {n a b ab : ℕ} (hab : ab = a * b) (X : (⟨3, ![1, n, ab]⟩ : Shape).Idx → α)
    (h : (⟨3, ![1, n, ab]⟩ : Shape).ShapeCasts ⟨3, ![n, a, b]⟩) (i : Fin n) (j : Fin a) (x : Fin b) (l : Fin ab) (hl : l.val = j.val * b + x.val) :
    shapeCast ⟨3, ![n, a, b]⟩ X h (ix3 i j x) = X (ix3 0 i l) := by
  refine congrArg X (Shape.reshapeEquiv_eq_of_rowMajor _ ?_)
  rw [Shape.rowMajor_val_three, Shape.rowMajor_val_three]
  show ((0 * n + i.val) * ab + l.val) = (i.val * a + j.val) * b + x.val
  rw [hl, hab]
  ring

end Cert.AttnMath

end
-- ==== Proof.AttnRef.lean ====
/- The reference of the attention's gradient, operation by operation: on real arguments each array it makes is real. -/
module

public import proofs.«01_k».proof.Proof.Gen.AttnRefIdeal.Run
public import proofs.«01_k».proof.Proof.AttnLift
public import Idealize.ShloMosaic.Lib.StableHlo.RunRead

@[expose] public section

set_option maxRecDepth 16384

noncomputable section

namespace Cert.AttnRefIdeal.Value

open Cert.AttnRefIdeal Cert.AttnRefIdeal.Gen Idealize.ShloMosaic Idealize.ShloMosaic.TcCoe Idealize.SL.Sem Idealize.ShloMosaic.StableHlo Cert.Lift Cert.AttnMath

variable (m : (ℓ : Loc nD τ sig) → Buf (Elt Ideal) ℓ)
  (q k : Dev nD → Fin 16384 → Fin 768 → ℝ) (v g : Dev nD → Fin 16384 → Fin 512 → ℝ) (p : Dev nD → Fin 16384 → BitVec 32)
  (hQ : ∀ c : Dev nD, m ((c.tc : Thread nD τ).loc main_arg0) = fun i => ((q c (i 1) (i 2) : ℝ) : EReal))
  (hK : ∀ c : Dev nD, m ((c.tc : Thread nD τ).loc main_arg1) = fun i => ((k c (i 1) (i 2) : ℝ) : EReal))
  (hV : ∀ c : Dev nD, m ((c.tc : Thread nD τ).loc main_arg2) = fun i => ((v c (i 1) (i 2) : ℝ) : EReal))
  (hP : ∀ c : Dev nD, m ((c.tc : Thread nD τ).loc main_arg3) = fun i => p c (i 1))
  (hG : ∀ c : Dev nD, m ((c.tc : Thread nD τ).loc main_arg4) = fun i => ((g c (i 1) (i 2) : ℝ) : EReal))
  (hp : ∀ (c : Dev nD) (j r : Fin 16384), (p c j).sle (p c r) = decide (j ≤ r))

/-- What a buffer holds after all the operations. -/
abbrev W (c : Dev nD) (b : Ref sig .tc) : Buf (Elt Ideal) ((c : Thread nD τ).loc b) := after (ops (F := Ideal)) (fun b => m (c, b)) b

theorem op_v43 (c : Dev nD) : W m c main_v43 = transpose S1x8x64x16384 [0, 2, 3, 1] (fun i => shapeCast S1x16384x8x64 (m (c, Proc.tc.devRef main_arg4)) shapeCasts_S1x16384x512_S1x16384x8x64 i) transposes_S1x16384x8x64_S1x8x64x16384_0_2_3_1 := by
  unfold W
  after_reads_simp
  rfl

theorem op_v45 (c : Dev nD) : W m c main_v45 = (Host.dotGeneral (F := Ideal) (φ₁ := .f32) (φ₂ := .f32) dot_S1x8x64x16384_S1x8x16384x16384_S1x8x64x16384_3_2_2_3_01_01 none (W m c main_v43) (W m c main_v35) : FVec Ideal S1x8x64x16384 .f32) := by
  unfold W
  after_reads_simp

theorem op_v0 (c : Dev nD) : W m c main_v0 = fun i => shapeCast S1x16384x8x96 (m (c, Proc.tc.devRef main_arg0)) shapeCasts_S1x16384x768_S1x16384x8x96 i := by
  unfold W
  after_reads_simp
  rfl

theorem op_v1 (c : Dev nD) : W m c main_v1 = fun i => shapeCast S1x16384x8x96 (m (c, Proc.tc.devRef main_arg1)) shapeCasts_S1x16384x768_S1x16384x8x96 i := by
  unfold W
  after_reads_simp
  rfl

/-- The operations after the gradient of the scores, from what the buffers hold before them. -/
def early (c : Dev nD) : Valuation τ sig (Elt Ideal) := after ((ops (F := Ideal)).take 86) fun b => m (c, b)

theorem cut (c : Dev nD) (b : Ref sig .tc) : W m c b = after ((ops (F := Ideal)).drop 86) (early m c) b :=
  (congrFun (after_drop (ops (F := Ideal)) 86 fun b => m (c, b)) b).symm

theorem op_v64 (c : Dev nD) : W m c main_v64 = (Host.dotGeneral (F := Ideal) (φ₁ := .f32) (φ₂ := .f32) dot_S1x8x16384x16384_S1x16384x8x96_S1x8x16384x96_2_1_3_3_01_02 none (W m c main_v63) (W m c main_v0) : FVec Ideal S1x8x16384x96 .f32) := by
  rw [cut m c main_v64, cut m c main_v63, cut m c main_v0]
  simp only [ops, List.drop_succ_cons, List.drop_zero]
  after_reads_simp

theorem op_v66 (c : Dev nD) : W m c main_v66 = (Host.dotGeneral (F := Ideal) (φ₁ := .f32) (φ₂ := .f32) dot_S1x8x16384x16384_S1x16384x8x96_S1x8x16384x96_3_1_2_3_01_02 none (W m c main_v63) (W m c main_v1) : FVec Ideal S1x8x16384x96 .f32) := by
  rw [cut m c main_v66, cut m c main_v63, cut m c main_v1]
  simp only [ops, List.drop_succ_cons, List.drop_zero]
  after_reads_simp

theorem op_v71 (c : Dev nD) : W m c main_v71 = pad S16384x8x128 ![0, 0, 0] ![0, 0, 32] ![0, 0, 0] (W m c main_v70) (sitofp (F := Ideal) .f32 (constantI S_ 32 0#32)) pads_S16384x8x96_S16384x8x128_000_000_0320 h_S_ := by
  rw [cut m c main_v71, cut m c main_v70]
  simp only [ops, List.drop_succ_cons, List.drop_zero]
  after_reads_simp
  rfl

theorem op_v74 (c : Dev nD) : W m c main_v74 = pad S16384x8x128 ![0, 0, 0] ![0, 0, 32] ![0, 0, 0] (W m c main_v73) (sitofp (F := Ideal) .f32 (constantI S_ 32 0#32)) pads_S16384x8x96_S16384x8x128_000_000_0320 h_S_ := by
  rw [cut m c main_v74, cut m c main_v73]
  simp only [ops, List.drop_succ_cons, List.drop_zero]
  after_reads_simp
  rfl

theorem op_v77 (c : Dev nD) : W m c main_v77 = pad S16384x8x128 ![0, 0, 0] ![0, 0, 64] ![0, 0, 0] (W m c main_v76) (sitofp (F := Ideal) .f32 (constantI S_ 32 0#32)) pads_S16384x8x64_S16384x8x128_000_000_0640 h_S_ := by
  rw [cut m c main_v77, cut m c main_v76]
  simp only [ops, List.drop_succ_cons, List.drop_zero]
  after_reads_simp
  rfl

theorem op_v70 (c : Dev nD) : W m c main_v70 = fun i => shapeCast S16384x8x96 (fun i => shapeCast S1x16384x768 (transpose S1x16384x8x96 [0, 2, 1, 3] (W m c main_v66) transposes_S1x8x16384x96_S1x16384x8x96_0_2_1_3) shapeCasts_S1x16384x8x96_S1x16384x768 i) shapeCasts_S1x16384x768_S16384x8x96 i := by
  rw [cut m c main_v70, cut m c main_v66]
  simp only [ops, List.drop_succ_cons, List.drop_zero]
  after_reads_simp
  rfl

theorem op_v73 (c : Dev nD) : W m c main_v73 = fun i => shapeCast S16384x8x96 (fun i => shapeCast S1x16384x768 (transpose S1x16384x8x96 [0, 2, 1, 3] (W m c main_v64) transposes_S1x8x16384x96_S1x16384x8x96_0_2_1_3) shapeCasts_S1x16384x8x96_S1x16384x768 i) shapeCasts_S1x16384x768_S16384x8x96 i := by
  rw [cut m c main_v73, cut m c main_v64]
  simp only [ops, List.drop_succ_cons, List.drop_zero]
  after_reads_simp
  rfl

theorem op_v76 (c : Dev nD) : W m c main_v76 = fun i => shapeCast S16384x8x64 (fun i => shapeCast S1x16384x512 (transpose S1x16384x8x64 [0, 3, 1, 2] (W m c main_v45) transposes_S1x8x64x16384_S1x16384x8x64_0_3_1_2) shapeCasts_S1x16384x8x64_S1x16384x512 i) shapeCasts_S1x16384x512_S16384x8x64 i := by
  rw [cut m c main_v76, cut m c main_v45]
  simp only [ops, List.drop_succ_cons, List.drop_zero]
  after_reads_simp
  rfl

theorem op_v72 (c : Dev nD) : W m c main_v72 = fun i => shapeCast S16384x1024 (W m c main_v71) shapeCasts_S16384x8x128_S16384x1024 i := by
  rw [cut m c main_v72, cut m c main_v71]
  simp only [ops, List.drop_succ_cons, List.drop_zero]
  after_reads_simp
  rfl

theorem op_v75 (c : Dev nD) : W m c main_v75 = fun i => shapeCast S16384x1024 (W m c main_v74) shapeCasts_S16384x8x128_S16384x1024 i := by
  rw [cut m c main_v75, cut m c main_v74]
  simp only [ops, List.drop_succ_cons, List.drop_zero]
  after_reads_simp
  rfl

theorem op_v78 (c : Dev nD) : W m c main_v78 = fun i => shapeCast S16384x1024 (W m c main_v77) shapeCasts_S16384x8x128_S16384x1024 i := by
  rw [cut m c main_v78, cut m c main_v77]
  simp only [ops, List.drop_succ_cons, List.drop_zero]
  after_reads_simp
  rfl

theorem op_v51 (c : Dev nD) : W m c main_v51 = Host.reduceAdd (mulf (mulf (W m c main_v44) (broadcastInDim S1x8x16384x16384 ![0, 1, 2, 3] bcast_S1x8x16384x1_S1x8x16384x16384_0_1_2_3 (W m c main_v38))) (W m c main_v31))
        (constant (F := Ideal) S_ .f32 0x00000000#32) reducesTo_S1x8x16384x16384_S1x8x16384_d3 h_S_ := by
  unfold W
  after_reads_simp

theorem op_v52 (c : Dev nD) : W m c main_v52 = (fun i => shapeCast S1x8x16384x1 (W m c main_v51) shapeCasts_S1x8x16384_S1x8x16384x1 i) := by
  unfold W
  after_reads_simp
  rfl

theorem op_v53 (c : Dev nD) : W m c main_v53 = (Host.negf (F := Ideal) (φ := .f32) (s := S1x8x16384x1) (W m c main_v52) : S1x8x16384x1.Idx → EReal) := by
  unfold W
  after_reads_simp

/-- A row's largest element. -/
theorem row_max (X : S1x8x16384x16384.Idx → EReal) (I : S_.Idx → EReal) (y0 : Fin 1) (y1 : Fin 8) (y2 : Fin 16384) :
    Host.reduce (FloatOps.maximumf (F := Ideal) (φ := .f32)) X I reducesTo_S1x8x16384x16384_S1x8x16384_d3 h_S_ (ix3 y0 y1 y2)
      = Finset.fold max (I (Shape.Idx.first h_S_)) (fun x => X (ix4 0 y1 y2 x)) Finset.univ := by
  have h : S1x8x16384x16384.Reduces [3] S1x8x16384 := by decide
  rw [Host.reduce_eq_fold_single (FloatOps.maximumf (F := Ideal) (φ := .f32)) X I _ h _ _]
  have hf : (X ∘ h.lift (ix3 y0 y1 y2)) = fun x : Fin 16384 => X (ix4 0 y1 y2 x) := funext fun x => congrArg X (by
    funext a
    apply Fin.ext
    fin_cases a
    · exact congrArg Fin.val (Fin.eq_zero y0)
    · rfl
    · rfl
    · rfl)
  exact congrArg (fun f => Finset.fold max (I (Shape.Idx.first h_S_)) f (Finset.univ : Finset (Fin 16384))) hf

/-- The largest score of a row. -/
def top (c : Dev nD) (h : Fin 8) (r : Fin 16384) : ℝ :=
  (Finset.fold max (⊥ : EReal) (fun x : Fin 16384 => if x ≤ r then ((score (q c) (k c) h r x * sc : ℝ) : EReal) else ⊥) Finset.univ).toReal

theorem top_coe (c : Dev nD) (h : Fin 8) (r : Fin 16384) :
    Finset.fold max (⊥ : EReal) (fun x : Fin 16384 => if x ≤ r then ((score (q c) (k c) h r x * sc : ℝ) : EReal) else ⊥) Finset.univ = ((top q k c h r : ℝ) : EReal) :=
  max_real (fun j => j ≤ r) (fun j => score (q c) (k c) h r j * sc) r (le_refl r)

section
include hQ hK hP hp

theorem masked_eq (c : Dev nD) : W m c main_v10_0 = fun i => if (i 3 : Fin 16384) ≤ i 2 then ((score (q c) (k c) (i 1) (i 2) (i 3) * sc : ℝ) : EReal) else ⊥ := by
  unfold W
  after_reads_simp
  simp only [TRef.toBuf, TRef.ofBuf, cast_eq, id]
  rw [show m (c, Proc.tc.devRef main_arg0) = _ from hQ c, show m (c, Proc.tc.devRef main_arg1) = _ from hK c, show m (c, Proc.tc.devRef main_arg3) = _ from hP c]
  funext y
  idx_vars y
  pointwise [scale_bits, bot_bits, select_pos (p c) (hp c)]
  simp only [ring_lift, sum_lift]
  rfl

omit hQ hK in
/-- The places a query sees. -/
theorem seen_eq (c : Dev nD) : W m c main_v10_1 = fun i => BitVec.ofBool (decide ((i 3 : Fin 16384) ≤ i 2)) := by
  unfold W
  after_reads_simp
  simp only [TRef.toBuf, TRef.ofBuf, cast_eq, id]
  rw [show m (c, Proc.tc.devRef main_arg3) = _ from hP c]
  funext y
  idx_vars y
  pointwise
  exact congrArg BitVec.ofBool (hp c y3 y2)

omit hQ hK hP hp in
theorem op_v18 (c : Dev nD) : W m c main_v18 = maximumf (broadcastInDim S1x8x16384 ![] bcast_S_S1x8x16384 (constant (F := Ideal) S_ .f32 0xFF800000#32))
    (Host.reduce FloatOps.maximumf (W m c main_v10_0) (constant (F := Ideal) S_ .f32 0xFF800000#32) reducesTo_S1x8x16384x16384_S1x8x16384_d3 h_S_) := by
  unfold W
  after_reads_simp

omit hQ hK hP hp in
theorem max_low (X : S1x8x16384.Idx → EReal) : maximumf (F := Ideal) (φ := .f32) (broadcastInDim S1x8x16384 ![] bcast_S_S1x8x16384 (constant (F := Ideal) S_ .f32 0xFF800000#32)) X = X := by
  funext y
  idx_vars y
  pointwise [bot_bits]
  exact max_bot_left _

theorem row_top (c : Dev nD) (y0 : Fin 1) (y1 : Fin 8) (y2 : Fin 16384) :
    Host.reduce (FloatOps.maximumf (F := Ideal) (φ := .f32)) (W m c main_v10_0) (constant (F := Ideal) S_ .f32 0xFF800000#32) reducesTo_S1x8x16384x16384_S1x8x16384_d3 h_S_ (ix3 y0 y1 y2)
      = ((top q k c y1 y2 : ℝ) : EReal) := by
  have hm : (fun x => W m c main_v10_0 (ix4 0 y1 y2 x)) = fun x : Fin 16384 => if x ≤ y2 then ((score (q c) (k c) y1 y2 x * sc : ℝ) : EReal) else ⊥ :=
    funext fun x => congrFun (masked_eq m q k p hQ hK hP hp c) (ix4 0 y1 y2 x)
  rw [row_max, hm, constant_apply, show (FloatOps.ofBits FTy.f32 4286578688#32 : Ideal .f32) = ⊥ from bot_bits]
  exact top_coe q k c y1 y2

theorem top_eq (c : Dev nD) : W m c main_v18 = fun i => ((top q k c (i 1) (i 2) : ℝ) : EReal) := by
  rw [op_v18, max_low]
  funext y
  idx_vars y
  exact row_top m q k p hQ hK hP hp c y0 y1 y2

/-- The exponentials. -/
theorem exp_eq (c : Dev nD) : W m c main_v31 = fun i => ((shifted (q c) (k c) (top q k c (i 1) (i 2)) (i 1) (i 2) (i 3) : ℝ) : EReal) := by
  have e : W m c main_v31 = (Host.exp (F := Ideal) (φ := .f32) (s := S1x8x16384x16384) (subf (W m c main_v10_0) (broadcastInDim S1x8x16384x16384 ![0, 1, 2, 3] bcast_S1x8x16384x1_S1x8x16384x16384_0_1_2_3
      (broadcastInDim S1x8x16384x1 ![0, 1, 2] bcast_S1x8x16384_S1x8x16384x1_0_1_2 (W m c main_v18)))) : S1x8x16384x16384.Idx → EReal) := by
    unfold W
    after_reads_simp
  rw [e, top_eq m q k p hQ hK hP hp c, masked_eq m q k p hQ hK hP hp c]
  funext y
  idx_vars y
  pointwise
  unfold shifted
  by_cases h : y3 ≤ y2
  · rw [if_pos h, if_pos h, ← EReal.coe_sub]; exact Ideal.exp_coe _
  · rw [if_neg h, if_neg h, EReal.bot_sub]; rfl

/-- Their sums. -/
theorem sum_eq (c : Dev nD) : W m c main_v33 = fun i => ((∑ j, shifted (q c) (k c) (top q k c (i 1) (i 2)) (i 1) (i 2) j : ℝ) : EReal) := by
  have e : W m c main_v33 = broadcastInDim S1x8x16384x1 ![0, 1, 2] bcast_S1x8x16384_S1x8x16384x1_0_1_2
      (Host.reduceAdd (W m c main_v31) (constant (F := Ideal) S_ .f32 0x00000000#32) reducesTo_S1x8x16384x16384_S1x8x16384_d3 h_S_) := by
    unfold W
    after_reads_simp
  rw [e, exp_eq m q k p hQ hK hP hp c]
  funext y
  idx_vars y
  pointwise [consts]
  simp only [ring_lift, sum_lift]

/-- The reciprocals of the squared sums. -/
theorem square_eq (c : Dev nD) : W m c main_v38 = fun i => ((1 / ((∑ j, shifted (q c) (k c) (top q k c (i 1) (i 2)) (i 1) (i 2) j) * (∑ j, shifted (q c) (k c) (top q k c (i 1) (i 2)) (i 1) (i 2) j)) : ℝ) : EReal) := by
  have e : W m c main_v38 = (Host.divf (F := Ideal) (φ := .f32) (s := S1x8x16384x1) (broadcastInDim S1x8x16384x1 ![] bcast_S_S1x8x16384x1 (constant (F := Ideal) S_ .f32 0x3F800000#32))
      (mulf (W m c main_v33) (W m c main_v33)) : S1x8x16384x1.Idx → EReal) := by
    unfold W
    after_reads_simp
  rw [e, sum_eq m q k p hQ hK hP hp c]
  funext y
  idx_vars y
  have h := (sum_shifted_pos (q c) (k c) (top q k c y1 y2) y1 y2).ne'
  pointwise [consts]
  simp only [ring_lift]
  exact div_lift (mul_ne_zero h h) 1

/-- The weights, and their products with the cotangent. -/
theorem prob_eq (c : Dev nD) : W m c main_v35 = fun i => ((prob (q c) (k c) (i 1) (i 2) (i 3) : ℝ) : EReal) := by
  have e : W m c main_v35 = (Host.divf (F := Ideal) (φ := .f32) (s := S1x8x16384x16384) (W m c main_v31)
      (broadcastInDim S1x8x16384x16384 ![0, 1, 2, 3] bcast_S1x8x16384x1_S1x8x16384x16384_0_1_2_3 (W m c main_v33)) : S1x8x16384x16384.Idx → EReal) := by
    unfold W
    after_reads_simp
  rw [e, exp_eq m q k p hQ hK hP hp c, sum_eq m q k p hQ hK hP hp c]
  funext y
  idx_vars y
  pointwise
  rw [div_lift (sum_shifted_pos (q c) (k c) (top q k c y1 y2) y1 y2).ne', prob_shifted]

include hV hG

omit hQ hK hP hp in
theorem gv_eq (c : Dev nD) : W m c main_v44 = fun i => ((gv (v c) (g c) (i 1) (i 2) (i 3) : ℝ) : EReal) := by
  unfold W
  after_reads_simp
  rw [show m (c, Proc.tc.devRef main_arg2) = _ from hV c, show m (c, Proc.tc.devRef main_arg4) = _ from hG c]
  funext y
  idx_vars y
  pointwise
  simp only [ring_lift, sum_lift]
  rfl

/-- The row's correction. -/
theorem mean_eq (c : Dev nD) : W m c main_v53 = fun i => ((-(∑ j, gv (v c) (g c) (i 1) (i 2) j
      * (1 / ((∑ j, shifted (q c) (k c) (top q k c (i 1) (i 2)) (i 1) (i 2) j) * (∑ j, shifted (q c) (k c) (top q k c (i 1) (i 2)) (i 1) (i 2) j)))
      * shifted (q c) (k c) (top q k c (i 1) (i 2)) (i 1) (i 2) j) : ℝ) : EReal) := by
  rw [op_v53, op_v52, op_v51, gv_eq m v g hV hG c, exp_eq m q k p hQ hK hP hp c, square_eq m q k p hQ hK hP hp c]
  funext y
  idx_vars y
  pointwise [consts]
  simp only [ring_lift, sum_lift]

/-- The gradient of the scaled scores. -/
theorem ds_eq (c : Dev nD) : W m c main_v60 = fun i => ((ds (q c) (k c) (v c) (g c) (i 1) (i 2) (i 3) : ℝ) : EReal) := by
  have e : W m c main_v60 = (mulf (F := Ideal) (φ := .f32) (s := S1x8x16384x16384) (addf (Host.divf (W m c main_v44)
      (broadcastInDim S1x8x16384x16384 ![0, 1, 2, 3] bcast_S1x8x16384x1_S1x8x16384x16384_0_1_2_3 (W m c main_v33)))
        (broadcastInDim S1x8x16384x16384 ![0, 1, 2] bcast_S1x8x16384_S1x8x16384x16384_0_1_2 (broadcastInDim S1x8x16384 ![1, 2] bcast_S8x16384_S1x8x16384_1_2
          (Host.reduceAdd (W m c main_v53) (constant (F := Ideal) S_ .f32 0x00000000#32) reducesTo_S1x8x16384x1_S8x16384_d0_3 h_S_)))) (W m c main_v31) : S1x8x16384x16384.Idx → EReal) := by
    unfold W
    after_reads_simp
  rw [e, mean_eq m q k v g p hQ hK hV hP hG hp c, gv_eq m v g hV hG c, exp_eq m q k p hQ hK hP hp c, sum_eq m q k p hQ hK hP hp c]
  funext y
  idx_vars y
  pointwise [consts]
  simp only [div_lift (sum_shifted_pos (q c) (k c) (top q k c y1 y2) y1 y2).ne', ring_lift, sum_lift]
  rw [sum_unit_ends, EReal.coe_zero, zero_add, ← EReal.coe_add, ← EReal.coe_mul]
  exact congrArg _ (ds_shifted (q c) (k c) (v c) (g c) (top q k c y1 y2) y1 y2 y3)

/-- The same, times the scale. -/
theorem scaled_eq (c : Dev nD) : W m c main_v63 = fun i => ((ds (q c) (k c) (v c) (g c) (i 1) (i 2) (i 3) * sc : ℝ) : EReal) := by
  have e : W m c main_v63 = (mulf (F := Ideal) (φ := .f32) (s := S1x8x16384x16384) (select (W m c main_v10_1) (W m c main_v60) (broadcastInDim S1x8x16384x16384 ![] bcast_S_S1x8x16384x16384 (constant (F := Ideal) S_ .f32 0x00000000#32)))
     (broadcastInDim S1x8x16384x16384 ![] bcast_S_S1x8x16384x16384 (constant (F := Ideal) S_ .f32 0x3DD105EC#32)) : S1x8x16384x16384.Idx → EReal) := by
    unfold W
    after_reads_simp
    simp only [TRef.toBuf, TRef.ofBuf, cast_eq, id]
  rw [e, ds_eq m q k v g p hQ hK hV hP hG hp c, seen_eq m p hP hp c]
  funext y
  idx_vars y
  pointwise [consts, scale_bits]
  exact hidden (y3 ≤ y2) _ fun h => by simp only [ds, prob, weight, if_neg h, zero_div, zero_mul]

/-- The three gradients, per head. -/
theorem dv_eq (c : Dev nD) : W m c main_v45 = fun i => ((dv (q c) (k c) (g c) (i 3) (i 1) (i 2) : ℝ) : EReal) := by
  rw [op_v45, op_v43, prob_eq m q k p hQ hK hP hp c, show m (c, Proc.tc.devRef main_arg4) = _ from hG c]
  funext y
  idx_vars y
  pointwise
  simp only [ring_lift, sum_lift]
  exact congrArg _ (Finset.sum_congr rfl fun r _ => mul_comm _ _)

theorem dk_eq (c : Dev nD) : W m c main_v64 = fun i => ((dk (q c) (k c) (v c) (g c) (i 2) (i 1) (i 3) : ℝ) : EReal) := by
  rw [op_v64, op_v0, scaled_eq m q k v g p hQ hK hV hP hG hp c, show m (c, Proc.tc.devRef main_arg0) = _ from hQ c]
  funext y
  idx_vars y
  pointwise
  simp only [ring_lift, sum_lift]
  rfl

theorem dq_eq (c : Dev nD) : W m c main_v66 = fun i => ((dq (q c) (k c) (v c) (g c) (i 2) (i 1) (i 3) : ℝ) : EReal) := by
  rw [op_v66, op_v1, scaled_eq m q k v g p hQ hK hV hP hG hp c, show m (c, Proc.tc.devRef main_arg1) = _ from hK c]
  funext y
  idx_vars y
  pointwise
  simp only [ring_lift, sum_lift]
  rfl

theorem out_dq (c : Dev nD) : W m c main_v72 = fun i => ((spread96 (dq (q c) (k c) (v c) (g c) (i 0)) (i 1) : ℝ) : EReal) := by
  rw [op_v72, op_v71, op_v70, dq_eq m q k v g p hQ hK hV hP hG hp c]
  funext y
  idx_vars y
  pointwise
  unfold spread96
  by_cases h : y1.val % 128 < 96
  · rw [dif_pos h]
    refine dif_pos fun a => ?_
    fin_cases a
    · exact inside y0.isLt
    · exact inside (Nat.div_lt_of_lt_mul y1.isLt)
    · exact inside h
  · rw [dif_neg h]
    refine (dif_neg fun H => h ?_).trans zero_word
    exact lt_of_eq_of_lt (Nat.div_one _).symm (H 2).2.2

theorem out_dk (c : Dev nD) : W m c main_v75 = fun i => ((spread96 (dk (q c) (k c) (v c) (g c) (i 0)) (i 1) : ℝ) : EReal) := by
  rw [op_v75, op_v74, op_v73, dk_eq m q k v g p hQ hK hV hP hG hp c]
  funext y
  idx_vars y
  pointwise
  unfold spread96
  by_cases h : y1.val % 128 < 96
  · rw [dif_pos h]
    refine dif_pos fun a => ?_
    fin_cases a
    · exact inside y0.isLt
    · exact inside (Nat.div_lt_of_lt_mul y1.isLt)
    · exact inside h
  · rw [dif_neg h]
    refine (dif_neg fun H => h ?_).trans zero_word
    exact lt_of_eq_of_lt (Nat.div_one _).symm (H 2).2.2

theorem out_dv (c : Dev nD) : W m c main_v78 = fun i => ((spread64 (dv (q c) (k c) (g c) (i 0)) (i 1) : ℝ) : EReal) := by
  rw [op_v78, op_v77, op_v76, dv_eq m q k v g p hQ hK hV hP hG hp c]
  funext y
  idx_vars y
  pointwise
  unfold spread64
  by_cases h : y1.val % 128 < 64
  · rw [dif_pos h]
    refine dif_pos fun a => ?_
    fin_cases a
    · exact inside y0.isLt
    · exact inside (Nat.div_lt_of_lt_mul y1.isLt)
    · exact inside h
  · rw [dif_neg h]
    refine (dif_neg fun H => h ?_).trans zero_word
    exact lt_of_eq_of_lt (Nat.div_one _).symm (H 2).2.2

/-- What the reference's run leaves in its three results: the three gradients. -/
theorem results (ρ : Dev nD → PrngReg) :
    θ_run defs (onTc (τ := τ) (main (F := Ideal))) ⟨m, fun _ => 0, ρ⟩ fun r => ∀ c : Dev nD,
      r.2.mem ((c.tc : Thread nD τ).loc main_v72) = (fun i => ((spread96 (dq (q c) (k c) (v c) (g c) (i 0)) (i 1) : ℝ) : EReal))
      ∧ r.2.mem ((c.tc : Thread nD τ).loc main_v75) = (fun i => ((spread96 (dk (q c) (k c) (v c) (g c) (i 0)) (i 1) : ℝ) : EReal))
      ∧ r.2.mem ((c.tc : Thread nD τ).loc main_v78) = (fun i => ((spread64 (dv (q c) (k c) (g c) (i 0)) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v72).trans (out_dq m q k v g p hQ hK hV hP hG hp c),
      (h c main_v75).trans (out_dk m q k v g p hQ hK hV hP hG hp c), (h c main_v78).trans (out_dv m q k v g p hQ hK hV hP hG hp c),
      (h c main_arg0).trans (by after_reads_simp), (h c main_arg1).trans (by after_reads_simp), (h c main_arg2).trans (by after_reads_simp),
      (h c main_arg3).trans (by after_reads_simp), (h c main_arg4).trans (by after_reads_simp)⟩)
    (run_seq scopedRefs_eq scopedSems_eq defs main (fun _ => ops) main_eq (fun _ => ops_sub) m ρ)

end

end Cert.AttnRefIdeal.Value
-- ==== Proof.AttnHost.lean ====
/- What the kernel of the attention's gradient is handed: the host's softmax sums and row corrections, over the reals. -/
module

public import proofs.«01_k».proof.Proof.AttnState
public import proofs.«01_k».proof.Proof.AttnLift

@[expose] public section

set_option maxRecDepth 16384

noncomputable section

namespace Cert.AttnBwd

open Idealize.ShloMosaic Idealize.ShloMosaic.TcCoe Idealize.SL.Sem Idealize.ShloMosaic.StableHlo
open Cert.AttnIdeal Cert.AttnIdeal.Gen Cert.Lift Cert.AttnMath

variable (m : (ℓ : Loc nD τ sig) → Buf (Elt Ideal) ℓ)
  (q k : Dev nD → Fin 16384 → Fin 768 → ℝ) (v g : Dev nD → Fin 16384 → Fin 512 → ℝ) (p : Dev nD → Fin 16384 → BitVec 32)
  (hQ : ∀ c : Dev nD, m ((c.tc : Thread nD τ).loc main_arg0) = fun i => ((q c (i 1) (i 2) : ℝ) : EReal))
  (hK : ∀ c : Dev nD, m ((c.tc : Thread nD τ).loc main_arg1) = fun i => ((k c (i 1) (i 2) : ℝ) : EReal))
  (hV : ∀ c : Dev nD, m ((c.tc : Thread nD τ).loc main_arg2) = fun i => ((v c (i 1) (i 2) : ℝ) : EReal))
  (hP : ∀ c : Dev nD, m ((c.tc : Thread nD τ).loc main_arg3) = fun i => p c (i 1))
  (hG : ∀ c : Dev nD, m ((c.tc : Thread nD τ).loc main_arg4) = fun i => ((g c (i 1) (i 2) : ℝ) : EReal))
  (hp : ∀ (c : Dev nD) (j r : Fin 16384), (p c j).sle (p c r) = decide (j ≤ r))

/-- The host's operations as one list. -/
theorem prep_flatten : (prep (F := Ideal)).flatten = hostOps0 ++ (hostOps0_1 ++ (hostOps0_2 ++ (hostOps0_3 ++ (hostOps0_4 ++ (hostOps0_5 ++ (hostOps0_6 ++ (hostOps0_7 ++ hostOps0_8))))))) := by
  simp only [prep, List.flatten_cons, List.flatten_nil, List.append_nil]

theorem op_v15 (c : Dev nD) : V m c main_v15 = Host.reduce (FloatOps.maximumf (F := Ideal) (φ := .f32)) (V m c main_v14) (constant (F := Ideal) S_ .f32 0xFF800000#32) reducesTo_S8x16384x16384_S8x16384_d2 h_S_ := by
  unfold V
  rw [prep_flatten]
  simp only [List.cons_append, List.nil_append]
  after_reads_simp

theorem op_v21 (c : Dev nD) : V m c main_v21 = (Host.exp (F := Ideal) (φ := .f32) (s := S8x16384x16384) (mulf (subf (V m c main_v14)
      (broadcastInDim S8x16384x16384 ![0, 1, 2] bcast_S8x16384x1_S8x16384x16384_0_1_2 (broadcastInDim S8x16384x1 ![0, 1] bcast_S8x16384_S8x16384x1_0_1 (V m c main_v15))))
      (broadcastInDim S8x16384x16384 ![] bcast_S_S8x16384x16384 (constant (F := Ideal) S_ .f32 0x3DD105EC#32))) : S8x16384x16384.Idx → EReal) := by
  unfold V
  rw [prep_flatten]
  simp only [List.cons_append, List.nil_append]
  after_reads_simp

theorem op_v22 (c : Dev nD) : V m c main_v22 = Host.reduceAdd (V m c main_v21) (constant (F := Ideal) S_ .f32 0x00000000#32) reducesTo_S8x16384x16384_S8x16384_d2 h_S_ := by
  unfold V
  rw [prep_flatten]
  simp only [List.cons_append, List.nil_append]
  after_reads_simp

theorem op_v26 (c : Dev nD) : V m c main_v26 = (Host.divf (F := Ideal) (φ := .f32) (s := S8x16384x64)
      (Host.dotGeneral (F := Ideal) (φ₁ := .f32) (φ₂ := .f32) dot_S8x16384x16384_S8x16384x64_S8x16384x64_2_1_1_2_0_0 none (V m c main_v21) (V m c main_v5) : FVec Ideal S8x16384x64 .f32)
      (broadcastInDim S8x16384x64 ![0, 1, 2] bcast_S8x16384x1_S8x16384x64_0_1_2 (broadcastInDim S8x16384x1 ![0, 1] bcast_S8x16384_S8x16384x1_0_1 (V m c main_v22))) : S8x16384x64.Idx → EReal) := by
  unfold V
  rw [prep_flatten]
  simp only [List.cons_append, List.nil_append]
  after_reads_simp

theorem op_v32 (c : Dev nD) : V m c main_v32 = (Host.divf (F := Ideal) (φ := .f32) (s := S8x16384x1)
      (addf (mulf (broadcastInDim S8x16384x1 ![0, 1] bcast_S8x16384_S8x16384x1_0_1 (V m c main_v15)) (broadcastInDim S8x16384x1 ![] bcast_S_S8x16384x1 (constant (F := Ideal) S_ .f32 0x3DD105EC#32)))
        (Host.log (F := Ideal) (φ := .f32) (s := S8x16384x1) (broadcastInDim S8x16384x1 ![0, 1] bcast_S8x16384_S8x16384x1_0_1 (V m c main_v22))))
      (broadcastInDim S8x16384x1 ![] bcast_S_S8x16384x1 (Host.log (F := Ideal) (φ := .f32) (s := S_) (constant (F := Ideal) S_ .f32 0x40000000#32))) : S8x16384x1.Idx → EReal) := by
  unfold V
  rw [prep_flatten]
  simp only [List.cons_append, List.nil_append]
  after_reads_simp

theorem op_v34 (c : Dev nD) : V m c main_v34 = Host.reduceAdd (mulf (F := Ideal) (φ := .f32) (s := S8x16384x64) (V m c main_v7) (V m c main_v26)) (constant (F := Ideal) S_ .f32 0x00000000#32) reducesTo_S8x16384x64_S8x16384_d2 h_S_ := by
  unfold V
  rw [prep_flatten]
  simp only [List.cons_append, List.nil_append]
  after_reads_simp

theorem op_v58 (c : Dev nD) : V m c main_v58 = fun i => shapeCast S16384x1024 (transpose S16384x8x128 [1, 0, 2] (broadcastInDim S8x16384x128 ![0, 1, 2] bcast_S8x16384x1_S8x16384x128_0_1_2
      (broadcastInDim S8x16384x1 ![0, 1] bcast_S8x16384_S8x16384x1_0_1 (V m c main_v34))) transposes_S8x16384x128_S16384x8x128_1_0_2) shapeCasts_S16384x8x128_S16384x1024 i := by
  unfold V
  rw [prep_flatten]
  simp only [List.cons_append, List.nil_append]
  after_reads_simp
  rfl

theorem op_v61 (c : Dev nD) : V m c main_v61 = fun i => shapeCast S16384x1024 (transpose S16384x8x128 [1, 0, 2] (broadcastInDim S8x16384x128 ![0, 1, 2] bcast_S8x16384x1_S8x16384x128_0_1_2
      (V m c main_v32)) transposes_S8x16384x128_S16384x8x128_1_0_2) shapeCasts_S16384x8x128_S16384x1024 i := by
  unfold V
  rw [prep_flatten]
  simp only [List.cons_append, List.nil_append]
  after_reads_simp
  rfl

/-- A row's largest element. -/
theorem row_max (X : S8x16384x16384.Idx → EReal) (I : S_.Idx → EReal) (y0 : Fin 8) (y1 : Fin 16384) :
    Host.reduce (FloatOps.maximumf (F := Ideal) (φ := .f32)) X I reducesTo_S8x16384x16384_S8x16384_d2 h_S_ (ix2 y0 y1)
      = Finset.fold max (I (Shape.Idx.first h_S_)) (fun x => X (ix3 y0 y1 x)) Finset.univ := by
  have h : S8x16384x16384.Reduces [2] S8x16384 := by decide
  rw [Host.reduce_eq_fold_single (FloatOps.maximumf (F := Ideal) (φ := .f32)) X I _ h _ _]
  have hf : (X ∘ h.lift (ix2 y0 y1)) = fun x : Fin 16384 => X (ix3 y0 y1 x) := funext fun x => congrArg X (by
    funext a
    apply Fin.ext
    fin_cases a
    · rfl
    · rfl
    · rfl)
  exact congrArg (fun f => Finset.fold max (I (Shape.Idx.first h_S_)) f (Finset.univ : Finset (Fin 16384))) hf

/-- The largest score of a row. -/
def top (c : Dev nD) (h : Fin 8) (r : Fin 16384) : ℝ :=
  (Finset.fold max (⊥ : EReal) (fun x : Fin 16384 => if x ≤ r then ((score (q c) (k c) h r x : ℝ) : EReal) else ⊥) Finset.univ).toReal

theorem top_coe (c : Dev nD) (h : Fin 8) (r : Fin 16384) :
    Finset.fold max (⊥ : EReal) (fun x : Fin 16384 => if x ≤ r then ((score (q c) (k c) h r x : ℝ) : EReal) else ⊥) Finset.univ = ((top q k c h r : ℝ) : EReal) :=
  max_real (fun j => j ≤ r) (fun j => score (q c) (k c) h r j) r (le_refl r)

section
include hQ hK hP hp

theorem masked_eq (c : Dev nD) : V m c main_v14 = fun i => if (i 2 : Fin 16384) ≤ i 1 then ((score (q c) (k c) (i 0) (i 1) (i 2) : ℝ) : EReal) else ⊥ := by
  unfold V
  rw [prep_flatten]
  simp only [List.cons_append, List.nil_append]
  after_reads_simp
  simp only [TRef.toBuf, TRef.ofBuf, cast_eq, id]
  rw [show m (c, Proc.tc.devRef main_arg0) = _ from hQ c, show m (c, Proc.tc.devRef main_arg1) = _ from hK c, show m (c, Proc.tc.devRef main_arg3) = _ from hP c]
  funext y
  idx_vars y
  pointwise [scale_bits, bot_bits, select_pos (p c) (hp c)]
  simp only [ring_lift, sum_lift]
  rfl

theorem row_top (c : Dev nD) (y0 : Fin 8) (y1 : Fin 16384) :
    Host.reduce (FloatOps.maximumf (F := Ideal) (φ := .f32)) (V m c main_v14) (constant (F := Ideal) S_ .f32 0xFF800000#32) reducesTo_S8x16384x16384_S8x16384_d2 h_S_ (ix2 y0 y1)
      = ((top q k c y0 y1 : ℝ) : EReal) := by
  have hm : (fun x => V m c main_v14 (ix3 y0 y1 x)) = fun x : Fin 16384 => if x ≤ y1 then ((score (q c) (k c) y0 y1 x : ℝ) : EReal) else ⊥ :=
    funext fun x => congrFun (masked_eq m q k p hQ hK hP hp c) (ix3 y0 y1 x)
  rw [row_max, hm, constant_apply, show (FloatOps.ofBits FTy.f32 4286578688#32 : Ideal .f32) = ⊥ from bot_bits]
  exact top_coe q k c y0 y1

theorem top_eq (c : Dev nD) : V m c main_v15 = fun i => ((top q k c (i 0) (i 1) : ℝ) : EReal) := by
  rw [op_v15]
  funext y
  idx_vars y
  exact row_top m q k p hQ hK hP hp c y0 y1

/-- The exponentials. -/
theorem exp_eq (c : Dev nD) : V m c main_v21 = fun i => ((shifted (q c) (k c) (top q k c (i 0) (i 1) * sc) (i 0) (i 1) (i 2) : ℝ) : EReal) := by
  rw [op_v21, top_eq m q k p hQ hK hP hp c, masked_eq m q k p hQ hK hP hp c]
  funext y
  idx_vars y
  pointwise [scale_bits]
  unfold shifted
  by_cases h : y2 ≤ y1
  · rw [if_pos h, if_pos h, ← EReal.coe_sub, ← EReal.coe_mul, sub_mul]; exact Ideal.exp_coe _
  · rw [if_neg h, if_neg h, EReal.bot_sub, EReal.bot_mul_coe_of_pos (by unfold sc; norm_num)]; rfl

/-- Their sums. -/
theorem sum_eq (c : Dev nD) : V m c main_v22 = fun i => ((total (q c) (k c) (i 0) (i 1) * Real.exp (-(top q k c (i 0) (i 1) * sc)) : ℝ) : EReal) := by
  rw [op_v22, exp_eq m q k p hQ hK hP hp c]
  funext y
  idx_vars y
  pointwise [consts]
  simp only [ring_lift, sum_lift, sum_shifted]

omit hQ hK hP hp in
theorem log_two : Ideal.log ((2 : ℝ) : EReal) = ((Real.log 2 : ℝ) : EReal) := by
  rw [Ideal.log_coe, if_neg (by norm_num)]

/-- The base-2 logarithms of the rows' sums of weights. -/
theorem lse_eq (c : Dev nD) : V m c main_v32 = fun i => ((Real.log (total (q c) (k c) (i 0) (i 1)) / Real.log 2 : ℝ) : EReal) := by
  rw [op_v32, sum_eq m q k p hQ hK hP hp c, top_eq m q k p hQ hK hP hp c]
  funext y
  idx_vars y
  pointwise [scale_bits, consts]
  have ht := total_pos (q c) (k c) y0 y1
  have hs : 0 < total (q c) (k c) y0 y1 * Real.exp (-(top q k c y0 y1 * sc)) := mul_pos ht (Real.exp_pos _)
  rw [log_two, Ideal.log_coe, if_neg (not_le.2 hs), Real.log_mul ht.ne' (Real.exp_pos _).ne', Real.log_exp, ← EReal.coe_mul, ← EReal.coe_add,
    div_lift (Real.log_pos (by norm_num)).ne']
  congr 2
  ring

include hV

/-- The forward pass's output. -/
theorem out_eq (c : Dev nD) : V m c main_v26 = fun i => ((∑ j, prob (q c) (k c) (i 0) (i 1) j * v c j (at64 (i 0) (i 2)) : ℝ) : EReal) := by
  have e5 : V m c main_v5 = fun i => ((v c (i 1) (at64 (i 0) (i 2)) : ℝ) : EReal) := by
    unfold V
    rw [prep_flatten]
    simp only [List.cons_append, List.nil_append]
    after_reads_simp
    rw [show m (c, Proc.tc.devRef main_arg2) = _ from hV c]
    funext y
    idx_vars y
    pointwise
    rfl
  rw [op_v26, sum_eq m q k p hQ hK hP hp c, exp_eq m q k p hQ hK hP hp c, e5]
  funext y
  idx_vars y
  pointwise
  simp only [ring_lift, sum_lift]
  rw [div_lift (mul_pos (total_pos (q c) (k c) y0 y1) (Real.exp_pos _)).ne', Finset.sum_div]
  refine congrArg _ (Finset.sum_congr rfl fun j _ => ?_)
  rw [← prob_shifted (q c) (k c) (top q k c y0 y1 * sc) y0 y1 j, sum_shifted, div_mul_eq_mul_div]

include hG

/-- The rows' corrections. -/
theorem mean_eq (c : Dev nD) : V m c main_v34 = fun i => ((mean (q c) (k c) (v c) (g c) (i 0) (i 1) : ℝ) : EReal) := by
  have e7 : V m c main_v7 = fun i => ((g c (i 1) (at64 (i 0) (i 2)) : ℝ) : EReal) := by
    unfold V
    rw [prep_flatten]
    simp only [List.cons_append, List.nil_append]
    after_reads_simp
    rw [show m (c, Proc.tc.devRef main_arg4) = _ from hG c]
    funext y
    idx_vars y
    pointwise
    rfl
  rw [op_v34, e7, out_eq m q k v p hQ hK hV hP hp c]
  funext y
  idx_vars y
  pointwise [consts]
  simp only [ring_lift, sum_lift]
  refine congrArg _ ?_
  unfold mean gv
  simp only [Finset.mul_sum]
  rw [Finset.sum_comm]
  exact Finset.sum_congr rfl fun j _ => Finset.sum_congr rfl fun d _ => by ring

/-- The corrections, over all lanes. -/
theorem mean_lanes (c : Dev nD) : V m c main_v58 = fun i => ((mean (q c) (k c) (v c) (g c) ⟨(i 1 : Fin 1024).val / 128, by omega⟩ (i 0) : ℝ) : EReal) := by
  rw [op_v58, mean_eq m q k v g p hQ hK hV hP hG hp c]
  funext y
  idx_vars y
  pointwise

omit hV hG in
theorem lse_lanes (c : Dev nD) : V m c main_v61 = fun i => ((Real.log (total (q c) (k c) ⟨(i 1 : Fin 1024).val / 128, by omega⟩ (i 0)) / Real.log 2 : ℝ) : EReal) := by
  rw [op_v61, lse_eq m q k p hQ hK hP hp c]
  funext y
  idx_vars y
  pointwise

end

end Cert.AttnBwd

end
-- ==== Proof.AttnArrays.lean ====
/- What the kernel of the attention's gradient is handed: its arrays, over the reals. -/
module

public import proofs.«01_k».proof.Proof.AttnHost

@[expose] public section

set_option maxRecDepth 16384

noncomputable section

namespace Cert.AttnBwd

open Idealize.ShloMosaic Idealize.ShloMosaic.TcCoe Idealize.SL.Sem Idealize.ShloMosaic.StableHlo
open Cert.AttnIdeal Cert.AttnIdeal.Gen Cert.Lift Cert.AttnMath

variable (m : (ℓ : Loc nD τ sig) → Buf (Elt Ideal) ℓ)
  (q k : Dev nD → Fin 16384 → Fin 768 → ℝ) (v g : Dev nD → Fin 16384 → Fin 512 → ℝ) (p : Dev nD → Fin 16384 → BitVec 32)
  (hQ : ∀ c : Dev nD, m ((c.tc : Thread nD τ).loc main_arg0) = fun i => ((q c (i 1) (i 2) : ℝ) : EReal))
  (hK : ∀ c : Dev nD, m ((c.tc : Thread nD τ).loc main_arg1) = fun i => ((k c (i 1) (i 2) : ℝ) : EReal))
  (hV : ∀ c : Dev nD, m ((c.tc : Thread nD τ).loc main_arg2) = fun i => ((v c (i 1) (i 2) : ℝ) : EReal))
  (hP : ∀ c : Dev nD, m ((c.tc : Thread nD τ).loc main_arg3) = fun i => p c (i 1))
  (hG : ∀ c : Dev nD, m ((c.tc : Thread nD τ).loc main_arg4) = fun i => ((g c (i 1) (i 2) : ℝ) : EReal))

/-- The queries' and the keys' heads, each padded to 128 lanes. -/
def lanes96 (f : Fin 16384 → Fin 768 → ℝ) (r : Fin 16384) (l : Fin 1024) : ℝ := spread96 (fun h d => f r (at96 h d)) l
/-- The cotangent's heads. -/
def lanes64 (f : Fin 16384 → Fin 512 → ℝ) (r : Fin 16384) (l : Fin 1024) : ℝ := spread64 (fun h d => f r (at64 h d)) l
/-- The values' heads, each followed by a one. -/
def lanesOne (f : Fin 16384 → Fin 512 → ℝ) (r : Fin 16384) (l : Fin 1024) : ℝ := if l.val % 128 = 64 then 1 else lanes64 f r l

theorem lanesOne_apply (f : Fin 16384 → Fin 512 → ℝ) (r : Fin 16384) (l : Fin 1024) :
    (if h : l.val % 128 < 64 then ((f r (at64 ⟨l.val / 128, by omega⟩ ⟨l.val % 128, h⟩) : ℝ) : EReal) else if _h : l.val % 128 - 64 < 1 then 1 else 0)
      = ((lanesOne f r l : ℝ) : EReal) := by
  unfold lanesOne lanes64 spread64
  by_cases h : l.val % 128 < 64
  · rw [dif_pos h, if_neg (by omega), dif_pos h]
  · rw [dif_neg h]
    by_cases h' : l.val % 128 = 64
    · rw [if_pos h', dif_pos (by omega)]; rfl
    · rw [if_neg h', dif_neg h, dif_neg (by omega)]; rfl

theorem op_v45 (c : Dev nD) : V m c main_v45 = (truncf (F := Ideal) (φ := .f32) .bf16 (fun i => shapeCast S16384x1024 (V m c main_v43) shapeCasts_S16384x8x128_S16384x1024 i) bitsLt_bf16_f32 : S16384x1024.Idx → EReal) := by
  unfold V
  rw [prep_flatten]
  simp only [List.cons_append, List.nil_append]
  after_reads_simp
  rfl

theorem op_v50 (c : Dev nD) : V m c main_v50 = (truncf (F := Ideal) (φ := .f32) .bf16 (fun i => shapeCast S16384x1024 (V m c main_v48) shapeCasts_S16384x8x128_S16384x1024 i) bitsLt_bf16_f32 : S16384x1024.Idx → EReal) := by
  unfold V
  rw [prep_flatten]
  simp only [List.cons_append, List.nil_append]
  after_reads_simp
  rfl

theorem op_v51 (c : Dev nD) : V m c main_v51 = (truncf (F := Ideal) (φ := .f32) .bf16 (fun i => shapeCast S16384x1024 (V m c main_v39) shapeCasts_S16384x8x128_S16384x1024 i) bitsLt_bf16_f32 : S16384x1024.Idx → EReal) := by
  unfold V
  rw [prep_flatten]
  simp only [List.cons_append, List.nil_append]
  after_reads_simp
  rfl

theorem op_v55 (c : Dev nD) : V m c main_v55 = fun i => shapeCast S16384x1024 (V m c main_v54) shapeCasts_S16384x8x128_S16384x1024 i := by
  unfold V
  rw [prep_flatten]
  simp only [List.cons_append, List.nil_append]
  after_reads_simp
  rfl

theorem op_v43 (c : Dev nD) : V m c main_v43 = pad S16384x8x128 ![0, 0, 0] ![0, 0, 32] ![0, 0, 0] (V m c main_v42) (sitofp (F := Ideal) .f32 (constantI S_ 32 0#32)) pads_S16384x8x96_S16384x8x128_000_000_0320 h_S_ := by
  unfold V
  rw [prep_flatten]
  simp only [List.cons_append, List.nil_append]
  after_reads_simp
  rfl

theorem op_v48 (c : Dev nD) : V m c main_v48 = pad S16384x8x128 ![0, 0, 0] ![0, 0, 32] ![0, 0, 0] (V m c main_v47) (sitofp (F := Ideal) .f32 (constantI S_ 32 0#32)) pads_S16384x8x96_S16384x8x128_000_000_0320 h_S_ := by
  unfold V
  rw [prep_flatten]
  simp only [List.cons_append, List.nil_append]
  after_reads_simp
  rfl

theorem op_v54 (c : Dev nD) : V m c main_v54 = pad S16384x8x128 ![0, 0, 0] ![0, 0, 64] ![0, 0, 0] (V m c main_v53) (sitofp (F := Ideal) .f32 (constantI S_ 32 0#32)) pads_S16384x8x64_S16384x8x128_000_000_0640 h_S_ := by
  unfold V
  rw [prep_flatten]
  simp only [List.cons_append, List.nil_append]
  after_reads_simp
  rfl

theorem op_v39 (c : Dev nD) : V m c main_v39 = (concatenate S16384x8x128 2 [⟨S16384x8x64, V m c main_v36⟩,
      ⟨S16384x8x1, (broadcastInDim S16384x8x1 ![] bcast_S_S16384x8x1 (constant (F := Ideal) S_ .f32 0x3F800000#32) : S16384x8x1.Idx → EReal)⟩,
      ⟨S16384x8x63, (broadcastInDim S16384x8x63 ![] bcast_S_S16384x8x63 (constant (F := Ideal) S_ .f32 0x00000000#32) : S16384x8x63.Idx → EReal)⟩] concatenates_S16384x8x64_S16384x8x1_S16384x8x63_S16384x8x128_d2) := by
  unfold V
  rw [prep_flatten]
  simp only [List.cons_append, List.nil_append]
  after_reads_simp
  rfl

theorem op_v42 (c : Dev nD) : V m c main_v42 = fun i => shapeCast S16384x8x96 (fun i => shapeCast S16384x768 (m (c, Proc.tc.devRef main_arg0)) shapeCasts_S1x16384x768_S16384x768 i) shapeCasts_S16384x768_S16384x8x96 i := by
  unfold V
  rw [prep_flatten]
  simp only [List.cons_append, List.nil_append]
  after_reads_simp
  rfl

theorem op_v47 (c : Dev nD) : V m c main_v47 = fun i => shapeCast S16384x8x96 (fun i => shapeCast S16384x768 (m (c, Proc.tc.devRef main_arg1)) shapeCasts_S1x16384x768_S16384x768 i) shapeCasts_S16384x768_S16384x8x96 i := by
  unfold V
  rw [prep_flatten]
  simp only [List.cons_append, List.nil_append]
  after_reads_simp
  rfl

theorem op_v53 (c : Dev nD) : V m c main_v53 = fun i => shapeCast S16384x8x64 (fun i => shapeCast S16384x512 (m (c, Proc.tc.devRef main_arg4)) shapeCasts_S1x16384x512_S16384x512 i) shapeCasts_S16384x512_S16384x8x64 i := by
  unfold V
  rw [prep_flatten]
  simp only [List.cons_append, List.nil_append]
  after_reads_simp
  rfl

theorem op_v36 (c : Dev nD) : V m c main_v36 = fun i => shapeCast S16384x8x64 (m (c, Proc.tc.devRef main_arg2)) shapeCasts_S1x16384x512_S16384x8x64 i := by
  unfold V
  rw [prep_flatten]
  simp only [List.cons_append, List.nil_append]
  after_reads_simp
  rfl

include hQ in
theorem query_heads (c : Dev nD) : V m c main_v42 = fun i => ((q c (i 0) (at96 (i 1) (i 2)) : ℝ) : EReal) := by
  rw [op_v42, show m (c, Proc.tc.devRef main_arg0) = _ from hQ c]
  funext y
  idx_vars y
  exact (congrFun (shapeCast_comp _ _ _) _).trans (split_heads (n := 16384) (a := 8) (b := 96) (ab := 768) rfl _ _ y0 y1 y2 (at96 y1 y2) rfl)

include hK in
theorem key_heads (c : Dev nD) : V m c main_v47 = fun i => ((k c (i 0) (at96 (i 1) (i 2)) : ℝ) : EReal) := by
  rw [op_v47, show m (c, Proc.tc.devRef main_arg1) = _ from hK c]
  funext y
  idx_vars y
  exact (congrFun (shapeCast_comp _ _ _) _).trans (split_heads (n := 16384) (a := 8) (b := 96) (ab := 768) rfl _ _ y0 y1 y2 (at96 y1 y2) rfl)

include hG in
theorem cotangent_heads (c : Dev nD) : V m c main_v53 = fun i => ((g c (i 0) (at64 (i 1) (i 2)) : ℝ) : EReal) := by
  rw [op_v53, show m (c, Proc.tc.devRef main_arg4) = _ from hG c]
  funext y
  idx_vars y
  exact (congrFun (shapeCast_comp _ _ _) _).trans (split_heads (n := 16384) (a := 8) (b := 64) (ab := 512) rfl _ _ y0 y1 y2 (at64 y1 y2) rfl)

include hV in
theorem value_heads (c : Dev nD) : V m c main_v36 = fun i => ((v c (i 0) (at64 (i 1) (i 2)) : ℝ) : EReal) := by
  rw [op_v36, show m (c, Proc.tc.devRef main_arg2) = _ from hV c]
  funext y
  idx_vars y
  exact split_heads (n := 16384) (a := 8) (b := 64) (ab := 512) rfl _ _ y0 y1 y2 (at64 y1 y2) rfl

include hQ in
theorem queries_eq (c : Dev nD) : V m c main_v45 = fun i => ((lanes96 (q c) (i 0) (i 1) : ℝ) : EReal) := by
  rw [op_v45, op_v43, query_heads m q hQ c]
  funext y
  idx_vars y
  pointwise
  unfold lanes96 spread96
  by_cases h : y1.val % 128 < 96
  · rw [dif_pos h]
    refine dif_pos fun a => ?_
    fin_cases a
    · exact inside y0.isLt
    · exact inside (Nat.div_lt_of_lt_mul y1.isLt)
    · exact inside h
  · rw [dif_neg h]
    refine (dif_neg fun H => h ?_).trans zero_word
    exact lt_of_eq_of_lt (Nat.div_one _).symm (H 2).2.2

include hK in
theorem keys_eq (c : Dev nD) : V m c main_v50 = fun i => ((lanes96 (k c) (i 0) (i 1) : ℝ) : EReal) := by
  rw [op_v50, op_v48, key_heads m k hK c]
  funext y
  idx_vars y
  pointwise
  unfold lanes96 spread96
  by_cases h : y1.val % 128 < 96
  · rw [dif_pos h]
    refine dif_pos fun a => ?_
    fin_cases a
    · exact inside y0.isLt
    · exact inside (Nat.div_lt_of_lt_mul y1.isLt)
    · exact inside h
  · rw [dif_neg h]
    refine (dif_neg fun H => h ?_).trans zero_word
    exact lt_of_eq_of_lt (Nat.div_one _).symm (H 2).2.2

include hG in
theorem cotangents_eq (c : Dev nD) : V m c main_v55 = fun i => ((lanes64 (g c) (i 0) (i 1) : ℝ) : EReal) := by
  rw [op_v55, op_v54, cotangent_heads m g hG c]
  funext y
  idx_vars y
  pointwise
  unfold lanes64 spread64
  by_cases h : y1.val % 128 < 64
  · rw [dif_pos h]
    refine dif_pos fun a => ?_
    fin_cases a
    · exact inside y0.isLt
    · exact inside (Nat.div_lt_of_lt_mul y1.isLt)
    · exact inside h
  · rw [dif_neg h]
    refine (dif_neg fun H => h ?_).trans zero_word
    exact lt_of_eq_of_lt (Nat.div_one _).symm (H 2).2.2

include hV in
theorem values_eq (c : Dev nD) : V m c main_v51 = fun i => ((lanesOne (v c) (i 0) (i 1) : ℝ) : EReal) := by
  rw [op_v51, op_v39, value_heads m v hV c]
  funext y
  idx_vars y
  pointwise [consts]
  exact lanesOne_apply (v c) y0 y1

include hP in
theorem positions_eq (c : Dev nD) : V m c main_v9 = fun i => p c (i 0) := by
  unfold V
  rw [prep_flatten]
  simp only [List.cons_append, List.nil_append]
  after_reads_simp
  rw [show m (c, Proc.tc.devRef main_arg3) = _ from hP c]
  funext y
  idx_vars y
  pointwise

include hP in
theorem row_positions_eq (c : Dev nD) : V m c main_arg3 = fun i => p c (i 1) := by
  unfold V
  rw [prep_flatten]
  simp only [List.cons_append, List.nil_append]
  after_reads_simp
  exact hP c

end Cert.AttnBwd

end
-- ==== Proof.AttnBlock.lean ====
/- What one tile of the attention's gradient computes, over the reals. -/
module

public import proofs.«01_k».proof.Proof.AttnBody
public import proofs.«01_k».proof.Proof.AttnLift

@[expose] public section

set_option maxRecDepth 16384

noncomputable section

namespace Cert.AttnBwd

open Idealize.ShloMosaic Idealize.ShloMosaic.TcCoe
open Cert.AttnIdeal Cert.AttnIdeal.Gen Cert.Lift Cert.AttnMath

/-! ## The tile over the reals -/

/-- One head's lanes of a block, and a tile's scores. -/
abbrev Half : Type := Fin 512 → Fin 128 → ℝ
abbrev Square : Type := Fin 512 → Fin 512 → ℝ

/-- Real numbers as a block. -/
abbrev up (a : Half) : S512x128.Idx → EReal := fun i => ((a (i 0) (i 1) : ℝ) : EReal)
abbrev upSq (a : Square) : S512x512.Idx → EReal := fun i => ((a (i 0) (i 1) : ℝ) : EReal)

/-- Rows' numbers on every lane. -/
abbrev flat (l : Fin 512 → ℝ) : Half := fun i _ => l i

/-- A tile's products of rows. -/
def dots (a b : Half) : Square := fun i j => ∑ x, a i x * b j x

/-- The exponents of the weights. -/
def expo (a b : Half) (l : Fin 512 → ℝ) : Square := fun i j => dots a b i j * (3424635 / 33554432 * (Real.log 2)⁻¹) - l i

/-- The weights, all seen or some hidden. -/
def wts (a b : Half) (l : Fin 512 → ℝ) : Square := fun i j => Real.rpow 2 (expo a b l i j)
def seen (vis : Fin 512 → Fin 512 → Bool) (p : Square) : Square := fun i j => if vis i j = true then p i j else 0

/-- The gradient of the scores. -/
def slope (p : Square) (d w : Half) (e : Fin 512 → ℝ) : Square := fun i j => p i j * (dots d w i j - e i)

/-- A running sum and a product over the tile's rows, or over its columns and scaled. -/
def addT (z : Half) (p : Square) (d : Half) : Half := fun i x => z i x + ∑ t, p t i * d t x
def addR (z : Half) (p : Square) (d : Half) : Half := fun i x => z i x + (∑ t, p i t * d t x) * sc

/-! ## The named constants -/

theorem named_scale : (Named.named (F := Ideal) κ "scale_log2e" (φ := .f32) 0x3E16C740#32 : EReal) = ((3424635 / 33554432 * (Real.log 2)⁻¹ : ℝ) : EReal) := rfl
theorem named_mask : (Named.named (F := Ideal) κ "mask" (φ := .f32) 0xF149F2CA#32 : EReal) = ⊥ := rfl

variable (a b d w z : Half) (l e : Fin 512 → ℝ) (p : Square) (vis : Fin 512 → Fin 512 → Bool)
  (row : S1x512.Idx → BitVec 32) (col : S512x1.Idx → BitVec 32)

/-! ## The weights -/

theorem pay12 : k0_pay12 (F := Ideal) (up a) (up b) (up (flat l)) = upSq (wts a b l) := by
  funext y
  idx_vars y
  pointwise [k0_pay12, k0_pay9, k0_pay10, named_scale]
  simp only [ring_lift, sum_lift]
  exact Ideal.exp2_coe _

theorem pay21 : k0_pay21 (F := Ideal) (up a) (up b) (up (flat l)) = upSq (wts a b l) := by
  funext y
  idx_vars y
  pointwise [k0_pay21, k0_pay18, k0_pay19, named_scale]
  simp only [ring_lift, sum_lift]
  exact Ideal.exp2_coe _

theorem pay37 : k0_pay37 (F := Ideal) (up a) (up b) (up (flat l)) = upSq (expo a b l) := by
  funext y
  idx_vars y
  pointwise [k0_pay37, k0_pay34, k0_pay35, named_scale]
  simp only [ring_lift, sum_lift]
  rfl

/-- The mask of a diagonal tile. -/
def Sees : Prop := ∀ i j : Fin 512, (row (ix2 0 j)).sle (col (ix2 i 0)) = vis i j

variable {vis row col}

theorem pay24 (hv : Sees vis row col) : k0_pay24 (F := Ideal) row col = fun i => BitVec.ofBool (vis (i 0) (i 1)) := by
  funext y
  idx_vars y
  pointwise [k0_pay24]
  exact congrArg BitVec.ofBool (hv y0 y1)

theorem exp_masked (v : Bool) (x : ℝ) : Ideal.exp2 (if v = true then ((x : ℝ) : EReal) else ⊥) = ((if v = true then Real.rpow 2 x else 0 : ℝ) : EReal) := by
  cases v
  · rfl
  · exact Ideal.exp2_coe _

theorem pay38 (hv : Sees vis row col) : k0_pay38 (F := Ideal) (k0_pay24 (F := Ideal) row col) (k0_pay37 (F := Ideal) (up a) (up b) (up (flat l))) (Named.named κ "mask" 0xF149F2CA#32)
    = upSq (seen vis (wts a b l)) := by
  rw [pay37, pay24 hv]
  funext y
  idx_vars y
  pointwise [k0_pay38, named_mask]
  exact exp_masked _ _

theorem pay28 (hv : Sees vis row col) : k0_pay28 (F := Ideal) row col (up a) (up b) (up (flat l)) = upSq (seen vis (wts a b l)) :=
  pay38 a b l hv

/-! ## The gradient of the scores -/

theorem pay13 : k0_pay13 (F := Ideal) (up a) (up b) (up d) (up (flat l)) (up w) (up (flat e)) = upSq (slope (wts a b l) d w e) := by
  unfold k0_pay13
  rw [pay12]
  funext y
  idx_vars y
  pointwise [k0_pay11]
  simp only [ring_lift, sum_lift]
  rfl

theorem pay4 : k0_pay4 (F := Ideal) (upSq p) (k0_pay22 (F := Ideal) (up d) (up w)) (k0_pay23 (F := Ideal) (up (flat e))) = upSq (slope p d w e) := by
  funext y
  idx_vars y
  pointwise [k0_pay4, k0_pay22, k0_pay23, k0_pay20]
  simp only [ring_lift, sum_lift]
  rfl

theorem pay29 (hv : Sees vis row col) : k0_pay29 (F := Ideal) row col (up a) (up b) (up d) (up (flat l)) (up w) (up (flat e)) = upSq (slope (seen vis (wts a b l)) d w e) := by
  unfold k0_pay29
  rw [pay28 a b l hv]
  funext y
  idx_vars y
  pointwise [k0_pay27]
  simp only [ring_lift, sum_lift]
  rfl

theorem pay39 (hv : Sees vis row col) : k0_pay39 (F := Ideal) (k0_pay24 (F := Ideal) row col) (k0_pay36 (F := Ideal) (up d)) (k0_pay37 (F := Ideal) (up a) (up b) (up (flat l))) (Named.named κ "mask" 0xF149F2CA#32) (up w) (up (flat e))
    = upSq (slope (seen vis (wts a b l)) d w e) := by
  unfold k0_pay39
  rw [pay38 a b l hv]
  funext y
  idx_vars y
  pointwise [k0_pay36]
  simp only [ring_lift, sum_lift]
  rfl

/-! ## The products -/

theorem pay5 : k0_pay5 (F := Ideal) (up d) (upSq p) (up z) = up (addT z p d) := by
  funext y
  idx_vars y
  pointwise [k0_pay5]
  simp only [ring_lift, sum_lift]
  rfl

theorem pay17 : k0_pay17 (F := Ideal) (up b) (upSq p) (up z) = up (addR z p b) := by
  funext y
  idx_vars y
  pointwise [k0_pay17, scale_bits]
  simp only [ring_lift, sum_lift]
  rfl

theorem same (x : S512x128.Idx → EReal) : shapeCast S512x128 x shapeCasts_S512x128_S512x128 = x := by
  funext y
  idx_vars y
  pointwise

/-- What one tile adds where it is wholly seen. -/
theorem off_av_lo : k0_pay14 (F := Ideal) (up a) (up b) (up d) (up (flat l)) (up z) = up (addT z (wts a b l) d) := by
  rw [← pay5, ← pay12]
  exact congrArg (fun x => k0_pay5 (F := Ideal) x (k0_pay12 (F := Ideal) (up a) (up b) (up (flat l))) (up z)) (same (up d))
theorem off_av_hi : k0_pay5 (F := Ideal) (k0_pay20 (F := Ideal) (up d)) (k0_pay21 (F := Ideal) (up a) (up b) (up (flat l))) (up z) = up (addT z (wts a b l) d) := by
  rw [pay21, ← pay5]
  exact congrArg (fun x => k0_pay5 (F := Ideal) x (upSq (wts a b l)) (up z)) (same (up d))
theorem off_ak_lo : k0_pay16 (F := Ideal) (up z) (k0_pay15 (F := Ideal) (up a) (up b) (up d) (up (flat l)) (up w) (up (flat e))) = up (addT z (slope (wts a b l) d w e) a) := by
  rw [← pay5, ← pay13]
  exact congrArg (fun x => k0_pay5 (F := Ideal) x (k0_pay13 (F := Ideal) (up a) (up b) (up d) (up (flat l)) (up w) (up (flat e))) (up z)) (same (up a))
theorem off_ak_hi : k0_pay6 (F := Ideal) (k0_pay18 (F := Ideal) (up a)) (k0_pay21 (F := Ideal) (up a) (up b) (up (flat l))) (k0_pay22 (F := Ideal) (up d) (up w)) (k0_pay23 (F := Ideal) (up (flat e))) (up z)
    = up (addT z (slope (wts a b l) d w e) a) := by
  rw [← pay5, ← pay4, pay21]
  exact congrArg (fun x => k0_pay5 (F := Ideal) x (k0_pay4 (F := Ideal) (upSq (wts a b l)) (k0_pay22 (F := Ideal) (up d) (up w)) (k0_pay23 (F := Ideal) (up (flat e)))) (up z)) (same (up a))
theorem off_dq_lo : k0_pay17 (F := Ideal) (k0_pay10 (F := Ideal) (up b)) (k0_pay13 (F := Ideal) (up a) (up b) (up d) (up (flat l)) (up w) (up (flat e))) (up z)
    = up (addR z (slope (wts a b l) d w e) b) := by
  rw [pay13, ← pay17]
  exact congrArg (fun x => k0_pay17 (F := Ideal) x (upSq (slope (wts a b l) d w e)) (up z)) (same (up b))
theorem off_dq_hi : k0_pay7 (F := Ideal) (k0_pay19 (F := Ideal) (up b)) (k0_pay21 (F := Ideal) (up a) (up b) (up (flat l))) (k0_pay22 (F := Ideal) (up d) (up w)) (k0_pay23 (F := Ideal) (up (flat e))) (up z)
    = up (addR z (slope (wts a b l) d w e) b) := by
  rw [← pay17, ← pay4, pay21]
  exact congrArg (fun x => k0_pay17 (F := Ideal) x (k0_pay4 (F := Ideal) (upSq (wts a b l)) (k0_pay22 (F := Ideal) (up d) (up w)) (k0_pay23 (F := Ideal) (up (flat e)))) (up z)) (same (up b))

/-- What one tile adds on the diagonal. -/
theorem diag_av_lo (hv : Sees vis row col) : k0_pay31 (F := Ideal) (up z) (k0_pay30 (F := Ideal) row col (up a) (up b) (up d) (up (flat l))) = up (addT z (seen vis (wts a b l)) d) := by
  rw [← pay5, ← pay28 a b l hv]
  exact congrArg (fun x => k0_pay5 (F := Ideal) x (k0_pay28 (F := Ideal) row col (up a) (up b) (up (flat l))) (up z)) (same (up d))
theorem diag_av_hi (hv : Sees vis row col) : k0_pay40 (F := Ideal) (k0_pay24 (F := Ideal) row col) (k0_pay36 (F := Ideal) (up d)) (k0_pay37 (F := Ideal) (up a) (up b) (up (flat l))) (Named.named κ "mask" 0xF149F2CA#32) (up z)
    = up (addT z (seen vis (wts a b l)) d) := by
  rw [← pay5, ← pay38 a b l hv]
  exact congrArg (fun x => k0_pay5 (F := Ideal) x (k0_pay38 (F := Ideal) (k0_pay24 (F := Ideal) row col) (k0_pay37 (F := Ideal) (up a) (up b) (up (flat l))) (Named.named κ "mask" 0xF149F2CA#32)) (up z)) (same (up d))
theorem diag_ak_lo (hv : Sees vis row col) : k0_pay32 (F := Ideal) (k0_pay25 (F := Ideal) (up a)) (k0_pay29 (F := Ideal) row col (up a) (up b) (up d) (up (flat l)) (up w) (up (flat e))) (up z)
    = up (addT z (slope (seen vis (wts a b l)) d w e) a) := by
  rw [pay29 a b d w l e hv, ← pay5]
  exact congrArg (fun x => k0_pay5 (F := Ideal) x (upSq (slope (seen vis (wts a b l)) d w e)) (up z)) (same (up a))
theorem diag_ak_hi (hv : Sees vis row col) : k0_pay41 (F := Ideal) (k0_pay24 (F := Ideal) row col) (k0_pay34 (F := Ideal) (up a)) (k0_pay36 (F := Ideal) (up d)) (k0_pay37 (F := Ideal) (up a) (up b) (up (flat l))) (Named.named κ "mask" 0xF149F2CA#32) (up w) (up (flat e)) (up z)
    = up (addT z (slope (seen vis (wts a b l)) d w e) a) := by
  rw [← pay5, ← pay39 a b d w l e hv]
  exact congrArg (fun x => k0_pay5 (F := Ideal) x (k0_pay39 (F := Ideal) (k0_pay24 (F := Ideal) row col) (k0_pay36 (F := Ideal) (up d)) (k0_pay37 (F := Ideal) (up a) (up b) (up (flat l))) (Named.named κ "mask" 0xF149F2CA#32) (up w) (up (flat e))) (up z)) (same (up a))
theorem diag_dq_lo (hv : Sees vis row col) : k0_pay33 (F := Ideal) (k0_pay26 (F := Ideal) (up b)) (k0_pay29 (F := Ideal) row col (up a) (up b) (up d) (up (flat l)) (up w) (up (flat e))) (up z)
    = up (addR z (slope (seen vis (wts a b l)) d w e) b) := by
  rw [pay29 a b d w l e hv, ← pay17]
  exact congrArg (fun x => k0_pay17 (F := Ideal) x (upSq (slope (seen vis (wts a b l)) d w e)) (up z)) (same (up b))
theorem diag_dq_hi (hv : Sees vis row col) : k0_pay42 (F := Ideal) (k0_pay24 (F := Ideal) row col) (k0_pay35 (F := Ideal) (up b)) (k0_pay36 (F := Ideal) (up d)) (k0_pay37 (F := Ideal) (up a) (up b) (up (flat l))) (Named.named κ "mask" 0xF149F2CA#32) (up w) (up (flat e)) (up z)
    = up (addR z (slope (seen vis (wts a b l)) d w e) b) := by
  rw [← pay17, ← pay39 a b d w l e hv]
  exact congrArg (fun x => k0_pay17 (F := Ideal) x (k0_pay39 (F := Ideal) (k0_pay24 (F := Ideal) row col) (k0_pay36 (F := Ideal) (up d)) (k0_pay37 (F := Ideal) (up a) (up b) (up (flat l))) (Named.named κ "mask" 0xF149F2CA#32) (up w) (up (flat e))) (up z)) (same (up b))

end Cert.AttnBwd

end
-- ==== Proof.AttnTwice.lean ====
/- Replacing the two heads' lanes of a block, over the reals. -/
module

public import proofs.«01_k».proof.Proof.AttnBlock

@[expose] public section

set_option maxRecDepth 16384

noncomputable section

namespace Cert.AttnBwd

open Idealize.ShloMosaic Idealize.ShloMosaic.TcCoe
open Cert.AttnIdeal Cert.AttnIdeal.Gen Cert.Lift Cert.AttnMath

/-- Two heads' lanes side by side. -/
abbrev Both : Type := Fin 512 → Fin 256 → ℝ
abbrev upBoth (a : Both) : S512x256.Idx → EReal := fun i => ((a (i 0) (i 1) : ℝ) : EReal)

/-- One head's lanes of the two. -/
def left {n : ℕ} (a : Fin n → Fin 256 → ℝ) : Fin n → Fin 128 → ℝ := fun i x => a i ⟨x.val, by omega⟩
def right {n : ℕ} (a : Fin n → Fin 256 → ℝ) : Fin n → Fin 128 → ℝ := fun i x => a i ⟨128 + x.val, by omega⟩

/-- Two halves as one block. -/
def join (a a' : Half) : Both := fun i x => if h : x.val < 128 then a i ⟨x.val, h⟩ else a' i ⟨x.val - 128, by omega⟩

theorem lo_up (a : Both) : lo (upBoth a) = up (left a) := by
  funext y
  refine congrArg (fun x : ℝ => (x : EReal)) (congrArg₂ a (Fin.ext ?_) (Fin.ext ?_))
  · show 0 + 1 * (y 0).val = (y 0).val; omega
  · show 0 + 1 * (y 1).val = (y 1).val; omega

theorem hi_up (a : Both) : hi (upBoth a) = up (right a) := by
  funext y
  refine congrArg (fun x : ℝ => (x : EReal)) (congrArg₂ a (Fin.ext ?_) (Fin.ext ?_))
  · show 0 + 1 * (y 0).val = (y 0).val; omega
  · show 128 + 1 * (y 1).val = 128 + (y 1).val; omega

/-- The rows of a block from `o` on. -/
def slab {n : ℕ} (o : ℕ) (ho : o + 512 ≤ n) (a : Fin n → Fin 256 → ℝ) : Both := fun i x => a ⟨o + i.val, by omega⟩ x

/-- A block with its rows from `o` on replaced. -/
def paste {n : ℕ} (o : ℕ) (a : Fin n → Fin 256 → ℝ) (b : Both) : Fin n → Fin 256 → ℝ := fun r x =>
  if h : o ≤ r.val ∧ r.val < o + 512 then b ⟨r.val - o, by omega⟩ x else a r x

/-- Replacing the two heads' lanes from row `o` on, where each replacement is known over the reals. -/
theorem twice_up {n : ℕ} (X : (⟨2, ![n, 256]⟩ : Shape).Idx → EReal) (x : Fin n → Fin 256 → ℝ) (hX : X = fun i => ((x (i 0) (i 1) : ℝ) : EReal))
    (o : ℕ) (ho : o + 512 ≤ n) (off off' : Fin 2 → ℕ) (hoff : off = ![o, 0]) (hoff' : off' = ![o, 128])
    (inb : ∀ a, off a + S512x128.size a ≤ (⟨2, ![n, 256]⟩ : Shape).size a) (inb' : ∀ a, off' a + S512x128.size a ≤ (⟨2, ![n, 256]⟩ : Shape).size a)
    (g g' : (S512x128.Idx → EReal) → (S512x128.Idx → EReal)) (f f' : Half → Half)
    (hg : ∀ z, g (up z) = up (f z)) (hg' : ∀ z, g' (up z) = up (f' z)) :
    twice X off off' S512x128.size inb inb' g g'
      = fun i => ((paste o x (join (f (left (slab o ho x))) (f' (right (slab o ho x)))) (i 0) (i 1) : ℝ) : EReal) := by
  subst hoff hoff' hX
  have e : VecWindow.window (s := ⟨2, ![n, 256]⟩) (fun i => ((x (i 0) (i 1) : ℝ) : EReal)) ![o, 0] S512x128.size inb = up (left (slab o ho x)) := by
    funext y
    refine congrArg (fun x : ℝ => (x : EReal)) (congrArg₂ x (Fin.ext ?_) (Fin.ext ?_))
    · show o + 1 * (y 0).val = o + (y 0).val; omega
    · show 0 + 1 * (y 1).val = (y 1).val; omega
  have e' : VecWindow.window (s := ⟨2, ![n, 256]⟩) (fun i => ((x (i 0) (i 1) : ℝ) : EReal)) ![o, 128] S512x128.size inb' = up (right (slab o ho x)) := by
    funext y
    refine congrArg (fun x : ℝ => (x : EReal)) (congrArg₂ x (Fin.ext ?_) (Fin.ext ?_))
    · show o + 1 * (y 0).val = o + (y 0).val; omega
    · show 128 + 1 * (y 1).val = 128 + (y 1).val; omega
  unfold twice
  rw [VecWindow.window_put_of_disjoint _ _ _ _ _ _ _ (1 : Fin 2) (Or.inr (le_refl 128)), e, e']
  rw [hg, hg']
  funext y
  have hy : (y 1).val < 256 := (y 1).isLt
  unfold VecWindow.put paste join
  by_cases hr : o ≤ (y 0).val ∧ (y 0).val < o + 512
  · by_cases hc : (y 1).val < 128
    · rw [dif_neg, dif_pos, dif_pos hr, dif_pos hc]
      · rfl
      · intro a
        fin_cases a
        · exact hr
        · exact ⟨Nat.zero_le _, by show (y 1).val < 0 + 128; omega⟩
      · intro H
        have := (H 1).1
        exact absurd hc (not_lt.2 this)
    · rw [dif_pos, dif_pos hr, dif_neg hc]
      · rfl
      · intro a
        fin_cases a
        · exact hr
        · exact ⟨not_lt.1 hc, by show (y 1).val < 128 + 128; omega⟩
  · rw [dif_neg, dif_neg, dif_neg hr]
    · exact fun H => hr (H 0)
    · exact fun H => hr (H 0)

/-- Replacing all rows. -/
theorem paste_all (x b : Both) : paste 0 x b = b := by
  funext r c
  unfold paste
  rw [dif_pos ⟨Nat.zero_le _, by omega⟩]
  rfl

end Cert.AttnBwd

end
-- ==== Proof.AttnBlocks.lean ====
/- The blocks one step of the attention's gradient reads, over the reals. -/
module

public import proofs.«01_k».proof.Proof.AttnArrays
public import proofs.«01_k».proof.Proof.AttnTwice
public import Idealize.ShloMosaic.Lib.Pipeline.ValueKit

@[expose] public section

set_option maxRecDepth 16384

noncomputable section

namespace Cert.AttnBwd

open Idealize.ShloMosaic Idealize.ShloMosaic.TcCoe Idealize.SL.Sem Idealize.ShloMosaic.StableHlo
open Cert.AttnIdeal Cert.AttnIdeal.Gen Cert.Lift Cert.AttnMath

variable (m : (ℓ : Loc nD τ sig) → Buf (Elt Ideal) ℓ)
  (q k : Dev nD → Fin 16384 → Fin 768 → ℝ) (v g : Dev nD → Fin 16384 → Fin 512 → ℝ) (p : Dev nD → Fin 16384 → BitVec 32)
  (hQ : ∀ c : Dev nD, m ((c.tc : Thread nD τ).loc main_arg0) = fun i => ((q c (i 1) (i 2) : ℝ) : EReal))
  (hK : ∀ c : Dev nD, m ((c.tc : Thread nD τ).loc main_arg1) = fun i => ((k c (i 1) (i 2) : ℝ) : EReal))
  (hV : ∀ c : Dev nD, m ((c.tc : Thread nD τ).loc main_arg2) = fun i => ((v c (i 1) (i 2) : ℝ) : EReal))
  (hP : ∀ c : Dev nD, m ((c.tc : Thread nD τ).loc main_arg3) = fun i => p c (i 1))
  (hG : ∀ c : Dev nD, m ((c.tc : Thread nD τ).loc main_arg4) = fun i => ((g c (i 1) (i 2) : ℝ) : EReal))
  (hp : ∀ (c : Dev nD) (j r : Fin 16384), (p c j).sle (p c r) = decide (j ≤ r))

/-- The query block, the key block and the head pair of a point. -/
abbrev Pt : Type := Fin (cfg (F := Ideal)).N
def qb (t : Pt) : Fin 32 := ⟨qn (t.val % 528), qn_lt ⟨t.val % 528, Nat.mod_lt _ (by norm_num)⟩⟩
def kb (t : Pt) : Fin 32 := ⟨kn (t.val % 528), kn_lt ⟨t.val % 528, Nat.mod_lt _ (by norm_num)⟩⟩
def pair (t : Pt) : Fin 4 := ⟨t.val / 528, by have h : t.val < 2112 := t.isLt; omega⟩

/-- Row `i` of row block `b`, and lane `x` of head pair `a`. -/
def row (b : Fin 32) (i : Fin 512) : Fin 16384 := ⟨b.val * 512 + i.val, by omega⟩
def lane (a : Fin 4) (x : Fin 256) : Fin 1024 := ⟨a.val * 256 + x.val, by omega⟩

theorem index_0 (t : Pt) : ((cfg (F := Ideal)).win 0).index t = ![qn (t.val % 528), t.val / 528] := by
  refine (tr_q (F := Ideal) (grid0.coords t)).trans ?_
  rw [coord_step t, coord_head t]
theorem index_1 (t : Pt) : ((cfg (F := Ideal)).win 1).index t = ![kn (t.val % 528), t.val / 528] := by
  refine (tr_k (F := Ideal) (grid0.coords t)).trans ?_
  rw [coord_step t, coord_head t]
theorem index_2 (t : Pt) : ((cfg (F := Ideal)).win 2).index t = ![kn (t.val % 528), t.val / 528] := by
  refine (tr_k (F := Ideal) (grid0.coords t)).trans ?_
  rw [coord_step t, coord_head t]
theorem index_3 (t : Pt) : ((cfg (F := Ideal)).win 3).index t = ![qn (t.val % 528), t.val / 528] := by
  refine (tr_q (F := Ideal) (grid0.coords t)).trans ?_
  rw [coord_step t, coord_head t]
theorem index_4 (t : Pt) : ((cfg (F := Ideal)).win 4).index t = ![qn (t.val % 528), t.val / 528] := by
  refine (tr_q (F := Ideal) (grid0.coords t)).trans ?_
  rw [coord_step t, coord_head t]
theorem index_5 (t : Pt) : ((cfg (F := Ideal)).win 5).index t = ![qn (t.val % 528), t.val / 528] := by
  refine (tr_q (F := Ideal) (grid0.coords t)).trans ?_
  rw [coord_step t, coord_head t]
theorem index_6 (t : Pt) : ((cfg (F := Ideal)).win 6).index t = ![qn (t.val % 528), 0] := by
  refine (tr_col (F := Ideal) (grid0.coords t)).trans ?_
  rw [coord_step t]
theorem index_7 (t : Pt) : ((cfg (F := Ideal)).win 7).index t = ![0, kn (t.val % 528)] := by
  refine (tr_row (F := Ideal) (grid0.coords t)).trans ?_
  rw [coord_step t]

/-- The corrections and the base-2 logarithms of the sums, on the lanes of their head. -/
def lanesMean (q k : Fin 16384 → Fin 768 → ℝ) (v g : Fin 16384 → Fin 512 → ℝ) (r : Fin 16384) (l : Fin 1024) : ℝ := mean q k v g ⟨l.val / 128, by omega⟩ r
def lanesLog (q k : Fin 16384 → Fin 768 → ℝ) (r : Fin 16384) (l : Fin 1024) : ℝ := Real.log (total q k ⟨l.val / 128, by omega⟩ r) / Real.log 2

/-- A block of an array of rows and lanes. -/
def cutout (f : Fin 16384 → Fin 1024 → ℝ) (b : Fin 32) (a : Fin 4) : Both := fun i x => f (row b i) (lane a x)

include hQ in
theorem block_q (c : Dev nD) (t : Pt) : iblk m c 0 t = upBoth (cutout (lanes96 (q c)) (qb t) (pair t)) := by
  unfold iblk
  rw [show V m c (Pipeline.arrRef spec0 0) = _ from queries_eq m q hQ c]
  funext y
  refine congrArg Real.toEReal (congrArg₂ (lanes96 (q c)) (Fin.ext ?_) (Fin.ext ?_)) <;> blk_simp [index_0 t] <;> rfl

include hK in
theorem block_k (c : Dev nD) (t : Pt) : iblk m c 1 t = upBoth (cutout (lanes96 (k c)) (kb t) (pair t)) := by
  unfold iblk
  rw [show V m c (Pipeline.arrRef spec0 1) = _ from keys_eq m k hK c]
  funext y
  refine congrArg Real.toEReal (congrArg₂ (lanes96 (k c)) (Fin.ext ?_) (Fin.ext ?_)) <;> blk_simp [index_1 t] <;> rfl

include hV in
theorem block_v (c : Dev nD) (t : Pt) : iblk m c 2 t = upBoth (cutout (lanesOne (v c)) (kb t) (pair t)) := by
  unfold iblk
  rw [show V m c (Pipeline.arrRef spec0 2) = _ from values_eq m v hV c]
  funext y
  refine congrArg Real.toEReal (congrArg₂ (lanesOne (v c)) (Fin.ext ?_) (Fin.ext ?_)) <;> blk_simp [index_2 t] <;> rfl

include hG in
theorem block_g (c : Dev nD) (t : Pt) : iblk m c 3 t = upBoth (cutout (lanes64 (g c)) (qb t) (pair t)) := by
  unfold iblk
  rw [show V m c (Pipeline.arrRef spec0 3) = _ from cotangents_eq m g hG c]
  funext y
  refine congrArg Real.toEReal (congrArg₂ (lanes64 (g c)) (Fin.ext ?_) (Fin.ext ?_)) <;> blk_simp [index_3 t] <;> rfl

include hQ hK hV hP hG hp in
theorem block_e (c : Dev nD) (t : Pt) : iblk m c 4 t = upBoth (cutout (lanesMean (q c) (k c) (v c) (g c)) (qb t) (pair t)) := by
  unfold iblk
  rw [show V m c (Pipeline.arrRef spec0 4) = _ from mean_lanes m q k v g p hQ hK hV hP hG hp c]
  funext y
  refine congrArg Real.toEReal (congrArg₂ (lanesMean (q c) (k c) (v c) (g c)) (Fin.ext ?_) (Fin.ext ?_)) <;> blk_simp [index_4 t] <;> rfl

include hQ hK hP hp in
theorem block_l (c : Dev nD) (t : Pt) : iblk m c 5 t = upBoth (cutout (lanesLog (q c) (k c)) (qb t) (pair t)) := by
  unfold iblk
  rw [show V m c (Pipeline.arrRef spec0 5) = _ from lse_lanes m q k p hQ hK hP hp c]
  funext y
  refine congrArg Real.toEReal (congrArg₂ (lanesLog (q c) (k c)) (Fin.ext ?_) (Fin.ext ?_)) <;> blk_simp [index_5 t] <;> rfl

include hP in
theorem block_col (c : Dev nD) (t : Pt) : iblk m c 6 t = fun i : S512x1.Idx => p c (row (qb t) (i 0)) := by
  unfold iblk
  rw [show V m c (Pipeline.arrRef spec0 6) = _ from positions_eq m p hP c]
  funext y
  refine congrArg (p c) (Fin.ext ?_)
  blk_simp [index_6 t]
  rfl

include hP in
theorem block_row (c : Dev nD) (t : Pt) : iblk m c 7 t = fun i : S1x512.Idx => p c (row (kb t) (i 1)) := by
  unfold iblk
  rw [show V m c (Pipeline.arrRef spec0 7) = _ from row_positions_eq m p hP c]
  funext y
  refine congrArg (p c) (Fin.ext ?_)
  blk_simp [index_7 t]
  rfl

include hP hp in
/-- The mask of a tile: the keys up to the query. -/
theorem sees (c : Dev nD) (t : Pt) : Sees (fun i j => decide (row (kb t) j ≤ row (qb t) i)) (rows (ins m c t).row) (cols (ins m c t).col) := by
  intro i j
  refine Eq.trans ?_ (hp c (row (kb t) j) (row (qb t) i))
  have er : (ins m c t).row = _ := block_row m p hP c t
  have ec : (ins m c t).col = _ := block_col m p hP c t
  rw [er, ec]
  refine congrArg₂ BitVec.sle (congrArg (fun x => p c (row (kb t) x)) (Fin.ext ?_)) (congrArg (fun x => p c (row (qb t) x)) (Fin.ext ?_))
  · show 0 + 1 * j.val = j.val; omega
  · show 0 + 1 * i.val = i.val; omega

end Cert.AttnBwd

end
-- ==== Proof.AttnTile.lean ====
/- One tile of one head: its weights are the softmax's, and its slopes the gradient's. -/
module

public import proofs.«01_k».proof.Proof.AttnBlocks

@[expose] public section

set_option maxRecDepth 16384

noncomputable section

namespace Cert.AttnBwd

open Idealize.ShloMosaic Cert.AttnMath

variable (q k : Fin 16384 → Fin 768 → ℝ) (v g : Fin 16384 → Fin 512 → ℝ)

/-- A head's lanes of a row block. -/
def headLane (h : Fin 8) (x : Fin 128) : Fin 1024 := ⟨h.val * 128 + x.val, by omega⟩
def headOf (l : Fin 1024) : Fin 8 := ⟨l.val / 128, by omega⟩
def headCut (f : Fin 16384 → Fin 1024 → ℝ) (b : Fin 32) (h : Fin 8) : Half := fun i x => f (row b i) (headLane h x)

/-- The two heads of a pair. -/
def headL (a : Fin 4) : Fin 8 := ⟨2 * a.val, by omega⟩
def headR (a : Fin 4) : Fin 8 := ⟨2 * a.val + 1, by omega⟩

theorem left_cut (f : Fin 16384 → Fin 1024 → ℝ) (b : Fin 32) (a : Fin 4) : left (cutout f b a) = headCut f b (headL a) := by
  funext i x
  refine congrArg (f (row b i)) (Fin.ext ?_)
  show a.val * 256 + x.val = 2 * a.val * 128 + x.val; omega
theorem right_cut (f : Fin 16384 → Fin 1024 → ℝ) (b : Fin 32) (a : Fin 4) : right (cutout f b a) = headCut f b (headR a) := by
  funext i x
  refine congrArg (f (row b i)) (Fin.ext ?_)
  show a.val * 256 + (128 + x.val) = (2 * a.val + 1) * 128 + x.val; omega

theorem head_lane (h : Fin 8) (x : Fin 128) : headOf (headLane h x) = h := Fin.ext (by
  show (h.val * 128 + x.val) / 128 = h.val; omega)

theorem head_mean (b : Fin 32) (h : Fin 8) : headCut (lanesMean q k v g) b h = flat fun i => mean q k v g h (row b i) := by
  funext i x
  show mean q k v g (headOf (headLane h x)) (row b i) = mean q k v g h (row b i)
  rw [head_lane]
theorem head_log (b : Fin 32) (h : Fin 8) : headCut (lanesLog q k) b h = flat fun i => Real.log (total q k h (row b i)) / Real.log 2 := by
  funext i x
  show Real.log (total q k (headOf (headLane h x)) (row b i)) / Real.log 2 = Real.log (total q k h (row b i)) / Real.log 2
  rw [head_lane]

theorem spread96_lane (f : Fin 8 → Fin 96 → ℝ) (h : Fin 8) (x : Fin 128) : spread96 f (headLane h x) = if hx : x.val < 96 then f h ⟨x.val, hx⟩ else 0 := by
  have e : (headLane h x).val % 128 = x.val := by show (h.val * 128 + x.val) % 128 = x.val; omega
  unfold spread96
  by_cases hx : x.val < 96
  · rw [dif_pos (e ▸ hx), dif_pos hx]
    exact congrArg₂ f (head_lane h x) (Fin.ext e)
  · rw [dif_neg (e ▸ hx), dif_neg hx]
theorem spread64_lane (f : Fin 8 → Fin 64 → ℝ) (h : Fin 8) (x : Fin 128) : spread64 f (headLane h x) = if hx : x.val < 64 then f h ⟨x.val, hx⟩ else 0 := by
  have e : (headLane h x).val % 128 = x.val := by show (h.val * 128 + x.val) % 128 = x.val; omega
  unfold spread64
  by_cases hx : x.val < 64
  · rw [dif_pos (e ▸ hx), dif_pos hx]
    exact congrArg₂ f (head_lane h x) (Fin.ext e)
  · rw [dif_neg (e ▸ hx), dif_neg hx]

/-- A sum over 128 lanes of which only the first `n` count. -/
theorem sum_lanes {n : ℕ} (hn : n ≤ 128) (F : Fin 128 → ℝ) (G : Fin n → ℝ) (hF : ∀ x : Fin 128, F x = if hx : x.val < n then G ⟨x.val, hx⟩ else 0) :
    ∑ x, F x = ∑ d, G d := by
  rw [Finset.sum_congr rfl fun x _ => hF x]
  obtain ⟨r, hr⟩ := Nat.exists_eq_add_of_le hn
  rw [← (finCongr hr.symm).sum_comp, Fin.sum_univ_add]
  rw [Finset.sum_eq_zero (s := Finset.univ (α := Fin r)) fun x _ => dif_neg (by show ¬(n + x.val < n); omega), add_zero]
  exact Finset.sum_congr rfl fun d _ => dif_pos (show d.val < n from d.isLt)

theorem dots_score (B B' : Fin 32) (h : Fin 8) (i j : Fin 512) :
    dots (headCut (lanes96 q) B h) (headCut (lanes96 k) B' h) i j = score q k h (row B i) (row B' j) := by
  refine sum_lanes (n := 96) (by norm_num) _ (fun d => q (row B i) (at96 h d) * k (row B' j) (at96 h d)) fun x => ?_
  show spread96 (fun h d => q (row B i) (at96 h d)) (headLane h x) * spread96 (fun h d => k (row B' j) (at96 h d)) (headLane h x) = _
  rw [spread96_lane, spread96_lane]
  by_cases hx : x.val < 96
  · rw [dif_pos hx, dif_pos hx, dif_pos hx]
  · rw [dif_neg hx, dif_neg hx, dif_neg hx, zero_mul]

theorem dots_gv (B B' : Fin 32) (h : Fin 8) (i j : Fin 512) :
    dots (headCut (lanes64 g) B h) (headCut (lanesOne v) B' h) i j = gv v g h (row B i) (row B' j) := by
  refine sum_lanes (n := 64) (by norm_num) _ (fun d => g (row B i) (at64 h d) * v (row B' j) (at64 h d)) fun x => ?_
  show spread64 (fun h d => g (row B i) (at64 h d)) (headLane h x) * (if (headLane h x).val % 128 = 64 then 1 else spread64 (fun h d => v (row B' j) (at64 h d)) (headLane h x)) = _
  have e : (headLane h x).val % 128 = x.val := by show (h.val * 128 + x.val) % 128 = x.val; omega
  rw [spread64_lane, spread64_lane, e]
  by_cases hx : x.val < 64
  · rw [dif_pos hx, dif_pos hx, dif_pos hx, if_neg (by omega)]
  · rw [dif_neg hx, dif_neg hx, dif_neg hx, zero_mul]

/-- The weight of one place, through the base-2 exponential. -/
theorem wts_prob (B B' : Fin 32) (h : Fin 8) (i j : Fin 512) (hij : row B' j ≤ row B i) :
    wts (headCut (lanes96 q) B h) (headCut (lanes96 k) B' h) (fun i => Real.log (total q k h (row B i)) / Real.log 2) i j = prob q k h (row B i) (row B' j) := by
  unfold wts expo
  rw [dots_score]
  have hl : Real.log 2 ≠ 0 := (Real.log_pos (by norm_num)).ne'
  have ht := total_pos q k h (row B i)
  refine (Real.rpow_def_of_pos (by norm_num : (0 : ℝ) < 2) _).trans ?_
  rw [prob, weight, if_pos hij]
  have e : Real.log 2 * (score q k h (row B i) (row B' j) * (3424635 / 33554432 * (Real.log 2)⁻¹) - Real.log (total q k h (row B i)) / Real.log 2)
      = score q k h (row B i) (row B' j) * sc - Real.log (total q k h (row B i)) := by
    unfold sc
    field_simp
  rw [e, Real.exp_sub, Real.exp_log ht]

/-- A tile's weights and slopes. -/
def tileP (B B' : Fin 32) (h : Fin 8) : Square := fun i j => prob q k h (row B i) (row B' j)
def tileD (B B' : Fin 32) (h : Fin 8) : Square := fun i j => ds q k v g h (row B i) (row B' j)

theorem wts_off (B B' : Fin 32) (hB : B' < B) (h : Fin 8) :
    wts (headCut (lanes96 q) B h) (headCut (lanes96 k) B' h) (fun i => Real.log (total q k h (row B i)) / Real.log 2) = tileP q k B B' h := by
  funext i j
  refine wts_prob q k B B' h i j ?_
  have hb : B'.val < B.val := hB
  show B'.val * 512 + j.val ≤ B.val * 512 + i.val
  omega

theorem seen_diag (B B' : Fin 32) (h : Fin 8) :
    seen (fun i j => decide (row B' j ≤ row B i)) (wts (headCut (lanes96 q) B h) (headCut (lanes96 k) B' h) (fun i => Real.log (total q k h (row B i)) / Real.log 2))
      = tileP q k B B' h := by
  funext i j
  unfold seen
  by_cases hij : row B' j ≤ row B i
  · rw [if_pos (by simpa using hij)]; exact wts_prob q k B B' h i j hij
  · rw [if_neg (by simpa using hij)]
    show 0 = weight q k h (row B i) (row B' j) / _
    rw [weight, if_neg hij, zero_div]

theorem slope_tile (B B' : Fin 32) (h : Fin 8) :
    slope (tileP q k B B' h) (headCut (lanes64 g) B h) (headCut (lanesOne v) B' h) (fun i => mean q k v g h (row B i)) = tileD q k v g B B' h := by
  funext i j
  unfold slope
  rw [dots_gv]
  rfl

end Cert.AttnBwd

end
-- ==== Proof.AttnGrow.lean ====
/- Two heads' blocks grown by a product each, lane by lane. -/
module

public import proofs.«01_k».proof.Proof.AttnTile

@[expose] public section

set_option maxRecDepth 16384

noncomputable section

namespace Cert.AttnBwd

open Idealize.ShloMosaic Cert.AttnMath

theorem headLane_left (a : Fin 4) (x : Fin 256) (h : x.val < 128) : headLane (headL a) ⟨x.val, h⟩ = lane a x ∧ headOf (lane a x) = headL a := by
  refine ⟨Fin.ext ?_, Fin.ext ?_⟩
  · show 2 * a.val * 128 + x.val = a.val * 256 + x.val; omega
  · show (a.val * 256 + x.val) / 128 = 2 * a.val; omega
theorem headLane_right (a : Fin 4) (x : Fin 256) (h : ¬x.val < 128) : headLane (headR a) ⟨x.val - 128, by omega⟩ = lane a x ∧ headOf (lane a x) = headR a := by
  refine ⟨Fin.ext ?_, Fin.ext ?_⟩
  · show (2 * a.val + 1) * 128 + (x.val - 128) = a.val * 256 + x.val; omega
  · show (a.val * 256 + x.val) / 128 = 2 * a.val + 1; omega

/-- Growing both heads of a block by a product over the tile's rows. -/
theorem grow_rows (y : Both) (P : Fin 8 → Square) (f : Fin 16384 → Fin 1024 → ℝ) (b : Fin 32) (a : Fin 4) (ho : 0 + 512 ≤ 512) :
    paste 0 y (join (addT (left (slab 0 ho y)) (P (headL a)) (headCut f b (headL a))) (addT (right (slab 0 ho y)) (P (headR a)) (headCut f b (headR a))))
      = fun i x => y i x + ∑ t, P (headOf (lane a x)) t i * f (row b t) (lane a x) := by
  rw [paste_all]
  funext i x
  unfold join
  by_cases h : x.val < 128
  · rw [dif_pos h]
    unfold addT left slab headCut
    rw [(headLane_left a x h).1, (headLane_left a x h).2]
    exact congrArg (· + _) (congrArg₂ y (Fin.ext (Nat.zero_add _)) rfl)
  · rw [dif_neg h]
    unfold addT right slab headCut
    rw [(headLane_right a x h).1, (headLane_right a x h).2]
    exact congrArg (· + _) (congrArg₂ y (Fin.ext (Nat.zero_add _)) (Fin.ext (by show 128 + (x.val - 128) = x.val; omega)))

/-- Growing both heads of one row block of the whole by a scaled product over the tile's columns. -/
theorem grow_cols (y : Fin 16384 → Fin 256 → ℝ) (D : Fin 8 → Fin 16384 → Fin 512 → ℝ) (f : Fin 16384 → Fin 1024 → ℝ) (B b : Fin 32) (a : Fin 4) (o : ℕ) (e : o = 512 * B.val) (ho : o + 512 ≤ 16384) :
    paste o y (join (addR (left (slab o ho y)) (fun i t => D (headL a) (row B i) t) (headCut f b (headL a))) (addR (right (slab o ho y)) (fun i t => D (headR a) (row B i) t) (headCut f b (headR a))))
      = fun r x => y r x + if r.val / 512 = B.val then (∑ t, D (headOf (lane a x)) r t * f (row b t) (lane a x)) * sc else 0 := by
  subst e
  funext r x
  unfold paste
  by_cases hr : 512 * B.val ≤ r.val ∧ r.val < 512 * B.val + 512
  · rw [dif_pos hr, if_pos (by omega)]
    have hrow : row B ⟨r.val - 512 * B.val, by omega⟩ = r := Fin.ext (by show B.val * 512 + (r.val - 512 * B.val) = r.val; omega)
    have hslab : (⟨512 * B.val + (r.val - 512 * B.val), by omega⟩ : Fin 16384) = r := Fin.ext (by show 512 * B.val + (r.val - 512 * B.val) = r.val; omega)
    unfold join
    by_cases h : x.val < 128
    · rw [dif_pos h]
      unfold addR left slab headCut
      rw [(headLane_left a x h).1, (headLane_left a x h).2]
      simp only [hrow, hslab]
    · rw [dif_neg h]
      unfold addR right slab headCut
      rw [(headLane_right a x h).1, (headLane_right a x h).2]
      simp only [hrow, hslab]
      exact congrArg (· + _) (congrArg (y r) (Fin.ext (by show 128 + (x.val - 128) = x.val; omega)))
  · rw [dif_neg hr, if_neg (by omega), add_zero]

end Cert.AttnBwd

end
-- ==== Proof.AttnStep.lean ====
/- One step of the attention's gradient over the reals. -/
module

public import proofs.«01_k».proof.Proof.AttnGrow

@[expose] public section

set_option maxRecDepth 16384

noncomputable section

namespace Cert.AttnBwd

open Idealize.ShloMosaic Idealize.ShloMosaic.TcCoe Idealize.SL.Sem Idealize.ShloMosaic.StableHlo
open Cert.AttnIdeal Cert.AttnIdeal.Gen Cert.Lift Cert.AttnMath

/-- The arguments over the reals, with positions that grow from row to row. -/
structure Given (m : (ℓ : Loc nD τ sig) → Buf (Elt Ideal) ℓ) (q k : Dev nD → Fin 16384 → Fin 768 → ℝ) (v g : Dev nD → Fin 16384 → Fin 512 → ℝ)
    (p : Dev nD → Fin 16384 → BitVec 32) : Prop where
  hQ : ∀ c : Dev nD, m ((c.tc : Thread nD τ).loc main_arg0) = fun i => ((q c (i 1) (i 2) : ℝ) : EReal)
  hK : ∀ c : Dev nD, m ((c.tc : Thread nD τ).loc main_arg1) = fun i => ((k c (i 1) (i 2) : ℝ) : EReal)
  hV : ∀ c : Dev nD, m ((c.tc : Thread nD τ).loc main_arg2) = fun i => ((v c (i 1) (i 2) : ℝ) : EReal)
  hP : ∀ c : Dev nD, m ((c.tc : Thread nD τ).loc main_arg3) = fun i => p c (i 1)
  hG : ∀ c : Dev nD, m ((c.tc : Thread nD τ).loc main_arg4) = fun i => ((g c (i 1) (i 2) : ℝ) : EReal)
  hp : ∀ (c : Dev nD) (j r : Fin 16384), (p c j).sle (p c r) = decide (j ≤ r)

variable {m : (ℓ : Loc nD τ sig) → Buf (Elt Ideal) ℓ}
  {q k : Dev nD → Fin 16384 → Fin 768 → ℝ} {v g : Dev nD → Fin 16384 → Fin 512 → ℝ} {p : Dev nD → Fin 16384 → BitVec 32}

/-! ## The blocks of each head -/

variable (G : Given m q k v g p) (c : Dev nD) (t : Pt)

/-- The logarithm and the mean of each row of the point's query block. -/
abbrev logs (q k : Fin 16384 → Fin 768 → ℝ) (B : Fin 32) (h : Fin 8) : Fin 512 → ℝ := fun i => Real.log (total q k h (row B i)) / Real.log 2
abbrev means (q k : Fin 16384 → Fin 768 → ℝ) (v g : Fin 16384 → Fin 512 → ℝ) (B : Fin 32) (h : Fin 8) : Fin 512 → ℝ := fun i => mean q k v g h (row B i)

include G

theorem lo_q : lo (ins m c t).q = up (headCut (lanes96 (q c)) (qb t) (headL (pair t))) :=
  (congrArg lo (block_q m q G.hQ c t)).trans ((lo_up _).trans (congrArg up (left_cut _ _ _)))

theorem hi_q : hi (ins m c t).q = up (headCut (lanes96 (q c)) (qb t) (headR (pair t))) :=
  (congrArg hi (block_q m q G.hQ c t)).trans ((hi_up _).trans (congrArg up (right_cut _ _ _)))

theorem lo_k : lo (ins m c t).k = up (headCut (lanes96 (k c)) (kb t) (headL (pair t))) :=
  (congrArg lo (block_k m k G.hK c t)).trans ((lo_up _).trans (congrArg up (left_cut _ _ _)))

theorem hi_k : hi (ins m c t).k = up (headCut (lanes96 (k c)) (kb t) (headR (pair t))) :=
  (congrArg hi (block_k m k G.hK c t)).trans ((hi_up _).trans (congrArg up (right_cut _ _ _)))

theorem lo_v : lo (ins m c t).v = up (headCut (lanesOne (v c)) (kb t) (headL (pair t))) :=
  (congrArg lo (block_v m v G.hV c t)).trans ((lo_up _).trans (congrArg up (left_cut _ _ _)))

theorem hi_v : hi (ins m c t).v = up (headCut (lanesOne (v c)) (kb t) (headR (pair t))) :=
  (congrArg hi (block_v m v G.hV c t)).trans ((hi_up _).trans (congrArg up (right_cut _ _ _)))

theorem lo_d : lo (ins m c t).d = up (headCut (lanes64 (g c)) (qb t) (headL (pair t))) :=
  (congrArg lo (block_g m g G.hG c t)).trans ((lo_up _).trans (congrArg up (left_cut _ _ _)))

theorem hi_d : hi (ins m c t).d = up (headCut (lanes64 (g c)) (qb t) (headR (pair t))) :=
  (congrArg hi (block_g m g G.hG c t)).trans ((hi_up _).trans (congrArg up (right_cut _ _ _)))

theorem lo_e : lo (ins m c t).e = up (flat (means (q c) (k c) (v c) (g c) (qb t) (headL (pair t)))) :=
  (congrArg lo (block_e m q k v g p G.hQ G.hK G.hV G.hP G.hG G.hp c t)).trans ((lo_up _).trans (congrArg up ((left_cut _ _ _).trans (head_mean (q c) (k c) (v c) (g c) _ _))))

theorem hi_e : hi (ins m c t).e = up (flat (means (q c) (k c) (v c) (g c) (qb t) (headR (pair t)))) :=
  (congrArg hi (block_e m q k v g p G.hQ G.hK G.hV G.hP G.hG G.hp c t)).trans ((hi_up _).trans (congrArg up ((right_cut _ _ _).trans (head_mean (q c) (k c) (v c) (g c) _ _))))

theorem lo_l : lo (ins m c t).l = up (flat (logs (q c) (k c) (qb t) (headL (pair t)))) :=
  (congrArg lo (block_l m q k p G.hQ G.hK G.hP G.hp c t)).trans ((lo_up _).trans (congrArg up ((left_cut _ _ _).trans (head_log (q c) (k c) _ _))))

theorem hi_l : hi (ins m c t).l = up (flat (logs (q c) (k c) (qb t) (headR (pair t)))) :=
  (congrArg hi (block_l m q k p G.hQ G.hK G.hP G.hp c t)).trans ((hi_up _).trans (congrArg up ((right_cut _ _ _).trans (head_log (q c) (k c) _ _))))

omit G
/-! ## One step -/

/-- The three carried blocks over the reals. -/
def lift (x : Fin 16384 → Fin 256 → ℝ) (y z : Both) : St Ideal := ⟨fun i => ((x (i 0) (i 1) : ℝ) : EReal), upBoth y, upBoth z⟩

/-- What a tile adds to the gradient of a query, of a key and of a value. -/
def partQ (q k : Fin 16384 → Fin 768 → ℝ) (v g : Fin 16384 → Fin 512 → ℝ) (b : Fin 32) (r : Fin 16384) (l : Fin 1024) : ℝ :=
  (∑ t, ds q k v g (headOf l) r (row b t) * lanes96 k (row b t) l) * sc
def partK (q k : Fin 16384 → Fin 768 → ℝ) (v g : Fin 16384 → Fin 512 → ℝ) (b : Fin 32) (j : Fin 16384) (l : Fin 1024) : ℝ :=
  ∑ t, ds q k v g (headOf l) (row b t) j * lanes96 q (row b t) l
def partV (q k : Fin 16384 → Fin 768 → ℝ) (g : Fin 16384 → Fin 512 → ℝ) (b : Fin 32) (j : Fin 16384) (l : Fin 1024) : ℝ :=
  ∑ t, prob q k (headOf l) (row b t) j * lanes64 g (row b t) l

/-- The three blocks grown by point `t`'s tile. -/
def grown (q k : Fin 16384 → Fin 768 → ℝ) (v g : Fin 16384 → Fin 512 → ℝ) (t : Pt) (x : Fin 16384 → Fin 256 → ℝ) (y z : Both) : St Ideal :=
  lift (fun r l => x r l + if r.val / 512 = (qb t).val then partQ q k v g (kb t) r (lane (pair t) l) else 0)
    (fun i l => y i l + partK q k v g (qb t) (row (kb t) i) (lane (pair t) l))
    (fun i l => z i l + partV q k g (qb t) (row (kb t) i) (lane (pair t) l))

theorem row_room (B : Fin 32) : 512 * B.val + 512 ≤ 16384 := by omega

/-- Where a step's six replacements are known over the reals, so is what it leaves. -/
theorem grown_of (q k : Fin 16384 → Fin 768 → ℝ) (v g : Fin 16384 → Fin 512 → ℝ) (x : Fin 16384 → Fin 256 → ℝ) (y z : Both)
    {a a' : (S512x128.Idx → EReal) → (S512x128.Idx → EReal)} {b b' : (S512x128.Idx → EReal) → (S512x128.Idx → EReal)} {d d' : (S512x128.Idx → EReal) → (S512x128.Idx → EReal)}
    {o o' : Fin 2 → ℕ} {inb : ∀ a, o a + S512x128.size a ≤ S16384x256.size a} {inb' : ∀ a, o' a + S512x128.size a ≤ S16384x256.size a}
    (eo : o = ![512 * (qb t).val, 0]) (eo' : o' = ![512 * (qb t).val, 128])
    (ha : ∀ z, a (up z) = up (addT z (tileP q k (qb t) (kb t) (headL (pair t))) (headCut (lanes64 g) (qb t) (headL (pair t)))))
    (ha' : ∀ z, a' (up z) = up (addT z (tileP q k (qb t) (kb t) (headR (pair t))) (headCut (lanes64 g) (qb t) (headR (pair t)))))
    (hb : ∀ z, b (up z) = up (addT z (tileD q k v g (qb t) (kb t) (headL (pair t))) (headCut (lanes96 q) (qb t) (headL (pair t)))))
    (hb' : ∀ z, b' (up z) = up (addT z (tileD q k v g (qb t) (kb t) (headR (pair t))) (headCut (lanes96 q) (qb t) (headR (pair t)))))
    (hd : ∀ z, d (up z) = up (addR z (tileD q k v g (qb t) (kb t) (headL (pair t))) (headCut (lanes96 k) (kb t) (headL (pair t)))))
    (hd' : ∀ z, d' (up z) = up (addR z (tileD q k v g (qb t) (kb t) (headR (pair t))) (headCut (lanes96 k) (kb t) (headR (pair t))))) :
    (⟨twice (lift x y z).dq o o' S512x128.size inb inb' d d',
      twice (lift x y z).ak ![0, 0] ![0, 128] S512x128.size inb_S512x256_S512x128_0_0 inb_S512x256_S512x128_0_128 b b',
      twice (lift x y z).av ![0, 0] ![0, 128] S512x128.size inb_S512x256_S512x128_0_0 inb_S512x256_S512x128_0_128 a a'⟩ : St Ideal)
      = grown q k v g t x y z := by
  have e1 := twice_up (lift x y z).dq x rfl (512 * (qb t).val) (row_room _) o o' eo eo' inb inb' d d' _ _ hd hd'
  have e2 := twice_up (lift x y z).ak y rfl 0 (by norm_num) _ _ rfl rfl inb_S512x256_S512x128_0_0 inb_S512x256_S512x128_0_128 b b' _ _ hb hb'
  have e3 := twice_up (lift x y z).av z rfl 0 (by norm_num) _ _ rfl rfl inb_S512x256_S512x128_0_0 inb_S512x256_S512x128_0_128 a a' _ _ ha ha'
  have g1 := grow_cols x (fun h r t' => ds q k v g h r (row (kb t) t')) (lanes96 k) (qb t) (kb t) (pair t) _ rfl (row_room _)
  have g2 := grow_rows y (tileD q k v g (qb t) (kb t)) (lanes96 q) (qb t) (pair t) (by norm_num)
  have g3 := grow_rows z (tileP q k (qb t) (kb t)) (lanes64 g) (qb t) (pair t) (by norm_num)
  unfold grown lift
  congr 1
  · exact e1.trans (congrArg (fun (f : Fin 16384 → Fin 256 → ℝ) (i : S16384x256.Idx) => ((f (i 0) (i 1) : ℝ) : EReal)) g1)
  · exact e2.trans (congrArg upBoth g2)
  · exact e3.trans (congrArg upBoth g3)

theorem offsets : ∀ i : Fin 528, k0_off2 (lit0 i) = ![512 * qn i.val, 0] ∧ k0_off3 (lit0 i) = ![512 * qn i.val, 128]
    ∧ k0_off4 (lit0 i) = ![512 * qn i.val, 0] ∧ k0_off5 (lit0 i) = ![512 * qn i.val, 128] := by
  decide +kernel

theorem point_offsets : k0_off2 (qw (grid0.coords t)) = ![512 * (qb t).val, 0] ∧ k0_off3 (qw (grid0.coords t)) = ![512 * (qb t).val, 128]
    ∧ k0_off4 (qw (grid0.coords t)) = ![512 * (qb t).val, 0] ∧ k0_off5 (qw (grid0.coords t)) = ![512 * (qb t).val, 128] := by
  have h := offsets (grid0.coords t 1)
  have e : ((grid0.coords t) 1).val = t.val % 528 := coord_step t
  rw [e] at h
  exact h

include G

/-- A step off the diagonal. -/
theorem off_grown (hB : kb t < qb t) (hc : k0_chk2 (qw (grid0.coords t)) (kw (grid0.coords t))) (h : k0_cond3 (qw (grid0.coords t)) (kw (grid0.coords t)) = 1#1)
    (x : Fin 16384 → Fin 256 → ℝ) (y z : Both) : off _ _ hc h (ins m c t) (lift x y z) = grown (q c) (k c) (v c) (g c) t x y z :=
  grown_of t (q c) (k c) (v c) (g c) x y z (point_offsets t).1 (point_offsets t).2.1
    (fun z => by
      rw [lo_q G, lo_k G, lo_d G, lo_l G, ← wts_off (q c) (k c) _ _ hB (headL (pair t))]
      exact off_av_lo (headCut (lanes96 (q c)) (qb t) (headL (pair t))) (headCut (lanes96 (k c)) (kb t) (headL (pair t))) (headCut (lanes64 (g c)) (qb t) (headL (pair t))) z (logs (q c) (k c) (qb t) (headL (pair t))))
    (fun z => by
      rw [hi_q G, hi_k G, hi_d G, hi_l G, ← wts_off (q c) (k c) _ _ hB (headR (pair t))]
      exact off_av_hi (headCut (lanes96 (q c)) (qb t) (headR (pair t))) (headCut (lanes96 (k c)) (kb t) (headR (pair t))) (headCut (lanes64 (g c)) (qb t) (headR (pair t))) z (logs (q c) (k c) (qb t) (headR (pair t))))
    (fun z => by
      rw [lo_q G, lo_k G, lo_d G, lo_l G, lo_v G, lo_e G, ← slope_tile, ← wts_off (q c) (k c) _ _ hB (headL (pair t))]
      exact off_ak_lo (headCut (lanes96 (q c)) (qb t) (headL (pair t))) (headCut (lanes96 (k c)) (kb t) (headL (pair t))) (headCut (lanes64 (g c)) (qb t) (headL (pair t))) (headCut (lanesOne (v c)) (kb t) (headL (pair t))) z (logs (q c) (k c) (qb t) (headL (pair t))) (means (q c) (k c) (v c) (g c) (qb t) (headL (pair t))))
    (fun z => by
      rw [hi_q G, hi_k G, hi_d G, hi_l G, hi_v G, hi_e G, ← slope_tile, ← wts_off (q c) (k c) _ _ hB (headR (pair t))]
      exact off_ak_hi (headCut (lanes96 (q c)) (qb t) (headR (pair t))) (headCut (lanes96 (k c)) (kb t) (headR (pair t))) (headCut (lanes64 (g c)) (qb t) (headR (pair t))) (headCut (lanesOne (v c)) (kb t) (headR (pair t))) z (logs (q c) (k c) (qb t) (headR (pair t))) (means (q c) (k c) (v c) (g c) (qb t) (headR (pair t))))
    (fun z => by
      rw [lo_q G, lo_k G, lo_d G, lo_l G, lo_v G, lo_e G, ← slope_tile, ← wts_off (q c) (k c) _ _ hB (headL (pair t))]
      exact off_dq_lo (headCut (lanes96 (q c)) (qb t) (headL (pair t))) (headCut (lanes96 (k c)) (kb t) (headL (pair t))) (headCut (lanes64 (g c)) (qb t) (headL (pair t))) (headCut (lanesOne (v c)) (kb t) (headL (pair t))) z (logs (q c) (k c) (qb t) (headL (pair t))) (means (q c) (k c) (v c) (g c) (qb t) (headL (pair t))))
    (fun z => by
      rw [hi_q G, hi_k G, hi_d G, hi_l G, hi_v G, hi_e G, ← slope_tile, ← wts_off (q c) (k c) _ _ hB (headR (pair t))]
      exact off_dq_hi (headCut (lanes96 (q c)) (qb t) (headR (pair t))) (headCut (lanes96 (k c)) (kb t) (headR (pair t))) (headCut (lanes64 (g c)) (qb t) (headR (pair t))) (headCut (lanesOne (v c)) (kb t) (headR (pair t))) z (logs (q c) (k c) (qb t) (headR (pair t))) (means (q c) (k c) (v c) (g c) (qb t) (headR (pair t))))

/-- A step on the diagonal. -/
theorem diag_grown (hc : k0_chk2 (qw (grid0.coords t)) (kw (grid0.coords t))) (h : k0_cond4 (qw (grid0.coords t)) (kw (grid0.coords t)) = 1#1)
    (x : Fin 16384 → Fin 256 → ℝ) (y z : Both) : diag _ _ hc h (ins m c t) (lift x y z) = grown (q c) (k c) (v c) (g c) t x y z :=
  grown_of t (q c) (k c) (v c) (g c) x y z (point_offsets t).2.2.1 (point_offsets t).2.2.2
    (fun z => by
      rw [lo_q G, lo_k G, lo_d G, lo_l G, ← seen_diag (q c) (k c) _ _ (headL (pair t))]
      exact diag_av_lo (headCut (lanes96 (q c)) (qb t) (headL (pair t))) (headCut (lanes96 (k c)) (kb t) (headL (pair t))) (headCut (lanes64 (g c)) (qb t) (headL (pair t))) z (logs (q c) (k c) (qb t) (headL (pair t))) (sees m p G.hP G.hp c t))
    (fun z => by
      rw [hi_q G, hi_k G, hi_d G, hi_l G, ← seen_diag (q c) (k c) _ _ (headR (pair t))]
      exact diag_av_hi (headCut (lanes96 (q c)) (qb t) (headR (pair t))) (headCut (lanes96 (k c)) (kb t) (headR (pair t))) (headCut (lanes64 (g c)) (qb t) (headR (pair t))) z (logs (q c) (k c) (qb t) (headR (pair t))) (sees m p G.hP G.hp c t))
    (fun z => by
      rw [lo_q G, lo_k G, lo_d G, lo_l G, lo_v G, lo_e G, ← slope_tile, ← seen_diag (q c) (k c) _ _ (headL (pair t))]
      exact diag_ak_lo (headCut (lanes96 (q c)) (qb t) (headL (pair t))) (headCut (lanes96 (k c)) (kb t) (headL (pair t))) (headCut (lanes64 (g c)) (qb t) (headL (pair t))) (headCut (lanesOne (v c)) (kb t) (headL (pair t))) z (logs (q c) (k c) (qb t) (headL (pair t))) (means (q c) (k c) (v c) (g c) (qb t) (headL (pair t))) (sees m p G.hP G.hp c t))
    (fun z => by
      rw [hi_q G, hi_k G, hi_d G, hi_l G, hi_v G, hi_e G, ← slope_tile, ← seen_diag (q c) (k c) _ _ (headR (pair t))]
      exact diag_ak_hi (headCut (lanes96 (q c)) (qb t) (headR (pair t))) (headCut (lanes96 (k c)) (kb t) (headR (pair t))) (headCut (lanes64 (g c)) (qb t) (headR (pair t))) (headCut (lanesOne (v c)) (kb t) (headR (pair t))) z (logs (q c) (k c) (qb t) (headR (pair t))) (means (q c) (k c) (v c) (g c) (qb t) (headR (pair t))) (sees m p G.hP G.hp c t))
    (fun z => by
      rw [lo_q G, lo_k G, lo_d G, lo_l G, lo_v G, lo_e G, ← slope_tile, ← seen_diag (q c) (k c) _ _ (headL (pair t))]
      exact diag_dq_lo (headCut (lanes96 (q c)) (qb t) (headL (pair t))) (headCut (lanes96 (k c)) (kb t) (headL (pair t))) (headCut (lanes64 (g c)) (qb t) (headL (pair t))) (headCut (lanesOne (v c)) (kb t) (headL (pair t))) z (logs (q c) (k c) (qb t) (headL (pair t))) (means (q c) (k c) (v c) (g c) (qb t) (headL (pair t))) (sees m p G.hP G.hp c t))
    (fun z => by
      rw [hi_q G, hi_k G, hi_d G, hi_l G, hi_v G, hi_e G, ← slope_tile, ← seen_diag (q c) (k c) _ _ (headR (pair t))]
      exact diag_dq_hi (headCut (lanes96 (q c)) (qb t) (headR (pair t))) (headCut (lanes96 (k c)) (kb t) (headR (pair t))) (headCut (lanes64 (g c)) (qb t) (headR (pair t))) (headCut (lanesOne (v c)) (kb t) (headR (pair t))) z (logs (q c) (k c) (qb t) (headR (pair t))) (means (q c) (k c) (v c) (g c) (qb t) (headR (pair t))) (sees m p G.hP G.hp c t))

end Cert.AttnBwd

end
-- ==== Proof.AttnOrder.lean ====
/- The order in which the attention's gradient visits its tiles: key block by key block, each from its diagonal on. -/
module

public import proofs.«01_k».proof.Proof.AttnTables

@[expose] public section

namespace Cert.AttnBwd

/-- The step of a tile. -/
def stepOf (q k : ℕ) : ℕ := 32 * k - k * (k - 1) / 2 + (q - k)

theorem step_of : ∀ s : Fin 528, stepOf (qn s.val) (kn s.val) = s.val := by decide +kernel
theorem of_step : ∀ k q : Fin 32, k ≤ q → stepOf q.val k.val < 528 ∧ qn (stepOf q.val k.val) = q.val ∧ kn (stepOf q.val k.val) = k.val := by decide +kernel
theorem kn_step : ∀ s : Fin 527, kn s.val ≤ kn (s.val + 1) ∧ (¬qn (s.val + 1) = kn (s.val + 1) → kn (s.val + 1) = kn s.val) ∧ (qn (s.val + 1) = kn (s.val + 1) → kn s.val < kn (s.val + 1)) := by
  decide +kernel

theorem qn_lt' (s : ℕ) : qn s < 32 := by
  by_cases h : s < 528
  · exact qn_lt ⟨s, h⟩
  · unfold qn; rw [dif_neg h]; norm_num
theorem kn_lt' (s : ℕ) : kn s < 32 := by
  by_cases h : s < 528
  · exact kn_lt ⟨s, h⟩
  · unfold kn; rw [dif_neg h]; norm_num

/-- Key blocks never go back. -/
theorem kn_mono (s : ℕ) (hs : s < 528) : ∀ s' ≤ s, kn s' ≤ kn s := by
  induction s with
  | zero => intro s' h; rw [Nat.le_zero.1 h]
  | succ s ih =>
    intro s' h
    obtain rfl | h := Nat.eq_or_lt_of_le h
    · exact le_rfl
    · exact (ih (by omega) s' (by omega)).trans (kn_step ⟨s, by omega⟩).1

/-- On the diagonal a new key block begins. -/
theorem new_key (s : ℕ) (hs : s < 528) (hd : qn s = kn s) : ∀ s' < s, ¬kn s' = kn s := by
  intro s' h
  obtain ⟨n, rfl⟩ : ∃ n, s = n + 1 := ⟨s - 1, by omega⟩
  have h1 := kn_mono n (by omega) s' (by omega)
  have h2 := (kn_step ⟨n, by omega⟩).2.2 hd
  exact ne_of_lt (lt_of_le_of_lt h1 h2)

/-- Off the diagonal the key block stays. -/
theorem same_key (s : ℕ) (hs : s + 1 < 528) (hd : ¬qn (s + 1) = kn (s + 1)) : kn (s + 1) = kn s := (kn_step ⟨s, by omega⟩).2.1 hd

/-- A sum over the steps of one query block is a sum over the key blocks up to it. -/
theorem sum_query (q : Fin 32) (f : ℕ → ℕ → ℝ) :
    ∑ s ∈ Finset.range 528, (if qn s = q.val then f (qn s) (kn s) else 0) = ∑ k : Fin 32, if k ≤ q then f q.val k.val else 0 := by
  rw [← Finset.sum_filter, ← Finset.sum_filter]
  refine Finset.sum_bij' (fun s _ => (⟨kn s, kn_lt' s⟩ : Fin 32)) (fun k _ => stepOf q.val k.val) ?_ ?_ ?_ ?_ ?_
  · intro s hs
    rw [Finset.mem_filter, Finset.mem_range] at hs
    rw [Finset.mem_filter_univ]
    show kn s ≤ q.val
    rw [← hs.2]
    exact kn_le_qn ⟨s, hs.1⟩
  · intro k hk
    rw [Finset.mem_filter_univ] at hk
    rw [Finset.mem_filter, Finset.mem_range]
    exact ⟨(of_step k q hk).1, (of_step k q hk).2.1⟩
  · intro s hs
    rw [Finset.mem_filter, Finset.mem_range] at hs
    show stepOf q.val (kn s) = s
    rw [← hs.2]
    exact step_of ⟨s, hs.1⟩
  · intro k hk
    rw [Finset.mem_filter_univ] at hk
    exact Fin.ext (of_step k q hk).2.2
  · intro s hs
    rw [Finset.mem_filter] at hs
    show f (qn s) (kn s) = f q.val (kn s)
    rw [hs.2]

/-- A sum over the steps of one key block, up to its last, is a sum over the query blocks from it on. -/
theorem sum_key (n : ℕ) (hn : n < 528) (hq : qn n = 31) (k : Fin 32) (hk : kn n = k.val) (f : ℕ → ℕ → ℝ) :
    ∑ s ∈ Finset.range (n + 1), (if kn s = k.val then f (qn s) (kn s) else 0) = ∑ q : Fin 32, if k ≤ q then f q.val k.val else 0 := by
  have en : stepOf 31 k.val = n := by rw [← hq, ← hk]; exact step_of ⟨n, hn⟩
  rw [← Finset.sum_filter, ← Finset.sum_filter]
  refine Finset.sum_bij' (fun s _ => (⟨qn s, qn_lt' s⟩ : Fin 32)) (fun q _ => stepOf q.val k.val) ?_ ?_ ?_ ?_ ?_
  · intro s hs
    rw [Finset.mem_filter, Finset.mem_range] at hs
    rw [Finset.mem_filter_univ]
    show k.val ≤ qn s
    rw [← hs.2]
    exact kn_le_qn ⟨s, by omega⟩
  · intro q hq
    rw [Finset.mem_filter_univ] at hq
    rw [Finset.mem_filter, Finset.mem_range]
    refine ⟨?_, (of_step k q hq).2.2⟩
    rw [← en]
    unfold stepOf
    have : q.val ≤ 31 := by omega
    omega
  · intro s hs
    rw [Finset.mem_filter, Finset.mem_range] at hs
    show stepOf (qn s) k.val = s
    rw [← hs.2]
    exact step_of ⟨s, by omega⟩
  · intro q hq
    rw [Finset.mem_filter_univ] at hq
    exact Fin.ext (of_step k q hq).2.1
  · intro s hs
    rw [Finset.mem_filter] at hs
    show f (qn s) (kn s) = f (qn s) k.val
    rw [hs.2]

end Cert.AttnBwd

end
-- ==== Proof.AttnSteps.lean ====
/- The attention gradient's carried blocks after every step. -/
module

public import proofs.«01_k».proof.Proof.AttnStep
public import proofs.«01_k».proof.Proof.AttnOrder

@[expose] public section

set_option maxRecDepth 16384

noncomputable section

namespace Cert.AttnBwd

open Idealize.ShloMosaic Idealize.ShloMosaic.TcCoe Idealize.SL.Sem Idealize.ShloMosaic.StableHlo
open Cert.AttnIdeal Cert.AttnIdeal.Gen Cert.Lift Cert.AttnMath

/-- The blocks a diagonal step starts from. -/
theorem fresh_lift (x : Fin 16384 → Fin 256 → ℝ) (y z : Both) : fresh (lift x y z) = lift x (fun _ _ => 0) (fun _ _ => 0) := by
  unfold fresh lift
  congr 1
  · funext i
    idx_vars i
    pointwise [k0_pay2]
    exact EReal.coe_zero.symm
  · funext i
    idx_vars i
    pointwise [k0_pay3]
    exact EReal.coe_zero.symm
theorem blank_lift : blank (F := Ideal) = lift (fun _ _ => 0) (fun _ _ => 0) (fun _ _ => 0) := by
  have h := fresh_lift (fun _ _ => 0) (fun _ _ => 0) (fun _ _ => 0)
  rw [← h]
  unfold blank fresh lift
  congr 1
  funext i
  idx_vars i
  pointwise [k0_pay1]
  exact EReal.coe_zero.symm

variable {m : (ℓ : Loc nD τ sig) → Buf (Elt Ideal) ℓ}
  {q k : Dev nD → Fin 16384 → Fin 768 → ℝ} {v g : Dev nD → Fin 16384 → Fin 512 → ℝ} {p : Dev nD → Fin 16384 → BitVec 32}
  (G : Given m q k v g p) (c : Dev nD) (t : Pt)

theorem on_diagonal : k0_cond4 (qw (grid0.coords t)) (kw (grid0.coords t)) = 1#1 ↔ qn (t.val % 528) = kn (t.val % 528) := by
  have h := cond4_iff (grid0.coords t 1)
  rwa [show ((grid0.coords t) 1).val = t.val % 528 from coord_step t] at h
theorem off_diagonal : k0_cond3 (qw (grid0.coords t)) (kw (grid0.coords t)) = 1#1 ↔ ¬qn (t.val % 528) = kn (t.val % 528) := by
  have h := cond3_iff (grid0.coords t 1)
  rwa [show ((grid0.coords t) 1).val = t.val % 528 from coord_step t] at h

include G

/-- A point on the diagonal starts new key-side sums; elsewhere all three blocks go on. -/
theorem next_diag (h : qn (t.val % 528) = kn (t.val % 528)) (h0 : ¬t.val % 528 = 0) (x : Fin 16384 → Fin 256 → ℝ) (y z : Both) :
    next m c t (lift x y z) = grown (q c) (k c) (v c) (g c) t x (fun _ _ => 0) (fun _ _ => 0) := by
  unfold next
  rw [dif_neg fun h3 => (off_diagonal t).1 h3 h, dif_pos ((on_diagonal t).2 h), if_neg h0, fresh_lift]
  exact diag_grown G c t _ _ x _ _
theorem next_start (h0 : t.val % 528 = 0) (s : St Ideal) :
    next m c t s = grown (q c) (k c) (v c) (g c) t (fun _ _ => 0) (fun _ _ => 0) (fun _ _ => 0) := by
  have h : qn (t.val % 528) = kn (t.val % 528) := by rw [h0]; exact first_step.1.trans first_step.2.symm
  unfold next
  rw [dif_neg fun h3 => (off_diagonal t).1 h3 h, dif_pos ((on_diagonal t).2 h), if_pos h0, blank_lift]
  exact diag_grown G c t _ _ _ _ _
theorem next_off (h : ¬qn (t.val % 528) = kn (t.val % 528)) (x : Fin 16384 → Fin 256 → ℝ) (y z : Both) :
    next m c t (lift x y z) = grown (q c) (k c) (v c) (g c) t x y z := by
  unfold next
  rw [dif_pos ((off_diagonal t).2 h)]
  refine off_grown G c t (lt_of_le_of_ne ?_ fun e => h (congrArg Fin.val e).symm) _ _ x y z
  exact kn_le_qn ⟨t.val % 528, Nat.mod_lt _ (by norm_num)⟩

omit G

/-- A block by its number. -/
def blk (n : ℕ) : Fin 32 := ⟨n % 32, Nat.mod_lt _ (by norm_num)⟩
theorem blk_val (b : Fin 32) : blk b.val = b := Fin.ext (Nat.mod_eq_of_lt b.isLt)

/-- The carried blocks after the first `n` steps of head pair `a`, the last in key block `b`. -/
def sumQ (q k : Fin 16384 → Fin 768 → ℝ) (v g : Fin 16384 → Fin 512 → ℝ) (a : Fin 4) (n : ℕ) : Fin 16384 → Fin 256 → ℝ := fun r l =>
  ∑ s ∈ Finset.range n, if qn s = r.val / 512 then partQ q k v g (blk (kn s)) r (lane a l) else 0
def sumK (q k : Fin 16384 → Fin 768 → ℝ) (v g : Fin 16384 → Fin 512 → ℝ) (a : Fin 4) (n b : ℕ) : Both := fun i l =>
  ∑ s ∈ Finset.range n, if kn s = b then partK q k v g (blk (qn s)) (row (blk (kn s)) i) (lane a l) else 0
def sumV (q k : Fin 16384 → Fin 768 → ℝ) (g : Fin 16384 → Fin 512 → ℝ) (a : Fin 4) (n b : ℕ) : Both := fun i l =>
  ∑ s ∈ Finset.range n, if kn s = b then partV q k g (blk (qn s)) (row (blk (kn s)) i) (lane a l) else 0

/-- Growing those blocks by the next step's tile. -/
theorem grown_sums (q k : Fin 16384 → Fin 768 → ℝ) (v g : Fin 16384 → Fin 512 → ℝ) (a : Fin 4) (n : ℕ) (ht : t.val % 528 = n) (ha : pair t = a) :
    grown q k v g t (sumQ q k v g a n) (sumK q k v g a n (kn n)) (sumV q k g a n (kn n))
      = lift (sumQ q k v g a (n + 1)) (sumK q k v g a (n + 1) (kn n)) (sumV q k g a (n + 1) (kn n)) := by
  subst ht ha
  have eq : blk (qn (t.val % 528)) = qb t := blk_val (qb t)
  have ek : blk (kn (t.val % 528)) = kb t := blk_val (kb t)
  unfold grown sumQ sumK sumV
  simp only [Finset.sum_range_succ, if_true, eq, ek]
  congr 1
  funext r l
  exact congrArg (_ + ·) (if_congr eq_comm rfl rfl)

theorem sums_none {f : ℕ → ℝ} {w : ℕ → ℕ} {b : ℕ} (n : ℕ) (h : ∀ s < n, ¬w s = b) : ∑ s ∈ Finset.range n, (if w s = b then f s else 0) = 0 :=
  Finset.sum_eq_zero fun s hs => if_neg (h s (Finset.mem_range.1 hs))

include G in
/-- The carried blocks after every step. -/
theorem state_sums (a : Fin 4) (n : ℕ) (hn : n < 528) : state m c (528 * a.val + n + 1)
    = lift (sumQ (q c) (k c) (v c) (g c) a (n + 1)) (sumK (q c) (k c) (v c) (g c) a (n + 1) (kn n)) (sumV (q c) (k c) (g c) a (n + 1) (kn n)) := by
  have hN : ∀ n, n < 528 → 528 * a.val + n < (cfg (F := Ideal)).N := fun n hn => lt_of_lt_of_eq (by omega) points.symm
  have hpair : ∀ n (hn : n < 528), pair ⟨528 * a.val + n, hN n hn⟩ = a := fun n hn => Fin.ext (by show (528 * a.val + n) / 528 = a.val; omega)
  have hmod : ∀ n (hn : n < 528), (528 * a.val + n) % 528 = n := fun n hn => by omega
  induction n with
  | zero =>
    have e := state_succ m c ⟨528 * a.val + 0, hN 0 hn⟩
    refine e.trans ((next_start G c _ (hmod 0 hn) _).trans ?_)
    exact grown_sums ⟨528 * a.val + 0, hN 0 hn⟩ _ _ _ _ a 0 (hmod 0 hn) (hpair 0 hn)
  | succ n ih =>
    have e := state_succ m c ⟨528 * a.val + (n + 1), hN _ hn⟩
    refine e.trans ?_
    rw [show state m c (528 * a.val + (n + 1)) = _ from ih (by omega)]
    refine Eq.trans ?_ (grown_sums ⟨528 * a.val + (n + 1), hN _ hn⟩ _ _ _ _ a (n + 1) (hmod _ hn) (hpair _ hn))
    by_cases hd : qn (n + 1) = kn (n + 1)
    · rw [next_diag G c ⟨528 * a.val + (n + 1), hN _ hn⟩ (by show qn ((528 * a.val + (n + 1)) % 528) = kn ((528 * a.val + (n + 1)) % 528); rw [hmod _ hn]; exact hd)
        (by show ¬(528 * a.val + (n + 1)) % 528 = 0; rw [hmod _ hn]; exact Nat.succ_ne_zero n)]
      have hk : sumK (q c) (k c) (v c) (g c) a (n + 1) (kn (n + 1)) = fun _ _ => 0 := by
        funext i l; exact sums_none (n + 1) (new_key (n + 1) hn hd)
      have hv : sumV (q c) (k c) (g c) a (n + 1) (kn (n + 1)) = fun _ _ => 0 := by
        funext i l; exact sums_none (n + 1) (new_key (n + 1) hn hd)
      rw [hk, hv]
    · rw [next_off G c ⟨528 * a.val + (n + 1), hN _ hn⟩ (by show ¬qn ((528 * a.val + (n + 1)) % 528) = kn ((528 * a.val + (n + 1)) % 528); rw [hmod _ hn]; exact hd),
        same_key n hn hd]

end Cert.AttnBwd

end
-- ==== Proof.AttnOut.lean ====
/- The sums over tiles are the three gradients. -/
module

public import proofs.«01_k».proof.Proof.AttnSteps

@[expose] public section

set_option maxRecDepth 16384

noncomputable section

namespace Cert.AttnBwd

open Idealize.ShloMosaic Cert.AttnMath

variable (q k : Fin 16384 → Fin 768 → ℝ) (v g : Fin 16384 → Fin 512 → ℝ)

theorem sum_blocks (f : Fin 16384 → ℝ) : ∑ b, ∑ t, f (row b t) = ∑ j, f j := (Fin.sum_univ_tiles 32 512 (by norm_num) f).symm

/-- A hidden key has no weight and no slope. -/
theorem prob_hidden (h : Fin 8) (r j : Fin 16384) (hj : r < j) : prob q k h r j = 0 := by
  unfold prob weight
  rw [if_neg (not_le.2 hj), zero_div]
theorem ds_hidden (h : Fin 8) (r j : Fin 16384) (hj : r < j) : ds q k v g h r j = 0 := by
  unfold ds
  rw [prob_hidden q k h r j hj, zero_mul]

theorem total_Q (a : Fin 4) (r : Fin 16384) (l : Fin 256) : sumQ q k v g a 528 r l = spread96 (dq q k v g r) (lane a l) := by
  have h := sum_query ⟨r.val / 512, by omega⟩ (fun _ b => partQ q k v g (blk b) r (lane a l))
  refine h.trans ?_
  have hz : ∀ b : Fin 32, (if b ≤ (⟨r.val / 512, by omega⟩ : Fin 32) then partQ q k v g (blk b.val) r (lane a l) else 0) = partQ q k v g b r (lane a l) := by
    intro b
    rw [blk_val]
    by_cases hb : b ≤ (⟨r.val / 512, by omega⟩ : Fin 32)
    · rw [if_pos hb]
    · rw [if_neg hb]
      have hb' : r.val / 512 < b.val := not_le.1 hb
      unfold partQ
      rw [Finset.sum_eq_zero fun t _ => ?_, zero_mul]
      rw [ds_hidden q k v g _ _ _ (show r.val < b.val * 512 + t.val by omega), zero_mul]
  rw [Finset.sum_congr rfl fun b _ => hz b]
  unfold partQ
  rw [← Finset.sum_mul, sum_blocks fun j => ds q k v g (headOf (lane a l)) r j * lanes96 k j (lane a l), Finset.sum_mul]
  unfold lanes96 spread96
  by_cases hl : (lane a l).val % 128 < 96
  · simp only [dif_pos hl]
    exact Finset.sum_congr rfl fun j _ => mul_right_comm _ _ _
  · simp only [dif_neg hl, mul_zero, zero_mul, Finset.sum_const_zero]

/-- Nothing is added to a key's gradients by the query blocks before it. -/
theorem early (f : Fin 16384 → ℝ) (b : Fin 32) (i : Fin 512) (hf : ∀ r, r < row b i → f r = 0) :
    ∑ B : Fin 32, (if b ≤ B then ∑ t, f (row (blk B.val) t) else 0) = ∑ r, f r := by
  rw [← sum_blocks]
  refine Finset.sum_congr rfl fun B _ => ?_
  rw [blk_val]
  by_cases hB : b ≤ B
  · rw [if_pos hB]
  · rw [if_neg hB]
    have hB' : B.val < b.val := not_le.1 hB
    exact (Finset.sum_eq_zero fun t _ => hf _ (show B.val * 512 + t.val < b.val * 512 + i.val by omega)).symm

theorem total_K (a : Fin 4) (n : ℕ) (hn : n < 528) (hq : qn n = 31) (b : Fin 32) (hb : kn n = b.val) (i : Fin 512) (l : Fin 256) :
    sumK q k v g a (n + 1) (kn n) i l * sc = spread96 (dk q k v g (row b i)) (lane a l) := by
  rw [hb]
  have h := sum_key n hn hq b hb (fun B b => partK q k v g (blk B) (row (blk b) i) (lane a l))
  rw [show sumK q k v g a (n + 1) b.val i l = _ from h, blk_val]
  unfold partK
  rw [early (fun r => ds q k v g (headOf (lane a l)) r (row b i) * lanes96 q r (lane a l)) b i fun r hr => by rw [ds_hidden q k v g _ _ _ hr, zero_mul], Finset.sum_mul]
  unfold lanes96 spread96
  by_cases hl : (lane a l).val % 128 < 96
  · simp only [dif_pos hl]
    exact Finset.sum_congr rfl fun j _ => mul_right_comm _ _ _
  · simp only [dif_neg hl, mul_zero, zero_mul, Finset.sum_const_zero]

theorem total_V (a : Fin 4) (n : ℕ) (hn : n < 528) (hq : qn n = 31) (b : Fin 32) (hb : kn n = b.val) (i : Fin 512) (l : Fin 256) :
    sumV q k g a (n + 1) (kn n) i l = spread64 (dv q k g (row b i)) (lane a l) := by
  rw [hb]
  have h := sum_key n hn hq b hb (fun B b => partV q k g (blk B) (row (blk b) i) (lane a l))
  rw [show sumV q k g a (n + 1) b.val i l = _ from h, blk_val]
  unfold partV
  rw [early (fun r => prob q k (headOf (lane a l)) r (row b i) * lanes64 g r (lane a l)) b i fun r hr => by rw [prob_hidden q k _ _ _ hr, zero_mul]]
  unfold lanes64 spread64
  by_cases hl : (lane a l).val % 128 < 64
  · simp only [dif_pos hl]
    rfl
  · simp only [dif_neg hl, mul_zero, Finset.sum_const_zero]

end Cert.AttnBwd

end
-- ==== Proof.AttnFinal.lean ====
/- What the attention's gradient leaves in its three results. -/
module

public import proofs.«01_k».proof.Proof.AttnOut
public import proofs.«01_k».proof.Proof.AttnRun
public import Idealize.ShloMosaic.Lib.Pipeline.ValueKit

@[expose] public section

set_option maxRecDepth 16384

noncomputable section

namespace Cert.AttnBwd

open Idealize.ShloMosaic Idealize.ShloMosaic.TcCoe Idealize.SL.Sem Idealize.ShloMosaic.StableHlo
open Cert.AttnIdeal Cert.AttnIdeal.Gen Cert.Lift Cert.AttnMath

variable {m : (ℓ : Loc nD τ sig) → Buf (Elt Ideal) ℓ}
  {q k : Dev nD → Fin 16384 → Fin 768 → ℝ} {v g : Dev nD → Fin 16384 → Fin 512 → ℝ} {p : Dev nD → Fin 16384 → BitVec 32}
  (G : Given m q k v g p) (c : Dev nD)

/-- The last step that writes a block holds the whole of it. -/
theorem ends_8 (t : Pt) (hf : ((cfg (F := Ideal)).win 8).flush t = true) : t.val % 528 = 527 := by
  by_contra h
  exact Bool.false_ne_true ((stays_8 t (by omega)).symm.trans hf)
theorem ends_9 (t : Pt) (hf : ((cfg (F := Ideal)).win 9).flush t = true) : qn (t.val % 528) = 31 := by
  by_contra h
  exact Bool.false_ne_true ((stays_9 t h).symm.trans hf)

theorem ends_10 (t : Pt) (hf : ((cfg (F := Ideal)).win 10).flush t = true) : qn (t.val % 528) = 31 := by
  by_contra h
  exact Bool.false_ne_true ((stays_10 t h).symm.trans hf)
theorem index_10 (t : Pt) : ((cfg (F := Ideal)).win 10).index t = ![kn (t.val % 528), t.val / 528] := index_9 t

include G in
theorem state_at (t : Pt) : state m c (t.val + 1) = lift (sumQ (q c) (k c) (v c) (g c) (pair t) (t.val % 528 + 1))
    (sumK (q c) (k c) (v c) (g c) (pair t) (t.val % 528 + 1) (kn (t.val % 528))) (sumV (q c) (k c) (g c) (pair t) (t.val % 528 + 1) (kn (t.val % 528))) := by
  have h := state_sums G c (pair t) (t.val % 528) (Nat.mod_lt _ (by norm_num))
  rwa [show 528 * (pair t).val + t.val % 528 = t.val from Nat.div_add_mod t.val 528] at h

theorem scaled (y : Both) (i : S512x256.Idx) : k0_pay8 (F := Ideal) (upBoth y) i = ((y (i 0) (i 1) * sc : ℝ) : EReal) := by
  idx_vars i
  pointwise [k0_pay8, scale_bits]
  simp only [ring_lift]
  rfl

include G

theorem final_dq : (dats m 0 c).arrAt 8 (cfg (F := Ideal)).N = fun i : S16384x1024.Idx => ((spread96 (dq (q c) (k c) (v c) (g c) (i 0)) (i 1) : ℝ) : EReal) := by
  refine (dats m 0 c).arrAt_eq_of_covers 8 _ (by decide +kernel) fun t hf y => ?_
  have h := ends_8 t hf
  blk_simp
  rw [after_8, state_at G c t, h]
  refine congrArg Real.toEReal ((total_Q _ _ _ _ (pair t) (y 0) (y 1)).trans ?_)
  refine congrArg₂ (fun r l => spread96 (dq (q c) (k c) (v c) (g c) r) l) (Fin.ext ?_) (Fin.ext ?_) <;> blk_simp [index_8 t] <;> rfl

theorem final_dk : (dats m 0 c).arrAt 9 (cfg (F := Ideal)).N = fun i : S16384x1024.Idx => ((spread96 (dk (q c) (k c) (v c) (g c) (i 0)) (i 1) : ℝ) : EReal) := by
  refine (dats m 0 c).arrAt_eq_of_covers 9 _ (by decide +kernel) fun t hf y => ?_
  have h := ends_9 t hf
  blk_simp
  rw [after_9, state_at G c t]
  refine (scaled _ y).trans (congrArg Real.toEReal ((total_K _ _ _ _ (pair t) (t.val % 528) (Nat.mod_lt _ (by norm_num)) h (kb t) rfl (y 0) (y 1)).trans ?_))
  refine congrArg₂ (fun r l => spread96 (dk (q c) (k c) (v c) (g c) r) l) (Fin.ext ?_) (Fin.ext ?_) <;> blk_simp [index_9 t] <;> rfl

theorem final_dv : (dats m 0 c).arrAt 10 (cfg (F := Ideal)).N = fun i : S16384x1024.Idx => ((spread64 (dv (q c) (k c) (g c) (i 0)) (i 1) : ℝ) : EReal) := by
  refine (dats m 0 c).arrAt_eq_of_covers 10 _ (by decide +kernel) fun t hf y => ?_
  have h := ends_10 t hf
  blk_simp
  rw [after_10, state_at G c t]
  refine congrArg Real.toEReal ((total_V _ _ _ (pair t) (t.val % 528) (Nat.mod_lt _ (by norm_num)) h (kb t) rfl (y 0) (y 1)).trans ?_)
  refine congrArg₂ (fun r l => spread64 (dv (q c) (k c) (g c) r) l) (Fin.ext ?_) (Fin.ext ?_) <;> blk_simp [index_10 t] <;> rfl

/-- The run of the kernel with its three results. -/
theorem results (ρ : Dev nD → PrngReg) :
    θ_run defs (onTc (τ := τ) (main (F := Ideal))) ⟨m, fun _ => 0, ρ⟩ fun r => ∀ c : Dev nD,
      r.2.mem ((c.tc : Thread nD τ).loc main_v62_0) = (fun i => ((spread96 (dq (q c) (k c) (v c) (g c) (i 0)) (i 1) : ℝ) : EReal))
      ∧ r.2.mem ((c.tc : Thread nD τ).loc main_v62_1) = (fun i => ((spread96 (dk (q c) (k c) (v c) (g c) (i 0)) (i 1) : ℝ) : EReal))
      ∧ r.2.mem ((c.tc : Thread nD τ).loc main_v62_2) = (fun i => ((spread64 (dv (q c) (k c) (g c) (i 0)) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 8).trans (final_dq G c), ((h.1 c).1 9).trans (final_dk G c), ((h.1 c).1 10).trans (final_dv G c),
      ((h.1 c).2 main_arg0 (Pipeline.mem_restRefs_of (win := spec0) main_arg0 (by decide) (by decide))).trans (V_main_arg0 m c),
      ((h.1 c).2 main_arg1 (Pipeline.mem_restRefs_of (win := spec0) main_arg1 (by decide) (by decide))).trans (V_main_arg1 m c),
      ((h.1 c).2 main_arg2 (Pipeline.mem_restRefs_of (win := spec0) main_arg2 (by decide) (by decide))).trans (V_main_arg2 m c),
      ((h.1 c).1 7).trans (((dats m 0 c).arrAt_in 7 rfl _).trans ((A_eq m c 7).trans (V_main_arg3 m c))),
      ((h.1 c).2 main_arg4 (Pipeline.mem_restRefs_of (win := spec0) main_arg4 (by decide) (by decide))).trans (V_main_arg4 m c)⟩) (run_main_quiescent m ρ)

end Cert.AttnBwd

end
-- ==== Proof.AttnValue.lean ====
/- The value claim of the attention's gradient: on finite arguments and growing positions kernel and reference end with the same real arrays. -/
module

public import proofs.«01_k».proof.Defs
public import proofs.«01_k».proof.Proof.Gen.Pre_attn_pre
public import proofs.«01_k».proof.Proof.AttnRef
public import proofs.«01_k».proof.Proof.AttnFinal

@[expose] public section

set_option maxRecDepth 16384

noncomputable section

namespace Cert.AttnValue

open Idealize.ShloMosaic Idealize.ShloMosaic.TcCoe Idealize.SL.Sem Cert.Lift Cert.AttnBwd

/-- Positions that grow from each row to the next compare as their rows do. -/
theorem grows (p : Fin 16384 → BitVec 32) (h : ∀ i : Fin 16383, (p i.castSucc).slt (p i.succ) = true) (j r : Fin 16384) :
    (p j).sle (p r) = decide (j ≤ r) := by
  have mono : StrictMono fun i => (p i).toInt := Fin.strictMono_iff_lt_succ.2 fun i => by
    have := h i
    rwa [BitVec.slt_iff_toInt_lt] at this
  rw [Bool.eq_iff_iff, BitVec.sle_iff_toInt_le, decide_eq_true_iff]
  exact mono.le_iff_le

/-- The positions' part of the precondition, as it prints. -/
theorem grow_of_all {X : IVec ⟨2, ![1, 16384]⟩ 32} {h1 : (⟨2, ![1, 16384]⟩ : Shape).Slices ![0, 1] ⟨2, ![1, 16383]⟩} {h0 : (⟨2, ![1, 16384]⟩ : Shape).Slices ![0, 0] ⟨2, ![1, 16383]⟩}
    {h : (⟨2, ![1, 16383]⟩ : Shape).ReducesTo [0, 1] ⟨0, ![]⟩} {hu : 0 < (⟨0, ![]⟩ : Shape).numel} {init : (⟨0, ![]⟩ : Shape).Idx → BitVec 1}
    (e : Host.reduce IntOp.andi (cmpi .sgt (extractStridedSlice ⟨2, ![1, 16383]⟩ ![0, 1] X h1) (extractStridedSlice ⟨2, ![1, 16383]⟩ ![0, 0] X h0)) init h hu = fun _ => 1#1)
    (i : Fin 16383) : (X (ix2 0 i.castSucc)).slt (X (ix2 0 i.succ)) = true := by
  haveI : Subsingleton (⟨0, ![]⟩ : Shape).Idx := ⟨fun a b => funext fun k => k.elim0⟩
  have := Host.reduce_andi_all _ _ _ _ _ (congrFun e fun k => k.elim0) (ix2 0 i)
  pointwise at this
  have e1 : (⟨1 + i.val, by omega⟩ : Fin 16384) = i.succ := Fin.ext (Nat.add_comm 1 i.val)
  by_contra hn
  rw [Bool.not_eq_true] at hn
  have hw : BitVec.ofBool ((X (ix2 0 i.castSucc)).slt (X (ix2 0 i.succ))) = 1#1 := (congrArg (fun j => IntOp.cmpi CmpIPredicate.sgt (X (ix2 0 j)) (X (ix2 0 i.castSucc))) e1).symm.trans this
  rw [hn] at hw
  exact absurd hw (by decide)

/-- The rows' positions. -/
def places (X : IVec ⟨2, ![1, 16384]⟩ 32) (r : Fin 16384) : BitVec 32 := X (ix2 0 r)
theorem places_eq (X : IVec ⟨2, ![1, 16384]⟩ 32) : X = fun i => places X (i 1) := by
  funext i
  rw [eq_ix2 i]
  refine congrArg X (congrArg (ix2 · (i 1)) (Fin.ext ?_))
  exact Nat.lt_one_iff.1 (i 0).isLt

/-- What the printed precondition says. -/
theorem given_of_pre (a0 a1 : FVec Ideal ⟨3, ![1, 16384, 768]⟩ .f32) (a2 : FVec Ideal ⟨3, ![1, 16384, 512]⟩ .f32) (a3 : IVec ⟨2, ![1, 16384]⟩ 32)
    (a4 : FVec Ideal ⟨3, ![1, 16384, 512]⟩ .f32) (h : Cert.Pre_attn_pre.fn a0 a1 a2 a3 a4 = fun _ => 1#1) :
    a0 = (fun i => ((re3 a0 (i 1) (i 2) : ℝ) : EReal)) ∧ a1 = (fun i => ((re3 a1 (i 1) (i 2) : ℝ) : EReal)) ∧ a2 = (fun i => ((re3 a2 (i 1) (i 2) : ℝ) : EReal))
      ∧ a4 = (fun i => ((re3 a4 (i 1) (i 2) : ℝ) : EReal)) ∧ ∀ j r, (places a3 j).sle (places a3 r) = decide (j ≤ r) :=
  ⟨real3 (real_of_all (both (both (both (both h).1).1).1).1), real3 (real_of_all (both (both (both (both h).1).1).1).2), real3 (real_of_all (both (both (both h).1).1).2),
    real3 (real_of_all (both (both h).1).2), grows _ fun i => grow_of_all (both h).2 i⟩

/-- The value claim. -/
theorem algebraic : Cert.algebraic_AttnIdeal_AttnRefIdeal_pre_attn_pre := by
  intro m ρ m' ρ' hpre hagree
  have hr := fun c => given_of_pre _ _ _ _ _ (hpre c)
  exact ⟨_, _, _, Cert.AttnBwd.results (m := m) ⟨fun c => (hr c).1, fun c => (hr c).2.1, fun c => (hr c).2.2.1, fun c => places_eq _, fun c => (hr c).2.2.2.1, fun c => (hr c).2.2.2.2⟩ ρ,
    Cert.AttnRefIdeal.Value.results m' _ _ _ _ _ (fun c => (hagree c).1.trans (hr c).1) (fun c => (hagree c).2.1.trans (hr c).2.1) (fun c => (hagree c).2.2.1.trans (hr c).2.2.1)
      (fun c => (hagree c).2.2.2.1.trans (places_eq _)) (fun c => (hagree c).2.2.2.2.trans (hr c).2.2.2.1) (fun c => (hr c).2.2.2.2) ρ'⟩

end Cert.AttnValue

end
-- ==== Proof.ModMath.lean ====
/- A norm with its gain, scaled and shifted, over the reals: its gradients, as the kernels and as the references write them. -/
module

public import proofs.«01_k».proof.Proof.Lift

@[expose] public section

noncomputable section

namespace Cert.ModMath

open Cert.Lift

variable (x : Fin 16384 → Fin 1024 → ℝ) (g sc : Fin 1024 → ℝ) (dh dxo : Fin 16384 → Fin 1024 → ℝ)

/-- The gradient of the scale: the cotangent times the normed row with its gain, summed over the rows. -/
def dsc (j : Fin 1024) : ℝ := ∑ i, dh i j * (x i j * rinv 1024 (x i) * g j)

/-- The gradient of the shift. -/
def dsh (j : Fin 1024) : ℝ := ∑ i, dh i j

/-- The gradient of the gain. -/
def dg (j : Fin 1024) : ℝ := ∑ i, dh i j * (1 + sc j) * (x i j * rinv 1024 (x i))

/-- The gradient of the row, by the closed form of the norm's derivative, added to `dxo`. -/
def dx (i : Fin 16384) (j : Fin 1024) : ℝ :=
  dxo i j + rinv 1024 (x i) * (dh i j * (1 + sc j) * g j
    - x i j * rinv 1024 (x i) * ((∑ k, dh i k * (1 + sc k) * g k * (x i k * rinv 1024 (x i))) / 1024))

theorem dsc_eq (j : Fin 1024) : ∑ i, x i j * rinv 1024 (x i) * g j * dh i j = dsc x g dh j :=
  Finset.sum_congr rfl fun i _ => mul_comm _ _

theorem dg_eq (j : Fin 1024) : ∑ i, x i j * rinv 1024 (x i) * (dh i j * (1 + sc j)) = dg x sc dh j :=
  Finset.sum_congr rfl fun i _ => mul_comm _ _

/-- The gradient of the row by the chain rule through the mean square is the closed form. -/
theorem chain_eq (i : Fin 16384) (j : Fin 1024) :
    dxo i j + dh i j * (1 + sc j) * g j * rinv 1024 (x i)
      + x i j * ((∑ k, x i k * (dh i k * (1 + sc k) * g k))
        * (-(1 / 2) * (rinv 1024 (x i) * (rinv 1024 (x i) * rinv 1024 (x i)))) / 1024)
      + (∑ k, x i k * (dh i k * (1 + sc k) * g k))
        * (-(1 / 2) * (rinv 1024 (x i) * (rinv 1024 (x i) * rinv 1024 (x i)))) / 1024 * x i j
    = dx x g sc dh dxo i j := by
  have hs : ∑ k, dh i k * (1 + sc k) * g k * (x i k * rinv 1024 (x i))
      = (∑ k, x i k * (dh i k * (1 + sc k) * g k)) * rinv 1024 (x i) := by
    rw [Finset.sum_mul]; exact Finset.sum_congr rfl fun k _ => by ring
  rw [dx, hs]
  ring

end Cert.ModMath

end
-- ==== Proof.FfnInMath.lean ====
/- The arguments of the input half of the feed-forward block's gradient, as real arrays. -/
module

public import proofs.«01_k».proof.Proof.ModMath

@[expose] public section

noncomputable section

namespace Cert.FfnInMath

/-- The rows, the norm's gain, the scale, the two weights, the gradient already in hand, and the two activations' gradients. -/
structure Args where
  x : Fin 16384 → Fin 1024 → ℝ
  g : Fin 1024 → ℝ
  sc : Fin 1024 → ℝ
  wg : Fin 1024 → Fin 2816 → ℝ
  wu : Fin 1024 → Fin 2816 → ℝ
  dxo : Fin 16384 → Fin 1024 → ℝ
  da : Fin 16384 → Fin 2816 → ℝ
  db : Fin 16384 → Fin 2816 → ℝ

variable (a : Args)

/-- The gradient of the modulated row: the two products with the weights. -/
def dh (i : Fin 16384) (j : Fin 1024) : ℝ := ∑ k, a.da i k * a.wg j k + ∑ k, a.db i k * a.wu j k

theorem dh_swap (i : Fin 16384) (j : Fin 1024) : ∑ k, a.db i k * a.wu j k + ∑ k, a.da i k * a.wg j k = dh a i j := add_comm _ _

def dx := ModMath.dx a.x a.g a.sc (dh a) a.dxo
def dsc := ModMath.dsc a.x a.g (dh a)
def dsh := ModMath.dsh (dh a)
def dg := ModMath.dg a.x a.sc (dh a)

end Cert.FfnInMath

end
-- ==== Proof.NormHost.lean ====
/- The host's norm of a batch of rows: on a real array its mean square, the reciprocal root and the root's derivative. -/
module

public import proofs.«01_k».proof.Proof.Lift
public import Idealize.ShloMosaic.Lib.Claim
public import Idealize.ShloMosaic.Lib.ValueLayout

@[expose] public section

set_option maxRecDepth 16384

noncomputable section

namespace Cert.NormHost

open Idealize.ShloMosaic Cert.Lift

abbrev Rows : Shape := ⟨3, ![1, 16384, 1024]⟩
abbrev Column : Shape := ⟨3, ![1, 16384, 1]⟩
abbrev Plain : Shape := ⟨2, ![1, 16384]⟩
abbrev One : Shape := ⟨0, ![]⟩

/-- A matrix of the 16-bit format, cast and given a batch axis. -/
theorem cast_eq {a b : ℕ} {X : FVec Ideal ⟨2, ![a, b]⟩ .bf16} {d : Fin a → Fin b → ℝ} (hX : X = fun i => ((d (i 0) (i 1) : ℝ) : EReal))
    {hb : FTy.bits .bf16 < FTy.bits .f32} {h : (⟨2, ![a, b]⟩ : Shape).ShapeCasts ⟨3, ![1, a, b]⟩} :
    shapeCast ⟨3, ![1, a, b]⟩ (extf (F := Ideal) .f32 X hb) h = fun i => ((d (i 1) (i 2) : ℝ) : EReal) := by
  funext y
  have e : y = ix3 (0 : Fin 1) (y 1) (y 2) := funext fun k => Fin.ext (by
    match k with
    | ⟨0, _⟩ => exact Nat.lt_one_iff.1 (y 0).isLt
    | ⟨1, _⟩ => rfl
    | ⟨2, _⟩ => rfl)
  rw [hX, e]
  exact ValueIdx.shapeCast_ab_1ab_apply _ h _ _ _

variable {x : Fin 16384 → Fin 1024 → ℝ} {X : FVec Ideal Rows .f32} (hX : X = fun i => ((x (i 1) (i 2) : ℝ) : EReal))

include hX

/-- The mean square of each row plus the epsilon. -/
theorem ms_eq {h1 : Rows.ReducesTo [2] Plain} {h2 : 0 < One.numel} {b1 : Plain.BroadcastsInDim Column ![0, 1]}
    {b2 b3 : One.BroadcastsInDim Column ![]} :
    addf (F := Ideal) (φ := .f32) (Host.divf (broadcastInDim Column ![0, 1] b1 (Host.reduceAdd (mulf X X) (constant One .f32 0x00000000#32) h1 h2))
      (broadcastInDim Column ![] b2 (constant One .f32 0x44800000#32))) (broadcastInDim Column ![] b3 (constant One .f32 0x358637BD#32))
    = fun i => ((ms 1024 (x (i 1)) : ℝ) : EReal) := by
  funext i
  rw [hX]
  idx_vars i
  pointwise [consts]
  simp only [ring_lift, sum_lift, norm_lift]
  rfl

omit hX in
/-- The reciprocal root. -/
theorem root_eq : Host.rsqrt (F := Ideal) (φ := .f32) (fun i : Column.Idx => ((ms 1024 (x (i 1)) : ℝ) : EReal))
    = fun i => ((rinv 1024 (x (i 1)) : ℝ) : EReal) := funext fun i => (norm_lift.2.1 _)

omit hX in
/-- The root's derivative, up to its factor. -/
theorem cube_eq : Host.divf (F := Ideal) (φ := .f32) (fun i : Column.Idx => ((rinv 1024 (x (i 1)) : ℝ) : EReal))
      (fun i : Column.Idx => ((ms 1024 (x (i 1)) : ℝ) : EReal))
    = fun i => ((rinv 1024 (x (i 1)) * (rinv 1024 (x (i 1)) * rinv 1024 (x (i 1))) : ℝ) : EReal) :=
  funext fun i => (norm_lift.2.2 _ _)

/-- The product of the row with its cotangent, summed over the row. -/
theorem dot_eq {y : Fin 16384 → Fin 1024 → ℝ} {h1 : Rows.ReducesTo [2] Plain} {h2 : 0 < One.numel} {s : Plain.ShapeCasts Column} :
    shapeCast Column (Host.reduceAdd (F := Ideal) (φ := .f32) (mulf X fun i => ((y (i 1) (i 2) : ℝ) : EReal))
      (constant One .f32 0x00000000#32) h1 h2) s
    = fun i => ((∑ k, x (i 1) k * y (i 1) k : ℝ) : EReal) := by
  funext i
  rw [hX]
  idx_vars i
  pointwise
  simp only [ring_lift, sum_lift]

omit hX in
/-- The gradient of the mean square of each row, spread over the row. -/
theorem mean_eq {d r : Fin 16384 → ℝ} {h1 : Column.ReducesTo [0, 2] ⟨1, ![16384]⟩} {h2 : 0 < One.numel} {b1 b2 : One.BroadcastsInDim Column ![]}
    {b3 : (⟨1, ![16384]⟩ : Shape).BroadcastsInDim Plain ![1]} {b4 : Plain.BroadcastsInDim Rows ![0, 1]} :
    broadcastInDim Rows ![0, 1] b4 (broadcastInDim Plain ![1] b3 (Host.reduceAdd (F := Ideal) (φ := .f32)
      (Host.divf (mulf (fun i : Column.Idx => ((d (i 1) : ℝ) : EReal))
        (mulf (broadcastInDim Column ![] b1 (constant One .f32 0xBF000000#32)) fun i : Column.Idx => ((r (i 1) : ℝ) : EReal)))
        (broadcastInDim Column ![] b2 (constant One .f32 0x44800000#32))) (constant One .f32 0x00000000#32) h1 h2))
    = fun i => ((d (i 1) * (-(1 / 2) * r (i 1)) / 1024 : ℝ) : EReal) := by
  funext i
  idx_vars i
  pointwise [sum_unit_axes, consts]
  simp only [ring_lift, norm_lift]

end Cert.NormHost

end
-- ==== Proof.FfnInRef.lean ====
/- The reference of the feed-forward block's input half: on real arguments its four results are the real gradients. -/
module

public import proofs.«01_k».proof.Proof.Gen.FfnInRefIdeal.Run
public import proofs.«01_k».proof.Proof.FfnInMath
public import proofs.«01_k».proof.Proof.NormHost
public import Idealize.ShloMosaic.Lib.ValueLayout

@[expose] public section

set_option maxRecDepth 16384

noncomputable section

namespace Cert.FfnInRefIdeal.Value

open Cert.FfnInRefIdeal Cert.FfnInRefIdeal.Gen Idealize.ShloMosaic Idealize.ShloMosaic.TcCoe Idealize.SL.Sem Cert.Lift

variable (m : (ℓ : Loc nD τ sig) → Buf (Elt Ideal) ℓ)

/-- The arguments' buffers hold the real arrays `a`. -/
structure Holds (c : Dev nD) (a : FfnInMath.Args) : Prop where
  x : m ((c.tc : Thread nD τ).loc main_arg0) = fun i => ((a.x (i 1) (i 2) : ℝ) : EReal)
  g : m ((c.tc : Thread nD τ).loc main_arg1) = fun i => ((a.g (i 0) : ℝ) : EReal)
  sc : m ((c.tc : Thread nD τ).loc main_arg2) = fun i => ((a.sc (i 2) : ℝ) : EReal)
  wg : m ((c.tc : Thread nD τ).loc main_arg4) = fun i => ((a.wg (i 0) (i 1) : ℝ) : EReal)
  wu : m ((c.tc : Thread nD τ).loc main_arg5) = fun i => ((a.wu (i 0) (i 1) : ℝ) : EReal)
  dxo : m ((c.tc : Thread nD τ).loc main_arg6) = fun i => ((a.dxo (i 1) (i 2) : ℝ) : EReal)
  da : m ((c.tc : Thread nD τ).loc main_arg7) = fun i => ((a.da (i 0) (i 1) : ℝ) : EReal)
  db : m ((c.tc : Thread nD τ).loc main_arg8) = fun i => ((a.db (i 0) (i 1) : ℝ) : EReal)

variable (a : Dev nD → FfnInMath.Args) (h : ∀ c : Dev nD, Holds m c (a c))

/-- An activation's gradient, cast and given its batch axis. -/
theorem cast_eq (X : FVec Ideal S16384x2816 .bf16) (d : Fin 16384 → Fin 2816 → ℝ) (hX : X = fun i => ((d (i 0) (i 1) : ℝ) : EReal)) :
    shapeCast S1x16384x2816 (extf (F := Ideal) .f32 X bitsLt_bf16_f32) shapeCasts_S16384x2816_S1x16384x2816
      = fun i => ((d (i 1) (i 2) : ℝ) : EReal) := by
  funext y
  rw [hX]
  idx_vars y
  pointwise

/-- Its product with a weight. -/
theorem dot_eq (X : FVec Ideal S1x16384x2816 .f32) (W : FVec Ideal S1024x2816 .f32) (d : Fin 16384 → Fin 2816 → ℝ)
    (w : Fin 1024 → Fin 2816 → ℝ) (hX : X = fun i => ((d (i 1) (i 2) : ℝ) : EReal)) (hW : W = fun i => ((w (i 0) (i 1) : ℝ) : EReal)) :
    Host.dotGeneral (F := Ideal) dot_S1x16384x2816_S1024x2816_S1x16384x1024_2_1_01_0_n_n none X W
      = fun i => ((∑ k, d (i 1) k * w (i 2) k : ℝ) : EReal) := by
  funext y
  rw [hX, hW]
  idx_vars y
  pointwise
  simp only [ring_lift, sum_lift]

include h

/-- The gradient of the modulated row. -/
theorem dh_eq (c : Dev nD) :
    addf (F := Ideal) (φ := .f32) (Host.dotGeneral (φ₂ := .f32) dot_S1x16384x2816_S1024x2816_S1x16384x1024_2_1_01_0_n_n none
        (shapeCast S1x16384x2816 (extf .f32 (m ((c.tc : Thread nD τ).loc main_arg8)) bitsLt_bf16_f32) shapeCasts_S16384x2816_S1x16384x2816)
        (m ((c.tc : Thread nD τ).loc main_arg5)))
      (Host.dotGeneral (φ₂ := .f32) dot_S1x16384x2816_S1024x2816_S1x16384x1024_2_1_01_0_n_n none
        (shapeCast S1x16384x2816 (extf .f32 (m ((c.tc : Thread nD τ).loc main_arg7)) bitsLt_bf16_f32) shapeCasts_S16384x2816_S1x16384x2816)
        (m ((c.tc : Thread nD τ).loc main_arg4)))
      = fun i => ((FfnInMath.dh (a c) (i 1) (i 2) : ℝ) : EReal) := by
  rw [cast_eq _ _ (h c).da, cast_eq _ _ (h c).db, dot_eq _ _ (a c).da (a c).wg rfl (h c).wg, dot_eq _ _ (a c).db (a c).wu rfl (h c).wu]
  funext i
  exact congrArg Real.toEReal (FfnInMath.dh_swap (a c) (i 1) (i 2))

/-- The cotangent of the normed row. -/
theorem dy_eq (c : Dev nD) :
    mulf (F := Ideal) (φ := .f32) (mulf (fun i : S1x16384x1024.Idx => ((FfnInMath.dh (a c) (i 1) (i 2) : ℝ) : EReal))
        (broadcastInDim S1x16384x1024 ![0, 1, 2] bcast_S1x1x1024_S1x16384x1024_0_1_2
          (addf (broadcastInDim S1x1x1024 ![] bcast_S_S1x1x1024 (constant S_ .f32 0x3F800000#32)) (m ((c.tc : Thread nD τ).loc main_arg2)))))
      (broadcastInDim S1x16384x1024 ![0, 1, 2] bcast_S1x1x1024_S1x16384x1024_0_1_2
        (broadcastInDim S1x1x1024 ![2] bcast_S1024_S1x1x1024_2 (m ((c.tc : Thread nD τ).loc main_arg1))))
    = fun i => ((FfnInMath.dh (a c) (i 1) (i 2) * (1 + (a c).sc (i 2)) * (a c).g (i 2) : ℝ) : EReal) := by
  funext y
  rw [(h c).g, (h c).sc]
  idx_vars y
  pointwise
  simp only [ring_lift]

/-- The row's gradient. -/
theorem dx_eq (c : Dev nD) : res_main_v60 m c = fun i => ((FfnInMath.dx (a c) (i 0) (i 1) : ℝ) : EReal) := by
  funext y
  unfold res_main_v60
  rw [dh_eq m a h c, dy_eq m a h c, NormHost.ms_eq (h c).x, NormHost.root_eq, NormHost.cube_eq,
    NormHost.dot_eq (y := fun i k => FfnInMath.dh (a c) i k * (1 + (a c).sc k) * (a c).g k) (h c).x,
    NormHost.mean_eq (d := fun i => ∑ k, (a c).x i k * (FfnInMath.dh (a c) i k * (1 + (a c).sc k) * (a c).g k))
      (r := fun i => rinv 1024 ((a c).x i) * (rinv 1024 ((a c).x i) * rinv 1024 ((a c).x i))), (h c).x, (h c).dxo]
  rw [eq_ix2 y]
  refine (Idealize.ShloMosaic.ValueIdx.shapeCast_1ab_ab_apply _ _ _ _).trans ?_
  pointwise
  simp only [ring_lift]
  exact congrArg _ (ModMath.chain_eq (a c).x (a c).g (a c).sc (FfnInMath.dh (a c)) (a c).dxo _ _)

/-- What the reference's run leaves in its four results: the gradients of the row, the shift, the scale and the gain. -/
theorem results (ρ : Dev nD → PrngReg) :
    θ_run defs (onTc (τ := τ) (main (F := Ideal))) ⟨m, fun _ => 0, ρ⟩ fun r => ∀ c : Dev nD,
      r.2.mem ((c.tc : Thread nD τ).loc main_v60) = (fun i => ((FfnInMath.dx (a c) (i 0) (i 1) : ℝ) : EReal))
      ∧ r.2.mem ((c.tc : Thread nD τ).loc main_v61) = (fun i => ((FfnInMath.dsh (a c) (i 1) : ℝ) : EReal))
      ∧ r.2.mem ((c.tc : Thread nD τ).loc main_v62) = (fun i => ((FfnInMath.dsc (a c) (i 1) : ℝ) : EReal))
      ∧ r.2.mem ((c.tc : Thread nD τ).loc main_v63) = (fun i => ((FfnInMath.dg (a c) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r hr c => ⟨(hr c).1.trans (dx_eq m a h c), (hr c).2.1.trans ?_, (hr c).2.2.1.trans ?_,
    (hr c).2.2.2.1.trans ?_, (hr c).2.2.2.2⟩) (run m ρ)
  · clear hr
    rw [dh_eq m a h c]
    funext y
    idx_vars y
    pointwise [sum_unit_axes, sum_unit_rows, consts]
    simp only [ring_lift, sum_lift, norm_lift]
    rfl
  · clear hr
    rw [(h c).x, (h c).g, dh_eq m a h c]
    funext y
    idx_vars y
    pointwise [sum_unit_axes, sum_unit_rows, consts]
    simp only [ring_lift, sum_lift, norm_lift]
    exact congrArg _ (ModMath.dsc_eq (a c).x (a c).g (FfnInMath.dh (a c)) _)
  · clear hr
    rw [(h c).x, (h c).sc, dh_eq m a h c]
    funext y
    idx_vars y
    pointwise [sum_unit_axes, sum_unit_rows, consts]
    simp only [ring_lift, sum_lift, norm_lift]
    exact congrArg _ (ModMath.dg_eq (a c).x (a c).sc (FfnInMath.dh (a c)) _)

end Cert.FfnInRefIdeal.Value

end
-- ==== Proof.FfnInKernel.lean ====
/- The kernel of the feed-forward block's input half: on real arguments its four result arrays are the real gradients. -/
module

public import proofs.«01_k».proof.Proof.Gen.FfnInIdeal.Value
public import Idealize.ShloMosaic.Lib.Claim
public import proofs.«01_k».proof.Proof.FfnInMath

@[expose] public section

set_option maxRecDepth 65536

noncomputable section

namespace Cert.FfnInIdeal.Value

open Cert.FfnInIdeal Cert.FfnInIdeal.Gen Idealize.ShloMosaic Idealize.ShloMosaic.TcCoe Idealize.SL.Sem
open Idealize.ShloMosaic.Pipeline (Dat)
open Cert.Lift

/-! ### What one block computes -/

section Block

variable {x dxo dh : Fin 256 → Fin 1024 → ℝ} {g sc : Fin 1024 → ℝ} {X DXO DH : FVec Ideal S256x1024 .f32} {G SC : FVec Ideal S1x1024 .f32}
  (hX : X = fun y => ((x (y 0) (y 1) : ℝ) : EReal)) (hO : DXO = fun y => ((dxo (y 0) (y 1) : ℝ) : EReal))
  (hG : G = fun y => ((g (y 1) : ℝ) : EReal)) (hS : SC = fun y => ((sc (y 1) : ℝ) : EReal))
  (hD : DH = fun y => ((dh (y 0) (y 1) : ℝ) : EReal))

/-- The block of the modulated row's gradient: two products. -/
theorem dh_block {da db : Fin 256 → Fin 2816 → ℝ} {wg wu : Fin 1024 → Fin 2816 → ℝ} {DA DB : FVec Ideal S256x2816 .bf16}
    {WG WU : FVec Ideal S1024x2816 .bf16} (hA : DA = fun y => ((da (y 0) (y 1) : ℝ) : EReal)) (hB : DB = fun y => ((db (y 0) (y 1) : ℝ) : EReal))
    (hg : WG = fun y => ((wg (y 0) (y 1) : ℝ) : EReal)) (hu : WU = fun y => ((wu (y 0) (y 1) : ℝ) : EReal)) :
    k0_pay2 (F := Ideal) DA WG DB WU
      = fun y => ((∑ k, da (y 0) k * wg (y 1) k + ∑ k, db (y 0) k * wu (y 1) k : ℝ) : EReal) := by
  funext y
  idx_vars y
  pointwise [k0_pay2, hA, hB, hg, hu]
  simp only [ring_lift, sum_lift]

include hX hG hS hD

include hO in
/-- The block of the row's gradient. -/
theorem dx_block (a : Fin 256) (b : Fin 1024) :
    k0_pay1 (F := Ideal) (k0_pay4 X) (k0_pay5 X) (k0_pay14 DXO) (k0_pay15 DH SC G) (k0_pay16 DH (k0_pay5 X) SC G)
        (Scalar.ofBits .f32 0x44800000#32) (ix2 a b)
      = ((dxo a b + rinv 1024 (x a) * (dh a b * (1 + sc b) * g b - x a b * rinv 1024 (x a)
        * ((∑ k, dh a k * (1 + sc k) * g k * (x a k * rinv 1024 (x a))) / 1024)) : ℝ) : EReal) := by
  pointwise [k0_pay1, k0_pay3, k0_pay4, k0_pay5, k0_pay11, k0_pay14, k0_pay15, k0_pay16, hX, hO, hG, hS, hD, consts]
  simp only [ring_lift, sum_lift, norm_lift]

/-- The block's part of the scale's gradient. -/
theorem dsc_block (y : S1x1024.Idx) :
    k0_pay9 (F := Ideal) DH (k0_pay6 X G) y = ((∑ a, dh a (y 1) * (x a (y 1) * rinv 1024 (x a) * g (y 1)) : ℝ) : EReal) := by
  idx_vars y
  pointwise [k0_pay3, k0_pay4, k0_pay5, k0_pay6, k0_pay9, hX, hG, hD, consts]
  simp only [ring_lift, sum_lift, norm_lift]

/-- The block's part of the gain's gradient. -/
theorem dg_block (y : S1x1024.Idx) :
    k0_pay12 (F := Ideal) DH (k0_pay5 X) SC y = ((∑ a, dh a (y 1) * (1 + sc (y 1)) * (x a (y 1) * rinv 1024 (x a)) : ℝ) : EReal) := by
  idx_vars y
  pointwise [k0_pay3, k0_pay4, k0_pay5, k0_pay11, k0_pay12, hX, hS, hD, consts]
  simp only [ring_lift, sum_lift, norm_lift]

end Block

/-- The block's part of the shift's gradient. -/
theorem dsh_block {dh : Fin 256 → Fin 1024 → ℝ} {DA DB : FVec Ideal S256x2816 .bf16} {WG WU : FVec Ideal S1024x2816 .bf16}
    (hD : k0_pay2 (F := Ideal) DA WG DB WU = fun y => ((dh (y 0) (y 1) : ℝ) : EReal)) (y : S1x1024.Idx) :
    k0_pay7 (F := Ideal) DA WG DB WU y = ((∑ a, dh a (y 1) : ℝ) : EReal) := by
  unfold k0_pay7
  rw [hD]
  idx_vars y
  pointwise
  simp only [ring_lift, sum_lift]

/-! ### What the arrays hold -/

/-- The windows' block indices. -/
theorem idx : ∀ p : Fin cfg0.N, win0_0.index p = ![p.val, 0] ∧ win0_1.index p = ![p.val, 0] ∧ win0_2.index p = ![p.val, 0]
    ∧ win0_3.index p = ![p.val, 0] ∧ win0_4.index p = ![0, 0] ∧ win0_5.index p = ![0, 0] ∧ win0_6.index p = ![0, 0]
    ∧ win0_7.index p = ![0, 0] ∧ win0_8.index p = ![p.val, 0] ∧ win0_9.index p = ![0, 0] ∧ win0_10.index p = ![0, 0]
    ∧ win0_11.index p = ![0, 0] :=
  (by decide +kernel : ∀ p : Fin grid0.N, _)

theorem points : cfg0.N = 64 := N_0

theorem lt64 (p : Fin cfg0.N) : p.val < 64 := p.isLt.trans_eq points

/-- Row `a` of the block at point `p`. -/
def row (p : Fin cfg0.N) (a : Fin 256) : Fin 16384 := ⟨p.val * 256 + a.val, by have := lt64 p; omega⟩

/-- A sum over the points and a block's rows is the sum over all rows. -/
theorem sum_rows (f : Fin 16384 → ℝ) : ∑ p, ∑ a, f (row p a) = ∑ i, f i :=
  (Fin.sum_univ_tiles cfg0.N 256 (by rw [points]) f).symm

variable (m : (ℓ : Loc nD τ sig) → Buf (Elt Ideal) ℓ) (c : Dev nD)

/-- The arguments' buffers hold the real arrays `a`. -/
structure Holds (a : FfnInMath.Args) : Prop where
  x : m ((c.tc : Thread nD τ).loc main_arg0) = fun i => ((a.x (i 1) (i 2) : ℝ) : EReal)
  g : m ((c.tc : Thread nD τ).loc main_arg1) = fun i => ((a.g (i 0) : ℝ) : EReal)
  sc : m ((c.tc : Thread nD τ).loc main_arg2) = fun i => ((a.sc (i 2) : ℝ) : EReal)
  wg : m ((c.tc : Thread nD τ).loc main_arg4) = fun i => ((a.wg (i 0) (i 1) : ℝ) : EReal)
  wu : m ((c.tc : Thread nD τ).loc main_arg5) = fun i => ((a.wu (i 0) (i 1) : ℝ) : EReal)
  dxo : m ((c.tc : Thread nD τ).loc main_arg6) = fun i => ((a.dxo (i 1) (i 2) : ℝ) : EReal)
  da : m ((c.tc : Thread nD τ).loc main_arg7) = fun i => ((a.da (i 0) (i 1) : ℝ) : EReal)
  db : m ((c.tc : Thread nD τ).loc main_arg8) = fun i => ((a.db (i 0) (i 1) : ℝ) : EReal)

variable {a : FfnInMath.Args} (h : Holds m c a)

include h

theorem dxo_read (p : Fin cfg0.N) : iblk m c 0 p = fun y : S256x1024.Idx => ((a.dxo (row p (y 0)) (y 1) : ℝ) : EReal) := by
  funext y
  blk_simp [iblk, idx p]
  entry_read
  pointwise [h.dxo]
  refine congrArg Real.toEReal (congrArg₂ a.dxo (Fin.ext ?_) (Fin.ext ?_)) <;> blk_simp [idx p, row]

theorem x_read (p : Fin cfg0.N) : iblk m c 1 p = fun y : S256x1024.Idx => ((a.x (row p (y 0)) (y 1) : ℝ) : EReal) := by
  funext y
  blk_simp [iblk, idx p]
  entry_read
  pointwise [h.x]
  refine congrArg Real.toEReal (congrArg₂ a.x (Fin.ext ?_) (Fin.ext ?_)) <;> blk_simp [idx p, row]

theorem da_read (p : Fin cfg0.N) : iblk m c 2 p = fun y : S256x2816.Idx => ((a.da (row p (y 0)) (y 1) : ℝ) : EReal) := by
  funext y
  blk_simp [iblk, idx p]
  entry_read
  pointwise [h.da]
  refine congrArg Real.toEReal (congrArg₂ a.da (Fin.ext ?_) (Fin.ext ?_)) <;> blk_simp [idx p, row]

theorem db_read (p : Fin cfg0.N) : iblk m c 3 p = fun y : S256x2816.Idx => ((a.db (row p (y 0)) (y 1) : ℝ) : EReal) := by
  funext y
  blk_simp [iblk, idx p]
  entry_read
  pointwise [h.db]
  refine congrArg Real.toEReal (congrArg₂ a.db (Fin.ext ?_) (Fin.ext ?_)) <;> blk_simp [idx p, row]

theorem g_read (p : Fin cfg0.N) : iblk m c 4 p = fun y : S1x1024.Idx => ((a.g (y 1) : ℝ) : EReal) := by
  funext y
  blk_simp [iblk, idx p]
  entry_read
  pointwise [h.g]
  refine congrArg Real.toEReal (congrArg a.g (Fin.ext ?_)) <;> blk_simp [idx p]

theorem sc_read (p : Fin cfg0.N) : iblk m c 5 p = fun y : S1x1024.Idx => ((a.sc (y 1) : ℝ) : EReal) := by
  funext y
  blk_simp [iblk, idx p]
  entry_read
  pointwise [h.sc]
  refine congrArg Real.toEReal (congrArg a.sc (Fin.ext ?_)) <;> blk_simp [idx p]

theorem wg_read (p : Fin cfg0.N) : iblk m c 6 p = fun y : S1024x2816.Idx => ((a.wg (y 0) (y 1) : ℝ) : EReal) := by
  funext y
  blk_simp [iblk, idx p]
  entry_read
  pointwise [h.wg]
  refine congrArg Real.toEReal (congrArg₂ a.wg (Fin.ext ?_) (Fin.ext ?_)) <;> blk_simp [idx p]

theorem wu_read (p : Fin cfg0.N) : iblk m c 7 p = fun y : S1024x2816.Idx => ((a.wu (y 0) (y 1) : ℝ) : EReal) := by
  funext y
  blk_simp [iblk, idx p]
  entry_read
  pointwise [h.wu]
  refine congrArg Real.toEReal (congrArg₂ a.wu (Fin.ext ?_) (Fin.ext ?_)) <;> blk_simp [idx p]

/-- The block of the modulated row's gradient at a point. -/
theorem dh_read (p : Fin cfg0.N) : k0_pay2 (F := Ideal) (iblk m c 2 p) (iblk m c 6 p) (iblk m c 3 p) (iblk m c 7 p)
    = fun y : S256x1024.Idx => ((FfnInMath.dh a (row p (y 0)) (y 1) : ℝ) : EReal) :=
  dh_block (da := fun i => a.da (row p i)) (db := fun i => a.db (row p i)) (da_read m c h p) (db_read m c h p) (wg_read m c h p)
    (wu_read m c h p)

/-- The row's gradient, block by block. -/
theorem final_dx : (dats m 0 c).arrAt 8 cfg0.N = fun i : S16384x1024.Idx => ((FfnInMath.dx a (i 0) (i 1) : ℝ) : EReal) := by
  refine (dats m 0 c).arrAt_eq_of_covers 8 _ (by decide +kernel) fun p hf y => ?_
  have hp := lt64 p
  have point := dx_block (x := fun i => a.x (row p i)) (dxo := fun i => a.dxo (row p i)) (dh := fun i => FfnInMath.dh a (row p i))
    (x_read m c h p) (dxo_read m c h p) (g_read m c h p) (sc_read m c h p) (dh_read m c h p) (y 0) (y 1)
  rw [← eq_ix2 y] at point
  blk_simp
  rw [after0_8]
  have place : ((FfnInMath.dx a (row p (y 0)) (y 1) : ℝ) : EReal)
      = ((FfnInMath.dx a (((View.whole main_v6_0).slice (win0_8.rect p)).emb y 0)
        (((View.whole main_v6_0).slice (win0_8.rect p)).emb y 1) : ℝ) : EReal) := by
    refine congrArg Real.toEReal (congrArg₂ (FfnInMath.dx a) (Fin.ext ?_) (Fin.ext ?_)) <;> blk_simp [idx p, row]
  refine Eq.trans ?_ place
  by_cases h0 : p.val % 64 = 0
  · rw [outsAt0_A m c p h0 (by omega) h0 (by omega) h0 (by omega)]
    frame_out
    exact point
  · rw [outsAt0_B m c p h0 (by omega) h0 (by omega) h0 (by omega)]
    frame_out
    exact point

/-- The shift's gradient, summed over the points. -/
theorem final_dsh : (dats m 0 c).arrAt 9 cfg0.N = fun i : S1x1024.Idx => ((FfnInMath.dsh a (i 1) : ℝ) : EReal) := by
  refine (dats m 0 c).arrAt_eq_of_covers 9 _ (by decide +kernel) fun p hf y => ?_
  have hp := (flush0_9 p).mp hf
  blk_simp
  rw [after0_9]
  have term (p : Fin cfg0.N) (y : S1x1024.Idx) := dsh_block (dh := fun i => FfnInMath.dh a (row p i)) (dh_read m c h p) y
  refine (acc_lift (N := cfg0.N) (fun n h => (outsAt0 m c n h).2.1)
    (fun p y => ∑ i, FfnInMath.dh a (row p i) (y 1))
    (fun p h0 y => ?_) (fun p h0 y => ?_) p (by simp only [points]; have := lt64 p; omega) y).trans ?_
  · simp only [points] at h0
    rw [outsAt0_A m c p h0 (by have := lt64 p; omega) h0 (by have := lt64 p; omega) h0 (by have := lt64 p; omega)]
    frame_out
    exact term p y
  · simp only [points] at h0
    rw [outsAt0_B m c p h0 (by omega) h0 (by omega) h0 (by omega)]
    frame_out
    pointwise [k0_pay8]
    exact congrArg _ (term p _)
  · refine congrArg Real.toEReal ((sum_rows fun i => FfnInMath.dh a i (y 1)).trans ?_)
    show FfnInMath.dsh a (y 1) = _
    refine congrArg (FfnInMath.dsh a) (Fin.ext ?_)
    blk_simp [idx p]

/-- The scale's gradient, summed over the points. -/
theorem final_dsc : (dats m 0 c).arrAt 10 cfg0.N = fun i : S1x1024.Idx => ((FfnInMath.dsc a (i 1) : ℝ) : EReal) := by
  refine (dats m 0 c).arrAt_eq_of_covers 10 _ (by decide +kernel) fun p hf y => ?_
  have hp := (flush0_10 p).mp hf
  blk_simp
  rw [after0_10]
  have term (p : Fin cfg0.N) (y : S1x1024.Idx) := dsc_block (x := fun i => a.x (row p i)) (dh := fun i => FfnInMath.dh a (row p i)) (x_read m c h p)
    (g_read m c h p) (sc_read m c h p) (dh_read m c h p) y
  refine (acc_lift (N := cfg0.N) (fun n h => (outsAt0 m c n h).2.2.1)
    (fun p y => ∑ i, FfnInMath.dh a (row p i) (y 1) * (a.x (row p i) (y 1) * rinv 1024 (a.x (row p i)) * a.g (y 1)))
    (fun p h0 y => ?_) (fun p h0 y => ?_) p (by simp only [points]; have := lt64 p; omega) y).trans ?_
  · simp only [points] at h0
    rw [outsAt0_A m c p h0 (by have := lt64 p; omega) h0 (by have := lt64 p; omega) h0 (by have := lt64 p; omega)]
    frame_out
    exact term p y
  · simp only [points] at h0
    rw [outsAt0_B m c p h0 (by omega) h0 (by omega) h0 (by omega)]
    frame_out
    pointwise [k0_pay10]
    exact congrArg _ (term p _)
  · refine congrArg Real.toEReal ((sum_rows fun i => FfnInMath.dh a i (y 1) * (a.x i (y 1) * rinv 1024 (a.x i) * a.g (y 1))).trans ?_)
    show FfnInMath.dsc a (y 1) = _
    refine congrArg (FfnInMath.dsc a) (Fin.ext ?_)
    blk_simp [idx p]

/-- The gain's gradient, summed over the points. -/
theorem final_dg : (dats m 0 c).arrAt 11 cfg0.N = fun i : S1x1024.Idx => ((FfnInMath.dg a (i 1) : ℝ) : EReal) := by
  refine (dats m 0 c).arrAt_eq_of_covers 11 _ (by decide +kernel) fun p hf y => ?_
  have hp := (flush0_11 p).mp hf
  blk_simp
  rw [after0_11]
  have term (p : Fin cfg0.N) (y : S1x1024.Idx) := dg_block (x := fun i => a.x (row p i)) (dh := fun i => FfnInMath.dh a (row p i)) (x_read m c h p)
    (g_read m c h p) (sc_read m c h p) (dh_read m c h p) y
  refine (acc_lift (N := cfg0.N) (fun n h => (outsAt0 m c n h).2.2.2)
    (fun p y => ∑ i, FfnInMath.dh a (row p i) (y 1) * (1 + a.sc (y 1)) * (a.x (row p i) (y 1) * rinv 1024 (a.x (row p i))))
    (fun p h0 y => ?_) (fun p h0 y => ?_) p (by simp only [points]; have := lt64 p; omega) y).trans ?_
  · simp only [points] at h0
    rw [outsAt0_A m c p h0 (by have := lt64 p; omega) h0 (by have := lt64 p; omega) h0 (by have := lt64 p; omega)]
    frame_out
    exact term p y
  · simp only [points] at h0
    rw [outsAt0_B m c p h0 (by omega) h0 (by omega) h0 (by omega)]
    frame_out
    pointwise [k0_pay13]
    exact congrArg _ (term p _)
  · refine congrArg Real.toEReal ((sum_rows fun i => FfnInMath.dh a i (y 1) * (1 + a.sc (y 1)) * (a.x i (y 1) * rinv 1024 (a.x i))).trans ?_)
    show FfnInMath.dg a (y 1) = _
    refine congrArg (FfnInMath.dg a) (Fin.ext ?_)
    blk_simp [idx p]

omit h in
/-- What the kernel's run leaves in its four results: the gradients of the row, the shift, the scale and the gain. -/
theorem results (a : Dev nD → FfnInMath.Args) (h : ∀ c : Dev nD, Holds m c (a c)) (ρ : Dev nD → PrngReg) :
    θ_run defs (onTc (τ := τ) (main (F := Ideal))) ⟨m, fun _ => 0, ρ⟩ fun r => ∀ c : Dev nD,
      r.2.mem ((c.tc : Thread nD τ).loc main_v6_0) = (fun i => ((FfnInMath.dx (a c) (i 0) (i 1) : ℝ) : EReal))
      ∧ r.2.mem ((c.tc : Thread nD τ).loc main_v6_1) = (fun i => ((FfnInMath.dsh (a c) (i 1) : ℝ) : EReal))
      ∧ r.2.mem ((c.tc : Thread nD τ).loc main_v6_2) = (fun i => ((FfnInMath.dsc (a c) (i 1) : ℝ) : EReal))
      ∧ r.2.mem ((c.tc : Thread nD τ).loc main_v6_3) = (fun i => ((FfnInMath.dg (a c) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r hr c => ⟨(hr c).1.trans (final_dx m c (h c)), (hr c).2.1.trans (final_dsh m c (h c)),
    (hr c).2.2.1.trans (final_dsc m c (h c)), (hr c).2.2.2.1.trans (final_dg m c (h c)), (hr c).2.2.2.2⟩) (run_blocks m ρ)

end Cert.FfnInIdeal.Value

end
-- ==== Proof.FfnInValue.lean ====
/- The value claim of the feed-forward block's input half: on finite arguments the kernel and the reference end with the
   same real arrays. -/
module

public import proofs.«01_k».proof.Defs
public import proofs.«01_k».proof.Proof.Gen.Pre_ffn_in_finite
public import proofs.«01_k».proof.Proof.FfnInRef
public import proofs.«01_k».proof.Proof.FfnInKernel

@[expose] public section

set_option maxRecDepth 16384

noncomputable section

namespace Cert.FfnInValue

open Idealize.ShloMosaic Idealize.ShloMosaic.TcCoe Idealize.SL.Sem Cert.Lift

variable (m : (ℓ : Loc FfnInIdeal.nD FfnInIdeal.τ FfnInIdeal.sig) → Buf (Elt Ideal) ℓ) (c : Dev FfnInIdeal.nD)

/-- The real parts of the arguments. -/
def args : FfnInMath.Args where
  x := re3 (m ((c.tc : Thread FfnInIdeal.nD FfnInIdeal.τ).loc FfnInIdeal.main_arg0))
  g := re1 (m ((c.tc : Thread FfnInIdeal.nD FfnInIdeal.τ).loc FfnInIdeal.main_arg1))
  sc := re3 (m ((c.tc : Thread FfnInIdeal.nD FfnInIdeal.τ).loc FfnInIdeal.main_arg2)) 0
  wg := re2 (φ := .f32) (m ((c.tc : Thread FfnInIdeal.nD FfnInIdeal.τ).loc FfnInIdeal.main_arg4))
  wu := re2 (φ := .f32) (m ((c.tc : Thread FfnInIdeal.nD FfnInIdeal.τ).loc FfnInIdeal.main_arg5))
  dxo := re3 (m ((c.tc : Thread FfnInIdeal.nD FfnInIdeal.τ).loc FfnInIdeal.main_arg6))
  da := re2 (φ := .bf16) (m ((c.tc : Thread FfnInIdeal.nD FfnInIdeal.τ).loc FfnInIdeal.main_arg7))
  db := re2 (φ := .bf16) (m ((c.tc : Thread FfnInIdeal.nD FfnInIdeal.τ).loc FfnInIdeal.main_arg8))

omit m c in
/-- The printed precondition says that every argument is the array of its real parts. -/
theorem real_of_pre (a0 a6 : FVec Ideal ⟨3, ![1, 16384, 1024]⟩ .f32) (a1 : FVec Ideal ⟨1, ![1024]⟩ .f32)
    (a2 a3 : FVec Ideal ⟨3, ![1, 1, 1024]⟩ .f32) (a4 a5 : FVec Ideal ⟨2, ![1024, 2816]⟩ .f32)
    (a7 a8 : FVec Ideal ⟨2, ![16384, 2816]⟩ .bf16)
    (h : Cert.Pre_ffn_in_finite.fn a0 a1 a2 a3 a4 a5 a6 a7 a8 = fun _ => 1#1) :
    (a0 = fun i => ((re3 a0 (i 1) (i 2) : ℝ) : EReal)) ∧ (a1 = fun i => ((re1 a1 (i 0) : ℝ) : EReal))
      ∧ (a2 = fun i => ((re3 a2 0 (i 2) : ℝ) : EReal)) ∧ (a4 = fun i => ((re2 a4 (i 0) (i 1) : ℝ) : EReal))
      ∧ (a5 = fun i => ((re2 a5 (i 0) (i 1) : ℝ) : EReal)) ∧ (a6 = fun i => ((re3 a6 (i 1) (i 2) : ℝ) : EReal))
      ∧ (a7 = fun i => ((re2 a7 (i 0) (i 1) : ℝ) : EReal)) ∧ (a8 = fun i => ((re2 a8 (i 0) (i 1) : ℝ) : EReal)) := by
  obtain ⟨h, h8⟩ := both h; obtain ⟨h, h7⟩ := both h; obtain ⟨h, h6⟩ := both h; obtain ⟨h, h5⟩ := both h
  obtain ⟨h, h4⟩ := both h; obtain ⟨h, h2⟩ := both h; obtain ⟨h0, h1⟩ := both h
  exact ⟨real3 (real_of_all h0), real1 (real_of_all h1), realRow (real_of_all h2), real2 (real_of_all h4),
    real2 (real_of_all h5), real3 (real_of_all h6), real2 (real_of_all16 h7), real2 (real_of_all16 h8)⟩

/-- So the arguments' buffers hold their real parts. -/
theorem holds (h : Cert.Pre_FfnInIdeal_ffn_in_finite m) : FfnInIdeal.Value.Holds m c (args m c) := by
  obtain ⟨h0, h1, h2, h4, h5, h6, h7, h8⟩ := real_of_pre _ _ _ _ _ _ _ _ _ (h c)
  exact ⟨h0, h1, h2, h4, h5, h6, h7, h8⟩

/-- The value claim. -/
theorem algebraic : Cert.algebraic_FfnInIdeal_FfnInRefIdeal_pre_ffn_in_finite := by
  intro m ρ m' ρ' hpre hagree
  have hr := fun c => holds m c hpre
  have hs : ∀ c, FfnInRefIdeal.Value.Holds m' c (args m c) := fun c => by
    obtain ⟨e0, e1, e2, e3, e4, e5, e6, e7, e8⟩ := hagree c
    exact ⟨e0.trans (hr c).x, e1.trans (hr c).g, e2.trans (hr c).sc, e4.trans (hr c).wg, e5.trans (hr c).wu, e6.trans (hr c).dxo,
      e7.trans (hr c).da, e8.trans (hr c).db⟩
  exact ⟨_, _, _, _, FfnInIdeal.Value.results m _ hr ρ, FfnInRefIdeal.Value.results m' _ hs ρ'⟩

end Cert.FfnInValue

end
-- ==== Proof.InMath.lean ====
/- The arguments of the gradient of the modulated norm in front of the mixers, as real arrays. -/
module

public import proofs.«01_k».proof.Proof.ModMath

@[expose] public section

noncomputable section

namespace Cert.InMath

/-- The rows, the norm's gain, the scale, the weight of the six projections, the gradient already in hand, and the six
    projections' gradients. -/
structure Args where
  x : Fin 16384 → Fin 1024 → ℝ
  g : Fin 1024 → ℝ
  sc : Fin 1024 → ℝ
  w : Fin 1024 → Fin 2976 → ℝ
  dxm : Fin 16384 → Fin 1024 → ℝ
  du : Fin 16384 → Fin 512 → ℝ
  dq : Fin 16384 → Fin 256 → ℝ
  dk : Fin 16384 → Fin 128 → ℝ
  dr : Fin 16384 → Fin 32 → ℝ
  da : Fin 16384 → Fin 1024 → ℝ
  db : Fin 16384 → Fin 1024 → ℝ

variable (a : Args)

/-- The columns of the weight from `o` on. -/
def cols {n : ℕ} (o : ℕ) (h : o + n ≤ 2976) (j : Fin 1024) (k : Fin n) : ℝ := a.w j ⟨o + k.val, by omega⟩

/-- The weight's columns of the six projections. -/
def wu : Fin 1024 → Fin 512 → ℝ := cols a 0 (by omega)
def wq : Fin 1024 → Fin 256 → ℝ := cols a 512 (by omega)
def wk : Fin 1024 → Fin 128 → ℝ := cols a 768 (by omega)
def wr : Fin 1024 → Fin 32 → ℝ := cols a 896 (by omega)
def wa : Fin 1024 → Fin 1024 → ℝ := cols a 928 (by omega)
def wb : Fin 1024 → Fin 1024 → ℝ := cols a 1952 (by omega)

/-- The gradient of the modulated row: the six products with the weight's columns. -/
def dh (i : Fin 16384) (j : Fin 1024) : ℝ :=
  ∑ k, a.du i k * cols a 0 (by omega) j k + ∑ k, a.dq i k * cols a 512 (by omega) j k + ∑ k, a.dk i k * cols a 768 (by omega) j k
    + ∑ k, a.dr i k * cols a 896 (by omega) j k + ∑ k, a.da i k * cols a 928 (by omega) j k
    + ∑ k, a.db i k * cols a 1952 (by omega) j k

def dx := ModMath.dx a.x a.g a.sc (dh a) a.dxm
def dsc := ModMath.dsc a.x a.g (dh a)
def dsh := ModMath.dsh (dh a)
def dg := ModMath.dg a.x a.sc (dh a)

/-- Two rows laid side by side. -/
def join {n m : ℕ} (f : Fin n → ℝ) (g : Fin m → ℝ) (x : Fin (n + m)) : ℝ := if h : x.val < n then f ⟨x.val, h⟩ else g ⟨x.val - n, by omega⟩

/-- Their product with a row. -/
theorem join_sum {n m : ℕ} (f : Fin n → ℝ) (g : Fin m → ℝ) (W : Fin (n + m) → ℝ) :
    ∑ x, join f g x * W x = ∑ k, f k * W ⟨k.val, by omega⟩ + ∑ k, g k * W ⟨n + k.val, by omega⟩ := by
  rw [Fin.sum_univ_add]
  refine congrArg₂ (· + ·) (Finset.sum_congr rfl fun k _ => ?_) (Finset.sum_congr rfl fun k _ => ?_)
  · rw [join, dif_pos (show (Fin.castAdd m k).val < n from k.isLt)]; rfl
  · rw [join, dif_neg (by simp)]
    exact congrArg₂ (· * ·) (congrArg g (Fin.ext (by simp))) rfl

/-- The six projections' gradients laid side by side. -/
def side (i : Fin 16384) : Fin 2976 → ℝ :=
  join (m := 2464) (a.du i) (join (m := 2208) (a.dq i) (join (m := 2080) (a.dk i) (join (m := 2048) (a.dr i) (join (a.da i) (a.db i)))))

/-- Their product with the weight is the six products. -/
theorem side_sum (i : Fin 16384) (j : Fin 1024) : ∑ k, side a i k * a.w j k = dh a i j := by
  refine (join_sum (m := 2464) _ _ _).trans ?_
  rw [dh, add_assoc, add_assoc, add_assoc, add_assoc]
  refine congrArg₂ (· + ·) (Finset.sum_congr rfl fun k _ => congrArg (a.du i k * a.w j ·) (Fin.ext (Nat.zero_add _).symm)) ?_
  refine (join_sum (m := 2208) _ _ _).trans (congrArg₂ (· + ·) rfl ?_)
  refine (join_sum (m := 2080) _ _ _).trans (congrArg₂ (· + ·) (Finset.sum_congr rfl fun k _ => congrArg (a.dk i k * a.w j ·) (Fin.ext (by simp only; omega))) ?_)
  refine (join_sum (m := 2048) _ _ _).trans (congrArg₂ (· + ·) (Finset.sum_congr rfl fun k _ => congrArg (a.dr i k * a.w j ·) (Fin.ext (by simp only; omega))) ?_)
  exact (join_sum _ _ _).trans (congrArg₂ (· + ·) (Finset.sum_congr rfl fun k _ => congrArg (a.da i k * a.w j ·) (Fin.ext (by simp only; omega)))
    (Finset.sum_congr rfl fun k _ => congrArg (a.db i k * a.w j ·) (Fin.ext (by simp only; omega))))

/-- A row of 32 at the lanes 64 to 95 of a register of 128, zero elsewhere. -/
def lanes (f : Fin 32 → ℝ) (k : Fin 128) : ℝ := if h : 64 ≤ k.val ∧ k.val < 96 then f ⟨k.val - 64, by omega⟩ else 0

/-- The product of two such registers is the product of the rows. -/
theorem lanes_sum (f g : Fin 32 → ℝ) : ∑ k, lanes f k * lanes g k = ∑ k, f k * g k := by
  refine (Finset.sum_of_injOn (fun k : Fin 32 => (⟨k.val + 64, by omega⟩ : Fin 128)) (fun x _ y _ e => Fin.ext ?_) (fun _ _ => Finset.mem_univ _)
    (fun k _ hk => ?_) (fun k _ => ?_)).symm
  · have := congrArg Fin.val e; simp only at this; omega
  · have : ¬(64 ≤ k.val ∧ k.val < 96) := fun h => hk ⟨⟨k.val - 64, by omega⟩, Finset.mem_coe.2 (Finset.mem_univ _), Fin.ext (by simp only; omega)⟩
    rw [lanes, dif_neg this, zero_mul]
  · have : 64 ≤ k.val + 64 ∧ k.val + 64 < 96 := ⟨by omega, by omega⟩
    rw [lanes, lanes, dif_pos this, dif_pos this]
    have e : (⟨k.val + 64 - 64, by omega⟩ : Fin 32) = k := Fin.ext (by simp)
    simp only [Nat.add_sub_cancel, Fin.eta]

/-- The rotary columns' gradient and their weight, each row in its register. -/
def drLanes (i : Fin 16384) : Fin 128 → ℝ := lanes (a.dr i)
def wrLanes (j : Fin 1024) : Fin 128 → ℝ := lanes (wr a j)

/-- With the rotary columns in their registers the six products are the same. -/
theorem dh_lanes (i : Fin 16384) (j : Fin 1024) :
    ∑ k, a.du i k * wu a j k + ∑ k, a.dq i k * wq a j k + ∑ k, a.dk i k * wk a j k + ∑ k, drLanes a i k * wrLanes a j k
      + ∑ k, a.da i k * wa a j k + ∑ k, a.db i k * wb a j k = dh a i j := by
  unfold drLanes wrLanes
  rw [lanes_sum]
  rfl

end Cert.InMath

end
-- ==== Proof.InRef.lean ====
/- The reference of the modulated norm in front of the mixers: on real arguments its four results are the real gradients. -/
module

public import proofs.«01_k».proof.Proof.Gen.InRefIdeal.Run
public import proofs.«01_k».proof.Proof.InMath
public import proofs.«01_k».proof.Proof.NormHost
public import Idealize.ShloMosaic.Lib.ValueLayout

@[expose] public section

set_option maxRecDepth 16384

noncomputable section

namespace Cert.InRefIdeal.Value

open Cert.InRefIdeal Cert.InRefIdeal.Gen Idealize.ShloMosaic Idealize.ShloMosaic.TcCoe Idealize.SL.Sem Cert.Lift

/-- Six arrays laid side by side, times the weight. -/
theorem side_dot (U : S1x16384x512.Idx → ℝ) (Q : S1x16384x256.Idx → ℝ) (K : S1x16384x128.Idx → ℝ) (R : S1x16384x32.Idx → ℝ)
    (A B : S1x16384x1024.Idx → ℝ) (w : S1024x2976.Idx → ℝ) (y : S1x16384x1024.Idx) :
    Host.dotGeneral (F := Ideal) (φ₁ := .f32) (φ₂ := .f32) dot_S1x16384x2976_S1024x2976_S1x16384x1024_2_1_01_0_n_n none
      (concatenate S1x16384x2976 2 [⟨S1x16384x512, fun i => ((U i : ℝ) : EReal)⟩, ⟨S1x16384x256, fun i => ((Q i : ℝ) : EReal)⟩, ⟨S1x16384x128, fun i => ((K i : ℝ) : EReal)⟩, ⟨S1x16384x32, fun i => ((R i : ℝ) : EReal)⟩,
        ⟨S1x16384x1024, fun i => ((A i : ℝ) : EReal)⟩, ⟨S1x16384x1024, fun i => ((B i : ℝ) : EReal)⟩]
        concatenates_S1x16384x512_S1x16384x256_S1x16384x128_S1x16384x32_S1x16384x1024_S1x16384x1024_S1x16384x2976_d2)
      (fun i => ((w i : ℝ) : EReal)) y
      = ((∑ k, InMath.join (m := 2464) (fun k => U (ix3 0 (y 1) k)) (InMath.join (m := 2208) (fun k => Q (ix3 0 (y 1) k)) (InMath.join (m := 2080) (fun k => K (ix3 0 (y 1) k))
          (InMath.join (m := 2048) (fun k => R (ix3 0 (y 1) k)) (InMath.join (fun k => A (ix3 0 (y 1) k)) (fun k => B (ix3 0 (y 1) k)))))) k
        * w (ix2 (y 2) k) : ℝ) : EReal) := by
  idx_vars y
  generalize hr : ((∑ k : Fin 2976, _ : ℝ) : EReal) = r
  pointwise
  rw [← hr]
  refine Eq.trans (Finset.sum_congr rfl fun k _ => (congrArg (· * _) ?_).trans (EReal.coe_mul _ _).symm) (sum_lift _)
  unfold InMath.join
  split_ifs <;> rfl

/-- The six projections' gradients, cast, given their batch axis and laid side by side, times the weight. -/
theorem dot_eq (a : InMath.Args) {U : FVec Ideal S16384x512 .bf16} {Q : FVec Ideal S16384x256 .bf16} {K : FVec Ideal S16384x128 .bf16}
    {R : FVec Ideal S16384x32 .bf16} {A B : FVec Ideal S16384x1024 .bf16} {W : FVec Ideal S1024x2976 .f32}
    (hU : U = fun i => ((a.du (i 0) (i 1) : ℝ) : EReal)) (hQ : Q = fun i => ((a.dq (i 0) (i 1) : ℝ) : EReal))
    (hK : K = fun i => ((a.dk (i 0) (i 1) : ℝ) : EReal)) (hR : R = fun i => ((a.dr (i 0) (i 1) : ℝ) : EReal))
    (hA : A = fun i => ((a.da (i 0) (i 1) : ℝ) : EReal)) (hB : B = fun i => ((a.db (i 0) (i 1) : ℝ) : EReal))
    (hW : W = fun i => ((a.w (i 0) (i 1) : ℝ) : EReal)) :
    Host.dotGeneral (F := Ideal) (φ₁ := .f32) (φ₂ := .f32) dot_S1x16384x2976_S1024x2976_S1x16384x1024_2_1_01_0_n_n none
      (concatenate S1x16384x2976 2 [⟨S1x16384x512, (shapeCast S1x16384x512 (extf .f32 U bitsLt_bf16_f32) shapeCasts_S16384x512_S1x16384x512)⟩,
        ⟨S1x16384x256, (shapeCast S1x16384x256 (extf .f32 Q bitsLt_bf16_f32) shapeCasts_S16384x256_S1x16384x256)⟩,
        ⟨S1x16384x128, (shapeCast S1x16384x128 (extf .f32 K bitsLt_bf16_f32) shapeCasts_S16384x128_S1x16384x128)⟩,
        ⟨S1x16384x32, (shapeCast S1x16384x32 (extf .f32 R bitsLt_bf16_f32) shapeCasts_S16384x32_S1x16384x32)⟩,
        ⟨S1x16384x1024, (shapeCast S1x16384x1024 (extf .f32 A bitsLt_bf16_f32) shapeCasts_S16384x1024_S1x16384x1024)⟩,
        ⟨S1x16384x1024, (shapeCast S1x16384x1024 (extf .f32 B bitsLt_bf16_f32) shapeCasts_S16384x1024_S1x16384x1024)⟩]
        concatenates_S1x16384x512_S1x16384x256_S1x16384x128_S1x16384x32_S1x16384x1024_S1x16384x1024_S1x16384x2976_d2) W
      = fun i => ((InMath.dh a (i 1) (i 2) : ℝ) : EReal) := by
  rw [NormHost.cast_eq hU, NormHost.cast_eq hQ, NormHost.cast_eq hK, NormHost.cast_eq hR, NormHost.cast_eq hA, NormHost.cast_eq hB, hW]
  funext y
  exact (side_dot (fun i => a.du (i 1) (i 2)) (fun i => a.dq (i 1) (i 2)) (fun i => a.dk (i 1) (i 2)) (fun i => a.dr (i 1) (i 2))
    (fun i => a.da (i 1) (i 2)) (fun i => a.db (i 1) (i 2)) (fun i => a.w (i 0) (i 1)) y).trans (congrArg Real.toEReal (InMath.side_sum a (y 1) (y 2)))

variable (m : (ℓ : Loc nD τ sig) → Buf (Elt Ideal) ℓ)

/-- The arguments' buffers hold the real arrays `a`. -/
structure Holds (c : Dev nD) (a : InMath.Args) : Prop where
  x : m ((c.tc : Thread nD τ).loc main_arg0) = fun i => ((a.x (i 1) (i 2) : ℝ) : EReal)
  g : m ((c.tc : Thread nD τ).loc main_arg1) = fun i => ((a.g (i 0) : ℝ) : EReal)
  sc : m ((c.tc : Thread nD τ).loc main_arg2) = fun i => ((a.sc (i 2) : ℝ) : EReal)
  w : m ((c.tc : Thread nD τ).loc main_arg3) = fun i => ((a.w (i 0) (i 1) : ℝ) : EReal)
  dxm : m ((c.tc : Thread nD τ).loc main_arg4) = fun i => ((a.dxm (i 1) (i 2) : ℝ) : EReal)
  du : m ((c.tc : Thread nD τ).loc main_arg5) = fun i => ((a.du (i 0) (i 1) : ℝ) : EReal)
  dq : m ((c.tc : Thread nD τ).loc main_arg6) = fun i => ((a.dq (i 0) (i 1) : ℝ) : EReal)
  dk : m ((c.tc : Thread nD τ).loc main_arg7) = fun i => ((a.dk (i 0) (i 1) : ℝ) : EReal)
  dr : m ((c.tc : Thread nD τ).loc main_arg8) = fun i => ((a.dr (i 0) (i 1) : ℝ) : EReal)
  da : m ((c.tc : Thread nD τ).loc main_arg9) = fun i => ((a.da (i 0) (i 1) : ℝ) : EReal)
  db : m ((c.tc : Thread nD τ).loc main_arg10) = fun i => ((a.db (i 0) (i 1) : ℝ) : EReal)

variable (a : Dev nD → InMath.Args) (h : ∀ c : Dev nD, Holds m c (a c))

include h

/-- The cotangent of the normed row. -/
theorem dy_eq (c : Dev nD) :
    mulf (F := Ideal) (φ := .f32) (mulf (fun i : S1x16384x1024.Idx => ((InMath.dh (a c) (i 1) (i 2) : ℝ) : EReal))
        (broadcastInDim S1x16384x1024 ![0, 1, 2] bcast_S1x1x1024_S1x16384x1024_0_1_2
          (addf (broadcastInDim S1x1x1024 ![] bcast_S_S1x1x1024 (constant S_ .f32 0x3F800000#32)) (m ((c.tc : Thread nD τ).loc main_arg2)))))
      (broadcastInDim S1x16384x1024 ![0, 1, 2] bcast_S1x1x1024_S1x16384x1024_0_1_2
        (broadcastInDim S1x1x1024 ![2] bcast_S1024_S1x1x1024_2 (m ((c.tc : Thread nD τ).loc main_arg1))))
    = fun i => ((InMath.dh (a c) (i 1) (i 2) * (1 + (a c).sc (i 2)) * (a c).g (i 2) : ℝ) : EReal) := by
  funext y
  rw [(h c).g, (h c).sc]
  idx_vars y
  pointwise
  simp only [ring_lift]

/-- The row's gradient. -/
theorem dx_eq (c : Dev nD) : res_main_v73 m c = fun i => ((InMath.dx (a c) (i 0) (i 1) : ℝ) : EReal) := by
  funext y
  unfold res_main_v73
  rw [dot_eq (a c) (h c).du (h c).dq (h c).dk (h c).dr (h c).da (h c).db (h c).w, dy_eq m a h c, NormHost.ms_eq (h c).x, NormHost.root_eq, NormHost.cube_eq,
    NormHost.dot_eq (y := fun i k => InMath.dh (a c) i k * (1 + (a c).sc k) * (a c).g k) (h c).x,
    NormHost.mean_eq (d := fun i => ∑ k, (a c).x i k * (InMath.dh (a c) i k * (1 + (a c).sc k) * (a c).g k))
      (r := fun i => rinv 1024 ((a c).x i) * (rinv 1024 ((a c).x i) * rinv 1024 ((a c).x i))), (h c).x, (h c).dxm]
  rw [eq_ix2 y]
  refine (Idealize.ShloMosaic.ValueIdx.shapeCast_1ab_ab_apply _ _ _ _).trans ?_
  pointwise
  simp only [ring_lift]
  exact congrArg _ (ModMath.chain_eq (a c).x (a c).g (a c).sc (InMath.dh (a c)) (a c).dxm _ _)

/-- What the reference's run leaves in its four results: the gradients of the row, the shift, the scale and the gain. -/
theorem results (ρ : Dev nD → PrngReg) :
    θ_run defs (onTc (τ := τ) (main (F := Ideal))) ⟨m, fun _ => 0, ρ⟩ fun r => ∀ c : Dev nD,
      r.2.mem ((c.tc : Thread nD τ).loc main_v73) = (fun i => ((InMath.dx (a c) (i 0) (i 1) : ℝ) : EReal))
      ∧ r.2.mem ((c.tc : Thread nD τ).loc main_v74) = (fun i => ((InMath.dsh (a c) (i 1) : ℝ) : EReal))
      ∧ r.2.mem ((c.tc : Thread nD τ).loc main_v75) = (fun i => ((InMath.dsc (a c) (i 1) : ℝ) : EReal))
      ∧ r.2.mem ((c.tc : Thread nD τ).loc main_v76) = (fun i => ((InMath.dg (a c) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r hr c => ⟨(hr c).1.trans (dx_eq m a h c), (hr c).2.1.trans ?_, (hr c).2.2.1.trans ?_,
    (hr c).2.2.2.1.trans ?_, (hr c).2.2.2.2⟩) (run m ρ)
  · clear hr
    rw [dot_eq (a c) (h c).du (h c).dq (h c).dk (h c).dr (h c).da (h c).db (h c).w]
    funext y
    idx_vars y
    pointwise [sum_unit_axes, sum_unit_rows, consts]
    simp only [ring_lift, sum_lift, norm_lift]
    rfl
  · clear hr
    rw [(h c).x, (h c).g, dot_eq (a c) (h c).du (h c).dq (h c).dk (h c).dr (h c).da (h c).db (h c).w]
    funext y
    idx_vars y
    pointwise [sum_unit_axes, sum_unit_rows, consts]
    simp only [ring_lift, sum_lift, norm_lift]
    exact congrArg _ (ModMath.dsc_eq (a c).x (a c).g (InMath.dh (a c)) _)
  · clear hr
    rw [(h c).x, (h c).sc, dot_eq (a c) (h c).du (h c).dq (h c).dk (h c).dr (h c).da (h c).db (h c).w]
    funext y
    idx_vars y
    pointwise [sum_unit_axes, sum_unit_rows, consts]
    simp only [ring_lift, sum_lift, norm_lift]
    exact congrArg _ (ModMath.dg_eq (a c).x (a c).sc (InMath.dh (a c)) _)

end Cert.InRefIdeal.Value

end
-- ==== Proof.InKernel.lean ====
/- The kernel of the modulated norm in front of the mixers: on real arguments its four result arrays are the real gradients. -/
module

public import proofs.«01_k».proof.Proof.Gen.InIdeal.Value
public import Idealize.ShloMosaic.Lib.Claim
public import proofs.«01_k».proof.Proof.InMath
public import Idealize.ShloMosaic.Lib.StableHlo.RunRead
public import Idealize.ShloMosaic.Lib.ValueLayout

@[expose] public section

set_option maxRecDepth 65536

noncomputable section

namespace Cert.InIdeal.Value

open Cert.InIdeal Cert.InIdeal.Gen Idealize.ShloMosaic Idealize.ShloMosaic.TcCoe Idealize.SL.Sem
open Idealize.ShloMosaic.Pipeline (Dat)
open Cert.Lift

/-! ### What one block computes -/

section Block

variable {x dxm dh : Fin 512 → Fin 1024 → ℝ} {g sc : Fin 1024 → ℝ} {X DXM DH : FVec Ideal S512x1024 .f32} {G SC : FVec Ideal S1x1024 .f32}
  (hX : X = fun y => ((x (y 0) (y 1) : ℝ) : EReal)) (hO : DXM = fun y => ((dxm (y 0) (y 1) : ℝ) : EReal))
  (hG : G = fun y => ((g (y 1) : ℝ) : EReal)) (hS : SC = fun y => ((sc (y 1) : ℝ) : EReal))
  (hD : DH = fun y => ((dh (y 0) (y 1) : ℝ) : EReal))

/-- A block's product with a weight. -/
theorem dot_512 {d : Fin 512 → Fin 512 → ℝ} {w : Fin 1024 → Fin 512 → ℝ} {D : FVec Ideal S512x512 .bf16} {W : FVec Ideal S1024x512 .bf16}
    (hD : D = fun y => ((d (y 0) (y 1) : ℝ) : EReal)) (hW : W = fun y => ((w (y 0) (y 1) : ℝ) : EReal)) :
    matmul (F := Ideal) dot_S512x512_S1024x512_S512x1024_1_1_0_0_n_n none D (shapeCast S1024x512 W shapeCasts_S1024x512_S1024x512)
      (constant S512x1024 .f32 0x00000000#32) = fun y => ((∑ k, d (y 0) k * w (y 1) k : ℝ) : EReal) := by
  funext y
  rw [hD, hW]
  idx_vars y
  pointwise
  simp only [ring_lift, sum_lift]

theorem dot_256 {d : Fin 512 → Fin 256 → ℝ} {w : Fin 1024 → Fin 256 → ℝ} {D : FVec Ideal S512x256 .bf16} {W : FVec Ideal S1024x256 .bf16}
    (hD : D = fun y => ((d (y 0) (y 1) : ℝ) : EReal)) (hW : W = fun y => ((w (y 0) (y 1) : ℝ) : EReal)) :
    matmul (F := Ideal) dot_S512x256_S1024x256_S512x1024_1_1_0_0_n_n none D (shapeCast S1024x256 W shapeCasts_S1024x256_S1024x256)
      (constant S512x1024 .f32 0x00000000#32) = fun y => ((∑ k, d (y 0) k * w (y 1) k : ℝ) : EReal) := by
  funext y
  rw [hD, hW]
  idx_vars y
  pointwise
  simp only [ring_lift, sum_lift]

theorem dot_128 {d : Fin 512 → Fin 128 → ℝ} {w : Fin 1024 → Fin 128 → ℝ} {D : FVec Ideal S512x128 .bf16} {W : FVec Ideal S1024x128 .bf16}
    (hD : D = fun y => ((d (y 0) (y 1) : ℝ) : EReal)) (hW : W = fun y => ((w (y 0) (y 1) : ℝ) : EReal)) :
    matmul (F := Ideal) dot_S512x128_S1024x128_S512x1024_1_1_0_0_n_n none D (shapeCast S1024x128 W shapeCasts_S1024x128_S1024x128)
      (constant S512x1024 .f32 0x00000000#32) = fun y => ((∑ k, d (y 0) k * w (y 1) k : ℝ) : EReal) := by
  funext y
  rw [hD, hW]
  idx_vars y
  pointwise
  simp only [ring_lift, sum_lift]

theorem dot_1024 {d : Fin 512 → Fin 1024 → ℝ} {w : Fin 1024 → Fin 1024 → ℝ} {D : FVec Ideal S512x1024 .bf16} {W : FVec Ideal S1024x1024 .bf16}
    (hD : D = fun y => ((d (y 0) (y 1) : ℝ) : EReal)) (hW : W = fun y => ((w (y 0) (y 1) : ℝ) : EReal)) :
    matmul (F := Ideal) dot_S512x1024_S1024x1024_S512x1024_1_1_0_0_n_n none D (shapeCast S1024x1024 W shapeCasts_S1024x1024_S1024x1024)
      (constant S512x1024 .f32 0x00000000#32) = fun y => ((∑ k, d (y 0) k * w (y 1) k : ℝ) : EReal) := by
  funext y
  rw [hD, hW]
  idx_vars y
  pointwise
  simp only [ring_lift, sum_lift]

/-- The sum of two blocks. -/
theorem add_lift {X Y : FVec Ideal S512x1024 .f32} {u v : S512x1024.Idx → ℝ} (hX : X = fun y => ((u y : ℝ) : EReal)) (hY : Y = fun y => ((v y : ℝ) : EReal)) :
    addf X Y = fun y => ((u y + v y : ℝ) : EReal) := by
  rw [hX, hY]
  funext y
  exact (EReal.coe_add _ _).symm

/-- A real block of the 16-bit format. -/
def block {n k : ℕ} (d : Fin n → Fin k → ℝ) : FVec Ideal ⟨2, ![n, k]⟩ .bf16 := fun y => ((d (y 0) (y 1) : ℝ) : EReal)

/-- The block of the modulated row's gradient: six products. -/
theorem dh_block {du : Fin 512 → Fin 512 → ℝ} {dq : Fin 512 → Fin 256 → ℝ} {dk dr : Fin 512 → Fin 128 → ℝ} {da db : Fin 512 → Fin 1024 → ℝ}
    {wu : Fin 1024 → Fin 512 → ℝ} {wq : Fin 1024 → Fin 256 → ℝ} {wk wr : Fin 1024 → Fin 128 → ℝ} {wa wb : Fin 1024 → Fin 1024 → ℝ}
    {DU : FVec Ideal S512x512 .bf16} {DQ : FVec Ideal S512x256 .bf16} {DK DR : FVec Ideal S512x128 .bf16} {DA DB : FVec Ideal S512x1024 .bf16}
    {WU : FVec Ideal S1024x512 .bf16} {WQ : FVec Ideal S1024x256 .bf16} {WK WR : FVec Ideal S1024x128 .bf16} {WA WB : FVec Ideal S1024x1024 .bf16}
    (hdu : DU = block du) (hwu : WU = block wu)
    (hdq : DQ = block dq) (hwq : WQ = block wq)
    (hdk : DK = block dk) (hwk : WK = block wk)
    (hdr : DR = block dr) (hwr : WR = block wr)
    (hda : DA = block da) (hwa : WA = block wa)
    (hdb : DB = block db) (hwb : WB = block wb) :
    k0_pay7 (F := Ideal) (k0_pay5 DU WU DQ WQ DK WK DR WR DA WA) (k0_pay6 DB WB)
      = fun y : S512x1024.Idx => ((∑ k, du (y 0) k * wu (y 1) k + ∑ k, dq (y 0) k * wq (y 1) k + ∑ k, dk (y 0) k * wk (y 1) k
        + ∑ k, dr (y 0) k * wr (y 1) k + ∑ k, da (y 0) k * wa (y 1) k + ∑ k, db (y 0) k * wb (y 1) k : ℝ) : EReal) :=
  add_lift (add_lift (add_lift (add_lift (add_lift (dot_512 hdu hwu) (dot_256 hdq hwq)) (dot_128 hdk hwk))
    (dot_128 ((shapeCast_self DR _).trans hdr) hwr)) (dot_1024 hda hwa)) (dot_1024 hdb hwb)

include hX hG hS hD

include hO in
/-- The block of the row's gradient. -/
theorem dx_block (a : Fin 512) (b : Fin 1024) :
    k0_pay4 (F := Ideal) DH (k0_pay9 X) (k0_pay10 X) SC DXM G (ix2 a b)
      = ((dxm a b + rinv 1024 (x a) * (dh a b * (1 + sc b) * g b - x a b * rinv 1024 (x a)
        * ((∑ k, dh a k * (1 + sc k) * g k * (x a k * rinv 1024 (x a))) / 1024)) : ℝ) : EReal) := by
  pointwise [k0_pay1, k0_pay4, k0_pay8, k0_pay9, k0_pay10, hX, hO, hG, hS, hD, consts]
  simp only [ring_lift, sum_lift, norm_lift]

omit hS hD in
/-- The block's part of the scale's gradient. -/
theorem dsc_block {P Q : FVec Ideal S512x1024 .f32} (hD : k0_pay7 (F := Ideal) P Q = fun y => ((dh (y 0) (y 1) : ℝ) : EReal)) (y : S1x1024.Idx) :
    k0_pay13 (F := Ideal) P Q X G y = ((∑ a, dh a (y 1) * (x a (y 1) * rinv 1024 (x a) * g (y 1)) : ℝ) : EReal) := by
  unfold k0_pay13
  rw [hD]
  idx_vars y
  pointwise [k0_pay8, k0_pay9, k0_pay10, hX, hG, consts]
  simp only [ring_lift, sum_lift, norm_lift]

omit hG in
/-- The block's part of the gain's gradient. -/
theorem dg_block (y : S1x1024.Idx) :
    k0_pay2 (F := Ideal) DH (k0_pay10 X) SC y = ((∑ a, dh a (y 1) * (1 + sc (y 1)) * (x a (y 1) * rinv 1024 (x a)) : ℝ) : EReal) := by
  idx_vars y
  pointwise [k0_pay1, k0_pay2, k0_pay8, k0_pay9, k0_pay10, hX, hS, hD, consts]
  simp only [ring_lift, sum_lift, norm_lift]

end Block

/-- The block's part of the shift's gradient. -/
theorem dsh_block {dh : Fin 512 → Fin 1024 → ℝ} {P Q : FVec Ideal S512x1024 .f32}
    (hD : k0_pay7 (F := Ideal) P Q = fun y => ((dh (y 0) (y 1) : ℝ) : EReal)) (y : S1x1024.Idx) :
    k0_pay11 (F := Ideal) P Q y = ((∑ a, dh a (y 1) : ℝ) : EReal) := by
  unfold k0_pay11
  rw [hD]
  idx_vars y
  pointwise
  simp only [ring_lift, sum_lift]

/-! ### What the arrays hold -/

/-- The windows' block indices. -/
theorem idx :
    ∀ p : Fin cfg0.N, win0_0.index p = ![p.val, 0] ∧ win0_1.index p = ![p.val, 0] ∧ win0_2.index p = ![p.val, 0] ∧ win0_3.index p =
    ![p.val, 0] ∧ win0_4.index p = ![p.val, 0] ∧ win0_5.index p = ![p.val, 0] ∧ win0_6.index p = ![p.val, 0] ∧ win0_7.index p =
    ![p.val, 0] ∧ win0_8.index p = ![0, 0] ∧ win0_9.index p = ![0, 0] ∧ win0_10.index p = ![0, 0] ∧ win0_11.index p = ![0, 0] ∧
    win0_12.index p = ![0, 0] ∧ win0_13.index p = ![0, 0] ∧ win0_14.index p = ![0, 0] ∧ win0_15.index p = ![0, 0] ∧ win0_16.index p =
    ![p.val, 0] ∧ win0_17.index p = ![0, 0] ∧ win0_18.index p = ![0, 0] ∧ win0_19.index p = ![0, 0] :=
  (by decide +kernel : ∀ p : Fin grid0.N, _)

theorem points : cfg0.N = 32 := N_0

theorem lt32 (p : Fin cfg0.N) : p.val < 32 := p.isLt.trans_eq points

/-- Row `a` of the block at point `p`. -/
def row (p : Fin cfg0.N) (a : Fin 512) : Fin 16384 := ⟨p.val * 512 + a.val, by have := lt32 p; omega⟩

/-- A sum over the points and a block's rows is the sum over all rows. -/
theorem sum_rows (f : Fin 16384 → ℝ) : ∑ p, ∑ a, f (row p a) = ∑ i, f i :=
  (Fin.sum_univ_tiles cfg0.N 512 (by rw [points]) f).symm

variable (m : (ℓ : Loc nD τ sig) → Buf (Elt Ideal) ℓ) (c : Dev nD)

/-- The arguments' buffers hold the real arrays `a`. -/
structure Holds (a : InMath.Args) : Prop where
  x : m ((c.tc : Thread nD τ).loc main_arg0) = fun i => ((a.x (i 1) (i 2) : ℝ) : EReal)
  g : m ((c.tc : Thread nD τ).loc main_arg1) = fun i => ((a.g (i 0) : ℝ) : EReal)
  sc : m ((c.tc : Thread nD τ).loc main_arg2) = fun i => ((a.sc (i 2) : ℝ) : EReal)
  w : m ((c.tc : Thread nD τ).loc main_arg3) = fun i => ((a.w (i 0) (i 1) : ℝ) : EReal)
  dxm : m ((c.tc : Thread nD τ).loc main_arg4) = fun i => ((a.dxm (i 1) (i 2) : ℝ) : EReal)
  du : m ((c.tc : Thread nD τ).loc main_arg5) = fun i => ((a.du (i 0) (i 1) : ℝ) : EReal)
  dq : m ((c.tc : Thread nD τ).loc main_arg6) = fun i => ((a.dq (i 0) (i 1) : ℝ) : EReal)
  dk : m ((c.tc : Thread nD τ).loc main_arg7) = fun i => ((a.dk (i 0) (i 1) : ℝ) : EReal)
  dr : m ((c.tc : Thread nD τ).loc main_arg8) = fun i => ((a.dr (i 0) (i 1) : ℝ) : EReal)
  da : m ((c.tc : Thread nD τ).loc main_arg9) = fun i => ((a.da (i 0) (i 1) : ℝ) : EReal)
  db : m ((c.tc : Thread nD τ).loc main_arg10) = fun i => ((a.db (i 0) (i 1) : ℝ) : EReal)

variable {a : InMath.Args} (h : Holds m c a)

include h

omit h in
/-- The host's operations as one list. -/
theorem prep_flatten : [hostOps0 (F := Ideal), hostOps0_1, hostOps0_2, hostOps0_3, hostOps0_4].flatten
    = hostOps0 ++ (hostOps0_1 ++ (hostOps0_2 ++ (hostOps0_3 ++ hostOps0_4))) := by
  simp only [List.flatten_cons, List.flatten_nil, List.append_nil]

omit h in
theorem op_v9 : Gen.V m c main_v9 = shapeCast S16384x1024 (m ((c.tc : Thread nD τ).loc main_arg4)) shapeCasts_S1x16384x1024_S16384x1024 := by
  unfold Gen.V
  rw [prep_flatten]
  simp only [List.cons_append, List.nil_append]
  after_reads_simp
  rfl

omit h in
theorem op_v10 : Gen.V m c main_v10 = shapeCast S16384x1024 (m ((c.tc : Thread nD τ).loc main_arg0)) shapeCasts_S1x16384x1024_S16384x1024 := by
  unfold Gen.V
  rw [prep_flatten]
  simp only [List.cons_append, List.nil_append]
  after_reads_simp
  rfl

omit h in
theorem op_v11 : Gen.V m c main_v11 = shapeCast S1x1024 (m ((c.tc : Thread nD τ).loc main_arg1)) shapeCasts_S1024_S1x1024 := by
  unfold Gen.V
  rw [prep_flatten]
  simp only [List.cons_append, List.nil_append]
  after_reads_simp
  rfl

omit h in
theorem op_v12 : Gen.V m c main_v12 = shapeCast S1x1024 (m ((c.tc : Thread nD τ).loc main_arg2)) shapeCasts_S1x1x1024_S1x1024 := by
  unfold Gen.V
  rw [prep_flatten]
  simp only [List.cons_append, List.nil_append]
  after_reads_simp
  rfl

omit h in
theorem op_v1 : Gen.V m c main_v1 = extractStridedSlice S1024x512 ![0, 0] (truncf (F := Ideal) (φ := .f32) .bf16 (m ((c.tc : Thread nD τ).loc main_arg3)) bitsLt_bf16_f32) slices_S1024x2976_S1024x512_0_0 := by
  unfold Gen.V
  rw [prep_flatten]
  simp only [List.cons_append, List.nil_append]
  after_reads_simp

omit h in
theorem op_v2 : Gen.V m c main_v2 = extractStridedSlice S1024x256 ![0, 512] (truncf (F := Ideal) (φ := .f32) .bf16 (m ((c.tc : Thread nD τ).loc main_arg3)) bitsLt_bf16_f32) slices_S1024x2976_S1024x256_0_512 := by
  unfold Gen.V
  rw [prep_flatten]
  simp only [List.cons_append, List.nil_append]
  after_reads_simp

omit h in
theorem op_v3 : Gen.V m c main_v3 = extractStridedSlice S1024x128 ![0, 768] (truncf (F := Ideal) (φ := .f32) .bf16 (m ((c.tc : Thread nD τ).loc main_arg3)) bitsLt_bf16_f32) slices_S1024x2976_S1024x128_0_768 := by
  unfold Gen.V
  rw [prep_flatten]
  simp only [List.cons_append, List.nil_append]
  after_reads_simp

omit h in
theorem op_v6 : Gen.V m c main_v6 = extractStridedSlice S1024x1024 ![0, 928] (truncf (F := Ideal) (φ := .f32) .bf16 (m ((c.tc : Thread nD τ).loc main_arg3)) bitsLt_bf16_f32) slices_S1024x2976_S1024x1024_0_928 := by
  unfold Gen.V
  rw [prep_flatten]
  simp only [List.cons_append, List.nil_append]
  after_reads_simp

omit h in
theorem op_v7 : Gen.V m c main_v7 = extractStridedSlice S1024x1024 ![0, 1952] (truncf (F := Ideal) (φ := .f32) .bf16 (m ((c.tc : Thread nD τ).loc main_arg3)) bitsLt_bf16_f32) slices_S1024x2976_S1024x1024_0_1952 := by
  unfold Gen.V
  rw [prep_flatten]
  simp only [List.cons_append, List.nil_append]
  after_reads_simp

omit h in
/-- A row of 32 padded to 128 lanes, 64 of them in front. -/
theorem lanes_eq (f : Fin 32 → ℝ) (k : Fin 128) :
    (if h : 64 ≤ k.val ∧ k.val - 64 < 32 then ((f ⟨k.val - 64, h.2⟩ : ℝ) : EReal) else FloatOps.sitofp (F := Ideal) FTy.bf16 (0#32)) = ((InMath.lanes f k : ℝ) : EReal) := by
  by_cases h : 64 ≤ k.val ∧ k.val < 96
  · rw [dif_pos ⟨h.1, by omega⟩, InMath.lanes, dif_pos h]
  · rw [dif_neg (by omega), InMath.lanes, dif_neg h]
    simp [FloatOps.sitofp]

omit h in
theorem op_v8 : Gen.V m c main_v8 = pad (s := S16384x32) S16384x128 ![0, 64] ![0, 32] ![0, 0] (m ((c.tc : Thread nD τ).loc main_arg8)) (sitofp (F := Ideal) .bf16 (constantI S_ 32 0#32))
    pads_S16384x32_S16384x128_000_64320 h_S_ := by
  unfold Gen.V
  rw [prep_flatten]
  simp only [List.cons_append, List.nil_append]
  after_reads_simp
  rfl

omit h in
theorem op_v5 : Gen.V m c main_v5 = pad S1024x128 ![0, 64] ![0, 32] ![0, 0] (extractStridedSlice S1024x32 ![0, 896] (truncf (F := Ideal) (φ := .f32) .bf16 (m ((c.tc : Thread nD τ).loc main_arg3)) bitsLt_bf16_f32) slices_S1024x2976_S1024x32_0_896)
    (sitofp (F := Ideal) .bf16 (constantI S_ 32 0#32)) pads_S1024x32_S1024x128_000_64320 h_S_ := by
  unfold Gen.V
  rw [prep_flatten]
  simp only [List.cons_append, List.nil_append]
  after_reads_simp
  rfl

omit h in
theorem op_du : Gen.V m c main_arg5 = m ((c.tc : Thread nD τ).loc main_arg5) := by
  unfold Gen.V
  rw [prep_flatten]
  simp only [List.cons_append, List.nil_append]
  after_reads_simp

omit h in
theorem op_dq : Gen.V m c main_arg6 = m ((c.tc : Thread nD τ).loc main_arg6) := by
  unfold Gen.V
  rw [prep_flatten]
  simp only [List.cons_append, List.nil_append]
  after_reads_simp

omit h in
theorem op_dk : Gen.V m c main_arg7 = m ((c.tc : Thread nD τ).loc main_arg7) := by
  unfold Gen.V
  rw [prep_flatten]
  simp only [List.cons_append, List.nil_append]
  after_reads_simp

omit h in
theorem op_da : Gen.V m c main_arg9 = m ((c.tc : Thread nD τ).loc main_arg9) := by
  unfold Gen.V
  rw [prep_flatten]
  simp only [List.cons_append, List.nil_append]
  after_reads_simp

omit h in
theorem op_db : Gen.V m c main_arg10 = m ((c.tc : Thread nD τ).loc main_arg10) := by
  unfold Gen.V
  rw [prep_flatten]
  simp only [List.cons_append, List.nil_append]
  after_reads_simp

theorem dxm_all : Gen.V m c main_v9 = fun y : S16384x1024.Idx => ((a.dxm (y 0) (y 1) : ℝ) : EReal) := by
  rw [op_v9 m c, h.dxm]
  funext y
  rw [eq_ix2 y]
  exact ValueIdx.shapeCast_1ab_ab_apply _ _ _ _

theorem x_all : Gen.V m c main_v10 = fun y : S16384x1024.Idx => ((a.x (y 0) (y 1) : ℝ) : EReal) := by
  rw [op_v10 m c, h.x]
  funext y
  rw [eq_ix2 y]
  exact ValueIdx.shapeCast_1ab_ab_apply _ _ _ _

theorem g_all : Gen.V m c main_v11 = fun y : S1x1024.Idx => ((a.g (y 1) : ℝ) : EReal) := by
  rw [op_v11 m c, h.g]
  funext y
  idx_vars y
  pointwise

theorem sc_all : Gen.V m c main_v12 = fun y : S1x1024.Idx => ((a.sc (y 1) : ℝ) : EReal) := by
  rw [op_v12 m c, h.sc]
  funext y
  idx_vars y
  pointwise

theorem wu_all : Gen.V m c main_v1 = fun y : S1024x512.Idx => ((InMath.wu a (y 0) (y 1) : ℝ) : EReal) := by
  rw [op_v1 m c, h.w]
  funext y
  idx_vars y
  pointwise
  exact congrArg Real.toEReal (congrArg (a.w y0) (Fin.ext (Nat.zero_add _).symm))

theorem wq_all : Gen.V m c main_v2 = fun y : S1024x256.Idx => ((InMath.wq a (y 0) (y 1) : ℝ) : EReal) := by
  rw [op_v2 m c, h.w]
  funext y
  idx_vars y
  pointwise
  rfl

theorem wk_all : Gen.V m c main_v3 = fun y : S1024x128.Idx => ((InMath.wk a (y 0) (y 1) : ℝ) : EReal) := by
  rw [op_v3 m c, h.w]
  funext y
  idx_vars y
  pointwise
  rfl

theorem wa_all : Gen.V m c main_v6 = fun y : S1024x1024.Idx => ((InMath.wa a (y 0) (y 1) : ℝ) : EReal) := by
  rw [op_v6 m c, h.w]
  funext y
  idx_vars y
  pointwise
  rfl

theorem wb_all : Gen.V m c main_v7 = fun y : S1024x1024.Idx => ((InMath.wb a (y 0) (y 1) : ℝ) : EReal) := by
  rw [op_v7 m c, h.w]
  funext y
  idx_vars y
  pointwise
  rfl

theorem dr_all : Gen.V m c main_v8 = fun y : S16384x128.Idx => ((InMath.drLanes a (y 0) (y 1) : ℝ) : EReal) := by
  rw [op_v8 m c, h.dr]
  funext y
  idx_vars y
  pointwise
  exact lanes_eq (a.dr y0) y1

theorem wr_all : Gen.V m c main_v5 = fun y : S1024x128.Idx => ((InMath.wrLanes a (y 0) (y 1) : ℝ) : EReal) := by
  rw [op_v5 m c, h.w]
  funext y
  idx_vars y
  pointwise
  exact lanes_eq (InMath.wr a y0) y1

theorem dxm_read (p : Fin cfg0.N) : iblk m c 0 p = fun y : S512x1024.Idx => ((a.dxm (row p (y 0)) (y 1) : ℝ) : EReal) := by
  funext y
  blk_simp [iblk, idx p]
  rw [dxm_all m c h]
  refine congrArg Real.toEReal (congrArg₂ a.dxm (Fin.ext ?_) (Fin.ext ?_)) <;> blk_simp [idx p, row]

theorem x_read (p : Fin cfg0.N) : iblk m c 1 p = fun y : S512x1024.Idx => ((a.x (row p (y 0)) (y 1) : ℝ) : EReal) := by
  funext y
  blk_simp [iblk, idx p]
  rw [x_all m c h]
  refine congrArg Real.toEReal (congrArg₂ a.x (Fin.ext ?_) (Fin.ext ?_)) <;> blk_simp [idx p, row]

theorem du_read (p : Fin cfg0.N) : iblk m c 2 p = fun y : S512x512.Idx => ((a.du (row p (y 0)) (y 1) : ℝ) : EReal) := by
  funext y
  blk_simp [iblk, idx p]
  rw [op_du m c, h.du]
  refine congrArg Real.toEReal (congrArg₂ a.du (Fin.ext ?_) (Fin.ext ?_)) <;> blk_simp [idx p, row]

theorem dq_read (p : Fin cfg0.N) : iblk m c 3 p = fun y : S512x256.Idx => ((a.dq (row p (y 0)) (y 1) : ℝ) : EReal) := by
  funext y
  blk_simp [iblk, idx p]
  rw [op_dq m c, h.dq]
  refine congrArg Real.toEReal (congrArg₂ a.dq (Fin.ext ?_) (Fin.ext ?_)) <;> blk_simp [idx p, row]

theorem dk_read (p : Fin cfg0.N) : iblk m c 4 p = fun y : S512x128.Idx => ((a.dk (row p (y 0)) (y 1) : ℝ) : EReal) := by
  funext y
  blk_simp [iblk, idx p]
  rw [op_dk m c, h.dk]
  refine congrArg Real.toEReal (congrArg₂ a.dk (Fin.ext ?_) (Fin.ext ?_)) <;> blk_simp [idx p, row]

theorem da_read (p : Fin cfg0.N) : iblk m c 6 p = fun y : S512x1024.Idx => ((a.da (row p (y 0)) (y 1) : ℝ) : EReal) := by
  funext y
  blk_simp [iblk, idx p]
  rw [op_da m c, h.da]
  refine congrArg Real.toEReal (congrArg₂ a.da (Fin.ext ?_) (Fin.ext ?_)) <;> blk_simp [idx p, row]

theorem db_read (p : Fin cfg0.N) : iblk m c 7 p = fun y : S512x1024.Idx => ((a.db (row p (y 0)) (y 1) : ℝ) : EReal) := by
  funext y
  blk_simp [iblk, idx p]
  rw [op_db m c, h.db]
  refine congrArg Real.toEReal (congrArg₂ a.db (Fin.ext ?_) (Fin.ext ?_)) <;> blk_simp [idx p, row]

theorem g_read (p : Fin cfg0.N) : iblk m c 8 p = fun y : S1x1024.Idx => ((a.g (y 1) : ℝ) : EReal) := by
  funext y
  blk_simp [iblk, idx p]
  rw [g_all m c h]
  refine congrArg Real.toEReal (congrArg a.g (Fin.ext ?_)) <;> blk_simp [idx p]

theorem sc_read (p : Fin cfg0.N) : iblk m c 9 p = fun y : S1x1024.Idx => ((a.sc (y 1) : ℝ) : EReal) := by
  funext y
  blk_simp [iblk, idx p]
  rw [sc_all m c h]
  refine congrArg Real.toEReal (congrArg a.sc (Fin.ext ?_)) <;> blk_simp [idx p]

theorem wu_read (p : Fin cfg0.N) : iblk m c 10 p = fun y : S1024x512.Idx => ((InMath.wu a (y 0) (y 1) : ℝ) : EReal) := by
  funext y
  blk_simp [iblk, idx p]
  rw [wu_all m c h]
  refine congrArg Real.toEReal (congrArg₂ (InMath.wu a) (Fin.ext ?_) (Fin.ext ?_)) <;> blk_simp [idx p]

theorem wq_read (p : Fin cfg0.N) : iblk m c 11 p = fun y : S1024x256.Idx => ((InMath.wq a (y 0) (y 1) : ℝ) : EReal) := by
  funext y
  blk_simp [iblk, idx p]
  rw [wq_all m c h]
  refine congrArg Real.toEReal (congrArg₂ (InMath.wq a) (Fin.ext ?_) (Fin.ext ?_)) <;> blk_simp [idx p]

theorem wk_read (p : Fin cfg0.N) : iblk m c 12 p = fun y : S1024x128.Idx => ((InMath.wk a (y 0) (y 1) : ℝ) : EReal) := by
  funext y
  blk_simp [iblk, idx p]
  rw [wk_all m c h]
  refine congrArg Real.toEReal (congrArg₂ (InMath.wk a) (Fin.ext ?_) (Fin.ext ?_)) <;> blk_simp [idx p]

theorem wa_read (p : Fin cfg0.N) : iblk m c 14 p = fun y : S1024x1024.Idx => ((InMath.wa a (y 0) (y 1) : ℝ) : EReal) := by
  funext y
  blk_simp [iblk, idx p]
  rw [wa_all m c h]
  refine congrArg Real.toEReal (congrArg₂ (InMath.wa a) (Fin.ext ?_) (Fin.ext ?_)) <;> blk_simp [idx p]

theorem wb_read (p : Fin cfg0.N) : iblk m c 15 p = fun y : S1024x1024.Idx => ((InMath.wb a (y 0) (y 1) : ℝ) : EReal) := by
  funext y
  blk_simp [iblk, idx p]
  rw [wb_all m c h]
  refine congrArg Real.toEReal (congrArg₂ (InMath.wb a) (Fin.ext ?_) (Fin.ext ?_)) <;> blk_simp [idx p]

theorem dr_read (p : Fin cfg0.N) : iblk m c 5 p = fun y : S512x128.Idx => ((InMath.drLanes a (row p (y 0)) (y 1) : ℝ) : EReal) := by
  funext y
  blk_simp [iblk, idx p]
  rw [dr_all m c h]
  refine congrArg Real.toEReal (congrArg₂ (InMath.drLanes a) (Fin.ext ?_) (Fin.ext ?_)) <;> blk_simp [idx p, row]

theorem wr_read (p : Fin cfg0.N) : iblk m c 13 p = fun y : S1024x128.Idx => ((InMath.wrLanes a (y 0) (y 1) : ℝ) : EReal) := by
  funext y
  blk_simp [iblk, idx p]
  rw [wr_all m c h]
  refine congrArg Real.toEReal (congrArg₂ (InMath.wrLanes a) (Fin.ext ?_) (Fin.ext ?_)) <;> blk_simp [idx p]

/-- The block of the modulated row's gradient at a point. -/
theorem dh_read (p : Fin cfg0.N) :
    k0_pay7 (F := Ideal) (k0_pay5 (iblk m c 2 p) (iblk m c 10 p) (iblk m c 3 p) (iblk m c 11 p) (iblk m c 4 p) (iblk m c 12 p)
        (iblk m c 5 p) (iblk m c 13 p) (iblk m c 6 p) (iblk m c 14 p)) (k0_pay6 (iblk m c 7 p) (iblk m c 15 p))
      = fun y : S512x1024.Idx => ((InMath.dh a (row p (y 0)) (y 1) : ℝ) : EReal) := by
  refine (dh_block (du := fun i => a.du (row p i)) (dq := fun i => a.dq (row p i)) (dk := fun i => a.dk (row p i))
    (dr := fun i => InMath.drLanes a (row p i)) (da := fun i => a.da (row p i)) (db := fun i => a.db (row p i))
    (du_read m c h p) (wu_read m c h p) (dq_read m c h p) (wq_read m c h p) (dk_read m c h p) (wk_read m c h p)
    (dr_read m c h p) (wr_read m c h p) (da_read m c h p) (wa_read m c h p) (db_read m c h p) (wb_read m c h p)).trans ?_
  funext y
  exact congrArg Real.toEReal (InMath.dh_lanes a (row p (y 0)) (y 1))

/-- The row's gradient, block by block. -/
theorem final_dx : (dats m 0 c).arrAt 16 cfg0.N = fun i : S16384x1024.Idx => ((InMath.dx a (i 0) (i 1) : ℝ) : EReal) := by
  refine (dats m 0 c).arrAt_eq_of_covers 16 _ (by decide +kernel) fun p hf y => ?_
  have hp := lt32 p
  have point := dx_block (x := fun i => a.x (row p i)) (dxm := fun i => a.dxm (row p i)) (dh := fun i => InMath.dh a (row p i))
    (x_read m c h p) (dxm_read m c h p) (g_read m c h p) (sc_read m c h p) (dh_read m c h p) (y 0) (y 1)
  rw [← eq_ix2 y] at point
  blk_simp
  rw [after0_16]
  have place : ((InMath.dx a (row p (y 0)) (y 1) : ℝ) : EReal)
      = ((InMath.dx a (((View.whole main_v13_0).slice (win0_16.rect p)).emb y 0)
        (((View.whole main_v13_0).slice (win0_16.rect p)).emb y 1) : ℝ) : EReal) := by
    refine congrArg Real.toEReal (congrArg₂ (InMath.dx a) (Fin.ext ?_) (Fin.ext ?_)) <;> blk_simp [idx p, row]
  refine Eq.trans ?_ place
  by_cases h0 : p.val % 32 = 0
  · rw [outsAt0_A m c p h0 (by omega) h0 (by omega) h0 (by omega)]
    frame_out
    exact point
  · rw [outsAt0_B m c p h0 (by omega) h0 (by omega) h0 (by omega)]
    frame_out
    exact point

/-- The shift's gradient, summed over the points. -/
theorem final_dsh : (dats m 0 c).arrAt 17 cfg0.N = fun i : S1x1024.Idx => ((InMath.dsh a (i 1) : ℝ) : EReal) := by
  refine (dats m 0 c).arrAt_eq_of_covers 17 _ (by decide +kernel) fun p hf y => ?_
  have hp := (flush0_17 p).mp hf
  blk_simp
  rw [after0_17]
  have term (p : Fin cfg0.N) (y : S1x1024.Idx) := dsh_block (dh := fun i => InMath.dh a (row p i)) (dh_read m c h p) y
  refine (acc_lift (N := cfg0.N) (fun n h => (outsAt0 m c n h).2.1)
    (fun p y => ∑ i, InMath.dh a (row p i) (y 1))
    (fun p h0 y => ?_) (fun p h0 y => ?_) p (by simp only [points]; have := lt32 p; omega) y).trans ?_
  · simp only [points] at h0
    rw [outsAt0_A m c p h0 (by have := lt32 p; omega) h0 (by have := lt32 p; omega) h0 (by have := lt32 p; omega)]
    frame_out
    exact term p y
  · simp only [points] at h0
    rw [outsAt0_B m c p h0 (by omega) h0 (by omega) h0 (by omega)]
    frame_out
    pointwise [k0_pay12]
    exact congrArg _ (term p _)
  · refine congrArg Real.toEReal ((sum_rows fun i => InMath.dh a i (y 1)).trans ?_)
    show InMath.dsh a (y 1) = _
    refine congrArg (InMath.dsh a) (Fin.ext ?_)
    blk_simp [idx p]

/-- The scale's gradient, summed over the points. -/
theorem final_dsc : (dats m 0 c).arrAt 18 cfg0.N = fun i : S1x1024.Idx => ((InMath.dsc a (i 1) : ℝ) : EReal) := by
  refine (dats m 0 c).arrAt_eq_of_covers 18 _ (by decide +kernel) fun p hf y => ?_
  have hp := (flush0_18 p).mp hf
  blk_simp
  rw [after0_18]
  have term (p : Fin cfg0.N) (y : S1x1024.Idx) := dsc_block (x := fun i => a.x (row p i)) (dh := fun i => InMath.dh a (row p i)) (x_read m c h p)
    (g_read m c h p) (dh_read m c h p) y
  refine (acc_lift (N := cfg0.N) (fun n h => (outsAt0 m c n h).2.2.1)
    (fun p y => ∑ i, InMath.dh a (row p i) (y 1) * (a.x (row p i) (y 1) * rinv 1024 (a.x (row p i)) * a.g (y 1)))
    (fun p h0 y => ?_) (fun p h0 y => ?_) p (by simp only [points]; have := lt32 p; omega) y).trans ?_
  · simp only [points] at h0
    rw [outsAt0_A m c p h0 (by have := lt32 p; omega) h0 (by have := lt32 p; omega) h0 (by have := lt32 p; omega)]
    frame_out
    exact term p y
  · simp only [points] at h0
    rw [outsAt0_B m c p h0 (by omega) h0 (by omega) h0 (by omega)]
    frame_out
    pointwise [k0_pay14]
    exact congrArg _ (term p _)
  · refine congrArg Real.toEReal ((sum_rows fun i => InMath.dh a i (y 1) * (a.x i (y 1) * rinv 1024 (a.x i) * a.g (y 1))).trans ?_)
    show InMath.dsc a (y 1) = _
    refine congrArg (InMath.dsc a) (Fin.ext ?_)
    blk_simp [idx p]

/-- The gain's gradient, summed over the points. -/
theorem final_dg : (dats m 0 c).arrAt 19 cfg0.N = fun i : S1x1024.Idx => ((InMath.dg a (i 1) : ℝ) : EReal) := by
  refine (dats m 0 c).arrAt_eq_of_covers 19 _ (by decide +kernel) fun p hf y => ?_
  have hp := (flush0_19 p).mp hf
  blk_simp
  rw [after0_19]
  have term (p : Fin cfg0.N) (y : S1x1024.Idx) := dg_block (x := fun i => a.x (row p i)) (dh := fun i => InMath.dh a (row p i)) (x_read m c h p)
    (sc_read m c h p) (dh_read m c h p) y
  refine (acc_lift (N := cfg0.N) (fun n h => (outsAt0 m c n h).2.2.2)
    (fun p y => ∑ i, InMath.dh a (row p i) (y 1) * (1 + a.sc (y 1)) * (a.x (row p i) (y 1) * rinv 1024 (a.x (row p i))))
    (fun p h0 y => ?_) (fun p h0 y => ?_) p (by simp only [points]; have := lt32 p; omega) y).trans ?_
  · simp only [points] at h0
    rw [outsAt0_A m c p h0 (by have := lt32 p; omega) h0 (by have := lt32 p; omega) h0 (by have := lt32 p; omega)]
    frame_out
    exact term p y
  · simp only [points] at h0
    rw [outsAt0_B m c p h0 (by omega) h0 (by omega) h0 (by omega)]
    frame_out
    pointwise [k0_pay3]
    exact congrArg _ (term p _)
  · refine congrArg Real.toEReal ((sum_rows fun i => InMath.dh a i (y 1) * (1 + a.sc (y 1)) * (a.x i (y 1) * rinv 1024 (a.x i))).trans ?_)
    show InMath.dg a (y 1) = _
    refine congrArg (InMath.dg a) (Fin.ext ?_)
    blk_simp [idx p]

omit h in
/-- What the kernel's run leaves in its four results: the gradients of the row, the shift, the scale and the gain. -/
theorem results (a : Dev nD → InMath.Args) (h : ∀ c : Dev nD, Holds m c (a c)) (ρ : Dev nD → PrngReg) :
    θ_run defs (onTc (τ := τ) (main (F := Ideal))) ⟨m, fun _ => 0, ρ⟩ fun r => ∀ c : Dev nD,
      r.2.mem ((c.tc : Thread nD τ).loc main_v13_0) = (fun i => ((InMath.dx (a c) (i 0) (i 1) : ℝ) : EReal))
      ∧ r.2.mem ((c.tc : Thread nD τ).loc main_v13_1) = (fun i => ((InMath.dsh (a c) (i 1) : ℝ) : EReal))
      ∧ r.2.mem ((c.tc : Thread nD τ).loc main_v13_2) = (fun i => ((InMath.dsc (a c) (i 1) : ℝ) : EReal))
      ∧ r.2.mem ((c.tc : Thread nD τ).loc main_v13_3) = (fun i => ((InMath.dg (a c) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r hr c => ⟨(hr c).1.trans (final_dx m c (h c)), (hr c).2.1.trans (final_dsh m c (h c)),
    (hr c).2.2.1.trans (final_dsc m c (h c)), (hr c).2.2.2.1.trans (final_dg m c (h c)), (hr c).2.2.2.2⟩) (run_blocks m ρ)

end Cert.InIdeal.Value

end
-- ==== Proof.InValue.lean ====
/- The value claim of the modulated norm in front of the mixers: on finite arguments the kernel and the reference end with the
   same real arrays. -/
module

public import proofs.«01_k».proof.Defs
public import proofs.«01_k».proof.Proof.Gen.Pre_in_finite
public import proofs.«01_k».proof.Proof.InRef
public import proofs.«01_k».proof.Proof.InKernel

@[expose] public section

set_option maxRecDepth 16384

noncomputable section

namespace Cert.InValue

open Idealize.ShloMosaic Idealize.ShloMosaic.TcCoe Idealize.SL.Sem Cert.Lift

variable (m : (ℓ : Loc InIdeal.nD InIdeal.τ InIdeal.sig) → Buf (Elt Ideal) ℓ) (c : Dev InIdeal.nD)

/-- The real parts of the arguments. -/
def args : InMath.Args where
  x := re3 (m ((c.tc : Thread InIdeal.nD InIdeal.τ).loc InIdeal.main_arg0))
  g := re1 (m ((c.tc : Thread InIdeal.nD InIdeal.τ).loc InIdeal.main_arg1))
  sc := re3 (m ((c.tc : Thread InIdeal.nD InIdeal.τ).loc InIdeal.main_arg2)) 0
  w := re2 (φ := .f32) (m ((c.tc : Thread InIdeal.nD InIdeal.τ).loc InIdeal.main_arg3))
  dxm := re3 (m ((c.tc : Thread InIdeal.nD InIdeal.τ).loc InIdeal.main_arg4))
  du := re2 (φ := .bf16) (m ((c.tc : Thread InIdeal.nD InIdeal.τ).loc InIdeal.main_arg5))
  dq := re2 (φ := .bf16) (m ((c.tc : Thread InIdeal.nD InIdeal.τ).loc InIdeal.main_arg6))
  dk := re2 (φ := .bf16) (m ((c.tc : Thread InIdeal.nD InIdeal.τ).loc InIdeal.main_arg7))
  dr := re2 (φ := .bf16) (m ((c.tc : Thread InIdeal.nD InIdeal.τ).loc InIdeal.main_arg8))
  da := re2 (φ := .bf16) (m ((c.tc : Thread InIdeal.nD InIdeal.τ).loc InIdeal.main_arg9))
  db := re2 (φ := .bf16) (m ((c.tc : Thread InIdeal.nD InIdeal.τ).loc InIdeal.main_arg10))

omit m c in
/-- The printed precondition says that every argument is the array of its real parts. -/
theorem real_of_pre (a0 a4 : FVec Ideal ⟨3, ![1, 16384, 1024]⟩ .f32) (a1 : FVec Ideal ⟨1, ![1024]⟩ .f32)
    (a2 : FVec Ideal ⟨3, ![1, 1, 1024]⟩ .f32) (a3 : FVec Ideal ⟨2, ![1024, 2976]⟩ .f32) (a5 : FVec Ideal ⟨2, ![16384, 512]⟩ .bf16)
    (a6 : FVec Ideal ⟨2, ![16384, 256]⟩ .bf16) (a7 : FVec Ideal ⟨2, ![16384, 128]⟩ .bf16) (a8 : FVec Ideal ⟨2, ![16384, 32]⟩ .bf16)
    (a9 a10 : FVec Ideal ⟨2, ![16384, 1024]⟩ .bf16)
    (h : Cert.Pre_in_finite.fn a0 a1 a2 a3 a4 a5 a6 a7 a8 a9 a10 = fun _ => 1#1) :
    (a0 = fun i => ((re3 a0 (i 1) (i 2) : ℝ) : EReal)) ∧ (a1 = fun i => ((re1 a1 (i 0) : ℝ) : EReal))
      ∧ (a2 = fun i => ((re3 a2 0 (i 2) : ℝ) : EReal)) ∧ (a3 = fun i => ((re2 a3 (i 0) (i 1) : ℝ) : EReal))
      ∧ (a4 = fun i => ((re3 a4 (i 1) (i 2) : ℝ) : EReal)) ∧ (a5 = fun i => ((re2 a5 (i 0) (i 1) : ℝ) : EReal))
      ∧ (a6 = fun i => ((re2 a6 (i 0) (i 1) : ℝ) : EReal)) ∧ (a7 = fun i => ((re2 a7 (i 0) (i 1) : ℝ) : EReal))
      ∧ (a8 = fun i => ((re2 a8 (i 0) (i 1) : ℝ) : EReal)) ∧ (a9 = fun i => ((re2 a9 (i 0) (i 1) : ℝ) : EReal))
      ∧ (a10 = fun i => ((re2 a10 (i 0) (i 1) : ℝ) : EReal)) := by
  obtain ⟨h, h10⟩ := both h; obtain ⟨h, h9⟩ := both h; obtain ⟨h, h8⟩ := both h; obtain ⟨h, h7⟩ := both h; obtain ⟨h, h6⟩ := both h
  obtain ⟨h, h5⟩ := both h; obtain ⟨h, h4⟩ := both h; obtain ⟨h, h3⟩ := both h; obtain ⟨h, h2⟩ := both h; obtain ⟨h0, h1⟩ := both h
  exact ⟨real3 (real_of_all h0), real1 (real_of_all h1), realRow (real_of_all h2), real2 (real_of_all h3), real3 (real_of_all h4),
    real2 (real_of_all16 h5), real2 (real_of_all16 h6), real2 (real_of_all16 h7), real2 (real_of_all16 h8), real2 (real_of_all16 h9),
    real2 (real_of_all16 h10)⟩

/-- So the arguments' buffers hold their real parts. -/
theorem holds (h : Cert.Pre_InIdeal_in_finite m) : InIdeal.Value.Holds m c (args m c) := by
  obtain ⟨h0, h1, h2, h3, h4, h5, h6, h7, h8, h9, h10⟩ := real_of_pre _ _ _ _ _ _ _ _ _ _ _ (h c)
  exact ⟨h0, h1, h2, h3, h4, h5, h6, h7, h8, h9, h10⟩

/-- The value claim. -/
theorem algebraic : Cert.algebraic_InIdeal_InRefIdeal_pre_in_finite := by
  intro m ρ m' ρ' hpre hagree
  have hr := fun c => holds m c hpre
  have hs : ∀ c, InRefIdeal.Value.Holds m' c (args m c) := fun c => by
    obtain ⟨e0, e1, e2, e3, e4, e5, e6, e7, e8, e9, e10⟩ := hagree c
    exact ⟨e0.trans (hr c).x, e1.trans (hr c).g, e2.trans (hr c).sc, e3.trans (hr c).w, e4.trans (hr c).dxm, e5.trans (hr c).du,
      e6.trans (hr c).dq, e7.trans (hr c).dk, e8.trans (hr c).dr, e9.trans (hr c).da, e10.trans (hr c).db⟩
  exact ⟨_, _, _, _, InIdeal.Value.results m _ hr ρ, InRefIdeal.Value.results m' _ hs ρ'⟩

end Cert.InValue

end
-- ==== Proof.FfnActMath.lean ====
/- The gradient of the feed-forward block's gate and of its output scale, over the reals. -/
module

public import proofs.«01_k».proof.Proof.Lift
public import Idealize.ShloMosaic.Lib.Claim

@[expose] public section

set_option maxRecDepth 16384

noncomputable section

namespace Cert.FfnActMath

open Idealize.ShloMosaic Cert.Lift

/-- The sigmoid. -/
def sg (r : ℝ) : ℝ := 1 / (1 + Real.exp (-r))

/-- The sigmoid of a real number, from its ideal operations. -/
theorem sg_lift (r : ℝ) : Ideal.div 1 (1 + Ideal.exp (-(r : EReal))) = ((sg r : ℝ) : EReal) := by
  rw [← EReal.coe_neg, Ideal.exp_coe, ← EReal.coe_one, ← EReal.coe_add]
  exact div_lift (add_pos one_pos (Real.exp_pos _)).ne' 1

theorem logistic_lift (r : ℝ) : Ideal.logistic (r : EReal) = ((sg r : ℝ) : EReal) := sg_lift r

/-- The host's sigmoid of a real array. -/
theorem sg_array {s : Shape} (p : s.Idx → ℝ) {b1 b2 : (⟨0, ![]⟩ : Shape).BroadcastsInDim s ![]} :
    Host.divf (F := Ideal) (φ := .f32) (broadcastInDim s ![] b1 (constant ⟨0, ![]⟩ .f32 0x3F800000#32))
      (addf (broadcastInDim s ![] b2 (constant ⟨0, ![]⟩ .f32 0x3F800000#32)) (Host.exp (Host.negf fun i => ((p i : ℝ) : EReal))))
    = fun i => ((sg (p i) : ℝ) : EReal) := by
  funext i
  pointwise
  exact sg_lift _

/-- The rows, the norm's gain, the scale, the shift, the output's scale, the three weights and the cotangent of the output. -/
structure Args where
  x : Fin 16384 → Fin 1024 → ℝ
  g : Fin 1024 → ℝ
  sc : Fin 1024 → ℝ
  sh : Fin 1024 → ℝ
  g2 : Fin 1024 → ℝ
  wg : Fin 1024 → Fin 2816 → ℝ
  wu : Fin 1024 → Fin 2816 → ℝ
  wd : Fin 2816 → Fin 1024 → ℝ
  dxo : Fin 16384 → Fin 1024 → ℝ

variable (a : Args)

/-- The modulated normed row. -/
def md (i : Fin 16384) (j : Fin 1024) : ℝ := a.x i j * rinv 1024 (a.x i) * a.g j * (1 + a.sc j) + a.sh j

/-- Its products with the gate's and the other weight. -/
def pa (i : Fin 16384) (k : Fin 2816) : ℝ := ∑ j, md a i j * a.wg j k
def pb (i : Fin 16384) (k : Fin 2816) : ℝ := ∑ j, md a i j * a.wu j k

/-- The gated activation and its product with the third weight. -/
def f (i : Fin 16384) (k : Fin 2816) : ℝ := pa a i k * sg (pa a i k) * pb a i k
def dn (i : Fin 16384) (j : Fin 1024) : ℝ := ∑ k, f a i k * a.wd k j

/-- The gradients of the third product, of the gated activation, of the two products, and of the output's scale. -/
def dd (i : Fin 16384) (j : Fin 1024) : ℝ := a.dxo i j * a.g2 j
def df (i : Fin 16384) (k : Fin 2816) : ℝ := ∑ j, dd a i j * a.wd k j
def da (i : Fin 16384) (k : Fin 2816) : ℝ :=
  df a i k * pb a i k * (sg (pa a i k) * (1 + pa a i k * (1 - sg (pa a i k))))
def db (i : Fin 16384) (k : Fin 2816) : ℝ := df a i k * (pa a i k * sg (pa a i k))
def dg2 (j : Fin 1024) : ℝ := ∑ i, a.dxo i j * dn a i j

/-- The gate's derivative by the product rule. -/
theorem da_eq (i : Fin 16384) (k : Fin 2816) :
    df a i k * pb a i k * sg (pa a i k) + pa a i k * (df a i k * pb a i k) * (sg (pa a i k) * (1 - sg (pa a i k))) = da a i k := by
  unfold da
  ring

end Cert.FfnActMath

end
-- ==== Proof.FfnActRef.lean ====
/- The reference of the feed-forward block's gate: on real arguments its five results are the real arrays. -/
module

public import proofs.«01_k».proof.Proof.Gen.FfnActRefIdeal.Run
public import proofs.«01_k».proof.Proof.FfnActMath
public import proofs.«01_k».proof.Proof.NormHost
public import Idealize.ShloMosaic.Lib.ValueLayout

@[expose] public section

set_option maxRecDepth 16384

noncomputable section

namespace Cert.FfnActRefIdeal.Value

open Cert.FfnActRefIdeal Cert.FfnActRefIdeal.Gen Idealize.ShloMosaic Idealize.ShloMosaic.TcCoe Idealize.SL.Sem Cert.Lift Cert.FfnActMath

variable (m : (ℓ : Loc nD τ sig) → Buf (Elt Ideal) ℓ)

/-- The arguments' buffers hold the real arrays `a`. -/
structure Holds (c : Dev nD) (a : Args) : Prop where
  x : m ((c.tc : Thread nD τ).loc main_arg0) = fun i => ((a.x (i 1) (i 2) : ℝ) : EReal)
  g : m ((c.tc : Thread nD τ).loc main_arg1) = fun i => ((a.g (i 0) : ℝ) : EReal)
  sc : m ((c.tc : Thread nD τ).loc main_arg2) = fun i => ((a.sc (i 2) : ℝ) : EReal)
  sh : m ((c.tc : Thread nD τ).loc main_arg3) = fun i => ((a.sh (i 2) : ℝ) : EReal)
  g2 : m ((c.tc : Thread nD τ).loc main_arg4) = fun i => ((a.g2 (i 2) : ℝ) : EReal)
  wg : m ((c.tc : Thread nD τ).loc main_arg5) = fun i => ((a.wg (i 0) (i 1) : ℝ) : EReal)
  wu : m ((c.tc : Thread nD τ).loc main_arg6) = fun i => ((a.wu (i 0) (i 1) : ℝ) : EReal)
  wd : m ((c.tc : Thread nD τ).loc main_arg7) = fun i => ((a.wd (i 0) (i 1) : ℝ) : EReal)
  dxo : m ((c.tc : Thread nD τ).loc main_arg8) = fun i => ((a.dxo (i 1) (i 2) : ℝ) : EReal)

variable (a : Dev nD → Args) (h : ∀ c : Dev nD, Holds m c (a c))

/-- A product with a weight of the activation's width. -/
theorem up_eq (X : FVec Ideal S1x16384x1024 .f32) (W : FVec Ideal S1024x2816 .f32) (d : Fin 16384 → Fin 1024 → ℝ)
    (w : Fin 1024 → Fin 2816 → ℝ) (hX : X = fun i => ((d (i 1) (i 2) : ℝ) : EReal)) (hW : W = fun i => ((w (i 0) (i 1) : ℝ) : EReal)) :
    Host.dotGeneral (F := Ideal) dot_S1x16384x1024_S1024x2816_S1x16384x2816_2_0_01_1_n_n none X W
      = fun i => ((∑ j, d (i 1) j * w j (i 2) : ℝ) : EReal) := by
  funext y
  rw [hX, hW]
  idx_vars y
  pointwise
  simp only [ring_lift, sum_lift]

/-- A product with the third weight. -/
theorem down_eq (X : FVec Ideal S1x16384x2816 .f32) (W : FVec Ideal S2816x1024 .f32) (d : Fin 16384 → Fin 2816 → ℝ)
    (w : Fin 2816 → Fin 1024 → ℝ) (hX : X = fun i => ((d (i 1) (i 2) : ℝ) : EReal)) (hW : W = fun i => ((w (i 0) (i 1) : ℝ) : EReal)) :
    Host.dotGeneral (F := Ideal) dot_S1x16384x2816_S2816x1024_S1x16384x1024_2_0_01_1_n_n none X W
      = fun i => ((∑ k, d (i 1) k * w k (i 2) : ℝ) : EReal) := by
  funext y
  rw [hX, hW]
  idx_vars y
  pointwise
  simp only [ring_lift, sum_lift]

/-- A product with the third weight's transpose. -/
theorem back_eq (X : FVec Ideal S1x16384x1024 .f32) (W : FVec Ideal S2816x1024 .f32) (d : Fin 16384 → Fin 1024 → ℝ)
    (w : Fin 2816 → Fin 1024 → ℝ) (hX : X = fun i => ((d (i 1) (i 2) : ℝ) : EReal)) (hW : W = fun i => ((w (i 0) (i 1) : ℝ) : EReal)) :
    Host.dotGeneral (F := Ideal) dot_S1x16384x1024_S2816x1024_S1x16384x2816_2_1_01_0_n_n none X W
      = fun i => ((∑ j, d (i 1) j * w (i 2) j : ℝ) : EReal) := by
  funext y
  rw [hX, hW]
  idx_vars y
  pointwise
  simp only [ring_lift, sum_lift]

/-- The modulated normed row. -/
theorem md_eq (a : Args) (X : FVec Ideal S1x16384x1024 .f32) (G : FVec Ideal S1024 .f32) (SC SH : FVec Ideal S1x1x1024 .f32)
    (hX : X = fun i => ((a.x (i 1) (i 2) : ℝ) : EReal)) (hG : G = fun i => ((a.g (i 0) : ℝ) : EReal))
    (hS : SC = fun i => ((a.sc (i 2) : ℝ) : EReal)) (hH : SH = fun i => ((a.sh (i 2) : ℝ) : EReal)) :
    addf (F := Ideal) (φ := .f32) (mulf (mulf (mulf X
        (broadcastInDim S1x16384x1024 ![0, 1, 2] bcast_S1x16384x1_S1x16384x1024_0_1_2 fun i : S1x16384x1.Idx => ((rinv 1024 (a.x (i 1)) : ℝ) : EReal)))
        (broadcastInDim S1x16384x1024 ![0, 1, 2] bcast_S1x1x1024_S1x16384x1024_0_1_2 (broadcastInDim S1x1x1024 ![2] bcast_S1024_S1x1x1024_2 G)))
        (broadcastInDim S1x16384x1024 ![0, 1, 2] bcast_S1x1x1024_S1x16384x1024_0_1_2 (addf (broadcastInDim S1x1x1024 ![] bcast_S_S1x1x1024 (constant S_ .f32 0x3F800000#32)) SC)))
      (broadcastInDim S1x16384x1024 ![0, 1, 2] bcast_S1x1x1024_S1x16384x1024_0_1_2 SH)
    = fun i => ((md a (i 1) (i 2) : ℝ) : EReal) := by
  funext y
  rw [hX, hG, hS, hH]
  idx_vars y
  pointwise
  simp only [ring_lift]
  rfl

/-- The cotangent of the third product. -/
theorem dd_eq (a : Args) (G : FVec Ideal S1x1x1024 .f32) (D : FVec Ideal S1x16384x1024 .f32) (hG : G = fun i => ((a.g2 (i 2) : ℝ) : EReal))
    (hD : D = fun i => ((a.dxo (i 1) (i 2) : ℝ) : EReal)) :
    mulf (F := Ideal) (φ := .f32) (broadcastInDim S1x16384x1024 ![0, 1, 2] bcast_S1x1x1024_S1x16384x1024_0_1_2 G) D
      = fun i => ((dd a (i 1) (i 2) : ℝ) : EReal) := by
  funext y
  rw [hG, hD]
  idx_vars y
  pointwise
  simp only [ring_lift]
  exact congrArg _ (mul_comm _ _)

/-- The two products and the gate. -/
theorem pa_eq (a : Args) (W : FVec Ideal S1024x2816 .f32) (hW : W = fun i => ((a.wg (i 0) (i 1) : ℝ) : EReal)) : Host.dotGeneral (F := Ideal) (φ₁ := .f32) (φ₂ := .f32) dot_S1x16384x1024_S1024x2816_S1x16384x2816_2_0_01_1_n_n none
    (fun i : S1x16384x1024.Idx => ((md a (i 1) (i 2) : ℝ) : EReal)) W
      = fun i => ((pa a (i 1) (i 2) : ℝ) : EReal) := up_eq _ _ _ _ rfl hW

theorem pb_eq (a : Args) (W : FVec Ideal S1024x2816 .f32) (hW : W = fun i => ((a.wu (i 0) (i 1) : ℝ) : EReal)) : Host.dotGeneral (F := Ideal) (φ₁ := .f32) (φ₂ := .f32) dot_S1x16384x1024_S1024x2816_S1x16384x2816_2_0_01_1_n_n none
    (fun i : S1x16384x1024.Idx => ((md a (i 1) (i 2) : ℝ) : EReal)) W
      = fun i => ((pb a (i 1) (i 2) : ℝ) : EReal) := up_eq _ _ _ _ rfl hW

theorem df_eq (a : Args) (W : FVec Ideal S2816x1024 .f32) (hW : W = fun i => ((a.wd (i 0) (i 1) : ℝ) : EReal)) : Host.dotGeneral (F := Ideal) (φ₁ := .f32) (φ₂ := .f32) dot_S1x16384x1024_S2816x1024_S1x16384x2816_2_1_01_0_n_n none
    (fun i : S1x16384x1024.Idx => ((dd a (i 1) (i 2) : ℝ) : EReal)) W
      = fun i => ((df a (i 1) (i 2) : ℝ) : EReal) := back_eq _ _ _ _ rfl hW

/-- The gated activation. -/
theorem f_eq (a : Args) : mulf (F := Ideal) (φ := .f32) (mulf (fun i : S1x16384x2816.Idx => ((pa a (i 1) (i 2) : ℝ) : EReal))
    (fun i : S1x16384x2816.Idx => ((sg (pa a (i 1) (i 2)) : ℝ) : EReal))) (fun i : S1x16384x2816.Idx => ((pb a (i 1) (i 2) : ℝ) : EReal))
      = fun i => ((f a (i 1) (i 2) : ℝ) : EReal) := rfl

/-- The host's rows of the activation's width, without the batch axis. -/
theorem flat_eq {n : ℕ} {d : Fin 16384 → Fin n → ℝ} {X : FVec Ideal ⟨3, ![1, 16384, n]⟩ .f32} (hX : X = fun i => ((d (i 1) (i 2) : ℝ) : EReal))
    {s : (⟨3, ![1, 16384, n]⟩ : Shape).ShapeCasts ⟨2, ![16384, n]⟩} {hb : FTy.bits .bf16 < FTy.bits .f32} :
    truncf (F := Ideal) (φ := .f32) .bf16 (shapeCast ⟨2, ![16384, n]⟩ X s) hb = fun i => ((d (i 0) (i 1) : ℝ) : EReal) := by
  funext y
  rw [hX, eq_ix2 y]
  show shapeCast ⟨2, ![16384, n]⟩ (fun i : (⟨3, ![1, 16384, n]⟩ : Shape).Idx => ((d (i 1) (i 2) : ℝ) : EReal)) s (ix2 (y 0) (y 1)) = _
  exact ValueIdx.shapeCast_1ab_ab_apply _ _ _ _

/-- The sum over the rows of the cotangent times the third product. -/
theorem dg2_eq {d w : Fin 16384 → Fin 1024 → ℝ} {X Y : FVec Ideal S1x16384x1024 .f32} (hX : X = fun i => ((d (i 1) (i 2) : ℝ) : EReal))
    (hY : Y = fun i => ((w (i 1) (i 2) : ℝ) : EReal)) :
    shapeCast S1x1024 (shapeCast S1x1x1024 (Host.reduceAdd (mulf (F := Ideal) (φ := .f32) X Y) (constant S_ .f32 0x00000000#32)
      reducesTo_S1x16384x1024_S1x1024_d1 h_S_) shapeCasts_S1x1024_S1x1x1024) shapeCasts_S1x1x1024_S1x1024
      = fun i => ((∑ k, d k (i 1) * w k (i 1) : ℝ) : EReal) := by
  funext y
  rw [hX, hY]
  idx_vars y
  pointwise
  simp only [ring_lift, sum_lift]

include h

/-- What the reference's run leaves in its five results. -/
theorem results (ρ : Dev nD → PrngReg) :
    θ_run defs (onTc (τ := τ) (main (F := Ideal))) ⟨m, fun _ => 0, ρ⟩ fun r => ∀ c : Dev nD,
      r.2.mem ((c.tc : Thread nD τ).loc main_v37) = (fun i => ((da (a c) (i 0) (i 1) : ℝ) : EReal))
      ∧ r.2.mem ((c.tc : Thread nD τ).loc main_v39) = (fun i => ((db (a c) (i 0) (i 1) : ℝ) : EReal))
      ∧ r.2.mem ((c.tc : Thread nD τ).loc main_v41) = (fun i => ((f (a c) (i 0) (i 1) : ℝ) : EReal))
      ∧ r.2.mem ((c.tc : Thread nD τ).loc main_v43) = (fun i => ((dd (a c) (i 0) (i 1) : ℝ) : EReal))
      ∧ r.2.mem ((c.tc : Thread nD τ).loc main_v44) = (fun i => ((dg2 (a c) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r hr c => ⟨(hr c).1.trans ?_, (hr c).2.1.trans ?_, (hr c).2.2.1.trans ?_,
    (hr c).2.2.2.1.trans ?_, (hr c).2.2.2.2.1.trans ?_, (hr c).2.2.2.2.2⟩) (run m ρ)
  · clear hr
    unfold res_main_v37
    rw [NormHost.ms_eq (h c).x, NormHost.root_eq, md_eq (a c) _ _ _ _ (h c).x (h c).g (h c).sc (h c).sh, pa_eq (a c) _ (h c).wg, pb_eq (a c) _ (h c).wu,
      sg_array, dd_eq (a c) _ _ (h c).g2 (h c).dxo, df_eq (a c) _ (h c).wd]
    refine flat_eq (d := da (a c)) ?_
    funext y
    idx_vars y
    pointwise
    simp only [ring_lift]
    exact congrArg _ (da_eq (a c) _ _)
  · clear hr
    rw [NormHost.ms_eq (h c).x, NormHost.root_eq, md_eq (a c) _ _ _ _ (h c).x (h c).g (h c).sc (h c).sh, pa_eq (a c) _ (h c).wg,
      sg_array, dd_eq (a c) _ _ (h c).g2 (h c).dxo, df_eq (a c) _ (h c).wd]
    refine flat_eq (d := db (a c)) ?_
    funext y
    idx_vars y
    pointwise
    simp only [ring_lift]
    exact congrArg _ (mul_comm _ _)
  · clear hr
    rw [NormHost.ms_eq (h c).x, NormHost.root_eq, md_eq (a c) _ _ _ _ (h c).x (h c).g (h c).sc (h c).sh, pa_eq (a c) _ (h c).wg, pb_eq (a c) _ (h c).wu,
      sg_array, f_eq]
    exact flat_eq rfl
  · clear hr
    rw [dd_eq (a c) _ _ (h c).g2 (h c).dxo]
    exact flat_eq rfl
  · clear hr
    unfold res_main_v44
    rw [NormHost.ms_eq (h c).x, NormHost.root_eq, md_eq (a c) _ _ _ _ (h c).x (h c).g (h c).sc (h c).sh, pa_eq (a c) _ (h c).wg, pb_eq (a c) _ (h c).wu,
      sg_array, f_eq]
    exact dg2_eq (h c).dxo (down_eq _ _ _ _ rfl (h c).wd)

end Cert.FfnActRefIdeal.Value

end
-- ==== Proof.FfnActHost.lean ====
/- What the kernel of the feed-forward block's gate is handed: the forward pass's products, over the reals. -/
module

public import proofs.«01_k».proof.Proof.Gen.FfnActIdeal.Value
public import Idealize.ShloMosaic.Lib.Claim
public import proofs.«01_k».proof.Proof.FfnActMath
public import Idealize.ShloMosaic.Lib.StableHlo.RunRead
public import Idealize.ShloMosaic.Lib.ValueLayout

@[expose] public section

set_option maxRecDepth 65536

noncomputable section

namespace Cert.FfnActIdeal.Value

open Cert.FfnActIdeal Cert.FfnActIdeal.Gen Idealize.ShloMosaic Idealize.ShloMosaic.TcCoe Idealize.SL.Sem Idealize.ShloMosaic.StableHlo
open Cert.Lift Cert.FfnActMath

variable (m : (ℓ : Loc nD τ sig) → Buf (Elt Ideal) ℓ) (c : Dev nD)

/-! ### The host's operations -/

theorem op_v3 : Gen.V m c main_v3 = shapeCast S16384x1024 (m ((c.tc : Thread nD τ).loc main_arg0)) shapeCasts_S1x16384x1024_S16384x1024 := by
  unfold Gen.V
  after_reads_simp
  rfl

theorem op_v11 : Gen.V m c main_v11 = (Host.rsqrt (F := Ideal) (φ := .f32) (s := S16384x1) (addf (Host.divf (broadcastInDim S16384x1 ![0] bcast_S16384_S16384x1_0
      (Host.reduceAdd (F := Ideal) (φ := .f32) (mulf (F := Ideal) (φ := .f32) (s := S16384x1024) (Gen.V m c main_v3) (Gen.V m c main_v3)) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))) : S16384x1.Idx → EReal) := by
  unfold Gen.V
  after_reads_simp

theorem op_v14 : Gen.V m c main_v14 = shapeCast S1x1024 (m ((c.tc : Thread nD τ).loc main_arg1)) shapeCasts_S1024_S1x1024 := by
  unfold Gen.V
  after_reads_simp
  rfl

theorem op_v17 : Gen.V m c main_v17 = shapeCast S1x1024 (m ((c.tc : Thread nD τ).loc main_arg2)) shapeCasts_S1x1x1024_S1x1024 := by
  unfold Gen.V
  after_reads_simp
  rfl

theorem op_v22 : Gen.V m c main_v22 = shapeCast S1x1024 (m ((c.tc : Thread nD τ).loc main_arg3)) shapeCasts_S1x1x1024_S1x1024 := by
  unfold Gen.V
  after_reads_simp
  rfl

theorem op_v25 : Gen.V m c main_v25 = (truncf (F := Ideal) (φ := .f32) (s := S16384x1024) .bf16 (addf (mulf (mulf (mulf (Gen.V m c main_v3)
      (broadcastInDim S16384x1024 ![0, 1] bcast_S16384x1_S16384x1024_0_1 (Gen.V m c main_v11)))
      (broadcastInDim S16384x1024 ![0, 1] bcast_S1x1024_S16384x1024_0_1 (Gen.V m c main_v14)))
      (broadcastInDim S16384x1024 ![0, 1] bcast_S1x1024_S16384x1024_0_1 (addf (F := Ideal) (φ := .f32) (s := S1x1024) (broadcastInDim S1x1024 ![] bcast_S_S1x1024 (constant S_ .f32 0x3F800000#32)) (Gen.V m c main_v17))))
      (broadcastInDim S16384x1024 ![0, 1] bcast_S1x1024_S16384x1024_0_1 (Gen.V m c main_v22))) bitsLt_bf16_f32 : S16384x1024.Idx → EReal) := by
  unfold Gen.V
  after_reads_simp

theorem op_v26 : Gen.V m c main_v26 = (Host.dotGeneral (F := Ideal) (φ₁ := .bf16) (φ₂ := .bf16) dot_S16384x1024_S1024x2816_S16384x2816_1_0_0_1_n_n none (Gen.V m c main_v25)
      (truncf (F := Ideal) (φ := .f32) (s := S1024x2816) .bf16 (m ((c.tc : Thread nD τ).loc main_arg5)) bitsLt_bf16_f32) : FVec Ideal S16384x2816 .f32) := by
  unfold Gen.V
  after_reads_simp

theorem op_v27 : Gen.V m c main_v27 = (Host.dotGeneral (F := Ideal) (φ₁ := .bf16) (φ₂ := .bf16) dot_S16384x1024_S1024x2816_S16384x2816_1_0_0_1_n_n none (Gen.V m c main_v25)
      (truncf (F := Ideal) (φ := .f32) (s := S1024x2816) .bf16 (m ((c.tc : Thread nD τ).loc main_arg6)) bitsLt_bf16_f32) : FVec Ideal S16384x2816 .f32) := by
  unfold Gen.V
  after_reads_simp

theorem op_v36 : Gen.V m c main_v36 = (truncf (F := Ideal) (φ := .f32) (s := S16384x2816) .bf16 (mulf (mulf (Gen.V m c main_v26) (Host.divf
      (broadcastInDim S16384x2816 ![] bcast_S_S16384x2816 (constant S_ .f32 0x3F800000#32))
      (addf (broadcastInDim S16384x2816 ![] bcast_S_S16384x2816 (constant S_ .f32 0x3F800000#32)) (Host.exp (Host.negf (Gen.V m c main_v26))))))
      (Gen.V m c main_v27)) bitsLt_bf16_f32 : S16384x2816.Idx → EReal) := by
  unfold Gen.V
  after_reads_simp

theorem op_v2 : Gen.V m c main_v2 = (truncf (F := Ideal) (φ := .f32) (s := S2816x1024) .bf16 (m ((c.tc : Thread nD τ).loc main_arg7)) bitsLt_bf16_f32 : S2816x1024.Idx → EReal) := by
  unfold Gen.V
  after_reads_simp

theorem op_v37 : Gen.V m c main_v37 = (Host.dotGeneral (F := Ideal) (φ₁ := .bf16) (φ₂ := .bf16) dot_S16384x2816_S2816x1024_S16384x1024_1_0_0_1_n_n none (Gen.V m c main_v36)
      (Gen.V m c main_v2) : FVec Ideal S16384x1024 .f32) := by
  unfold Gen.V
  after_reads_simp

theorem op_v38 : Gen.V m c main_v38 = shapeCast S1x1024 (m ((c.tc : Thread nD τ).loc main_arg4)) shapeCasts_S1x1x1024_S1x1024 := by
  unfold Gen.V
  after_reads_simp
  rfl

theorem op_v39 : Gen.V m c main_v39 = shapeCast S16384x1024 (m ((c.tc : Thread nD τ).loc main_arg8)) shapeCasts_S1x16384x1024_S16384x1024 := by
  unfold Gen.V
  after_reads_simp
  rfl

/-! ### Over the reals -/

/-- The arguments' buffers hold the real arrays `a`. -/
structure Holds (a : Args) : Prop where
  x : m ((c.tc : Thread nD τ).loc main_arg0) = fun i => ((a.x (i 1) (i 2) : ℝ) : EReal)
  g : m ((c.tc : Thread nD τ).loc main_arg1) = fun i => ((a.g (i 0) : ℝ) : EReal)
  sc : m ((c.tc : Thread nD τ).loc main_arg2) = fun i => ((a.sc (i 2) : ℝ) : EReal)
  sh : m ((c.tc : Thread nD τ).loc main_arg3) = fun i => ((a.sh (i 2) : ℝ) : EReal)
  g2 : m ((c.tc : Thread nD τ).loc main_arg4) = fun i => ((a.g2 (i 2) : ℝ) : EReal)
  wg : m ((c.tc : Thread nD τ).loc main_arg5) = fun i => ((a.wg (i 0) (i 1) : ℝ) : EReal)
  wu : m ((c.tc : Thread nD τ).loc main_arg6) = fun i => ((a.wu (i 0) (i 1) : ℝ) : EReal)
  wd : m ((c.tc : Thread nD τ).loc main_arg7) = fun i => ((a.wd (i 0) (i 1) : ℝ) : EReal)
  dxo : m ((c.tc : Thread nD τ).loc main_arg8) = fun i => ((a.dxo (i 1) (i 2) : ℝ) : EReal)

variable {a : Args} (h : Holds m c a)

omit m c in
/-- A product with a weight of the activation's width. -/
theorem up_eq {X : FVec Ideal S16384x1024 .bf16} {W : FVec Ideal S1024x2816 .f32} {d : Fin 16384 → Fin 1024 → ℝ}
    {w : Fin 1024 → Fin 2816 → ℝ} (hX : X = fun i => ((d (i 0) (i 1) : ℝ) : EReal)) (hW : W = fun i => ((w (i 0) (i 1) : ℝ) : EReal)) :
    Host.dotGeneral (F := Ideal) dot_S16384x1024_S1024x2816_S16384x2816_1_0_0_1_n_n none X (truncf .bf16 W bitsLt_bf16_f32)
      = fun i => ((∑ j, d (i 0) j * w j (i 1) : ℝ) : EReal) := by
  funext y
  rw [hX, hW]
  idx_vars y
  pointwise
  simp only [ring_lift, sum_lift]

omit m c in
/-- A product with the third weight. -/
theorem down_eq {X : FVec Ideal S16384x2816 .bf16} {W : FVec Ideal S2816x1024 .bf16} {d : Fin 16384 → Fin 2816 → ℝ}
    {w : Fin 2816 → Fin 1024 → ℝ} (hX : X = fun i => ((d (i 0) (i 1) : ℝ) : EReal)) (hW : W = fun i => ((w (i 0) (i 1) : ℝ) : EReal)) :
    Host.dotGeneral (F := Ideal) dot_S16384x2816_S2816x1024_S16384x1024_1_0_0_1_n_n none X W
      = fun i => ((∑ k, d (i 0) k * w k (i 1) : ℝ) : EReal) := by
  funext y
  rw [hX, hW]
  idx_vars y
  pointwise
  simp only [ring_lift, sum_lift]

include h

theorem x_all : Gen.V m c main_v3 = fun y : S16384x1024.Idx => ((a.x (y 0) (y 1) : ℝ) : EReal) := by
  rw [op_v3 m c, h.x]
  funext y
  rw [eq_ix2 y]
  exact ValueIdx.shapeCast_1ab_ab_apply _ _ _ _

theorem dxo_all : Gen.V m c main_v39 = fun y : S16384x1024.Idx => ((a.dxo (y 0) (y 1) : ℝ) : EReal) := by
  rw [op_v39 m c, h.dxo]
  funext y
  rw [eq_ix2 y]
  exact ValueIdx.shapeCast_1ab_ab_apply _ _ _ _

/-- The reciprocal root of each row's mean square. -/
theorem root_all : Gen.V m c main_v11 = fun y : S16384x1.Idx => ((rinv 1024 (a.x (y 0)) : ℝ) : EReal) := by
  rw [op_v11 m c, x_all m c h]
  funext y
  idx_vars y
  pointwise [consts]
  simp only [ring_lift, sum_lift, norm_lift]

theorem g_all : Gen.V m c main_v14 = fun y : S1x1024.Idx => ((a.g (y 1) : ℝ) : EReal) := by
  rw [op_v14 m c, h.g]
  funext y
  idx_vars y
  pointwise

theorem sc_all : Gen.V m c main_v17 = fun y : S1x1024.Idx => ((a.sc (y 1) : ℝ) : EReal) := by
  rw [op_v17 m c, h.sc]
  funext y
  idx_vars y
  pointwise

theorem sh_all : Gen.V m c main_v22 = fun y : S1x1024.Idx => ((a.sh (y 1) : ℝ) : EReal) := by
  rw [op_v22 m c, h.sh]
  funext y
  idx_vars y
  pointwise

theorem g2_all : Gen.V m c main_v38 = fun y : S1x1024.Idx => ((a.g2 (y 1) : ℝ) : EReal) := by
  rw [op_v38 m c, h.g2]
  funext y
  idx_vars y
  pointwise

/-- The modulated normed row. -/
theorem md_all : Gen.V m c main_v25 = fun y : S16384x1024.Idx => ((md a (y 0) (y 1) : ℝ) : EReal) := by
  rw [op_v25 m c, x_all m c h, root_all m c h, g_all m c h, sc_all m c h, sh_all m c h]
  funext y
  idx_vars y
  pointwise
  simp only [ring_lift]
  rfl

theorem wd_all : Gen.V m c main_v2 = fun y : S2816x1024.Idx => ((a.wd (y 0) (y 1) : ℝ) : EReal) := by
  rw [op_v2 m c, h.wd]
  rfl

theorem pa_all : Gen.V m c main_v26 = fun y : S16384x2816.Idx => ((pa a (y 0) (y 1) : ℝ) : EReal) :=
  (op_v26 m c).trans (up_eq (md_all m c h) h.wg)

theorem pb_all : Gen.V m c main_v27 = fun y : S16384x2816.Idx => ((pb a (y 0) (y 1) : ℝ) : EReal) :=
  (op_v27 m c).trans (up_eq (md_all m c h) h.wu)

/-- The gated activation. -/
theorem f_all : Gen.V m c main_v36 = fun y : S16384x2816.Idx => ((f a (y 0) (y 1) : ℝ) : EReal) := by
  rw [op_v36 m c, pa_all m c h, pb_all m c h, sg_array]
  rfl

theorem dn_all : Gen.V m c main_v37 = fun y : S16384x1024.Idx => ((dn a (y 0) (y 1) : ℝ) : EReal) :=
  (op_v37 m c).trans (down_eq (f_all m c h) (wd_all m c h))

end Cert.FfnActIdeal.Value

end
-- ==== Proof.FfnActKernel.lean ====
/- The kernel of the feed-forward block's gate: on real arguments its five result arrays are the real arrays. -/
module

public import proofs.«01_k».proof.Proof.FfnActHost

@[expose] public section

set_option maxRecDepth 65536

noncomputable section

namespace Cert.FfnActIdeal.Value

open Cert.FfnActIdeal Cert.FfnActIdeal.Gen Idealize.ShloMosaic Idealize.ShloMosaic.TcCoe Idealize.SL.Sem
open Idealize.ShloMosaic.Pipeline (Dat)
open Cert.Lift Cert.FfnActMath

/-! ### What one block computes -/

section Block

variable {x dn : Fin 256 → Fin 1024 → ℝ} {g2 : Fin 1024 → ℝ} {w : Fin 2816 → Fin 1024 → ℝ} {d p q : Fin 256 → Fin 2816 → ℝ}
  {X DN : FVec Ideal S256x1024 .f32} {G : FVec Ideal S1x1024 .f32} {W : FVec Ideal S2816x1024 .bf16} {D P Q : FVec Ideal S256x2816 .f32}

/-- The gradient of the third product. -/
theorem dd_block (hX : X = fun y => ((x (y 0) (y 1) : ℝ) : EReal)) (hG : G = fun y => ((g2 (y 1) : ℝ) : EReal)) :
    k0_pay5 (F := Ideal) X G = fun y => ((x (y 0) (y 1) * g2 (y 1) : ℝ) : EReal) := by
  funext y
  idx_vars y
  pointwise [k0_pay3, k0_pay4, k0_pay5, hX, hG]
  simp only [ring_lift]

/-- The gradient of the gated activation. -/
theorem df_block (hX : X = fun y => ((x (y 0) (y 1) : ℝ) : EReal)) (hG : G = fun y => ((g2 (y 1) : ℝ) : EReal))
    (hW : W = fun y => ((w (y 0) (y 1) : ℝ) : EReal)) :
    k0_pay8 (F := Ideal) X G W = fun y => ((∑ j, x (y 0) j * g2 j * w (y 1) j : ℝ) : EReal) := by
  funext y
  idx_vars y
  pointwise [k0_pay3, k0_pay4, k0_pay8, hX, hG, hW]
  simp only [ring_lift, sum_lift]

/-- The gradient of the gated product. -/
theorem da_block (hD : D = fun y => ((d (y 0) (y 1) : ℝ) : EReal)) (hP : P = fun y => ((p (y 0) (y 1) : ℝ) : EReal))
    (hQ : Q = fun y => ((q (y 0) (y 1) : ℝ) : EReal)) :
    k0_pay1 (F := Ideal) D (k0_pay9 P) (k0_pay10 Q) (k0_pay11 P)
      = fun y => ((d (y 0) (y 1) * q (y 0) (y 1) * (sg (p (y 0) (y 1)) * (1 + p (y 0) (y 1) * (1 - sg (p (y 0) (y 1))))) : ℝ) : EReal) := by
  funext y
  idx_vars y
  pointwise [k0_pay1, k0_pay9, k0_pay10, k0_pay11, hD, hP, hQ]
  simp only [logistic_lift, ring_lift]

/-- The gradient of the other product. -/
theorem db_block (hD : D = fun y => ((d (y 0) (y 1) : ℝ) : EReal)) (hP : P = fun y => ((p (y 0) (y 1) : ℝ) : EReal)) :
    k0_pay2 (F := Ideal) D (k0_pay12 P) = fun y => ((d (y 0) (y 1) * (p (y 0) (y 1) * sg (p (y 0) (y 1))) : ℝ) : EReal) := by
  funext y
  idx_vars y
  pointwise [k0_pay2, k0_pay9, k0_pay11, k0_pay12, hD, hP]
  simp only [logistic_lift, ring_lift]

/-- The gated activation. -/
theorem f_block (hP : P = fun y => ((p (y 0) (y 1) : ℝ) : EReal)) (hQ : Q = fun y => ((q (y 0) (y 1) : ℝ) : EReal)) :
    k0_pay13 (F := Ideal) P Q = fun y => ((p (y 0) (y 1) * sg (p (y 0) (y 1)) * q (y 0) (y 1) : ℝ) : EReal) := by
  funext y
  idx_vars y
  pointwise [k0_pay9, k0_pay10, k0_pay11, k0_pay12, k0_pay13, hP, hQ]
  simp only [logistic_lift, ring_lift]

/-- The block's part of the output scale's gradient. -/
theorem dg2_block (hX : X = fun y => ((x (y 0) (y 1) : ℝ) : EReal)) (hN : DN = fun y => ((dn (y 0) (y 1) : ℝ) : EReal)) (y : S1x1024.Idx) :
    k0_pay6 (F := Ideal) X DN y = ((∑ i, x i (y 1) * dn i (y 1) : ℝ) : EReal) := by
  idx_vars y
  pointwise [k0_pay3, k0_pay6, hX, hN]
  simp only [ring_lift, sum_lift]

end Block

/-! ### What the arrays hold -/

/-- The windows' block indices. -/
theorem idx : ∀ p : Fin cfg0.N, win0_0.index p = ![p.val, 0] ∧ win0_1.index p = ![p.val, 0] ∧ win0_2.index p = ![p.val, 0]
    ∧ win0_3.index p = ![p.val, 0] ∧ win0_4.index p = ![0, 0] ∧ win0_5.index p = ![0, 0] ∧ win0_6.index p = ![p.val, 0]
    ∧ win0_7.index p = ![p.val, 0] ∧ win0_8.index p = ![p.val, 0] ∧ win0_9.index p = ![p.val, 0] ∧ win0_10.index p = ![0, 0] :=
  (by decide +kernel : ∀ p : Fin grid0.N, _)

theorem points : cfg0.N = 64 := N_0

theorem lt64 (p : Fin cfg0.N) : p.val < 64 := p.isLt.trans_eq points

/-- Row `a` of the block at point `p`. -/
def row (p : Fin cfg0.N) (a : Fin 256) : Fin 16384 := ⟨p.val * 256 + a.val, by have := lt64 p; omega⟩

/-- A sum over the points and a block's rows is the sum over all rows. -/
theorem sum_rows (f : Fin 16384 → ℝ) : ∑ p, ∑ a, f (row p a) = ∑ i, f i :=
  (Fin.sum_univ_tiles cfg0.N 256 (by rw [points]) f).symm

variable (m : (ℓ : Loc nD τ sig) → Buf (Elt Ideal) ℓ) (c : Dev nD) {a : Args} (h : Holds m c a)

include h

theorem dxo_read (p : Fin cfg0.N) : iblk m c 0 p = fun y : S256x1024.Idx => ((a.dxo (row p (y 0)) (y 1) : ℝ) : EReal) := by
  funext y
  blk_simp [iblk, idx p]
  rw [dxo_all m c h]
  refine congrArg Real.toEReal (congrArg₂ (a.dxo) (Fin.ext ?_) (Fin.ext ?_)) <;> blk_simp [idx p, row]

theorem pa_read (p : Fin cfg0.N) : iblk m c 1 p = fun y : S256x2816.Idx => ((pa a (row p (y 0)) (y 1) : ℝ) : EReal) := by
  funext y
  blk_simp [iblk, idx p]
  rw [pa_all m c h]
  refine congrArg Real.toEReal (congrArg₂ (pa a) (Fin.ext ?_) (Fin.ext ?_)) <;> blk_simp [idx p, row]

theorem pb_read (p : Fin cfg0.N) : iblk m c 2 p = fun y : S256x2816.Idx => ((pb a (row p (y 0)) (y 1) : ℝ) : EReal) := by
  funext y
  blk_simp [iblk, idx p]
  rw [pb_all m c h]
  refine congrArg Real.toEReal (congrArg₂ (pb a) (Fin.ext ?_) (Fin.ext ?_)) <;> blk_simp [idx p, row]

theorem dn_read (p : Fin cfg0.N) : iblk m c 3 p = fun y : S256x1024.Idx => ((dn a (row p (y 0)) (y 1) : ℝ) : EReal) := by
  funext y
  blk_simp [iblk, idx p]
  rw [dn_all m c h]
  refine congrArg Real.toEReal (congrArg₂ (dn a) (Fin.ext ?_) (Fin.ext ?_)) <;> blk_simp [idx p, row]

theorem g2_read (p : Fin cfg0.N) : iblk m c 4 p = fun y : S1x1024.Idx => ((a.g2 (y 1) : ℝ) : EReal) := by
  funext y
  blk_simp [iblk, idx p]
  rw [g2_all m c h]
  refine congrArg Real.toEReal (congrArg a.g2 (Fin.ext ?_)) <;> blk_simp [idx p]

theorem wd_read (p : Fin cfg0.N) : iblk m c 5 p = fun y : S2816x1024.Idx => ((a.wd (y 0) (y 1) : ℝ) : EReal) := by
  funext y
  blk_simp [iblk, idx p]
  rw [wd_all m c h]
  refine congrArg Real.toEReal (congrArg₂ a.wd (Fin.ext ?_) (Fin.ext ?_)) <;> blk_simp [idx p]

/-- The block of the gated activation's gradient at a point. -/
theorem df_read (p : Fin cfg0.N) : k0_pay8 (F := Ideal) (iblk m c 0 p) (iblk m c 4 p) (iblk m c 5 p)
    = fun y : S256x2816.Idx => ((df a (row p (y 0)) (y 1) : ℝ) : EReal) :=
  df_block (x := fun i => a.dxo (row p i)) (dxo_read m c h p) (g2_read m c h p) (wd_read m c h p)

/-- The gradient of the gated product, block by block. -/
theorem final_da : (dats m 0 c).arrAt 6 cfg0.N = fun i : S16384x2816.Idx => ((da a (i 0) (i 1) : ℝ) : EReal) := by
  refine (dats m 0 c).arrAt_eq_of_covers 6 _ (by decide +kernel) fun p hf y => ?_
  have point := congrFun (da_block (d := fun i => df a (row p i)) (p := fun i => pa a (row p i)) (q := fun i => pb a (row p i))
    (df_read m c h p) (pa_read m c h p) (pb_read m c h p)) y
  blk_simp
  rw [after0_6]
  have place : ((da a (row p (y 0)) (y 1) : ℝ) : EReal)
      = ((da a (((View.whole main_v40_0).slice (win0_6.rect p)).emb y 0)
        (((View.whole main_v40_0).slice (win0_6.rect p)).emb y 1) : ℝ) : EReal) := by
    refine congrArg Real.toEReal (congrArg₂ (da a) (Fin.ext ?_) (Fin.ext ?_)) <;> blk_simp [idx p, row]
  refine Eq.trans ?_ place
  by_cases h0 : p.val % 64 = 0
  · rw [outsAt0_A m c p h0 (by have := lt64 p; omega)]
    frame_out
    exact point
  · rw [outsAt0_B m c p h0 (by omega)]
    frame_out
    exact point

/-- The gradient of the other product. -/
theorem final_db : (dats m 0 c).arrAt 7 cfg0.N = fun i : S16384x2816.Idx => ((db a (i 0) (i 1) : ℝ) : EReal) := by
  refine (dats m 0 c).arrAt_eq_of_covers 7 _ (by decide +kernel) fun p hf y => ?_
  have point := congrFun (db_block (d := fun i => df a (row p i)) (p := fun i => pa a (row p i))
    (df_read m c h p) (pa_read m c h p)) y
  blk_simp
  rw [after0_7]
  have place : ((db a (row p (y 0)) (y 1) : ℝ) : EReal)
      = ((db a (((View.whole main_v40_1).slice (win0_7.rect p)).emb y 0)
        (((View.whole main_v40_1).slice (win0_7.rect p)).emb y 1) : ℝ) : EReal) := by
    refine congrArg Real.toEReal (congrArg₂ (db a) (Fin.ext ?_) (Fin.ext ?_)) <;> blk_simp [idx p, row]
  refine Eq.trans ?_ place
  by_cases h0 : p.val % 64 = 0
  · rw [outsAt0_A m c p h0 (by have := lt64 p; omega)]
    frame_out
    exact point
  · rw [outsAt0_B m c p h0 (by omega)]
    frame_out
    exact point

/-- The gated activation. -/
theorem final_f : (dats m 0 c).arrAt 8 cfg0.N = fun i : S16384x2816.Idx => ((f a (i 0) (i 1) : ℝ) : EReal) := by
  refine (dats m 0 c).arrAt_eq_of_covers 8 _ (by decide +kernel) fun p hf y => ?_
  have point := congrFun (f_block (p := fun i => pa a (row p i)) (q := fun i => pb a (row p i)) (pa_read m c h p) (pb_read m c h p)) y
  blk_simp
  rw [after0_8]
  have place : ((f a (row p (y 0)) (y 1) : ℝ) : EReal)
      = ((f a (((View.whole main_v40_2).slice (win0_8.rect p)).emb y 0)
        (((View.whole main_v40_2).slice (win0_8.rect p)).emb y 1) : ℝ) : EReal) := by
    refine congrArg Real.toEReal (congrArg₂ (f a) (Fin.ext ?_) (Fin.ext ?_)) <;> blk_simp [idx p, row]
  refine Eq.trans ?_ place
  by_cases h0 : p.val % 64 = 0
  · rw [outsAt0_A m c p h0 (by have := lt64 p; omega)]
    frame_out
    exact point
  · rw [outsAt0_B m c p h0 (by omega)]
    frame_out
    exact point

/-- The gradient of the third product. -/
theorem final_dd : (dats m 0 c).arrAt 9 cfg0.N = fun i : S16384x1024.Idx => ((dd a (i 0) (i 1) : ℝ) : EReal) := by
  refine (dats m 0 c).arrAt_eq_of_covers 9 _ (by decide +kernel) fun p hf y => ?_
  have point := congrFun (dd_block (x := fun i => a.dxo (row p i)) (dxo_read m c h p) (g2_read m c h p)) y
  blk_simp
  rw [after0_9]
  have place : ((dd a (row p (y 0)) (y 1) : ℝ) : EReal)
      = ((dd a (((View.whole main_v40_3).slice (win0_9.rect p)).emb y 0)
        (((View.whole main_v40_3).slice (win0_9.rect p)).emb y 1) : ℝ) : EReal) := by
    refine congrArg Real.toEReal (congrArg₂ (dd a) (Fin.ext ?_) (Fin.ext ?_)) <;> blk_simp [idx p, row]
  refine Eq.trans ?_ place
  by_cases h0 : p.val % 64 = 0
  · rw [outsAt0_A m c p h0 (by have := lt64 p; omega)]
    frame_out
    exact point
  · rw [outsAt0_B m c p h0 (by omega)]
    frame_out
    exact point

/-- The output scale's gradient, summed over the points. -/
theorem final_dg2 : (dats m 0 c).arrAt 10 cfg0.N = fun i : S1x1024.Idx => ((dg2 a (i 1) : ℝ) : EReal) := by
  refine (dats m 0 c).arrAt_eq_of_covers 10 _ (by decide +kernel) fun p hf y => ?_
  have hp := (flush0_10 p).mp hf
  blk_simp
  rw [after0_10]
  have term (p : Fin cfg0.N) (y : S1x1024.Idx) := dg2_block (x := fun i => a.dxo (row p i)) (dn := fun i => dn a (row p i))
    (dxo_read m c h p) (dn_read m c h p) y
  refine (acc_lift (N := cfg0.N) (fun n h => (outsAt0 m c n h).2.2.2.2) (fun p y => ∑ i, a.dxo (row p i) (y 1) * dn a (row p i) (y 1))
    (fun p h0 y => ?_) (fun p h0 y => ?_) p (by simp only [points]; have := lt64 p; omega) y).trans ?_
  · simp only [points] at h0
    rw [outsAt0_A m c p h0 (by have := lt64 p; omega)]
    frame_out
    exact term p y
  · simp only [points] at h0
    rw [outsAt0_B m c p h0 (by omega)]
    frame_out
    pointwise [k0_pay7]
    exact congrArg _ (term p _)
  · refine congrArg Real.toEReal ((sum_rows fun i => a.dxo i (y 1) * dn a i (y 1)).trans ?_)
    show dg2 a (y 1) = _
    refine congrArg (dg2 a) (Fin.ext ?_)
    blk_simp [idx p]

omit h in
/-- What the kernel's run leaves in its five results. -/
theorem results (a : Dev nD → Args) (h : ∀ c : Dev nD, Holds m c (a c)) (ρ : Dev nD → PrngReg) :
    θ_run defs (onTc (τ := τ) (main (F := Ideal))) ⟨m, fun _ => 0, ρ⟩ fun r => ∀ c : Dev nD,
      r.2.mem ((c.tc : Thread nD τ).loc main_v40_0) = (fun i => ((da (a c) (i 0) (i 1) : ℝ) : EReal))
      ∧ r.2.mem ((c.tc : Thread nD τ).loc main_v40_1) = (fun i => ((db (a c) (i 0) (i 1) : ℝ) : EReal))
      ∧ r.2.mem ((c.tc : Thread nD τ).loc main_v40_2) = (fun i => ((f (a c) (i 0) (i 1) : ℝ) : EReal))
      ∧ r.2.mem ((c.tc : Thread nD τ).loc main_v40_3) = (fun i => ((dd (a c) (i 0) (i 1) : ℝ) : EReal))
      ∧ r.2.mem ((c.tc : Thread nD τ).loc main_v40_4) = (fun i => ((dg2 (a c) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r hr c => ⟨(hr c).1.trans (final_da m c (h c)), (hr c).2.1.trans (final_db m c (h c)),
    (hr c).2.2.1.trans (final_f m c (h c)), (hr c).2.2.2.1.trans (final_dd m c (h c)), (hr c).2.2.2.2.1.trans (final_dg2 m c (h c)),
    (hr c).2.2.2.2.2⟩) (run_blocks m ρ)

end Cert.FfnActIdeal.Value

end
-- ==== Proof.FfnActValue.lean ====
/- The value claim of the feed-forward block's gate: on finite arguments the kernel and the reference end with the
   same real arrays. -/
module

public import proofs.«01_k».proof.Defs
public import proofs.«01_k».proof.Proof.Gen.Pre_ffn_act_finite
public import proofs.«01_k».proof.Proof.FfnActRef
public import proofs.«01_k».proof.Proof.FfnActKernel

@[expose] public section

set_option maxRecDepth 16384

noncomputable section

namespace Cert.FfnActValue

open Idealize.ShloMosaic Idealize.ShloMosaic.TcCoe Idealize.SL.Sem Cert.Lift

variable (m : (ℓ : Loc FfnActIdeal.nD FfnActIdeal.τ FfnActIdeal.sig) → Buf (Elt Ideal) ℓ) (c : Dev FfnActIdeal.nD)

/-- The real parts of the arguments. -/
def args : FfnActMath.Args where
  x := re3 (m ((c.tc : Thread FfnActIdeal.nD FfnActIdeal.τ).loc FfnActIdeal.main_arg0))
  g := re1 (m ((c.tc : Thread FfnActIdeal.nD FfnActIdeal.τ).loc FfnActIdeal.main_arg1))
  sc := re3 (m ((c.tc : Thread FfnActIdeal.nD FfnActIdeal.τ).loc FfnActIdeal.main_arg2)) 0
  sh := re3 (m ((c.tc : Thread FfnActIdeal.nD FfnActIdeal.τ).loc FfnActIdeal.main_arg3)) 0
  g2 := re3 (m ((c.tc : Thread FfnActIdeal.nD FfnActIdeal.τ).loc FfnActIdeal.main_arg4)) 0
  wg := re2 (φ := .f32) (m ((c.tc : Thread FfnActIdeal.nD FfnActIdeal.τ).loc FfnActIdeal.main_arg5))
  wu := re2 (φ := .f32) (m ((c.tc : Thread FfnActIdeal.nD FfnActIdeal.τ).loc FfnActIdeal.main_arg6))
  wd := re2 (φ := .f32) (m ((c.tc : Thread FfnActIdeal.nD FfnActIdeal.τ).loc FfnActIdeal.main_arg7))
  dxo := re3 (m ((c.tc : Thread FfnActIdeal.nD FfnActIdeal.τ).loc FfnActIdeal.main_arg8))

omit m c in
/-- The printed precondition says that every argument is the array of its real parts. -/
theorem real_of_pre (a0 a8 : FVec Ideal ⟨3, ![1, 16384, 1024]⟩ .f32) (a1 : FVec Ideal ⟨1, ![1024]⟩ .f32)
    (a2 a3 a4 : FVec Ideal ⟨3, ![1, 1, 1024]⟩ .f32) (a5 a6 : FVec Ideal ⟨2, ![1024, 2816]⟩ .f32)
    (a7 : FVec Ideal ⟨2, ![2816, 1024]⟩ .f32)
    (h : Cert.Pre_ffn_act_finite.fn a0 a1 a2 a3 a4 a5 a6 a7 a8 = fun _ => 1#1) :
    (a0 = fun i => ((re3 a0 (i 1) (i 2) : ℝ) : EReal)) ∧ (a1 = fun i => ((re1 a1 (i 0) : ℝ) : EReal))
      ∧ (a2 = fun i => ((re3 a2 0 (i 2) : ℝ) : EReal)) ∧ (a3 = fun i => ((re3 a3 0 (i 2) : ℝ) : EReal))
      ∧ (a4 = fun i => ((re3 a4 0 (i 2) : ℝ) : EReal)) ∧ (a5 = fun i => ((re2 a5 (i 0) (i 1) : ℝ) : EReal))
      ∧ (a6 = fun i => ((re2 a6 (i 0) (i 1) : ℝ) : EReal)) ∧ (a7 = fun i => ((re2 a7 (i 0) (i 1) : ℝ) : EReal))
      ∧ (a8 = fun i => ((re3 a8 (i 1) (i 2) : ℝ) : EReal)) := by
  obtain ⟨h, h8⟩ := both h; obtain ⟨h, h7⟩ := both h; obtain ⟨h, h6⟩ := both h; obtain ⟨h, h5⟩ := both h
  obtain ⟨h, h4⟩ := both h; obtain ⟨h, h3⟩ := both h; obtain ⟨h, h2⟩ := both h; obtain ⟨h0, h1⟩ := both h
  exact ⟨real3 (real_of_all h0), real1 (real_of_all h1), realRow (real_of_all h2), realRow (real_of_all h3), realRow (real_of_all h4),
    real2 (real_of_all h5), real2 (real_of_all h6), real2 (real_of_all h7), real3 (real_of_all h8)⟩

/-- So the arguments' buffers hold their real parts. -/
theorem holds (h : Cert.Pre_FfnActIdeal_ffn_act_finite m) : FfnActIdeal.Value.Holds m c (args m c) := by
  obtain ⟨h0, h1, h2, h3, h4, h5, h6, h7, h8⟩ := real_of_pre _ _ _ _ _ _ _ _ _ (h c)
  exact ⟨h0, h1, h2, h3, h4, h5, h6, h7, h8⟩

/-- The value claim. -/
theorem algebraic : Cert.algebraic_FfnActIdeal_FfnActRefIdeal_pre_ffn_act_finite := by
  intro m ρ m' ρ' hpre hagree
  have hr := fun c => holds m c hpre
  have hs : ∀ c, FfnActRefIdeal.Value.Holds m' c (args m c) := fun c => by
    obtain ⟨e0, e1, e2, e3, e4, e5, e6, e7, e8⟩ := hagree c
    exact ⟨e0.trans (hr c).x, e1.trans (hr c).g, e2.trans (hr c).sc, e3.trans (hr c).sh, e4.trans (hr c).g2, e5.trans (hr c).wg,
      e6.trans (hr c).wu, e7.trans (hr c).wd, e8.trans (hr c).dxo⟩
  exact ⟨_, _, _, _, _, FfnActIdeal.Value.results m _ hr ρ, FfnActRefIdeal.Value.results m' _ hs ρ'⟩

end Cert.FfnActValue

end
-- ==== Proof.DiscMath.lean ====
/- The discretisation of the state-space branch, one channel of the state at a time: the gradients as they follow
   from the forward lines, over the extended reals. -/
module

public import Idealize.ShloMosaic.Lib.Claim
public import Idealize.ShloMosaic.Lib.Pipeline.ValueKit
public import Idealize.ShloMosaic.Lib.ValueLayout

@[expose] public section

noncomputable section

namespace Cert.DiscMath

open Idealize.ShloMosaic

/-- What belongs to one channel of the state: the pole and the step's logarithm, the input's coefficients over the
    sixteen inputs, and the cotangents of the discrete pole and of the discrete coefficients. -/
structure Row where
  ar : EReal
  ai : EReal
  ld : EReal
  br : Fin 16 → EReal
  bi : Fin 16 → EReal
  gar : EReal
  gai : EReal
  gbr : Fin 16 → EReal
  gbi : Fin 16 → EReal

/-! The forward pass: the discrete pole less one, and the quotient by the pole. -/

def dt (q : Row) : EReal := Ideal.exp q.ld
def mag (q : Row) : EReal := Ideal.exp (q.ar * dt q)
def co (q : Row) : EReal := Ideal.cos (q.ai * dt q)
def si (q : Row) : EReal := Ideal.sin (q.ai * dt q)
def xr (q : Row) : EReal := mag q * co q - 1
def xi (q : Row) : EReal := mag q * si q
def den (q : Row) : EReal := q.ar * q.ar + q.ai * q.ai
def nr (q : Row) : EReal := xr q * q.ar + xi q * q.ai
def ni (q : Row) : EReal := xi q * q.ar - xr q * q.ai
def cr (q : Row) : EReal := Ideal.div (nr q) (den q)
def ci (q : Row) : EReal := Ideal.div (ni q) (den q)

/-! The gradients of the quotient. -/

def inv2 (q : Row) : EReal := Ideal.div 1 (den q * den q)
def si1 (q : Row) : EReal := ∑ k, q.gbi k * q.br k
def sr1 (q : Row) : EReal := ∑ k, -q.gbr k * q.bi k
def si2 (q : Row) : EReal := ∑ k, q.gbi k * q.bi k
def sr2 (q : Row) : EReal := ∑ k, q.gbr k * q.br k
def s1 (q : Row) : EReal := si1 q + sr1 q
def s2 (q : Row) : EReal := si2 q + sr2 q
def q1 (q : Row) : EReal := Ideal.div (s1 q) (den q)
def q2 (q : Row) : EReal := Ideal.div (s2 q) (den q)
def dden (q : Row) : EReal := -(s1 q * inv2 q * ni q) + -(s2 q * inv2 q * nr q)

/-! The gradients of the discrete pole. -/

def ui (q : Row) : EReal := q.gai + q1 q * q.ar + q2 q * q.ai
def ur (q : Row) : EReal := q.gar + -q1 q * q.ai + q2 q * q.ar
def wi (q : Row) : EReal := mag q * ui q * co q
def wr (q : Row) : EReal := -(mag q * ur q) * si q
def wm (q : Row) : EReal := (ui q * si q + ur q * co q) * mag q

/-! The five results. -/

def dai (q : Row) : EReal := xr q * -q1 q + xi q * q2 q + q.ai * dden q + dden q * q.ai + wi q * dt q + wr q * dt q
def dar (q : Row) : EReal := xi q * q1 q + xr q * q2 q + q.ar * dden q + dden q * q.ar + wm q * dt q
def dld (q : Row) : EReal := (q.ai * wi q + q.ai * wr q + q.ar * wm q) * dt q
def dbr (q : Row) (k : Fin 16) : EReal := ci q * q.gbi k + cr q * q.gbr k
def dbi (q : Row) (k : Fin 16) : EReal := cr q * q.gbi k + ci q * -q.gbr k

/-! ### The rows as arrays -/

/-- One number of every row, as a column. -/
def col {n : ℕ} (f : Row → EReal) (R : Fin n → Row) : FVec Ideal ⟨2, ![n, 1]⟩ .f32 := fun y => f (R (y 0))

/-- The sixteen numbers of every row, as a matrix. -/
def mat {n : ℕ} (f : Row → Fin 16 → EReal) (R : Fin n → Row) : FVec Ideal ⟨2, ![n, 16]⟩ .f32 := fun y => f (R (y 0)) (y 1)

/-- One number of every row, by layer, group and channel. -/
def cube (f : Row → EReal) (R : Fin 4 → Fin 32 → Fin 64 → Row) : FVec Ideal ⟨3, ![4, 32, 64]⟩ .f32 := fun y => f (R (y 0) (y 1) (y 2))

/-- The sixteen numbers of every row, by layer, group and channel. -/
def cube16 (f : Row → Fin 16 → EReal) (R : Fin 4 → Fin 32 → Fin 64 → Row) : FVec Ideal ⟨4, ![4, 32, 64, 16]⟩ .f32 :=
  fun y => f (R (y 0) (y 1) (y 2)) (y 3)

/-- The rows one below the other. -/
def flat (R : Fin 4 → Fin 32 → Fin 64 → Row) (i : Fin 8192) : Row :=
  R ⟨i.val / 2048, by omega⟩ ⟨i.val / 64 % 32, by omega⟩ ⟨i.val % 64, by omega⟩

theorem flat_cube (f : Row → EReal) (R : Fin 4 → Fin 32 → Fin 64 → Row) (h : (⟨3, ![4, 32, 64]⟩ : Shape).ShapeCasts ⟨2, ![8192, 1]⟩) :
    shapeCast ⟨2, ![8192, 1]⟩ (cube f R) h = col f (flat R) := by
  funext y
  idx_vars y
  refine shapeCast_apply _ h _ (ix3 (⟨y0.val / 2048, by omega⟩ : Fin 4) (⟨y0.val / 64 % 32, by omega⟩ : Fin 32) (⟨y0.val % 64, by omega⟩ : Fin 64)) ?_
  rw [Shape.rowMajor_val_three, Shape.rowMajor_val_two]
  show (y0.val / 2048 * 32 + y0.val / 64 % 32) * 64 + y0.val % 64 = y0.val * 1 + y1.val
  omega

theorem flat_cube16 (f : Row → Fin 16 → EReal) (R : Fin 4 → Fin 32 → Fin 64 → Row)
    (h : (⟨4, ![4, 32, 64, 16]⟩ : Shape).ShapeCasts ⟨2, ![8192, 16]⟩) :
    shapeCast ⟨2, ![8192, 16]⟩ (cube16 f R) h = mat f (flat R) := by
  funext y
  idx_vars y
  refine shapeCast_apply _ h _ (ix4 (⟨y0.val / 2048, by omega⟩ : Fin 4) (⟨y0.val / 64 % 32, by omega⟩ : Fin 32) (⟨y0.val % 64, by omega⟩ : Fin 64) y1) ?_
  rw [Shape.rowMajor_val_four, Shape.rowMajor_val_two]
  show ((y0.val / 2048 * 32 + y0.val / 64 % 32) * 64 + y0.val % 64) * 16 + y1.val = y0.val * 16 + y1.val
  omega

/-- The rows that nine arrays hold. -/
def rows (A0 A1 : FVec Ideal ⟨3, ![4, 32, 64]⟩ .f32) (A2 : FVec Ideal ⟨2, ![4, 32]⟩ .f32) (A3 A4 : FVec Ideal ⟨4, ![4, 32, 64, 16]⟩ .f32)
    (A5 A6 : FVec Ideal ⟨3, ![4, 32, 64]⟩ .f32) (A7 A8 : FVec Ideal ⟨4, ![4, 32, 64, 16]⟩ .f32) (l : Fin 4) (g : Fin 32) (n : Fin 64) : Row where
  ar := A0 (ix3 l g n)
  ai := A1 (ix3 l g n)
  ld := A2 (ix2 l g)
  br k := A3 (ix4 l g n k)
  bi k := A4 (ix4 l g n k)
  gar := A5 (ix3 l g n)
  gai := A6 (ix3 l g n)
  gbr k := A7 (ix4 l g n k)
  gbi k := A8 (ix4 l g n k)

/-- An array is the cube of its entries. -/
theorem eq_cube {f : Row → EReal} {R : Fin 4 → Fin 32 → Fin 64 → Row} (A : FVec Ideal ⟨3, ![4, 32, 64]⟩ .f32)
    (h : ∀ l g n, f (R l g n) = A (ix3 l g n)) : A = cube f R := by
  funext y
  idx_vars y
  exact (h y0 y1 y2).symm

theorem eq_cube16 {f : Row → Fin 16 → EReal} {R : Fin 4 → Fin 32 → Fin 64 → Row} (A : FVec Ideal ⟨4, ![4, 32, 64, 16]⟩ .f32)
    (h : ∀ l g n k, f (R l g n) k = A (ix4 l g n k)) : A = cube16 f R := by
  funext y
  idx_vars y
  exact (h y0 y1 y2 y3).symm

end Cert.DiscMath

end
-- ==== Proof.DiscRef.lean ====
/- The reference of the discretisation's gradient: what its five results are. -/
module

public import proofs.«01_k».proof.Proof.Gen.DiscRefIdeal.Run
public import proofs.«01_k».proof.Proof.DiscMath

@[expose] public section

set_option maxRecDepth 65536

noncomputable section

namespace Cert.DiscRefIdeal.Value

open Cert.DiscRefIdeal Cert.DiscRefIdeal.Gen Idealize.ShloMosaic Idealize.ShloMosaic.TcCoe Idealize.SL.Sem
open Cert.DiscMath

/-! ### Operations on the rows' numbers -/

section Ops

variable (f g : Row → EReal) (f' g' : Row → Fin 16 → EReal) (R : Fin 4 → Fin 32 → Fin 64 → Row)

theorem mul_cube : mulf (cube f R) (cube g R) = cube (fun q => f q * g q) R := rfl
theorem add_cube : addf (cube f R) (cube g R) = cube (fun q => f q + g q) R := rfl
theorem sub_cube : subf (cube f R) (cube g R) = cube (fun q => f q - g q) R := rfl
theorem div_cube : Host.divf (cube f R) (cube g R) = cube (fun q => Ideal.div (f q) (g q)) R := rfl
theorem neg_cube : Host.negf (cube f R) = cube (fun q => -f q) R := rfl
theorem exp_cube : Host.exp (cube f R) = cube (fun q => Ideal.exp (f q)) R := rfl
theorem cos_cube : Host.cos (cube f R) = cube (fun q => Ideal.cos (f q)) R := rfl
theorem sin_cube : Host.sin (cube f R) = cube (fun q => Ideal.sin (f q)) R := rfl
theorem mul_cube16 : mulf (cube16 f' R) (cube16 g' R) = cube16 (fun q k => f' q k * g' q k) R := rfl
theorem add_cube16 : addf (cube16 f' R) (cube16 g' R) = cube16 (fun q k => f' q k + g' q k) R := rfl
theorem neg_cube16 : Host.negf (cube16 f' R) = cube16 (fun q k => -f' q k) R := rfl

theorem same_cube16 : shapeCast S4x32x64x16 (cube16 f' R) shapeCasts_S4x32x64x16_S4x32x64x16 = cube16 f' R := by
  funext y; pointwise

theorem one_cube : broadcastInDim S4x32x64 ![] bcast_S_S4x32x64 (constant (F := Ideal) S_ .f32 0x3F800000#32) = cube (fun _ => 1) R := by
  funext y; pointwise; rfl

/-- A number of each row repeated along its sixteen. -/
theorem wide_cube : broadcastInDim S4x32x64x16 ![0, 1, 2, 3] bcast_S4x32x64x1_S4x32x64x16_0_1_2_3
    (broadcastInDim S4x32x64x1 ![0, 1, 2] bcast_S4x32x64_S4x32x64x1_0_1_2 (cube f R)) = cube16 (fun q _ => f q) R := by
  funext y; idx_vars y; pointwise; rfl

/-- Two sums over the sixteen numbers, added. -/
theorem sums_cube : Host.reduceAdd (F := Ideal) (φ := .f32) (addf
      (shapeCast S4x32x64x1 (Host.reduceAdd (F := Ideal) (φ := .f32) (cube16 f' R) (constant S_ .f32 0x00000000#32) reducesTo_S4x32x64x16_S4x32x64_d3 h_S_) shapeCasts_S4x32x64_S4x32x64x1)
      (shapeCast S4x32x64x1 (Host.reduceAdd (F := Ideal) (φ := .f32) (cube16 g' R) (constant S_ .f32 0x00000000#32) reducesTo_S4x32x64x16_S4x32x64_d3 h_S_) shapeCasts_S4x32x64_S4x32x64x1))
      (constant S_ .f32 0x00000000#32) reducesTo_S4x32x64x1_S4x32x64_d3 h_S_
    = cube (fun q => (∑ k, f' q k) + ∑ k, g' q k) R := by
  funext y; idx_vars y; pointwise
  simp only [Finset.univ_unique, Finset.sum_singleton]
  rfl

end Ops

/-! ### The results -/

variable (m : (ℓ : Loc nD τ sig) → Buf (Elt Ideal) ℓ)

/-- The rows of the argument arrays. -/
def inputs (c : Dev nD) : Fin 4 → Fin 32 → Fin 64 → Row :=
  rows (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- The logarithm of the step is the same along a group's channels. -/
theorem ld_cube (c : Dev nD) : (broadcastInDim S4x32x64 ![0, 1, 2] bcast_S4x32x1_S4x32x64_0_1_2
    (broadcastInDim S4x32x1 ![0, 1] bcast_S4x32_S4x32x1_0_1 (m ((c.tc : Thread nD τ).loc main_arg2))) : FVec Ideal S4x32x64 .f32)
      = cube Row.ld (inputs m c) :=
  eq_cube _ fun l g n => by pointwise; rfl

theorem ar_cube (c : Dev nD) : m ((c.tc : Thread nD τ).loc main_arg0) = cube Row.ar (inputs m c) :=
  eq_cube _ fun _ _ _ => rfl

theorem ai_cube (c : Dev nD) : m ((c.tc : Thread nD τ).loc main_arg1) = cube Row.ai (inputs m c) :=
  eq_cube _ fun _ _ _ => rfl

theorem br_cube (c : Dev nD) : m ((c.tc : Thread nD τ).loc main_arg3) = cube16 Row.br (inputs m c) :=
  eq_cube16 _ fun _ _ _ _ => rfl

theorem bi_cube (c : Dev nD) : m ((c.tc : Thread nD τ).loc main_arg4) = cube16 Row.bi (inputs m c) :=
  eq_cube16 _ fun _ _ _ _ => rfl

theorem gar_cube (c : Dev nD) : m ((c.tc : Thread nD τ).loc main_arg5) = cube Row.gar (inputs m c) :=
  eq_cube _ fun _ _ _ => rfl

theorem gai_cube (c : Dev nD) : m ((c.tc : Thread nD τ).loc main_arg6) = cube Row.gai (inputs m c) :=
  eq_cube _ fun _ _ _ => rfl

theorem gbr_cube (c : Dev nD) : m ((c.tc : Thread nD τ).loc main_arg7) = cube16 Row.gbr (inputs m c) :=
  eq_cube16 _ fun _ _ _ _ => rfl

theorem gbi_cube (c : Dev nD) : m ((c.tc : Thread nD τ).loc main_arg8) = cube16 Row.gbi (inputs m c) :=
  eq_cube16 _ fun _ _ _ _ => rfl

theorem results (ρ : Dev nD → PrngReg) :
    θ_run defs (onTc (τ := τ) (main (F := Ideal))) ⟨m, fun _ => 0, ρ⟩ fun r => ∀ c : Dev nD,
      r.2.mem ((c.tc : Thread nD τ).loc main_v127) = col dar (flat (inputs m c))
      ∧ r.2.mem ((c.tc : Thread nD τ).loc main_v128) = col dai (flat (inputs m c))
      ∧ r.2.mem ((c.tc : Thread nD τ).loc main_v129) = col dld (flat (inputs m c))
      ∧ r.2.mem ((c.tc : Thread nD τ).loc main_v130) = mat dbr (flat (inputs m c))
      ∧ r.2.mem ((c.tc : Thread nD τ).loc main_v131) = mat dbi (flat (inputs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r hr c => ⟨(hr c).1.trans ?_, (hr c).2.1.trans ?_, (hr c).2.2.1.trans ?_,
    (hr c).2.2.2.1.trans ?_, (hr c).2.2.2.2.1.trans ?_, (hr c).2.2.2.2.2⟩) (run m ρ)
  · clear hr
    unfold res_main_v127
    simp only [ld_cube m c, ar_cube m c, ai_cube m c, br_cube m c, bi_cube m c, gar_cube m c, gai_cube m c, gbr_cube m c, gbi_cube m c, one_cube (inputs m c), mul_cube, add_cube, sub_cube, div_cube, neg_cube, exp_cube, cos_cube, sin_cube, mul_cube16, add_cube16, neg_cube16, same_cube16, wide_cube, sums_cube]
    exact flat_cube dar (inputs m c) _
  · clear hr
    unfold res_main_v128
    simp only [ld_cube m c, ar_cube m c, ai_cube m c, br_cube m c, bi_cube m c, gar_cube m c, gai_cube m c, gbr_cube m c, gbi_cube m c, one_cube (inputs m c), mul_cube, add_cube, sub_cube, div_cube, neg_cube, exp_cube, cos_cube, sin_cube, mul_cube16, add_cube16, neg_cube16, same_cube16, wide_cube, sums_cube]
    exact flat_cube dai (inputs m c) _
  · clear hr
    unfold res_main_v129
    simp only [ld_cube m c, ar_cube m c, ai_cube m c, br_cube m c, bi_cube m c, gar_cube m c, gai_cube m c, gbr_cube m c, gbi_cube m c, one_cube (inputs m c), mul_cube, add_cube, sub_cube, div_cube, neg_cube, exp_cube, cos_cube, sin_cube, mul_cube16, add_cube16, neg_cube16, same_cube16, wide_cube, sums_cube]
    exact flat_cube dld (inputs m c) _
  · clear hr
    simp only [ld_cube m c, ar_cube m c, ai_cube m c, br_cube m c, bi_cube m c, gar_cube m c, gai_cube m c, gbr_cube m c, gbi_cube m c, one_cube (inputs m c), mul_cube, add_cube, sub_cube, div_cube, neg_cube, exp_cube, cos_cube, sin_cube, mul_cube16, add_cube16, neg_cube16, same_cube16, wide_cube, sums_cube]
    exact flat_cube16 dbr (inputs m c) _
  · clear hr
    simp only [ld_cube m c, ar_cube m c, ai_cube m c, br_cube m c, bi_cube m c, gar_cube m c, gai_cube m c, gbr_cube m c, gbi_cube m c, one_cube (inputs m c), mul_cube, add_cube, sub_cube, div_cube, neg_cube, exp_cube, cos_cube, sin_cube, mul_cube16, add_cube16, neg_cube16, same_cube16, wide_cube, sums_cube]
    exact flat_cube16 dbi (inputs m c) _

end Cert.DiscRefIdeal.Value

end
-- ==== Proof.DiscKernel.lean ====
/- The kernel of the discretisation's gradient: what its five result arrays hold. -/
module

public import proofs.«01_k».proof.Proof.Gen.DiscIdeal.Frame
public import Idealize.ShloMosaic.Lib.Pipeline.Value
public import proofs.«01_k».proof.Proof.DiscMath
public import Idealize.ShloMosaic.Lib.StableHlo.RunRead
public import Idealize.ShloMosaic.Lib.ValueLayout
public import Idealize.ShloMosaic.Lib.Pipeline.ValueKit

@[expose] public section

set_option maxRecDepth 65536

noncomputable section

namespace Cert.DiscIdeal.Value

open Cert.DiscIdeal Cert.DiscIdeal.Gen Idealize.ShloMosaic Idealize.ShloMosaic.TcCoe Idealize.SL.Sem Idealize.ShloMosaic.StableHlo
open Idealize.ShloMosaic.Pipeline (Dat)
open Cert.DiscMath

/-! ### What one block computes: each value of the kernel's text is a number of its row -/

section Block

variable (R : Fin 1024 → Row)

theorem dt_block : k0_pay5 (F := Ideal) (col Row.ld R) = col dt R := by
  funext y; pointwise [k0_pay5, col, dt]

theorem ar_block : k0_pay1 (F := Ideal) (col Row.ar R) = col Row.ar R := by
  funext y; pointwise [k0_pay1]

theorem ai_block : k0_pay2 (F := Ideal) (col Row.ai R) = col Row.ai R := by
  funext y; pointwise [k0_pay2]

theorem br_block : k0_pay3 (F := Ideal) (mat Row.br R) = mat Row.br R := by
  funext y; pointwise [k0_pay3]

theorem bi_block : k0_pay4 (F := Ideal) (mat Row.bi R) = mat Row.bi R := by
  funext y; pointwise [k0_pay4]

theorem gar_block : k0_pay22 (F := Ideal) (col Row.gar R) = col Row.gar R := by
  funext y; pointwise [k0_pay22]

theorem gbr_block : k0_pay23 (F := Ideal) (mat Row.gbr R) = mat Row.gbr R := by
  funext y; pointwise [k0_pay23]

theorem gbi_block : k0_pay24 (F := Ideal) (mat Row.gbi R) = mat Row.gbi R := by
  funext y; pointwise [k0_pay24]

theorem neg_block : k0_pay25 (F := Ideal) (mat Row.gbr R) = mat (fun q k => -q.gbr k) R := by
  funext y; pointwise [k0_pay25, gbr_block, mat, zero_sub]

theorem mag_block : k0_pay6 (F := Ideal) (col Row.ar R) (col Row.ld R) = col mag R := by
  funext y; pointwise [k0_pay6, dt_block, ar_block]; rfl

theorem co_block : k0_pay8 (F := Ideal) (col Row.ai R) (col Row.ld R) = col co R := by
  funext y; pointwise [k0_pay7, k0_pay8, dt_block, ai_block]; rfl

theorem si_block : k0_pay9 (F := Ideal) (col Row.ai R) (col Row.ld R) = col si R := by
  funext y; idx_vars y; pointwise [k0_pay7, k0_pay9, dt_block, ai_block]; rfl

theorem si_block' : k0_pay11 (F := Ideal) (col Row.ai R) (col Row.ld R) = col si R := by
  funext y; idx_vars y; pointwise [k0_pay10, k0_pay11, dt_block, ai_block]; rfl

theorem co_block' : k0_pay12 (F := Ideal) (col Row.ai R) (col Row.ld R) = col co R := by
  funext y; idx_vars y; pointwise [k0_pay10, k0_pay12, dt_block, ai_block]; rfl

theorem xi_block : k0_pay13 (F := Ideal) (col Row.ar R) (col Row.ai R) (col Row.ld R) = col xi R := by
  funext y; idx_vars y; pointwise [k0_pay13, mag_block, si_block']; rfl

theorem den_block : k0_pay14 (F := Ideal) (col Row.ar R) (col Row.ai R) = col den R := by
  funext y; idx_vars y; pointwise [k0_pay14, ar_block, ai_block]; rfl

theorem xr_block : k0_pay15 (F := Ideal) (col Row.ar R) (col Row.ai R) (col Row.ld R) = col xr R := by
  funext y; idx_vars y; pointwise [k0_pay15, mag_block, co_block]; rfl

theorem nr_block : k0_pay16 (F := Ideal) (col Row.ar R) (col Row.ai R) (col Row.ld R) = col nr R := by
  funext y; idx_vars y; pointwise [k0_pay16, xr_block, xi_block, ar_block, ai_block]; rfl

theorem cr_block : k0_pay17 (F := Ideal) (col Row.ar R) (col Row.ai R) (col Row.ld R) = col cr R := by
  funext y; idx_vars y; pointwise [k0_pay17, nr_block, den_block]; rfl

theorem inv2_block : k0_pay18 (F := Ideal) (col Row.ar R) (col Row.ai R) = col inv2 R := by
  funext y; idx_vars y; pointwise [k0_pay18, den_block]; rfl

theorem ni_block : k0_pay19 (F := Ideal) (col Row.ar R) (col Row.ai R) (col Row.ld R) = col ni R := by
  funext y; idx_vars y; pointwise [k0_pay19, xr_block, xi_block, ar_block, ai_block]; rfl

theorem ci_block : k0_pay20 (F := Ideal) (col Row.ar R) (col Row.ai R) (col Row.ld R) = col ci R := by
  funext y; idx_vars y; pointwise [k0_pay20, ni_block, den_block]; rfl

theorem inv2_block' : k0_pay21 (F := Ideal) (col Row.ar R) (col Row.ai R) = col inv2 R := by
  funext y; idx_vars y; pointwise [k0_pay21, den_block]; rfl

theorem dbi_block : k0_pay26 (F := Ideal) (col cr R) (col ci R) (mat Row.gbr R) (mat Row.gbi R) = mat dbi R := by
  funext y; idx_vars y; pointwise [k0_pay26, neg_block, gbi_block]; rfl

theorem s1_block : k0_pay27 (F := Ideal) (mat Row.br R) (mat Row.bi R) (mat Row.gbr R) (mat Row.gbi R) = col s1 R := by
  funext y; idx_vars y; pointwise [k0_pay27, neg_block, gbi_block]; rfl

theorem dbr_block : k0_pay28 (F := Ideal) (col cr R) (col ci R) (mat Row.gbr R) (mat Row.gbi R) = mat dbr R := by
  funext y; idx_vars y; pointwise [k0_pay28, gbr_block, gbi_block]; rfl

theorem s2_block : k0_pay29 (F := Ideal) (mat Row.br R) (mat Row.bi R) (mat Row.gbr R) (mat Row.gbi R) = col s2 R := by
  funext y; idx_vars y; pointwise [k0_pay29, gbr_block, gbi_block]; rfl

theorem q1_block : k0_pay31 (F := Ideal) (mat Row.br R) (mat Row.bi R) (col den R) (mat Row.gbr R) (mat Row.gbi R) = col q1 R := by
  funext y; idx_vars y; pointwise [k0_pay31, s1_block]; rfl

theorem q1n_block : k0_pay32 (F := Ideal) (mat Row.br R) (mat Row.bi R) (col den R) (mat Row.gbr R) (mat Row.gbi R) = col (fun q => -q1 q) R := by
  funext y; idx_vars y; pointwise [k0_pay32, q1_block, col, zero_sub]

theorem dden1_block : k0_pay30 (F := Ideal) (mat Row.br R) (mat Row.bi R) (col ni R) (col inv2 R) (mat Row.gbr R) (mat Row.gbi R) = col (fun q => -(s1 q * inv2 q * ni q)) R := by
  funext y; idx_vars y; pointwise [k0_pay30, s1_block, col, zero_sub]

theorem xrq_block : k0_pay33 (F := Ideal) (mat Row.br R) (mat Row.bi R) (col den R) (col xr R) (mat Row.gbr R) (mat Row.gbi R) = col (fun q => xr q * -q1 q) R := by
  funext y; idx_vars y; pointwise [k0_pay33, q1n_block]; rfl

theorem ur1_block : k0_pay34 (F := Ideal) (col Row.ai R) (mat Row.br R) (mat Row.bi R) (col den R) (col Row.gar R) (mat Row.gbr R) (mat Row.gbi R) = col (fun q => q.gar + -q1 q * q.ai) R := by
  funext y; idx_vars y; pointwise [k0_pay34, q1n_block]; rfl

theorem xiq_block : k0_pay35 (F := Ideal) (mat Row.br R) (mat Row.bi R) (col xi R) (col den R) (mat Row.gbr R) (mat Row.gbi R) = col (fun q => xi q * q1 q) R := by
  funext y; idx_vars y; pointwise [k0_pay35, q1_block]; rfl

theorem ui1_block : k0_pay36 (F := Ideal) (col Row.ar R) (mat Row.br R) (mat Row.bi R) (col den R) (col Row.gai R) (mat Row.gbr R) (mat Row.gbi R) = col (fun q => q.gai + q1 q * q.ar) R := by
  funext y; idx_vars y; pointwise [k0_pay36, q1_block]; rfl

theorem dden2_block : k0_pay37 (F := Ideal) (mat Row.br R) (mat Row.bi R) (col nr R) (col inv2 R) (mat Row.gbr R) (mat Row.gbi R) = col (fun q => s2 q * inv2 q * nr q) R := by
  funext y; idx_vars y; pointwise [k0_pay37, s2_block]; rfl

theorem dden_block : k0_pay39 (F := Ideal) (col (fun q => -(s1 q * inv2 q * ni q)) R) (col (fun q => s2 q * inv2 q * nr q) R) (k0_pay38 (F := Ideal)) = col dden R := by
  funext y; idx_vars y; pointwise [k0_pay38, k0_pay39, col, zero_sub, dden]

theorem q2_block : k0_pay40 (F := Ideal) (col den R) (col s2 R) = col q2 R := by
  funext y; idx_vars y; pointwise [k0_pay40]; rfl

theorem ui_block : k0_pay41 (F := Ideal) (col Row.ai R) (col den R) (col s2 R) (col (fun q => q.gai + q1 q * q.ar) R) = col ui R := by
  funext y; idx_vars y; pointwise [k0_pay41, q2_block]; rfl

theorem ur_block : k0_pay42 (F := Ideal) (col Row.ar R) (col den R) (col s2 R) (col (fun q => q.gar + -q1 q * q.ai) R) = col ur R := by
  funext y; idx_vars y; pointwise [k0_pay42, q2_block]; rfl

theorem wi_block : k0_pay43 (F := Ideal) (col Row.ai R) (col mag R) (col co R) (col den R) (col s2 R) (col (fun q => q.gai + q1 q * q.ar) R) = col wi R := by
  funext y; idx_vars y; pointwise [k0_pay43, ui_block]; rfl

theorem wr_block : k0_pay44 (F := Ideal) (col Row.ar R) (col mag R) (col si R) (col den R) (col s2 R) (col (fun q => q.gar + -q1 q * q.ai) R) = col wr R := by
  funext y; idx_vars y; pointwise [k0_pay44, ur_block, col, zero_sub, wr]

theorem dai_block : k0_pay45 (F := Ideal) (col Row.ar R) (col Row.ai R) (col dt R) (col mag R) (col si R) (col co R) (col xi R) (col den R) (col s2 R) (col (fun q => -(s1 q * inv2 q * ni q)) R) (col (fun q => xr q * -q1 q) R) (col (fun q => q.gar + -q1 q * q.ai) R) (col (fun q => q.gai + q1 q * q.ar) R) (col (fun q => s2 q * inv2 q * nr q) R) (k0_pay38 (F := Ideal)) = col dai R := by
  funext y; idx_vars y; pointwise [k0_pay45, q2_block, dden_block, wi_block, wr_block]; rfl

theorem wm_block : k0_pay46 (F := Ideal) (col Row.ar R) (col Row.ai R) (col mag R) (col co R) (col si R) (col den R) (col s2 R) (col (fun q => q.gar + -q1 q * q.ai) R) (col (fun q => q.gai + q1 q * q.ar) R) = col wm R := by
  funext y; idx_vars y; pointwise [k0_pay46, ui_block, ur_block]; rfl

theorem dar_block : k0_pay47 (F := Ideal) (col Row.ar R) (col Row.ai R) (col dt R) (col mag R) (col co R) (col si R) (col den R) (col xr R) (col s2 R) (col (fun q => -(s1 q * inv2 q * ni q)) R) (col (fun q => q.gar + -q1 q * q.ai) R) (col (fun q => xi q * q1 q) R) (col (fun q => q.gai + q1 q * q.ar) R) (col (fun q => s2 q * inv2 q * nr q) R) (k0_pay38 (F := Ideal)) = col dar R := by
  funext y; idx_vars y; pointwise [k0_pay47, q2_block, dden_block, wm_block]; rfl

theorem dld_block : k0_pay48 (F := Ideal) (col Row.ar R) (col Row.ai R) (col dt R) (col mag R) (col co R) (col si R) (col si R) (col co R) (col den R) (col s2 R) (col (fun q => q.gar + -q1 q * q.ai) R) (col (fun q => q.gai + q1 q * q.ar) R) = col dld R := by
  funext y; idx_vars y; pointwise [k0_pay48, wi_block, wr_block, wm_block]; rfl

theorem out_dar : out0_9 (F := Ideal) (col Row.ar R) (col Row.ai R) (col Row.ld R) (mat Row.br R) (mat Row.bi R) (col Row.gar R) (col Row.gai R) (mat Row.gbr R) (mat Row.gbi R) = col dar R := by
  unfold_out out0_9
  frame_out
  simp only [dt_block, ar_block, ai_block, br_block, bi_block, gar_block, gbr_block, gbi_block, neg_block, mag_block, co_block, si_block, xi_block, den_block, xr_block, nr_block, cr_block, inv2_block, ni_block, ci_block, dbi_block, s1_block, dbr_block, s2_block, q1_block, q1n_block, dden1_block, xrq_block, ur1_block, xiq_block, ui1_block, dden2_block, dden_block, q2_block, ui_block, ur_block, wi_block, wr_block, dai_block, wm_block, dar_block, dld_block, si_block', co_block', inv2_block']

theorem out_dai : out0_10 (F := Ideal) (col Row.ar R) (col Row.ai R) (col Row.ld R) (mat Row.br R) (mat Row.bi R) (col Row.gar R) (col Row.gai R) (mat Row.gbr R) (mat Row.gbi R) = col dai R := by
  unfold_out out0_10
  frame_out
  simp only [dt_block, ar_block, ai_block, br_block, bi_block, gar_block, gbr_block, gbi_block, neg_block, mag_block, co_block, si_block, xi_block, den_block, xr_block, nr_block, cr_block, inv2_block, ni_block, ci_block, dbi_block, s1_block, dbr_block, s2_block, q1_block, q1n_block, dden1_block, xrq_block, ur1_block, xiq_block, ui1_block, dden2_block, dden_block, q2_block, ui_block, ur_block, wi_block, wr_block, dai_block, wm_block, dar_block, dld_block, si_block', co_block', inv2_block']

theorem out_dld : out0_11 (F := Ideal) (col Row.ar R) (col Row.ai R) (col Row.ld R) (mat Row.br R) (mat Row.bi R) (col Row.gar R) (col Row.gai R) (mat Row.gbr R) (mat Row.gbi R) = col dld R := by
  unfold_out out0_11
  frame_out
  simp only [dt_block, ar_block, ai_block, br_block, bi_block, gar_block, gbr_block, gbi_block, neg_block, mag_block, co_block, si_block, xi_block, den_block, xr_block, nr_block, cr_block, inv2_block, ni_block, ci_block, dbi_block, s1_block, dbr_block, s2_block, q1_block, q1n_block, dden1_block, xrq_block, ur1_block, xiq_block, ui1_block, dden2_block, dden_block, q2_block, ui_block, ur_block, wi_block, wr_block, dai_block, wm_block, dar_block, dld_block, si_block', co_block', inv2_block']

theorem out_dbr : out0_12 (F := Ideal) (col Row.ar R) (col Row.ai R) (col Row.ld R) (mat Row.br R) (mat Row.bi R) (col Row.gar R) (col Row.gai R) (mat Row.gbr R) (mat Row.gbi R) = mat dbr R := by
  unfold_out out0_12
  frame_out
  simp only [dt_block, ar_block, ai_block, br_block, bi_block, gar_block, gbr_block, gbi_block, neg_block, mag_block, co_block, si_block, xi_block, den_block, xr_block, nr_block, cr_block, inv2_block, ni_block, ci_block, dbi_block, s1_block, dbr_block, s2_block, q1_block, q1n_block, dden1_block, xrq_block, ur1_block, xiq_block, ui1_block, dden2_block, dden_block, q2_block, ui_block, ur_block, wi_block, wr_block, dai_block, wm_block, dar_block, dld_block, si_block', co_block', inv2_block']

theorem out_dbi : out0_13 (F := Ideal) (col Row.ar R) (col Row.ai R) (col Row.ld R) (mat Row.br R) (mat Row.bi R) (col Row.gar R) (col Row.gai R) (mat Row.gbr R) (mat Row.gbi R) = mat dbi R := by
  unfold_out out0_13
  frame_out
  simp only [dt_block, ar_block, ai_block, br_block, bi_block, gar_block, gbr_block, gbi_block, neg_block, mag_block, co_block, si_block, xi_block, den_block, xr_block, nr_block, cr_block, inv2_block, ni_block, ci_block, dbi_block, s1_block, dbr_block, s2_block, q1_block, q1n_block, dden1_block, xrq_block, ur1_block, xiq_block, ui1_block, dden2_block, dden_block, q2_block, ui_block, ur_block, wi_block, wr_block, dai_block, wm_block, dar_block, dld_block, si_block', co_block', inv2_block']

end Block

/-! ### What the kernel is handed -/

variable (m : (ℓ : Loc nD τ sig) → Buf (Elt Ideal) ℓ) (c : Dev nD)

/-- The rows of the argument arrays. -/
def inputs : Fin 4 → Fin 32 → Fin 64 → Row :=
  rows (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

theorem op_v2 : Gen.V m c main_v2 = shapeCast S8192x1 (broadcastInDim S4x32x64 ![0, 1, 2] bcast_S4x32x1_S4x32x64_0_1_2
    (broadcastInDim S4x32x1 ![0, 1] bcast_S4x32_S4x32x1_0_1 (m ((c.tc : Thread nD τ).loc main_arg2)))) shapeCasts_S4x32x64_S8192x1 := by
  unfold Gen.V
  after_reads_simp
  rfl

theorem op_v3 : Gen.V m c main_v3 = shapeCast S8192x1 (m ((c.tc : Thread nD τ).loc main_arg0)) shapeCasts_S4x32x64_S8192x1 := by
  unfold Gen.V
  after_reads_simp
  rfl

theorem op_v4 : Gen.V m c main_v4 = shapeCast S8192x1 (m ((c.tc : Thread nD τ).loc main_arg1)) shapeCasts_S4x32x64_S8192x1 := by
  unfold Gen.V
  after_reads_simp
  rfl

theorem op_v5 : Gen.V m c main_v5 = shapeCast S8192x16 (m ((c.tc : Thread nD τ).loc main_arg3)) shapeCasts_S4x32x64x16_S8192x16 := by
  unfold Gen.V
  after_reads_simp
  rfl

theorem op_v6 : Gen.V m c main_v6 = shapeCast S8192x16 (m ((c.tc : Thread nD τ).loc main_arg4)) shapeCasts_S4x32x64x16_S8192x16 := by
  unfold Gen.V
  after_reads_simp
  rfl

theorem op_v7 : Gen.V m c main_v7 = shapeCast S8192x1 (m ((c.tc : Thread nD τ).loc main_arg5)) shapeCasts_S4x32x64_S8192x1 := by
  unfold Gen.V
  after_reads_simp
  rfl

theorem op_v8 : Gen.V m c main_v8 = shapeCast S8192x1 (m ((c.tc : Thread nD τ).loc main_arg6)) shapeCasts_S4x32x64_S8192x1 := by
  unfold Gen.V
  after_reads_simp
  rfl

theorem op_v9 : Gen.V m c main_v9 = shapeCast S8192x16 (m ((c.tc : Thread nD τ).loc main_arg7)) shapeCasts_S4x32x64x16_S8192x16 := by
  unfold Gen.V
  after_reads_simp
  rfl

theorem op_v10 : Gen.V m c main_v10 = shapeCast S8192x16 (m ((c.tc : Thread nD τ).loc main_arg8)) shapeCasts_S4x32x64x16_S8192x16 := by
  unfold Gen.V
  after_reads_simp
  rfl

/-- The logarithm of the step is the same along a group's channels. -/
theorem ld_cube : (broadcastInDim S4x32x64 ![0, 1, 2] bcast_S4x32x1_S4x32x64_0_1_2
    (broadcastInDim S4x32x1 ![0, 1] bcast_S4x32_S4x32x1_0_1 (m ((c.tc : Thread nD τ).loc main_arg2))) : FVec Ideal S4x32x64 .f32)
      = cube Row.ld (inputs m c) :=
  eq_cube _ fun l g n => by pointwise; rfl

theorem ld_all : Gen.V m c main_v2 = col Row.ld (flat (inputs m c)) := by
  rw [op_v2, ld_cube, flat_cube]

theorem ar_all : Gen.V m c main_v3 = col Row.ar (flat (inputs m c)) := by
  rw [op_v3, eq_cube (f := Row.ar) (R := inputs m c) (m ((c.tc : Thread nD τ).loc main_arg0)) (fun _ _ _ => rfl), flat_cube]

theorem ai_all : Gen.V m c main_v4 = col Row.ai (flat (inputs m c)) := by
  rw [op_v4, eq_cube (f := Row.ai) (R := inputs m c) (m ((c.tc : Thread nD τ).loc main_arg1)) (fun _ _ _ => rfl), flat_cube]

theorem br_all : Gen.V m c main_v5 = mat Row.br (flat (inputs m c)) := by
  rw [op_v5, eq_cube16 (f := Row.br) (R := inputs m c) (m ((c.tc : Thread nD τ).loc main_arg3)) (fun _ _ _ _ => rfl), flat_cube16]

theorem bi_all : Gen.V m c main_v6 = mat Row.bi (flat (inputs m c)) := by
  rw [op_v6, eq_cube16 (f := Row.bi) (R := inputs m c) (m ((c.tc : Thread nD τ).loc main_arg4)) (fun _ _ _ _ => rfl), flat_cube16]

theorem gar_all : Gen.V m c main_v7 = col Row.gar (flat (inputs m c)) := by
  rw [op_v7, eq_cube (f := Row.gar) (R := inputs m c) (m ((c.tc : Thread nD τ).loc main_arg5)) (fun _ _ _ => rfl), flat_cube]

theorem gai_all : Gen.V m c main_v8 = col Row.gai (flat (inputs m c)) := by
  rw [op_v8, eq_cube (f := Row.gai) (R := inputs m c) (m ((c.tc : Thread nD τ).loc main_arg6)) (fun _ _ _ => rfl), flat_cube]

theorem gbr_all : Gen.V m c main_v9 = mat Row.gbr (flat (inputs m c)) := by
  rw [op_v9, eq_cube16 (f := Row.gbr) (R := inputs m c) (m ((c.tc : Thread nD τ).loc main_arg7)) (fun _ _ _ _ => rfl), flat_cube16]

theorem gbi_all : Gen.V m c main_v10 = mat Row.gbi (flat (inputs m c)) := by
  rw [op_v10, eq_cube16 (f := Row.gbi) (R := inputs m c) (m ((c.tc : Thread nD τ).loc main_arg8)) (fun _ _ _ _ => rfl), flat_cube16]

/-! ### What the arrays hold -/

/-- The windows' block indices. -/
theorem idx : ∀ p : Fin cfg0.N, win0_0.index p = ![p.val, 0] ∧ win0_1.index p = ![p.val, 0] ∧ win0_2.index p = ![p.val, 0] ∧ win0_3.index p = ![p.val, 0] ∧
    win0_4.index p = ![p.val, 0] ∧ win0_5.index p = ![p.val, 0] ∧ win0_6.index p = ![p.val, 0] ∧ win0_7.index p = ![p.val, 0] ∧ win0_8.index p = ![p.val, 0] ∧
    win0_9.index p = ![p.val, 0] ∧ win0_10.index p = ![p.val, 0] ∧ win0_11.index p = ![p.val, 0] ∧ win0_12.index p = ![p.val, 0] ∧ win0_13.index p = ![p.val, 0] :=
  (by decide +kernel : ∀ p : Fin grid0.N, _)

theorem points : cfg0.N = 8 := N_0

theorem lt8 (p : Fin cfg0.N) : p.val < 8 := p.isLt.trans_eq points

/-- Row `a` of the block at point `p`. -/
def row (p : Fin cfg0.N) (a : Fin 1024) : Fin 8192 := ⟨p.val * 1024 + a.val, by have := lt8 p; omega⟩

/-- The rows of the block at point `p`. -/
def tile (p : Fin cfg0.N) (a : Fin 1024) : Row := flat (inputs m c) (row p a)

theorem ar_read (p : Fin cfg0.N) : iblk m c 0 p = col Row.ar (tile m c p) := by
  funext y
  blk_simp [iblk, idx p]
  rw [ar_all]
  refine congrArg (fun i => Row.ar (flat (inputs m c) i)) (Fin.ext ?_)
  blk_simp [idx p, row]

theorem ai_read (p : Fin cfg0.N) : iblk m c 1 p = col Row.ai (tile m c p) := by
  funext y
  blk_simp [iblk, idx p]
  rw [ai_all]
  refine congrArg (fun i => Row.ai (flat (inputs m c) i)) (Fin.ext ?_)
  blk_simp [idx p, row]

theorem ld_read (p : Fin cfg0.N) : iblk m c 2 p = col Row.ld (tile m c p) := by
  funext y
  blk_simp [iblk, idx p]
  rw [ld_all]
  refine congrArg (fun i => Row.ld (flat (inputs m c) i)) (Fin.ext ?_)
  blk_simp [idx p, row]

theorem br_read (p : Fin cfg0.N) : iblk m c 3 p = mat Row.br (tile m c p) := by
  funext y
  blk_simp [iblk, idx p]
  rw [br_all]
  refine congrArg₂ (fun i => Row.br (flat (inputs m c) i)) (Fin.ext ?_) (Fin.ext ?_) <;> blk_simp [idx p, row]

theorem bi_read (p : Fin cfg0.N) : iblk m c 4 p = mat Row.bi (tile m c p) := by
  funext y
  blk_simp [iblk, idx p]
  rw [bi_all]
  refine congrArg₂ (fun i => Row.bi (flat (inputs m c) i)) (Fin.ext ?_) (Fin.ext ?_) <;> blk_simp [idx p, row]

theorem gar_read (p : Fin cfg0.N) : iblk m c 5 p = col Row.gar (tile m c p) := by
  funext y
  blk_simp [iblk, idx p]
  rw [gar_all]
  refine congrArg (fun i => Row.gar (flat (inputs m c) i)) (Fin.ext ?_)
  blk_simp [idx p, row]

theorem gai_read (p : Fin cfg0.N) : iblk m c 6 p = col Row.gai (tile m c p) := by
  funext y
  blk_simp [iblk, idx p]
  rw [gai_all]
  refine congrArg (fun i => Row.gai (flat (inputs m c) i)) (Fin.ext ?_)
  blk_simp [idx p, row]

theorem gbr_read (p : Fin cfg0.N) : iblk m c 7 p = mat Row.gbr (tile m c p) := by
  funext y
  blk_simp [iblk, idx p]
  rw [gbr_all]
  refine congrArg₂ (fun i => Row.gbr (flat (inputs m c) i)) (Fin.ext ?_) (Fin.ext ?_) <;> blk_simp [idx p, row]

theorem gbi_read (p : Fin cfg0.N) : iblk m c 8 p = mat Row.gbi (tile m c p) := by
  funext y
  blk_simp [iblk, idx p]
  rw [gbi_all]
  refine congrArg₂ (fun i => Row.gbi (flat (inputs m c) i)) (Fin.ext ?_) (Fin.ext ?_) <;> blk_simp [idx p, row]

theorem final_dar : (dats m 0 c).arrAt 9 cfg0.N = col dar (flat (inputs m c)) := by
  refine (dats m 0 c).arrAt_eq_of_covers 9 _ (by decide +kernel) fun p hf y => ?_
  blk_simp
  rw [after0_9, ar_read, ai_read, ld_read, br_read, bi_read, gar_read, gai_read, gbr_read, gbi_read, out_dar]
  refine congrArg (fun i => dar (flat (inputs m c) i)) (Fin.ext ?_)
  blk_simp [idx p, row]

theorem final_dai : (dats m 0 c).arrAt 10 cfg0.N = col dai (flat (inputs m c)) := by
  refine (dats m 0 c).arrAt_eq_of_covers 10 _ (by decide +kernel) fun p hf y => ?_
  blk_simp
  rw [after0_10, ar_read, ai_read, ld_read, br_read, bi_read, gar_read, gai_read, gbr_read, gbi_read, out_dai]
  refine congrArg (fun i => dai (flat (inputs m c) i)) (Fin.ext ?_)
  blk_simp [idx p, row]

theorem final_dld : (dats m 0 c).arrAt 11 cfg0.N = col dld (flat (inputs m c)) := by
  refine (dats m 0 c).arrAt_eq_of_covers 11 _ (by decide +kernel) fun p hf y => ?_
  blk_simp
  rw [after0_11, ar_read, ai_read, ld_read, br_read, bi_read, gar_read, gai_read, gbr_read, gbi_read, out_dld]
  refine congrArg (fun i => dld (flat (inputs m c) i)) (Fin.ext ?_)
  blk_simp [idx p, row]

theorem final_dbr : (dats m 0 c).arrAt 12 cfg0.N = mat dbr (flat (inputs m c)) := by
  refine (dats m 0 c).arrAt_eq_of_covers 12 _ (by decide +kernel) fun p hf y => ?_
  blk_simp
  rw [after0_12, ar_read, ai_read, ld_read, br_read, bi_read, gar_read, gai_read, gbr_read, gbi_read, out_dbr]
  refine congrArg₂ (fun i => dbr (flat (inputs m c) i)) (Fin.ext ?_) (Fin.ext ?_) <;> blk_simp [idx p, row]

theorem final_dbi : (dats m 0 c).arrAt 13 cfg0.N = mat dbi (flat (inputs m c)) := by
  refine (dats m 0 c).arrAt_eq_of_covers 13 _ (by decide +kernel) fun p hf y => ?_
  blk_simp
  rw [after0_13, ar_read, ai_read, ld_read, br_read, bi_read, gar_read, gai_read, gbr_read, gbi_read, out_dbi]
  refine congrArg₂ (fun i => dbi (flat (inputs m c) i)) (Fin.ext ?_) (Fin.ext ?_) <;> blk_simp [idx p, row]

/-- The kernel's results, and its arguments as they were. -/
theorem results (ρ : Dev nD → PrngReg) :
    θ_run defs (onTc (τ := τ) (main (F := Ideal))) ⟨m, fun _ => 0, ρ⟩ fun r => ∀ c : Dev nD,
      r.2.mem ((c.tc : Thread nD τ).loc main_v11_0) = col dar (flat (inputs m c))
      ∧ r.2.mem ((c.tc : Thread nD τ).loc main_v11_1) = col dai (flat (inputs m c))
      ∧ r.2.mem ((c.tc : Thread nD τ).loc main_v11_2) = col dld (flat (inputs m c))
      ∧ r.2.mem ((c.tc : Thread nD τ).loc main_v11_3) = mat dbr (flat (inputs m c))
      ∧ r.2.mem ((c.tc : Thread nD τ).loc main_v11_4) = mat dbi (flat (inputs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 9).trans (final_dar m c),
      ((h c).1 10).trans (final_dai m c),
      ((h c).1 11).trans (final_dld m c),
      ((h c).1 12).trans (final_dbr m c),
      ((h c).1 13).trans (final_dbi m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

end Cert.DiscIdeal.Value

end
-- ==== Proof.DiscValue.lean ====
/- The value claim of the discretisation: the kernel and the reference end with the same arrays, whatever the arguments. -/
module

public import proofs.«01_k».proof.Defs
public import proofs.«01_k».proof.Proof.DiscRef
public import proofs.«01_k».proof.Proof.DiscKernel

@[expose] public section

set_option maxRecDepth 16384

noncomputable section

namespace Cert.DiscValue

open Idealize.ShloMosaic Idealize.ShloMosaic.TcCoe Idealize.SL.Sem

/-- The value claim. -/
theorem algebraic : Cert.algebraic_DiscIdeal_DiscRefIdeal := by
  intro m ρ m' ρ' _ hagree
  have hs : ∀ c, DiscRefIdeal.Value.inputs m' c = DiscIdeal.Value.inputs m c := fun c => by
    obtain ⟨e0, e1, e2, e3, e4, e5, e6, e7, e8⟩ := hagree c
    unfold DiscRefIdeal.Value.inputs DiscIdeal.Value.inputs
    rw [e0, e1, e2, e3, e4, e5, e6, e7, e8]
  refine ⟨_, _, _, _, _, DiscIdeal.Value.results m ρ, ?_⟩
  simpa only [hs] using DiscRefIdeal.Value.results m' ρ'

end Cert.DiscValue

end
-- ==== Proof.PrepMath.lean ====
/- The gradient of the latent norms and of the rotary embedding, over the reals: heads in registers of 128 lanes, the rotation
   as the kernel and as the reference write it, and a plain norm's gradients. -/
module

public import proofs.«01_k».proof.Proof.Lift
public import Idealize.ShloMosaic.Lib.Pointwise.Sums

@[expose] public section

noncomputable section

namespace Cert.PrepMath

open Cert.Lift Idealize.ShloMosaic

/-! ### Heads in registers -/

/-- Heads of `n` columns each, every head at the front of a register of 128 lanes, zero elsewhere. -/
def heads (n : ℕ) {N : ℕ} (f : Fin N → ℝ) (l : Fin 1024) : ℝ :=
  if h : l.val % 128 < n ∧ l.val / 128 * n + l.val % 128 < N then f ⟨l.val / 128 * n + l.val % 128, h.2⟩ else 0

/-- The product of two rows of registers is the product of the rows. -/
theorem heads_sum {n N : ℕ} (hN : N = 8 * n) (hn : n ≤ 128) (f g : Fin N → ℝ) :
    ∑ l, heads n f l * heads n g l = ∑ x, f x * g x := by
  have hx (h : Fin 8) (b : ℕ) (hb : b < n) : h.val * n + b < N := by have := h.isLt; nlinarith
  refine (Fin.sum_univ_tiles 8 128 (by norm_num) _).trans ((Finset.sum_congr rfl fun h _ => ?_).trans
    (Fin.sum_univ_tiles 8 n hN.symm _).symm)
  refine (Finset.sum_of_injOn (Fin.castLE hn) (fun x _ y _ e => Fin.castLE_injective hn e) (fun _ _ => Finset.mem_coe.2 (Finset.mem_univ _))
    (fun b _ hb => ?_) (fun b _ => ?_)).symm
  · have hb' : ¬b.val < n := fun hl => hb ⟨⟨b.val, hl⟩, Finset.mem_coe.2 (Finset.mem_univ _), rfl⟩
    have e : (h.val * 128 + b.val) % 128 = b.val := by omega
    rw [heads, dif_neg (fun hl => hb' (by rw [← e]; exact hl.1)), zero_mul]
  · have e : (h.val * 128 + b.val) % 128 = b.val := by omega
    have e' : (h.val * 128 + b.val) / 128 = h.val := by omega
    have hc : (h.val * 128 + b.val) % 128 < n ∧ (h.val * 128 + b.val) / 128 * n + (h.val * 128 + b.val) % 128 < N := by
      rw [e, e']; exact ⟨b.isLt, hx h b.val b.isLt⟩
    rw [heads, heads]
    simp only [Fin.val_castLE]
    rw [dif_pos hc, dif_pos hc]
    simp only [e, e']

/-- The first 64 of each head's 96 columns. -/
def front (f : Fin 768 → ℝ) (x : Fin 512) : ℝ := f ⟨x.val / 64 * 96 + x.val % 64, by omega⟩

/-- Against a row of heads of 64 columns only the first 64 columns of a head of 96 count. -/
theorem front_sum (f : Fin 768 → ℝ) (g : Fin 512 → ℝ) : ∑ l, heads 96 f l * heads 64 g l = ∑ x, front f x * g x := by
  refine Eq.trans (Finset.sum_congr rfl fun l _ => ?_) (heads_sum (n := 64) (by norm_num) (by norm_num) (front f) g)
  unfold heads
  by_cases h : l.val % 128 < 64
  · rw [dif_pos (by omega), dif_pos (by omega), dif_pos (by omega), front]
    exact congrArg (f · * _) (Fin.ext (by simp only; omega))
  · rw [dif_neg (c := l.val % 128 < 64 ∧ _) (by omega), mul_zero, mul_zero]

/-! ### The rotation -/

/-- The rotation's transpose on a head's 32 rotary columns. -/
def turn (c s : Fin 16 → ℝ) (u : Fin 32 → ℝ) (k : Fin 32) : ℝ :=
  if h : k.val < 16 then u k * c ⟨k.val, h⟩ + u ⟨k.val + 16, by omega⟩ * s ⟨k.val, h⟩
  else u k * c ⟨k.val - 16, by omega⟩ - u ⟨k.val - 16, by omega⟩ * s ⟨k.val - 16, by omega⟩

/-- The rotary columns of the head at column `x`. -/
def tail (u : Fin 768 → ℝ) (x : Fin 768) (k : Fin 32) : ℝ := u ⟨x.val / 96 * 96 + 64 + k.val, by omega⟩

/-- The same on a row of eight heads of 96 columns, whose first 64 stay as they are. -/
def turnRow (c s : Fin 16 → ℝ) (u : Fin 768 → ℝ) (x : Fin 768) : ℝ :=
  if h : x.val % 96 < 64 then u x else turn c s (tail u x) ⟨x.val % 96 - 64, by omega⟩

/-- The kernel's first table over a register's lanes. -/
def tab (c : Fin 16 → ℝ) (l : Fin 128) : ℝ := if 64 ≤ l.val ∧ l.val < 96 then c ⟨l.val % 16, by omega⟩ else 1
/-- The second table: minus the sine in the first half. -/
def tab1 (s : Fin 16 → ℝ) (l : Fin 128) : ℝ := if 64 ≤ l.val ∧ l.val < 80 then -s ⟨l.val % 16, by omega⟩ else 0
/-- The third table: the sine in the second half. -/
def tab2 (s : Fin 16 → ℝ) (l : Fin 128) : ℝ := if 80 ≤ l.val ∧ l.val < 96 then s ⟨l.val % 16, by omega⟩ else 0

/-- The lane in its register. -/
def reg {n : ℕ} (l : Fin n) : Fin 128 := ⟨l.val % 128, Nat.mod_lt _ (by norm_num)⟩

/-- The lane `k` further on, past the end from the front again. -/
def on {n : ℕ} (l : Fin n) (k : ℕ) : Fin n := ⟨(l.val + k) % n, Nat.mod_lt _ (Nat.pos_of_ne_zero fun h => by have := l.isLt; omega)⟩

/-- The kernel's rotation: the row times the first table, plus the row times each other table moved by 16 lanes. -/
def spin {n : ℕ} (t t1 t2 : Fin 128 → ℝ) (f : Fin n → ℝ) (l : Fin n) : ℝ :=
  f l * t (reg l) + f (on l (n - 16)) * t1 (reg (on l (n - 16))) + f (on l 16) * t2 (reg (on l 16))

section Spin

variable {n : ℕ} (hn : n = 128 ∨ n = 1024) (c s : Fin 16 → ℝ) (f : Fin n → ℝ) (l : Fin n)

include hn

/-- Outside the rotary lanes the row stays. -/
theorem spin_out (h : l.val % 128 < 64 ∨ 96 ≤ l.val % 128) : spin (tab c) (tab1 s) (tab2 s) f l = f l := by
  have e0 : tab c (reg l) = 1 := if_neg (by simp only [reg]; omega)
  have e1 : tab1 s (reg (on l (n - 16))) = 0 := if_neg (by simp only [reg, on]; rcases hn with rfl | rfl <;> omega)
  have e2 : tab2 s (reg (on l 16)) = 0 := if_neg (by simp only [reg, on]; rcases hn with rfl | rfl <;> omega)
  rw [spin, e0, e1, e2, mul_one, mul_zero, mul_zero, add_zero, add_zero]

/-- In the first half of the rotary lanes. -/
theorem spin_fst (h : 64 ≤ l.val % 128 ∧ l.val % 128 < 80) : spin (tab c) (tab1 s) (tab2 s) f l
    = f l * c ⟨l.val % 128 - 64, by omega⟩ + f (on l 16) * s ⟨l.val % 128 - 64, by omega⟩ := by
  have e0 : tab c (reg l) = c ⟨l.val % 128 - 64, by omega⟩ :=
    (if_pos (by simp only [reg]; omega)).trans (congrArg c (Fin.ext (by simp only [reg]; omega)))
  have e1 : tab1 s (reg (on l (n - 16))) = 0 := if_neg (by simp only [reg, on]; rcases hn with rfl | rfl <;> omega)
  have e2 : tab2 s (reg (on l 16)) = s ⟨l.val % 128 - 64, by omega⟩ :=
    (if_pos (by simp only [reg, on]; rcases hn with rfl | rfl <;> omega)).trans
      (congrArg s (Fin.ext (by simp only [reg, on]; rcases hn with rfl | rfl <;> omega)))
  rw [spin, e0, e1, e2, mul_zero, add_zero]

/-- In the second half of the rotary lanes. -/
theorem spin_snd (h : 80 ≤ l.val % 128 ∧ l.val % 128 < 96) : spin (tab c) (tab1 s) (tab2 s) f l
    = f l * c ⟨l.val % 128 - 80, by omega⟩ - f (on l (n - 16)) * s ⟨l.val % 128 - 80, by omega⟩ := by
  have e0 : tab c (reg l) = c ⟨l.val % 128 - 80, by omega⟩ :=
    (if_pos (by simp only [reg]; omega)).trans (congrArg c (Fin.ext (by simp only [reg]; omega)))
  have e1 : tab1 s (reg (on l (n - 16))) = -s ⟨l.val % 128 - 80, by omega⟩ :=
    (if_pos (by simp only [reg, on]; rcases hn with rfl | rfl <;> omega)).trans
      (congrArg (-s ·) (Fin.ext (by simp only [reg, on]; rcases hn with rfl | rfl <;> omega)))
  have e2 : tab2 s (reg (on l 16)) = 0 := if_neg (by simp only [reg, on]; rcases hn with rfl | rfl <;> omega)
  rw [spin, e0, e1, e2, mul_zero, add_zero, mul_neg, sub_eq_add_neg]

end Spin

/-- The kernel's rotation of a row of registers is the rotation of its heads. -/
theorem spin_heads (c s : Fin 16 → ℝ) (u : Fin 768 → ℝ) (l : Fin 1024) :
    spin (tab c) (tab1 s) (tab2 s) (heads 96 u) l = heads 96 (turnRow c s u) l := by
  have hl := l.isLt
  by_cases h0 : l.val % 128 < 64
  · rw [spin_out (.inr rfl) c s _ l (.inl h0), heads, dif_pos (by omega), heads, dif_pos (by omega), turnRow, dif_pos (by simp only; omega)]
  by_cases h1 : l.val % 128 < 80
  · rw [spin_fst (.inr rfl) c s _ l ⟨by omega, h1⟩, heads, dif_pos (by omega), heads, dif_pos (by simp only [on]; omega), heads,
      dif_pos (by omega), turnRow, dif_neg (by simp only; omega), turn, dif_pos (by simp only; omega)]
    refine congrArg₂ (· + ·) (congrArg₂ (· * ·) (congrArg u (Fin.ext ?_)) (congrArg c (Fin.ext ?_)))
      (congrArg₂ (· * ·) (congrArg u (Fin.ext ?_)) (congrArg s (Fin.ext ?_))) <;> simp only [on] <;> omega
  by_cases h2 : l.val % 128 < 96
  · rw [spin_snd (.inr rfl) c s _ l ⟨by omega, h2⟩, heads, dif_pos (by omega), heads, dif_pos (by simp only [on]; omega), heads,
      dif_pos (by omega), turnRow, dif_neg (by simp only; omega), turn, dif_neg (by simp only; omega)]
    refine congrArg₂ (· - ·) (congrArg₂ (· * ·) (congrArg u (Fin.ext ?_)) (congrArg c (Fin.ext ?_)))
      (congrArg₂ (· * ·) (congrArg u (Fin.ext ?_)) (congrArg s (Fin.ext ?_))) <;> simp only [on] <;> omega
  · rw [spin_out (.inr rfl) c s _ l (.inr (by omega)), heads, dif_neg (by omega), heads, dif_neg (by omega)]

/-- A head's 32 rotary columns at the lanes 64 to 95 of a register, zero elsewhere. -/
def lanes (f : Fin 32 → ℝ) (l : Fin 128) : ℝ := if h : 64 ≤ l.val ∧ l.val < 96 then f ⟨l.val - 64, by omega⟩ else 0

/-- The kernel's rotation of such a register is the rotation of the columns. -/
theorem spin_lanes (c s : Fin 16 → ℝ) (u : Fin 32 → ℝ) (l : Fin 128) :
    spin (tab c) (tab1 s) (tab2 s) (lanes u) l = lanes (turn c s u) l := by
  have hl := l.isLt
  by_cases h0 : l.val < 64 ∨ 96 ≤ l.val
  · rw [spin_out (.inl rfl) c s _ l (by omega), lanes, dif_neg (by omega), lanes, dif_neg (by omega)]
  by_cases h1 : l.val < 80
  · rw [spin_fst (.inl rfl) c s _ l (by omega), lanes, dif_pos (by omega), lanes, dif_pos (by simp only [on]; omega), lanes,
      dif_pos (by omega), turn, dif_pos (by simp only; omega)]
    refine congrArg₂ (· + ·) (congrArg₂ (· * ·) rfl (congrArg c (Fin.ext ?_)))
      (congrArg₂ (· * ·) (congrArg u (Fin.ext ?_)) (congrArg s (Fin.ext ?_))) <;> simp only [on] <;> omega
  · rw [spin_snd (.inl rfl) c s _ l (by omega), lanes, dif_pos (by omega), lanes, dif_pos (by simp only [on]; omega), lanes,
      dif_pos (by omega), turn, dif_neg (by simp only; omega)]
    refine congrArg₂ (· - ·) (congrArg₂ (· * ·) rfl (congrArg c (Fin.ext ?_)))
      (congrArg₂ (· * ·) (congrArg u (Fin.ext ?_)) (congrArg s (Fin.ext ?_))) <;> simp only [on] <;> omega

/-! ### A norm with its gain -/

section Norm

variable {n : ℕ} (d : ℝ) (x : Fin 16384 → Fin n → ℝ) (g : Fin n → ℝ) (dy : Fin 16384 → Fin n → ℝ)

/-- The gradient of the gain. -/
def dgain (j : Fin n) : ℝ := ∑ i, dy i j * (x i j * rinv d (x i))

/-- The gradient of the row, by the closed form of the norm's derivative. -/
def drow (i : Fin 16384) (j : Fin n) : ℝ :=
  rinv d (x i) * (dy i j * g j - x i j * rinv d (x i) * ((∑ k, dy i k * g k * (x i k * rinv d (x i))) / d))

/-- The gain's gradient with the factors in the other order. -/
theorem dgain_eq (j : Fin n) : ∑ i, x i j * rinv d (x i) * dy i j = dgain d x dy j := Finset.sum_congr rfl fun i _ => mul_comm _ _

/-- The gradient of the row by the chain rule through the mean square is the closed form. -/
theorem chain_eq (i : Fin 16384) (j : Fin n) :
    dy i j * g j * rinv d (x i)
      + x i j * ((∑ k, x i k * (dy i k * g k)) * (-(1 / 2) * (rinv d (x i) * (rinv d (x i) * rinv d (x i)))) / d)
      + (∑ k, x i k * (dy i k * g k)) * (-(1 / 2) * (rinv d (x i) * (rinv d (x i) * rinv d (x i)))) / d * x i j
    = drow d x g dy i j := by
  have hs : ∑ k, dy i k * g k * (x i k * rinv d (x i)) = (∑ k, x i k * (dy i k * g k)) * rinv d (x i) := by
    rw [Finset.sum_mul]; exact Finset.sum_congr rfl fun k _ => by ring
  rw [drow, hs]
  ring

end Norm

/-! ### The gradient -/

/-- The latent rows of queries and of keys and values, the positions, the norms' gains, the three weights, and the cotangents of
    queries, keys and values. -/
structure Args where
  cq : Fin 16384 → Fin 256 → ℝ
  ckv : Fin 16384 → Fin 128 → ℝ
  pos : Fin 16384 → BitVec 32
  gq : Fin 256 → ℝ
  wuq : Fin 256 → Fin 768 → ℝ
  gk : Fin 128 → ℝ
  wuk : Fin 128 → Fin 512 → ℝ
  wuv : Fin 128 → Fin 512 → ℝ
  dq : Fin 16384 → Fin 768 → ℝ
  dk : Fin 16384 → Fin 768 → ℝ
  dv : Fin 16384 → Fin 512 → ℝ

variable (a : Args)

/-- The rotary frequencies. -/
def freq (k : Fin 16) : ℝ := (10000 : ℝ) ^ (-(2 * (k.val : ℝ)) / 32)
/-- The angle of a position at a frequency. -/
def angle (i : Fin 16384) (k : Fin 16) : ℝ := ((a.pos i).toInt : ℝ) * freq k
/-- Its cosine. -/
def cos (i : Fin 16384) (k : Fin 16) : ℝ := Real.cos (angle a i k)
/-- Its sine. -/
def sin (i : Fin 16384) (k : Fin 16) : ℝ := Real.sin (angle a i k)

/-- The cotangent of the queries before their rotation. -/
def dqp (i : Fin 16384) : Fin 768 → ℝ := turnRow (cos a i) (sin a i) (a.dq i)

/-- The cotangent of the normed latent rows of the queries. -/
def dcqn (i : Fin 16384) (j : Fin 256) : ℝ := ∑ k, dqp a i k * a.wuq j k

/-- The cotangent of the normed latent rows of keys and values. -/
def dckvn (i : Fin 16384) (j : Fin 128) : ℝ := ∑ k, front (a.dk i) k * a.wuk j k + ∑ k, a.dv i k * a.wuv j k

/-- The sum over the heads of the keys' rotary cotangents. -/
def dpe (i : Fin 16384) (k : Fin 32) : ℝ := ∑ h : Fin 8, a.dk i ⟨h.val * 96 + 64 + k.val, by omega⟩

/-- The gradient of the shared rotary key. -/
def dkr (i : Fin 16384) : Fin 32 → ℝ := turn (cos a i) (sin a i) (dpe a i)
/-- The gradient of the queries' latent rows. -/
def dcq := drow 256 a.cq a.gq (dcqn a)
/-- The gradient of the queries' gain. -/
def dgq := dgain 256 a.cq (dcqn a)
/-- The gradient of the latent rows of keys and values. -/
def dckv := drow 128 a.ckv a.gk (dckvn a)
/-- The gradient of the keys' and values' gain. -/
def dgk := dgain 128 a.ckv (dckvn a)

end Cert.PrepMath

end
-- ==== Proof.PrepHost.lean ====
/- The rotary frequencies as the host computes them, and the host's norm of rows of any length, on real arrays. -/
module

public import proofs.«01_k».proof.Proof.PrepMath
public import Idealize.ShloMosaic.Lib.Claim
public import Idealize.ShloMosaic.Lib.ValueLayout
public import Idealize.ShloMosaic.Lib.KernelVsHost

@[expose] public section

set_option maxRecDepth 16384

noncomputable section

namespace Cert.PrepHost

open Idealize.ShloMosaic Cert.Lift

abbrev Freqs : Shape := ⟨1, ![16]⟩
abbrev One : Shape := ⟨0, ![]⟩

theorem k10000 : Ideal.ofBits .f32 0x461C4000#32 = ((10000 : ℝ) : EReal) := by simp [Ideal.ofBits, Ideal.ieee]; rw [← EReal.coe_mul]; norm_num
theorem k32 : Ideal.ofBits .f32 0x42000000#32 = ((32 : ℝ) : EReal) := by simp [Ideal.ofBits, Ideal.ieee]; rw [← EReal.coe_mul]; norm_num
theorem k256 : Ideal.ofBits .f32 0x43800000#32 = ((256 : ℝ) : EReal) := by simp [Ideal.ofBits, Ideal.ieee]; rw [← EReal.coe_mul]; norm_num
theorem k128 : Ideal.ofBits .f32 0x43000000#32 = ((128 : ℝ) : EReal) := by simp [Ideal.ofBits, Ideal.ieee]; rw [← EReal.coe_mul]; norm_num

/-- A small number's word as a float. -/
theorem word (k : Fin 16) : FloatOps.sitofp (F := Ideal) FTy.f32 (BitVec.ofNat 32 k.val) = (((k.val : ℕ) : ℝ) : EReal) := by
  have e : ∀ k : Fin 16, (BitVec.ofNat 32 k.val).toInt = ((k.val : ℕ) : ℤ) := by decide
  show (((BitVec.ofNat 32 k.val).toInt : ℝ) : EReal) = _
  rw [e k]
  rfl

/-- The frequencies. -/
theorem freq_eq {b1 b2 b3 b4 : One.BroadcastsInDim Freqs ![]} :
    Host.powf (F := Ideal) (φ := .f32) (broadcastInDim Freqs ![] b1 (constant One .f32 0x461C4000#32))
      (Host.divf (Host.negf (addf (broadcastInDim Freqs ![] b2 (constant One .f32 0x00000000#32))
        (mulf (broadcastInDim Freqs ![] b3 (constant One .f32 0x40000000#32)) (sitofp .f32 (iotaInDim Freqs 32 0)))))
        (broadcastInDim Freqs ![] b4 (constant One .f32 0x42000000#32)))
      = fun i => ((PrepMath.freq (i 0) : ℝ) : EReal) := by
  funext i
  idx_vars i
  pointwise [k10000, k32, consts]
  rw [word i0]
  simp only [ring_lift]
  rw [div_lift (by norm_num), Ideal.pow_coe_coe]
  rfl

/-- A matrix of eight heads of `k` columns, every head padded to a register: at each row the row of registers. -/
theorem pad_heads {r k N hi : ℕ} {φ : FTy} (hN : N = 8 * k) {f : Fin r → Fin N → ℝ} {X : FVec Ideal ⟨2, ![r, N]⟩ φ}
    (hX : X = fun i => ((f (i 0) (i 1) : ℝ) : EReal)) {Z : FVec Ideal One φ} (hZ : ∀ i, Z i = ((0 : ℝ) : EReal))
    {h1 : (⟨2, ![r, N]⟩ : Shape).ShapeCasts ⟨3, ![r, 8, k]⟩} {h2 : (⟨3, ![r, 8, k]⟩ : Shape).Pads ![0, 0, 0] ![0, 0, hi] ![0, 0, 0] ⟨3, ![r, 8, 128]⟩}
    {hu : 0 < One.numel} {h3 : (⟨3, ![r, 8, 128]⟩ : Shape).ShapeCasts ⟨2, ![r, 1024]⟩} :
    shapeCast ⟨2, ![r, 1024]⟩ (pad ⟨3, ![r, 8, 128]⟩ ![0, 0, 0] ![0, 0, hi] ![0, 0, 0] (shapeCast ⟨3, ![r, 8, k]⟩ X h1) Z h2 hu) h3
      = fun y => ((PrepMath.heads k (f (y 0)) (y 1) : ℝ) : EReal) := by
  subst hN
  funext y
  have hl : (y 1).val < 1024 := (y 1).isLt
  let hd : Fin 8 := ⟨(y 1).val / 128, by omega⟩
  let ln : Fin 128 := ⟨(y 1).val % 128, by omega⟩
  rw [shapeCast_apply _ h3 y (ix3 (y 0) hd ln) (by
    rw [Shape.rowMajor_val_three, Shape.rowMajor_val_two]
    show ((y 0).val * 8 + (y 1).val / 128) * 128 + (y 1).val % 128 = (y 0).val * 1024 + (y 1).val
    omega)]
  show _ = ((PrepMath.heads k (f (y 0)) (y 1) : ℝ) : EReal)
  unfold PrepMath.heads
  by_cases h : (y 1).val % 128 < k
  · have hx : (y 1).val / 128 * k + (y 1).val % 128 < 8 * k := by
      have : (y 1).val / 128 < 8 := by omega
      nlinarith
    rw [dif_pos ⟨h, hx⟩, pad_apply_of_inside _ _ _ _ _ h2 hu _ (ix3 (y 0) hd ⟨(y 1).val % 128, h⟩) (fun a => by
      match a with
      | ⟨0, _⟩ => exact (by simp)
      | ⟨1, _⟩ => exact (by simp)
      | ⟨2, _⟩ => exact (by simp [ln])), shapeCast_apply _ h1 _ (ix2 (y 0) ⟨(y 1).val / 128 * k + (y 1).val % 128, hx⟩) (by
        rw [Shape.rowMajor_val_three, Shape.rowMajor_val_two]
        show (y 0).val * (8 * k) + ((y 1).val / 128 * k + (y 1).val % 128) = ((y 0).val * 8 + (y 1).val / 128) * k + (y 1).val % 128
        ring), hX]
    rfl
  · rw [dif_neg (fun e => h e.1), pad_apply_of_not_inside _ _ _ _ _ h2 hu _ 2 (fun e => h (by
      have := e.2.2
      simpa [ln] using this)), hZ]

/-- The zero of the padding. -/
theorem zero_pad {φ : FTy} (i : One.Idx) : sitofp (F := Ideal) φ (constantI One 32 0#32) i = ((0 : ℝ) : EReal) := by
  simp [sitofp, constantI, FloatOps.sitofp]

/-- The frequencies twice over, in lanes 64 to 95 of a register. -/
theorem lanes_eq {f : Fin 16 → ℝ} {h1 : Shape.Concatenates [Freqs, Freqs] ⟨1, ![32]⟩ 0}
    {h2 : (⟨1, ![32]⟩ : Shape).Pads ![64] ![32] ![0] ⟨1, ![128]⟩} {hu : 0 < One.numel} {Z : FVec Ideal One .f32} (hZ : ∀ i, Z i = ((0 : ℝ) : EReal)) (l : Fin 128) :
    pad ⟨1, ![128]⟩ ![64] ![32] ![0] (concatenate ⟨1, ![32]⟩ 0
        [⟨Freqs, (fun i => ((f (i 0) : ℝ) : EReal) : FVec Ideal Freqs .f32)⟩, ⟨Freqs, fun i => ((f (i 0) : ℝ) : EReal)⟩] h1) Z h2 hu (ix1 l)
      = ((if 64 ≤ l.val ∧ l.val < 96 then f ⟨l.val % 16, by omega⟩ else 0 : ℝ) : EReal) := by
  split_ifs with h
  · rw [pad_apply_of_inside _ _ _ _ _ h2 hu _ (ix1 ⟨l.val - 64, by omega⟩) (fun a => by
      match a with
      | ⟨0, _⟩ =>
        show l.val = 64 + (l.val - 64) * (0 + 1)
        omega)]
    refine (concatenate_replicate_apply (t := ⟨1, ![32]⟩) 0 2 (fun i : Freqs.Idx => ((f (i 0) : ℝ) : EReal)) h1 rfl _
      (ix1 (n0 := 16) ⟨l.val % 16, by omega⟩) ?_ ?_).trans rfl
    · show l.val % 16 = (l.val - 64) % 16
      omega
    · intro b hb
      exact absurd (Subsingleton.elim _ _) hb
  · rw [pad_apply_of_not_inside _ _ _ _ _ h2 hu _ 0 (fun e => h (by
      have e1 := e.1
      have e2 := e.2.2
      simp at e1 e2
      omega)), hZ]

/-- The masks of the two halves of the rotary lanes. -/
theorem low (l : Fin 128) : IntOp.andi (IntOp.cmpi .sge (BitVec.ofNat 32 l.val) 64#32) (IntOp.cmpi .slt (BitVec.ofNat 32 l.val) 80#32)
    = if 64 ≤ l.val ∧ l.val < 80 then 1#1 else 0#1 := by
  revert l; decide +kernel
theorem high (l : Fin 128) : IntOp.andi (IntOp.cmpi .sge (BitVec.ofNat 32 l.val) 80#32) (IntOp.cmpi .slt (BitVec.ofNat 32 l.val) 96#32)
    = if 80 ≤ l.val ∧ l.val < 96 then 1#1 else 0#1 := by
  revert l; decide +kernel
theorem whole (l : Fin 128) : IntOp.andi (IntOp.cmpi .sge (BitVec.ofNat 32 l.val) 64#32) (IntOp.cmpi .slt (BitVec.ofNat 32 l.val) 96#32)
    = if 64 ≤ l.val ∧ l.val < 96 then 1#1 else 0#1 := by
  revert l; decide +kernel
theorem low_or_high (l : Fin 128) : IntOp.ori (if 64 ≤ l.val ∧ l.val < 80 then 1#1 else 0#1) (if 80 ≤ l.val ∧ l.val < 96 then 1#1 else 0#1)
    = if 64 ≤ l.val ∧ l.val < 96 then 1#1 else 0#1 := by
  revert l; decide +kernel

/-- A choice between coerced reals by a decided mask. -/
theorem pick {p : Prop} [Decidable p] {a b : EReal} : Scalar.select (if p then 1#1 else 0#1) a b = if p then a else b := by
  split_ifs <;> rfl

end Cert.PrepHost

end
-- ==== Proof.PrepTurn.lean ====
/- The reference's rotation and heads on real arrays. -/
module

public import proofs.«01_k».proof.Proof.Gen.PrepRefIdeal.Run
public import proofs.«01_k».proof.Proof.PrepHost

@[expose] public section

set_option maxRecDepth 16384

noncomputable section

namespace Cert.PrepRefIdeal.Value

open Cert.PrepRefIdeal Cert.PrepRefIdeal.Gen Idealize.ShloMosaic Idealize.ShloMosaic.TcCoe Idealize.SL.Sem
open Cert.Lift Cert.PrepMath

/-- The host's sum over a unit axis and the axis of the heads. -/
theorem sum_mid {n k l : ℕ} (h : (⟨4, ![1, n, k, l]⟩ : Shape).ReducesTo [0, 2] ⟨2, ![n, l]⟩)
    (v : (⟨4, ![1, n, k, l]⟩ : Shape).Idx → EReal) (init : EReal) (i : Fin n) (j : Fin l) :
    Ideal.hostReduceAdd h v init (ix2 i j) = init + ∑ b : Fin k, v (ix4 0 i b j) := by
  have at1 (y : (⟨4, ![1, n, k, l]⟩ : Shape).Idx) : (h.drop y ⟨0, by norm_num⟩ : ℕ) = y 1 := rfl
  have at3 (y : (⟨4, ![1, n, k, l]⟩ : Shape).Idx) : (h.drop y ⟨1, by norm_num⟩ : ℕ) = y 3 := rfl
  have back (y : (⟨4, ![1, n, k, l]⟩ : Shape).Idx) (e : h.drop y = ix2 i j) : ix4 (0 : Fin 1) i (y 2) j = y := by
    have e1 := at1 y
    have e3 := at3 y
    rw [e] at e1 e3
    have h0 := (y 0).isLt
    funext a; apply Fin.ext
    match a with
    | ⟨0, _⟩ => exact (Nat.lt_one_iff.1 h0).symm
    | ⟨1, _⟩ => exact e1
    | ⟨2, _⟩ => rfl
    | ⟨3, _⟩ => exact e3
  refine congrArg (init + ·) (Finset.sum_nbij' (fun y => (show Fin k from y 2)) (fun b => ix4 (0 : Fin 1) i b j) (fun _ _ => Finset.mem_univ _)
    (fun b _ => ?_) (fun y hy => ?_) (fun b _ => rfl) (fun y hy => ?_))
  · rw [Finset.mem_filter_univ]
    funext a; apply Fin.ext
    match a with
    | ⟨0, _⟩ => exact at1 _
    | ⟨1, _⟩ => exact at3 _
  · rw [Finset.mem_filter_univ] at hy
    exact back y hy
  · rw [Finset.mem_filter_univ] at hy
    exact congrArg v (back y hy).symm

/-- Eight heads of 96 columns. -/
theorem split_eq {u : Fin 16384 → Fin 768 → ℝ} {X : FVec Ideal S1x16384x768 .f32} (hX : X = fun i => ((u (i 1) (i 2) : ℝ) : EReal)) :
    shapeCast S1x16384x8x96 X shapeCasts_S1x16384x768_S1x16384x8x96
      = fun y => ((u (y 1) ⟨(y 2).val * 96 + (y 3).val, by have h2 : (y 2).val < 8 := (y 2).isLt; have h3 : (y 3).val < 96 := (y 3).isLt; omega⟩ : ℝ) : EReal) := by
  funext y
  have h2 : (y 2).val < 8 := (y 2).isLt
  have h3 : (y 3).val < 96 := (y 3).isLt
  have h0 : (y 0).val < 1 := (y 0).isLt
  rw [hX, shapeCast_apply (s := S1x16384x768) (t := S1x16384x8x96) _ _ y (ix3 (0 : Fin 1) (y 1) ⟨(y 2).val * 96 + (y 3).val, by omega⟩) (by
    rw [Shape.rowMajor_val_three, Shape.rowMajor_val_four]
    show (0 * 16384 + (y 1).val) * 768 + ((y 2).val * 96 + (y 3).val) = (((y 0).val * 16384 + (y 1).val) * 8 + (y 2).val) * 96 + (y 3).val
    omega)]
  rfl

section Turn

variable {c s : Fin 16384 → Fin 16 → ℝ} {C S : FVec Ideal S1x16384x1x16 .f32}
  (hC : C = fun y => ((c (y 1) (y 3) : ℝ) : EReal)) (hS : S = fun y => ((s (y 1) (y 3) : ℝ) : EReal))

include hC hS

/-- The rotation's transpose, on every head. -/
theorem turn8_eq {U : Fin 16384 → Fin 8 → Fin 32 → ℝ} {X : FVec Ideal S1x16384x8x32 .f32} (hX : X = fun y => ((U (y 1) (y 2) (y 3) : ℝ) : EReal)) :
    concatenate S1x16384x8x32 3 [⟨S1x16384x8x16, (addf (mulf (extractStridedSlice S1x16384x8x16 ![0, 0, 0, 16] X slices_S1x16384x8x32_S1x16384x8x16_0_0_0_16) (broadcastInDim S1x16384x8x16 ![0, 1, 2, 3] bcast_S1x16384x1x16_S1x16384x8x16_0_1_2_3 S)) (mulf (extractStridedSlice S1x16384x8x16 ![0, 0, 0, 0] X slices_S1x16384x8x32_S1x16384x8x16_0_0_0_0) (broadcastInDim S1x16384x8x16 ![0, 1, 2, 3] bcast_S1x16384x1x16_S1x16384x8x16_0_1_2_3 C)))⟩,
      ⟨S1x16384x8x16, (addf (mulf (extractStridedSlice S1x16384x8x16 ![0, 0, 0, 16] X slices_S1x16384x8x32_S1x16384x8x16_0_0_0_16) (broadcastInDim S1x16384x8x16 ![0, 1, 2, 3] bcast_S1x16384x1x16_S1x16384x8x16_0_1_2_3 C)) (mulf (Host.negf (extractStridedSlice S1x16384x8x16 ![0, 0, 0, 0] X slices_S1x16384x8x32_S1x16384x8x16_0_0_0_0)) (broadcastInDim S1x16384x8x16 ![0, 1, 2, 3] bcast_S1x16384x1x16_S1x16384x8x16_0_1_2_3 S)))⟩]
      concatenates_S1x16384x8x16_S1x16384x8x16_S1x16384x8x32_d3 = fun y => ((turn (c (y 1)) (s (y 1)) (U (y 1) (y 2)) (y 3) : ℝ) : EReal) := by
  rw [hC, hS, hX]
  funext y
  idx_vars y
  pointwise
  unfold turn
  split_ifs
  · simp only [ring_lift]
    refine congrArg Real.toEReal ((add_comm _ _).trans (congrArg₂ (· + ·) (congrArg₂ (· * ·) (congrArg _ (Fin.ext ?_)) rfl) (congrArg₂ (· * ·) (congrArg _ (Fin.ext ?_)) rfl))) <;> simp <;> omega
  · simp only [ring_lift]
    rw [sub_eq_add_neg, ← neg_mul]
    refine congrArg Real.toEReal ((congrArg₂ (· + ·) (congrArg₂ (· * ·) (congrArg _ (Fin.ext ?_)) rfl) (congrArg₂ (· * ·) rfl rfl))) <;> simp <;> omega
  · rename_i hn
    exact absurd rfl hn

/-- The same on one row of rotary columns. -/
theorem turn1_eq {U : Fin 16384 → Fin 32 → ℝ} {X : FVec Ideal S1x16384x1x32 .f32} (hX : X = fun y => ((U (y 1) (y 3) : ℝ) : EReal)) :
    concatenate S1x16384x1x32 3 [⟨S1x16384x1x16, (addf (mulf (extractStridedSlice S1x16384x1x16 ![0, 0, 0, 16] X slices_S1x16384x1x32_S1x16384x1x16_0_0_0_16) S) (mulf (extractStridedSlice S1x16384x1x16 ![0, 0, 0, 0] X slices_S1x16384x1x32_S1x16384x1x16_0_0_0_0) C))⟩,
      ⟨S1x16384x1x16, (addf (mulf (extractStridedSlice S1x16384x1x16 ![0, 0, 0, 16] X slices_S1x16384x1x32_S1x16384x1x16_0_0_0_16) C) (mulf (Host.negf (extractStridedSlice S1x16384x1x16 ![0, 0, 0, 0] X slices_S1x16384x1x32_S1x16384x1x16_0_0_0_0)) S))⟩]
      concatenates_S1x16384x1x16_S1x16384x1x16_S1x16384x1x32_d3 = fun y => ((turn (c (y 1)) (s (y 1)) (U (y 1)) (y 3) : ℝ) : EReal) := by
  rw [hC, hS, hX]
  funext y
  idx_vars y
  pointwise
  unfold turn
  split_ifs
  · simp only [ring_lift]
    refine congrArg Real.toEReal ((add_comm _ _).trans (congrArg₂ (· + ·) (congrArg₂ (· * ·) (congrArg _ (Fin.ext ?_)) rfl) (congrArg₂ (· * ·) (congrArg _ (Fin.ext ?_)) rfl))) <;> simp <;> omega
  · simp only [ring_lift]
    rw [sub_eq_add_neg, ← neg_mul]
    refine congrArg Real.toEReal ((congrArg₂ (· + ·) (congrArg₂ (· * ·) (congrArg _ (Fin.ext ?_)) rfl) (congrArg₂ (· * ·) rfl rfl))) <;> simp <;> omega
  · rename_i hn
    exact absurd rfl hn

end Turn

/-- The rotated tails and the unrotated fronts put back together. -/
theorem join_eq {c s : Fin 16384 → Fin 16 → ℝ} {u : Fin 16384 → Fin 768 → ℝ} {T : FVec Ideal S1x16384x8x32 .f32} {F : FVec Ideal S1x16384x8x64 .f32}
    (hT : T = fun y => ((turn (c (y 1)) (s (y 1)) (fun k => u (y 1) ⟨(y 2).val * 96 + 64 + k.val, by have h2 : (y 2).val < 8 := (y 2).isLt; omega⟩) (y 3) : ℝ) : EReal))
    (hF : F = fun y => ((u (y 1) ⟨(y 2).val * 96 + (y 3).val, by have h2 : (y 2).val < 8 := (y 2).isLt; have h3 : (y 3).val < 64 := (y 3).isLt; omega⟩ : ℝ) : EReal)) :
    shapeCast S1x16384x768 (addf (F := Ideal) (φ := .f32)
      (pad S1x16384x8x96 ![0, 0, 0, 64] ![0, 0, 0, 0] ![0, 0, 0, 0] T (constant S_ .f32 0x00000000#32) pads_S1x16384x8x32_S1x16384x8x96_000_000_000_6400 h_S_)
      (pad S1x16384x8x96 ![0, 0, 0, 0] ![0, 0, 0, 32] ![0, 0, 0, 0] F (constant S_ .f32 0x00000000#32) pads_S1x16384x8x64_S1x16384x8x96_000_000_000_0320 h_S_))
      shapeCasts_S1x16384x8x96_S1x16384x768 = fun y => ((turnRow (c (y 1)) (s (y 1)) (u (y 1)) (y 2) : ℝ) : EReal) := by
  funext y
  have h2 : (y 2).val < 768 := (y 2).isLt
  have h0 : (y 0).val < 1 := (y 0).isLt
  have zero (i : S_.Idx) : constant (F := Ideal) S_ .f32 0x00000000#32 i = 0 := by pointwise
  let hd : Fin 8 := ⟨(y 2).val / 96, by omega⟩
  let cl : Fin 96 := ⟨(y 2).val % 96, by omega⟩
  rw [shapeCast_apply (s := S1x16384x8x96) (t := S1x16384x768) _ _ y (ix4 (0 : Fin 1) (y 1) hd cl) (by
    rw [Shape.rowMajor_val_three, Shape.rowMajor_val_four]
    show ((0 * 16384 + (y 1).val) * 8 + (y 2).val / 96) * 96 + (y 2).val % 96 = ((y 0).val * 16384 + (y 1).val) * 768 + (y 2).val
    omega)]
  show pad _ _ _ _ T _ _ _ _ + pad _ _ _ _ F _ _ _ _ = ((turnRow (c (y 1)) (s (y 1)) (u (y 1)) (y 2) : ℝ) : EReal)
  unfold turnRow
  by_cases h : (y 2).val % 96 < 64
  · rw [dif_pos h, pad_apply_of_not_inside ![0, 0, 0, 64] ![0, 0, 0, 0] ![0, 0, 0, 0] T _ pads_S1x16384x8x32_S1x16384x8x96_000_000_000_6400 h_S_ _ 3 (fun e => by
      have := e.1
      simp [cl] at this
      omega), zero, zero_add, pad_apply_of_inside ![0, 0, 0, 0] ![0, 0, 0, 32] ![0, 0, 0, 0] F _ pads_S1x16384x8x64_S1x16384x8x96_000_000_000_0320 h_S_ _ (ix4 (0 : Fin 1) (y 1) hd ⟨(y 2).val % 96, h⟩) (fun a => by
      match a with
      | ⟨0, _⟩ => exact (by simp)
      | ⟨1, _⟩ => exact (by simp)
      | ⟨2, _⟩ => exact (by simp)
      | ⟨3, _⟩ => exact (by simp [cl])), hF]
    refine congrArg (fun k => ((u (y 1) k : ℝ) : EReal)) (Fin.ext ?_)
    show (y 2).val / 96 * 96 + (y 2).val % 96 = (y 2).val
    omega
  · rw [dif_neg h, pad_apply_of_not_inside ![0, 0, 0, 0] ![0, 0, 0, 32] ![0, 0, 0, 0] F _ pads_S1x16384x8x64_S1x16384x8x96_000_000_000_0320 h_S_ _ 3 (fun e => by
      have := e.2.2
      simp [cl] at this
      omega), zero, add_zero, pad_apply_of_inside ![0, 0, 0, 64] ![0, 0, 0, 0] ![0, 0, 0, 0] T _ pads_S1x16384x8x32_S1x16384x8x96_000_000_000_6400 h_S_ _ (ix4 (0 : Fin 1) (y 1) hd ⟨(y 2).val % 96 - 64, by omega⟩) (fun a => by
      match a with
      | ⟨0, _⟩ => exact (by simp)
      | ⟨1, _⟩ => exact (by simp)
      | ⟨2, _⟩ => exact (by simp)
      | ⟨3, _⟩ =>
        show (y 2).val % 96 = 64 + ((y 2).val % 96 - 64) * (0 + 1)
        omega), hT]
    rfl

end Cert.PrepRefIdeal.Value

end
-- ==== Proof.PrepNorm.lean ====
/- The host's norm of rows of any length: on a real array its mean square, the reciprocal root and the root's derivative. -/
module

public import proofs.«01_k».proof.Proof.PrepHost

@[expose] public section

set_option maxRecDepth 16384

noncomputable section

namespace Cert.PrepNorm

open Idealize.ShloMosaic Cert.Lift

abbrev Column : Shape := ⟨3, ![1, 16384, 1]⟩
abbrev Plain : Shape := ⟨2, ![1, 16384]⟩
abbrev One : Shape := ⟨0, ![]⟩

variable {n : ℕ} {b : BitVec 32} {d : ℝ} (hb : Ideal.ofBits .f32 b = ((d : ℝ) : EReal)) (hd : 0 < d)
  {x : Fin 16384 → Fin n → ℝ} {X : FVec Ideal ⟨3, ![1, 16384, n]⟩ .f32} (hX : X = fun i => ((x (i 1) (i 2) : ℝ) : EReal))

include hb hd

include hX in
/-- The mean square of each row plus the epsilon. -/
theorem ms_eq {h1 : (⟨3, ![1, 16384, n]⟩ : Shape).ReducesTo [2] Plain} {h2 : 0 < One.numel} {b1 : Plain.BroadcastsInDim Column ![0, 1]}
    {b2 b3 : One.BroadcastsInDim Column ![]} :
    addf (F := Ideal) (φ := .f32) (Host.divf (broadcastInDim Column ![0, 1] b1 (Host.reduceAdd (mulf X X) (constant One .f32 0x00000000#32) h1 h2))
      (broadcastInDim Column ![] b2 (constant One .f32 b))) (broadcastInDim Column ![] b3 (constant One .f32 0x358637BD#32))
    = fun i => ((ms d (x (i 1)) : ℝ) : EReal) := by
  funext i
  rw [hX]
  idx_vars i
  pointwise [consts, hb]
  simp only [ring_lift, sum_lift, div_lift hd.ne']
  rfl

omit hb in
/-- The reciprocal root. -/
theorem root_eq : Host.rsqrt (F := Ideal) (φ := .f32) (fun i : Column.Idx => ((ms d (x (i 1)) : ℝ) : EReal))
    = fun i => ((rinv d (x (i 1)) : ℝ) : EReal) := funext fun i => rsqrt_ms hd.le _

omit hb in
/-- The root's derivative, up to its factor. -/
theorem cube_eq : Host.divf (F := Ideal) (φ := .f32) (fun i : Column.Idx => ((rinv d (x (i 1)) : ℝ) : EReal))
      (fun i : Column.Idx => ((ms d (x (i 1)) : ℝ) : EReal))
    = fun i => ((rinv d (x (i 1)) * (rinv d (x (i 1)) * rinv d (x (i 1))) : ℝ) : EReal) :=
  funext fun i => div_ms hd.le _ _

omit hb hd in
include hX in
/-- The product of the row with its cotangent, summed over the row. -/
theorem dot_eq {y : Fin 16384 → Fin n → ℝ} {Y : FVec Ideal ⟨3, ![1, 16384, n]⟩ .f32} (hY : Y = fun i => ((y (i 1) (i 2) : ℝ) : EReal)) {h1 : (⟨3, ![1, 16384, n]⟩ : Shape).ReducesTo [2] Plain} {h2 : 0 < One.numel} {s : Plain.ShapeCasts Column} :
    shapeCast Column (Host.reduceAdd (F := Ideal) (φ := .f32) (mulf X Y)
      (constant One .f32 0x00000000#32) h1 h2) s
    = fun i => ((∑ k, x (i 1) k * y (i 1) k : ℝ) : EReal) := by
  funext i
  rw [hX, hY]
  idx_vars i
  pointwise
  simp only [ring_lift, sum_lift]

/-- The gradient of the mean square of each row, spread over the row. -/
theorem mean_eq {e r : Fin 16384 → ℝ} {E R : FVec Ideal Column .f32} (hE : E = fun i => ((e (i 1) : ℝ) : EReal)) (hR : R = fun i => ((r (i 1) : ℝ) : EReal))
     {h1 : Column.ReducesTo [0, 2] ⟨1, ![16384]⟩} {h2 : 0 < One.numel} {b1 b2 : One.BroadcastsInDim Column ![]}
    {b3 : (⟨1, ![16384]⟩ : Shape).BroadcastsInDim Plain ![1]} {b4 : Plain.BroadcastsInDim ⟨3, ![1, 16384, n]⟩ ![0, 1]} :
    broadcastInDim ⟨3, ![1, 16384, n]⟩ ![0, 1] b4 (broadcastInDim Plain ![1] b3 (Host.reduceAdd (F := Ideal) (φ := .f32)
      (Host.divf (mulf E
        (mulf (broadcastInDim Column ![] b1 (constant One .f32 0xBF000000#32)) R))
        (broadcastInDim Column ![] b2 (constant One .f32 b))) (constant One .f32 0x00000000#32) h1 h2))
    = fun i => ((e (i 1) * (-(1 / 2) * r (i 1)) / d : ℝ) : EReal) := by
  rw [hE, hR]
  refine funext fun (i : (⟨3, ![1, 16384, n]⟩ : Shape).Idx) => ?_
  rw [eq_ix3 i]
  generalize i 0 = i0, i 1 = i1, i 2 = i2
  pointwise [sum_unit_axes, consts, hb]
  simp only [ring_lift, div_lift hd.ne']

end Cert.PrepNorm

end
-- ==== Proof.PrepParts.lean ====
/- The pieces of the latent projections' reference on real arrays: products, heads, norms' gradients. -/
module

public import proofs.«01_k».proof.Proof.PrepTurn
public import proofs.«01_k».proof.Proof.PrepNorm

@[expose] public section

set_option maxRecDepth 16384

noncomputable section

namespace Cert.PrepRefIdeal.Value

open Cert.PrepRefIdeal Cert.PrepRefIdeal.Gen Idealize.ShloMosaic Idealize.ShloMosaic.TcCoe Idealize.SL.Sem Idealize.ShloMosaic.StableHlo
open Cert.Lift Cert.PrepMath

/-! ### Over free arrays -/

/-- The angles. -/
theorem angle_eq {p : Fin 16384 → BitVec 32} {P : IVec S1x16384 32} (hP : P = fun i => p (i 1)) {f : Fin 16 → ℝ} {F : FVec Ideal S16 .f32}
    (hF : F = fun i => ((f (i 0) : ℝ) : EReal)) :
    mulf (F := Ideal) (φ := .f32) (broadcastInDim S1x16384x16 ![0, 1, 2] bcast_S1x16384x1_S1x16384x16_0_1_2 (broadcastInDim S1x16384x1 ![0, 1] bcast_S1x16384_S1x16384x1_0_1 (sitofp .f32 P)))
      (broadcastInDim S1x16384x16 ![0, 1, 2] bcast_S1x1x16_S1x16384x16_0_1_2 (broadcastInDim S1x1x16 ![2] bcast_S16_S1x1x16_2 F))
      = fun y => ((((p (y 1)).toInt : ℝ) * f (y 2) : ℝ) : EReal) := by
  funext y
  rw [hF, hP]
  idx_vars y
  pointwise
  exact (EReal.coe_mul _ _).symm

/-- The product with the queries' weight. -/
theorem dotq_eq {u : Fin 16384 → Fin 768 → ℝ} {w : Fin 256 → Fin 768 → ℝ} {U : FVec Ideal S1x16384x768 .f32} {W : FVec Ideal S256x768 .f32}
    (hU : U = fun y => ((u (y 1) (y 2) : ℝ) : EReal)) (hW : W = fun y => ((w (y 0) (y 1) : ℝ) : EReal)) :
    Host.dotGeneral (F := Ideal) dot_S1x16384x768_S256x768_S1x16384x256_2_1_01_0_n_n none U W = fun y => ((∑ k, u (y 1) k * w (y 2) k : ℝ) : EReal) := by
  funext y
  rw [hU, hW]
  idx_vars y
  pointwise
  simp only [ring_lift, sum_lift]

/-- The product with the weight of the keys or the values. -/
theorem dotk_eq {u : Fin 16384 → Fin 512 → ℝ} {w : Fin 128 → Fin 512 → ℝ} {U : FVec Ideal S1x16384x512 .f32} {W : FVec Ideal S128x512 .f32}
    (hU : U = fun y => ((u (y 1) (y 2) : ℝ) : EReal)) (hW : W = fun y => ((w (y 0) (y 1) : ℝ) : EReal)) :
    Host.dotGeneral (F := Ideal) dot_S1x16384x512_S128x512_S1x16384x128_2_1_01_0_n_n none U W = fun y => ((∑ k, u (y 1) k * w (y 2) k : ℝ) : EReal) := by
  funext y
  rw [hU, hW]
  idx_vars y
  pointwise
  simp only [ring_lift, sum_lift]

/-- The first 64 columns of every head, side by side. -/
theorem front_eq {u : Fin 16384 → Fin 768 → ℝ} {X : FVec Ideal S1x16384x8x96 .f32}
    (hX : X = fun y => ((u (y 1) ⟨(y 2).val * 96 + (y 3).val, by have h2 : (y 2).val < 8 := (y 2).isLt; have h3 : (y 3).val < 96 := (y 3).isLt; omega⟩ : ℝ) : EReal)) :
    shapeCast S1x16384x512 (extractStridedSlice S1x16384x8x64 ![0, 0, 0, 0] X slices_S1x16384x8x96_S1x16384x8x64_0_0_0_0) shapeCasts_S1x16384x8x64_S1x16384x512
      = fun y => ((front (u (y 1)) (y 2) : ℝ) : EReal) := by
  funext y
  have h2 : (y 2).val < 512 := (y 2).isLt
  have h0 : (y 0).val < 1 := (y 0).isLt
  rw [hX, shapeCast_apply (s := S1x16384x8x64) (t := S1x16384x512) _ _ y (ix4 (0 : Fin 1) (y 1) ⟨(y 2).val / 64, by omega⟩ ⟨(y 2).val % 64, by omega⟩) (by
    rw [Shape.rowMajor_val_three, Shape.rowMajor_val_four]
    show ((0 * 16384 + (y 1).val) * 8 + (y 2).val / 64) * 64 + (y 2).val % 64 = ((y 0).val * 16384 + (y 1).val) * 512 + (y 2).val
    omega)]
  pointwise
  rfl

/-- The sum over the heads of the keys' rotary columns. -/
theorem heads_eq {u : Fin 16384 → Fin 768 → ℝ} {X : FVec Ideal S1x16384x8x96 .f32}
    (hX : X = fun y => ((u (y 1) ⟨(y 2).val * 96 + (y 3).val, by have h2 : (y 2).val < 8 := (y 2).isLt; have h3 : (y 3).val < 96 := (y 3).isLt; omega⟩ : ℝ) : EReal)) :
    broadcastInDim S1x16384x1x32 ![1, 3] bcast_S16384x32_S1x16384x1x32_1_3 (Host.reduceAdd (F := Ideal) (φ := .f32) (extractStridedSlice S1x16384x8x32 ![0, 0, 0, 64] X slices_S1x16384x8x96_S1x16384x8x32_0_0_0_64)
      (constant S_ .f32 0x00000000#32) reducesTo_S1x16384x8x32_S16384x32_d0_2 h_S_)
      = fun y => ((∑ h : Fin 8, u (y 1) ⟨h.val * 96 + 64 + (y 3).val, by have h3 : (y 3).val < 32 := (y 3).isLt; omega⟩ : ℝ) : EReal) := by
  funext y
  rw [hX]
  idx_vars y
  pointwise [sum_mid]
  simp only [ring_lift, sum_lift]
  simp only [Nat.add_assoc]

/-- The last 32 columns of every head. -/
theorem back_eq {u : Fin 16384 → Fin 768 → ℝ} {X : FVec Ideal S1x16384x768 .f32} (hX : X = fun i => ((u (i 1) (i 2) : ℝ) : EReal)) :
    extractStridedSlice S1x16384x8x32 ![0, 0, 0, 64] (shapeCast S1x16384x8x96 X shapeCasts_S1x16384x768_S1x16384x8x96) slices_S1x16384x8x96_S1x16384x8x32_0_0_0_64
      = fun y => ((u (y 1) ⟨(y 2).val * 96 + 64 + (y 3).val, by have h2 : (y 2).val < 8 := (y 2).isLt; have h3 : (y 3).val < 32 := (y 3).isLt; omega⟩ : ℝ) : EReal) := by
  rw [split_eq hX]
  funext y
  idx_vars y
  pointwise
  simp only [Nat.add_assoc]

/-- The first 64 columns of every head. -/
theorem fore_eq {u : Fin 16384 → Fin 768 → ℝ} {X : FVec Ideal S1x16384x768 .f32} (hX : X = fun i => ((u (i 1) (i 2) : ℝ) : EReal)) :
    extractStridedSlice S1x16384x8x64 ![0, 0, 0, 0] (shapeCast S1x16384x8x96 X shapeCasts_S1x16384x768_S1x16384x8x96) slices_S1x16384x8x96_S1x16384x8x64_0_0_0_0
      = fun y => ((u (y 1) ⟨(y 2).val * 96 + (y 3).val, by have h2 : (y 2).val < 8 := (y 2).isLt; have h3 : (y 3).val < 64 := (y 3).isLt; omega⟩ : ℝ) : EReal) := by
  rw [split_eq hX]
  funext y
  idx_vars y
  pointwise

/-- The rows of heads packed into registers. -/
theorem pack_eq {u : Fin 16384 → Fin 768 → ℝ} {X : FVec Ideal S1x16384x768 .f32} (hX : X = fun i => ((u (i 1) (i 2) : ℝ) : EReal)) :
    truncf .bf16 (shapeCast S16384x1024 (pad S16384x8x128 ![0, 0, 0] ![0, 0, 32] ![0, 0, 0] (shapeCast S16384x8x96 X shapeCasts_S1x16384x768_S16384x8x96) (sitofp (F := Ideal) .f32 (constantI S_ 32 0#32)) pads_S16384x8x96_S16384x8x128_000_000_0320 h_S_) shapeCasts_S16384x8x128_S16384x1024) bitsLt_bf16_f32
      = fun y => ((PrepMath.heads 96 (u (y 0)) (y 1) : ℝ) : EReal) := by
  have flat : (⟨2, ![16384, 768]⟩ : Shape).ShapeCasts ⟨3, ![16384, 8, 96]⟩ := by decide +kernel
  have e : shapeCast S16384x8x96 X shapeCasts_S1x16384x768_S16384x8x96
      = shapeCast ⟨3, ![16384, 8, 96]⟩ ((fun i => ((u (i 0) (i 1) : ℝ) : EReal)) : FVec Ideal ⟨2, ![16384, 768]⟩ .f32) flat := by
    funext y
    have h1 : (y 1).val < 8 := (y 1).isLt
    have h2 : (y 2).val < 96 := (y 2).isLt
    rw [hX, shapeCast_apply (s := S1x16384x768) (t := S16384x8x96) _ _ y (ix3 (0 : Fin 1) (y 0) ⟨(y 1).val * 96 + (y 2).val, by omega⟩) (by
      rw [Shape.rowMajor_val_three, Shape.rowMajor_val_three]
      show (0 * 16384 + (y 0).val) * 768 + ((y 1).val * 96 + (y 2).val) = ((y 0).val * 8 + (y 1).val) * 96 + (y 2).val
      omega), shapeCast_apply (s := ⟨2, ![16384, 768]⟩) (t := ⟨3, ![16384, 8, 96]⟩) _ _ y (ix2 (y 0) ⟨(y 1).val * 96 + (y 2).val, by omega⟩) (by
      rw [Shape.rowMajor_val_three, Shape.rowMajor_val_two]
      show (y 0).val * 768 + ((y 1).val * 96 + (y 2).val) = ((y 0).val * 8 + (y 1).val) * 96 + (y 2).val
      omega)]
    rfl
  rw [e]
  exact PrepHost.pad_heads (N := 768) (k := 96) (hi := 32) (φ := .f32) (f := u) (by norm_num) rfl PrepHost.zero_pad (h1 := flat) (h2 := pads_S16384x8x96_S16384x8x128_000_000_0320) (hu := h_S_) (h3 := shapeCasts_S16384x8x128_S16384x1024)

/-- The keys' rotary gradient in lanes 64 to 95. -/
theorem lanes_eq {f : Fin 16384 → Fin 32 → ℝ} {X : FVec Ideal S1x16384x1x32 .f32} (hX : X = fun y => ((f (y 1) (y 3) : ℝ) : EReal)) :
    truncf .bf16 (pad S16384x128 ![0, 64] ![0, 32] ![0, 0] (shapeCast S16384x32 (broadcastInDim S1x16384x32 ![1, 2] bcast_S16384x32_S1x16384x32_1_2 (Host.reduceAdd (F := Ideal) (φ := .f32) X
      (constant S_ .f32 0x00000000#32) reducesTo_S1x16384x1x32_S16384x32_d0_2 h_S_)) shapeCasts_S1x16384x32_S16384x32) (sitofp (F := Ideal) .f32 (constantI S_ 32 0#32)) pads_S16384x32_S16384x128_000_64320 h_S_) bitsLt_bf16_f32
      = fun y => ((lanes (f (y 0)) (y 1) : ℝ) : EReal) := by
  funext y
  idx_vars y
  show pad S16384x128 ![0, 64] ![0, 32] ![0, 0] (shapeCast S16384x32 (broadcastInDim S1x16384x32 ![1, 2] bcast_S16384x32_S1x16384x32_1_2 (Host.reduceAdd (F := Ideal) (φ := .f32) X
      (constant S_ .f32 0x00000000#32) reducesTo_S1x16384x1x32_S16384x32_d0_2 h_S_)) shapeCasts_S1x16384x32_S16384x32) (sitofp (F := Ideal) .f32 (constantI S_ 32 0#32)) pads_S16384x32_S16384x128_000_64320 h_S_ (ix2 y0 y1) = ((lanes (f y0) y1 : ℝ) : EReal)
  unfold lanes
  split_ifs with h
  · rw [pad_apply_of_inside (s := S16384x32) (t := S16384x128) ![0, 64] ![0, 32] ![0, 0] _ _ pads_S16384x32_S16384x128_000_64320 h_S_ _ (ix2 y0 ⟨y1.val - 64, by omega⟩) (fun a => by
      match a with
      | ⟨0, _⟩ => exact (by simp)
      | ⟨1, _⟩ =>
        show y1.val = 64 + (y1.val - 64) * (0 + 1)
        omega), hX]
    pointwise [sum_mid]

    exact Fin.sum_univ_one _
  · rw [pad_apply_of_not_inside (s := S16384x32) (t := S16384x128) ![0, 64] ![0, 32] ![0, 0] _ _ pads_S16384x32_S16384x128_000_64320 h_S_ _ 1 (fun e => h (by
      have e1 := e.1
      have e2 := e.2.2
      simp at e1 e2
      omega)), PrepHost.zero_pad]

/-- The gradient of a row through the norm with its gain, for the queries. -/
theorem rowq_eq {x dy : Fin 16384 → Fin 256 → ℝ} {g : Fin 256 → ℝ} {r e : Fin 16384 → ℝ} {X V M : FVec Ideal S1x16384x256 .f32} {R : FVec Ideal S1x16384x1 .f32}
    (hX : X = fun y => ((x (y 1) (y 2) : ℝ) : EReal)) (hV : V = fun y => ((dy (y 1) (y 2) * g (y 2) : ℝ) : EReal))
    (hR : R = fun y => ((r (y 1) : ℝ) : EReal)) (hM : M = fun y => ((e (y 1) : ℝ) : EReal)) :
    truncf .bf16 (shapeCast S16384x256 (addf (F := Ideal) (φ := .f32) (addf (mulf V (broadcastInDim S1x16384x256 ![0, 1, 2] bcast_S1x16384x1_S1x16384x256_0_1_2 R)) (mulf X M)) (mulf M X)) shapeCasts_S1x16384x256_S16384x256) bitsLt_bf16_f32
      = fun y => ((dy (y 0) (y 1) * g (y 1) * r (y 0) + x (y 0) (y 1) * e (y 0) + e (y 0) * x (y 0) (y 1) : ℝ) : EReal) := by
  funext y
  rw [hX, hV, hR, hM]
  idx_vars y
  pointwise
  simp only [ring_lift]

/-- The gradient of a row through the norm with its gain, for the keys and values. -/
theorem rowk_eq {x dy : Fin 16384 → Fin 128 → ℝ} {g : Fin 128 → ℝ} {r e : Fin 16384 → ℝ} {X V M : FVec Ideal S1x16384x128 .f32} {R : FVec Ideal S1x16384x1 .f32}
    (hX : X = fun y => ((x (y 1) (y 2) : ℝ) : EReal)) (hV : V = fun y => ((dy (y 1) (y 2) * g (y 2) : ℝ) : EReal))
    (hR : R = fun y => ((r (y 1) : ℝ) : EReal)) (hM : M = fun y => ((e (y 1) : ℝ) : EReal)) :
    truncf .bf16 (shapeCast S16384x128 (addf (F := Ideal) (φ := .f32) (addf (mulf V (broadcastInDim S1x16384x128 ![0, 1, 2] bcast_S1x16384x1_S1x16384x128_0_1_2 R)) (mulf X M)) (mulf M X)) shapeCasts_S1x16384x128_S16384x128) bitsLt_bf16_f32
      = fun y => ((dy (y 0) (y 1) * g (y 1) * r (y 0) + x (y 0) (y 1) * e (y 0) + e (y 0) * x (y 0) (y 1) : ℝ) : EReal) := by
  funext y
  rw [hX, hV, hR, hM]
  idx_vars y
  pointwise
  simp only [ring_lift]

/-- The gradient of the queries' gain. -/
theorem gainq_eq {u v : Fin 16384 → Fin 256 → ℝ} {U V : FVec Ideal S1x16384x256 .f32}
    (hU : U = fun y => ((u (y 1) (y 2) : ℝ) : EReal)) (hV : V = fun y => ((v (y 1) (y 2) : ℝ) : EReal)) :
    shapeCast S1x256 (Host.reduceAdd (F := Ideal) (φ := .f32) (shapeCast S1x1x256 (Host.reduceAdd (mulf U V) (constant S_ .f32 0x00000000#32) reducesTo_S1x16384x256_S1x256_d1 h_S_) shapeCasts_S1x256_S1x1x256) (constant S_ .f32 0x00000000#32) reducesTo_S1x1x256_S256_d0_1 h_S_) shapeCasts_S256_S1x256
      = fun y => ((∑ i, u i (y 1) * v i (y 1) : ℝ) : EReal) := by
  funext y
  rw [hU, hV]
  idx_vars y
  pointwise [sum_unit_rows]
  simp only [ring_lift, sum_lift]

/-- The gradient of the keys' and values' gain. -/
theorem gaink_eq {u v : Fin 16384 → Fin 128 → ℝ} {U V : FVec Ideal S1x16384x128 .f32}
    (hU : U = fun y => ((u (y 1) (y 2) : ℝ) : EReal)) (hV : V = fun y => ((v (y 1) (y 2) : ℝ) : EReal)) :
    shapeCast S1x128 (Host.reduceAdd (F := Ideal) (φ := .f32) (shapeCast S1x1x128 (Host.reduceAdd (mulf U V) (constant S_ .f32 0x00000000#32) reducesTo_S1x16384x128_S1x128_d1 h_S_) shapeCasts_S1x128_S1x1x128) (constant S_ .f32 0x00000000#32) reducesTo_S1x1x128_S128_d0_1 h_S_) shapeCasts_S128_S1x128
      = fun y => ((∑ i, u i (y 1) * v i (y 1) : ℝ) : EReal) := by
  funext y
  rw [hU, hV]
  idx_vars y
  pointwise [sum_unit_rows]
  simp only [ring_lift, sum_lift]

end Cert.PrepRefIdeal.Value

end
-- ==== Proof.PrepRef.lean ====
/- The reference of the latent projections: on real arguments its six results are the real gradients. -/
module

public import proofs.«01_k».proof.Proof.PrepParts
public import proofs.«01_k».proof.Proof.PrepNorm

@[expose] public section

set_option maxRecDepth 16384

noncomputable section

namespace Cert.PrepRefIdeal.Value

open Cert.PrepRefIdeal Cert.PrepRefIdeal.Gen Idealize.ShloMosaic Idealize.ShloMosaic.TcCoe Idealize.SL.Sem
open Cert.Lift Idealize.ShloMosaic.StableHlo

/-! ### Rows of the two widths -/

/-- A row times its scale. -/
theorem scale256_eq {x : Fin 16384 → Fin 256 → ℝ} {r : Fin 16384 → ℝ} {X : FVec Ideal S1x16384x256 .f32} (hX : X = fun y => ((x (y 1) (y 2) : ℝ) : EReal)) :
    mulf (F := Ideal) (φ := .f32) X (broadcastInDim S1x16384x256 ![0, 1, 2] bcast_S1x16384x1_S1x16384x256_0_1_2 fun y : S1x16384x1.Idx => ((r (y 1) : ℝ) : EReal))
      = fun y => ((x (y 1) (y 2) * r (y 1) : ℝ) : EReal) := by
  funext y
  rw [hX]
  idx_vars y
  pointwise
  exact (EReal.coe_mul _ _).symm
/-- A row times the gain. -/
theorem gain256_eq {x : Fin 16384 → Fin 256 → ℝ} {g : Fin 256 → ℝ} {G : FVec Ideal S256 .f32} (hG : G = fun y => ((g (y 0) : ℝ) : EReal)) :
    mulf (F := Ideal) (φ := .f32) (fun y : S1x16384x256.Idx => ((x (y 1) (y 2) : ℝ) : EReal)) (broadcastInDim S1x16384x256 ![0, 1, 2] bcast_S1x1x256_S1x16384x256_0_1_2 (broadcastInDim S1x1x256 ![2] bcast_S256_S1x1x256_2 G))
      = fun y => ((x (y 1) (y 2) * g (y 2) : ℝ) : EReal) := by
  funext y
  rw [hG]
  idx_vars y
  pointwise
  exact (EReal.coe_mul _ _).symm

/-- A row times its scale. -/
theorem scale128_eq {x : Fin 16384 → Fin 128 → ℝ} {r : Fin 16384 → ℝ} {X : FVec Ideal S1x16384x128 .f32} (hX : X = fun y => ((x (y 1) (y 2) : ℝ) : EReal)) :
    mulf (F := Ideal) (φ := .f32) X (broadcastInDim S1x16384x128 ![0, 1, 2] bcast_S1x16384x1_S1x16384x128_0_1_2 fun y : S1x16384x1.Idx => ((r (y 1) : ℝ) : EReal))
      = fun y => ((x (y 1) (y 2) * r (y 1) : ℝ) : EReal) := by
  funext y
  rw [hX]
  idx_vars y
  pointwise
  exact (EReal.coe_mul _ _).symm
/-- A row times the gain. -/
theorem gain128_eq {x : Fin 16384 → Fin 128 → ℝ} {g : Fin 128 → ℝ} {G : FVec Ideal S128 .f32} (hG : G = fun y => ((g (y 0) : ℝ) : EReal)) :
    mulf (F := Ideal) (φ := .f32) (fun y : S1x16384x128.Idx => ((x (y 1) (y 2) : ℝ) : EReal)) (broadcastInDim S1x16384x128 ![0, 1, 2] bcast_S1x1x128_S1x16384x128_0_1_2 (broadcastInDim S1x1x128 ![2] bcast_S128_S1x1x128_2 G))
      = fun y => ((x (y 1) (y 2) * g (y 2) : ℝ) : EReal) := by
  funext y
  rw [hG]
  idx_vars y
  pointwise
  exact (EReal.coe_mul _ _).symm

/-- Splitting the heads and joining them again changes nothing. -/
theorem twice (X : FVec Ideal S1x16384x512 .f32) :
    shapeCast S1x16384x512 (shapeCast S1x16384x8x64 X shapeCasts_S1x16384x512_S1x16384x8x64) shapeCasts_S1x16384x8x64_S1x16384x512 = X := by
  funext y
  have h2 : (y 2).val < 512 := (y 2).isLt
  have h0 : (y 0).val < 1 := (y 0).isLt
  let i : S1x16384x8x64.Idx := ix4 (0 : Fin 1) (y 1) (⟨(y 2).val / 64, by omega⟩ : Fin 8) (⟨(y 2).val % 64, by omega⟩ : Fin 64)
  have e : (((0 * 16384 + (y 1).val) * 8 + (y 2).val / 64) * 64 + (y 2).val % 64) = ((y 0).val * 16384 + (y 1).val) * 512 + (y 2).val := by omega
  rw [shapeCast_apply (s := S1x16384x8x64) (t := S1x16384x512) _ _ y i (by
    rw [Shape.rowMajor_val_three, Shape.rowMajor_val_four]; exact e), shapeCast_apply (s := S1x16384x512) (t := S1x16384x8x64) _ _ i y (by
    rw [Shape.rowMajor_val_three, Shape.rowMajor_val_four]; exact e.symm)]

variable (m : (ℓ : Loc nD τ sig) → Buf (Elt Ideal) ℓ)

/-- The arguments' buffers hold the real arrays `a`. -/
structure Holds (c : Dev nD) (a : PrepMath.Args) : Prop where
  cq : m ((c.tc : Thread nD τ).loc main_arg0) = fun i => ((a.cq (i 1) (i 2) : ℝ) : EReal)
  ckv : m ((c.tc : Thread nD τ).loc main_arg1) = fun i => ((a.ckv (i 1) (i 2) : ℝ) : EReal)
  pos : m ((c.tc : Thread nD τ).loc main_arg2) = fun i => a.pos (i 1)
  gq : m ((c.tc : Thread nD τ).loc main_arg3) = fun i => ((a.gq (i 0) : ℝ) : EReal)
  wuq : m ((c.tc : Thread nD τ).loc main_arg4) = fun i => ((a.wuq (i 0) (i 1) : ℝ) : EReal)
  gk : m ((c.tc : Thread nD τ).loc main_arg5) = fun i => ((a.gk (i 0) : ℝ) : EReal)
  wuk : m ((c.tc : Thread nD τ).loc main_arg6) = fun i => ((a.wuk (i 0) (i 1) : ℝ) : EReal)
  wuv : m ((c.tc : Thread nD τ).loc main_arg7) = fun i => ((a.wuv (i 0) (i 1) : ℝ) : EReal)
  dq : m ((c.tc : Thread nD τ).loc main_arg8) = fun i => ((a.dq (i 1) (i 2) : ℝ) : EReal)
  dk : m ((c.tc : Thread nD τ).loc main_arg9) = fun i => ((a.dk (i 1) (i 2) : ℝ) : EReal)
  dv : m ((c.tc : Thread nD τ).loc main_arg10) = fun i => ((a.dv (i 1) (i 2) : ℝ) : EReal)

section Named

variable (c : Dev nD) {a : PrepMath.Args} (h : Holds m c a)

include h

/-! ### The rotation -/

/-- The angles. -/
theorem v15_eq : res_main_v15 (launchContents m c) = fun y => ((PrepMath.angle a (y 1) (y 2) : ℝ) : EReal) := by
  unfold res_main_v15
  exact angle_eq h.pos PrepHost.freq_eq
/-- Their cosines. -/
theorem v18_eq : res_main_v18 (launchContents m c) = fun y => ((PrepMath.cos a (y 1) (y 3) : ℝ) : EReal) := by
  unfold res_main_v18
  rw [v15_eq m c h]
  funext y
  idx_vars y
  pointwise
  rfl
/-- Their sines. -/
theorem v19_eq : res_main_v19 (launchContents m c) = fun y => ((PrepMath.sin a (y 1) (y 3) : ℝ) : EReal) := by
  unfold res_main_v19
  rw [v15_eq m c h]
  funext y
  idx_vars y
  pointwise
  rfl

/-- The queries' cotangent before their rotation. -/
theorem v107_eq : res_main_v107 (launchContents m c) = fun y => ((PrepMath.dqp a (y 1) (y 2) : ℝ) : EReal) := by
  unfold res_main_v107 res_main_v91 res_main_v90 res_main_v89 res_main_v87
  exact join_eq (u := a.dq) (turn8_eq (v18_eq m c h) (v19_eq m c h)
    (U := fun i d k => a.dq i ⟨d.val * 96 + 64 + k.val, by omega⟩) (back_eq h.dq)) (fore_eq h.dq)

/-- The cotangent of the queries' normed rows. -/
theorem v108_eq : res_main_v108 (launchContents m c) = fun y => ((PrepMath.dcqn a (y 1) (y 2) : ℝ) : EReal) := by
  unfold res_main_v108
  exact dotq_eq (v107_eq m c h) h.wuq

/-- The keys' rotary cotangents summed over the heads. -/
theorem v137_eq : res_main_v137 (launchContents m c) = fun y => ((PrepMath.dpe a (y 1) (y 3) : ℝ) : EReal) := by
  unfold res_main_v137 res_main_v130
  exact heads_eq (split_eq h.dk)

/-- The cotangent of the keys' and values' normed rows. -/
theorem v140_eq : res_main_v140 (launchContents m c) = fun y => ((PrepMath.dckvn a (y 1) (y 2) : ℝ) : EReal) := by
  unfold res_main_v140 res_main_v130
  have hv : shapeCast S1x16384x512 (shapeCast S1x16384x8x64 (m ((c.tc : Thread nD τ).loc main_arg10)) shapeCasts_S1x16384x512_S1x16384x8x64) shapeCasts_S1x16384x8x64_S1x16384x512
      = fun y => ((a.dv (y 1) (y 2) : ℝ) : EReal) := (twice _).trans h.dv
  refine (congrArg₂ (addf (F := Ideal) (φ := .f32)) (dotk_eq hv h.wuv) (dotk_eq (u := fun i => PrepMath.front (a.dk i)) (front_eq (split_eq h.dk)) h.wuk)).trans ?_
  funext y
  exact (EReal.coe_add _ _).symm.trans (congrArg Real.toEReal (add_comm _ _))

/-! ### The norm of the queries -/

/-- The mean square. -/
theorem v26_eq : res_main_v26 (launchContents m c) = fun y => ((ms 256 (a.cq (y 1)) : ℝ) : EReal) := PrepNorm.ms_eq PrepHost.k256 (by norm_num) h.cq
/-- The reciprocal root. -/
theorem v27_eq : res_main_v27 (launchContents m c) = fun y => ((rinv 256 (a.cq (y 1)) : ℝ) : EReal) := by
  unfold res_main_v27
  rw [v26_eq m c h]
  exact PrepNorm.root_eq (by norm_num)
/-- The normed row before its gain. -/
theorem v32_eq : res_main_v32 (launchContents m c) = fun y => ((a.cq (y 1) (y 2) * rinv 256 (a.cq (y 1)) : ℝ) : EReal) := by
  unfold res_main_v32
  rw [v27_eq m c h]
  exact scale256_eq (r := fun i => rinv 256 (a.cq i)) h.cq
/-- The cotangent times the gain. -/
theorem v113_eq : res_main_v113 (launchContents m c) = fun y => ((PrepMath.dcqn a (y 1) (y 2) * a.gq (y 2) : ℝ) : EReal) := by
  unfold res_main_v113 res_main_v33
  rw [v108_eq m c h]
  exact gain256_eq h.gq

/-- The gradient of the mean square, spread over the row. -/
theorem v125_eq : res_main_v125 (launchContents m c) = fun y => (((∑ k, a.cq (y 1) k * (PrepMath.dcqn a (y 1) k * a.gq k))
    * (-(1 / 2) * (rinv 256 (a.cq (y 1)) * (rinv 256 (a.cq (y 1)) * rinv 256 (a.cq (y 1))))) / 256 : ℝ) : EReal) := by
  unfold res_main_v125
  have hR : Host.divf (F := Ideal) (φ := .f32) (res_main_v27 (launchContents m c)) (res_main_v26 (launchContents m c))
      = fun y => ((rinv 256 (a.cq (y 1)) * (rinv 256 (a.cq (y 1)) * rinv 256 (a.cq (y 1))) : ℝ) : EReal) :=
    (congrArg₂ (Host.divf (F := Ideal) (φ := .f32)) (v27_eq m c h) (v26_eq m c h)).trans (PrepNorm.cube_eq (d := 256) (x := a.cq) (by norm_num))
  exact PrepNorm.mean_eq (n := 256) PrepHost.k256 (by norm_num) (e := fun i => ∑ k, a.cq i k * (PrepMath.dcqn a i k * a.gq k))
    (r := fun i => rinv 256 (a.cq i) * (rinv 256 (a.cq i) * rinv 256 (a.cq i)))
    (PrepNorm.dot_eq (x := a.cq) (y := fun i k => PrepMath.dcqn a i k * a.gq k) h.cq (v113_eq m c h)) hR

/-! ### The norm of the keys and values -/

/-- The mean square. -/
theorem v61_eq : res_main_v61 (launchContents m c) = fun y => ((ms 128 (a.ckv (y 1)) : ℝ) : EReal) := PrepNorm.ms_eq PrepHost.k128 (by norm_num) h.ckv
/-- The reciprocal root. -/
theorem v62_eq : res_main_v62 (launchContents m c) = fun y => ((rinv 128 (a.ckv (y 1)) : ℝ) : EReal) := by
  unfold res_main_v62
  rw [v61_eq m c h]
  exact PrepNorm.root_eq (by norm_num)
/-- The normed row before its gain. -/
theorem v67_eq : res_main_v67 (launchContents m c) = fun y => ((a.ckv (y 1) (y 2) * rinv 128 (a.ckv (y 1)) : ℝ) : EReal) := by
  unfold res_main_v67
  rw [v62_eq m c h]
  exact scale128_eq (r := fun i => rinv 128 (a.ckv i)) h.ckv
/-- The cotangent times the gain. -/
theorem v157_eq : res_main_v157 (launchContents m c) = fun y => ((PrepMath.dckvn a (y 1) (y 2) * a.gk (y 2) : ℝ) : EReal) := by
  unfold res_main_v157 res_main_v68
  rw [v140_eq m c h]
  exact gain128_eq h.gk

/-- The gradient of the mean square, spread over the row. -/
theorem v169_eq : res_main_v169 (launchContents m c) = fun y => (((∑ k, a.ckv (y 1) k * (PrepMath.dckvn a (y 1) k * a.gk k))
    * (-(1 / 2) * (rinv 128 (a.ckv (y 1)) * (rinv 128 (a.ckv (y 1)) * rinv 128 (a.ckv (y 1))))) / 128 : ℝ) : EReal) := by
  unfold res_main_v169
  have hR : Host.divf (F := Ideal) (φ := .f32) (res_main_v62 (launchContents m c)) (res_main_v61 (launchContents m c))
      = fun y => ((rinv 128 (a.ckv (y 1)) * (rinv 128 (a.ckv (y 1)) * rinv 128 (a.ckv (y 1))) : ℝ) : EReal) :=
    (congrArg₂ (Host.divf (F := Ideal) (φ := .f32)) (v62_eq m c h) (v61_eq m c h)).trans (PrepNorm.cube_eq (d := 128) (x := a.ckv) (by norm_num))
  exact PrepNorm.mean_eq (n := 128) PrepHost.k128 (by norm_num) (e := fun i => ∑ k, a.ckv i k * (PrepMath.dckvn a i k * a.gk k))
    (r := fun i => rinv 128 (a.ckv i) * (rinv 128 (a.ckv i) * rinv 128 (a.ckv i)))
    (PrepNorm.dot_eq (x := a.ckv) (y := fun i k => PrepMath.dckvn a i k * a.gk k) h.ckv (v157_eq m c h)) hR

/-! ### The results -/

/-- The gradient of the queries' latent rows. -/
theorem v182_eq : truncf .bf16 (shapeCast S16384x256 (addf (F := Ideal) (φ := .f32) (addf (mulf (res_main_v113 (launchContents m c)) (broadcastInDim S1x16384x256 ![0, 1, 2] bcast_S1x16384x1_S1x16384x256_0_1_2 (res_main_v27 (launchContents m c)))) (mulf (launchContents m c (Proc.devRef .tc main_arg0)) (res_main_v125 (launchContents m c)))) (mulf (res_main_v125 (launchContents m c)) (launchContents m c (Proc.devRef .tc main_arg0)))) shapeCasts_S1x16384x256_S16384x256) bitsLt_bf16_f32
    = fun y => ((PrepMath.dcq a (y 0) (y 1) : ℝ) : EReal) :=
  (rowq_eq (r := fun i => rinv 256 (a.cq i)) (e := fun i => (∑ k, a.cq i k * (PrepMath.dcqn a i k * a.gq k)) * (-(1 / 2) * (rinv 256 (a.cq i) * (rinv 256 (a.cq i) * rinv 256 (a.cq i)))) / 256)
    h.cq (v113_eq m c h) (v27_eq m c h) (v125_eq m c h)).trans
    (funext fun _ => congrArg Real.toEReal (PrepMath.chain_eq 256 a.cq a.gq (PrepMath.dcqn a) _ _))
/-- The gradient of the latent rows of keys and values. -/
theorem v183_eq : truncf .bf16 (shapeCast S16384x128 (addf (F := Ideal) (φ := .f32) (addf (mulf (res_main_v157 (launchContents m c)) (broadcastInDim S1x16384x128 ![0, 1, 2] bcast_S1x16384x1_S1x16384x128_0_1_2 (res_main_v62 (launchContents m c)))) (mulf (launchContents m c (Proc.devRef .tc main_arg1)) (res_main_v169 (launchContents m c)))) (mulf (res_main_v169 (launchContents m c)) (launchContents m c (Proc.devRef .tc main_arg1)))) shapeCasts_S1x16384x128_S16384x128) bitsLt_bf16_f32
    = fun y => ((PrepMath.dckv a (y 0) (y 1) : ℝ) : EReal) :=
  (rowk_eq (r := fun i => rinv 128 (a.ckv i)) (e := fun i => (∑ k, a.ckv i k * (PrepMath.dckvn a i k * a.gk k)) * (-(1 / 2) * (rinv 128 (a.ckv i) * (rinv 128 (a.ckv i) * rinv 128 (a.ckv i)))) / 128)
    h.ckv (v157_eq m c h) (v62_eq m c h) (v169_eq m c h)).trans
    (funext fun _ => congrArg Real.toEReal (PrepMath.chain_eq 128 a.ckv a.gk (PrepMath.dckvn a) _ _))
/-- The gradient of the queries' gain. -/
theorem v185_eq : shapeCast S1x256 (Host.reduceAdd (F := Ideal) (φ := .f32) (shapeCast S1x1x256 (Host.reduceAdd (mulf (res_main_v32 (launchContents m c)) (res_main_v108 (launchContents m c))) (constant S_ .f32 0x00000000#32) reducesTo_S1x16384x256_S1x256_d1 h_S_) shapeCasts_S1x256_S1x1x256) (constant S_ .f32 0x00000000#32) reducesTo_S1x1x256_S256_d0_1 h_S_) shapeCasts_S256_S1x256
    = fun y => ((PrepMath.dgq a (y 1) : ℝ) : EReal) :=
  (gainq_eq (u := fun i j => a.cq i j * rinv 256 (a.cq i)) (v := PrepMath.dcqn a) (v32_eq m c h) (v108_eq m c h)).trans
    (funext fun y => congrArg Real.toEReal (PrepMath.dgain_eq 256 a.cq (PrepMath.dcqn a) (y 1)))
/-- The gradient of the keys' and values' gain. -/
theorem v186_eq : shapeCast S1x128 (Host.reduceAdd (F := Ideal) (φ := .f32) (shapeCast S1x1x128 (Host.reduceAdd (mulf (res_main_v67 (launchContents m c)) (res_main_v140 (launchContents m c))) (constant S_ .f32 0x00000000#32) reducesTo_S1x16384x128_S1x128_d1 h_S_) shapeCasts_S1x128_S1x1x128) (constant S_ .f32 0x00000000#32) reducesTo_S1x1x128_S128_d0_1 h_S_) shapeCasts_S128_S1x128
    = fun y => ((PrepMath.dgk a (y 1) : ℝ) : EReal) :=
  (gaink_eq (u := fun i j => a.ckv i j * rinv 128 (a.ckv i)) (v := PrepMath.dckvn a) (v67_eq m c h) (v140_eq m c h)).trans
    (funext fun y => congrArg Real.toEReal (PrepMath.dgain_eq 128 a.ckv (PrepMath.dckvn a) (y 1)))

/-- The keys' rotary gradient. -/
theorem turned_eq : concatenate S1x16384x1x32 3 [⟨S1x16384x1x16, (addf (F := Ideal) (φ := .f32) (mulf (res_main_v142 (launchContents m c)) (res_main_v19 (launchContents m c))) (mulf (res_main_v141 (launchContents m c)) (res_main_v18 (launchContents m c))))⟩, ⟨S1x16384x1x16, (addf (mulf (res_main_v142 (launchContents m c)) (res_main_v18 (launchContents m c))) (mulf (Host.negf (res_main_v141 (launchContents m c))) (res_main_v19 (launchContents m c))))⟩] concatenates_S1x16384x1x16_S1x16384x1x16_S1x16384x1x32_d3
    = fun y => ((PrepMath.dkr a (y 1) (y 3) : ℝ) : EReal) := by
  unfold res_main_v142 res_main_v141
  exact turn1_eq (v18_eq m c h) (v19_eq m c h) (U := PrepMath.dpe a) (v137_eq m c h)

end Named

/-- What the reference's run leaves in its six results: the gradients of the queries before their rotation, of the two latent
    rows, of the shared rotary key and of the two gains. -/
theorem results (a : Dev nD → PrepMath.Args) (h : ∀ c : Dev nD, Holds m c (a c)) (ρ : Dev nD → PrngReg) :
    θ_run defs (onTc (τ := τ) (main (F := Ideal))) ⟨m, fun _ => 0, ρ⟩ fun r => ∀ c : Dev nD,
      r.2.mem ((c.tc : Thread nD τ).loc main_v181) = (fun i => ((PrepMath.heads 96 (PrepMath.dqp (a c) (i 0)) (i 1) : ℝ) : EReal))
      ∧ r.2.mem ((c.tc : Thread nD τ).loc main_v182) = (fun i => ((PrepMath.dcq (a c) (i 0) (i 1) : ℝ) : EReal))
      ∧ r.2.mem ((c.tc : Thread nD τ).loc main_v183) = (fun i => ((PrepMath.dckv (a c) (i 0) (i 1) : ℝ) : EReal))
      ∧ r.2.mem ((c.tc : Thread nD τ).loc main_v184) = (fun i => ((PrepMath.lanes (PrepMath.dkr (a c) (i 0)) (i 1) : ℝ) : EReal))
      ∧ r.2.mem ((c.tc : Thread nD τ).loc main_v185) = (fun i => ((PrepMath.dgq (a c) (i 1) : ℝ) : EReal))
      ∧ r.2.mem ((c.tc : Thread nD τ).loc main_v186) = (fun i => ((PrepMath.dgk (a c) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r hr c => ⟨(hr c).1.trans (pack_eq (v107_eq m c (h c))), (hr c).2.1.trans (v182_eq m c (h c)),
    (hr c).2.2.1.trans (v183_eq m c (h c)), (hr c).2.2.2.1.trans (lanes_eq (turned_eq m c (h c))),
    (hr c).2.2.2.2.1.trans (v185_eq m c (h c)),
    (hr c).2.2.2.2.2.1.trans (v186_eq m c (h c)),
    (hr c).2.2.2.2.2.2⟩) (run m ρ)

end Cert.PrepRefIdeal.Value

end
-- ==== Proof.PrepRead.lean ====
/- What the kernel's windows hold when its loop starts: the host's packing of the arguments, on real arrays. -/
module

public import proofs.«01_k».proof.Proof.Gen.PrepIdeal.Value
public import proofs.«01_k».proof.Proof.PrepMath
public import Idealize.ShloMosaic.Lib.Claim
public import Idealize.ShloMosaic.Lib.StableHlo.RunRead
public import Idealize.ShloMosaic.Lib.ValueLayout

@[expose] public section

set_option maxRecDepth 65536

noncomputable section

namespace Cert.PrepIdeal.Value

open Cert.PrepIdeal Cert.PrepIdeal.Gen Idealize.ShloMosaic Idealize.ShloMosaic.TcCoe Idealize.SL.Sem
open Idealize.ShloMosaic.Pipeline (Dat)
open Cert.Lift

variable (m : (ℓ : Loc nD τ sig) → Buf (Elt Ideal) ℓ) (c : Dev nD)

/-! ### The host's operations -/

/-- The frequencies. -/
theorem op_v9 : Gen.V m c main_v9 = Host.powf (F := Ideal) (φ := .f32) (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))) := by
  unfold Gen.V
  simp only [List.flatten_cons, List.flatten_nil, List.cons_append, List.nil_append, List.append_nil]
  after_reads_simp

set_option maxHeartbeats 2000000 in
/-- The angle of every row and lane. -/
theorem op_v17 : Gen.V m c main_v17 = mulf (F := Ideal) (φ := .f32) (broadcastInDim S16384x128 ![0, 1] bcast_S16384x1_S16384x128_0_1 (sitofp .f32 (shapeCast S16384x1 (m ((c.tc : Thread nD τ).loc main_arg2)) shapeCasts_S1x16384_S16384x1))) (broadcastInDim S16384x128 ![0, 1] bcast_S1x128_S16384x128_0_1 (shapeCast S1x128 (pad S128 ![64] ![32] ![0] (concatenate S32 0 [⟨S16, Gen.V m c main_v9⟩, ⟨S16, Gen.V m c main_v9⟩] concatenates_S16_S16_S32_d0) (sitofp (F := Ideal) .f32 (constantI S_ 32 0#32)) pads_S32_S128_64320 h_S_) shapeCasts_S128_S1x128)) := by
  unfold Gen.V
  simp only [List.flatten_cons, List.flatten_nil, List.cons_append, List.nil_append, List.append_nil]
  after_reads_simp
  rfl

/-- The masks of the two halves of the rotary lanes. -/
abbrev maskLow : IVec S16384x128 1 := andi (cmpi .sge (iotaInDim S16384x128 32 1) (broadcastInDim S16384x128 ![] bcast_S_S16384x128 (constantI S_ 32 64#32))) (cmpi .slt (iotaInDim S16384x128 32 1) (broadcastInDim S16384x128 ![] bcast_S_S16384x128 (constantI S_ 32 80#32)))
abbrev maskHigh : IVec S16384x128 1 := andi (cmpi .sge (iotaInDim S16384x128 32 1) (broadcastInDim S16384x128 ![] bcast_S_S16384x128 (constantI S_ 32 80#32))) (cmpi .slt (iotaInDim S16384x128 32 1) (broadcastInDim S16384x128 ![] bcast_S_S16384x128 (constantI S_ 32 96#32)))

theorem op_v32 : Gen.V m c main_v32 = select (ori maskLow maskHigh) (Host.cos (F := Ideal) (φ := .f32) (Gen.V m c main_v17)) (broadcastInDim S16384x128 ![] bcast_S_S16384x128 (constant (F := Ideal) S_ .f32 0x3F800000#32)) := by
  unfold Gen.V
  simp only [List.flatten_cons, List.flatten_nil, List.cons_append, List.nil_append, List.append_nil]
  after_reads_simp
  rfl

theorem op_v34 : Gen.V m c main_v34 = select maskLow (Host.negf (Host.sin (F := Ideal) (φ := .f32) (Gen.V m c main_v17))) (broadcastInDim S16384x128 ![] bcast_S_S16384x128 (constant (F := Ideal) S_ .f32 0x00000000#32)) := by
  unfold Gen.V
  simp only [List.flatten_cons, List.flatten_nil, List.cons_append, List.nil_append, List.append_nil]
  after_reads_simp
  rfl

theorem op_v35 : Gen.V m c main_v35 = select maskHigh (Host.sin (F := Ideal) (φ := .f32) (Gen.V m c main_v17)) (broadcastInDim S16384x128 ![] bcast_S_S16384x128 (constant (F := Ideal) S_ .f32 0x00000000#32)) := by
  unfold Gen.V
  simp only [List.flatten_cons, List.flatten_nil, List.cons_append, List.nil_append, List.append_nil]
  after_reads_simp
  rfl

theorem op_v39 : Gen.V m c main_v39 = shapeCast S256x1024 (pad S256x8x128 ![0, 0, 0] ![0, 0, 32] ![0, 0, 0] (shapeCast S256x8x96 (truncf (F := Ideal) (φ := .f32) .bf16 (m ((c.tc : Thread nD τ).loc main_arg4)) bitsLt_bf16_f32) shapeCasts_S256x768_S256x8x96) (sitofp (F := Ideal) .bf16 (constantI S_ 32 0#32)) pads_S256x8x96_S256x8x128_000_000_0320 h_S_) shapeCasts_S256x8x128_S256x1024 := by
  unfold Gen.V
  simp only [List.flatten_cons, List.flatten_nil, List.cons_append, List.nil_append, List.append_nil]
  after_reads_simp
  rfl

theorem op_v43 : Gen.V m c main_v43 = shapeCast S128x1024 (pad S128x8x128 ![0, 0, 0] ![0, 0, 64] ![0, 0, 0] (shapeCast S128x8x64 (truncf (F := Ideal) (φ := .f32) .bf16 (m ((c.tc : Thread nD τ).loc main_arg6)) bitsLt_bf16_f32) shapeCasts_S128x512_S128x8x64) (sitofp (F := Ideal) .bf16 (constantI S_ 32 0#32)) pads_S128x8x64_S128x8x128_000_000_0640 h_S_) shapeCasts_S128x8x128_S128x1024 := by
  unfold Gen.V
  simp only [List.flatten_cons, List.flatten_nil, List.cons_append, List.nil_append, List.append_nil]
  after_reads_simp
  rfl

theorem op_v47 : Gen.V m c main_v47 = shapeCast S128x1024 (pad S128x8x128 ![0, 0, 0] ![0, 0, 64] ![0, 0, 0] (shapeCast S128x8x64 (truncf (F := Ideal) (φ := .f32) .bf16 (m ((c.tc : Thread nD τ).loc main_arg7)) bitsLt_bf16_f32) shapeCasts_S128x512_S128x8x64) (sitofp (F := Ideal) .bf16 (constantI S_ 32 0#32)) pads_S128x8x64_S128x8x128_000_000_0640 h_S_) shapeCasts_S128x8x128_S128x1024 := by
  unfold Gen.V
  simp only [List.flatten_cons, List.flatten_nil, List.cons_append, List.nil_append, List.append_nil]
  after_reads_simp
  rfl

theorem op_v51 : Gen.V m c main_v51 = shapeCast S16384x1024 (pad S16384x8x128 ![0, 0, 0] ![0, 0, 32] ![0, 0, 0] (shapeCast S16384x8x96 (shapeCast S16384x768 (m ((c.tc : Thread nD τ).loc main_arg8)) shapeCasts_S1x16384x768_S16384x768) shapeCasts_S16384x768_S16384x8x96) (sitofp (F := Ideal) .f32 (constantI S_ 32 0#32)) pads_S16384x8x96_S16384x8x128_000_000_0320 h_S_) shapeCasts_S16384x8x128_S16384x1024 := by
  unfold Gen.V
  simp only [List.flatten_cons, List.flatten_nil, List.cons_append, List.nil_append, List.append_nil]
  after_reads_simp
  rfl

theorem op_v55 : Gen.V m c main_v55 = shapeCast S16384x1024 (pad S16384x8x128 ![0, 0, 0] ![0, 0, 32] ![0, 0, 0] (shapeCast S16384x8x96 (shapeCast S16384x768 (m ((c.tc : Thread nD τ).loc main_arg9)) shapeCasts_S1x16384x768_S16384x768) shapeCasts_S16384x768_S16384x8x96) (sitofp (F := Ideal) .f32 (constantI S_ 32 0#32)) pads_S16384x8x96_S16384x8x128_000_000_0320 h_S_) shapeCasts_S16384x8x128_S16384x1024 := by
  unfold Gen.V
  simp only [List.flatten_cons, List.flatten_nil, List.cons_append, List.nil_append, List.append_nil]
  after_reads_simp
  rfl

theorem op_v59 : Gen.V m c main_v59 = shapeCast S16384x1024 (pad S16384x8x128 ![0, 0, 0] ![0, 0, 64] ![0, 0, 0] (shapeCast S16384x8x64 (shapeCast S16384x512 (m ((c.tc : Thread nD τ).loc main_arg10)) shapeCasts_S1x16384x512_S16384x512) shapeCasts_S16384x512_S16384x8x64) (sitofp (F := Ideal) .f32 (constantI S_ 32 0#32)) pads_S16384x8x64_S16384x8x128_000_000_0640 h_S_) shapeCasts_S16384x8x128_S16384x1024 := by
  unfold Gen.V
  simp only [List.flatten_cons, List.flatten_nil, List.cons_append, List.nil_append, List.append_nil]
  after_reads_simp
  rfl

theorem op_v60 : Gen.V m c main_v60 = shapeCast S16384x256 (m ((c.tc : Thread nD τ).loc main_arg0)) shapeCasts_S1x16384x256_S16384x256 := by
  unfold Gen.V
  simp only [List.flatten_cons, List.flatten_nil, List.cons_append, List.nil_append, List.append_nil]
  after_reads_simp
  rfl

theorem op_v61 : Gen.V m c main_v61 = shapeCast S16384x128 (m ((c.tc : Thread nD τ).loc main_arg1)) shapeCasts_S1x16384x128_S16384x128 := by
  unfold Gen.V
  simp only [List.flatten_cons, List.flatten_nil, List.cons_append, List.nil_append, List.append_nil]
  after_reads_simp
  rfl

theorem op_v62 : Gen.V m c main_v62 = shapeCast S1x256 (m ((c.tc : Thread nD τ).loc main_arg3)) shapeCasts_S256_S1x256 := by
  unfold Gen.V
  simp only [List.flatten_cons, List.flatten_nil, List.cons_append, List.nil_append, List.append_nil]
  after_reads_simp
  rfl

theorem op_v63 : Gen.V m c main_v63 = shapeCast S1x128 (m ((c.tc : Thread nD τ).loc main_arg5)) shapeCasts_S128_S1x128 := by
  unfold Gen.V
  simp only [List.flatten_cons, List.flatten_nil, List.cons_append, List.nil_append, List.append_nil]
  after_reads_simp
  rfl

end Cert.PrepIdeal.Value

end
-- ==== Proof.PrepWindow.lean ====
/- The kernel's windows on real arguments: what each holds at a point of the grid. -/
module

public import proofs.«01_k».proof.Proof.PrepRead
public import proofs.«01_k».proof.Proof.PrepHost

@[expose] public section

set_option maxRecDepth 65536

noncomputable section

namespace Cert.PrepIdeal.Value

open Cert.PrepIdeal Cert.PrepIdeal.Gen Idealize.ShloMosaic Idealize.ShloMosaic.TcCoe Idealize.SL.Sem
open Idealize.ShloMosaic.Pipeline (Dat)
open Cert.Lift Cert.PrepMath

/-! ### The blocks' places -/

/-- The windows' block indices. -/
theorem idx :
    ∀ p : Fin cfg0.N, win0_0.index p = ![p.val, 0] ∧ win0_1.index p = ![p.val, 0] ∧ win0_2.index p = ![p.val, 0] ∧
    win0_3.index p = ![p.val, 0] ∧ win0_4.index p = ![p.val, 0] ∧ win0_5.index p = ![p.val, 0] ∧
    win0_6.index p = ![p.val, 0] ∧ win0_7.index p = ![p.val, 0] ∧ win0_8.index p = ![0, 0] ∧ win0_9.index p = ![0, 0] ∧
    win0_10.index p = ![0, 0] ∧ win0_11.index p = ![0, 0] ∧ win0_12.index p = ![0, 0] ∧ win0_13.index p = ![p.val, 0] ∧
    win0_14.index p = ![p.val, 0] ∧ win0_15.index p = ![p.val, 0] ∧ win0_16.index p = ![p.val, 0] ∧
    win0_17.index p = ![0, 0] ∧ win0_18.index p = ![0, 0] :=
  (by decide +kernel : ∀ p : Fin grid0.N, _)

theorem points : cfg0.N = 64 := N_0

theorem lt64 (p : Fin cfg0.N) : p.val < 64 := p.isLt.trans_eq points

/-- Row `a` of the block at point `p`. -/
def row (p : Fin cfg0.N) (a : Fin 256) : Fin 16384 := ⟨p.val * 256 + a.val, by have := lt64 p; omega⟩

/-- A sum over the points and a block's rows is the sum over all rows. -/
theorem sum_rows (f : Fin 16384 → ℝ) : ∑ p, ∑ a, f (row p a) = ∑ i, f i :=
  (Fin.sum_univ_tiles cfg0.N 256 (by rw [points]) f).symm

/-! ### The arrays -/

variable (m : (ℓ : Loc nD τ sig) → Buf (Elt Ideal) ℓ) (c : Dev nD)

/-- The arguments' buffers hold the real arrays `a`. -/
structure Holds (a : PrepMath.Args) : Prop where
  cq : m ((c.tc : Thread nD τ).loc main_arg0) = fun i => ((a.cq (i 1) (i 2) : ℝ) : EReal)
  ckv : m ((c.tc : Thread nD τ).loc main_arg1) = fun i => ((a.ckv (i 1) (i 2) : ℝ) : EReal)
  pos : m ((c.tc : Thread nD τ).loc main_arg2) = fun i => a.pos (i 1)
  gq : m ((c.tc : Thread nD τ).loc main_arg3) = fun i => ((a.gq (i 0) : ℝ) : EReal)
  wuq : m ((c.tc : Thread nD τ).loc main_arg4) = fun i => ((a.wuq (i 0) (i 1) : ℝ) : EReal)
  gk : m ((c.tc : Thread nD τ).loc main_arg5) = fun i => ((a.gk (i 0) : ℝ) : EReal)
  wuk : m ((c.tc : Thread nD τ).loc main_arg6) = fun i => ((a.wuk (i 0) (i 1) : ℝ) : EReal)
  wuv : m ((c.tc : Thread nD τ).loc main_arg7) = fun i => ((a.wuv (i 0) (i 1) : ℝ) : EReal)
  dq : m ((c.tc : Thread nD τ).loc main_arg8) = fun i => ((a.dq (i 1) (i 2) : ℝ) : EReal)
  dk : m ((c.tc : Thread nD τ).loc main_arg9) = fun i => ((a.dk (i 1) (i 2) : ℝ) : EReal)
  dv : m ((c.tc : Thread nD τ).loc main_arg10) = fun i => ((a.dv (i 1) (i 2) : ℝ) : EReal)

variable {a : PrepMath.Args} (h : Holds m c a)

/-- The angle of a lane: the position times the lane's frequency, zero outside the rotary lanes. -/
def laneAngle (a : PrepMath.Args) (i : Fin 16384) (l : Fin 128) : ℝ :=
  if 64 ≤ l.val ∧ l.val < 96 then angle a i ⟨l.val % 16, by omega⟩ else 0

include h

omit h in
theorem freqs_eq : Gen.V m c main_v9 = fun i : S16.Idx => ((freq (i 0) : ℝ) : EReal) := (op_v9 m c).trans PrepHost.freq_eq

theorem angle_all : Gen.V m c main_v17 = fun y : S16384x128.Idx => ((laneAngle a (y 0) (y 1) : ℝ) : EReal) := by
  rw [op_v17 m c, h.pos, freqs_eq m c]
  funext y
  rw [eq_ix2 y]
  refine (congrArg₂ (fun x z : EReal => x * z) (x' := (((a.pos (y 0)).toInt : ℝ) : EReal)) ?_
    ((ValueIdx.shapeCast_a_1a_apply _ _ 0 (y 1)).trans (PrepHost.lanes_eq (f := freq) PrepHost.zero_pad (y 1)))).trans ?_
  · show FloatOps.sitofp (F := Ideal) FTy.f32 (shapeCast S16384x1 (fun i : S1x16384.Idx => a.pos (i 1)) _ (ix2 (y 0) 0)) = _
    refine congrArg (FloatOps.sitofp (F := Ideal) FTy.f32) (shapeCast_apply (s := S1x16384) (t := S16384x1) (fun i => a.pos (i 1)) _
      (ix2 (y 0) 0) (ix2 (0 : Fin 1) (y 0)) ?_)
    rw [Shape.rowMajor_val_two, Shape.rowMajor_val_two]
    show 0 * 16384 + (y 0).val = (y 0).val * 1 + 0
    omega
  · show _ = ((laneAngle a (y 0) (y 1) : ℝ) : EReal)
    unfold laneAngle
    rw [← EReal.coe_mul]
    split_ifs
    · rfl
    · rw [mul_zero]

theorem tab_all : Gen.V m c main_v32 = fun y : S16384x128.Idx => ((tab (PrepMath.cos a (y 0)) (y 1) : ℝ) : EReal) := by
  rw [op_v32 m c, angle_all m c h]
  funext y
  idx_vars y
  pointwise [maskLow, maskHigh, PrepHost.low, PrepHost.high]
  rw [PrepHost.low_or_high, PrepHost.pick, tab, laneAngle, Ideal.cos_coe]
  split_ifs <;> rfl

theorem tab1_all : Gen.V m c main_v34 = fun y : S16384x128.Idx => ((tab1 (PrepMath.sin a (y 0)) (y 1) : ℝ) : EReal) := by
  rw [op_v34 m c, angle_all m c h]
  funext y
  idx_vars y
  pointwise [maskLow, PrepHost.low]
  rw [PrepHost.pick, tab1, laneAngle, Ideal.sin_coe]
  split_ifs with h1 h2
  · rfl
  · omega
  · rfl

theorem tab2_all : Gen.V m c main_v35 = fun y : S16384x128.Idx => ((tab2 (PrepMath.sin a (y 0)) (y 1) : ℝ) : EReal) := by
  rw [op_v35 m c, angle_all m c h]
  funext y
  idx_vars y
  pointwise [maskHigh, PrepHost.high]
  rw [PrepHost.pick, tab2, laneAngle, Ideal.sin_coe]
  split_ifs with h1 h2
  · rfl
  · omega
  · rfl

theorem wuq_all : Gen.V m c main_v39 = fun y : S256x1024.Idx => ((heads 96 (a.wuq (y 0)) (y 1) : ℝ) : EReal) :=
  (op_v39 m c).trans (PrepHost.pad_heads (N := 768) (k := 96) (φ := .bf16) (f := a.wuq) rfl (by rw [h.wuq]; rfl) PrepHost.zero_pad)

theorem wuk_all : Gen.V m c main_v43 = fun y : S128x1024.Idx => ((heads 64 (a.wuk (y 0)) (y 1) : ℝ) : EReal) :=
  (op_v43 m c).trans (PrepHost.pad_heads (N := 512) (k := 64) (φ := .bf16) (f := a.wuk) rfl (by rw [h.wuk]; rfl) PrepHost.zero_pad)

theorem wuv_all : Gen.V m c main_v47 = fun y : S128x1024.Idx => ((heads 64 (a.wuv (y 0)) (y 1) : ℝ) : EReal) :=
  (op_v47 m c).trans (PrepHost.pad_heads (N := 512) (k := 64) (φ := .bf16) (f := a.wuv) rfl (by rw [h.wuv]; rfl) PrepHost.zero_pad)

theorem dq_all : Gen.V m c main_v51 = fun y : S16384x1024.Idx => ((heads 96 (a.dq (y 0)) (y 1) : ℝ) : EReal) :=
  (op_v51 m c).trans (PrepHost.pad_heads (N := 768) (k := 96) (φ := .f32) (f := a.dq) rfl (by
    rw [h.dq]
    funext y
    rw [eq_ix2 y]
    exact ValueIdx.shapeCast_1ab_ab_apply _ _ _ _) PrepHost.zero_pad)

theorem dk_all : Gen.V m c main_v55 = fun y : S16384x1024.Idx => ((heads 96 (a.dk (y 0)) (y 1) : ℝ) : EReal) :=
  (op_v55 m c).trans (PrepHost.pad_heads (N := 768) (k := 96) (φ := .f32) (f := a.dk) rfl (by
    rw [h.dk]
    funext y
    rw [eq_ix2 y]
    exact ValueIdx.shapeCast_1ab_ab_apply _ _ _ _) PrepHost.zero_pad)

theorem dv_all : Gen.V m c main_v59 = fun y : S16384x1024.Idx => ((heads 64 (a.dv (y 0)) (y 1) : ℝ) : EReal) :=
  (op_v59 m c).trans (PrepHost.pad_heads (N := 512) (k := 64) (φ := .f32) (f := a.dv) rfl (by
    rw [h.dv]
    funext y
    rw [eq_ix2 y]
    exact ValueIdx.shapeCast_1ab_ab_apply _ _ _ _) PrepHost.zero_pad)

theorem cq_all : Gen.V m c main_v60 = fun y : S16384x256.Idx => ((a.cq (y 0) (y 1) : ℝ) : EReal) := by
  rw [op_v60 m c, h.cq]
  funext y
  rw [eq_ix2 y]
  exact ValueIdx.shapeCast_1ab_ab_apply _ _ _ _

theorem ckv_all : Gen.V m c main_v61 = fun y : S16384x128.Idx => ((a.ckv (y 0) (y 1) : ℝ) : EReal) := by
  rw [op_v61 m c, h.ckv]
  funext y
  rw [eq_ix2 y]
  exact ValueIdx.shapeCast_1ab_ab_apply _ _ _ _

theorem gq_all : Gen.V m c main_v62 = fun y : S1x256.Idx => ((a.gq (y 1) : ℝ) : EReal) := by
  rw [op_v62 m c, h.gq]
  funext y
  idx_vars y
  pointwise

theorem gk_all : Gen.V m c main_v63 = fun y : S1x128.Idx => ((a.gk (y 1) : ℝ) : EReal) := by
  rw [op_v63 m c, h.gk]
  funext y
  idx_vars y
  pointwise

/-! ### The windows at a point -/

theorem dq_read (p : Fin cfg0.N) : iblk m c 0 p = fun y : S256x1024.Idx => ((heads 96 (a.dq (row p (y 0))) (y 1) : ℝ) : EReal) := by
  funext y
  blk_simp [iblk, idx p]
  rw [dq_all m c h]
  refine congrArg Real.toEReal (congrArg₂ (fun i j => heads 96 (a.dq i) j) (Fin.ext ?_) (Fin.ext ?_)) <;> blk_simp [idx p, row]

theorem dk_read (p : Fin cfg0.N) : iblk m c 1 p = fun y : S256x1024.Idx => ((heads 96 (a.dk (row p (y 0))) (y 1) : ℝ) : EReal) := by
  funext y
  blk_simp [iblk, idx p]
  rw [dk_all m c h]
  refine congrArg Real.toEReal (congrArg₂ (fun i j => heads 96 (a.dk i) j) (Fin.ext ?_) (Fin.ext ?_)) <;> blk_simp [idx p, row]

theorem dv_read (p : Fin cfg0.N) : iblk m c 2 p = fun y : S256x1024.Idx => ((heads 64 (a.dv (row p (y 0))) (y 1) : ℝ) : EReal) := by
  funext y
  blk_simp [iblk, idx p]
  rw [dv_all m c h]
  refine congrArg Real.toEReal (congrArg₂ (fun i j => heads 64 (a.dv i) j) (Fin.ext ?_) (Fin.ext ?_)) <;> blk_simp [idx p, row]

theorem cq_read (p : Fin cfg0.N) : iblk m c 3 p = fun y : S256x256.Idx => ((a.cq (row p (y 0)) (y 1) : ℝ) : EReal) := by
  funext y
  blk_simp [iblk, idx p]
  rw [cq_all m c h]
  refine congrArg Real.toEReal (congrArg₂ (fun i j => a.cq i j) (Fin.ext ?_) (Fin.ext ?_)) <;> blk_simp [idx p, row]

theorem ckv_read (p : Fin cfg0.N) : iblk m c 4 p = fun y : S256x128.Idx => ((a.ckv (row p (y 0)) (y 1) : ℝ) : EReal) := by
  funext y
  blk_simp [iblk, idx p]
  rw [ckv_all m c h]
  refine congrArg Real.toEReal (congrArg₂ (fun i j => a.ckv i j) (Fin.ext ?_) (Fin.ext ?_)) <;> blk_simp [idx p, row]

theorem tab_read (p : Fin cfg0.N) : iblk m c 5 p = fun y : S256x128.Idx => ((tab (PrepMath.cos a (row p (y 0))) (y 1) : ℝ) : EReal) := by
  funext y
  blk_simp [iblk, idx p]
  rw [tab_all m c h]
  refine congrArg Real.toEReal (congrArg₂ (fun i j => tab (PrepMath.cos a i) j) (Fin.ext ?_) (Fin.ext ?_)) <;> blk_simp [idx p, row]

theorem tab1_read (p : Fin cfg0.N) : iblk m c 6 p = fun y : S256x128.Idx => ((tab1 (PrepMath.sin a (row p (y 0))) (y 1) : ℝ) : EReal) := by
  funext y
  blk_simp [iblk, idx p]
  rw [tab1_all m c h]
  refine congrArg Real.toEReal (congrArg₂ (fun i j => tab1 (PrepMath.sin a i) j) (Fin.ext ?_) (Fin.ext ?_)) <;> blk_simp [idx p, row]

theorem tab2_read (p : Fin cfg0.N) : iblk m c 7 p = fun y : S256x128.Idx => ((tab2 (PrepMath.sin a (row p (y 0))) (y 1) : ℝ) : EReal) := by
  funext y
  blk_simp [iblk, idx p]
  rw [tab2_all m c h]
  refine congrArg Real.toEReal (congrArg₂ (fun i j => tab2 (PrepMath.sin a i) j) (Fin.ext ?_) (Fin.ext ?_)) <;> blk_simp [idx p, row]

theorem gq_read (p : Fin cfg0.N) : iblk m c 8 p = fun y : S1x256.Idx => ((a.gq (y 1) : ℝ) : EReal) := by
  funext y
  blk_simp [iblk, idx p]
  rw [gq_all m c h]
  refine congrArg Real.toEReal (congrArg a.gq (Fin.ext ?_)) <;> blk_simp [idx p]

theorem gk_read (p : Fin cfg0.N) : iblk m c 9 p = fun y : S1x128.Idx => ((a.gk (y 1) : ℝ) : EReal) := by
  funext y
  blk_simp [iblk, idx p]
  rw [gk_all m c h]
  refine congrArg Real.toEReal (congrArg a.gk (Fin.ext ?_)) <;> blk_simp [idx p]

theorem wuq_read (p : Fin cfg0.N) : iblk m c 10 p = fun y : S256x1024.Idx => ((heads 96 (a.wuq (y 0)) (y 1) : ℝ) : EReal) := by
  funext y
  blk_simp [iblk, idx p]
  rw [wuq_all m c h]
  refine congrArg Real.toEReal (congrArg₂ (fun i j => heads 96 (a.wuq i) j) (Fin.ext ?_) (Fin.ext ?_)) <;> blk_simp [idx p]

theorem wuk_read (p : Fin cfg0.N) : iblk m c 11 p = fun y : S128x1024.Idx => ((heads 64 (a.wuk (y 0)) (y 1) : ℝ) : EReal) := by
  funext y
  blk_simp [iblk, idx p]
  rw [wuk_all m c h]
  refine congrArg Real.toEReal (congrArg₂ (fun i j => heads 64 (a.wuk i) j) (Fin.ext ?_) (Fin.ext ?_)) <;> blk_simp [idx p]

theorem wuv_read (p : Fin cfg0.N) : iblk m c 12 p = fun y : S128x1024.Idx => ((heads 64 (a.wuv (y 0)) (y 1) : ℝ) : EReal) := by
  funext y
  blk_simp [iblk, idx p]
  rw [wuv_all m c h]
  refine congrArg Real.toEReal (congrArg₂ (fun i j => heads 64 (a.wuv i) j) (Fin.ext ?_) (Fin.ext ?_)) <;> blk_simp [idx p]

end Cert.PrepIdeal.Value

end
-- ==== Proof.PrepBlock.lean ====
/- The backward kernel of the latent projections: what one block computes on real arrays. -/
module

public import proofs.«01_k».proof.Proof.Gen.PrepIdeal.Value
public import proofs.«01_k».proof.Proof.PrepHost

@[expose] public section

set_option maxRecDepth 65536

noncomputable section

namespace Cert.PrepIdeal.Value

open Cert.PrepIdeal Cert.PrepIdeal.Gen Idealize.ShloMosaic Idealize.ShloMosaic.TcCoe Idealize.SL.Sem
open Cert.Lift Cert.PrepMath

/-! ### The rotation -/

/-- Eight copies of a register side by side. -/
theorem wide_apply (T : FVec Ideal S256x128 .f32) {h} (i : Fin 256) (l : Fin 1024) :
    concatenate S256x1024 1 [⟨S256x128, T⟩, ⟨S256x128, T⟩, ⟨S256x128, T⟩, ⟨S256x128, T⟩, ⟨S256x128, T⟩, ⟨S256x128, T⟩, ⟨S256x128, T⟩, ⟨S256x128, T⟩] h (ix2 i l) = T (ix2 i (reg l)) :=
  concatenate_replicate_apply (t := S256x1024) (s₁ := S256x128) 1 8 T h rfl (ix2 i l) (ix2 i (reg l)) rfl (fun b hb => by
    match b with
    | ⟨0, _⟩ => rfl
    | ⟨1, _⟩ => exact absurd rfl hb)

/-- A block of registers moved by `k` lanes. -/
theorem moved_apply {n : ℕ} {X : FVec Ideal ⟨2, ![256, n]⟩ .f32} {sb : BitVec 32} {h} {k : ℕ} (hk : ∀ l : Fin n, (l.val + n - sb.toNat % n) % n = (l.val + k) % n) (i : Fin 256) (l : Fin n) :
    dynamicRotate 1 sb none X h (ix2 i l) = X (ix2 i (on l k)) :=
  dynamicRotate_apply 1 sb X h (ix2 i l) (ix2 i (on l k)) (fun b => by
    match b with
    | ⟨0, _⟩ => rfl
    | ⟨1, _⟩ => exact (hk l).symm)

section Tables

variable {t t1 t2 : Fin 256 → Fin 128 → ℝ} {T T1 T2 : FVec Ideal S256x128 .f32}
  (hT : T = fun y => ((t (y 0) (y 1) : ℝ) : EReal)) (hT1 : T1 = fun y => ((t1 (y 0) (y 1) : ℝ) : EReal))
  (hT2 : T2 = fun y => ((t2 (y 0) (y 1) : ℝ) : EReal))

include hT hT1 hT2

/-- The rotated block of the queries' cotangents. -/
theorem spin_block {d : Fin 256 → Fin 1024 → ℝ} {D : FVec Ideal S256x1024 .f32} (hD : D = fun y => ((d (y 0) (y 1) : ℝ) : EReal)) :
    k0_pay7 (F := Ideal) T T1 T2 D = fun y => ((spin (t (y 0)) (t1 (y 0)) (t2 (y 0)) (d (y 0)) (y 1) : ℝ) : EReal) := by
  funext y
  idx_vars y
  have part {u : Fin 256 → Fin 128 → ℝ} {U : FVec Ideal S256x128 .f32} (hU : U = fun y => ((u (y 0) (y 1) : ℝ) : EReal)) {h} (l : Fin 1024) :
      mulf D (concatenate S256x1024 1 [⟨S256x128, U⟩, ⟨S256x128, U⟩, ⟨S256x128, U⟩, ⟨S256x128, U⟩, ⟨S256x128, U⟩, ⟨S256x128, U⟩, ⟨S256x128, U⟩, ⟨S256x128, U⟩] h) (ix2 y0 l)
        = ((d y0 l * u y0 (reg l) : ℝ) : EReal) := by
    refine (congrArg₂ (fun x z : EReal => x * z) (congrFun hD _) ((wide_apply U y0 l).trans (congrFun hU _))).trans ?_
    exact (EReal.coe_mul _ _).symm
  have hT' : k0_pay4 (F := Ideal) T = _ := (shapeCast_self T _).trans hT
  have hT1' : k0_pay5 (F := Ideal) T1 = _ := (shapeCast_self T1 _).trans hT1
  have hT2' : k0_pay6 (F := Ideal) T2 = _ := (shapeCast_self T2 _).trans hT2
  unfold k0_pay7
  simp only [shapeCast_self D]
  refine (congrArg₂ (fun x z : EReal => x + z) (congrArg₂ (fun x z : EReal => x + z) (part hT' y1)
    ((moved_apply (k := 1024 - 16) (by decide +kernel) y0 y1).trans (part hT1' _)))
    ((moved_apply (k := 16) (by decide +kernel) y0 y1).trans (part hT2' _))).trans rfl

/-- The rotated block of the keys' rotary cotangents. -/
theorem key_block {d : Fin 256 → Fin 1024 → ℝ} {D : FVec Ideal S256x1024 .f32} (hD : D = fun y => ((d (y 0) (y 1) : ℝ) : EReal)) :
    k0_pay19 (F := Ideal) (k0_pay4 T) (k0_pay5 T1) (k0_pay6 T2) (k0_pay18 D) (iota .tc S256x128 32 [1] iota_S256x128_d1_w32) 64#32
      = fun y => ((spin (t (y 0)) (t1 (y 0)) (t2 (y 0))
        (fun l : Fin 128 => if 64 ≤ l.val ∧ l.val < 96 then ∑ h : Fin 8, d (y 0) ⟨h.val * 128 + l.val, by omega⟩ else 0) (y 1) : ℝ) : EReal) := by
  funext y
  idx_vars y
  have sums (l : Fin 128) : k0_pay18 (F := Ideal) D (ix2 y0 l) = ((∑ h : Fin 8, d y0 ⟨h.val * 128 + l.val, by omega⟩ : ℝ) : EReal) := by
    pointwise [k0_pay18, k0_pay17, hD]
    simp only [ring_lift]
    refine congrArg Real.toEReal ?_
    have e : (⟨(0 : Fin 8).val * 128 + l.val, by have := l.isLt; simp; omega⟩ : Fin 1024) = ⟨l.val, by omega⟩ := Fin.ext (by simp)
    rw [Fin.sum_univ_eight, e]
    rfl
  have mask (l : Fin 128) : select (andi (cmpi .sge (iota .tc S256x128 32 [1] iota_S256x128_d1_w32) (broadcast S256x128 64#32)) (cmpi .slt (iota .tc S256x128 32 [1] iota_S256x128_d1_w32) (broadcast S256x128 96#32)))
      (k0_pay18 (F := Ideal) D) (broadcast S256x128 (Scalar.ofBits .f32 0x00000000#32)) (ix2 y0 l)
        = ((if 64 ≤ l.val ∧ l.val < 96 then ∑ h : Fin 8, d y0 ⟨h.val * 128 + l.val, by omega⟩ else 0 : ℝ) : EReal) := by
    pointwise [sums, PrepHost.whole]
    rw [PrepHost.pick]
    split_ifs <;> rfl
  have part {u : Fin 256 → Fin 128 → ℝ} {U : FVec Ideal S256x128 .f32} (hU : U = fun y => ((u (y 0) (y 1) : ℝ) : EReal)) (l : Fin 128) :
      mulf (select (andi (cmpi .sge (iota .tc S256x128 32 [1] iota_S256x128_d1_w32) (broadcast S256x128 64#32)) (cmpi .slt (iota .tc S256x128 32 [1] iota_S256x128_d1_w32) (broadcast S256x128 96#32)))
      (k0_pay18 (F := Ideal) D) (broadcast S256x128 (Scalar.ofBits .f32 0x00000000#32))) U (ix2 y0 l)
        = (((if 64 ≤ l.val ∧ l.val < 96 then ∑ h : Fin 8, d y0 ⟨h.val * 128 + l.val, by omega⟩ else 0) * u y0 (reg l) : ℝ) : EReal) := by
    refine (congrArg₂ (fun x z : EReal => x * z) (mask l) (congrFun hU _)).trans ((EReal.coe_mul _ _).symm.trans ?_)
    refine congrArg (fun k => (((if 64 ≤ l.val ∧ l.val < 96 then ∑ h : Fin 8, d y0 ⟨h.val * 128 + l.val, by omega⟩ else 0) * u y0 k : ℝ) : EReal)) (Fin.ext ?_)
    exact (Nat.mod_eq_of_lt l.isLt).symm
  unfold k0_pay19 k0_pay4 k0_pay5 k0_pay6
  simp only [shapeCast_self]
  refine (congrArg₂ (fun x z : EReal => x + z) (congrArg₂ (fun x z : EReal => x + z) (part hT y1)
    ((moved_apply (k := 128 - 16) (by decide +kernel) y0 y1).trans (part hT1 _)))
    ((moved_apply (k := 16) (by decide +kernel) y0 y1).trans (part hT2 _))).trans rfl

end Tables

/-! ### The products -/

/-- The block's product with the queries' weight. -/
theorem dot_q {p : Fin 256 → Fin 1024 → ℝ} {w : Fin 256 → Fin 1024 → ℝ} {P : FVec Ideal S256x1024 .f32} {W : FVec Ideal S256x1024 .bf16}
    (hP : P = fun y => ((p (y 0) (y 1) : ℝ) : EReal)) (hW : W = fun y => ((w (y 0) (y 1) : ℝ) : EReal)) :
    matmul (F := Ideal) dot_S256x1024_S256x1024_S256x256_1_1_0_0_n_n none (truncf .bf16 P bitsLt_bf16_f32)
      (shapeCast S256x1024 W shapeCasts_S256x1024_S256x1024) (constant S256x256 .f32 0x00000000#32)
      = fun y => ((∑ k, p (y 0) k * w (y 1) k : ℝ) : EReal) := by
  funext y
  rw [hP, hW]
  idx_vars y
  pointwise
  simp only [ring_lift, sum_lift]

/-- The block's product with the weight of the keys or the values. -/
theorem dot_k {p : Fin 256 → Fin 1024 → ℝ} {w : Fin 128 → Fin 1024 → ℝ} {P : FVec Ideal S256x1024 .f32} {W : FVec Ideal S128x1024 .bf16}
    (hP : P = fun y => ((p (y 0) (y 1) : ℝ) : EReal)) (hW : W = fun y => ((w (y 0) (y 1) : ℝ) : EReal)) :
    matmul (F := Ideal) dot_S256x1024_S128x1024_S256x128_1_1_0_0_n_n none (truncf .bf16 (shapeCast S256x1024 P shapeCasts_S256x1024_S256x1024) bitsLt_bf16_f32)
      (shapeCast S128x1024 W shapeCasts_S128x1024_S128x1024) (constant S256x128 .f32 0x00000000#32)
      = fun y => ((∑ k, p (y 0) k * w (y 1) k : ℝ) : EReal) := by
  funext y
  rw [hP, hW]
  idx_vars y
  pointwise
  simp only [ring_lift, sum_lift]

/-- The cotangent of the queries' normed latent rows. -/
theorem latent_q {p : Fin 256 → Fin 1024 → ℝ} {w : Fin 256 → Fin 1024 → ℝ} {T T1 T2 : FVec Ideal S256x128 .f32} {D : FVec Ideal S256x1024 .f32}
    {W : FVec Ideal S256x1024 .bf16} (hP : k0_pay7 (F := Ideal) T T1 T2 D = fun y => ((p (y 0) (y 1) : ℝ) : EReal))
    (hW : W = fun y => ((w (y 0) (y 1) : ℝ) : EReal)) :
    k0_pay9 (F := Ideal) T T1 T2 D W = fun y => ((∑ k, p (y 0) k * w (y 1) k : ℝ) : EReal) := dot_q hP hW

/-- The cotangent of the normed latent rows of the keys and values. -/
theorem latent_kv {p q : Fin 256 → Fin 1024 → ℝ} {v w : Fin 128 → Fin 1024 → ℝ} {P Q : FVec Ideal S256x1024 .f32} {V W : FVec Ideal S128x1024 .bf16}
    (hP : P = fun y => ((p (y 0) (y 1) : ℝ) : EReal)) (hV : V = fun y => ((v (y 0) (y 1) : ℝ) : EReal))
    (hQ : Q = fun y => ((q (y 0) (y 1) : ℝ) : EReal)) (hW : W = fun y => ((w (y 0) (y 1) : ℝ) : EReal)) :
    k0_pay20 (F := Ideal) (k0_pay17 P) V Q W = fun y => ((∑ k, p (y 0) k * v (y 1) k + ∑ k, q (y 0) k * w (y 1) k : ℝ) : EReal) := by
  refine Eq.trans (congrArg₂ addf (dot_k hP hV) (dot_k hQ hW)) (funext fun y => ?_)
  exact (EReal.coe_add _ _).symm

/-! ### The norms -/

/-- A norm's operations over a row of 256 and of 128. -/
theorem lift256 : (∀ a : ℝ, Ideal.div (a : EReal) ((256 : ℝ) : EReal) = ((a / 256 : ℝ) : EReal))
    ∧ (∀ f : Fin 256 → ℝ, Ideal.rsqrt (((∑ k, f k * f k) / 256 + eps : ℝ) : EReal) = ((rinv 256 f : ℝ) : EReal)) :=
  ⟨div_lift (by norm_num), rsqrt_ms (by norm_num)⟩
theorem lift128 : (∀ a : ℝ, Ideal.div (a : EReal) ((128 : ℝ) : EReal) = ((a / 128 : ℝ) : EReal))
    ∧ (∀ f : Fin 128 → ℝ, Ideal.rsqrt (((∑ k, f k * f k) / 128 + eps : ℝ) : EReal) = ((rinv 128 f : ℝ) : EReal)) :=
  ⟨div_lift (by norm_num), rsqrt_ms (by norm_num)⟩

section Queries

variable {x dy : Fin 256 → Fin 256 → ℝ} {g : Fin 256 → ℝ} {X DY : FVec Ideal S256x256 .f32} {G : FVec Ideal S1x256 .f32}
  (hX : X = fun y => ((x (y 0) (y 1) : ℝ) : EReal)) (hY : DY = fun y => ((dy (y 0) (y 1) : ℝ) : EReal))
  (hG : G = fun y => ((g (y 1) : ℝ) : EReal))

include hX hY

include hG in
/-- The gradient of the queries' latent rows. -/
theorem dcq_block (a : Fin 256) (b : Fin 256) :
    k0_pay16 (F := Ideal) DY (k0_pay11 X) (k0_pay12 X) G (ix2 a b)
      = ((rinv 256 (x a) * (dy a b * g b - x a b * rinv 256 (x a) * ((∑ k, dy a k * g k * (x a k * rinv 256 (x a))) / 256)) : ℝ) : EReal) := by
  pointwise [k0_pay10, k0_pay11, k0_pay12, k0_pay16, hX, hY, hG, consts, PrepHost.k256]
  simp only [ring_lift, sum_lift, lift256]

/-- The block's part of the gradient of their norm's gain. -/
theorem dgq_block (y : S1x256.Idx) :
    k0_pay14 (F := Ideal) (mulf DY (k0_pay12 X)) y = ((∑ a, dy a (y 1) * (x a (y 1) * rinv 256 (x a)) : ℝ) : EReal) := by
  idx_vars y
  pointwise [k0_pay10, k0_pay11, k0_pay12, k0_pay14, hX, hY, consts, PrepHost.k256]
  simp only [ring_lift, sum_lift, lift256]

end Queries

section Keys

variable {x dy : Fin 256 → Fin 128 → ℝ} {g : Fin 128 → ℝ} {X DY : FVec Ideal S256x128 .f32} {G : FVec Ideal S1x128 .f32}
  (hX : X = fun y => ((x (y 0) (y 1) : ℝ) : EReal)) (hY : DY = fun y => ((dy (y 0) (y 1) : ℝ) : EReal))
  (hG : G = fun y => ((g (y 1) : ℝ) : EReal))

include hX hY

include hG in
/-- The gradient of the latent rows of keys and values. -/
theorem dckv_block (a : Fin 256) (b : Fin 128) :
    k0_pay3 (F := Ideal) DY (k0_pay22 X) (k0_pay23 X) G (ix2 a b)
      = ((rinv 128 (x a) * (dy a b * g b - x a b * rinv 128 (x a) * ((∑ k, dy a k * g k * (x a k * rinv 128 (x a))) / 128)) : ℝ) : EReal) := by
  pointwise [k0_pay21, k0_pay22, k0_pay23, k0_pay3, hX, hY, hG, consts, PrepHost.k128]
  simp only [ring_lift, sum_lift, lift128]

/-- The block's part of the gradient of their norm's gain. -/
theorem dgk_block (y : S1x128.Idx) :
    k0_pay1 (F := Ideal) (mulf DY (k0_pay23 X)) y = ((∑ a, dy a (y 1) * (x a (y 1) * rinv 128 (x a)) : ℝ) : EReal) := by
  idx_vars y
  pointwise [k0_pay21, k0_pay22, k0_pay23, k0_pay1, hX, hY, consts, PrepHost.k128]
  simp only [ring_lift, sum_lift, lift128]

end Keys

end Cert.PrepIdeal.Value

end
-- ==== Proof.PrepKernel.lean ====
/- The backward kernel of the latent projections: on real arguments its six result arrays are the real gradients. -/
module

public import proofs.«01_k».proof.Proof.PrepWindow
public import proofs.«01_k».proof.Proof.PrepBlock

@[expose] public section

set_option maxRecDepth 65536

noncomputable section

namespace Cert.PrepIdeal.Value

open Cert.PrepIdeal Cert.PrepIdeal.Gen Idealize.ShloMosaic Idealize.ShloMosaic.TcCoe Idealize.SL.Sem
open Idealize.ShloMosaic.Pipeline (Dat)
open Cert.Lift Cert.PrepMath

variable (m : (ℓ : Loc nD τ sig) → Buf (Elt Ideal) ℓ) (c : Dev nD) {a : PrepMath.Args} (h : Holds m c a)

include h

/-! ### What the blocks hold at a point -/

/-- The rotated cotangents of the queries. -/
theorem dqp_at (p : Fin cfg0.N) : k0_pay7 (F := Ideal) (iblk m c 5 p) (iblk m c 6 p) (iblk m c 7 p) (iblk m c 0 p)
    = fun y : S256x1024.Idx => ((heads 96 (dqp a (row p (y 0))) (y 1) : ℝ) : EReal) := by
  refine (spin_block (t := fun i => tab (PrepMath.cos a (row p i))) (t1 := fun i => tab1 (PrepMath.sin a (row p i)))
    (t2 := fun i => tab2 (PrepMath.sin a (row p i))) (d := fun i => heads 96 (a.dq (row p i)))
    (tab_read m c h p) (tab1_read m c h p) (tab2_read m c h p) (dq_read m c h p)).trans (funext fun y => ?_)
  exact congrArg Real.toEReal (spin_heads _ _ _ _)

/-- The cotangents of the queries' normed latent rows. -/
theorem dcqn_at (p : Fin cfg0.N) : k0_pay9 (F := Ideal) (iblk m c 5 p) (iblk m c 6 p) (iblk m c 7 p) (iblk m c 0 p) (iblk m c 10 p)
    = fun y : S256x256.Idx => ((dcqn a (row p (y 0)) (y 1) : ℝ) : EReal) := by
  refine (latent_q (p := fun i => heads 96 (dqp a (row p i))) (w := fun i => heads 96 (a.wuq i)) (dqp_at m c h p) (wuq_read m c h p)).trans
    (funext fun y => ?_)
  exact congrArg Real.toEReal (heads_sum (n := 96) (by norm_num) (by norm_num) _ _)

/-- The cotangents of the normed latent rows of keys and values. -/
theorem dckvn_at (p : Fin cfg0.N) : k0_pay20 (F := Ideal) (k0_pay17 (iblk m c 1 p)) (iblk m c 11 p) (iblk m c 2 p) (iblk m c 12 p)
    = fun y : S256x128.Idx => ((dckvn a (row p (y 0)) (y 1) : ℝ) : EReal) := by
  refine (latent_kv (p := fun i => heads 96 (a.dk (row p i))) (q := fun i => heads 64 (a.dv (row p i))) (v := fun i => heads 64 (a.wuk i))
    (w := fun i => heads 64 (a.wuv i)) (dk_read m c h p) (wuk_read m c h p) (dv_read m c h p) (wuv_read m c h p)).trans (funext fun y => ?_)
  exact congrArg Real.toEReal (congrArg₂ (· + ·) (front_sum _ _) (heads_sum (n := 64) (by norm_num) (by norm_num) _ _))

/-- The rotated cotangents of the keys' shared rotary columns. -/
theorem dkr_at (p : Fin cfg0.N) : k0_pay19 (F := Ideal) (k0_pay4 (iblk m c 5 p)) (k0_pay5 (iblk m c 6 p)) (k0_pay6 (iblk m c 7 p)) (k0_pay18 (iblk m c 1 p))
    (iota .tc S256x128 32 [1] iota_S256x128_d1_w32) 64#32 = fun y : S256x128.Idx => ((lanes (dkr a (row p (y 0))) (y 1) : ℝ) : EReal) := by
  refine (key_block (t := fun i => tab (PrepMath.cos a (row p i))) (t1 := fun i => tab1 (PrepMath.sin a (row p i)))
    (t2 := fun i => tab2 (PrepMath.sin a (row p i))) (d := fun i => heads 96 (a.dk (row p i)))
    (tab_read m c h p) (tab1_read m c h p) (tab2_read m c h p) (dk_read m c h p)).trans (funext fun y => ?_)
  refine congrArg Real.toEReal (Eq.trans ?_ (spin_lanes _ _ (dpe a (row p (y 0))) (y 1)))
  refine congrArg (fun f => spin _ _ _ f (y 1)) (funext fun l => ?_)
  unfold lanes
  split_ifs with hl
  · refine Finset.sum_congr rfl fun k _ => ?_
    have := k.isLt
    rw [heads, dif_pos (by simp only; omega)]
    exact congrArg (a.dk (row p (y 0))) (Fin.ext (by simp only; omega))
  · rfl

/-! ### The arrays after the last point -/

/-- The rotated cotangents of the queries, each head padded to a register. -/
theorem final_dqp : (dats m 0 c).arrAt 13 cfg0.N = fun i : S16384x1024.Idx => ((heads 96 (dqp a (i 0)) (i 1) : ℝ) : EReal) := by
  refine (dats m 0 c).arrAt_eq_of_covers 13 _ (by decide +kernel) fun p hf y => ?_
  have hp := lt64 p
  have point : _ = ((heads 96 (dqp a (row p (y 0))) (y 1) : ℝ) : EReal) := congrFun (dqp_at m c h p) y
  blk_simp
  rw [after0_13]
  have place : ((heads 96 (dqp a (row p (y 0))) (y 1) : ℝ) : EReal)
      = ((heads 96 (dqp a (((View.whole main_v64_0).slice (win0_13.rect p)).emb y 0)) (((View.whole main_v64_0).slice (win0_13.rect p)).emb y 1) : ℝ) : EReal) := by
    refine congrArg Real.toEReal (congrArg₂ (fun i j => heads 96 (dqp a i) j) (Fin.ext ?_) (Fin.ext ?_)) <;> blk_simp [idx p, row]
  refine Eq.trans ?_ place
  by_cases h0 : p.val % 64 = 0
  · rw [outsAt0_A m c p h0 (by omega) h0 (by omega)]
    frame_out
    exact point
  · rw [outsAt0_B m c p h0 (by omega) h0 (by omega)]
    frame_out
    exact point

/-- The gradient of the queries' latent rows. -/
theorem final_dcq : (dats m 0 c).arrAt 14 cfg0.N = fun i : S16384x256.Idx => ((dcq a (i 0) (i 1) : ℝ) : EReal) := by
  refine (dats m 0 c).arrAt_eq_of_covers 14 _ (by decide +kernel) fun p hf y => ?_
  have hp := lt64 p
  have point : _ = ((dcq a (row p (y 0)) (y 1) : ℝ) : EReal) := (congrArg _ (eq_ix2 y)).trans (dcq_block (x := fun i => a.cq (row p i)) (dy := fun i => dcqn a (row p i))
    (cq_read m c h p) (dcqn_at m c h p) (gq_read m c h p) (y 0) (y 1))
  blk_simp
  rw [after0_14]
  have place : ((dcq a (row p (y 0)) (y 1) : ℝ) : EReal)
      = ((dcq a (((View.whole main_v64_1).slice (win0_14.rect p)).emb y 0) (((View.whole main_v64_1).slice (win0_14.rect p)).emb y 1) : ℝ) : EReal) := by
    refine congrArg Real.toEReal (congrArg₂ (fun i j => dcq a i j) (Fin.ext ?_) (Fin.ext ?_)) <;> blk_simp [idx p, row]
  refine Eq.trans ?_ place
  by_cases h0 : p.val % 64 = 0
  · rw [outsAt0_A m c p h0 (by omega) h0 (by omega)]
    frame_out
    exact point
  · rw [outsAt0_B m c p h0 (by omega) h0 (by omega)]
    frame_out
    exact point

/-- The gradient of the latent rows of keys and values. -/
theorem final_dckv : (dats m 0 c).arrAt 15 cfg0.N = fun i : S16384x128.Idx => ((dckv a (i 0) (i 1) : ℝ) : EReal) := by
  refine (dats m 0 c).arrAt_eq_of_covers 15 _ (by decide +kernel) fun p hf y => ?_
  have hp := lt64 p
  have point : _ = ((dckv a (row p (y 0)) (y 1) : ℝ) : EReal) := (congrArg _ (eq_ix2 y)).trans (dckv_block (x := fun i => a.ckv (row p i)) (dy := fun i => dckvn a (row p i))
    (ckv_read m c h p) (dckvn_at m c h p) (gk_read m c h p) (y 0) (y 1))
  blk_simp
  rw [after0_15]
  have place : ((dckv a (row p (y 0)) (y 1) : ℝ) : EReal)
      = ((dckv a (((View.whole main_v64_2).slice (win0_15.rect p)).emb y 0) (((View.whole main_v64_2).slice (win0_15.rect p)).emb y 1) : ℝ) : EReal) := by
    refine congrArg Real.toEReal (congrArg₂ (fun i j => dckv a i j) (Fin.ext ?_) (Fin.ext ?_)) <;> blk_simp [idx p, row]
  refine Eq.trans ?_ place
  by_cases h0 : p.val % 64 = 0
  · rw [outsAt0_A m c p h0 (by omega) h0 (by omega)]
    frame_out
    exact point
  · rw [outsAt0_B m c p h0 (by omega) h0 (by omega)]
    frame_out
    exact point

/-- The gradient of the keys' rotary columns, at lanes 64 to 95. -/
theorem final_dkr : (dats m 0 c).arrAt 16 cfg0.N = fun i : S16384x128.Idx => ((lanes (dkr a (i 0)) (i 1) : ℝ) : EReal) := by
  refine (dats m 0 c).arrAt_eq_of_covers 16 _ (by decide +kernel) fun p hf y => ?_
  have hp := lt64 p
  have point : _ = ((lanes (dkr a (row p (y 0))) (y 1) : ℝ) : EReal) := congrFun (dkr_at m c h p) y
  blk_simp
  rw [after0_16]
  have place : ((lanes (dkr a (row p (y 0))) (y 1) : ℝ) : EReal)
      = ((lanes (dkr a (((View.whole main_v64_3).slice (win0_16.rect p)).emb y 0)) (((View.whole main_v64_3).slice (win0_16.rect p)).emb y 1) : ℝ) : EReal) := by
    refine congrArg Real.toEReal (congrArg₂ (fun i j => lanes (dkr a i) j) (Fin.ext ?_) (Fin.ext ?_)) <;> blk_simp [idx p, row]
  refine Eq.trans ?_ place
  by_cases h0 : p.val % 64 = 0
  · rw [outsAt0_A m c p h0 (by omega) h0 (by omega)]
    frame_out
    exact point
  · rw [outsAt0_B m c p h0 (by omega) h0 (by omega)]
    frame_out
    exact point

/-- The gradient of the gain of the queries' norm, summed over the points. -/
theorem final_dgq : (dats m 0 c).arrAt 17 cfg0.N = fun i : S1x256.Idx => ((dgq a (i 1) : ℝ) : EReal) := by
  refine (dats m 0 c).arrAt_eq_of_covers 17 _ (by decide +kernel) fun p hf y => ?_
  have hp := (flush0_17 p).mp hf
  blk_simp
  rw [after0_17]
  have term (p : Fin cfg0.N) (y : S1x256.Idx) := dgq_block (x := fun i => a.cq (row p i)) (dy := fun i => dcqn a (row p i)) (cq_read m c h p) (dcqn_at m c h p) y
  refine (acc_lift (N := cfg0.N) (fun n h => (outsAt0 m c n h).2.2.2.2.1)
    (fun p y => ∑ i, dcqn a (row p i) (y 1) * (a.cq (row p i) (y 1) * rinv 256 (a.cq (row p i))))
    (fun p h0 y => ?_) (fun p h0 y => ?_) p (by simp only [points]; have := lt64 p; omega) y).trans ?_
  · simp only [points] at h0
    rw [outsAt0_A m c p h0 (by have := lt64 p; omega) h0 (by have := lt64 p; omega)]
    frame_out
    exact term p y
  · simp only [points] at h0
    rw [outsAt0_B m c p h0 (by omega) h0 (by omega)]
    frame_out
    pointwise [k0_pay15]
    exact congrArg _ (term p _)
  · refine congrArg Real.toEReal ((sum_rows fun i => dcqn a i (y 1) * (a.cq i (y 1) * rinv 256 (a.cq i))).trans ?_)
    show dgq a (y 1) = _
    refine congrArg (dgq a) (Fin.ext ?_)
    blk_simp [idx p]

/-- The gradient of the gain of the keys' and values' norm, summed over the points. -/
theorem final_dgk : (dats m 0 c).arrAt 18 cfg0.N = fun i : S1x128.Idx => ((dgk a (i 1) : ℝ) : EReal) := by
  refine (dats m 0 c).arrAt_eq_of_covers 18 _ (by decide +kernel) fun p hf y => ?_
  have hp := (flush0_18 p).mp hf
  blk_simp
  rw [after0_18]
  have term (p : Fin cfg0.N) (y : S1x128.Idx) := dgk_block (x := fun i => a.ckv (row p i)) (dy := fun i => dckvn a (row p i)) (ckv_read m c h p) (dckvn_at m c h p) y
  refine (acc_lift (N := cfg0.N) (fun n h => (outsAt0 m c n h).2.2.2.2.2)
    (fun p y => ∑ i, dckvn a (row p i) (y 1) * (a.ckv (row p i) (y 1) * rinv 128 (a.ckv (row p i))))
    (fun p h0 y => ?_) (fun p h0 y => ?_) p (by simp only [points]; have := lt64 p; omega) y).trans ?_
  · simp only [points] at h0
    rw [outsAt0_A m c p h0 (by have := lt64 p; omega) h0 (by have := lt64 p; omega)]
    frame_out
    exact term p y
  · simp only [points] at h0
    rw [outsAt0_B m c p h0 (by omega) h0 (by omega)]
    frame_out
    pointwise [k0_pay2]
    exact congrArg _ (term p _)
  · refine congrArg Real.toEReal ((sum_rows fun i => dckvn a i (y 1) * (a.ckv i (y 1) * rinv 128 (a.ckv i))).trans ?_)
    show dgk a (y 1) = _
    refine congrArg (dgk a) (Fin.ext ?_)
    blk_simp [idx p]

omit h in
/-- What the kernel's run leaves in its six results. -/
theorem results (a : Dev nD → PrepMath.Args) (h : ∀ c : Dev nD, Holds m c (a c)) (ρ : Dev nD → PrngReg) :
    θ_run defs (onTc (τ := τ) (main (F := Ideal))) ⟨m, fun _ => 0, ρ⟩ fun r => ∀ c : Dev nD,
      r.2.mem ((c.tc : Thread nD τ).loc main_v64_0) = (fun i => ((heads 96 (PrepMath.dqp (a c) (i 0)) (i 1) : ℝ) : EReal))
      ∧ r.2.mem ((c.tc : Thread nD τ).loc main_v64_1) = (fun i => ((PrepMath.dcq (a c) (i 0) (i 1) : ℝ) : EReal))
      ∧ r.2.mem ((c.tc : Thread nD τ).loc main_v64_2) = (fun i => ((PrepMath.dckv (a c) (i 0) (i 1) : ℝ) : EReal))
      ∧ r.2.mem ((c.tc : Thread nD τ).loc main_v64_3) = (fun i => ((lanes (PrepMath.dkr (a c) (i 0)) (i 1) : ℝ) : EReal))
      ∧ r.2.mem ((c.tc : Thread nD τ).loc main_v64_4) = (fun i => ((PrepMath.dgq (a c) (i 1) : ℝ) : EReal))
      ∧ r.2.mem ((c.tc : Thread nD τ).loc main_v64_5) = (fun i => ((PrepMath.dgk (a c) (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r hr c => ⟨(hr c).1.trans (final_dqp m c (h c)), (hr c).2.1.trans (final_dcq m c (h c)),
    (hr c).2.2.1.trans (final_dckv m c (h c)), (hr c).2.2.2.1.trans (final_dkr m c (h c)),
    (hr c).2.2.2.2.1.trans (final_dgq m c (h c)), (hr c).2.2.2.2.2.1.trans (final_dgk m c (h c)), (hr c).2.2.2.2.2.2⟩) (run_blocks m ρ)

end Cert.PrepIdeal.Value

end
-- ==== Proof.PrepValue.lean ====
/- The value claim of the latent projections: on finite arguments the kernel and the reference end with the
   same real arrays. -/
module

public import proofs.«01_k».proof.Defs
public import proofs.«01_k».proof.Proof.Gen.Pre_prep_finite
public import proofs.«01_k».proof.Proof.PrepRef
public import proofs.«01_k».proof.Proof.PrepKernel

@[expose] public section

set_option maxRecDepth 16384

noncomputable section

namespace Cert.PrepValue

open Idealize.ShloMosaic Idealize.ShloMosaic.TcCoe Idealize.SL.Sem Cert.Lift

variable (m : (ℓ : Loc PrepIdeal.nD PrepIdeal.τ PrepIdeal.sig) → Buf (Elt Ideal) ℓ) (c : Dev PrepIdeal.nD)

/-- The real parts of the arguments; the positions are integers. -/
def args : PrepMath.Args where
  cq := re3 (m ((c.tc : Thread PrepIdeal.nD PrepIdeal.τ).loc PrepIdeal.main_arg0))
  ckv := re3 (m ((c.tc : Thread PrepIdeal.nD PrepIdeal.τ).loc PrepIdeal.main_arg1))
  pos := fun i => m ((c.tc : Thread PrepIdeal.nD PrepIdeal.τ).loc PrepIdeal.main_arg2) (ix2 (0 : Fin 1) i)
  gq := re1 (m ((c.tc : Thread PrepIdeal.nD PrepIdeal.τ).loc PrepIdeal.main_arg3))
  wuq := re2 (φ := .f32) (m ((c.tc : Thread PrepIdeal.nD PrepIdeal.τ).loc PrepIdeal.main_arg4))
  gk := re1 (m ((c.tc : Thread PrepIdeal.nD PrepIdeal.τ).loc PrepIdeal.main_arg5))
  wuk := re2 (φ := .f32) (m ((c.tc : Thread PrepIdeal.nD PrepIdeal.τ).loc PrepIdeal.main_arg6))
  wuv := re2 (φ := .f32) (m ((c.tc : Thread PrepIdeal.nD PrepIdeal.τ).loc PrepIdeal.main_arg7))
  dq := re3 (m ((c.tc : Thread PrepIdeal.nD PrepIdeal.τ).loc PrepIdeal.main_arg8))
  dk := re3 (m ((c.tc : Thread PrepIdeal.nD PrepIdeal.τ).loc PrepIdeal.main_arg9))
  dv := re3 (m ((c.tc : Thread PrepIdeal.nD PrepIdeal.τ).loc PrepIdeal.main_arg10))

omit m c in
/-- The printed precondition says that every float argument is the array of its real parts. -/
theorem real_of_pre (a0 : FVec Ideal ⟨3, ![1, 16384, 256]⟩ .f32) (a1 : FVec Ideal ⟨3, ![1, 16384, 128]⟩ .f32) (a2 : IVec ⟨2, ![1, 16384]⟩ 32) (a3 : FVec Ideal ⟨1, ![256]⟩ .f32) (a4 : FVec Ideal ⟨2, ![256, 768]⟩ .f32) (a5 : FVec Ideal ⟨1, ![128]⟩ .f32) (a6 : FVec Ideal ⟨2, ![128, 512]⟩ .f32) (a7 : FVec Ideal ⟨2, ![128, 512]⟩ .f32) (a8 : FVec Ideal ⟨3, ![1, 16384, 768]⟩ .f32) (a9 : FVec Ideal ⟨3, ![1, 16384, 768]⟩ .f32) (a10 : FVec Ideal ⟨3, ![1, 16384, 512]⟩ .f32)
    (h : Cert.Pre_prep_finite.fn a0 a1 a2 a3 a4 a5 a6 a7 a8 a9 a10 = fun _ => 1#1) :
    (a0 = fun i => ((re3 a0 (i 1) (i 2) : ℝ) : EReal))
      ∧ (a1 = fun i => ((re3 a1 (i 1) (i 2) : ℝ) : EReal))
      ∧ (a3 = fun i => ((re1 a3 (i 0) : ℝ) : EReal))
      ∧ (a4 = fun i => ((re2 a4 (i 0) (i 1) : ℝ) : EReal))
      ∧ (a5 = fun i => ((re1 a5 (i 0) : ℝ) : EReal))
      ∧ (a6 = fun i => ((re2 a6 (i 0) (i 1) : ℝ) : EReal))
      ∧ (a7 = fun i => ((re2 a7 (i 0) (i 1) : ℝ) : EReal))
      ∧ (a8 = fun i => ((re3 a8 (i 1) (i 2) : ℝ) : EReal))
      ∧ (a9 = fun i => ((re3 a9 (i 1) (i 2) : ℝ) : EReal))
      ∧ (a10 = fun i => ((re3 a10 (i 1) (i 2) : ℝ) : EReal)) := by
  obtain ⟨h, h10⟩ := both h; obtain ⟨h, h9⟩ := both h; obtain ⟨h, h8⟩ := both h; obtain ⟨h, h7⟩ := both h; obtain ⟨h, h6⟩ := both h
  obtain ⟨h, h5⟩ := both h; obtain ⟨h, h4⟩ := both h; obtain ⟨h, h3⟩ := both h; obtain ⟨h0, h1⟩ := both h
  exact ⟨real3 (real_of_all h0), real3 (real_of_all h1), real1 (real_of_all h3), real2 (real_of_all h4), real1 (real_of_all h5), real2 (real_of_all h6), real2 (real_of_all h7), real3 (real_of_all h8), real3 (real_of_all h9), real3 (real_of_all h10)⟩

/-- So the arguments' buffers hold their real parts. -/
theorem holds (h : Cert.Pre_PrepIdeal_prep_finite m) : PrepIdeal.Value.Holds m c (args m c) := by
  obtain ⟨h0, h1, h3, h4, h5, h6, h7, h8, h9, h10⟩ := real_of_pre _ _ _ _ _ _ _ _ _ _ _ (h c)
  refine ⟨h0, h1, ?_, h3, h4, h5, h6, h7, h8, h9, h10⟩
  funext i
  refine congrArg (m ((c.tc : Thread PrepIdeal.nD PrepIdeal.τ).loc PrepIdeal.main_arg2)) ?_
  exact (eq_ix2 i).trans (congrArg (ix2 · (i 1)) (Subsingleton.elim (α := Fin 1) _ _))

/-- The value claim. -/
theorem algebraic : Cert.algebraic_PrepIdeal_PrepRefIdeal_pre_prep_finite := by
  intro m ρ m' ρ' hpre hagree
  have hr := fun c => holds m c hpre
  have hs : ∀ c, PrepRefIdeal.Value.Holds m' c (args m c) := fun c => by
    obtain ⟨e0, e1, e2, e3, e4, e5, e6, e7, e8, e9, e10⟩ := hagree c
    exact ⟨e0.trans (hr c).cq, e1.trans (hr c).ckv, e2.trans (hr c).pos, e3.trans (hr c).gq, e4.trans (hr c).wuq, e5.trans (hr c).gk, e6.trans (hr c).wuk, e7.trans (hr c).wuv, e8.trans (hr c).dq, e9.trans (hr c).dk, e10.trans (hr c).dv⟩
  exact ⟨_, _, _, _, _, _, PrepIdeal.Value.results m _ hr ρ, PrepRefIdeal.Value.results m' _ hs ρ'⟩

end Cert.PrepValue

end
-- ==== Proof.lean ====
module

public import proofs.«01_k».proof.Defs
public import proofs.«01_k».proof.Proof.Gen.Head.Frame
public import proofs.«01_k».proof.Proof.HeadValue
public import proofs.«01_k».proof.Proof.AttnBits
public import proofs.«01_k».proof.Proof.AttnValue
public import proofs.«01_k».proof.Proof.Gen.FfnIn.Frame
public import proofs.«01_k».proof.Proof.FfnInValue
public import proofs.«01_k».proof.Proof.Gen.In.Frame
public import proofs.«01_k».proof.Proof.InValue
public import proofs.«01_k».proof.Proof.Gen.FfnAct.Frame
public import proofs.«01_k».proof.Proof.FfnActValue
public import proofs.«01_k».proof.Proof.Gen.Disc.Frame
public import proofs.«01_k».proof.Proof.DiscValue
public import proofs.«01_k».proof.Proof.Gen.Prep.Frame
public import proofs.«01_k».proof.Proof.PrepValue
public import Idealize.ShloMosaic.Adequacy
public import Idealize.ShloMosaic.Init
public import Idealize.ShloMosaic.Lib.Quiescent

@[expose] public section

noncomputable section

namespace Cert.Proof

open Idealize.ShloMosaic Idealize.SL.Sem

/-- The references run on the host alone and have no semaphore. -/
theorem headRef_frame : Cert.quiescent_HeadRefIdeal := fun m ρ _ =>
  (θ_run _ _ _).mono (fun r h => ⟨fun c => (h c).2.2.2, sem_eq_zero_of_no_sems rfl r.2⟩) (Cert.HeadRefIdeal.Value.run m ρ)
theorem attnRef_frame : Cert.quiescent_AttnRefIdeal := fun m ρ _ =>
  (θ_run _ _ _).mono (fun r h => ⟨fun c => (h c).2.2.2, sem_eq_zero_of_no_sems rfl r.2⟩) (Cert.AttnRefIdeal.Value.run m ρ)
theorem ffnInRef_frame : Cert.quiescent_FfnInRefIdeal := fun m ρ _ =>
  (θ_run _ _ _).mono (fun r h => ⟨fun c => (h c).2.2.2.2, sem_eq_zero_of_no_sems rfl r.2⟩) (Cert.FfnInRefIdeal.Value.run m ρ)
theorem inRef_frame : Cert.quiescent_InRefIdeal := fun m ρ _ =>
  (θ_run _ _ _).mono (fun r h => ⟨fun c => (h c).2.2.2.2, sem_eq_zero_of_no_sems rfl r.2⟩) (Cert.InRefIdeal.Value.run m ρ)
theorem ffnActRef_frame : Cert.quiescent_FfnActRefIdeal := fun m ρ _ =>
  (θ_run _ _ _).mono (fun r h => ⟨fun c => (h c).2.2.2.2.2, sem_eq_zero_of_no_sems rfl r.2⟩) (Cert.FfnActRefIdeal.Value.run m ρ)
theorem discRef_frame : Cert.quiescent_DiscRefIdeal := fun m ρ _ =>
  (θ_run _ _ _).mono (fun r h => ⟨fun c => (h c).2.2.2.2.2, sem_eq_zero_of_no_sems rfl r.2⟩) (Cert.DiscRefIdeal.Value.run m ρ)
theorem prepRef_frame : Cert.quiescent_PrepRefIdeal := fun m ρ _ =>
  (θ_run _ _ _).mono (fun r h => ⟨fun c => (h c).2.2.2.2.2.2, sem_eq_zero_of_no_sems rfl r.2⟩) (Cert.PrepRefIdeal.Value.run m ρ)

/-- The constants named in the attention's kernel stand for the words it has there. -/
theorem attn_preserves : Cert.preserves_Attn_AttnIdeal :=
  ⟨IdealRules.named_const.statement _ _ _ _ _ rfl, IdealRules.named_const.statement _ _ _ _ _ rfl⟩

theorem claim : Cert.Claim :=
  ⟨Cert.Head.Gen.facts, Cert.HeadIdeal.Gen.facts, Cert.HeadRefIdeal.Gen.facts,
    Cert.Attn.Gen.facts, Cert.AttnIdeal.Gen.facts, Cert.AttnRefIdeal.Gen.facts,
    Cert.FfnIn.Gen.facts, Cert.FfnInIdeal.Gen.facts, Cert.FfnInRefIdeal.Gen.facts,
    Cert.In.Gen.facts, Cert.InIdeal.Gen.facts, Cert.InRefIdeal.Gen.facts,
    Cert.FfnAct.Gen.facts, Cert.FfnActIdeal.Gen.facts, Cert.FfnActRefIdeal.Gen.facts,
    Cert.Disc.Gen.facts, Cert.DiscIdeal.Gen.facts, Cert.DiscRefIdeal.Gen.facts,
    Cert.Prep.Gen.facts, Cert.PrepIdeal.Gen.facts, Cert.PrepRefIdeal.Gen.facts,
    Cert.Pre_head_finite.Gen.facts, Cert.Pre_attn_pre.Gen.facts, Cert.Pre_ffn_in_finite.Gen.facts, Cert.Pre_in_finite.Gen.facts,
    Cert.Pre_ffn_act_finite.Gen.facts,
    Cert.Pre_prep_finite.Gen.facts,
    fun m ρ _ => Cert.Head.Gen.frame m ρ, fun m ρ _ => Cert.HeadIdeal.Gen.frame m ρ, fun m ρ _ => Cert.HeadIdeal.Gen.frame m ρ,
    headRef_frame, fun m ρ _ => headRef_frame m ρ trivial,
    fun m ρ _ => Cert.AttnBwd.frame_bits m ρ, fun m ρ _ => Cert.AttnBwd.frame m ρ, fun m ρ _ => Cert.AttnBwd.frame m ρ,
    attnRef_frame, fun m ρ _ => attnRef_frame m ρ trivial,
    fun m ρ _ => Cert.FfnIn.Gen.frame m ρ, fun m ρ _ => Cert.FfnInIdeal.Gen.frame m ρ, fun m ρ _ => Cert.FfnInIdeal.Gen.frame m ρ,
    ffnInRef_frame, fun m ρ _ => ffnInRef_frame m ρ trivial,
    fun m ρ _ => Cert.In.Gen.frame m ρ, fun m ρ _ => Cert.InIdeal.Gen.frame m ρ, fun m ρ _ => Cert.InIdeal.Gen.frame m ρ,
    inRef_frame, fun m ρ _ => inRef_frame m ρ trivial,
    fun m ρ _ => Cert.FfnAct.Gen.frame m ρ, fun m ρ _ => Cert.FfnActIdeal.Gen.frame m ρ, fun m ρ _ => Cert.FfnActIdeal.Gen.frame m ρ,
    ffnActRef_frame, fun m ρ _ => ffnActRef_frame m ρ trivial,
    fun m ρ _ => Cert.Disc.Gen.frame m ρ, fun m ρ _ => Cert.DiscIdeal.Gen.frame m ρ, discRef_frame,
    fun m ρ _ => Cert.Prep.Gen.frame m ρ, fun m ρ _ => Cert.PrepIdeal.Gen.frame m ρ, fun m ρ _ => Cert.PrepIdeal.Gen.frame m ρ,
    prepRef_frame, fun m ρ _ => prepRef_frame m ρ trivial,
    trivial, Cert.HeadValue.algebraic, attn_preserves, Cert.AttnValue.algebraic, trivial, Cert.FfnInValue.algebraic,
    trivial, Cert.InValue.algebraic,
    trivial, Cert.FfnActValue.algebraic,
    trivial, Cert.DiscValue.algebraic,
    trivial, Cert.PrepValue.algebraic⟩

end Cert.Proof

end
